-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite [hPre_finite : Cert.Pre_finite.Facts] (m : (ℓ : Loc Cert.LossIdeal.nD Cert.LossIdeal.τ Cert.LossIdeal.sig) → Buf (Elt Ideal) ℓ) : Prop :=
  ∀ c : Dev Cert.LossIdeal.nD,
    (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite [hPre_finite : Cert.Pre_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))).2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))).2.2 = (fun _ => 1#1)

def Pre_MatNorm (m : (ℓ : Loc Cert.MatNorm.nD Cert.MatNorm.τ Cert.MatNorm.sig) → Buf (Elt Bits) ℓ) : Prop :=
  True

def Pre_MatNormIdeal (m : (ℓ : Loc Cert.MatNormIdeal.nD Cert.MatNormIdeal.τ Cert.MatNormIdeal.sig) → Buf (Elt Ideal) ℓ) : Prop :=
  True

def Pre_MatNormIdeal_finite_matnorm [hPre_finite_matnorm : Cert.Pre_finite_matnorm.Facts] (m : (ℓ : Loc Cert.MatNormIdeal.nD Cert.MatNormIdeal.τ Cert.MatNormIdeal.sig) → Buf (Elt Ideal) ℓ) : Prop :=
  ∀ c : Dev Cert.MatNormIdeal.nD,
    (Cert.Pre_finite_matnorm.fn (F := Ideal) (m ((c.tc : Thread Cert.MatNormIdeal.nD Cert.MatNormIdeal.τ).loc Cert.MatNormIdeal.main_arg0)) (m ((c.tc : Thread Cert.MatNormIdeal.nD Cert.MatNormIdeal.τ).loc Cert.MatNormIdeal.main_arg1)) (m ((c.tc : Thread Cert.MatNormIdeal.nD Cert.MatNormIdeal.τ).loc Cert.MatNormIdeal.main_arg2)) (m ((c.tc : Thread Cert.MatNormIdeal.nD Cert.MatNormIdeal.τ).loc Cert.MatNormIdeal.main_arg3)) (m ((c.tc : Thread Cert.MatNormIdeal.nD Cert.MatNormIdeal.τ).loc Cert.MatNormIdeal.main_arg4))).1 = (fun _ => 1#1)
    ∧ (Cert.Pre_finite_matnorm.fn (F := Ideal) (m ((c.tc : Thread Cert.MatNormIdeal.nD Cert.MatNormIdeal.τ).loc Cert.MatNormIdeal.main_arg0)) (m ((c.tc : Thread Cert.MatNormIdeal.nD Cert.MatNormIdeal.τ).loc Cert.MatNormIdeal.main_arg1)) (m ((c.tc : Thread Cert.MatNormIdeal.nD Cert.MatNormIdeal.τ).loc Cert.MatNormIdeal.main_arg2)) (m ((c.tc : Thread Cert.MatNormIdeal.nD Cert.MatNormIdeal.τ).loc Cert.MatNormIdeal.main_arg3)) (m ((c.tc : Thread Cert.MatNormIdeal.nD Cert.MatNormIdeal.τ).loc Cert.MatNormIdeal.main_arg4))).2.1 = (fun _ => 1#1)
    ∧ (Cert.Pre_finite_matnorm.fn (F := Ideal) (m ((c.tc : Thread Cert.MatNormIdeal.nD Cert.MatNormIdeal.τ).loc Cert.MatNormIdeal.main_arg0)) (m ((c.tc : Thread Cert.MatNormIdeal.nD Cert.MatNormIdeal.τ).loc Cert.MatNormIdeal.main_arg1)) (m ((c.tc : Thread Cert.MatNormIdeal.nD Cert.MatNormIdeal.τ).loc Cert.MatNormIdeal.main_arg2)) (m ((c.tc : Thread Cert.MatNormIdeal.nD Cert.MatNormIdeal.τ).loc Cert.MatNormIdeal.main_arg3)) (m ((c.tc : Thread Cert.MatNormIdeal.nD Cert.MatNormIdeal.τ).loc Cert.MatNormIdeal.main_arg4))).2.2.1 = (fun _ => 1#1)
    ∧ (Cert.Pre_finite_matnorm.fn (F := Ideal) (m ((c.tc : Thread Cert.MatNormIdeal.nD Cert.MatNormIdeal.τ).loc Cert.MatNormIdeal.main_arg0)) (m ((c.tc : Thread Cert.MatNormIdeal.nD Cert.MatNormIdeal.τ).loc Cert.MatNormIdeal.main_arg1)) (m ((c.tc : Thread Cert.MatNormIdeal.nD Cert.MatNormIdeal.τ).loc Cert.MatNormIdeal.main_arg2)) (m ((c.tc : Thread Cert.MatNormIdeal.nD Cert.MatNormIdeal.τ).loc Cert.MatNormIdeal.main_arg3)) (m ((c.tc : Thread Cert.MatNormIdeal.nD Cert.MatNormIdeal.τ).loc Cert.MatNormIdeal.main_arg4))).2.2.2.1 = (fun _ => 1#1)
    ∧ (Cert.Pre_finite_matnorm.fn (F := Ideal) (m ((c.tc : Thread Cert.MatNormIdeal.nD Cert.MatNormIdeal.τ).loc Cert.MatNormIdeal.main_arg0)) (m ((c.tc : Thread Cert.MatNormIdeal.nD Cert.MatNormIdeal.τ).loc Cert.MatNormIdeal.main_arg1)) (m ((c.tc : Thread Cert.MatNormIdeal.nD Cert.MatNormIdeal.τ).loc Cert.MatNormIdeal.main_arg2)) (m ((c.tc : Thread Cert.MatNormIdeal.nD Cert.MatNormIdeal.τ).loc Cert.MatNormIdeal.main_arg3)) (m ((c.tc : Thread Cert.MatNormIdeal.nD Cert.MatNormIdeal.τ).loc Cert.MatNormIdeal.main_arg4))).2.2.2.2 = (fun _ => 1#1)

def Pre_MatNormRefIdeal (m : (ℓ : Loc Cert.MatNormRefIdeal.nD Cert.MatNormRefIdeal.τ Cert.MatNormRefIdeal.sig) → Buf (Elt Ideal) ℓ) : Prop :=
  True

def Pre_MatNormRefIdeal_finite_matnorm [hPre_finite_matnorm : Cert.Pre_finite_matnorm.Facts] (m : (ℓ : Loc Cert.MatNormRefIdeal.nD Cert.MatNormRefIdeal.τ Cert.MatNormRefIdeal.sig) → Buf (Elt Ideal) ℓ) : Prop :=
  ∀ c : Dev Cert.MatNormRefIdeal.nD,
    (Cert.Pre_finite_matnorm.fn (F := Ideal) (m ((c.tc : Thread Cert.MatNormRefIdeal.nD Cert.MatNormRefIdeal.τ).loc Cert.MatNormRefIdeal.main_arg0)) (m ((c.tc : Thread Cert.MatNormRefIdeal.nD Cert.MatNormRefIdeal.τ).loc Cert.MatNormRefIdeal.main_arg1)) (m ((c.tc : Thread Cert.MatNormRefIdeal.nD Cert.MatNormRefIdeal.τ).loc Cert.MatNormRefIdeal.main_arg2)) (m ((c.tc : Thread Cert.MatNormRefIdeal.nD Cert.MatNormRefIdeal.τ).loc Cert.MatNormRefIdeal.main_arg3)) (m ((c.tc : Thread Cert.MatNormRefIdeal.nD Cert.MatNormRefIdeal.τ).loc Cert.MatNormRefIdeal.main_arg4))).1 = (fun _ => 1#1)
    ∧ (Cert.Pre_finite_matnorm.fn (F := Ideal) (m ((c.tc : Thread Cert.MatNormRefIdeal.nD Cert.MatNormRefIdeal.τ).loc Cert.MatNormRefIdeal.main_arg0)) (m ((c.tc : Thread Cert.MatNormRefIdeal.nD Cert.MatNormRefIdeal.τ).loc Cert.MatNormRefIdeal.main_arg1)) (m ((c.tc : Thread Cert.MatNormRefIdeal.nD Cert.MatNormRefIdeal.τ).loc Cert.MatNormRefIdeal.main_arg2)) (m ((c.tc : Thread Cert.MatNormRefIdeal.nD Cert.MatNormRefIdeal.τ).loc Cert.MatNormRefIdeal.main_arg3)) (m ((c.tc : Thread Cert.MatNormRefIdeal.nD Cert.MatNormRefIdeal.τ).loc Cert.MatNormRefIdeal.main_arg4))).2.1 = (fun _ => 1#1)
    ∧ (Cert.Pre_finite_matnorm.fn (F := Ideal) (m ((c.tc : Thread Cert.MatNormRefIdeal.nD Cert.MatNormRefIdeal.τ).loc Cert.MatNormRefIdeal.main_arg0)) (m ((c.tc : Thread Cert.MatNormRefIdeal.nD Cert.MatNormRefIdeal.τ).loc Cert.MatNormRefIdeal.main_arg1)) (m ((c.tc : Thread Cert.MatNormRefIdeal.nD Cert.MatNormRefIdeal.τ).loc Cert.MatNormRefIdeal.main_arg2)) (m ((c.tc : Thread Cert.MatNormRefIdeal.nD Cert.MatNormRefIdeal.τ).loc Cert.MatNormRefIdeal.main_arg3)) (m ((c.tc : Thread Cert.MatNormRefIdeal.nD Cert.MatNormRefIdeal.τ).loc Cert.MatNormRefIdeal.main_arg4))).2.2.1 = (fun _ => 1#1)
    ∧ (Cert.Pre_finite_matnorm.fn (F := Ideal) (m ((c.tc : Thread Cert.MatNormRefIdeal.nD Cert.MatNormRefIdeal.τ).loc Cert.MatNormRefIdeal.main_arg0)) (m ((c.tc : Thread Cert.MatNormRefIdeal.nD Cert.MatNormRefIdeal.τ).loc Cert.MatNormRefIdeal.main_arg1)) (m ((c.tc : Thread Cert.MatNormRefIdeal.nD Cert.MatNormRefIdeal.τ).loc Cert.MatNormRefIdeal.main_arg2)) (m ((c.tc : Thread Cert.MatNormRefIdeal.nD Cert.MatNormRefIdeal.τ).loc Cert.MatNormRefIdeal.main_arg3)) (m ((c.tc : Thread Cert.MatNormRefIdeal.nD Cert.MatNormRefIdeal.τ).loc Cert.MatNormRefIdeal.main_arg4))).2.2.2.1 = (fun _ => 1#1)
    ∧ (Cert.Pre_finite_matnorm.fn (F := Ideal) (m ((c.tc : Thread Cert.MatNormRefIdeal.nD Cert.MatNormRefIdeal.τ).loc Cert.MatNormRefIdeal.main_arg0)) (m ((c.tc : Thread Cert.MatNormRefIdeal.nD Cert.MatNormRefIdeal.τ).loc Cert.MatNormRefIdeal.main_arg1)) (m ((c.tc : Thread Cert.MatNormRefIdeal.nD Cert.MatNormRefIdeal.τ).loc Cert.MatNormRefIdeal.main_arg2)) (m ((c.tc : Thread Cert.MatNormRefIdeal.nD Cert.MatNormRefIdeal.τ).loc Cert.MatNormRefIdeal.main_arg3)) (m ((c.tc : Thread Cert.MatNormRefIdeal.nD Cert.MatNormRefIdeal.τ).loc Cert.MatNormRefIdeal.main_arg4))).2.2.2.2 = (fun _ => 1#1)

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_qkvc [hPre_finite_qkvc : Cert.Pre_finite_qkvc.Facts] (m : (ℓ : Loc Cert.FlashIdeal.nD Cert.FlashIdeal.τ Cert.FlashIdeal.sig) → Buf (Elt Ideal) ℓ) : Prop :=
  ∀ c : Dev Cert.FlashIdeal.nD,
    (Cert.Pre_finite_qkvc.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_finite_qkvc.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_finite_qkvc.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_finite_qkvc.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_qkvc [hPre_finite_qkvc : Cert.Pre_finite_qkvc.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_qkvc.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_finite_qkvc.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_finite_qkvc.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_finite_qkvc.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qkv [hPre_finite_qkv : Cert.Pre_finite_qkv.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qkv [hPre_finite_qkv : Cert.Pre_finite_qkv.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qkv.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_qkv.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.1 = (fun _ => 1#1)
    ∧ (Cert.Pre_finite_qkv.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.2 = (fun _ => 1#1)

def Pre_Halo (m : (ℓ : Loc Cert.Halo.nD Cert.Halo.τ Cert.Halo.sig) → Buf (Elt Bits) ℓ) : Prop :=
  True

def Pre_HaloIdeal (m : (ℓ : Loc Cert.HaloIdeal.nD Cert.HaloIdeal.τ Cert.HaloIdeal.sig) → Buf (Elt Ideal) ℓ) : Prop :=
  True

def Pre_HaloRefIdeal (m : (ℓ : Loc Cert.HaloRefIdeal.nD Cert.HaloRefIdeal.τ Cert.HaloRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_QFwd (m : (ℓ : Loc Cert.QFwd.nD Cert.QFwd.τ Cert.QFwd.sig) → Buf (Elt Bits) ℓ) : Prop :=
  True

def Pre_QFwdIdeal (m : (ℓ : Loc Cert.QFwdIdeal.nD Cert.QFwdIdeal.τ Cert.QFwdIdeal.sig) → Buf (Elt Ideal) ℓ) : Prop :=
  True

def Pre_QFwdRefIdeal (m : (ℓ : Loc Cert.QFwdRefIdeal.nD Cert.QFwdRefIdeal.τ Cert.QFwdRefIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_ReluFwd (m : (ℓ : Loc Cert.ReluFwd.nD Cert.ReluFwd.τ Cert.ReluFwd.sig) → Buf (Elt Bits) ℓ) : Prop :=
  True

def Pre_ReluFwdIdeal (m : (ℓ : Loc Cert.ReluFwdIdeal.nD Cert.ReluFwdIdeal.τ Cert.ReluFwdIdeal.sig) → Buf (Elt Ideal) ℓ) : Prop :=
  True

def Pre_ReluFwdRefIdeal (m : (ℓ : Loc Cert.ReluFwdRefIdeal.nD Cert.ReluFwdRefIdeal.τ Cert.ReluFwdRefIdeal.sig) → Buf (Elt Ideal) ℓ) : Prop :=
  True

def Pre_OFwd (m : (ℓ : Loc Cert.OFwd.nD Cert.OFwd.τ Cert.OFwd.sig) → Buf (Elt Bits) ℓ) : Prop :=
  True

def Pre_OFwdIdeal (m : (ℓ : Loc Cert.OFwdIdeal.nD Cert.OFwdIdeal.τ Cert.OFwdIdeal.sig) → Buf (Elt Ideal) ℓ) : Prop :=
  True

def Pre_OFwdRefIdeal (m : (ℓ : Loc Cert.OFwdRefIdeal.nD Cert.OFwdRefIdeal.τ Cert.OFwdRefIdeal.sig) → Buf (Elt Ideal) ℓ) : Prop :=
  True

def Pre_AddFwd (m : (ℓ : Loc Cert.AddFwd.nD Cert.AddFwd.τ Cert.AddFwd.sig) → Buf (Elt Bits) ℓ) : Prop :=
  True

def Pre_AddFwdIdeal (m : (ℓ : Loc Cert.AddFwdIdeal.nD Cert.AddFwdIdeal.τ Cert.AddFwdIdeal.sig) → Buf (Elt Ideal) ℓ) : Prop :=
  True

def Pre_AddFwdRefIdeal (m : (ℓ : Loc Cert.AddFwdRefIdeal.nD Cert.AddFwdRefIdeal.τ Cert.AddFwdRefIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvIdeal_finite_normkv [hPre_finite_normkv : Cert.Pre_finite_normkv.Facts] (m : (ℓ : Loc Cert.NormKvIdeal.nD Cert.NormKvIdeal.τ Cert.NormKvIdeal.sig) → Buf (Elt Ideal) ℓ) : Prop :=
  ∀ c : Dev Cert.NormKvIdeal.nD,
    (Cert.Pre_finite_normkv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2))).1 = (fun _ => 1#1)
    ∧ (Cert.Pre_finite_normkv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2))).2.1 = (fun _ => 1#1)
    ∧ (Cert.Pre_finite_normkv.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2))).2.2 = (fun _ => 1#1)

def Pre_NormKvRefIdeal (m : (ℓ : Loc Cert.NormKvRefIdeal.nD Cert.NormKvRefIdeal.τ Cert.NormKvRefIdeal.sig) → Buf (Elt Ideal) ℓ) : Prop :=
  True

def Pre_NormKvRefIdeal_finite_normkv [hPre_finite_normkv : Cert.Pre_finite_normkv.Facts] (m : (ℓ : Loc Cert.NormKvRefIdeal.nD Cert.NormKvRefIdeal.τ Cert.NormKvRefIdeal.sig) → Buf (Elt Ideal) ℓ) : Prop :=
  ∀ c : Dev Cert.NormKvRefIdeal.nD,
    (Cert.Pre_finite_normkv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2))).1 = (fun _ => 1#1)
    ∧ (Cert.Pre_finite_normkv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2))).2.1 = (fun _ => 1#1)
    ∧ (Cert.Pre_finite_normkv.fn (F := Ideal) (m ((c.tc : Thread Cert.NormKvRefIdeal.nD Cert.NormKvRefIdeal.τ).loc Cert.NormKvRefIdeal.main_arg0)) (m ((c.tc : Thread Cert.NormKvRefIdeal.nD Cert.NormKvRefIdeal.τ).loc Cert.NormKvRefIdeal.main_arg1)) (m ((c.tc : Thread Cert.NormKvRefIdeal.nD Cert.NormKvRefIdeal.τ).loc Cert.NormKvRefIdeal.main_arg2))).2.2 = (fun _ => 1#1)

def Pre_MatNormDown (m : (ℓ : Loc Cert.MatNormDown.nD Cert.MatNormDown.τ Cert.MatNormDown.sig) → Buf (Elt Bits) ℓ) : Prop :=
  True

def Pre_MatNormDownIdeal (m : (ℓ : Loc Cert.MatNormDownIdeal.nD Cert.MatNormDownIdeal.τ Cert.MatNormDownIdeal.sig) → Buf (Elt Ideal) ℓ) : Prop :=
  True

def Pre_MatNormDownIdeal_finite_matnormdown [hPre_finite_matnormdown : Cert.Pre_finite_matnormdown.Facts] (m : (ℓ : Loc Cert.MatNormDownIdeal.nD Cert.MatNormDownIdeal.τ Cert.MatNormDownIdeal.sig) → Buf (Elt Ideal) ℓ) : Prop :=
  ∀ c : Dev Cert.MatNormDownIdeal.nD,
    (Cert.Pre_finite_matnormdown.fn (F := Ideal) (m ((c.tc : Thread Cert.MatNormDownIdeal.nD Cert.MatNormDownIdeal.τ).loc Cert.MatNormDownIdeal.main_arg0)) (m ((c.tc : Thread Cert.MatNormDownIdeal.nD Cert.MatNormDownIdeal.τ).loc Cert.MatNormDownIdeal.main_arg1)) (m ((c.tc : Thread Cert.MatNormDownIdeal.nD Cert.MatNormDownIdeal.τ).loc Cert.MatNormDownIdeal.main_arg2)) (m ((c.tc : Thread Cert.MatNormDownIdeal.nD Cert.MatNormDownIdeal.τ).loc Cert.MatNormDownIdeal.main_arg3)) (m ((c.tc : Thread Cert.MatNormDownIdeal.nD Cert.MatNormDownIdeal.τ).loc Cert.MatNormDownIdeal.main_arg4))).1 = (fun _ => 1#1)
    ∧ (Cert.Pre_finite_matnormdown.fn (F := Ideal) (m ((c.tc : Thread Cert.MatNormDownIdeal.nD Cert.MatNormDownIdeal.τ).loc Cert.MatNormDownIdeal.main_arg0)) (m ((c.tc : Thread Cert.MatNormDownIdeal.nD Cert.MatNormDownIdeal.τ).loc Cert.MatNormDownIdeal.main_arg1)) (m ((c.tc : Thread Cert.MatNormDownIdeal.nD Cert.MatNormDownIdeal.τ).loc Cert.MatNormDownIdeal.main_arg2)) (m ((c.tc : Thread Cert.MatNormDownIdeal.nD Cert.MatNormDownIdeal.τ).loc Cert.MatNormDownIdeal.main_arg3)) (m ((c.tc : Thread Cert.MatNormDownIdeal.nD Cert.MatNormDownIdeal.τ).loc Cert.MatNormDownIdeal.main_arg4))).2.1 = (fun _ => 1#1)
    ∧ (Cert.Pre_finite_matnormdown.fn (F := Ideal) (m ((c.tc : Thread Cert.MatNormDownIdeal.nD Cert.MatNormDownIdeal.τ).loc Cert.MatNormDownIdeal.main_arg0)) (m ((c.tc : Thread Cert.MatNormDownIdeal.nD Cert.MatNormDownIdeal.τ).loc Cert.MatNormDownIdeal.main_arg1)) (m ((c.tc : Thread Cert.MatNormDownIdeal.nD Cert.MatNormDownIdeal.τ).loc Cert.MatNormDownIdeal.main_arg2)) (m ((c.tc : Thread Cert.MatNormDownIdeal.nD Cert.MatNormDownIdeal.τ).loc Cert.MatNormDownIdeal.main_arg3)) (m ((c.tc : Thread Cert.MatNormDownIdeal.nD Cert.MatNormDownIdeal.τ).loc Cert.MatNormDownIdeal.main_arg4))).2.2.1 = (fun _ => 1#1)
    ∧ (Cert.Pre_finite_matnormdown.fn (F := Ideal) (m ((c.tc : Thread Cert.MatNormDownIdeal.nD Cert.MatNormDownIdeal.τ).loc Cert.MatNormDownIdeal.main_arg0)) (m ((c.tc : Thread Cert.MatNormDownIdeal.nD Cert.MatNormDownIdeal.τ).loc Cert.MatNormDownIdeal.main_arg1)) (m ((c.tc : Thread Cert.MatNormDownIdeal.nD Cert.MatNormDownIdeal.τ).loc Cert.MatNormDownIdeal.main_arg2)) (m ((c.tc : Thread Cert.MatNormDownIdeal.nD Cert.MatNormDownIdeal.τ).loc Cert.MatNormDownIdeal.main_arg3)) (m ((c.tc : Thread Cert.MatNormDownIdeal.nD Cert.MatNormDownIdeal.τ).loc Cert.MatNormDownIdeal.main_arg4))).2.2.2.1 = (fun _ => 1#1)
    ∧ (Cert.Pre_finite_matnormdown.fn (F := Ideal) (m ((c.tc : Thread Cert.MatNormDownIdeal.nD Cert.MatNormDownIdeal.τ).loc Cert.MatNormDownIdeal.main_arg0)) (m ((c.tc : Thread Cert.MatNormDownIdeal.nD Cert.MatNormDownIdeal.τ).loc Cert.MatNormDownIdeal.main_arg1)) (m ((c.tc : Thread Cert.MatNormDownIdeal.nD Cert.MatNormDownIdeal.τ).loc Cert.MatNormDownIdeal.main_arg2)) (m ((c.tc : Thread Cert.MatNormDownIdeal.nD Cert.MatNormDownIdeal.τ).loc Cert.MatNormDownIdeal.main_arg3)) (m ((c.tc : Thread Cert.MatNormDownIdeal.nD Cert.MatNormDownIdeal.τ).loc Cert.MatNormDownIdeal.main_arg4))).2.2.2.2 = (fun _ => 1#1)

def Pre_MatNormDownRefIdeal (m : (ℓ : Loc Cert.MatNormDownRefIdeal.nD Cert.MatNormDownRefIdeal.τ Cert.MatNormDownRefIdeal.sig) → Buf (Elt Ideal) ℓ) : Prop :=
  True

def Pre_MatNormDownRefIdeal_finite_matnormdown [hPre_finite_matnormdown : Cert.Pre_finite_matnormdown.Facts] (m : (ℓ : Loc Cert.MatNormDownRefIdeal.nD Cert.MatNormDownRefIdeal.τ Cert.MatNormDownRefIdeal.sig) → Buf (Elt Ideal) ℓ) : Prop :=
  ∀ c : Dev Cert.MatNormDownRefIdeal.nD,
    (Cert.Pre_finite_matnormdown.fn (F := Ideal) (m ((c.tc : Thread Cert.MatNormDownRefIdeal.nD Cert.MatNormDownRefIdeal.τ).loc Cert.MatNormDownRefIdeal.main_arg0)) (m ((c.tc : Thread Cert.MatNormDownRefIdeal.nD Cert.MatNormDownRefIdeal.τ).loc Cert.MatNormDownRefIdeal.main_arg1)) (m ((c.tc : Thread Cert.MatNormDownRefIdeal.nD Cert.MatNormDownRefIdeal.τ).loc Cert.MatNormDownRefIdeal.main_arg2)) (m ((c.tc : Thread Cert.MatNormDownRefIdeal.nD Cert.MatNormDownRefIdeal.τ).loc Cert.MatNormDownRefIdeal.main_arg3)) (m ((c.tc : Thread Cert.MatNormDownRefIdeal.nD Cert.MatNormDownRefIdeal.τ).loc Cert.MatNormDownRefIdeal.main_arg4))).1 = (fun _ => 1#1)
    ∧ (Cert.Pre_finite_matnormdown.fn (F := Ideal) (m ((c.tc : Thread Cert.MatNormDownRefIdeal.nD Cert.MatNormDownRefIdeal.τ).loc Cert.MatNormDownRefIdeal.main_arg0)) (m ((c.tc : Thread Cert.MatNormDownRefIdeal.nD Cert.MatNormDownRefIdeal.τ).loc Cert.MatNormDownRefIdeal.main_arg1)) (m ((c.tc : Thread Cert.MatNormDownRefIdeal.nD Cert.MatNormDownRefIdeal.τ).loc Cert.MatNormDownRefIdeal.main_arg2)) (m ((c.tc : Thread Cert.MatNormDownRefIdeal.nD Cert.MatNormDownRefIdeal.τ).loc Cert.MatNormDownRefIdeal.main_arg3)) (m ((c.tc : Thread Cert.MatNormDownRefIdeal.nD Cert.MatNormDownRefIdeal.τ).loc Cert.MatNormDownRefIdeal.main_arg4))).2.1 = (fun _ => 1#1)
    ∧ (Cert.Pre_finite_matnormdown.fn (F := Ideal) (m ((c.tc : Thread Cert.MatNormDownRefIdeal.nD Cert.MatNormDownRefIdeal.τ).loc Cert.MatNormDownRefIdeal.main_arg0)) (m ((c.tc : Thread Cert.MatNormDownRefIdeal.nD Cert.MatNormDownRefIdeal.τ).loc Cert.MatNormDownRefIdeal.main_arg1)) (m ((c.tc : Thread Cert.MatNormDownRefIdeal.nD Cert.MatNormDownRefIdeal.τ).loc Cert.MatNormDownRefIdeal.main_arg2)) (m ((c.tc : Thread Cert.MatNormDownRefIdeal.nD Cert.MatNormDownRefIdeal.τ).loc Cert.MatNormDownRefIdeal.main_arg3)) (m ((c.tc : Thread Cert.MatNormDownRefIdeal.nD Cert.MatNormDownRefIdeal.τ).loc Cert.MatNormDownRefIdeal.main_arg4))).2.2.1 = (fun _ => 1#1)
    ∧ (Cert.Pre_finite_matnormdown.fn (F := Ideal) (m ((c.tc : Thread Cert.MatNormDownRefIdeal.nD Cert.MatNormDownRefIdeal.τ).loc Cert.MatNormDownRefIdeal.main_arg0)) (m ((c.tc : Thread Cert.MatNormDownRefIdeal.nD Cert.MatNormDownRefIdeal.τ).loc Cert.MatNormDownRefIdeal.main_arg1)) (m ((c.tc : Thread Cert.MatNormDownRefIdeal.nD Cert.MatNormDownRefIdeal.τ).loc Cert.MatNormDownRefIdeal.main_arg2)) (m ((c.tc : Thread Cert.MatNormDownRefIdeal.nD Cert.MatNormDownRefIdeal.τ).loc Cert.MatNormDownRefIdeal.main_arg3)) (m ((c.tc : Thread Cert.MatNormDownRefIdeal.nD Cert.MatNormDownRefIdeal.τ).loc Cert.MatNormDownRefIdeal.main_arg4))).2.2.2.1 = (fun _ => 1#1)
    ∧ (Cert.Pre_finite_matnormdown.fn (F := Ideal) (m ((c.tc : Thread Cert.MatNormDownRefIdeal.nD Cert.MatNormDownRefIdeal.τ).loc Cert.MatNormDownRefIdeal.main_arg0)) (m ((c.tc : Thread Cert.MatNormDownRefIdeal.nD Cert.MatNormDownRefIdeal.τ).loc Cert.MatNormDownRefIdeal.main_arg1)) (m ((c.tc : Thread Cert.MatNormDownRefIdeal.nD Cert.MatNormDownRefIdeal.τ).loc Cert.MatNormDownRefIdeal.main_arg2)) (m ((c.tc : Thread Cert.MatNormDownRefIdeal.nD Cert.MatNormDownRefIdeal.τ).loc Cert.MatNormDownRefIdeal.main_arg3)) (m ((c.tc : Thread Cert.MatNormDownRefIdeal.nD Cert.MatNormDownRefIdeal.τ).loc Cert.MatNormDownRefIdeal.main_arg4))).2.2.2.2 = (fun _ => 1#1)

def Pre_MatNormIn (m : (ℓ : Loc Cert.MatNormIn.nD Cert.MatNormIn.τ Cert.MatNormIn.sig) → Buf (Elt Bits) ℓ) : Prop :=
  True

def Pre_MatNormInIdeal (m : (ℓ : Loc Cert.MatNormInIdeal.nD Cert.MatNormInIdeal.τ Cert.MatNormInIdeal.sig) → Buf (Elt Ideal) ℓ) : Prop :=
  True

def Pre_MatNormInIdeal_finite_matnormin [hPre_finite_matnormin : Cert.Pre_finite_matnormin.Facts] (m : (ℓ : Loc Cert.MatNormInIdeal.nD Cert.MatNormInIdeal.τ Cert.MatNormInIdeal.sig) → Buf (Elt Ideal) ℓ) : Prop :=
  ∀ c : Dev Cert.MatNormInIdeal.nD,
    (Cert.Pre_finite_matnormin.fn (F := Ideal) (m ((c.tc : Thread Cert.MatNormInIdeal.nD Cert.MatNormInIdeal.τ).loc Cert.MatNormInIdeal.main_arg0)) (m ((c.tc : Thread Cert.MatNormInIdeal.nD Cert.MatNormInIdeal.τ).loc Cert.MatNormInIdeal.main_arg1)) (m ((c.tc : Thread Cert.MatNormInIdeal.nD Cert.MatNormInIdeal.τ).loc Cert.MatNormInIdeal.main_arg2)) (m ((c.tc : Thread Cert.MatNormInIdeal.nD Cert.MatNormInIdeal.τ).loc Cert.MatNormInIdeal.main_arg3)) (m ((c.tc : Thread Cert.MatNormInIdeal.nD Cert.MatNormInIdeal.τ).loc Cert.MatNormInIdeal.main_arg4))).1 = (fun _ => 1#1)
    ∧ (Cert.Pre_finite_matnormin.fn (F := Ideal) (m ((c.tc : Thread Cert.MatNormInIdeal.nD Cert.MatNormInIdeal.τ).loc Cert.MatNormInIdeal.main_arg0)) (m ((c.tc : Thread Cert.MatNormInIdeal.nD Cert.MatNormInIdeal.τ).loc Cert.MatNormInIdeal.main_arg1)) (m ((c.tc : Thread Cert.MatNormInIdeal.nD Cert.MatNormInIdeal.τ).loc Cert.MatNormInIdeal.main_arg2)) (m ((c.tc : Thread Cert.MatNormInIdeal.nD Cert.MatNormInIdeal.τ).loc Cert.MatNormInIdeal.main_arg3)) (m ((c.tc : Thread Cert.MatNormInIdeal.nD Cert.MatNormInIdeal.τ).loc Cert.MatNormInIdeal.main_arg4))).2.1 = (fun _ => 1#1)
    ∧ (Cert.Pre_finite_matnormin.fn (F := Ideal) (m ((c.tc : Thread Cert.MatNormInIdeal.nD Cert.MatNormInIdeal.τ).loc Cert.MatNormInIdeal.main_arg0)) (m ((c.tc : Thread Cert.MatNormInIdeal.nD Cert.MatNormInIdeal.τ).loc Cert.MatNormInIdeal.main_arg1)) (m ((c.tc : Thread Cert.MatNormInIdeal.nD Cert.MatNormInIdeal.τ).loc Cert.MatNormInIdeal.main_arg2)) (m ((c.tc : Thread Cert.MatNormInIdeal.nD Cert.MatNormInIdeal.τ).loc Cert.MatNormInIdeal.main_arg3)) (m ((c.tc : Thread Cert.MatNormInIdeal.nD Cert.MatNormInIdeal.τ).loc Cert.MatNormInIdeal.main_arg4))).2.2.1 = (fun _ => 1#1)
    ∧ (Cert.Pre_finite_matnormin.fn (F := Ideal) (m ((c.tc : Thread Cert.MatNormInIdeal.nD Cert.MatNormInIdeal.τ).loc Cert.MatNormInIdeal.main_arg0)) (m ((c.tc : Thread Cert.MatNormInIdeal.nD Cert.MatNormInIdeal.τ).loc Cert.MatNormInIdeal.main_arg1)) (m ((c.tc : Thread Cert.MatNormInIdeal.nD Cert.MatNormInIdeal.τ).loc Cert.MatNormInIdeal.main_arg2)) (m ((c.tc : Thread Cert.MatNormInIdeal.nD Cert.MatNormInIdeal.τ).loc Cert.MatNormInIdeal.main_arg3)) (m ((c.tc : Thread Cert.MatNormInIdeal.nD Cert.MatNormInIdeal.τ).loc Cert.MatNormInIdeal.main_arg4))).2.2.2.1 = (fun _ => 1#1)
    ∧ (Cert.Pre_finite_matnormin.fn (F := Ideal) (m ((c.tc : Thread Cert.MatNormInIdeal.nD Cert.MatNormInIdeal.τ).loc Cert.MatNormInIdeal.main_arg0)) (m ((c.tc : Thread Cert.MatNormInIdeal.nD Cert.MatNormInIdeal.τ).loc Cert.MatNormInIdeal.main_arg1)) (m ((c.tc : Thread Cert.MatNormInIdeal.nD Cert.MatNormInIdeal.τ).loc Cert.MatNormInIdeal.main_arg2)) (m ((c.tc : Thread Cert.MatNormInIdeal.nD Cert.MatNormInIdeal.τ).loc Cert.MatNormInIdeal.main_arg3)) (m ((c.tc : Thread Cert.MatNormInIdeal.nD Cert.MatNormInIdeal.τ).loc Cert.MatNormInIdeal.main_arg4))).2.2.2.2 = (fun _ => 1#1)

def Pre_MatNormInRefIdeal (m : (ℓ : Loc Cert.MatNormInRefIdeal.nD Cert.MatNormInRefIdeal.τ Cert.MatNormInRefIdeal.sig) → Buf (Elt Ideal) ℓ) : Prop :=
  True

def Pre_MatNormInRefIdeal_finite_matnormin [hPre_finite_matnormin : Cert.Pre_finite_matnormin.Facts] (m : (ℓ : Loc Cert.MatNormInRefIdeal.nD Cert.MatNormInRefIdeal.τ Cert.MatNormInRefIdeal.sig) → Buf (Elt Ideal) ℓ) : Prop :=
  ∀ c : Dev Cert.MatNormInRefIdeal.nD,
    (Cert.Pre_finite_matnormin.fn (F := Ideal) (m ((c.tc : Thread Cert.MatNormInRefIdeal.nD Cert.MatNormInRefIdeal.τ).loc Cert.MatNormInRefIdeal.main_arg0)) (m ((c.tc : Thread Cert.MatNormInRefIdeal.nD Cert.MatNormInRefIdeal.τ).loc Cert.MatNormInRefIdeal.main_arg1)) (m ((c.tc : Thread Cert.MatNormInRefIdeal.nD Cert.MatNormInRefIdeal.τ).loc Cert.MatNormInRefIdeal.main_arg2)) (m ((c.tc : Thread Cert.MatNormInRefIdeal.nD Cert.MatNormInRefIdeal.τ).loc Cert.MatNormInRefIdeal.main_arg3)) (m ((c.tc : Thread Cert.MatNormInRefIdeal.nD Cert.MatNormInRefIdeal.τ).loc Cert.MatNormInRefIdeal.main_arg4))).1 = (fun _ => 1#1)
    ∧ (Cert.Pre_finite_matnormin.fn (F := Ideal) (m ((c.tc : Thread Cert.MatNormInRefIdeal.nD Cert.MatNormInRefIdeal.τ).loc Cert.MatNormInRefIdeal.main_arg0)) (m ((c.tc : Thread Cert.MatNormInRefIdeal.nD Cert.MatNormInRefIdeal.τ).loc Cert.MatNormInRefIdeal.main_arg1)) (m ((c.tc : Thread Cert.MatNormInRefIdeal.nD Cert.MatNormInRefIdeal.τ).loc Cert.MatNormInRefIdeal.main_arg2)) (m ((c.tc : Thread Cert.MatNormInRefIdeal.nD Cert.MatNormInRefIdeal.τ).loc Cert.MatNormInRefIdeal.main_arg3)) (m ((c.tc : Thread Cert.MatNormInRefIdeal.nD Cert.MatNormInRefIdeal.τ).loc Cert.MatNormInRefIdeal.main_arg4))).2.1 = (fun _ => 1#1)
    ∧ (Cert.Pre_finite_matnormin.fn (F := Ideal) (m ((c.tc : Thread Cert.MatNormInRefIdeal.nD Cert.MatNormInRefIdeal.τ).loc Cert.MatNormInRefIdeal.main_arg0)) (m ((c.tc : Thread Cert.MatNormInRefIdeal.nD Cert.MatNormInRefIdeal.τ).loc Cert.MatNormInRefIdeal.main_arg1)) (m ((c.tc : Thread Cert.MatNormInRefIdeal.nD Cert.MatNormInRefIdeal.τ).loc Cert.MatNormInRefIdeal.main_arg2)) (m ((c.tc : Thread Cert.MatNormInRefIdeal.nD Cert.MatNormInRefIdeal.τ).loc Cert.MatNormInRefIdeal.main_arg3)) (m ((c.tc : Thread Cert.MatNormInRefIdeal.nD Cert.MatNormInRefIdeal.τ).loc Cert.MatNormInRefIdeal.main_arg4))).2.2.1 = (fun _ => 1#1)
    ∧ (Cert.Pre_finite_matnormin.fn (F := Ideal) (m ((c.tc : Thread Cert.MatNormInRefIdeal.nD Cert.MatNormInRefIdeal.τ).loc Cert.MatNormInRefIdeal.main_arg0)) (m ((c.tc : Thread Cert.MatNormInRefIdeal.nD Cert.MatNormInRefIdeal.τ).loc Cert.MatNormInRefIdeal.main_arg1)) (m ((c.tc : Thread Cert.MatNormInRefIdeal.nD Cert.MatNormInRefIdeal.τ).loc Cert.MatNormInRefIdeal.main_arg2)) (m ((c.tc : Thread Cert.MatNormInRefIdeal.nD Cert.MatNormInRefIdeal.τ).loc Cert.MatNormInRefIdeal.main_arg3)) (m ((c.tc : Thread Cert.MatNormInRefIdeal.nD Cert.MatNormInRefIdeal.τ).loc Cert.MatNormInRefIdeal.main_arg4))).2.2.2.1 = (fun _ => 1#1)
    ∧ (Cert.Pre_finite_matnormin.fn (F := Ideal) (m ((c.tc : Thread Cert.MatNormInRefIdeal.nD Cert.MatNormInRefIdeal.τ).loc Cert.MatNormInRefIdeal.main_arg0)) (m ((c.tc : Thread Cert.MatNormInRefIdeal.nD Cert.MatNormInRefIdeal.τ).loc Cert.MatNormInRefIdeal.main_arg1)) (m ((c.tc : Thread Cert.MatNormInRefIdeal.nD Cert.MatNormInRefIdeal.τ).loc Cert.MatNormInRefIdeal.main_arg2)) (m ((c.tc : Thread Cert.MatNormInRefIdeal.nD Cert.MatNormInRefIdeal.τ).loc Cert.MatNormInRefIdeal.main_arg3)) (m ((c.tc : Thread Cert.MatNormInRefIdeal.nD Cert.MatNormInRefIdeal.τ).loc Cert.MatNormInRefIdeal.main_arg4))).2.2.2.2 = (fun _ => 1#1)

def Pre_BandFwd (m : (ℓ : Loc Cert.BandFwd.nD Cert.BandFwd.τ Cert.BandFwd.sig) → Buf (Elt Bits) ℓ) : Prop :=
  True

def Pre_BandFwdIdeal (m : (ℓ : Loc Cert.BandFwdIdeal.nD Cert.BandFwdIdeal.τ Cert.BandFwdIdeal.sig) → Buf (Elt Ideal) ℓ) : Prop :=
  True

def Pre_BandFwdRefIdeal (m : (ℓ : Loc Cert.BandFwdRefIdeal.nD Cert.BandFwdRefIdeal.τ Cert.BandFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite [hLossIdeal : Cert.LossIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite [hLossRefIdeal : Cert.LossRefIdeal.Facts] [hPre_finite : Cert.Pre_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_MatNorm [hMatNorm : Cert.MatNorm.Facts] : Prop :=
  ∀ (m : (ℓ : Loc Cert.MatNorm.nD Cert.MatNorm.τ Cert.MatNorm.sig) → Buf (Elt Bits) ℓ) (g : Dev Cert.MatNorm.nD → PrngReg), Pre_MatNorm m →
    θ_run (Cert.MatNorm.defs (F := Bits)) (onTc (τ := Cert.MatNorm.τ) (Cert.MatNorm.main (F := Bits))) ⟨m, fun _ => 0, g⟩ (fun r => (∀ c : Dev Cert.MatNorm.nD,
      r.2.mem ((c.tc : Thread Cert.MatNorm.nD Cert.MatNorm.τ).loc Cert.MatNorm.main_arg0) = m ((c.tc : Thread Cert.MatNorm.nD Cert.MatNorm.τ).loc Cert.MatNorm.main_arg0)
      ∧ r.2.mem ((c.tc : Thread Cert.MatNorm.nD Cert.MatNorm.τ).loc Cert.MatNorm.main_arg1) = m ((c.tc : Thread Cert.MatNorm.nD Cert.MatNorm.τ).loc Cert.MatNorm.main_arg1)
      ∧ r.2.mem ((c.tc : Thread Cert.MatNorm.nD Cert.MatNorm.τ).loc Cert.MatNorm.main_arg2) = m ((c.tc : Thread Cert.MatNorm.nD Cert.MatNorm.τ).loc Cert.MatNorm.main_arg2)
      ∧ r.2.mem ((c.tc : Thread Cert.MatNorm.nD Cert.MatNorm.τ).loc Cert.MatNorm.main_arg3) = m ((c.tc : Thread Cert.MatNorm.nD Cert.MatNorm.τ).loc Cert.MatNorm.main_arg3)
      ∧ r.2.mem ((c.tc : Thread Cert.MatNorm.nD Cert.MatNorm.τ).loc Cert.MatNorm.main_arg4) = m ((c.tc : Thread Cert.MatNorm.nD Cert.MatNorm.τ).loc Cert.MatNorm.main_arg4))
      ∧ r.2.sem = fun _ => 0)

def quiescent_MatNormIdeal [hMatNormIdeal : Cert.MatNormIdeal.Facts] : Prop :=
  ∀ (m : (ℓ : Loc Cert.MatNormIdeal.nD Cert.MatNormIdeal.τ Cert.MatNormIdeal.sig) → Buf (Elt Ideal) ℓ) (g : Dev Cert.MatNormIdeal.nD → PrngReg), Pre_MatNormIdeal m →
    θ_run (Cert.MatNormIdeal.defs (F := Ideal)) (onTc (τ := Cert.MatNormIdeal.τ) (Cert.MatNormIdeal.main (F := Ideal))) ⟨m, fun _ => 0, g⟩ (fun r => (∀ c : Dev Cert.MatNormIdeal.nD,
      r.2.mem ((c.tc : Thread Cert.MatNormIdeal.nD Cert.MatNormIdeal.τ).loc Cert.MatNormIdeal.main_arg0) = m ((c.tc : Thread Cert.MatNormIdeal.nD Cert.MatNormIdeal.τ).loc Cert.MatNormIdeal.main_arg0)
      ∧ r.2.mem ((c.tc : Thread Cert.MatNormIdeal.nD Cert.MatNormIdeal.τ).loc Cert.MatNormIdeal.main_arg1) = m ((c.tc : Thread Cert.MatNormIdeal.nD Cert.MatNormIdeal.τ).loc Cert.MatNormIdeal.main_arg1)
      ∧ r.2.mem ((c.tc : Thread Cert.MatNormIdeal.nD Cert.MatNormIdeal.τ).loc Cert.MatNormIdeal.main_arg2) = m ((c.tc : Thread Cert.MatNormIdeal.nD Cert.MatNormIdeal.τ).loc Cert.MatNormIdeal.main_arg2)
      ∧ r.2.mem ((c.tc : Thread Cert.MatNormIdeal.nD Cert.MatNormIdeal.τ).loc Cert.MatNormIdeal.main_arg3) = m ((c.tc : Thread Cert.MatNormIdeal.nD Cert.MatNormIdeal.τ).loc Cert.MatNormIdeal.main_arg3)
      ∧ r.2.mem ((c.tc : Thread Cert.MatNormIdeal.nD Cert.MatNormIdeal.τ).loc Cert.MatNormIdeal.main_arg4) = m ((c.tc : Thread Cert.MatNormIdeal.nD Cert.MatNormIdeal.τ).loc Cert.MatNormIdeal.main_arg4))
      ∧ r.2.sem = fun _ => 0)

def quiescent_MatNormIdeal_pre_finite_matnorm [hMatNormIdeal : Cert.MatNormIdeal.Facts] [hPre_finite_matnorm : Cert.Pre_finite_matnorm.Facts] : Prop :=
  ∀ (m : (ℓ : Loc Cert.MatNormIdeal.nD Cert.MatNormIdeal.τ Cert.MatNormIdeal.sig) → Buf (Elt Ideal) ℓ) (g : Dev Cert.MatNormIdeal.nD → PrngReg), Pre_MatNormIdeal_finite_matnorm m →
    θ_run (Cert.MatNormIdeal.defs (F := Ideal)) (onTc (τ := Cert.MatNormIdeal.τ) (Cert.MatNormIdeal.main (F := Ideal))) ⟨m, fun _ => 0, g⟩ (fun r => (∀ c : Dev Cert.MatNormIdeal.nD,
      r.2.mem ((c.tc : Thread Cert.MatNormIdeal.nD Cert.MatNormIdeal.τ).loc Cert.MatNormIdeal.main_arg0) = m ((c.tc : Thread Cert.MatNormIdeal.nD Cert.MatNormIdeal.τ).loc Cert.MatNormIdeal.main_arg0)
      ∧ r.2.mem ((c.tc : Thread Cert.MatNormIdeal.nD Cert.MatNormIdeal.τ).loc Cert.MatNormIdeal.main_arg1) = m ((c.tc : Thread Cert.MatNormIdeal.nD Cert.MatNormIdeal.τ).loc Cert.MatNormIdeal.main_arg1)
      ∧ r.2.mem ((c.tc : Thread Cert.MatNormIdeal.nD Cert.MatNormIdeal.τ).loc Cert.MatNormIdeal.main_arg2) = m ((c.tc : Thread Cert.MatNormIdeal.nD Cert.MatNormIdeal.τ).loc Cert.MatNormIdeal.main_arg2)
      ∧ r.2.mem ((c.tc : Thread Cert.MatNormIdeal.nD Cert.MatNormIdeal.τ).loc Cert.MatNormIdeal.main_arg3) = m ((c.tc : Thread Cert.MatNormIdeal.nD Cert.MatNormIdeal.τ).loc Cert.MatNormIdeal.main_arg3)
      ∧ r.2.mem ((c.tc : Thread Cert.MatNormIdeal.nD Cert.MatNormIdeal.τ).loc Cert.MatNormIdeal.main_arg4) = m ((c.tc : Thread Cert.MatNormIdeal.nD Cert.MatNormIdeal.τ).loc Cert.MatNormIdeal.main_arg4))
      ∧ r.2.sem = fun _ => 0)

def quiescent_MatNormRefIdeal [hMatNormRefIdeal : Cert.MatNormRefIdeal.Facts] : Prop :=
  ∀ (m : (ℓ : Loc Cert.MatNormRefIdeal.nD Cert.MatNormRefIdeal.τ Cert.MatNormRefIdeal.sig) → Buf (Elt Ideal) ℓ) (g : Dev Cert.MatNormRefIdeal.nD → PrngReg), Pre_MatNormRefIdeal m →
    θ_run (Cert.MatNormRefIdeal.defs (F := Ideal)) (onTc (τ := Cert.MatNormRefIdeal.τ) (Cert.MatNormRefIdeal.main (F := Ideal))) ⟨m, fun _ => 0, g⟩ (fun r => (∀ c : Dev Cert.MatNormRefIdeal.nD,
      r.2.mem ((c.tc : Thread Cert.MatNormRefIdeal.nD Cert.MatNormRefIdeal.τ).loc Cert.MatNormRefIdeal.main_arg0) = m ((c.tc : Thread Cert.MatNormRefIdeal.nD Cert.MatNormRefIdeal.τ).loc Cert.MatNormRefIdeal.main_arg0)
      ∧ r.2.mem ((c.tc : Thread Cert.MatNormRefIdeal.nD Cert.MatNormRefIdeal.τ).loc Cert.MatNormRefIdeal.main_arg1) = m ((c.tc : Thread Cert.MatNormRefIdeal.nD Cert.MatNormRefIdeal.τ).loc Cert.MatNormRefIdeal.main_arg1)
      ∧ r.2.mem ((c.tc : Thread Cert.MatNormRefIdeal.nD Cert.MatNormRefIdeal.τ).loc Cert.MatNormRefIdeal.main_arg2) = m ((c.tc : Thread Cert.MatNormRefIdeal.nD Cert.MatNormRefIdeal.τ).loc Cert.MatNormRefIdeal.main_arg2)
      ∧ r.2.mem ((c.tc : Thread Cert.MatNormRefIdeal.nD Cert.MatNormRefIdeal.τ).loc Cert.MatNormRefIdeal.main_arg3) = m ((c.tc : Thread Cert.MatNormRefIdeal.nD Cert.MatNormRefIdeal.τ).loc Cert.MatNormRefIdeal.main_arg3)
      ∧ r.2.mem ((c.tc : Thread Cert.MatNormRefIdeal.nD Cert.MatNormRefIdeal.τ).loc Cert.MatNormRefIdeal.main_arg4) = m ((c.tc : Thread Cert.MatNormRefIdeal.nD Cert.MatNormRefIdeal.τ).loc Cert.MatNormRefIdeal.main_arg4))
      ∧ r.2.sem = fun _ => 0)

def quiescent_MatNormRefIdeal_pre_finite_matnorm [hMatNormRefIdeal : Cert.MatNormRefIdeal.Facts] [hPre_finite_matnorm : Cert.Pre_finite_matnorm.Facts] : Prop :=
  ∀ (m : (ℓ : Loc Cert.MatNormRefIdeal.nD Cert.MatNormRefIdeal.τ Cert.MatNormRefIdeal.sig) → Buf (Elt Ideal) ℓ) (g : Dev Cert.MatNormRefIdeal.nD → PrngReg), Pre_MatNormRefIdeal_finite_matnorm m →
    θ_run (Cert.MatNormRefIdeal.defs (F := Ideal)) (onTc (τ := Cert.MatNormRefIdeal.τ) (Cert.MatNormRefIdeal.main (F := Ideal))) ⟨m, fun _ => 0, g⟩ (fun r => (∀ c : Dev Cert.MatNormRefIdeal.nD,
      r.2.mem ((c.tc : Thread Cert.MatNormRefIdeal.nD Cert.MatNormRefIdeal.τ).loc Cert.MatNormRefIdeal.main_arg0) = m ((c.tc : Thread Cert.MatNormRefIdeal.nD Cert.MatNormRefIdeal.τ).loc Cert.MatNormRefIdeal.main_arg0)
      ∧ r.2.mem ((c.tc : Thread Cert.MatNormRefIdeal.nD Cert.MatNormRefIdeal.τ).loc Cert.MatNormRefIdeal.main_arg1) = m ((c.tc : Thread Cert.MatNormRefIdeal.nD Cert.MatNormRefIdeal.τ).loc Cert.MatNormRefIdeal.main_arg1)
      ∧ r.2.mem ((c.tc : Thread Cert.MatNormRefIdeal.nD Cert.MatNormRefIdeal.τ).loc Cert.MatNormRefIdeal.main_arg2) = m ((c.tc : Thread Cert.MatNormRefIdeal.nD Cert.MatNormRefIdeal.τ).loc Cert.MatNormRefIdeal.main_arg2)
      ∧ r.2.mem ((c.tc : Thread Cert.MatNormRefIdeal.nD Cert.MatNormRefIdeal.τ).loc Cert.MatNormRefIdeal.main_arg3) = m ((c.tc : Thread Cert.MatNormRefIdeal.nD Cert.MatNormRefIdeal.τ).loc Cert.MatNormRefIdeal.main_arg3)
      ∧ r.2.mem ((c.tc : Thread Cert.MatNormRefIdeal.nD Cert.MatNormRefIdeal.τ).loc Cert.MatNormRefIdeal.main_arg4) = m ((c.tc : Thread Cert.MatNormRefIdeal.nD Cert.MatNormRefIdeal.τ).loc Cert.MatNormRefIdeal.main_arg4))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2)
      ∧ r.2.mem ((c.tc : Thread Cert.Relu.nD Cert.Relu.τ).loc Cert.Relu.main_arg3) = m ((c.tc : Thread Cert.Relu.nD Cert.Relu.τ).loc Cert.Relu.main_arg3))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
      ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2)
      ∧ r.2.mem ((c.tc : Thread Cert.ReluRefIdeal.nD Cert.ReluRefIdeal.τ).loc Cert.ReluRefIdeal.main_arg3) = m ((c.tc : Thread Cert.ReluRefIdeal.nD Cert.ReluRefIdeal.τ).loc Cert.ReluRefIdeal.main_arg3))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_qkvc [hFlashIdeal : Cert.FlashIdeal.Facts] [hPre_finite_qkvc : Cert.Pre_finite_qkvc.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_qkvc m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_qkvc [hFlashRefIdeal : Cert.FlashRefIdeal.Facts] [hPre_finite_qkvc : Cert.Pre_finite_qkvc.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_qkvc m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qkv [hFwdIdeal : Cert.FwdIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qkv m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_qkv [hFwdRefIdeal : Cert.FwdRefIdeal.Facts] [hPre_finite_qkv : Cert.Pre_finite_qkv.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qkv m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Halo [hHalo : Cert.Halo.Facts] : Prop :=
  ∀ (m : (ℓ : Loc Cert.Halo.nD Cert.Halo.τ Cert.Halo.sig) → Buf (Elt Bits) ℓ) (g : Dev Cert.Halo.nD → PrngReg), Pre_Halo m →
    θ_run (Cert.Halo.defs (F := Bits)) (onTc (τ := Cert.Halo.τ) (Cert.Halo.main (F := Bits))) ⟨m, fun _ => 0, g⟩ (fun r => (∀ c : Dev Cert.Halo.nD,
      r.2.mem ((c.tc : Thread Cert.Halo.nD Cert.Halo.τ).loc Cert.Halo.main_arg0) = m ((c.tc : Thread Cert.Halo.nD Cert.Halo.τ).loc Cert.Halo.main_arg0)
      ∧ r.2.mem ((c.tc : Thread Cert.Halo.nD Cert.Halo.τ).loc Cert.Halo.main_arg1) = m ((c.tc : Thread Cert.Halo.nD Cert.Halo.τ).loc Cert.Halo.main_arg1))
      ∧ r.2.sem = fun _ => 0)

def quiescent_HaloIdeal [hHaloIdeal : Cert.HaloIdeal.Facts] : Prop :=
  ∀ (m : (ℓ : Loc Cert.HaloIdeal.nD Cert.HaloIdeal.τ Cert.HaloIdeal.sig) → Buf (Elt Ideal) ℓ) (g : Dev Cert.HaloIdeal.nD → PrngReg), Pre_HaloIdeal m →
    θ_run (Cert.HaloIdeal.defs (F := Ideal)) (onTc (τ := Cert.HaloIdeal.τ) (Cert.HaloIdeal.main (F := Ideal))) ⟨m, fun _ => 0, g⟩ (fun r => (∀ c : Dev Cert.HaloIdeal.nD,
      r.2.mem ((c.tc : Thread Cert.HaloIdeal.nD Cert.HaloIdeal.τ).loc Cert.HaloIdeal.main_arg0) = m ((c.tc : Thread Cert.HaloIdeal.nD Cert.HaloIdeal.τ).loc Cert.HaloIdeal.main_arg0)
      ∧ r.2.mem ((c.tc : Thread Cert.HaloIdeal.nD Cert.HaloIdeal.τ).loc Cert.HaloIdeal.main_arg1) = m ((c.tc : Thread Cert.HaloIdeal.nD Cert.HaloIdeal.τ).loc Cert.HaloIdeal.main_arg1))
      ∧ r.2.sem = fun _ => 0)

def quiescent_HaloRefIdeal [hHaloRefIdeal : Cert.HaloRefIdeal.Facts] : Prop :=
  ∀ (m : (ℓ : Loc Cert.HaloRefIdeal.nD Cert.HaloRefIdeal.τ Cert.HaloRefIdeal.sig) → Buf (Elt Ideal) ℓ) (g : Dev Cert.HaloRefIdeal.nD → PrngReg), Pre_HaloRefIdeal m →
    θ_run (Cert.HaloRefIdeal.defs (F := Ideal)) (onTc (τ := Cert.HaloRefIdeal.τ) (Cert.HaloRefIdeal.main (F := Ideal))) ⟨m, fun _ => 0, g⟩ (fun r => (∀ c : Dev Cert.HaloRefIdeal.nD,
      r.2.mem ((c.tc : Thread Cert.HaloRefIdeal.nD Cert.HaloRefIdeal.τ).loc Cert.HaloRefIdeal.main_arg0) = m ((c.tc : Thread Cert.HaloRefIdeal.nD Cert.HaloRefIdeal.τ).loc Cert.HaloRefIdeal.main_arg0)
      ∧ r.2.mem ((c.tc : Thread Cert.HaloRefIdeal.nD Cert.HaloRefIdeal.τ).loc Cert.HaloRefIdeal.main_arg1) = m ((c.tc : Thread Cert.HaloRefIdeal.nD Cert.HaloRefIdeal.τ).loc Cert.HaloRefIdeal.main_arg1))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3)
      ∧ r.2.mem ((c.tc : Thread Cert.Band.nD Cert.Band.τ).loc Cert.Band.main_arg4) = m ((c.tc : Thread Cert.Band.nD Cert.Band.τ).loc Cert.Band.main_arg4)
      ∧ r.2.mem ((c.tc : Thread Cert.Band.nD Cert.Band.τ).loc Cert.Band.main_arg5) = m ((c.tc : Thread Cert.Band.nD Cert.Band.τ).loc Cert.Band.main_arg5))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4)
      ∧ r.2.mem ((c.tc : Thread Cert.BandIdeal.nD Cert.BandIdeal.τ).loc Cert.BandIdeal.main_arg5) = m ((c.tc : Thread Cert.BandIdeal.nD Cert.BandIdeal.τ).loc Cert.BandIdeal.main_arg5))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_QFwd [hQFwd : Cert.QFwd.Facts] : Prop :=
  ∀ (m : (ℓ : Loc Cert.QFwd.nD Cert.QFwd.τ Cert.QFwd.sig) → Buf (Elt Bits) ℓ) (g : Dev Cert.QFwd.nD → PrngReg), Pre_QFwd m →
    θ_run (Cert.QFwd.defs (F := Bits)) (onTc (τ := Cert.QFwd.τ) (Cert.QFwd.main (F := Bits))) ⟨m, fun _ => 0, g⟩ (fun r => (∀ c : Dev Cert.QFwd.nD,
      r.2.mem ((c.tc : Thread Cert.QFwd.nD Cert.QFwd.τ).loc Cert.QFwd.main_arg0) = m ((c.tc : Thread Cert.QFwd.nD Cert.QFwd.τ).loc Cert.QFwd.main_arg0)
      ∧ r.2.mem ((c.tc : Thread Cert.QFwd.nD Cert.QFwd.τ).loc Cert.QFwd.main_arg1) = m ((c.tc : Thread Cert.QFwd.nD Cert.QFwd.τ).loc Cert.QFwd.main_arg1))
      ∧ r.2.sem = fun _ => 0)

def quiescent_QFwdIdeal [hQFwdIdeal : Cert.QFwdIdeal.Facts] : Prop :=
  ∀ (m : (ℓ : Loc Cert.QFwdIdeal.nD Cert.QFwdIdeal.τ Cert.QFwdIdeal.sig) → Buf (Elt Ideal) ℓ) (g : Dev Cert.QFwdIdeal.nD → PrngReg), Pre_QFwdIdeal m →
    θ_run (Cert.QFwdIdeal.defs (F := Ideal)) (onTc (τ := Cert.QFwdIdeal.τ) (Cert.QFwdIdeal.main (F := Ideal))) ⟨m, fun _ => 0, g⟩ (fun r => (∀ c : Dev Cert.QFwdIdeal.nD,
      r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
      ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1))
      ∧ r.2.sem = fun _ => 0)

def quiescent_QFwdRefIdeal [hQFwdRefIdeal : Cert.QFwdRefIdeal.Facts] : Prop :=
  ∀ (m : (ℓ : Loc Cert.QFwdRefIdeal.nD Cert.QFwdRefIdeal.τ Cert.QFwdRefIdeal.sig) → Buf (Elt Ideal) ℓ) (g : Dev Cert.QFwdRefIdeal.nD → PrngReg), Pre_QFwdRefIdeal m →
    θ_run (Cert.QFwdRefIdeal.defs (F := Ideal)) (onTc (τ := Cert.QFwdRefIdeal.τ) (Cert.QFwdRefIdeal.main (F := Ideal))) ⟨m, fun _ => 0, g⟩ (fun r => (∀ c : Dev Cert.QFwdRefIdeal.nD,
      r.2.mem ((c.tc : Thread Cert.QFwdRefIdeal.nD Cert.QFwdRefIdeal.τ).loc Cert.QFwdRefIdeal.main_arg0) = m ((c.tc : Thread Cert.QFwdRefIdeal.nD Cert.QFwdRefIdeal.τ).loc Cert.QFwdRefIdeal.main_arg0)
      ∧ r.2.mem ((c.tc : Thread Cert.QFwdRefIdeal.nD Cert.QFwdRefIdeal.τ).loc Cert.QFwdRefIdeal.main_arg1) = m ((c.tc : Thread Cert.QFwdRefIdeal.nD Cert.QFwdRefIdeal.τ).loc Cert.QFwdRefIdeal.main_arg1))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2))
      ∧ r.2.sem = fun _ => 0)

def quiescent_ReluFwd [hReluFwd : Cert.ReluFwd.Facts] : Prop :=
  ∀ (m : (ℓ : Loc Cert.ReluFwd.nD Cert.ReluFwd.τ Cert.ReluFwd.sig) → Buf (Elt Bits) ℓ) (g : Dev Cert.ReluFwd.nD → PrngReg), Pre_ReluFwd m →
    θ_run (Cert.ReluFwd.defs (F := Bits)) (onTc (τ := Cert.ReluFwd.τ) (Cert.ReluFwd.main (F := Bits))) ⟨m, fun _ => 0, g⟩ (fun r => (∀ c : Dev Cert.ReluFwd.nD,
      r.2.mem ((c.tc : Thread Cert.ReluFwd.nD Cert.ReluFwd.τ).loc Cert.ReluFwd.main_arg0) = m ((c.tc : Thread Cert.ReluFwd.nD Cert.ReluFwd.τ).loc Cert.ReluFwd.main_arg0)
      ∧ r.2.mem ((c.tc : Thread Cert.ReluFwd.nD Cert.ReluFwd.τ).loc Cert.ReluFwd.main_arg1) = m ((c.tc : Thread Cert.ReluFwd.nD Cert.ReluFwd.τ).loc Cert.ReluFwd.main_arg1))
      ∧ r.2.sem = fun _ => 0)

def quiescent_ReluFwdIdeal [hReluFwdIdeal : Cert.ReluFwdIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg), Pre_ReluFwdIdeal m →
    θ_run (Cert.ReluFwdIdeal.defs (F := Ideal)) (onTc (τ := Cert.ReluFwdIdeal.τ) (Cert.ReluFwdIdeal.main (F := Ideal))) ⟨m, fun _ => 0, g⟩ (fun r => (∀ c : Dev Cert.ReluFwdIdeal.nD,
      r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
      ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1))
      ∧ r.2.sem = fun _ => 0)

def quiescent_ReluFwdRefIdeal [hReluFwdRefIdeal : Cert.ReluFwdRefIdeal.Facts] : Prop :=
  ∀ (m : (ℓ : Loc Cert.ReluFwdRefIdeal.nD Cert.ReluFwdRefIdeal.τ Cert.ReluFwdRefIdeal.sig) → Buf (Elt Ideal) ℓ) (g : Dev Cert.ReluFwdRefIdeal.nD → PrngReg), Pre_ReluFwdRefIdeal m →
    θ_run (Cert.ReluFwdRefIdeal.defs (F := Ideal)) (onTc (τ := Cert.ReluFwdRefIdeal.τ) (Cert.ReluFwdRefIdeal.main (F := Ideal))) ⟨m, fun _ => 0, g⟩ (fun r => (∀ c : Dev Cert.ReluFwdRefIdeal.nD,
      r.2.mem ((c.tc : Thread Cert.ReluFwdRefIdeal.nD Cert.ReluFwdRefIdeal.τ).loc Cert.ReluFwdRefIdeal.main_arg0) = m ((c.tc : Thread Cert.ReluFwdRefIdeal.nD Cert.ReluFwdRefIdeal.τ).loc Cert.ReluFwdRefIdeal.main_arg0)
      ∧ r.2.mem ((c.tc : Thread Cert.ReluFwdRefIdeal.nD Cert.ReluFwdRefIdeal.τ).loc Cert.ReluFwdRefIdeal.main_arg1) = m ((c.tc : Thread Cert.ReluFwdRefIdeal.nD Cert.ReluFwdRefIdeal.τ).loc Cert.ReluFwdRefIdeal.main_arg1))
      ∧ r.2.sem = fun _ => 0)

def quiescent_OFwd [hOFwd : Cert.OFwd.Facts] : Prop :=
  ∀ (m : (ℓ : Loc Cert.OFwd.nD Cert.OFwd.τ Cert.OFwd.sig) → Buf (Elt Bits) ℓ) (g : Dev Cert.OFwd.nD → PrngReg), Pre_OFwd m →
    θ_run (Cert.OFwd.defs (F := Bits)) (onTc (τ := Cert.OFwd.τ) (Cert.OFwd.main (F := Bits))) ⟨m, fun _ => 0, g⟩ (fun r => (∀ c : Dev Cert.OFwd.nD,
      r.2.mem ((c.tc : Thread Cert.OFwd.nD Cert.OFwd.τ).loc Cert.OFwd.main_arg0) = m ((c.tc : Thread Cert.OFwd.nD Cert.OFwd.τ).loc Cert.OFwd.main_arg0)
      ∧ r.2.mem ((c.tc : Thread Cert.OFwd.nD Cert.OFwd.τ).loc Cert.OFwd.main_arg1) = m ((c.tc : Thread Cert.OFwd.nD Cert.OFwd.τ).loc Cert.OFwd.main_arg1)
      ∧ r.2.mem ((c.tc : Thread Cert.OFwd.nD Cert.OFwd.τ).loc Cert.OFwd.main_arg2) = m ((c.tc : Thread Cert.OFwd.nD Cert.OFwd.τ).loc Cert.OFwd.main_arg2))
      ∧ r.2.sem = fun _ => 0)

def quiescent_OFwdIdeal [hOFwdIdeal : Cert.OFwdIdeal.Facts] : Prop :=
  ∀ (m : (ℓ : Loc Cert.OFwdIdeal.nD Cert.OFwdIdeal.τ Cert.OFwdIdeal.sig) → Buf (Elt Ideal) ℓ) (g : Dev Cert.OFwdIdeal.nD → PrngReg), Pre_OFwdIdeal m →
    θ_run (Cert.OFwdIdeal.defs (F := Ideal)) (onTc (τ := Cert.OFwdIdeal.τ) (Cert.OFwdIdeal.main (F := Ideal))) ⟨m, fun _ => 0, g⟩ (fun r => (∀ c : Dev Cert.OFwdIdeal.nD,
      r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
      ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
      ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ r.2.sem = fun _ => 0)

def quiescent_OFwdRefIdeal [hOFwdRefIdeal : Cert.OFwdRefIdeal.Facts] : Prop :=
  ∀ (m : (ℓ : Loc Cert.OFwdRefIdeal.nD Cert.OFwdRefIdeal.τ Cert.OFwdRefIdeal.sig) → Buf (Elt Ideal) ℓ) (g : Dev Cert.OFwdRefIdeal.nD → PrngReg), Pre_OFwdRefIdeal m →
    θ_run (Cert.OFwdRefIdeal.defs (F := Ideal)) (onTc (τ := Cert.OFwdRefIdeal.τ) (Cert.OFwdRefIdeal.main (F := Ideal))) ⟨m, fun _ => 0, g⟩ (fun r => (∀ c : Dev Cert.OFwdRefIdeal.nD,
      r.2.mem ((c.tc : Thread Cert.OFwdRefIdeal.nD Cert.OFwdRefIdeal.τ).loc Cert.OFwdRefIdeal.main_arg0) = m ((c.tc : Thread Cert.OFwdRefIdeal.nD Cert.OFwdRefIdeal.τ).loc Cert.OFwdRefIdeal.main_arg0)
      ∧ r.2.mem ((c.tc : Thread Cert.OFwdRefIdeal.nD Cert.OFwdRefIdeal.τ).loc Cert.OFwdRefIdeal.main_arg1) = m ((c.tc : Thread Cert.OFwdRefIdeal.nD Cert.OFwdRefIdeal.τ).loc Cert.OFwdRefIdeal.main_arg1)
      ∧ r.2.mem ((c.tc : Thread Cert.OFwdRefIdeal.nD Cert.OFwdRefIdeal.τ).loc Cert.OFwdRefIdeal.main_arg2) = m ((c.tc : Thread Cert.OFwdRefIdeal.nD Cert.OFwdRefIdeal.τ).loc Cert.OFwdRefIdeal.main_arg2))
      ∧ r.2.sem = fun _ => 0)

def quiescent_AddFwd [hAddFwd : Cert.AddFwd.Facts] : Prop :=
  ∀ (m : (ℓ : Loc Cert.AddFwd.nD Cert.AddFwd.τ Cert.AddFwd.sig) → Buf (Elt Bits) ℓ) (g : Dev Cert.AddFwd.nD → PrngReg), Pre_AddFwd m →
    θ_run (Cert.AddFwd.defs (F := Bits)) (onTc (τ := Cert.AddFwd.τ) (Cert.AddFwd.main (F := Bits))) ⟨m, fun _ => 0, g⟩ (fun r => (∀ c : Dev Cert.AddFwd.nD,
      r.2.mem ((c.tc : Thread Cert.AddFwd.nD Cert.AddFwd.τ).loc Cert.AddFwd.main_arg0) = m ((c.tc : Thread Cert.AddFwd.nD Cert.AddFwd.τ).loc Cert.AddFwd.main_arg0)
      ∧ r.2.mem ((c.tc : Thread Cert.AddFwd.nD Cert.AddFwd.τ).loc Cert.AddFwd.main_arg1) = m ((c.tc : Thread Cert.AddFwd.nD Cert.AddFwd.τ).loc Cert.AddFwd.main_arg1)
      ∧ r.2.mem ((c.tc : Thread Cert.AddFwd.nD Cert.AddFwd.τ).loc Cert.AddFwd.main_arg2) = m ((c.tc : Thread Cert.AddFwd.nD Cert.AddFwd.τ).loc Cert.AddFwd.main_arg2))
      ∧ r.2.sem = fun _ => 0)

def quiescent_AddFwdIdeal [hAddFwdIdeal : Cert.AddFwdIdeal.Facts] : Prop :=
  ∀ (m : (ℓ : Loc Cert.AddFwdIdeal.nD Cert.AddFwdIdeal.τ Cert.AddFwdIdeal.sig) → Buf (Elt Ideal) ℓ) (g : Dev Cert.AddFwdIdeal.nD → PrngReg), Pre_AddFwdIdeal m →
    θ_run (Cert.AddFwdIdeal.defs (F := Ideal)) (onTc (τ := Cert.AddFwdIdeal.τ) (Cert.AddFwdIdeal.main (F := Ideal))) ⟨m, fun _ => 0, g⟩ (fun r => (∀ c : Dev Cert.AddFwdIdeal.nD,
      r.2.mem ((c.tc : Thread Cert.AddFwdIdeal.nD Cert.AddFwdIdeal.τ).loc Cert.AddFwdIdeal.main_arg0) = m ((c.tc : Thread Cert.AddFwdIdeal.nD Cert.AddFwdIdeal.τ).loc Cert.AddFwdIdeal.main_arg0)
      ∧ r.2.mem ((c.tc : Thread Cert.AddFwdIdeal.nD Cert.AddFwdIdeal.τ).loc Cert.AddFwdIdeal.main_arg1) = m ((c.tc : Thread Cert.AddFwdIdeal.nD Cert.AddFwdIdeal.τ).loc Cert.AddFwdIdeal.main_arg1)
      ∧ r.2.mem ((c.tc : Thread Cert.AddFwdIdeal.nD Cert.AddFwdIdeal.τ).loc Cert.AddFwdIdeal.main_arg2) = m ((c.tc : Thread Cert.AddFwdIdeal.nD Cert.AddFwdIdeal.τ).loc Cert.AddFwdIdeal.main_arg2))
      ∧ r.2.sem = fun _ => 0)

def quiescent_AddFwdRefIdeal [hAddFwdRefIdeal : Cert.AddFwdRefIdeal.Facts] : Prop :=
  ∀ (m : (ℓ : Loc Cert.AddFwdRefIdeal.nD Cert.AddFwdRefIdeal.τ Cert.AddFwdRefIdeal.sig) → Buf (Elt Ideal) ℓ) (g : Dev Cert.AddFwdRefIdeal.nD → PrngReg), Pre_AddFwdRefIdeal m →
    θ_run (Cert.AddFwdRefIdeal.defs (F := Ideal)) (onTc (τ := Cert.AddFwdRefIdeal.τ) (Cert.AddFwdRefIdeal.main (F := Ideal))) ⟨m, fun _ => 0, g⟩ (fun r => (∀ c : Dev Cert.AddFwdRefIdeal.nD,
      r.2.mem ((c.tc : Thread Cert.AddFwdRefIdeal.nD Cert.AddFwdRefIdeal.τ).loc Cert.AddFwdRefIdeal.main_arg0) = m ((c.tc : Thread Cert.AddFwdRefIdeal.nD Cert.AddFwdRefIdeal.τ).loc Cert.AddFwdRefIdeal.main_arg0)
      ∧ r.2.mem ((c.tc : Thread Cert.AddFwdRefIdeal.nD Cert.AddFwdRefIdeal.τ).loc Cert.AddFwdRefIdeal.main_arg1) = m ((c.tc : Thread Cert.AddFwdRefIdeal.nD Cert.AddFwdRefIdeal.τ).loc Cert.AddFwdRefIdeal.main_arg1)
      ∧ r.2.mem ((c.tc : Thread Cert.AddFwdRefIdeal.nD Cert.AddFwdRefIdeal.τ).loc Cert.AddFwdRefIdeal.main_arg2) = m ((c.tc : Thread Cert.AddFwdRefIdeal.nD Cert.AddFwdRefIdeal.τ).loc Cert.AddFwdRefIdeal.main_arg2))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvIdeal_pre_finite_normkv [hNormKvIdeal : Cert.NormKvIdeal.Facts] [hPre_finite_normkv : Cert.Pre_finite_normkv.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal_finite_normkv m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_NormKvRefIdeal_pre_finite_normkv [hNormKvRefIdeal : Cert.NormKvRefIdeal.Facts] [hPre_finite_normkv : Cert.Pre_finite_normkv.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal_finite_normkv m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_MatNormDown [hMatNormDown : Cert.MatNormDown.Facts] : Prop :=
  ∀ (m : (ℓ : Loc Cert.MatNormDown.nD Cert.MatNormDown.τ Cert.MatNormDown.sig) → Buf (Elt Bits) ℓ) (g : Dev Cert.MatNormDown.nD → PrngReg), Pre_MatNormDown m →
    θ_run (Cert.MatNormDown.defs (F := Bits)) (onTc (τ := Cert.MatNormDown.τ) (Cert.MatNormDown.main (F := Bits))) ⟨m, fun _ => 0, g⟩ (fun r => (∀ c : Dev Cert.MatNormDown.nD,
      r.2.mem ((c.tc : Thread Cert.MatNormDown.nD Cert.MatNormDown.τ).loc Cert.MatNormDown.main_arg0) = m ((c.tc : Thread Cert.MatNormDown.nD Cert.MatNormDown.τ).loc Cert.MatNormDown.main_arg0)
      ∧ r.2.mem ((c.tc : Thread Cert.MatNormDown.nD Cert.MatNormDown.τ).loc Cert.MatNormDown.main_arg1) = m ((c.tc : Thread Cert.MatNormDown.nD Cert.MatNormDown.τ).loc Cert.MatNormDown.main_arg1)
      ∧ r.2.mem ((c.tc : Thread Cert.MatNormDown.nD Cert.MatNormDown.τ).loc Cert.MatNormDown.main_arg2) = m ((c.tc : Thread Cert.MatNormDown.nD Cert.MatNormDown.τ).loc Cert.MatNormDown.main_arg2)
      ∧ r.2.mem ((c.tc : Thread Cert.MatNormDown.nD Cert.MatNormDown.τ).loc Cert.MatNormDown.main_arg3) = m ((c.tc : Thread Cert.MatNormDown.nD Cert.MatNormDown.τ).loc Cert.MatNormDown.main_arg3)
      ∧ r.2.mem ((c.tc : Thread Cert.MatNormDown.nD Cert.MatNormDown.τ).loc Cert.MatNormDown.main_arg4) = m ((c.tc : Thread Cert.MatNormDown.nD Cert.MatNormDown.τ).loc Cert.MatNormDown.main_arg4))
      ∧ r.2.sem = fun _ => 0)

def quiescent_MatNormDownIdeal [hMatNormDownIdeal : Cert.MatNormDownIdeal.Facts] : Prop :=
  ∀ (m : (ℓ : Loc Cert.MatNormDownIdeal.nD Cert.MatNormDownIdeal.τ Cert.MatNormDownIdeal.sig) → Buf (Elt Ideal) ℓ) (g : Dev Cert.MatNormDownIdeal.nD → PrngReg), Pre_MatNormDownIdeal m →
    θ_run (Cert.MatNormDownIdeal.defs (F := Ideal)) (onTc (τ := Cert.MatNormDownIdeal.τ) (Cert.MatNormDownIdeal.main (F := Ideal))) ⟨m, fun _ => 0, g⟩ (fun r => (∀ c : Dev Cert.MatNormDownIdeal.nD,
      r.2.mem ((c.tc : Thread Cert.MatNormDownIdeal.nD Cert.MatNormDownIdeal.τ).loc Cert.MatNormDownIdeal.main_arg0) = m ((c.tc : Thread Cert.MatNormDownIdeal.nD Cert.MatNormDownIdeal.τ).loc Cert.MatNormDownIdeal.main_arg0)
      ∧ r.2.mem ((c.tc : Thread Cert.MatNormDownIdeal.nD Cert.MatNormDownIdeal.τ).loc Cert.MatNormDownIdeal.main_arg1) = m ((c.tc : Thread Cert.MatNormDownIdeal.nD Cert.MatNormDownIdeal.τ).loc Cert.MatNormDownIdeal.main_arg1)
      ∧ r.2.mem ((c.tc : Thread Cert.MatNormDownIdeal.nD Cert.MatNormDownIdeal.τ).loc Cert.MatNormDownIdeal.main_arg2) = m ((c.tc : Thread Cert.MatNormDownIdeal.nD Cert.MatNormDownIdeal.τ).loc Cert.MatNormDownIdeal.main_arg2)
      ∧ r.2.mem ((c.tc : Thread Cert.MatNormDownIdeal.nD Cert.MatNormDownIdeal.τ).loc Cert.MatNormDownIdeal.main_arg3) = m ((c.tc : Thread Cert.MatNormDownIdeal.nD Cert.MatNormDownIdeal.τ).loc Cert.MatNormDownIdeal.main_arg3)
      ∧ r.2.mem ((c.tc : Thread Cert.MatNormDownIdeal.nD Cert.MatNormDownIdeal.τ).loc Cert.MatNormDownIdeal.main_arg4) = m ((c.tc : Thread Cert.MatNormDownIdeal.nD Cert.MatNormDownIdeal.τ).loc Cert.MatNormDownIdeal.main_arg4))
      ∧ r.2.sem = fun _ => 0)

def quiescent_MatNormDownIdeal_pre_finite_matnormdown [hMatNormDownIdeal : Cert.MatNormDownIdeal.Facts] [hPre_finite_matnormdown : Cert.Pre_finite_matnormdown.Facts] : Prop :=
  ∀ (m : (ℓ : Loc Cert.MatNormDownIdeal.nD Cert.MatNormDownIdeal.τ Cert.MatNormDownIdeal.sig) → Buf (Elt Ideal) ℓ) (g : Dev Cert.MatNormDownIdeal.nD → PrngReg), Pre_MatNormDownIdeal_finite_matnormdown m →
    θ_run (Cert.MatNormDownIdeal.defs (F := Ideal)) (onTc (τ := Cert.MatNormDownIdeal.τ) (Cert.MatNormDownIdeal.main (F := Ideal))) ⟨m, fun _ => 0, g⟩ (fun r => (∀ c : Dev Cert.MatNormDownIdeal.nD,
      r.2.mem ((c.tc : Thread Cert.MatNormDownIdeal.nD Cert.MatNormDownIdeal.τ).loc Cert.MatNormDownIdeal.main_arg0) = m ((c.tc : Thread Cert.MatNormDownIdeal.nD Cert.MatNormDownIdeal.τ).loc Cert.MatNormDownIdeal.main_arg0)
      ∧ r.2.mem ((c.tc : Thread Cert.MatNormDownIdeal.nD Cert.MatNormDownIdeal.τ).loc Cert.MatNormDownIdeal.main_arg1) = m ((c.tc : Thread Cert.MatNormDownIdeal.nD Cert.MatNormDownIdeal.τ).loc Cert.MatNormDownIdeal.main_arg1)
      ∧ r.2.mem ((c.tc : Thread Cert.MatNormDownIdeal.nD Cert.MatNormDownIdeal.τ).loc Cert.MatNormDownIdeal.main_arg2) = m ((c.tc : Thread Cert.MatNormDownIdeal.nD Cert.MatNormDownIdeal.τ).loc Cert.MatNormDownIdeal.main_arg2)
      ∧ r.2.mem ((c.tc : Thread Cert.MatNormDownIdeal.nD Cert.MatNormDownIdeal.τ).loc Cert.MatNormDownIdeal.main_arg3) = m ((c.tc : Thread Cert.MatNormDownIdeal.nD Cert.MatNormDownIdeal.τ).loc Cert.MatNormDownIdeal.main_arg3)
      ∧ r.2.mem ((c.tc : Thread Cert.MatNormDownIdeal.nD Cert.MatNormDownIdeal.τ).loc Cert.MatNormDownIdeal.main_arg4) = m ((c.tc : Thread Cert.MatNormDownIdeal.nD Cert.MatNormDownIdeal.τ).loc Cert.MatNormDownIdeal.main_arg4))
      ∧ r.2.sem = fun _ => 0)

def quiescent_MatNormDownRefIdeal [hMatNormDownRefIdeal : Cert.MatNormDownRefIdeal.Facts] : Prop :=
  ∀ (m : (ℓ : Loc Cert.MatNormDownRefIdeal.nD Cert.MatNormDownRefIdeal.τ Cert.MatNormDownRefIdeal.sig) → Buf (Elt Ideal) ℓ) (g : Dev Cert.MatNormDownRefIdeal.nD → PrngReg), Pre_MatNormDownRefIdeal m →
    θ_run (Cert.MatNormDownRefIdeal.defs (F := Ideal)) (onTc (τ := Cert.MatNormDownRefIdeal.τ) (Cert.MatNormDownRefIdeal.main (F := Ideal))) ⟨m, fun _ => 0, g⟩ (fun r => (∀ c : Dev Cert.MatNormDownRefIdeal.nD,
      r.2.mem ((c.tc : Thread Cert.MatNormDownRefIdeal.nD Cert.MatNormDownRefIdeal.τ).loc Cert.MatNormDownRefIdeal.main_arg0) = m ((c.tc : Thread Cert.MatNormDownRefIdeal.nD Cert.MatNormDownRefIdeal.τ).loc Cert.MatNormDownRefIdeal.main_arg0)
      ∧ r.2.mem ((c.tc : Thread Cert.MatNormDownRefIdeal.nD Cert.MatNormDownRefIdeal.τ).loc Cert.MatNormDownRefIdeal.main_arg1) = m ((c.tc : Thread Cert.MatNormDownRefIdeal.nD Cert.MatNormDownRefIdeal.τ).loc Cert.MatNormDownRefIdeal.main_arg1)
      ∧ r.2.mem ((c.tc : Thread Cert.MatNormDownRefIdeal.nD Cert.MatNormDownRefIdeal.τ).loc Cert.MatNormDownRefIdeal.main_arg2) = m ((c.tc : Thread Cert.MatNormDownRefIdeal.nD Cert.MatNormDownRefIdeal.τ).loc Cert.MatNormDownRefIdeal.main_arg2)
      ∧ r.2.mem ((c.tc : Thread Cert.MatNormDownRefIdeal.nD Cert.MatNormDownRefIdeal.τ).loc Cert.MatNormDownRefIdeal.main_arg3) = m ((c.tc : Thread Cert.MatNormDownRefIdeal.nD Cert.MatNormDownRefIdeal.τ).loc Cert.MatNormDownRefIdeal.main_arg3)
      ∧ r.2.mem ((c.tc : Thread Cert.MatNormDownRefIdeal.nD Cert.MatNormDownRefIdeal.τ).loc Cert.MatNormDownRefIdeal.main_arg4) = m ((c.tc : Thread Cert.MatNormDownRefIdeal.nD Cert.MatNormDownRefIdeal.τ).loc Cert.MatNormDownRefIdeal.main_arg4))
      ∧ r.2.sem = fun _ => 0)

def quiescent_MatNormDownRefIdeal_pre_finite_matnormdown [hMatNormDownRefIdeal : Cert.MatNormDownRefIdeal.Facts] [hPre_finite_matnormdown : Cert.Pre_finite_matnormdown.Facts] : Prop :=
  ∀ (m : (ℓ : Loc Cert.MatNormDownRefIdeal.nD Cert.MatNormDownRefIdeal.τ Cert.MatNormDownRefIdeal.sig) → Buf (Elt Ideal) ℓ) (g : Dev Cert.MatNormDownRefIdeal.nD → PrngReg), Pre_MatNormDownRefIdeal_finite_matnormdown m →
    θ_run (Cert.MatNormDownRefIdeal.defs (F := Ideal)) (onTc (τ := Cert.MatNormDownRefIdeal.τ) (Cert.MatNormDownRefIdeal.main (F := Ideal))) ⟨m, fun _ => 0, g⟩ (fun r => (∀ c : Dev Cert.MatNormDownRefIdeal.nD,
      r.2.mem ((c.tc : Thread Cert.MatNormDownRefIdeal.nD Cert.MatNormDownRefIdeal.τ).loc Cert.MatNormDownRefIdeal.main_arg0) = m ((c.tc : Thread Cert.MatNormDownRefIdeal.nD Cert.MatNormDownRefIdeal.τ).loc Cert.MatNormDownRefIdeal.main_arg0)
      ∧ r.2.mem ((c.tc : Thread Cert.MatNormDownRefIdeal.nD Cert.MatNormDownRefIdeal.τ).loc Cert.MatNormDownRefIdeal.main_arg1) = m ((c.tc : Thread Cert.MatNormDownRefIdeal.nD Cert.MatNormDownRefIdeal.τ).loc Cert.MatNormDownRefIdeal.main_arg1)
      ∧ r.2.mem ((c.tc : Thread Cert.MatNormDownRefIdeal.nD Cert.MatNormDownRefIdeal.τ).loc Cert.MatNormDownRefIdeal.main_arg2) = m ((c.tc : Thread Cert.MatNormDownRefIdeal.nD Cert.MatNormDownRefIdeal.τ).loc Cert.MatNormDownRefIdeal.main_arg2)
      ∧ r.2.mem ((c.tc : Thread Cert.MatNormDownRefIdeal.nD Cert.MatNormDownRefIdeal.τ).loc Cert.MatNormDownRefIdeal.main_arg3) = m ((c.tc : Thread Cert.MatNormDownRefIdeal.nD Cert.MatNormDownRefIdeal.τ).loc Cert.MatNormDownRefIdeal.main_arg3)
      ∧ r.2.mem ((c.tc : Thread Cert.MatNormDownRefIdeal.nD Cert.MatNormDownRefIdeal.τ).loc Cert.MatNormDownRefIdeal.main_arg4) = m ((c.tc : Thread Cert.MatNormDownRefIdeal.nD Cert.MatNormDownRefIdeal.τ).loc Cert.MatNormDownRefIdeal.main_arg4))
      ∧ r.2.sem = fun _ => 0)

def quiescent_MatNormIn [hMatNormIn : Cert.MatNormIn.Facts] : Prop :=
  ∀ (m : (ℓ : Loc Cert.MatNormIn.nD Cert.MatNormIn.τ Cert.MatNormIn.sig) → Buf (Elt Bits) ℓ) (g : Dev Cert.MatNormIn.nD → PrngReg), Pre_MatNormIn m →
    θ_run (Cert.MatNormIn.defs (F := Bits)) (onTc (τ := Cert.MatNormIn.τ) (Cert.MatNormIn.main (F := Bits))) ⟨m, fun _ => 0, g⟩ (fun r => (∀ c : Dev Cert.MatNormIn.nD,
      r.2.mem ((c.tc : Thread Cert.MatNormIn.nD Cert.MatNormIn.τ).loc Cert.MatNormIn.main_arg0) = m ((c.tc : Thread Cert.MatNormIn.nD Cert.MatNormIn.τ).loc Cert.MatNormIn.main_arg0)
      ∧ r.2.mem ((c.tc : Thread Cert.MatNormIn.nD Cert.MatNormIn.τ).loc Cert.MatNormIn.main_arg1) = m ((c.tc : Thread Cert.MatNormIn.nD Cert.MatNormIn.τ).loc Cert.MatNormIn.main_arg1)
      ∧ r.2.mem ((c.tc : Thread Cert.MatNormIn.nD Cert.MatNormIn.τ).loc Cert.MatNormIn.main_arg2) = m ((c.tc : Thread Cert.MatNormIn.nD Cert.MatNormIn.τ).loc Cert.MatNormIn.main_arg2)
      ∧ r.2.mem ((c.tc : Thread Cert.MatNormIn.nD Cert.MatNormIn.τ).loc Cert.MatNormIn.main_arg3) = m ((c.tc : Thread Cert.MatNormIn.nD Cert.MatNormIn.τ).loc Cert.MatNormIn.main_arg3)
      ∧ r.2.mem ((c.tc : Thread Cert.MatNormIn.nD Cert.MatNormIn.τ).loc Cert.MatNormIn.main_arg4) = m ((c.tc : Thread Cert.MatNormIn.nD Cert.MatNormIn.τ).loc Cert.MatNormIn.main_arg4))
      ∧ r.2.sem = fun _ => 0)

def quiescent_MatNormInIdeal [hMatNormInIdeal : Cert.MatNormInIdeal.Facts] : Prop :=
  ∀ (m : (ℓ : Loc Cert.MatNormInIdeal.nD Cert.MatNormInIdeal.τ Cert.MatNormInIdeal.sig) → Buf (Elt Ideal) ℓ) (g : Dev Cert.MatNormInIdeal.nD → PrngReg), Pre_MatNormInIdeal m →
    θ_run (Cert.MatNormInIdeal.defs (F := Ideal)) (onTc (τ := Cert.MatNormInIdeal.τ) (Cert.MatNormInIdeal.main (F := Ideal))) ⟨m, fun _ => 0, g⟩ (fun r => (∀ c : Dev Cert.MatNormInIdeal.nD,
      r.2.mem ((c.tc : Thread Cert.MatNormInIdeal.nD Cert.MatNormInIdeal.τ).loc Cert.MatNormInIdeal.main_arg0) = m ((c.tc : Thread Cert.MatNormInIdeal.nD Cert.MatNormInIdeal.τ).loc Cert.MatNormInIdeal.main_arg0)
      ∧ r.2.mem ((c.tc : Thread Cert.MatNormInIdeal.nD Cert.MatNormInIdeal.τ).loc Cert.MatNormInIdeal.main_arg1) = m ((c.tc : Thread Cert.MatNormInIdeal.nD Cert.MatNormInIdeal.τ).loc Cert.MatNormInIdeal.main_arg1)
      ∧ r.2.mem ((c.tc : Thread Cert.MatNormInIdeal.nD Cert.MatNormInIdeal.τ).loc Cert.MatNormInIdeal.main_arg2) = m ((c.tc : Thread Cert.MatNormInIdeal.nD Cert.MatNormInIdeal.τ).loc Cert.MatNormInIdeal.main_arg2)
      ∧ r.2.mem ((c.tc : Thread Cert.MatNormInIdeal.nD Cert.MatNormInIdeal.τ).loc Cert.MatNormInIdeal.main_arg3) = m ((c.tc : Thread Cert.MatNormInIdeal.nD Cert.MatNormInIdeal.τ).loc Cert.MatNormInIdeal.main_arg3)
      ∧ r.2.mem ((c.tc : Thread Cert.MatNormInIdeal.nD Cert.MatNormInIdeal.τ).loc Cert.MatNormInIdeal.main_arg4) = m ((c.tc : Thread Cert.MatNormInIdeal.nD Cert.MatNormInIdeal.τ).loc Cert.MatNormInIdeal.main_arg4))
      ∧ r.2.sem = fun _ => 0)

def quiescent_MatNormInIdeal_pre_finite_matnormin [hMatNormInIdeal : Cert.MatNormInIdeal.Facts] [hPre_finite_matnormin : Cert.Pre_finite_matnormin.Facts] : Prop :=
  ∀ (m : (ℓ : Loc Cert.MatNormInIdeal.nD Cert.MatNormInIdeal.τ Cert.MatNormInIdeal.sig) → Buf (Elt Ideal) ℓ) (g : Dev Cert.MatNormInIdeal.nD → PrngReg), Pre_MatNormInIdeal_finite_matnormin m →
    θ_run (Cert.MatNormInIdeal.defs (F := Ideal)) (onTc (τ := Cert.MatNormInIdeal.τ) (Cert.MatNormInIdeal.main (F := Ideal))) ⟨m, fun _ => 0, g⟩ (fun r => (∀ c : Dev Cert.MatNormInIdeal.nD,
      r.2.mem ((c.tc : Thread Cert.MatNormInIdeal.nD Cert.MatNormInIdeal.τ).loc Cert.MatNormInIdeal.main_arg0) = m ((c.tc : Thread Cert.MatNormInIdeal.nD Cert.MatNormInIdeal.τ).loc Cert.MatNormInIdeal.main_arg0)
      ∧ r.2.mem ((c.tc : Thread Cert.MatNormInIdeal.nD Cert.MatNormInIdeal.τ).loc Cert.MatNormInIdeal.main_arg1) = m ((c.tc : Thread Cert.MatNormInIdeal.nD Cert.MatNormInIdeal.τ).loc Cert.MatNormInIdeal.main_arg1)
      ∧ r.2.mem ((c.tc : Thread Cert.MatNormInIdeal.nD Cert.MatNormInIdeal.τ).loc Cert.MatNormInIdeal.main_arg2) = m ((c.tc : Thread Cert.MatNormInIdeal.nD Cert.MatNormInIdeal.τ).loc Cert.MatNormInIdeal.main_arg2)
      ∧ r.2.mem ((c.tc : Thread Cert.MatNormInIdeal.nD Cert.MatNormInIdeal.τ).loc Cert.MatNormInIdeal.main_arg3) = m ((c.tc : Thread Cert.MatNormInIdeal.nD Cert.MatNormInIdeal.τ).loc Cert.MatNormInIdeal.main_arg3)
      ∧ r.2.mem ((c.tc : Thread Cert.MatNormInIdeal.nD Cert.MatNormInIdeal.τ).loc Cert.MatNormInIdeal.main_arg4) = m ((c.tc : Thread Cert.MatNormInIdeal.nD Cert.MatNormInIdeal.τ).loc Cert.MatNormInIdeal.main_arg4))
      ∧ r.2.sem = fun _ => 0)

def quiescent_MatNormInRefIdeal [hMatNormInRefIdeal : Cert.MatNormInRefIdeal.Facts] : Prop :=
  ∀ (m : (ℓ : Loc Cert.MatNormInRefIdeal.nD Cert.MatNormInRefIdeal.τ Cert.MatNormInRefIdeal.sig) → Buf (Elt Ideal) ℓ) (g : Dev Cert.MatNormInRefIdeal.nD → PrngReg), Pre_MatNormInRefIdeal m →
    θ_run (Cert.MatNormInRefIdeal.defs (F := Ideal)) (onTc (τ := Cert.MatNormInRefIdeal.τ) (Cert.MatNormInRefIdeal.main (F := Ideal))) ⟨m, fun _ => 0, g⟩ (fun r => (∀ c : Dev Cert.MatNormInRefIdeal.nD,
      r.2.mem ((c.tc : Thread Cert.MatNormInRefIdeal.nD Cert.MatNormInRefIdeal.τ).loc Cert.MatNormInRefIdeal.main_arg0) = m ((c.tc : Thread Cert.MatNormInRefIdeal.nD Cert.MatNormInRefIdeal.τ).loc Cert.MatNormInRefIdeal.main_arg0)
      ∧ r.2.mem ((c.tc : Thread Cert.MatNormInRefIdeal.nD Cert.MatNormInRefIdeal.τ).loc Cert.MatNormInRefIdeal.main_arg1) = m ((c.tc : Thread Cert.MatNormInRefIdeal.nD Cert.MatNormInRefIdeal.τ).loc Cert.MatNormInRefIdeal.main_arg1)
      ∧ r.2.mem ((c.tc : Thread Cert.MatNormInRefIdeal.nD Cert.MatNormInRefIdeal.τ).loc Cert.MatNormInRefIdeal.main_arg2) = m ((c.tc : Thread Cert.MatNormInRefIdeal.nD Cert.MatNormInRefIdeal.τ).loc Cert.MatNormInRefIdeal.main_arg2)
      ∧ r.2.mem ((c.tc : Thread Cert.MatNormInRefIdeal.nD Cert.MatNormInRefIdeal.τ).loc Cert.MatNormInRefIdeal.main_arg3) = m ((c.tc : Thread Cert.MatNormInRefIdeal.nD Cert.MatNormInRefIdeal.τ).loc Cert.MatNormInRefIdeal.main_arg3)
      ∧ r.2.mem ((c.tc : Thread Cert.MatNormInRefIdeal.nD Cert.MatNormInRefIdeal.τ).loc Cert.MatNormInRefIdeal.main_arg4) = m ((c.tc : Thread Cert.MatNormInRefIdeal.nD Cert.MatNormInRefIdeal.τ).loc Cert.MatNormInRefIdeal.main_arg4))
      ∧ r.2.sem = fun _ => 0)

def quiescent_MatNormInRefIdeal_pre_finite_matnormin [hMatNormInRefIdeal : Cert.MatNormInRefIdeal.Facts] [hPre_finite_matnormin : Cert.Pre_finite_matnormin.Facts] : Prop :=
  ∀ (m : (ℓ : Loc Cert.MatNormInRefIdeal.nD Cert.MatNormInRefIdeal.τ Cert.MatNormInRefIdeal.sig) → Buf (Elt Ideal) ℓ) (g : Dev Cert.MatNormInRefIdeal.nD → PrngReg), Pre_MatNormInRefIdeal_finite_matnormin m →
    θ_run (Cert.MatNormInRefIdeal.defs (F := Ideal)) (onTc (τ := Cert.MatNormInRefIdeal.τ) (Cert.MatNormInRefIdeal.main (F := Ideal))) ⟨m, fun _ => 0, g⟩ (fun r => (∀ c : Dev Cert.MatNormInRefIdeal.nD,
      r.2.mem ((c.tc : Thread Cert.MatNormInRefIdeal.nD Cert.MatNormInRefIdeal.τ).loc Cert.MatNormInRefIdeal.main_arg0) = m ((c.tc : Thread Cert.MatNormInRefIdeal.nD Cert.MatNormInRefIdeal.τ).loc Cert.MatNormInRefIdeal.main_arg0)
      ∧ r.2.mem ((c.tc : Thread Cert.MatNormInRefIdeal.nD Cert.MatNormInRefIdeal.τ).loc Cert.MatNormInRefIdeal.main_arg1) = m ((c.tc : Thread Cert.MatNormInRefIdeal.nD Cert.MatNormInRefIdeal.τ).loc Cert.MatNormInRefIdeal.main_arg1)
      ∧ r.2.mem ((c.tc : Thread Cert.MatNormInRefIdeal.nD Cert.MatNormInRefIdeal.τ).loc Cert.MatNormInRefIdeal.main_arg2) = m ((c.tc : Thread Cert.MatNormInRefIdeal.nD Cert.MatNormInRefIdeal.τ).loc Cert.MatNormInRefIdeal.main_arg2)
      ∧ r.2.mem ((c.tc : Thread Cert.MatNormInRefIdeal.nD Cert.MatNormInRefIdeal.τ).loc Cert.MatNormInRefIdeal.main_arg3) = m ((c.tc : Thread Cert.MatNormInRefIdeal.nD Cert.MatNormInRefIdeal.τ).loc Cert.MatNormInRefIdeal.main_arg3)
      ∧ r.2.mem ((c.tc : Thread Cert.MatNormInRefIdeal.nD Cert.MatNormInRefIdeal.τ).loc Cert.MatNormInRefIdeal.main_arg4) = m ((c.tc : Thread Cert.MatNormInRefIdeal.nD Cert.MatNormInRefIdeal.τ).loc Cert.MatNormInRefIdeal.main_arg4))
      ∧ r.2.sem = fun _ => 0)

def quiescent_BandFwd [hBandFwd : Cert.BandFwd.Facts] : Prop :=
  ∀ (m : (ℓ : Loc Cert.BandFwd.nD Cert.BandFwd.τ Cert.BandFwd.sig) → Buf (Elt Bits) ℓ) (g : Dev Cert.BandFwd.nD → PrngReg), Pre_BandFwd m →
    θ_run (Cert.BandFwd.defs (F := Bits)) (onTc (τ := Cert.BandFwd.τ) (Cert.BandFwd.main (F := Bits))) ⟨m, fun _ => 0, g⟩ (fun r => (∀ c : Dev Cert.BandFwd.nD,
      r.2.mem ((c.tc : Thread Cert.BandFwd.nD Cert.BandFwd.τ).loc Cert.BandFwd.main_arg0) = m ((c.tc : Thread Cert.BandFwd.nD Cert.BandFwd.τ).loc Cert.BandFwd.main_arg0)
      ∧ r.2.mem ((c.tc : Thread Cert.BandFwd.nD Cert.BandFwd.τ).loc Cert.BandFwd.main_arg1) = m ((c.tc : Thread Cert.BandFwd.nD Cert.BandFwd.τ).loc Cert.BandFwd.main_arg1)
      ∧ r.2.mem ((c.tc : Thread Cert.BandFwd.nD Cert.BandFwd.τ).loc Cert.BandFwd.main_arg2) = m ((c.tc : Thread Cert.BandFwd.nD Cert.BandFwd.τ).loc Cert.BandFwd.main_arg2))
      ∧ r.2.sem = fun _ => 0)

def quiescent_BandFwdIdeal [hBandFwdIdeal : Cert.BandFwdIdeal.Facts] : Prop :=
  ∀ (m : (ℓ : Loc Cert.BandFwdIdeal.nD Cert.BandFwdIdeal.τ Cert.BandFwdIdeal.sig) → Buf (Elt Ideal) ℓ) (g : Dev Cert.BandFwdIdeal.nD → PrngReg), Pre_BandFwdIdeal m →
    θ_run (Cert.BandFwdIdeal.defs (F := Ideal)) (onTc (τ := Cert.BandFwdIdeal.τ) (Cert.BandFwdIdeal.main (F := Ideal))) ⟨m, fun _ => 0, g⟩ (fun r => (∀ c : Dev Cert.BandFwdIdeal.nD,
      r.2.mem ((c.tc : Thread Cert.BandFwdIdeal.nD Cert.BandFwdIdeal.τ).loc Cert.BandFwdIdeal.main_arg0) = m ((c.tc : Thread Cert.BandFwdIdeal.nD Cert.BandFwdIdeal.τ).loc Cert.BandFwdIdeal.main_arg0)
      ∧ r.2.mem ((c.tc : Thread Cert.BandFwdIdeal.nD Cert.BandFwdIdeal.τ).loc Cert.BandFwdIdeal.main_arg1) = m ((c.tc : Thread Cert.BandFwdIdeal.nD Cert.BandFwdIdeal.τ).loc Cert.BandFwdIdeal.main_arg1)
      ∧ r.2.mem ((c.tc : Thread Cert.BandFwdIdeal.nD Cert.BandFwdIdeal.τ).loc Cert.BandFwdIdeal.main_arg2) = m ((c.tc : Thread Cert.BandFwdIdeal.nD Cert.BandFwdIdeal.τ).loc Cert.BandFwdIdeal.main_arg2))
      ∧ r.2.sem = fun _ => 0)

def quiescent_BandFwdRefIdeal [hBandFwdRefIdeal : Cert.BandFwdRefIdeal.Facts] : Prop :=
  ∀ (m : (ℓ : Loc Cert.BandFwdRefIdeal.nD Cert.BandFwdRefIdeal.τ Cert.BandFwdRefIdeal.sig) → Buf (Elt Ideal) ℓ) (g : Dev Cert.BandFwdRefIdeal.nD → PrngReg), Pre_BandFwdRefIdeal m →
    θ_run (Cert.BandFwdRefIdeal.defs (F := Ideal)) (onTc (τ := Cert.BandFwdRefIdeal.τ) (Cert.BandFwdRefIdeal.main (F := Ideal))) ⟨m, fun _ => 0, g⟩ (fun r => (∀ c : Dev Cert.BandFwdRefIdeal.nD,
      r.2.mem ((c.tc : Thread Cert.BandFwdRefIdeal.nD Cert.BandFwdRefIdeal.τ).loc Cert.BandFwdRefIdeal.main_arg0) = m ((c.tc : Thread Cert.BandFwdRefIdeal.nD Cert.BandFwdRefIdeal.τ).loc Cert.BandFwdRefIdeal.main_arg0)
      ∧ r.2.mem ((c.tc : Thread Cert.BandFwdRefIdeal.nD Cert.BandFwdRefIdeal.τ).loc Cert.BandFwdRefIdeal.main_arg1) = m ((c.tc : Thread Cert.BandFwdRefIdeal.nD Cert.BandFwdRefIdeal.τ).loc Cert.BandFwdRefIdeal.main_arg1)
      ∧ r.2.mem ((c.tc : Thread Cert.BandFwdRefIdeal.nD Cert.BandFwdRefIdeal.τ).loc Cert.BandFwdRefIdeal.main_arg2) = m ((c.tc : Thread Cert.BandFwdRefIdeal.nD Cert.BandFwdRefIdeal.τ).loc Cert.BandFwdRefIdeal.main_arg2))
      ∧ r.2.sem = fun _ => 0)

def preserves_Loss_LossIdeal : Prop :=
  True

def algebraic_LossIdeal_LossRefIdeal_pre_finite [hLossIdeal : Cert.LossIdeal.Facts] [hLossRefIdeal : Cert.LossRefIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v36) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_MatNorm_MatNormIdeal : Prop :=
  True

def algebraic_MatNormIdeal_MatNormRefIdeal_pre_finite_matnorm [hMatNormIdeal : Cert.MatNormIdeal.Facts] [hMatNormRefIdeal : Cert.MatNormRefIdeal.Facts] [hPre_finite_matnorm : Cert.Pre_finite_matnorm.Facts] : Prop :=
  ∀ (m : (ℓ : Loc Cert.MatNormIdeal.nD Cert.MatNormIdeal.τ Cert.MatNormIdeal.sig) → Buf (Elt Ideal) ℓ) (g : Dev Cert.MatNormIdeal.nD → PrngReg)
    (m' : (ℓ : Loc Cert.MatNormRefIdeal.nD Cert.MatNormRefIdeal.τ Cert.MatNormRefIdeal.sig) → Buf (Elt Ideal) ℓ) (g' : Dev Cert.MatNormRefIdeal.nD → PrngReg), Pre_MatNormIdeal_finite_matnorm m →
    (∀ c : Dev Cert.MatNormIdeal.nD,
      m' ((c.tc : Thread Cert.MatNormRefIdeal.nD Cert.MatNormRefIdeal.τ).loc Cert.MatNormRefIdeal.main_arg0) = m ((c.tc : Thread Cert.MatNormIdeal.nD Cert.MatNormIdeal.τ).loc Cert.MatNormIdeal.main_arg0)
      ∧ m' ((c.tc : Thread Cert.MatNormRefIdeal.nD Cert.MatNormRefIdeal.τ).loc Cert.MatNormRefIdeal.main_arg1) = m ((c.tc : Thread Cert.MatNormIdeal.nD Cert.MatNormIdeal.τ).loc Cert.MatNormIdeal.main_arg1)
      ∧ m' ((c.tc : Thread Cert.MatNormRefIdeal.nD Cert.MatNormRefIdeal.τ).loc Cert.MatNormRefIdeal.main_arg2) = m ((c.tc : Thread Cert.MatNormIdeal.nD Cert.MatNormIdeal.τ).loc Cert.MatNormIdeal.main_arg2)
      ∧ m' ((c.tc : Thread Cert.MatNormRefIdeal.nD Cert.MatNormRefIdeal.τ).loc Cert.MatNormRefIdeal.main_arg3) = m ((c.tc : Thread Cert.MatNormIdeal.nD Cert.MatNormIdeal.τ).loc Cert.MatNormIdeal.main_arg3)
      ∧ m' ((c.tc : Thread Cert.MatNormRefIdeal.nD Cert.MatNormRefIdeal.τ).loc Cert.MatNormRefIdeal.main_arg4) = m ((c.tc : Thread Cert.MatNormIdeal.nD Cert.MatNormIdeal.τ).loc Cert.MatNormIdeal.main_arg4)) →
    ∃ (v0 : (c : Dev Cert.MatNormIdeal.nD) → Buf (Elt Ideal) ((c.tc : Thread Cert.MatNormIdeal.nD Cert.MatNormIdeal.τ).loc Cert.MatNormIdeal.main_v3_0)) (v1 : (c : Dev Cert.MatNormIdeal.nD) → Buf (Elt Ideal) ((c.tc : Thread Cert.MatNormIdeal.nD Cert.MatNormIdeal.τ).loc Cert.MatNormIdeal.main_v3_1)),
      θ_run (Cert.MatNormIdeal.defs (F := Ideal)) (onTc (τ := Cert.MatNormIdeal.τ) (Cert.MatNormIdeal.main (F := Ideal))) ⟨m, fun _ => 0, g⟩ (fun r => ∀ c : Dev Cert.MatNormIdeal.nD,
          r.2.mem ((c.tc : Thread Cert.MatNormIdeal.nD Cert.MatNormIdeal.τ).loc Cert.MatNormIdeal.main_v3_0) = v0 c
          ∧ r.2.mem ((c.tc : Thread Cert.MatNormIdeal.nD Cert.MatNormIdeal.τ).loc Cert.MatNormIdeal.main_v3_1) = v1 c
          ∧ r.2.mem ((c.tc : Thread Cert.MatNormIdeal.nD Cert.MatNormIdeal.τ).loc Cert.MatNormIdeal.main_arg0) = m ((c.tc : Thread Cert.MatNormIdeal.nD Cert.MatNormIdeal.τ).loc Cert.MatNormIdeal.main_arg0)
          ∧ r.2.mem ((c.tc : Thread Cert.MatNormIdeal.nD Cert.MatNormIdeal.τ).loc Cert.MatNormIdeal.main_arg1) = m ((c.tc : Thread Cert.MatNormIdeal.nD Cert.MatNormIdeal.τ).loc Cert.MatNormIdeal.main_arg1)
          ∧ r.2.mem ((c.tc : Thread Cert.MatNormIdeal.nD Cert.MatNormIdeal.τ).loc Cert.MatNormIdeal.main_arg2) = m ((c.tc : Thread Cert.MatNormIdeal.nD Cert.MatNormIdeal.τ).loc Cert.MatNormIdeal.main_arg2)
          ∧ r.2.mem ((c.tc : Thread Cert.MatNormIdeal.nD Cert.MatNormIdeal.τ).loc Cert.MatNormIdeal.main_arg3) = m ((c.tc : Thread Cert.MatNormIdeal.nD Cert.MatNormIdeal.τ).loc Cert.MatNormIdeal.main_arg3)
          ∧ r.2.mem ((c.tc : Thread Cert.MatNormIdeal.nD Cert.MatNormIdeal.τ).loc Cert.MatNormIdeal.main_arg4) = m ((c.tc : Thread Cert.MatNormIdeal.nD Cert.MatNormIdeal.τ).loc Cert.MatNormIdeal.main_arg4))
      ∧ θ_run (Cert.MatNormRefIdeal.defs (F := Ideal)) (onTc (τ := Cert.MatNormRefIdeal.τ) (Cert.MatNormRefIdeal.main (F := Ideal))) ⟨m', fun _ => 0, g'⟩ (fun r => ∀ c : Dev Cert.MatNormRefIdeal.nD,
          r.2.mem ((c.tc : Thread Cert.MatNormRefIdeal.nD Cert.MatNormRefIdeal.τ).loc Cert.MatNormRefIdeal.main_v38) = v0 c
          ∧ r.2.mem ((c.tc : Thread Cert.MatNormRefIdeal.nD Cert.MatNormRefIdeal.τ).loc Cert.MatNormRefIdeal.main_v39) = v1 c
          ∧ r.2.mem ((c.tc : Thread Cert.MatNormRefIdeal.nD Cert.MatNormRefIdeal.τ).loc Cert.MatNormRefIdeal.main_arg0) = m' ((c.tc : Thread Cert.MatNormRefIdeal.nD Cert.MatNormRefIdeal.τ).loc Cert.MatNormRefIdeal.main_arg0)
          ∧ r.2.mem ((c.tc : Thread Cert.MatNormRefIdeal.nD Cert.MatNormRefIdeal.τ).loc Cert.MatNormRefIdeal.main_arg1) = m' ((c.tc : Thread Cert.MatNormRefIdeal.nD Cert.MatNormRefIdeal.τ).loc Cert.MatNormRefIdeal.main_arg1)
          ∧ r.2.mem ((c.tc : Thread Cert.MatNormRefIdeal.nD Cert.MatNormRefIdeal.τ).loc Cert.MatNormRefIdeal.main_arg2) = m' ((c.tc : Thread Cert.MatNormRefIdeal.nD Cert.MatNormRefIdeal.τ).loc Cert.MatNormRefIdeal.main_arg2)
          ∧ r.2.mem ((c.tc : Thread Cert.MatNormRefIdeal.nD Cert.MatNormRefIdeal.τ).loc Cert.MatNormRefIdeal.main_arg3) = m' ((c.tc : Thread Cert.MatNormRefIdeal.nD Cert.MatNormRefIdeal.τ).loc Cert.MatNormRefIdeal.main_arg3)
          ∧ r.2.mem ((c.tc : Thread Cert.MatNormRefIdeal.nD Cert.MatNormRefIdeal.τ).loc Cert.MatNormRefIdeal.main_arg4) = m' ((c.tc : Thread Cert.MatNormRefIdeal.nD Cert.MatNormRefIdeal.τ).loc Cert.MatNormRefIdeal.main_arg4))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)
      ∧ m' ((c.tc : Thread Cert.ReluRefIdeal.nD Cert.ReluRefIdeal.τ).loc Cert.ReluRefIdeal.main_arg3) = m ((c.tc : Thread Cert.ReluIdeal.nD Cert.ReluIdeal.τ).loc Cert.ReluIdeal.main_arg3)) →
    ∃ (v0 : (c : Dev Cert.ReluIdeal.nD) → Buf (Elt Ideal) ((c.tc : Thread Cert.ReluIdeal.nD Cert.ReluIdeal.τ).loc Cert.ReluIdeal.main_v7)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v7) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
          ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v13) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2)
          ∧ r.2.mem ((c.tc : Thread Cert.ReluRefIdeal.nD Cert.ReluRefIdeal.τ).loc Cert.ReluRefIdeal.main_arg3) = m' ((c.tc : Thread Cert.ReluRefIdeal.nD Cert.ReluRefIdeal.τ).loc Cert.ReluRefIdeal.main_arg3))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v28_0)) (v1 : (c : Dev Cert.QProjIdeal.nD) → Buf (Elt Ideal) ((c.tc : Thread Cert.QProjIdeal.nD Cert.QProjIdeal.τ).loc Cert.QProjIdeal.main_v28_1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v28_0) = v0 c
          ∧ r.2.mem ((c.tc : Thread Cert.QProjIdeal.nD Cert.QProjIdeal.τ).loc Cert.QProjIdeal.main_v28_1) = v1 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v64) = v0 c
          ∧ r.2.mem ((c.tc : Thread Cert.QProjRefIdeal.nD Cert.QProjRefIdeal.τ).loc Cert.QProjRefIdeal.main_v66) = v1 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)) →
    ∃ (v0 : (c : Dev Cert.KvProjIdeal.nD) → Buf (Elt Ideal) ((c.tc : Thread Cert.KvProjIdeal.nD Cert.KvProjIdeal.τ).loc Cert.KvProjIdeal.main_v12_0)) (v1 : (c : Dev Cert.KvProjIdeal.nD) → Buf (Elt Ideal) ((c.tc : Thread Cert.KvProjIdeal.nD Cert.KvProjIdeal.τ).loc Cert.KvProjIdeal.main_v12_1)) (v2 : (c : Dev Cert.KvProjIdeal.nD) → Buf (Elt Ideal) ((c.tc : Thread Cert.KvProjIdeal.nD Cert.KvProjIdeal.τ).loc Cert.KvProjIdeal.main_v12_2)) (v3 : (c : Dev Cert.KvProjIdeal.nD) → Buf (Elt Ideal) ((c.tc : Thread Cert.KvProjIdeal.nD Cert.KvProjIdeal.τ).loc Cert.KvProjIdeal.main_v12_3)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v12_0) = v0 c
          ∧ r.2.mem ((c.tc : Thread Cert.KvProjIdeal.nD Cert.KvProjIdeal.τ).loc Cert.KvProjIdeal.main_v12_1) = v1 c
          ∧ r.2.mem ((c.tc : Thread Cert.KvProjIdeal.nD Cert.KvProjIdeal.τ).loc Cert.KvProjIdeal.main_v12_2) = v2 c
          ∧ r.2.mem ((c.tc : Thread Cert.KvProjIdeal.nD Cert.KvProjIdeal.τ).loc Cert.KvProjIdeal.main_v12_3) = v3 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v19) = v0 c
          ∧ r.2.mem ((c.tc : Thread Cert.KvProjRefIdeal.nD Cert.KvProjRefIdeal.τ).loc Cert.KvProjRefIdeal.main_v22) = v1 c
          ∧ r.2.mem ((c.tc : Thread Cert.KvProjRefIdeal.nD Cert.KvProjRefIdeal.τ).loc Cert.KvProjRefIdeal.main_v23) = v2 c
          ∧ r.2.mem ((c.tc : Thread Cert.KvProjRefIdeal.nD Cert.KvProjRefIdeal.τ).loc Cert.KvProjRefIdeal.main_v25) = v3 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)) (v2 : (c : Dev Cert.OProjIdeal.nD) → Buf (Elt Ideal) ((c.tc : Thread Cert.OProjIdeal.nD Cert.OProjIdeal.τ).loc Cert.OProjIdeal.main_v4_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_v4_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v10) = v0 c
          ∧ r.2.mem ((c.tc : Thread Cert.OProjRefIdeal.nD Cert.OProjRefIdeal.τ).loc Cert.OProjRefIdeal.main_v12) = v1 c
          ∧ r.2.mem ((c.tc : Thread Cert.OProjRefIdeal.nD Cert.OProjRefIdeal.τ).loc Cert.OProjRefIdeal.main_v13) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2))

def preserves_Flash_FlashIdeal : Prop :=
  IdealRules.named_const.Statement Cert.FlashIdeal.κ "log2e" .f32 0x3FB8AA3B#32 (((Real.log 2)⁻¹ : ℝ) : EReal)
  ∧ IdealRules.named_const.Statement Cert.FlashIdeal.κ "c" .f32 0x3E16C740#32 (((3424635 / 33554432) * (Real.log 2)⁻¹ : ℝ) : EReal)
  ∧ IdealRules.named_const.Statement Cert.FlashIdeal.κ "mask" .f32 0xF149F2CA#32 ⊥

def algebraic_FlashIdeal_FlashRefIdeal_pre_finite_qkvc [hFlashIdeal : Cert.FlashIdeal.Facts] [hFlashRefIdeal : Cert.FlashRefIdeal.Facts] [hPre_finite_qkvc : Cert.Pre_finite_qkvc.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_qkvc m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v39_0)) (v1 : (c : Dev Cert.FlashIdeal.nD) → Buf (Elt Ideal) ((c.tc : Thread Cert.FlashIdeal.nD Cert.FlashIdeal.τ).loc Cert.FlashIdeal.main_v39_1)) (v2 : (c : Dev Cert.FlashIdeal.nD) → Buf (Elt Ideal) ((c.tc : Thread Cert.FlashIdeal.nD Cert.FlashIdeal.τ).loc Cert.FlashIdeal.main_v39_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v39_0) = v0 c
          ∧ r.2.mem ((c.tc : Thread Cert.FlashIdeal.nD Cert.FlashIdeal.τ).loc Cert.FlashIdeal.main_v39_1) = v1 c
          ∧ r.2.mem ((c.tc : Thread Cert.FlashIdeal.nD Cert.FlashIdeal.τ).loc Cert.FlashIdeal.main_v39_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v64) = v0 c
          ∧ r.2.mem ((c.tc : Thread Cert.FlashRefIdeal.nD Cert.FlashRefIdeal.τ).loc Cert.FlashRefIdeal.main_v66) = v1 c
          ∧ r.2.mem ((c.tc : Thread Cert.FlashRefIdeal.nD Cert.FlashRefIdeal.τ).loc Cert.FlashRefIdeal.main_v68) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Fwd_FwdIdeal : Prop :=
  IdealRules.named_const.Statement Cert.FwdIdeal.κ "mask" .f32 0xF149F2CA#32 ⊥
  ∧ IdealRules.named_const.Statement Cert.FwdIdeal.κ "c" .f32 0x3E16C740#32 (((3424635 / 33554432) * (Real.log 2)⁻¹ : ℝ) : EReal)

def algebraic_FwdIdeal_FwdRefIdeal_pre_finite_qkv [hFwdIdeal : Cert.FwdIdeal.Facts] [hFwdRefIdeal : Cert.FwdRefIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qkv m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v16_0)) (v1 : (c : Dev Cert.FwdIdeal.nD) → Buf (Elt Ideal) ((c.tc : Thread Cert.FwdIdeal.nD Cert.FwdIdeal.τ).loc Cert.FwdIdeal.main_v16_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v16_0) = v0 c
          ∧ r.2.mem ((c.tc : Thread Cert.FwdIdeal.nD Cert.FwdIdeal.τ).loc Cert.FwdIdeal.main_v16_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v30) = v0 c
          ∧ r.2.mem ((c.tc : Thread Cert.FwdRefIdeal.nD Cert.FwdRefIdeal.τ).loc Cert.FwdRefIdeal.main_v33) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Halo_HaloIdeal : Prop :=
  True

def algebraic_HaloIdeal_HaloRefIdeal [hHaloIdeal : Cert.HaloIdeal.Facts] [hHaloRefIdeal : Cert.HaloRefIdeal.Facts] : Prop :=
  ∀ (m : (ℓ : Loc Cert.HaloIdeal.nD Cert.HaloIdeal.τ Cert.HaloIdeal.sig) → Buf (Elt Ideal) ℓ) (g : Dev Cert.HaloIdeal.nD → PrngReg)
    (m' : (ℓ : Loc Cert.HaloRefIdeal.nD Cert.HaloRefIdeal.τ Cert.HaloRefIdeal.sig) → Buf (Elt Ideal) ℓ) (g' : Dev Cert.HaloRefIdeal.nD → PrngReg), Pre_HaloIdeal m →
    (∀ c : Dev Cert.HaloIdeal.nD,
      m' ((c.tc : Thread Cert.HaloRefIdeal.nD Cert.HaloRefIdeal.τ).loc Cert.HaloRefIdeal.main_arg0) = m ((c.tc : Thread Cert.HaloIdeal.nD Cert.HaloIdeal.τ).loc Cert.HaloIdeal.main_arg0)
      ∧ m' ((c.tc : Thread Cert.HaloRefIdeal.nD Cert.HaloRefIdeal.τ).loc Cert.HaloRefIdeal.main_arg1) = m ((c.tc : Thread Cert.HaloIdeal.nD Cert.HaloIdeal.τ).loc Cert.HaloIdeal.main_arg1)) →
    ∃ (v0 : (c : Dev Cert.HaloIdeal.nD) → Buf (Elt Ideal) ((c.tc : Thread Cert.HaloIdeal.nD Cert.HaloIdeal.τ).loc Cert.HaloIdeal.main_v3)),
      θ_run (Cert.HaloIdeal.defs (F := Ideal)) (onTc (τ := Cert.HaloIdeal.τ) (Cert.HaloIdeal.main (F := Ideal))) ⟨m, fun _ => 0, g⟩ (fun r => ∀ c : Dev Cert.HaloIdeal.nD,
          r.2.mem ((c.tc : Thread Cert.HaloIdeal.nD Cert.HaloIdeal.τ).loc Cert.HaloIdeal.main_v3) = v0 c
          ∧ r.2.mem ((c.tc : Thread Cert.HaloIdeal.nD Cert.HaloIdeal.τ).loc Cert.HaloIdeal.main_arg0) = m ((c.tc : Thread Cert.HaloIdeal.nD Cert.HaloIdeal.τ).loc Cert.HaloIdeal.main_arg0)
          ∧ r.2.mem ((c.tc : Thread Cert.HaloIdeal.nD Cert.HaloIdeal.τ).loc Cert.HaloIdeal.main_arg1) = m ((c.tc : Thread Cert.HaloIdeal.nD Cert.HaloIdeal.τ).loc Cert.HaloIdeal.main_arg1))
      ∧ θ_run (Cert.HaloRefIdeal.defs (F := Ideal)) (onTc (τ := Cert.HaloRefIdeal.τ) (Cert.HaloRefIdeal.main (F := Ideal))) ⟨m', fun _ => 0, g'⟩ (fun r => ∀ c : Dev Cert.HaloRefIdeal.nD,
          r.2.mem ((c.tc : Thread Cert.HaloRefIdeal.nD Cert.HaloRefIdeal.τ).loc Cert.HaloRefIdeal.main_v17) = v0 c
          ∧ r.2.mem ((c.tc : Thread Cert.HaloRefIdeal.nD Cert.HaloRefIdeal.τ).loc Cert.HaloRefIdeal.main_arg0) = m' ((c.tc : Thread Cert.HaloRefIdeal.nD Cert.HaloRefIdeal.τ).loc Cert.HaloRefIdeal.main_arg0)
          ∧ r.2.mem ((c.tc : Thread Cert.HaloRefIdeal.nD Cert.HaloRefIdeal.τ).loc Cert.HaloRefIdeal.main_arg1) = m' ((c.tc : Thread Cert.HaloRefIdeal.nD Cert.HaloRefIdeal.τ).loc Cert.HaloRefIdeal.main_arg1))

def preserves_Band_BandIdeal : Prop :=
  IdealRules.named_const.Statement Cert.BandIdeal.κ "mask" .f32 0xF149F2CA#32 ⊥

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_QFwd_QFwdIdeal : Prop :=
  True

def algebraic_QFwdIdeal_QFwdRefIdeal [hQFwdIdeal : Cert.QFwdIdeal.Facts] [hQFwdRefIdeal : Cert.QFwdRefIdeal.Facts] : Prop :=
  ∀ (m : (ℓ : Loc Cert.QFwdIdeal.nD Cert.QFwdIdeal.τ Cert.QFwdIdeal.sig) → Buf (Elt Ideal) ℓ) (g : Dev Cert.QFwdIdeal.nD → PrngReg)
    (m' : (ℓ : Loc Cert.QFwdRefIdeal.nD Cert.QFwdRefIdeal.τ Cert.QFwdRefIdeal.sig) → Buf (Elt Ideal) ℓ) (g' : Dev Cert.QFwdRefIdeal.nD → PrngReg), Pre_QFwdIdeal m →
    (∀ c : Dev Cert.QFwdIdeal.nD,
      m' ((c.tc : Thread Cert.QFwdRefIdeal.nD Cert.QFwdRefIdeal.τ).loc Cert.QFwdRefIdeal.main_arg0) = m ((c.tc : Thread Cert.QFwdIdeal.nD Cert.QFwdIdeal.τ).loc Cert.QFwdIdeal.main_arg0)
      ∧ m' ((c.tc : Thread Cert.QFwdRefIdeal.nD Cert.QFwdRefIdeal.τ).loc Cert.QFwdRefIdeal.main_arg1) = m ((c.tc : Thread Cert.QFwdIdeal.nD Cert.QFwdIdeal.τ).loc Cert.QFwdIdeal.main_arg1)) →
    ∃ (v0 : (c : Dev Cert.QFwdIdeal.nD) → Buf (Elt Ideal) ((c.tc : Thread Cert.QFwdIdeal.nD Cert.QFwdIdeal.τ).loc Cert.QFwdIdeal.main_v26)),
      θ_run (Cert.QFwdIdeal.defs (F := Ideal)) (onTc (τ := Cert.QFwdIdeal.τ) (Cert.QFwdIdeal.main (F := Ideal))) ⟨m, fun _ => 0, g⟩ (fun r => ∀ c : Dev Cert.QFwdIdeal.nD,
          r.2.mem ((c.tc : Thread Cert.QFwdIdeal.nD Cert.QFwdIdeal.τ).loc Cert.QFwdIdeal.main_v26) = v0 c
          ∧ r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
          ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1))
      ∧ θ_run (Cert.QFwdRefIdeal.defs (F := Ideal)) (onTc (τ := Cert.QFwdRefIdeal.τ) (Cert.QFwdRefIdeal.main (F := Ideal))) ⟨m', fun _ => 0, g'⟩ (fun r => ∀ c : Dev Cert.QFwdRefIdeal.nD,
          r.2.mem ((c.tc : Thread Cert.QFwdRefIdeal.nD Cert.QFwdRefIdeal.τ).loc Cert.QFwdRefIdeal.main_v41) = v0 c
          ∧ r.2.mem ((c.tc : Thread Cert.QFwdRefIdeal.nD Cert.QFwdRefIdeal.τ).loc Cert.QFwdRefIdeal.main_arg0) = m' ((c.tc : Thread Cert.QFwdRefIdeal.nD Cert.QFwdRefIdeal.τ).loc Cert.QFwdRefIdeal.main_arg0)
          ∧ r.2.mem ((c.tc : Thread Cert.QFwdRefIdeal.nD Cert.QFwdRefIdeal.τ).loc Cert.QFwdRefIdeal.main_arg1) = m' ((c.tc : Thread Cert.QFwdRefIdeal.nD Cert.QFwdRefIdeal.τ).loc Cert.QFwdRefIdeal.main_arg1))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)) →
    ∃ (v0 : (c : Dev Cert.KvFwdIdeal.nD) → Buf (Elt Ideal) ((c.tc : Thread Cert.KvFwdIdeal.nD Cert.KvFwdIdeal.τ).loc Cert.KvFwdIdeal.main_v41_0)) (v1 : (c : Dev Cert.KvFwdIdeal.nD) → Buf (Elt Ideal) ((c.tc : Thread Cert.KvFwdIdeal.nD Cert.KvFwdIdeal.τ).loc Cert.KvFwdIdeal.main_v41_1)) (v2 : (c : Dev Cert.KvFwdIdeal.nD) → Buf (Elt Ideal) ((c.tc : Thread Cert.KvFwdIdeal.nD Cert.KvFwdIdeal.τ).loc Cert.KvFwdIdeal.main_v41_2)) (v3 : (c : Dev Cert.KvFwdIdeal.nD) → Buf (Elt Ideal) ((c.tc : Thread Cert.KvFwdIdeal.nD Cert.KvFwdIdeal.τ).loc Cert.KvFwdIdeal.main_v41_3)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v41_0) = v0 c
          ∧ r.2.mem ((c.tc : Thread Cert.KvFwdIdeal.nD Cert.KvFwdIdeal.τ).loc Cert.KvFwdIdeal.main_v41_1) = v1 c
          ∧ r.2.mem ((c.tc : Thread Cert.KvFwdIdeal.nD Cert.KvFwdIdeal.τ).loc Cert.KvFwdIdeal.main_v41_2) = v2 c
          ∧ r.2.mem ((c.tc : Thread Cert.KvFwdIdeal.nD Cert.KvFwdIdeal.τ).loc Cert.KvFwdIdeal.main_v41_3) = v3 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v45) = v0 c
          ∧ r.2.mem ((c.tc : Thread Cert.KvFwdRefIdeal.nD Cert.KvFwdRefIdeal.τ).loc Cert.KvFwdRefIdeal.main_v49) = v1 c
          ∧ r.2.mem ((c.tc : Thread Cert.KvFwdRefIdeal.nD Cert.KvFwdRefIdeal.τ).loc Cert.KvFwdRefIdeal.main_v51) = v2 c
          ∧ r.2.mem ((c.tc : Thread Cert.KvFwdRefIdeal.nD Cert.KvFwdRefIdeal.τ).loc Cert.KvFwdRefIdeal.main_v53) = v3 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2))

def preserves_ReluFwd_ReluFwdIdeal : Prop :=
  True

def algebraic_ReluFwdIdeal_ReluFwdRefIdeal [hReluFwdIdeal : Cert.ReluFwdIdeal.Facts] [hReluFwdRefIdeal : Cert.ReluFwdRefIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg)
    (m' : (ℓ : Loc Cert.ReluFwdRefIdeal.nD Cert.ReluFwdRefIdeal.τ Cert.ReluFwdRefIdeal.sig) → Buf (Elt Ideal) ℓ) (g' : Dev Cert.ReluFwdRefIdeal.nD → PrngReg), Pre_ReluFwdIdeal m →
    (∀ c : Dev Cert.ReluFwdIdeal.nD,
      m' ((c.tc : Thread Cert.ReluFwdRefIdeal.nD Cert.ReluFwdRefIdeal.τ).loc Cert.ReluFwdRefIdeal.main_arg0) = m ((c.tc : Thread Cert.ReluFwdIdeal.nD Cert.ReluFwdIdeal.τ).loc Cert.ReluFwdIdeal.main_arg0)
      ∧ m' ((c.tc : Thread Cert.ReluFwdRefIdeal.nD Cert.ReluFwdRefIdeal.τ).loc Cert.ReluFwdRefIdeal.main_arg1) = m ((c.tc : Thread Cert.ReluFwdIdeal.nD Cert.ReluFwdIdeal.τ).loc Cert.ReluFwdIdeal.main_arg1)) →
    ∃ (v0 : (c : Dev Cert.ReluFwdIdeal.nD) → Buf (Elt Ideal) ((c.tc : Thread Cert.ReluFwdIdeal.nD Cert.ReluFwdIdeal.τ).loc Cert.ReluFwdIdeal.main_v2_0)) (v1 : (c : Dev Cert.ReluFwdIdeal.nD) → Buf (Elt Ideal) ((c.tc : Thread Cert.ReluFwdIdeal.nD Cert.ReluFwdIdeal.τ).loc Cert.ReluFwdIdeal.main_v2_1)),
      θ_run (Cert.ReluFwdIdeal.defs (F := Ideal)) (onTc (τ := Cert.ReluFwdIdeal.τ) (Cert.ReluFwdIdeal.main (F := Ideal))) ⟨m, fun _ => 0, g⟩ (fun r => ∀ c : Dev Cert.ReluFwdIdeal.nD,
          r.2.mem ((c.tc : Thread Cert.ReluFwdIdeal.nD Cert.ReluFwdIdeal.τ).loc Cert.ReluFwdIdeal.main_v2_0) = v0 c
          ∧ r.2.mem ((c.tc : Thread Cert.ReluFwdIdeal.nD Cert.ReluFwdIdeal.τ).loc Cert.ReluFwdIdeal.main_v2_1) = v1 c
          ∧ r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
          ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1))
      ∧ θ_run (Cert.ReluFwdRefIdeal.defs (F := Ideal)) (onTc (τ := Cert.ReluFwdRefIdeal.τ) (Cert.ReluFwdRefIdeal.main (F := Ideal))) ⟨m', fun _ => 0, g'⟩ (fun r => ∀ c : Dev Cert.ReluFwdRefIdeal.nD,
          r.2.mem ((c.tc : Thread Cert.ReluFwdRefIdeal.nD Cert.ReluFwdRefIdeal.τ).loc Cert.ReluFwdRefIdeal.main_v6) = v0 c
          ∧ r.2.mem ((c.tc : Thread Cert.ReluFwdRefIdeal.nD Cert.ReluFwdRefIdeal.τ).loc Cert.ReluFwdRefIdeal.main_v13) = v1 c
          ∧ r.2.mem ((c.tc : Thread Cert.ReluFwdRefIdeal.nD Cert.ReluFwdRefIdeal.τ).loc Cert.ReluFwdRefIdeal.main_arg0) = m' ((c.tc : Thread Cert.ReluFwdRefIdeal.nD Cert.ReluFwdRefIdeal.τ).loc Cert.ReluFwdRefIdeal.main_arg0)
          ∧ r.2.mem ((c.tc : Thread Cert.ReluFwdRefIdeal.nD Cert.ReluFwdRefIdeal.τ).loc Cert.ReluFwdRefIdeal.main_arg1) = m' ((c.tc : Thread Cert.ReluFwdRefIdeal.nD Cert.ReluFwdRefIdeal.τ).loc Cert.ReluFwdRefIdeal.main_arg1))

def preserves_OFwd_OFwdIdeal : Prop :=
  True

def algebraic_OFwdIdeal_OFwdRefIdeal [hOFwdIdeal : Cert.OFwdIdeal.Facts] [hOFwdRefIdeal : Cert.OFwdRefIdeal.Facts] : Prop :=
  ∀ (m : (ℓ : Loc Cert.OFwdIdeal.nD Cert.OFwdIdeal.τ Cert.OFwdIdeal.sig) → Buf (Elt Ideal) ℓ) (g : Dev Cert.OFwdIdeal.nD → PrngReg)
    (m' : (ℓ : Loc Cert.OFwdRefIdeal.nD Cert.OFwdRefIdeal.τ Cert.OFwdRefIdeal.sig) → Buf (Elt Ideal) ℓ) (g' : Dev Cert.OFwdRefIdeal.nD → PrngReg), Pre_OFwdIdeal m →
    (∀ c : Dev Cert.OFwdIdeal.nD,
      m' ((c.tc : Thread Cert.OFwdRefIdeal.nD Cert.OFwdRefIdeal.τ).loc Cert.OFwdRefIdeal.main_arg0) = m ((c.tc : Thread Cert.OFwdIdeal.nD Cert.OFwdIdeal.τ).loc Cert.OFwdIdeal.main_arg0)
      ∧ m' ((c.tc : Thread Cert.OFwdRefIdeal.nD Cert.OFwdRefIdeal.τ).loc Cert.OFwdRefIdeal.main_arg1) = m ((c.tc : Thread Cert.OFwdIdeal.nD Cert.OFwdIdeal.τ).loc Cert.OFwdIdeal.main_arg1)
      ∧ m' ((c.tc : Thread Cert.OFwdRefIdeal.nD Cert.OFwdRefIdeal.τ).loc Cert.OFwdRefIdeal.main_arg2) = m ((c.tc : Thread Cert.OFwdIdeal.nD Cert.OFwdIdeal.τ).loc Cert.OFwdIdeal.main_arg2)) →
    ∃ (v0 : (c : Dev Cert.OFwdIdeal.nD) → Buf (Elt Ideal) ((c.tc : Thread Cert.OFwdIdeal.nD Cert.OFwdIdeal.τ).loc Cert.OFwdIdeal.main_v4)),
      θ_run (Cert.OFwdIdeal.defs (F := Ideal)) (onTc (τ := Cert.OFwdIdeal.τ) (Cert.OFwdIdeal.main (F := Ideal))) ⟨m, fun _ => 0, g⟩ (fun r => ∀ c : Dev Cert.OFwdIdeal.nD,
          r.2.mem ((c.tc : Thread Cert.OFwdIdeal.nD Cert.OFwdIdeal.τ).loc Cert.OFwdIdeal.main_v4) = v0 c
          ∧ r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
          ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
          ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ θ_run (Cert.OFwdRefIdeal.defs (F := Ideal)) (onTc (τ := Cert.OFwdRefIdeal.τ) (Cert.OFwdRefIdeal.main (F := Ideal))) ⟨m', fun _ => 0, g'⟩ (fun r => ∀ c : Dev Cert.OFwdRefIdeal.nD,
          r.2.mem ((c.tc : Thread Cert.OFwdRefIdeal.nD Cert.OFwdRefIdeal.τ).loc Cert.OFwdRefIdeal.main_v2) = v0 c
          ∧ r.2.mem ((c.tc : Thread Cert.OFwdRefIdeal.nD Cert.OFwdRefIdeal.τ).loc Cert.OFwdRefIdeal.main_arg0) = m' ((c.tc : Thread Cert.OFwdRefIdeal.nD Cert.OFwdRefIdeal.τ).loc Cert.OFwdRefIdeal.main_arg0)
          ∧ r.2.mem ((c.tc : Thread Cert.OFwdRefIdeal.nD Cert.OFwdRefIdeal.τ).loc Cert.OFwdRefIdeal.main_arg1) = m' ((c.tc : Thread Cert.OFwdRefIdeal.nD Cert.OFwdRefIdeal.τ).loc Cert.OFwdRefIdeal.main_arg1)
          ∧ r.2.mem ((c.tc : Thread Cert.OFwdRefIdeal.nD Cert.OFwdRefIdeal.τ).loc Cert.OFwdRefIdeal.main_arg2) = m' ((c.tc : Thread Cert.OFwdRefIdeal.nD Cert.OFwdRefIdeal.τ).loc Cert.OFwdRefIdeal.main_arg2))

def preserves_AddFwd_AddFwdIdeal : Prop :=
  True

def algebraic_AddFwdIdeal_AddFwdRefIdeal [hAddFwdIdeal : Cert.AddFwdIdeal.Facts] [hAddFwdRefIdeal : Cert.AddFwdRefIdeal.Facts] : Prop :=
  ∀ (m : (ℓ : Loc Cert.AddFwdIdeal.nD Cert.AddFwdIdeal.τ Cert.AddFwdIdeal.sig) → Buf (Elt Ideal) ℓ) (g : Dev Cert.AddFwdIdeal.nD → PrngReg)
    (m' : (ℓ : Loc Cert.AddFwdRefIdeal.nD Cert.AddFwdRefIdeal.τ Cert.AddFwdRefIdeal.sig) → Buf (Elt Ideal) ℓ) (g' : Dev Cert.AddFwdRefIdeal.nD → PrngReg), Pre_AddFwdIdeal m →
    (∀ c : Dev Cert.AddFwdIdeal.nD,
      m' ((c.tc : Thread Cert.AddFwdRefIdeal.nD Cert.AddFwdRefIdeal.τ).loc Cert.AddFwdRefIdeal.main_arg0) = m ((c.tc : Thread Cert.AddFwdIdeal.nD Cert.AddFwdIdeal.τ).loc Cert.AddFwdIdeal.main_arg0)
      ∧ m' ((c.tc : Thread Cert.AddFwdRefIdeal.nD Cert.AddFwdRefIdeal.τ).loc Cert.AddFwdRefIdeal.main_arg1) = m ((c.tc : Thread Cert.AddFwdIdeal.nD Cert.AddFwdIdeal.τ).loc Cert.AddFwdIdeal.main_arg1)
      ∧ m' ((c.tc : Thread Cert.AddFwdRefIdeal.nD Cert.AddFwdRefIdeal.τ).loc Cert.AddFwdRefIdeal.main_arg2) = m ((c.tc : Thread Cert.AddFwdIdeal.nD Cert.AddFwdIdeal.τ).loc Cert.AddFwdIdeal.main_arg2)) →
    ∃ (v0 : (c : Dev Cert.AddFwdIdeal.nD) → Buf (Elt Ideal) ((c.tc : Thread Cert.AddFwdIdeal.nD Cert.AddFwdIdeal.τ).loc Cert.AddFwdIdeal.main_v2)),
      θ_run (Cert.AddFwdIdeal.defs (F := Ideal)) (onTc (τ := Cert.AddFwdIdeal.τ) (Cert.AddFwdIdeal.main (F := Ideal))) ⟨m, fun _ => 0, g⟩ (fun r => ∀ c : Dev Cert.AddFwdIdeal.nD,
          r.2.mem ((c.tc : Thread Cert.AddFwdIdeal.nD Cert.AddFwdIdeal.τ).loc Cert.AddFwdIdeal.main_v2) = v0 c
          ∧ r.2.mem ((c.tc : Thread Cert.AddFwdIdeal.nD Cert.AddFwdIdeal.τ).loc Cert.AddFwdIdeal.main_arg0) = m ((c.tc : Thread Cert.AddFwdIdeal.nD Cert.AddFwdIdeal.τ).loc Cert.AddFwdIdeal.main_arg0)
          ∧ r.2.mem ((c.tc : Thread Cert.AddFwdIdeal.nD Cert.AddFwdIdeal.τ).loc Cert.AddFwdIdeal.main_arg1) = m ((c.tc : Thread Cert.AddFwdIdeal.nD Cert.AddFwdIdeal.τ).loc Cert.AddFwdIdeal.main_arg1)
          ∧ r.2.mem ((c.tc : Thread Cert.AddFwdIdeal.nD Cert.AddFwdIdeal.τ).loc Cert.AddFwdIdeal.main_arg2) = m ((c.tc : Thread Cert.AddFwdIdeal.nD Cert.AddFwdIdeal.τ).loc Cert.AddFwdIdeal.main_arg2))
      ∧ θ_run (Cert.AddFwdRefIdeal.defs (F := Ideal)) (onTc (τ := Cert.AddFwdRefIdeal.τ) (Cert.AddFwdRefIdeal.main (F := Ideal))) ⟨m', fun _ => 0, g'⟩ (fun r => ∀ c : Dev Cert.AddFwdRefIdeal.nD,
          r.2.mem ((c.tc : Thread Cert.AddFwdRefIdeal.nD Cert.AddFwdRefIdeal.τ).loc Cert.AddFwdRefIdeal.main_v1) = v0 c
          ∧ r.2.mem ((c.tc : Thread Cert.AddFwdRefIdeal.nD Cert.AddFwdRefIdeal.τ).loc Cert.AddFwdRefIdeal.main_arg0) = m' ((c.tc : Thread Cert.AddFwdRefIdeal.nD Cert.AddFwdRefIdeal.τ).loc Cert.AddFwdRefIdeal.main_arg0)
          ∧ r.2.mem ((c.tc : Thread Cert.AddFwdRefIdeal.nD Cert.AddFwdRefIdeal.τ).loc Cert.AddFwdRefIdeal.main_arg1) = m' ((c.tc : Thread Cert.AddFwdRefIdeal.nD Cert.AddFwdRefIdeal.τ).loc Cert.AddFwdRefIdeal.main_arg1)
          ∧ r.2.mem ((c.tc : Thread Cert.AddFwdRefIdeal.nD Cert.AddFwdRefIdeal.τ).loc Cert.AddFwdRefIdeal.main_arg2) = m' ((c.tc : Thread Cert.AddFwdRefIdeal.nD Cert.AddFwdRefIdeal.τ).loc Cert.AddFwdRefIdeal.main_arg2))

def preserves_NormKv_NormKvIdeal : Prop :=
  True

def algebraic_NormKvIdeal_NormKvRefIdeal_pre_finite_normkv [hNormKvIdeal : Cert.NormKvIdeal.Facts] [hNormKvRefIdeal : Cert.NormKvRefIdeal.Facts] [hPre_finite_normkv : Cert.Pre_finite_normkv.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal_finite_normkv m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)
      ∧ m' ((c.tc : Thread Cert.NormKvRefIdeal.nD Cert.NormKvRefIdeal.τ).loc Cert.NormKvRefIdeal.main_arg2) = m ((c.tc : Thread Cert.NormKvIdeal.nD Cert.NormKvIdeal.τ).loc Cert.NormKvIdeal.main_arg2)) →
    ∃ (v0 : (c : Dev Cert.NormKvIdeal.nD) → Buf (Elt Ideal) ((c.tc : Thread Cert.NormKvIdeal.nD Cert.NormKvIdeal.τ).loc Cert.NormKvIdeal.main_v1_0)) (v1 : (c : Dev Cert.NormKvIdeal.nD) → Buf (Elt Ideal) ((c.tc : Thread Cert.NormKvIdeal.nD Cert.NormKvIdeal.τ).loc Cert.NormKvIdeal.main_v1_1)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v1_0) = v0 c
          ∧ r.2.mem ((c.tc : Thread Cert.NormKvIdeal.nD Cert.NormKvIdeal.τ).loc Cert.NormKvIdeal.main_v1_1) = v1 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v35) = v0 c
          ∧ r.2.mem ((c.tc : Thread Cert.NormKvRefIdeal.nD Cert.NormKvRefIdeal.τ).loc Cert.NormKvRefIdeal.main_v36) = v1 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2))

def preserves_MatNormDown_MatNormDownIdeal : Prop :=
  True

def algebraic_MatNormDownIdeal_MatNormDownRefIdeal_pre_finite_matnormdown [hMatNormDownIdeal : Cert.MatNormDownIdeal.Facts] [hMatNormDownRefIdeal : Cert.MatNormDownRefIdeal.Facts] [hPre_finite_matnormdown : Cert.Pre_finite_matnormdown.Facts] : Prop :=
  ∀ (m : (ℓ : Loc Cert.MatNormDownIdeal.nD Cert.MatNormDownIdeal.τ Cert.MatNormDownIdeal.sig) → Buf (Elt Ideal) ℓ) (g : Dev Cert.MatNormDownIdeal.nD → PrngReg)
    (m' : (ℓ : Loc Cert.MatNormDownRefIdeal.nD Cert.MatNormDownRefIdeal.τ Cert.MatNormDownRefIdeal.sig) → Buf (Elt Ideal) ℓ) (g' : Dev Cert.MatNormDownRefIdeal.nD → PrngReg), Pre_MatNormDownIdeal_finite_matnormdown m →
    (∀ c : Dev Cert.MatNormDownIdeal.nD,
      m' ((c.tc : Thread Cert.MatNormDownRefIdeal.nD Cert.MatNormDownRefIdeal.τ).loc Cert.MatNormDownRefIdeal.main_arg0) = m ((c.tc : Thread Cert.MatNormDownIdeal.nD Cert.MatNormDownIdeal.τ).loc Cert.MatNormDownIdeal.main_arg0)
      ∧ m' ((c.tc : Thread Cert.MatNormDownRefIdeal.nD Cert.MatNormDownRefIdeal.τ).loc Cert.MatNormDownRefIdeal.main_arg1) = m ((c.tc : Thread Cert.MatNormDownIdeal.nD Cert.MatNormDownIdeal.τ).loc Cert.MatNormDownIdeal.main_arg1)
      ∧ m' ((c.tc : Thread Cert.MatNormDownRefIdeal.nD Cert.MatNormDownRefIdeal.τ).loc Cert.MatNormDownRefIdeal.main_arg2) = m ((c.tc : Thread Cert.MatNormDownIdeal.nD Cert.MatNormDownIdeal.τ).loc Cert.MatNormDownIdeal.main_arg2)
      ∧ m' ((c.tc : Thread Cert.MatNormDownRefIdeal.nD Cert.MatNormDownRefIdeal.τ).loc Cert.MatNormDownRefIdeal.main_arg3) = m ((c.tc : Thread Cert.MatNormDownIdeal.nD Cert.MatNormDownIdeal.τ).loc Cert.MatNormDownIdeal.main_arg3)
      ∧ m' ((c.tc : Thread Cert.MatNormDownRefIdeal.nD Cert.MatNormDownRefIdeal.τ).loc Cert.MatNormDownRefIdeal.main_arg4) = m ((c.tc : Thread Cert.MatNormDownIdeal.nD Cert.MatNormDownIdeal.τ).loc Cert.MatNormDownIdeal.main_arg4)) →
    ∃ (v0 : (c : Dev Cert.MatNormDownIdeal.nD) → Buf (Elt Ideal) ((c.tc : Thread Cert.MatNormDownIdeal.nD Cert.MatNormDownIdeal.τ).loc Cert.MatNormDownIdeal.main_v3_0)) (v1 : (c : Dev Cert.MatNormDownIdeal.nD) → Buf (Elt Ideal) ((c.tc : Thread Cert.MatNormDownIdeal.nD Cert.MatNormDownIdeal.τ).loc Cert.MatNormDownIdeal.main_v3_1)),
      θ_run (Cert.MatNormDownIdeal.defs (F := Ideal)) (onTc (τ := Cert.MatNormDownIdeal.τ) (Cert.MatNormDownIdeal.main (F := Ideal))) ⟨m, fun _ => 0, g⟩ (fun r => ∀ c : Dev Cert.MatNormDownIdeal.nD,
          r.2.mem ((c.tc : Thread Cert.MatNormDownIdeal.nD Cert.MatNormDownIdeal.τ).loc Cert.MatNormDownIdeal.main_v3_0) = v0 c
          ∧ r.2.mem ((c.tc : Thread Cert.MatNormDownIdeal.nD Cert.MatNormDownIdeal.τ).loc Cert.MatNormDownIdeal.main_v3_1) = v1 c
          ∧ r.2.mem ((c.tc : Thread Cert.MatNormDownIdeal.nD Cert.MatNormDownIdeal.τ).loc Cert.MatNormDownIdeal.main_arg0) = m ((c.tc : Thread Cert.MatNormDownIdeal.nD Cert.MatNormDownIdeal.τ).loc Cert.MatNormDownIdeal.main_arg0)
          ∧ r.2.mem ((c.tc : Thread Cert.MatNormDownIdeal.nD Cert.MatNormDownIdeal.τ).loc Cert.MatNormDownIdeal.main_arg1) = m ((c.tc : Thread Cert.MatNormDownIdeal.nD Cert.MatNormDownIdeal.τ).loc Cert.MatNormDownIdeal.main_arg1)
          ∧ r.2.mem ((c.tc : Thread Cert.MatNormDownIdeal.nD Cert.MatNormDownIdeal.τ).loc Cert.MatNormDownIdeal.main_arg2) = m ((c.tc : Thread Cert.MatNormDownIdeal.nD Cert.MatNormDownIdeal.τ).loc Cert.MatNormDownIdeal.main_arg2)
          ∧ r.2.mem ((c.tc : Thread Cert.MatNormDownIdeal.nD Cert.MatNormDownIdeal.τ).loc Cert.MatNormDownIdeal.main_arg3) = m ((c.tc : Thread Cert.MatNormDownIdeal.nD Cert.MatNormDownIdeal.τ).loc Cert.MatNormDownIdeal.main_arg3)
          ∧ r.2.mem ((c.tc : Thread Cert.MatNormDownIdeal.nD Cert.MatNormDownIdeal.τ).loc Cert.MatNormDownIdeal.main_arg4) = m ((c.tc : Thread Cert.MatNormDownIdeal.nD Cert.MatNormDownIdeal.τ).loc Cert.MatNormDownIdeal.main_arg4))
      ∧ θ_run (Cert.MatNormDownRefIdeal.defs (F := Ideal)) (onTc (τ := Cert.MatNormDownRefIdeal.τ) (Cert.MatNormDownRefIdeal.main (F := Ideal))) ⟨m', fun _ => 0, g'⟩ (fun r => ∀ c : Dev Cert.MatNormDownRefIdeal.nD,
          r.2.mem ((c.tc : Thread Cert.MatNormDownRefIdeal.nD Cert.MatNormDownRefIdeal.τ).loc Cert.MatNormDownRefIdeal.main_v38) = v0 c
          ∧ r.2.mem ((c.tc : Thread Cert.MatNormDownRefIdeal.nD Cert.MatNormDownRefIdeal.τ).loc Cert.MatNormDownRefIdeal.main_v39) = v1 c
          ∧ r.2.mem ((c.tc : Thread Cert.MatNormDownRefIdeal.nD Cert.MatNormDownRefIdeal.τ).loc Cert.MatNormDownRefIdeal.main_arg0) = m' ((c.tc : Thread Cert.MatNormDownRefIdeal.nD Cert.MatNormDownRefIdeal.τ).loc Cert.MatNormDownRefIdeal.main_arg0)
          ∧ r.2.mem ((c.tc : Thread Cert.MatNormDownRefIdeal.nD Cert.MatNormDownRefIdeal.τ).loc Cert.MatNormDownRefIdeal.main_arg1) = m' ((c.tc : Thread Cert.MatNormDownRefIdeal.nD Cert.MatNormDownRefIdeal.τ).loc Cert.MatNormDownRefIdeal.main_arg1)
          ∧ r.2.mem ((c.tc : Thread Cert.MatNormDownRefIdeal.nD Cert.MatNormDownRefIdeal.τ).loc Cert.MatNormDownRefIdeal.main_arg2) = m' ((c.tc : Thread Cert.MatNormDownRefIdeal.nD Cert.MatNormDownRefIdeal.τ).loc Cert.MatNormDownRefIdeal.main_arg2)
          ∧ r.2.mem ((c.tc : Thread Cert.MatNormDownRefIdeal.nD Cert.MatNormDownRefIdeal.τ).loc Cert.MatNormDownRefIdeal.main_arg3) = m' ((c.tc : Thread Cert.MatNormDownRefIdeal.nD Cert.MatNormDownRefIdeal.τ).loc Cert.MatNormDownRefIdeal.main_arg3)
          ∧ r.2.mem ((c.tc : Thread Cert.MatNormDownRefIdeal.nD Cert.MatNormDownRefIdeal.τ).loc Cert.MatNormDownRefIdeal.main_arg4) = m' ((c.tc : Thread Cert.MatNormDownRefIdeal.nD Cert.MatNormDownRefIdeal.τ).loc Cert.MatNormDownRefIdeal.main_arg4))

def preserves_MatNormIn_MatNormInIdeal : Prop :=
  True

def algebraic_MatNormInIdeal_MatNormInRefIdeal_pre_finite_matnormin [hMatNormInIdeal : Cert.MatNormInIdeal.Facts] [hMatNormInRefIdeal : Cert.MatNormInRefIdeal.Facts] [hPre_finite_matnormin : Cert.Pre_finite_matnormin.Facts] : Prop :=
  ∀ (m : (ℓ : Loc Cert.MatNormInIdeal.nD Cert.MatNormInIdeal.τ Cert.MatNormInIdeal.sig) → Buf (Elt Ideal) ℓ) (g : Dev Cert.MatNormInIdeal.nD → PrngReg)
    (m' : (ℓ : Loc Cert.MatNormInRefIdeal.nD Cert.MatNormInRefIdeal.τ Cert.MatNormInRefIdeal.sig) → Buf (Elt Ideal) ℓ) (g' : Dev Cert.MatNormInRefIdeal.nD → PrngReg), Pre_MatNormInIdeal_finite_matnormin m →
    (∀ c : Dev Cert.MatNormInIdeal.nD,
      m' ((c.tc : Thread Cert.MatNormInRefIdeal.nD Cert.MatNormInRefIdeal.τ).loc Cert.MatNormInRefIdeal.main_arg0) = m ((c.tc : Thread Cert.MatNormInIdeal.nD Cert.MatNormInIdeal.τ).loc Cert.MatNormInIdeal.main_arg0)
      ∧ m' ((c.tc : Thread Cert.MatNormInRefIdeal.nD Cert.MatNormInRefIdeal.τ).loc Cert.MatNormInRefIdeal.main_arg1) = m ((c.tc : Thread Cert.MatNormInIdeal.nD Cert.MatNormInIdeal.τ).loc Cert.MatNormInIdeal.main_arg1)
      ∧ m' ((c.tc : Thread Cert.MatNormInRefIdeal.nD Cert.MatNormInRefIdeal.τ).loc Cert.MatNormInRefIdeal.main_arg2) = m ((c.tc : Thread Cert.MatNormInIdeal.nD Cert.MatNormInIdeal.τ).loc Cert.MatNormInIdeal.main_arg2)
      ∧ m' ((c.tc : Thread Cert.MatNormInRefIdeal.nD Cert.MatNormInRefIdeal.τ).loc Cert.MatNormInRefIdeal.main_arg3) = m ((c.tc : Thread Cert.MatNormInIdeal.nD Cert.MatNormInIdeal.τ).loc Cert.MatNormInIdeal.main_arg3)
      ∧ m' ((c.tc : Thread Cert.MatNormInRefIdeal.nD Cert.MatNormInRefIdeal.τ).loc Cert.MatNormInRefIdeal.main_arg4) = m ((c.tc : Thread Cert.MatNormInIdeal.nD Cert.MatNormInIdeal.τ).loc Cert.MatNormInIdeal.main_arg4)) →
    ∃ (v0 : (c : Dev Cert.MatNormInIdeal.nD) → Buf (Elt Ideal) ((c.tc : Thread Cert.MatNormInIdeal.nD Cert.MatNormInIdeal.τ).loc Cert.MatNormInIdeal.main_v3_0)) (v1 : (c : Dev Cert.MatNormInIdeal.nD) → Buf (Elt Ideal) ((c.tc : Thread Cert.MatNormInIdeal.nD Cert.MatNormInIdeal.τ).loc Cert.MatNormInIdeal.main_v3_1)),
      θ_run (Cert.MatNormInIdeal.defs (F := Ideal)) (onTc (τ := Cert.MatNormInIdeal.τ) (Cert.MatNormInIdeal.main (F := Ideal))) ⟨m, fun _ => 0, g⟩ (fun r => ∀ c : Dev Cert.MatNormInIdeal.nD,
          r.2.mem ((c.tc : Thread Cert.MatNormInIdeal.nD Cert.MatNormInIdeal.τ).loc Cert.MatNormInIdeal.main_v3_0) = v0 c
          ∧ r.2.mem ((c.tc : Thread Cert.MatNormInIdeal.nD Cert.MatNormInIdeal.τ).loc Cert.MatNormInIdeal.main_v3_1) = v1 c
          ∧ r.2.mem ((c.tc : Thread Cert.MatNormInIdeal.nD Cert.MatNormInIdeal.τ).loc Cert.MatNormInIdeal.main_arg0) = m ((c.tc : Thread Cert.MatNormInIdeal.nD Cert.MatNormInIdeal.τ).loc Cert.MatNormInIdeal.main_arg0)
          ∧ r.2.mem ((c.tc : Thread Cert.MatNormInIdeal.nD Cert.MatNormInIdeal.τ).loc Cert.MatNormInIdeal.main_arg1) = m ((c.tc : Thread Cert.MatNormInIdeal.nD Cert.MatNormInIdeal.τ).loc Cert.MatNormInIdeal.main_arg1)
          ∧ r.2.mem ((c.tc : Thread Cert.MatNormInIdeal.nD Cert.MatNormInIdeal.τ).loc Cert.MatNormInIdeal.main_arg2) = m ((c.tc : Thread Cert.MatNormInIdeal.nD Cert.MatNormInIdeal.τ).loc Cert.MatNormInIdeal.main_arg2)
          ∧ r.2.mem ((c.tc : Thread Cert.MatNormInIdeal.nD Cert.MatNormInIdeal.τ).loc Cert.MatNormInIdeal.main_arg3) = m ((c.tc : Thread Cert.MatNormInIdeal.nD Cert.MatNormInIdeal.τ).loc Cert.MatNormInIdeal.main_arg3)
          ∧ r.2.mem ((c.tc : Thread Cert.MatNormInIdeal.nD Cert.MatNormInIdeal.τ).loc Cert.MatNormInIdeal.main_arg4) = m ((c.tc : Thread Cert.MatNormInIdeal.nD Cert.MatNormInIdeal.τ).loc Cert.MatNormInIdeal.main_arg4))
      ∧ θ_run (Cert.MatNormInRefIdeal.defs (F := Ideal)) (onTc (τ := Cert.MatNormInRefIdeal.τ) (Cert.MatNormInRefIdeal.main (F := Ideal))) ⟨m', fun _ => 0, g'⟩ (fun r => ∀ c : Dev Cert.MatNormInRefIdeal.nD,
          r.2.mem ((c.tc : Thread Cert.MatNormInRefIdeal.nD Cert.MatNormInRefIdeal.τ).loc Cert.MatNormInRefIdeal.main_v38) = v0 c
          ∧ r.2.mem ((c.tc : Thread Cert.MatNormInRefIdeal.nD Cert.MatNormInRefIdeal.τ).loc Cert.MatNormInRefIdeal.main_v39) = v1 c
          ∧ r.2.mem ((c.tc : Thread Cert.MatNormInRefIdeal.nD Cert.MatNormInRefIdeal.τ).loc Cert.MatNormInRefIdeal.main_arg0) = m' ((c.tc : Thread Cert.MatNormInRefIdeal.nD Cert.MatNormInRefIdeal.τ).loc Cert.MatNormInRefIdeal.main_arg0)
          ∧ r.2.mem ((c.tc : Thread Cert.MatNormInRefIdeal.nD Cert.MatNormInRefIdeal.τ).loc Cert.MatNormInRefIdeal.main_arg1) = m' ((c.tc : Thread Cert.MatNormInRefIdeal.nD Cert.MatNormInRefIdeal.τ).loc Cert.MatNormInRefIdeal.main_arg1)
          ∧ r.2.mem ((c.tc : Thread Cert.MatNormInRefIdeal.nD Cert.MatNormInRefIdeal.τ).loc Cert.MatNormInRefIdeal.main_arg2) = m' ((c.tc : Thread Cert.MatNormInRefIdeal.nD Cert.MatNormInRefIdeal.τ).loc Cert.MatNormInRefIdeal.main_arg2)
          ∧ r.2.mem ((c.tc : Thread Cert.MatNormInRefIdeal.nD Cert.MatNormInRefIdeal.τ).loc Cert.MatNormInRefIdeal.main_arg3) = m' ((c.tc : Thread Cert.MatNormInRefIdeal.nD Cert.MatNormInRefIdeal.τ).loc Cert.MatNormInRefIdeal.main_arg3)
          ∧ r.2.mem ((c.tc : Thread Cert.MatNormInRefIdeal.nD Cert.MatNormInRefIdeal.τ).loc Cert.MatNormInRefIdeal.main_arg4) = m' ((c.tc : Thread Cert.MatNormInRefIdeal.nD Cert.MatNormInRefIdeal.τ).loc Cert.MatNormInRefIdeal.main_arg4))

def preserves_BandFwd_BandFwdIdeal : Prop :=
  IdealRules.named_const.Statement Cert.BandFwdIdeal.κ "mask" .f32 0xF149F2CA#32 ⊥

def algebraic_BandFwdIdeal_BandFwdRefIdeal [hBandFwdIdeal : Cert.BandFwdIdeal.Facts] [hBandFwdRefIdeal : Cert.BandFwdRefIdeal.Facts] : Prop :=
  ∀ (m : (ℓ : Loc Cert.BandFwdIdeal.nD Cert.BandFwdIdeal.τ Cert.BandFwdIdeal.sig) → Buf (Elt Ideal) ℓ) (g : Dev Cert.BandFwdIdeal.nD → PrngReg)
    (m' : (ℓ : Loc Cert.BandFwdRefIdeal.nD Cert.BandFwdRefIdeal.τ Cert.BandFwdRefIdeal.sig) → Buf (Elt Ideal) ℓ) (g' : Dev Cert.BandFwdRefIdeal.nD → PrngReg), Pre_BandFwdIdeal m →
    (∀ c : Dev Cert.BandFwdIdeal.nD,
      m' ((c.tc : Thread Cert.BandFwdRefIdeal.nD Cert.BandFwdRefIdeal.τ).loc Cert.BandFwdRefIdeal.main_arg0) = m ((c.tc : Thread Cert.BandFwdIdeal.nD Cert.BandFwdIdeal.τ).loc Cert.BandFwdIdeal.main_arg0)
      ∧ m' ((c.tc : Thread Cert.BandFwdRefIdeal.nD Cert.BandFwdRefIdeal.τ).loc Cert.BandFwdRefIdeal.main_arg1) = m ((c.tc : Thread Cert.BandFwdIdeal.nD Cert.BandFwdIdeal.τ).loc Cert.BandFwdIdeal.main_arg1)
      ∧ m' ((c.tc : Thread Cert.BandFwdRefIdeal.nD Cert.BandFwdRefIdeal.τ).loc Cert.BandFwdRefIdeal.main_arg2) = m ((c.tc : Thread Cert.BandFwdIdeal.nD Cert.BandFwdIdeal.τ).loc Cert.BandFwdIdeal.main_arg2)) →
    ∃ (v0 : (c : Dev Cert.BandFwdIdeal.nD) → Buf (Elt Ideal) ((c.tc : Thread Cert.BandFwdIdeal.nD Cert.BandFwdIdeal.τ).loc Cert.BandFwdIdeal.main_v5_0)) (v1 : (c : Dev Cert.BandFwdIdeal.nD) → Buf (Elt Ideal) ((c.tc : Thread Cert.BandFwdIdeal.nD Cert.BandFwdIdeal.τ).loc Cert.BandFwdIdeal.main_v5_1)),
      θ_run (Cert.BandFwdIdeal.defs (F := Ideal)) (onTc (τ := Cert.BandFwdIdeal.τ) (Cert.BandFwdIdeal.main (F := Ideal))) ⟨m, fun _ => 0, g⟩ (fun r => ∀ c : Dev Cert.BandFwdIdeal.nD,
          r.2.mem ((c.tc : Thread Cert.BandFwdIdeal.nD Cert.BandFwdIdeal.τ).loc Cert.BandFwdIdeal.main_v5_0) = v0 c
          ∧ r.2.mem ((c.tc : Thread Cert.BandFwdIdeal.nD Cert.BandFwdIdeal.τ).loc Cert.BandFwdIdeal.main_v5_1) = v1 c
          ∧ r.2.mem ((c.tc : Thread Cert.BandFwdIdeal.nD Cert.BandFwdIdeal.τ).loc Cert.BandFwdIdeal.main_arg0) = m ((c.tc : Thread Cert.BandFwdIdeal.nD Cert.BandFwdIdeal.τ).loc Cert.BandFwdIdeal.main_arg0)
          ∧ r.2.mem ((c.tc : Thread Cert.BandFwdIdeal.nD Cert.BandFwdIdeal.τ).loc Cert.BandFwdIdeal.main_arg1) = m ((c.tc : Thread Cert.BandFwdIdeal.nD Cert.BandFwdIdeal.τ).loc Cert.BandFwdIdeal.main_arg1)
          ∧ r.2.mem ((c.tc : Thread Cert.BandFwdIdeal.nD Cert.BandFwdIdeal.τ).loc Cert.BandFwdIdeal.main_arg2) = m ((c.tc : Thread Cert.BandFwdIdeal.nD Cert.BandFwdIdeal.τ).loc Cert.BandFwdIdeal.main_arg2))
      ∧ θ_run (Cert.BandFwdRefIdeal.defs (F := Ideal)) (onTc (τ := Cert.BandFwdRefIdeal.τ) (Cert.BandFwdRefIdeal.main (F := Ideal))) ⟨m', fun _ => 0, g'⟩ (fun r => ∀ c : Dev Cert.BandFwdRefIdeal.nD,
          r.2.mem ((c.tc : Thread Cert.BandFwdRefIdeal.nD Cert.BandFwdRefIdeal.τ).loc Cert.BandFwdRefIdeal.main_v148) = v0 c
          ∧ r.2.mem ((c.tc : Thread Cert.BandFwdRefIdeal.nD Cert.BandFwdRefIdeal.τ).loc Cert.BandFwdRefIdeal.main_v149) = v1 c
          ∧ r.2.mem ((c.tc : Thread Cert.BandFwdRefIdeal.nD Cert.BandFwdRefIdeal.τ).loc Cert.BandFwdRefIdeal.main_arg0) = m' ((c.tc : Thread Cert.BandFwdRefIdeal.nD Cert.BandFwdRefIdeal.τ).loc Cert.BandFwdRefIdeal.main_arg0)
          ∧ r.2.mem ((c.tc : Thread Cert.BandFwdRefIdeal.nD Cert.BandFwdRefIdeal.τ).loc Cert.BandFwdRefIdeal.main_arg1) = m' ((c.tc : Thread Cert.BandFwdRefIdeal.nD Cert.BandFwdRefIdeal.τ).loc Cert.BandFwdRefIdeal.main_arg1)
          ∧ r.2.mem ((c.tc : Thread Cert.BandFwdRefIdeal.nD Cert.BandFwdRefIdeal.τ).loc Cert.BandFwdRefIdeal.main_arg2) = m' ((c.tc : Thread Cert.BandFwdRefIdeal.nD Cert.BandFwdRefIdeal.τ).loc Cert.BandFwdRefIdeal.main_arg2))

def Claim : Prop :=
  ∃ (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hMatNorm : Cert.MatNorm.Facts) (hMatNormIdeal : Cert.MatNormIdeal.Facts) (hMatNormRefIdeal : Cert.MatNormRefIdeal.Facts) (hRelu : Cert.Relu.Facts) (hReluIdeal : Cert.ReluIdeal.Facts) (hReluRefIdeal : Cert.ReluRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hOProj : Cert.OProj.Facts) (hOProjIdeal : Cert.OProjIdeal.Facts) (hOProjRefIdeal : Cert.OProjRefIdeal.Facts) (hFlash : Cert.Flash.Facts) (hFlashIdeal : Cert.FlashIdeal.Facts) (hFlashRefIdeal : Cert.FlashRefIdeal.Facts) (hFwd : Cert.Fwd.Facts) (hFwdIdeal : Cert.FwdIdeal.Facts) (hFwdRefIdeal : Cert.FwdRefIdeal.Facts) (hHalo : Cert.Halo.Facts) (hHaloIdeal : Cert.HaloIdeal.Facts) (hHaloRefIdeal : Cert.HaloRefIdeal.Facts) (hBand : Cert.Band.Facts) (hBandIdeal : Cert.BandIdeal.Facts) (hRmsFwd : Cert.RmsFwd.Facts) (hRmsFwdIdeal : Cert.RmsFwdIdeal.Facts) (hRmsFwdRefIdeal : Cert.RmsFwdRefIdeal.Facts) (hQFwd : Cert.QFwd.Facts) (hQFwdIdeal : Cert.QFwdIdeal.Facts) (hQFwdRefIdeal : Cert.QFwdRefIdeal.Facts) (hKvFwd : Cert.KvFwd.Facts) (hKvFwdIdeal : Cert.KvFwdIdeal.Facts) (hKvFwdRefIdeal : Cert.KvFwdRefIdeal.Facts) (hReluFwd : Cert.ReluFwd.Facts) (hReluFwdIdeal : Cert.ReluFwdIdeal.Facts) (hReluFwdRefIdeal : Cert.ReluFwdRefIdeal.Facts) (hOFwd : Cert.OFwd.Facts) (hOFwdIdeal : Cert.OFwdIdeal.Facts) (hOFwdRefIdeal : Cert.OFwdRefIdeal.Facts) (hAddFwd : Cert.AddFwd.Facts) (hAddFwdIdeal : Cert.AddFwdIdeal.Facts) (hAddFwdRefIdeal : Cert.AddFwdRefIdeal.Facts) (hNormKv : Cert.NormKv.Facts) (hNormKvIdeal : Cert.NormKvIdeal.Facts) (hNormKvRefIdeal : Cert.NormKvRefIdeal.Facts) (hMatNormDown : Cert.MatNormDown.Facts) (hMatNormDownIdeal : Cert.MatNormDownIdeal.Facts) (hMatNormDownRefIdeal : Cert.MatNormDownRefIdeal.Facts) (hMatNormIn : Cert.MatNormIn.Facts) (hMatNormInIdeal : Cert.MatNormInIdeal.Facts) (hMatNormInRefIdeal : Cert.MatNormInRefIdeal.Facts) (hBandFwd : Cert.BandFwd.Facts) (hBandFwdIdeal : Cert.BandFwdIdeal.Facts) (hBandFwdRefIdeal : Cert.BandFwdRefIdeal.Facts) (hPre_finite : Cert.Pre_finite.Facts) (hPre_finite_norm : Cert.Pre_finite_norm.Facts) (hPre_finite_matnorm : Cert.Pre_finite_matnorm.Facts) (hPre_finite_qkvc : Cert.Pre_finite_qkvc.Facts) (hPre_finite_qkv : Cert.Pre_finite_qkv.Facts) (hPre_finite_normkv : Cert.Pre_finite_normkv.Facts) (hPre_finite_matnormdown : Cert.Pre_finite_matnormdown.Facts) (hPre_finite_matnormin : Cert.Pre_finite_matnormin.Facts),
    quiescent_Loss (hLoss := hLoss)
    ∧ quiescent_LossIdeal (hLossIdeal := hLossIdeal)
    ∧ quiescent_LossIdeal_pre_finite (hLossIdeal := hLossIdeal) (hPre_finite := hPre_finite)
    ∧ quiescent_LossRefIdeal (hLossRefIdeal := hLossRefIdeal)
    ∧ quiescent_LossRefIdeal_pre_finite (hLossRefIdeal := hLossRefIdeal) (hPre_finite := hPre_finite)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_MatNorm (hMatNorm := hMatNorm)
    ∧ quiescent_MatNormIdeal (hMatNormIdeal := hMatNormIdeal)
    ∧ quiescent_MatNormIdeal_pre_finite_matnorm (hMatNormIdeal := hMatNormIdeal) (hPre_finite_matnorm := hPre_finite_matnorm)
    ∧ quiescent_MatNormRefIdeal (hMatNormRefIdeal := hMatNormRefIdeal)
    ∧ quiescent_MatNormRefIdeal_pre_finite_matnorm (hMatNormRefIdeal := hMatNormRefIdeal) (hPre_finite_matnorm := hPre_finite_matnorm)
    ∧ quiescent_Relu (hRelu := hRelu)
    ∧ quiescent_ReluIdeal (hReluIdeal := hReluIdeal)
    ∧ quiescent_ReluRefIdeal (hReluRefIdeal := hReluRefIdeal)
    ∧ quiescent_QProj (hQProj := hQProj)
    ∧ quiescent_QProjIdeal (hQProjIdeal := hQProjIdeal)
    ∧ quiescent_QProjRefIdeal (hQProjRefIdeal := hQProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_OProj (hOProj := hOProj)
    ∧ quiescent_OProjIdeal (hOProjIdeal := hOProjIdeal)
    ∧ quiescent_OProjRefIdeal (hOProjRefIdeal := hOProjRefIdeal)
    ∧ quiescent_Flash (hFlash := hFlash)
    ∧ quiescent_FlashIdeal (hFlashIdeal := hFlashIdeal)
    ∧ quiescent_FlashIdeal_pre_finite_qkvc (hFlashIdeal := hFlashIdeal) (hPre_finite_qkvc := hPre_finite_qkvc)
    ∧ quiescent_FlashRefIdeal (hFlashRefIdeal := hFlashRefIdeal)
    ∧ quiescent_FlashRefIdeal_pre_finite_qkvc (hFlashRefIdeal := hFlashRefIdeal) (hPre_finite_qkvc := hPre_finite_qkvc)
    ∧ quiescent_Fwd (hFwd := hFwd)
    ∧ quiescent_FwdIdeal (hFwdIdeal := hFwdIdeal)
    ∧ quiescent_FwdIdeal_pre_finite_qkv (hFwdIdeal := hFwdIdeal) (hPre_finite_qkv := hPre_finite_qkv)
    ∧ quiescent_FwdRefIdeal (hFwdRefIdeal := hFwdRefIdeal)
    ∧ quiescent_FwdRefIdeal_pre_finite_qkv (hFwdRefIdeal := hFwdRefIdeal) (hPre_finite_qkv := hPre_finite_qkv)
    ∧ quiescent_Halo (hHalo := hHalo)
    ∧ quiescent_HaloIdeal (hHaloIdeal := hHaloIdeal)
    ∧ quiescent_HaloRefIdeal (hHaloRefIdeal := hHaloRefIdeal)
    ∧ quiescent_Band (hBand := hBand)
    ∧ quiescent_BandIdeal (hBandIdeal := hBandIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_QFwd (hQFwd := hQFwd)
    ∧ quiescent_QFwdIdeal (hQFwdIdeal := hQFwdIdeal)
    ∧ quiescent_QFwdRefIdeal (hQFwdRefIdeal := hQFwdRefIdeal)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_ReluFwd (hReluFwd := hReluFwd)
    ∧ quiescent_ReluFwdIdeal (hReluFwdIdeal := hReluFwdIdeal)
    ∧ quiescent_ReluFwdRefIdeal (hReluFwdRefIdeal := hReluFwdRefIdeal)
    ∧ quiescent_OFwd (hOFwd := hOFwd)
    ∧ quiescent_OFwdIdeal (hOFwdIdeal := hOFwdIdeal)
    ∧ quiescent_OFwdRefIdeal (hOFwdRefIdeal := hOFwdRefIdeal)
    ∧ quiescent_AddFwd (hAddFwd := hAddFwd)
    ∧ quiescent_AddFwdIdeal (hAddFwdIdeal := hAddFwdIdeal)
    ∧ quiescent_AddFwdRefIdeal (hAddFwdRefIdeal := hAddFwdRefIdeal)
    ∧ quiescent_NormKv (hNormKv := hNormKv)
    ∧ quiescent_NormKvIdeal (hNormKvIdeal := hNormKvIdeal)
    ∧ quiescent_NormKvIdeal_pre_finite_normkv (hNormKvIdeal := hNormKvIdeal) (hPre_finite_normkv := hPre_finite_normkv)
    ∧ quiescent_NormKvRefIdeal (hNormKvRefIdeal := hNormKvRefIdeal)
    ∧ quiescent_NormKvRefIdeal_pre_finite_normkv (hNormKvRefIdeal := hNormKvRefIdeal) (hPre_finite_normkv := hPre_finite_normkv)
    ∧ quiescent_MatNormDown (hMatNormDown := hMatNormDown)
    ∧ quiescent_MatNormDownIdeal (hMatNormDownIdeal := hMatNormDownIdeal)
    ∧ quiescent_MatNormDownIdeal_pre_finite_matnormdown (hMatNormDownIdeal := hMatNormDownIdeal) (hPre_finite_matnormdown := hPre_finite_matnormdown)
    ∧ quiescent_MatNormDownRefIdeal (hMatNormDownRefIdeal := hMatNormDownRefIdeal)
    ∧ quiescent_MatNormDownRefIdeal_pre_finite_matnormdown (hMatNormDownRefIdeal := hMatNormDownRefIdeal) (hPre_finite_matnormdown := hPre_finite_matnormdown)
    ∧ quiescent_MatNormIn (hMatNormIn := hMatNormIn)
    ∧ quiescent_MatNormInIdeal (hMatNormInIdeal := hMatNormInIdeal)
    ∧ quiescent_MatNormInIdeal_pre_finite_matnormin (hMatNormInIdeal := hMatNormInIdeal) (hPre_finite_matnormin := hPre_finite_matnormin)
    ∧ quiescent_MatNormInRefIdeal (hMatNormInRefIdeal := hMatNormInRefIdeal)
    ∧ quiescent_MatNormInRefIdeal_pre_finite_matnormin (hMatNormInRefIdeal := hMatNormInRefIdeal) (hPre_finite_matnormin := hPre_finite_matnormin)
    ∧ quiescent_BandFwd (hBandFwd := hBandFwd)
    ∧ quiescent_BandFwdIdeal (hBandFwdIdeal := hBandFwdIdeal)
    ∧ quiescent_BandFwdRefIdeal (hBandFwdRefIdeal := hBandFwdRefIdeal)
    ∧ preserves_Loss_LossIdeal
    ∧ algebraic_LossIdeal_LossRefIdeal_pre_finite (hLossIdeal := hLossIdeal) (hLossRefIdeal := hLossRefIdeal) (hPre_finite := hPre_finite)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_MatNorm_MatNormIdeal
    ∧ algebraic_MatNormIdeal_MatNormRefIdeal_pre_finite_matnorm (hMatNormIdeal := hMatNormIdeal) (hMatNormRefIdeal := hMatNormRefIdeal) (hPre_finite_matnorm := hPre_finite_matnorm)
    ∧ preserves_Relu_ReluIdeal
    ∧ algebraic_ReluIdeal_ReluRefIdeal (hReluIdeal := hReluIdeal) (hReluRefIdeal := hReluRefIdeal)
    ∧ preserves_QProj_QProjIdeal
    ∧ algebraic_QProjIdeal_QProjRefIdeal (hQProjIdeal := hQProjIdeal) (hQProjRefIdeal := hQProjRefIdeal)
    ∧ preserves_KvProj_KvProjIdeal
    ∧ algebraic_KvProjIdeal_KvProjRefIdeal (hKvProjIdeal := hKvProjIdeal) (hKvProjRefIdeal := hKvProjRefIdeal)
    ∧ preserves_OProj_OProjIdeal
    ∧ algebraic_OProjIdeal_OProjRefIdeal (hOProjIdeal := hOProjIdeal) (hOProjRefIdeal := hOProjRefIdeal)
    ∧ preserves_Flash_FlashIdeal
    ∧ algebraic_FlashIdeal_FlashRefIdeal_pre_finite_qkvc (hFlashIdeal := hFlashIdeal) (hFlashRefIdeal := hFlashRefIdeal) (hPre_finite_qkvc := hPre_finite_qkvc)
    ∧ preserves_Fwd_FwdIdeal
    ∧ algebraic_FwdIdeal_FwdRefIdeal_pre_finite_qkv (hFwdIdeal := hFwdIdeal) (hFwdRefIdeal := hFwdRefIdeal) (hPre_finite_qkv := hPre_finite_qkv)
    ∧ preserves_Halo_HaloIdeal
    ∧ algebraic_HaloIdeal_HaloRefIdeal (hHaloIdeal := hHaloIdeal) (hHaloRefIdeal := hHaloRefIdeal)
    ∧ preserves_Band_BandIdeal
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_QFwd_QFwdIdeal
    ∧ algebraic_QFwdIdeal_QFwdRefIdeal (hQFwdIdeal := hQFwdIdeal) (hQFwdRefIdeal := hQFwdRefIdeal)
    ∧ preserves_KvFwd_KvFwdIdeal
    ∧ algebraic_KvFwdIdeal_KvFwdRefIdeal (hKvFwdIdeal := hKvFwdIdeal) (hKvFwdRefIdeal := hKvFwdRefIdeal)
    ∧ preserves_ReluFwd_ReluFwdIdeal
    ∧ algebraic_ReluFwdIdeal_ReluFwdRefIdeal (hReluFwdIdeal := hReluFwdIdeal) (hReluFwdRefIdeal := hReluFwdRefIdeal)
    ∧ preserves_OFwd_OFwdIdeal
    ∧ algebraic_OFwdIdeal_OFwdRefIdeal (hOFwdIdeal := hOFwdIdeal) (hOFwdRefIdeal := hOFwdRefIdeal)
    ∧ preserves_AddFwd_AddFwdIdeal
    ∧ algebraic_AddFwdIdeal_AddFwdRefIdeal (hAddFwdIdeal := hAddFwdIdeal) (hAddFwdRefIdeal := hAddFwdRefIdeal)
    ∧ preserves_NormKv_NormKvIdeal
    ∧ algebraic_NormKvIdeal_NormKvRefIdeal_pre_finite_normkv (hNormKvIdeal := hNormKvIdeal) (hNormKvRefIdeal := hNormKvRefIdeal) (hPre_finite_normkv := hPre_finite_normkv)
    ∧ preserves_MatNormDown_MatNormDownIdeal
    ∧ algebraic_MatNormDownIdeal_MatNormDownRefIdeal_pre_finite_matnormdown (hMatNormDownIdeal := hMatNormDownIdeal) (hMatNormDownRefIdeal := hMatNormDownRefIdeal) (hPre_finite_matnormdown := hPre_finite_matnormdown)
    ∧ preserves_MatNormIn_MatNormInIdeal
    ∧ algebraic_MatNormInIdeal_MatNormInRefIdeal_pre_finite_matnormin (hMatNormInIdeal := hMatNormInIdeal) (hMatNormInRefIdeal := hMatNormInRefIdeal) (hPre_finite_matnormin := hPre_finite_matnormin)
    ∧ preserves_BandFwd_BandFwdIdeal
    ∧ algebraic_BandFwdIdeal_BandFwdRefIdeal (hBandFwdIdeal := hBandFwdIdeal) (hBandFwdRefIdeal := hBandFwdRefIdeal)
-- ==== Pre_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S16384x1024 .f32) (main_arg2 : FVec F S1024 .f32) : IVec S16384x1024 1 × IVec S16384x1024 1 × IVec S1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_matnorm.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S16384x4096 : S_.BroadcastsInDim S16384x4096 (![] : Fin 0 → Fin S16384x4096.rank)

variable [Facts]

def fn {F : FTy → Type} [FloatOps F] (main_arg0 : FVec F S16384x1024 .f32) (main_arg1 : FVec F S1024 .f32) (main_arg2 : FVec F S1024x4096 .f32) (main_arg3 : FVec F S16384x4096 .f32) (main_arg4 : FVec F S16384x1024 .f32) : IVec S16384x1024 1 × IVec S1024 1 × IVec S1024x4096 1 × IVec S16384x4096 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S16384x4096 .f32 := Host.absf main_arg3
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_matnormdown.lean ====
abbrev S16384x1024 : Shape := ⟨2, ![16384, 1024]⟩
abbrev S1024 : Shape := ⟨1, ![1024]⟩
abbrev S1024x768 : Shape := ⟨2, ![1024, 768]⟩
abbrev S16384x768 : Shape := ⟨2, ![16384, 768]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x768 : S_.BroadcastsInDim S1024x768 (![] : Fin 0 → Fin S1024x768.rank)
  bcast_S_S16384x768 : S_.BroadcastsInDim S16384x768 (![] : Fin 0 → Fin S16384x768.rank)

variable [Facts]

def fn {F : FTy → Type} [FloatOps F] (main_arg0 : FVec F S16384x1024 .f32) (main_arg1 : FVec F S1024 .f32) (main_arg2 : FVec F S1024x768 .f32) (main_arg3 : FVec F S16384x768 .f32) (main_arg4 : FVec F S16384x1024 .f32) : IVec S16384x1024 1 × IVec S1024 1 × IVec S1024x768 1 × IVec S16384x768 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x768 .f32 := Host.absf main_arg2
  let main_cst_1 : FVec F S_ .f32 := constant S_ .f32 0x7F800000#32
  let main_v7 : FVec F S1024x768 .f32 := broadcastInDim S1024x768 ![] bcast_S_S1024x768 main_cst_1
  let main_v8 : IVec S1024x768 1 := cmpf .olt main_v6 main_v7
  let main_v9 : FVec F S16384x768 .f32 := Host.absf main_arg3
  let main_cst_2 : FVec F S_ .f32 := constant S_ .f32 0x7F800000#32
  let main_v10 : FVec F S16384x768 .f32 := broadcastInDim S16384x768 ![] bcast_S_S16384x768 main_cst_2
  let main_v11 : IVec S16384x768 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_matnormin.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S16384x3072 : S_.BroadcastsInDim S16384x3072 (![] : Fin 0 → Fin S16384x3072.rank)

variable [Facts]

def fn {F : FTy → Type} [FloatOps F] (main_arg0 : FVec F S16384x1024 .f32) (main_arg1 : FVec F S1024 .f32) (main_arg2 : FVec F S1024x3072 .f32) (main_arg3 : FVec F S16384x3072 .f32) (main_arg4 : FVec F S16384x1024 .f32) : IVec S16384x1024 1 × IVec S1024 1 × IVec S1024x3072 1 × IVec S16384x3072 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S16384x3072 .f32 := Host.absf main_arg3
  let main_cst_2 : FVec F S_ .f32 := constant S_ .f32 0x7F800000#32
  let main_v10 : FVec F S16384x3072 .f32 := broadcastInDim S16384x3072 ![] bcast_S_S16384x3072 main_cst_2
  let main_v11 : IVec S16384x3072 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_norm.lean ====
abbrev S16384x384 : Shape := ⟨2, ![16384, 384]⟩
abbrev S384 : Shape := ⟨1, ![384]⟩
abbrev S_ : Shape := ⟨0, ![]⟩

class Facts : Prop where
  bcast_S_S16384x384 : S_.BroadcastsInDim S16384x384 (![] : Fin 0 → Fin S16384x384.rank)
  bcast_S_S384 : S_.BroadcastsInDim S384 (![] : Fin 0 → Fin S384.rank)

variable [Facts]

def fn {F : FTy → Type} [FloatOps F] (main_arg0 : FVec F S16384x384 .f32) (main_arg1 : FVec F S384 .f32) (main_arg2 : FVec F S16384x384 .f32) : IVec S16384x384 1 × IVec S384 1 × IVec S16384x384 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_v3 : FVec F S384 .f32 := Host.absf main_arg1
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S16384x384 .f32 := Host.absf main_arg2
  let main_cst_1 : FVec F S_ .f32 := constant S_ .f32 0x7F800000#32
  let main_v7 : FVec F S16384x384 .f32 := broadcastInDim S16384x384 ![] bcast_S_S16384x384 main_cst_1
  let main_v8 : IVec S16384x384 1 := cmpf .olt main_v6 main_v7
  (main_v2, main_v5, main_v8)
-- ==== Pre_finite_normkv.lean ====
abbrev S16384x256 : Shape := ⟨2, ![16384, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  bcast_S_S256 : S_.BroadcastsInDim S256 (![] : Fin 0 → Fin S256.rank)

variable [Facts]

def fn {F : FTy → Type} [FloatOps F] (main_arg0 : FVec F S16384x256 .f32) (main_arg1 : FVec F S256 .f32) (main_arg2 : FVec F S16384x256 .f32) : IVec S16384x256 1 × IVec S256 1 × IVec S16384x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S16384x256 .f32 := Host.absf main_arg2
  let main_cst_1 : FVec F S_ .f32 := constant S_ .f32 0x7F800000#32
  let main_v7 : FVec F S16384x256 .f32 := broadcastInDim S16384x256 ![] bcast_S_S16384x256 main_cst_1
  let main_v8 : IVec S16384x256 1 := cmpf .olt main_v6 main_v7
  (main_v2, main_v5, main_v8)
-- ==== Pre_finite_qkv.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) : IVec S16384x8x96 1 × IVec S16384x8x96 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  (main_v2, main_v5, main_v8)
-- ==== Pre_finite_qkvc.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) (main_arg3 : FVec F S16384x8x64 .f32) : IVec S16384x8x96 1 × IVec S16384x8x96 1 × IVec S16384x8x64 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : FVec F S16384x8x64 .f32 := Host.absf main_arg3
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  (main_v2, main_v5, main_v8, main_v11)
-- ==== Loss.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S1x128, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x128, .f32⟩
  | .hbm, ⟨72, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Norm.lean ====
abbrev S16384x384 : Shape := ⟨2, ![16384, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S16384x384, .f32⟩
  | .hbm, ⟨3, _⟩ => ⟨S1x384, .f32⟩
  | .hbm, ⟨4, _⟩ => ⟨S16384x384, .f32⟩
  | .hbm, ⟨5, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S1x384, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormRefIdeal.lean ====
abbrev S16384x384 : Shape := ⟨2, ![16384, 384]⟩
abbrev S384 : Shape := ⟨1, ![384]⟩
abbrev S_ : Shape := ⟨0, ![]⟩
abbrev S16384 : Shape := ⟨1, ![16384]⟩
abbrev S16384x1 : Shape := ⟨2, ![16384, 1]⟩
abbrev S1x384 : Shape := ⟨2, ![1, 384]⟩

abbrev nBuf : Space → Nat
  | .hbm => 49
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S16384x384, .f32⟩
  | .hbm, ⟨3, _⟩ => ⟨S16384x384, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x384, .f32⟩
  | .hbm, ⟨19, _⟩ => ⟨S16384x384, .f32⟩
  | .hbm, ⟨20, _⟩ => ⟨S1x384, .f32⟩
  | .hbm, ⟨21, _⟩ => ⟨S16384x384, .f32⟩
  | .hbm, ⟨22, _⟩ => ⟨S16384x384, .f32⟩
  | .hbm, ⟨23, _⟩ => ⟨S16384x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S16384x384, .f32⟩
  | .hbm, ⟨28, _⟩ => ⟨S16384x384, .f32⟩
  | .hbm, ⟨29, _⟩ => ⟨S_, .f32⟩
  | .hbm, ⟨30, _⟩ => ⟨S384, .f32⟩
  | .hbm, ⟨31, _⟩ => ⟨S16384x384, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x384, .f32⟩
  | .hbm, ⟨36, _⟩ => ⟨S16384x384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x384, .f32⟩
  | .hbm, ⟨44, _⟩ => ⟨S16384x384, .f32⟩
  | .hbm, ⟨45, _⟩ => ⟨S16384x384, .f32⟩
  | .hbm, ⟨46, _⟩ => ⟨S16384x384, .f32⟩
  | .hbm, ⟨47, _⟩ => ⟨S16384x384, .f32⟩
  | .hbm, ⟨48, _⟩ => ⟨S1x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MatNorm.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x4096, .bf16⟩
  | .hbm, ⟨6, _⟩ => ⟨S1024x4096, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MatNormRefIdeal.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Relu.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 14
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S4096x1024, .bf16⟩
  | .hbm, ⟨13, _⟩ => ⟨S16384x4096, .bf16⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReluRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x1024, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== QProj.lean ====
abbrev S16384x384 : Shape := ⟨2, ![16384, 384]⟩
abbrev S384x768 : Shape := ⟨2, ![384, 768]⟩
abbrev S16384x8x96 : Shape := ⟨3, ![16384, 8, 96]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S32x512x8x96 : Shape := ⟨4, ![32, 512, 8, 96]⟩
abbrev S8x32x96x512 : Shape := ⟨4, ![8, 32, 96, 512]⟩
abbrev S768x384 : Shape := ⟨2, ![768, 384]⟩
abbrev S8x96x384 : Shape := ⟨3, ![8, 96, 384]⟩
abbrev S32x512x16 : Shape := ⟨3, ![32, 512, 16]⟩
abbrev S32x16x512 : Shape := ⟨3, ![32, 16, 512]⟩
abbrev S8x1x96x512 : Shape := ⟨4, ![8, 1, 96, 512]⟩
abbrev S512x384 : Shape := ⟨2, ![512, 384]⟩
abbrev S1x16x512 : Shape := ⟨3, ![1, 16, 512]⟩
abbrev S1x1x96x512 : Shape := ⟨4, ![1, 1, 96, 512]⟩
abbrev S96x512 : Shape := ⟨2, ![96, 512]⟩
abbrev S16x512 : Shape := ⟨2, ![16, 512]⟩
abbrev S64x512 : Shape := ⟨2, ![64, 512]⟩
abbrev S1x96x384 : Shape := ⟨3, ![1, 96, 384]⟩
abbrev S96x384 : Shape := ⟨2, ![96, 384]⟩

abbrev nBuf : Space → Nat
  | .hbm => 37
  | .vmem => 12
  | .smem => 0
  | _ => 0

abbrev bufTy : (tb : Table) → Fin (tcTables nBuf tb) → BufTy
  | .hbm, ⟨0, _⟩ => ⟨S16384x384, .f32⟩
  | .hbm, ⟨1, _⟩ => ⟨S384x768, .f32⟩
  | .hbm, ⟨2, _⟩ => ⟨S16384x8x96, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16384, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S32x512x8x96, .f32⟩
  | .hbm, ⟨26, _⟩ => ⟨S8x32x96x512, .f32⟩
  | .hbm, ⟨27, _⟩ => ⟨S16384x384, .bf16⟩
  | .hbm, ⟨28, _⟩ => ⟨S768x384, .f32⟩
  | .hbm, ⟨29, _⟩ => ⟨S8x96x384, .f32⟩
  | .hbm, ⟨30, _⟩ => ⟨S8x96x384, .bf16⟩
  | .hbm, ⟨31, _⟩ => ⟨S32x512x16, .f32⟩
  | .hbm, ⟨32, _⟩ => ⟨S32x16x512, .f32⟩
  | .hbm, ⟨33, _⟩ => ⟨S32x512x16, .f32⟩
  | .hbm, ⟨34, _⟩ => ⟨S32x16x512, .f32⟩
  | .hbm, ⟨35, _⟩ => ⟨S16384x384, .f32⟩
  | .hbm, ⟨36, _⟩ => ⟨S8x96x384, .f32⟩
  | .local _ .vmem, ⟨0, _⟩ => ⟨S8x1x96x512, .f32⟩
  | .local _ .vmem, ⟨1, _⟩ => ⟨S8x1x96x512, .f32⟩
  | .local _ .vmem, ⟨2, _⟩ => ⟨S512x384, .bf16⟩
  | .local _ .vmem, ⟨3, _⟩ => ⟨S512x384, .bf16⟩
  | .local _ .vmem, ⟨4, _⟩ => ⟨S8x96x384, .bf16⟩
  | .local _ .vmem, ⟨5, _⟩ => ⟨S1x16x512, .f32⟩
  | .local _ .vmem, ⟨6, _⟩ => ⟨S1x16x512, .f32⟩
  | .local _ .vmem, ⟨7, _⟩ => ⟨S1x16x512, .f32⟩
  | .local _ .vmem, ⟨8, _⟩ => ⟨S1x16x512, .f32⟩
  | .local _ .vmem, ⟨9, _⟩ => ⟨S512x384, .f32⟩
  | .local _ .vmem, ⟨10, _⟩ => ⟨S512x384, .f32⟩
  | .local _ .vmem, ⟨11, _⟩ => ⟨S8x96x384, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x1x96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x96x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x96x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QProjRefIdeal.lean ====
abbrev S16384x384 : Shape := ⟨2, ![16384, 384]⟩
abbrev S384x768 : Shape := ⟨2, ![384, 768]⟩
abbrev S16384x8x96 : Shape := ⟨3, ![16384, 8, 96]⟩
abbrev S16384x768 : Shape := ⟨2, ![16384, 768]⟩
abbrev S1x16384x8x96 : Shape := ⟨4, ![1, 16384, 8, 96]⟩
abbrev S1x16384x8x64 : Shape := ⟨4, ![1, 16384, 8, 64]⟩
abbrev S1x16384x8x32 : Shape := ⟨4, ![1, 16384, 8, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩
abbrev S768x384 : Shape := ⟨2, ![768, 384]⟩
abbrev S8x96x384 : Shape := ⟨3, ![8, 96, 384]⟩

abbrev nBuf : Space → Nat
  | .hbm => 78
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S384x768, .f32⟩
  | .hbm, ⟨2, _⟩ => ⟨S16384x8x96, .f32⟩
  | .hbm, ⟨3, _⟩ => ⟨S16384x768, .f32⟩
  | .hbm, ⟨4, _⟩ => ⟨S1x16384x8x96, .f32⟩
  | .hbm, ⟨5, _⟩ => ⟨S1x16384x8x64, .f32⟩
  | .hbm, ⟨6, _⟩ => ⟨S1x16384x8x32, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16384, .f32⟩
  | .hbm, ⟨22, _⟩ => ⟨S16384x1, .f32⟩
  | .hbm, ⟨23, _⟩ => ⟨S1x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S1x16384x1x16, .f32⟩
  | .hbm, ⟨29, _⟩ => ⟨S16384x16, .f32⟩
  | .hbm, ⟨30, _⟩ => ⟨S1x16384x1x16, .f32⟩
  | .hbm, ⟨31, _⟩ => ⟨S1x16384x8x16, .f32⟩
  | .hbm, ⟨32, _⟩ => ⟨S1x16384x8x16, .f32⟩
  | .hbm, ⟨33, _⟩ => ⟨S1x16384x8x16, .f32⟩
  | .hbm, ⟨34, _⟩ => ⟨S1x16384x8x16, .f32⟩
  | .hbm, ⟨35, _⟩ => ⟨S1x16384x8x16, .f32⟩
  | .hbm, ⟨36, _⟩ => ⟨S1x16384x8x16, .f32⟩
  | .hbm, ⟨37, _⟩ => ⟨S1x16384x8x16, .f32⟩
  | .hbm, ⟨38, _⟩ => ⟨S1x16384x8x16, .f32⟩
  | .hbm, ⟨39, _⟩ => ⟨S1x16384x8x16, .f32⟩
  | .hbm, ⟨40, _⟩ => ⟨S1x16384x8x16, .f32⟩
  | .hbm, ⟨41, _⟩ => ⟨S1x16384x8x16, .f32⟩
  | .hbm, ⟨42, _⟩ => ⟨S1x16384x8x16, .f32⟩
  | .hbm, ⟨43, _⟩ => ⟨S1x16384x8x32, .f32⟩
  | .hbm, ⟨44, _⟩ => ⟨S1x16384x8x96, .f32⟩
  | .hbm, ⟨45, _⟩ => ⟨S16384x8x96, .f32⟩
  | .hbm, ⟨46, _⟩ => ⟨S1x16384x8x96, .f32⟩
  | .hbm, ⟨47, _⟩ => ⟨S1x16384x8x64, .f32⟩
  | .hbm, ⟨48, _⟩ => ⟨S1x16384x8x32, .f32⟩
  | .hbm, ⟨49, _⟩ => ⟨S1x16384x8x16, .f32⟩
  | .hbm, ⟨50, _⟩ => ⟨S1x16384x8x16, .f32⟩
  | .hbm, ⟨51, _⟩ => ⟨S1x16384x8x16, .f32⟩
  | .hbm, ⟨52, _⟩ => ⟨S1x16384x8x16, .f32⟩
  | .hbm, ⟨53, _⟩ => ⟨S1x16384x8x16, .f32⟩
  | .hbm, ⟨54, _⟩ => ⟨S1x16384x8x16, .f32⟩
  | .hbm, ⟨55, _⟩ => ⟨S1x16384x8x16, .f32⟩
  | .hbm, ⟨56, _⟩ => ⟨S1x16384x8x16, .f32⟩
  | .hbm, ⟨57, _⟩ => ⟨S1x16384x8x16, .f32⟩
  | .hbm, ⟨58, _⟩ => ⟨S1x16384x8x16, .f32⟩
  | .hbm, ⟨59, _⟩ => ⟨S1x16384x8x16, .f32⟩
  | .hbm, ⟨60, _⟩ => ⟨S1x16384x8x16, .f32⟩
  | .hbm, ⟨61, _⟩ => ⟨S1x16384x8x16, .f32⟩
  | .hbm, ⟨62, _⟩ => ⟨S_, .f32⟩
  | .hbm, ⟨63, _⟩ => ⟨S1x16384x8x32, .f32⟩
  | .hbm, ⟨64, _⟩ => ⟨S_, .f32⟩
  | .hbm, ⟨65, _⟩ => ⟨S1x16384x8x32, .f32⟩
  | .hbm, ⟨66, _⟩ => ⟨S1x16384x8x32, .f32⟩
  | .hbm, ⟨67, _⟩ => ⟨S_, .f32⟩
  | .hbm, ⟨68, _⟩ => ⟨S1x16384x8x96, .f32⟩
  | .hbm, ⟨69, _⟩ => ⟨S_, .f32⟩
  | .hbm, ⟨70, _⟩ => ⟨S1x16384x8x96, .f32⟩
  | .hbm, ⟨71, _⟩ => ⟨S1x16384x8x96, .f32⟩
  | .hbm, ⟨72, _⟩ => ⟨S16384x768, .f32⟩
  | .hbm, ⟨73, _⟩ => ⟨S768x384, .f32⟩
  | .hbm, ⟨74, _⟩ => ⟨S384x768, .f32⟩
  | .hbm, ⟨75, _⟩ => ⟨S16384x384, .f32⟩
  | .hbm, ⟨76, _⟩ => ⟨S768x384, .f32⟩
  | .hbm, ⟨77, _⟩ => ⟨S8x96x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== KvProj.lean ====
abbrev S16384x256 : Shape := ⟨2, ![16384, 256]⟩
abbrev S256x1024 : Shape := ⟨2, ![256, 1024]⟩
abbrev S16384x8x96 : Shape := ⟨3, ![16384, 8, 96]⟩
abbrev S16384x8x64 : Shape := ⟨3, ![16384, 8, 64]⟩
abbrev S256x8x128 : Shape := ⟨3, ![256, 8, 128]⟩
abbrev S8x256x128 : Shape := ⟨3, ![8, 256, 128]⟩
abbrev S32x512x8x96 : Shape := ⟨4, ![32, 512, 8, 96]⟩
abbrev S8x32x96x512 : Shape := ⟨4, ![8, 32, 96, 512]⟩
abbrev S32x512x8x64 : Shape := ⟨4, ![32, 512, 8, 64]⟩
abbrev S8x32x64x512 : Shape := ⟨4, ![8, 32, 64, 512]⟩
abbrev S8x256x64 : Shape := ⟨3, ![8, 256, 64]⟩
abbrev S8x64x256 : Shape := ⟨3, ![8, 64, 256]⟩
abbrev S32x32x512 : Shape := ⟨3, ![32, 32, 512]⟩
abbrev S8x1x96x512 : Shape := ⟨4, ![8, 1, 96, 512]⟩
abbrev S8x1x64x512 : Shape := ⟨4, ![8, 1, 64, 512]⟩
abbrev S512x256 : Shape := ⟨2, ![512, 256]⟩
abbrev S1x32x512 : Shape := ⟨3, ![1, 32, 512]⟩
abbrev S32x512 : Shape := ⟨2, ![32, 512]⟩
abbrev S1x1x64x512 : Shape := ⟨4, ![1, 1, 64, 512]⟩
abbrev S64x512 : Shape := ⟨2, ![64, 512]⟩
abbrev S1x64x256 : Shape := ⟨3, ![1, 64, 256]⟩
abbrev S64x256 : Shape := ⟨2, ![64, 256]⟩
abbrev S1x1x32x512 : Shape := ⟨4, ![1, 1, 32, 512]⟩

abbrev nBuf : Space → Nat
  | .hbm => 20
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x8x96, .f32⟩
  | .hbm, ⟨3, _⟩ => ⟨S16384x8x64, .f32⟩
  | .hbm, ⟨4, _⟩ => ⟨S256x1024, .bf16⟩
  | .hbm, ⟨5, _⟩ => ⟨S256x8x128, .bf16⟩
  | .hbm, ⟨6, _⟩ => ⟨S8x256x128, .bf16⟩
  | .hbm, ⟨7, _⟩ => ⟨S32x512x8x96, .f32⟩
  | .hbm, ⟨8, _⟩ => ⟨S8x32x96x512, .f32⟩
  | .hbm, ⟨9, _⟩ => ⟨S32x512x8x64, .f32⟩
  | .hbm, ⟨10, _⟩ => ⟨S8x32x64x512, .f32⟩
  | .hbm, ⟨11, _⟩ => ⟨S16384x256, .bf16⟩
  | .hbm, ⟨12, _⟩ => ⟨S8x256x64, .bf16⟩
  | .hbm, ⟨13, _⟩ => ⟨S8x256x64, .bf16⟩
  | .hbm, ⟨14, _⟩ => ⟨S8x64x256, .bf16⟩
  | .hbm, ⟨15, _⟩ => ⟨S8x64x256, .bf16⟩
  | .hbm, ⟨16, _⟩ => ⟨S16384x256, .f32⟩
  | .hbm, ⟨17, _⟩ => ⟨S8x64x256, .f32⟩
  | .hbm, ⟨18, _⟩ => ⟨S8x64x256, .f32⟩
  | .hbm, ⟨19, _⟩ => ⟨S32x32x512, .f32⟩
  | .local _ .vmem, ⟨0, _⟩ => ⟨S8x1x96x512, .f32⟩
  | .local _ .vmem, ⟨1, _⟩ => ⟨S8x1x96x512, .f32⟩
  | .local _ .vmem, ⟨2, _⟩ => ⟨S8x1x64x512, .f32⟩
  | .local _ .vmem, ⟨3, _⟩ => ⟨S8x1x64x512, .f32⟩
  | .local _ .vmem, ⟨4, _⟩ => ⟨S512x256, .bf16⟩
  | .local _ .vmem, ⟨5, _⟩ => ⟨S512x256, .bf16⟩
  | .local _ .vmem, ⟨6, _⟩ => ⟨S8x64x256, .bf16⟩
  | .local _ .vmem, ⟨7, _⟩ => ⟨S8x64x256, .bf16⟩
  | .local _ .vmem, ⟨8, _⟩ => ⟨S512x256, .f32⟩
  | .local _ .vmem, ⟨9, _⟩ => ⟨S512x256, .f32⟩
  | .local _ .vmem, ⟨10, _⟩ => ⟨S8x64x256, .f32⟩
  | .local _ .vmem, ⟨11, _⟩ => ⟨S8x64x256, .f32⟩
  | .local _ .vmem, ⟨12, _⟩ => ⟨S1x32x512, .f32⟩
  | .local _ .vmem, ⟨13, _⟩ => ⟨S1x32x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvProjRefIdeal.lean ====
abbrev S16384x256 : Shape := ⟨2, ![16384, 256]⟩
abbrev S256x1024 : Shape := ⟨2, ![256, 1024]⟩
abbrev S16384x8x96 : Shape := ⟨3, ![16384, 8, 96]⟩
abbrev S16384x8x64 : Shape := ⟨3, ![16384, 8, 64]⟩
abbrev S_ : Shape := ⟨0, ![]⟩
abbrev S16384x32 : Shape := ⟨2, ![16384, 32]⟩
abbrev S16384x1024 : Shape := ⟨2, ![16384, 1024]⟩
abbrev S16384x8x128 : Shape := ⟨3, ![16384, 8, 128]⟩
abbrev S16384x1x32 : Shape := ⟨3, ![16384, 1, 32]⟩
abbrev S16384x8x32 : Shape := ⟨3, ![16384, 8, 32]⟩
abbrev S1024x256 : Shape := ⟨2, ![1024, 256]⟩
abbrev S8x128x256 : Shape := ⟨3, ![8, 128, 256]⟩
abbrev S8x64x256 : Shape := ⟨3, ![8, 64, 256]⟩
abbrev S32x512x32 : Shape := ⟨3, ![32, 512, 32]⟩
abbrev S32x32x512 : Shape := ⟨3, ![32, 32, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x8x96, .f32⟩
  | .hbm, ⟨3, _⟩ => ⟨S16384x8x64, .f32⟩
  | .hbm, ⟨4, _⟩ => ⟨S_, .f32⟩
  | .hbm, ⟨5, _⟩ => ⟨S16384x32, .f32⟩
  | .hbm, ⟨6, _⟩ => ⟨S16384x1024, .f32⟩
  | .hbm, ⟨7, _⟩ => ⟨S16384x8x128, .f32⟩
  | .hbm, ⟨8, _⟩ => ⟨S16384x8x64, .f32⟩
  | .hbm, ⟨9, _⟩ => ⟨S16384x1x32, .f32⟩
  | .hbm, ⟨10, _⟩ => ⟨S16384x8x32, .f32⟩
  | .hbm, ⟨11, _⟩ => ⟨S16384x8x96, .f32⟩
  | .hbm, ⟨12, _⟩ => ⟨S16384x8x64, .f32⟩
  | .hbm, ⟨13, _⟩ => ⟨S_, .f32⟩
  | .hbm, ⟨14, _⟩ => ⟨S16384x8x128, .f32⟩
  | .hbm, ⟨15, _⟩ => ⟨S16384x8x64, .f32⟩
  | .hbm, ⟨16, _⟩ => ⟨S16384x8x32, .f32⟩
  | .hbm, ⟨17, _⟩ => ⟨S_, .f32⟩
  | .hbm, ⟨18, _⟩ => ⟨S16384x32, .f32⟩
  | .hbm, ⟨19, _⟩ => ⟨S16384x1x32, .f32⟩
  | .hbm, ⟨20, _⟩ => ⟨S_, .f32⟩
  | .hbm, ⟨21, _⟩ => ⟨S16384x32, .f32⟩
  | .hbm, ⟨22, _⟩ => ⟨S_, .f32⟩
  | .hbm, ⟨23, _⟩ => ⟨S16384x8x128, .f32⟩
  | .hbm, ⟨24, _⟩ => ⟨S16384x8x128, .f32⟩
  | .hbm, ⟨25, _⟩ => ⟨S16384x1024, .f32⟩
  | .hbm, ⟨26, _⟩ => ⟨S1024x256, .f32⟩
  | .hbm, ⟨27, _⟩ => ⟨S256x1024, .f32⟩
  | .hbm, ⟨28, _⟩ => ⟨S16384x256, .f32⟩
  | .hbm, ⟨29, _⟩ => ⟨S1024x256, .f32⟩
  | .hbm, ⟨30, _⟩ => ⟨S8x128x256, .f32⟩
  | .hbm, ⟨31, _⟩ => ⟨S8x64x256, .f32⟩
  | .hbm, ⟨32, _⟩ => ⟨S8x64x256, .f32⟩
  | .hbm, ⟨33, _⟩ => ⟨S32x512x32, .f32⟩
  | .hbm, ⟨34, _⟩ => ⟨S32x32x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== OProj.lean ====
abbrev S16384x8x64 : Shape := ⟨3, ![16384, 8, 64]⟩
abbrev S512x1024 : Shape := ⟨2, ![512, 1024]⟩
abbrev S16384x1024 : Shape := ⟨2, ![16384, 1024]⟩
abbrev S32x512x8x64 : Shape := ⟨4, ![32, 512, 8, 64]⟩
abbrev S8x32x64x512 : Shape := ⟨4, ![8, 32, 64, 512]⟩
abbrev S8x64x1024 : Shape := ⟨3, ![8, 64, 1024]⟩
abbrev S8x32x1x512 : Shape := ⟨4, ![8, 32, 1, 512]⟩
abbrev S8x1x64x512 : Shape := ⟨4, ![8, 1, 64, 512]⟩
abbrev S8x1x1x512 : Shape := ⟨4, ![8, 1, 1, 512]⟩
abbrev S1x1x64x512 : Shape := ⟨4, ![1, 1, 64, 512]⟩
abbrev S64x512 : Shape := ⟨2, ![64, 512]⟩
abbrev S1x64x1024 : Shape := ⟨3, ![1, 64, 1024]⟩
abbrev S64x1024 : Shape := ⟨2, ![64, 1024]⟩
abbrev S512 : Shape := ⟨1, ![512]⟩
abbrev S1x512 : Shape := ⟨2, ![1, 512]⟩
abbrev S1x1x1x512 : Shape := ⟨4, ![1, 1, 1, 512]⟩

abbrev nBuf : Space → Nat
  | .hbm => 10
  | .vmem => 10
  | .smem => 0
  | _ => 0

abbrev bufTy : (tb : Table) → Fin (tcTables nBuf tb) → BufTy
  | .hbm, ⟨0, _⟩ => ⟨S16384x8x64, .f32⟩
  | .hbm, ⟨1, _⟩ => ⟨S512x1024, .f32⟩
  | .hbm, ⟨2, _⟩ => ⟨S16384x1024, .f32⟩
  | .hbm, ⟨3, _⟩ => ⟨S32x512x8x64, .f32⟩
  | .hbm, ⟨4, _⟩ => ⟨S8x32x64x512, .f32⟩
  | .hbm, ⟨5, _⟩ => ⟨S512x1024, .bf16⟩
  | .hbm, ⟨6, _⟩ => ⟨S8x64x1024, .bf16⟩
  | .hbm, ⟨7, _⟩ => ⟨S8x32x64x512, .f32⟩
  | .hbm, ⟨8, _⟩ => ⟨S8x32x1x512, .f32⟩
  | .hbm, ⟨9, _⟩ => ⟨S8x64x1024, .f32⟩
  | .local _ .vmem, ⟨0, _⟩ => ⟨S512x1024, .f32⟩
  | .local _ .vmem, ⟨1, _⟩ => ⟨S512x1024, .f32⟩
  | .local _ .vmem, ⟨2, _⟩ => ⟨S8x1x64x512, .f32⟩
  | .local _ .vmem, ⟨3, _⟩ => ⟨S8x1x64x512, .f32⟩
  | .local _ .vmem, ⟨4, _⟩ => ⟨S8x64x1024, .bf16⟩
  | .local _ .vmem, ⟨5, _⟩ => ⟨S8x1x64x512, .f32⟩
  | .local _ .vmem, ⟨6, _⟩ => ⟨S8x1x64x512, .f32⟩
  | .local _ .vmem, ⟨7, _⟩ => ⟨S8x1x1x512, .f32⟩
  | .local _ .vmem, ⟨8, _⟩ => ⟨S8x1x1x512, .f32⟩
  | .local _ .vmem, ⟨9, _⟩ => ⟨S8x64x1024, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OProjRefIdeal.lean ====
abbrev S16384x8x64 : Shape := ⟨3, ![16384, 8, 64]⟩
abbrev S512x1024 : Shape := ⟨2, ![512, 1024]⟩
abbrev S16384x1024 : Shape := ⟨2, ![16384, 1024]⟩
abbrev S16384x512 : Shape := ⟨2, ![16384, 512]⟩
abbrev S1024x512 : Shape := ⟨2, ![1024, 512]⟩
abbrev S_ : Shape := ⟨0, ![]⟩
abbrev S16384x8 : Shape := ⟨2, ![16384, 8]⟩
abbrev S16384x8x1 : Shape := ⟨3, ![16384, 8, 1]⟩
abbrev S32x512x8x64 : Shape := ⟨4, ![32, 512, 8, 64]⟩
abbrev S8x32x64x512 : Shape := ⟨4, ![8, 32, 64, 512]⟩
abbrev S32x512x8x1 : Shape := ⟨4, ![32, 512, 8, 1]⟩
abbrev S8x32x1x512 : Shape := ⟨4, ![8, 32, 1, 512]⟩
abbrev S8x64x1024 : Shape := ⟨3, ![8, 64, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S512x1024, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S1024x512, .f32⟩
  | .hbm, ⟨6, _⟩ => ⟨S512x1024, .f32⟩
  | .hbm, ⟨7, _⟩ => ⟨S16384x512, .f32⟩
  | .hbm, ⟨8, _⟩ => ⟨S16384x8x64, .f32⟩
  | .hbm, ⟨9, _⟩ => ⟨S16384x8x64, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S32x512x8x64, .f32⟩
  | .hbm, ⟨14, _⟩ => ⟨S8x32x64x512, .f32⟩
  | .hbm, ⟨15, _⟩ => ⟨S32x512x8x1, .f32⟩
  | .hbm, ⟨16, _⟩ => ⟨S8x32x1x512, .f32⟩
  | .hbm, ⟨17, _⟩ => ⟨S8x64x1024, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Flash.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x16384x64 : Shape := ⟨3, ![8, 16384, 64]⟩
abbrev S32x512x8x96 : Shape := ⟨4, ![32, 512, 8, 96]⟩
abbrev S8x32x96x512 : Shape := ⟨4, ![8, 32, 96, 512]⟩
abbrev S8x16384x96 : Shape := ⟨3, ![8, 16384, 96]⟩
abbrev S32x512x8x64 : Shape := ⟨4, ![32, 512, 8, 64]⟩
abbrev S8x32x64x512 : Shape := ⟨4, ![8, 32, 64, 512]⟩
abbrev S8x32x1x512 : Shape := ⟨4, ![8, 32, 1, 512]⟩
abbrev S1x32x96x512 : Shape := ⟨4, ![1, 32, 96, 512]⟩
abbrev S1x512x96 : Shape := ⟨3, ![1, 512, 96]⟩
abbrev S1x1x96x512 : Shape := ⟨4, ![1, 1, 96, 512]⟩
abbrev S1x512x64 : Shape := ⟨3, ![1, 512, 64]⟩
abbrev S1x32x64x512 : Shape := ⟨4, ![1, 32, 64, 512]⟩
abbrev S1x32x1x512 : Shape := ⟨4, ![1, 32, 1, 512]⟩
abbrev S1x1x64x512 : Shape := ⟨4, ![1, 1, 64, 512]⟩
abbrev S512x512 : Shape := ⟨2, ![512, 512]⟩
abbrev S512x96 : Shape := ⟨2, ![512, 96]⟩
abbrev S96x512 : Shape := ⟨2, ![96, 512]⟩
abbrev S512x64 : Shape := ⟨2, ![512, 64]⟩
abbrev S64x512 : Shape := ⟨2, ![64, 512]⟩
abbrev S1x1x1x512 : Shape := ⟨4, ![1, 1, 1, 512]⟩
abbrev S1x512 : Shape := ⟨2, ![1, 512]⟩
abbrev S256x512 : Shape := ⟨2, ![256, 512]⟩
abbrev S64x256 : Shape := ⟨2, ![64, 256]⟩
abbrev S96x256 : Shape := ⟨2, ![96, 256]⟩
abbrev S1x1x96x256 : Shape := ⟨4, ![1, 1, 96, 256]⟩

abbrev nBuf : Space → Nat
  | .hbm => 54
  | .vmem => 24
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x64, .f32⟩
  | .hbm, ⟨28, _⟩ => ⟨S8x16384x1, .f32⟩
  | .hbm, ⟨29, _⟩ => ⟨S8x16384x64, .f32⟩
  | .hbm, ⟨30, _⟩ => ⟨S8x16384x64, .f32⟩
  | .hbm, ⟨31, _⟩ => ⟨S8x16384, .f32⟩
  | .hbm, ⟨32, _⟩ => ⟨S8x16384, .f32⟩
  | .hbm, ⟨33, _⟩ => ⟨S8x16384x64, .f32⟩
  | .hbm, ⟨34, _⟩ => ⟨S8x16384x64, .f32⟩
  | .hbm, ⟨35, _⟩ => ⟨S_, .f32⟩
  | .hbm, ⟨36, _⟩ => ⟨S8x16384, .f32⟩
  | .hbm, ⟨37, _⟩ => ⟨S16384x8x96, .bf16⟩
  | .hbm, ⟨38, _⟩ => ⟨S32x512x8x96, .bf16⟩
  | .hbm, ⟨39, _⟩ => ⟨S8x32x96x512, .bf16⟩
  | .hbm, ⟨40, _⟩ => ⟨S16384x8x96, .bf16⟩
  | .hbm, ⟨41, _⟩ => ⟨S8x16384x96, .bf16⟩
  | .hbm, ⟨42, _⟩ => ⟨S16384x8x96, .bf16⟩
  | .hbm, ⟨43, _⟩ => ⟨S32x512x8x96, .bf16⟩
  | .hbm, ⟨44, _⟩ => ⟨S8x32x96x512, .bf16⟩
  | .hbm, ⟨45, _⟩ => ⟨S16384x8x64, .bf16⟩
  | .hbm, ⟨46, _⟩ => ⟨S8x16384x64, .bf16⟩
  | .hbm, ⟨47, _⟩ => ⟨S32x512x8x64, .f32⟩
  | .hbm, ⟨48, _⟩ => ⟨S8x32x64x512, .f32⟩
  | .hbm, ⟨49, _⟩ => ⟨S8x32x1x512, .f32⟩
  | .hbm, ⟨50, _⟩ => ⟨S8x32x1x512, .f32⟩
  | .hbm, ⟨51, _⟩ => ⟨S8x32x96x512, .f32⟩
  | .hbm, ⟨52, _⟩ => ⟨S8x32x96x512, .f32⟩
  | .hbm, ⟨53, _⟩ => ⟨S8x32x64x512, .f32⟩
  | .local _ .vmem, ⟨0, _⟩ => ⟨S1x32x96x512, .bf16⟩
  | .local _ .vmem, ⟨1, _⟩ => ⟨S1x32x96x512, .bf16⟩
  | .local _ .vmem, ⟨2, _⟩ => ⟨S1x512x96, .bf16⟩
  | .local _ .vmem, ⟨3, _⟩ => ⟨S1x512x96, .bf16⟩
  | .local _ .vmem, ⟨4, _⟩ => ⟨S1x1x96x512, .bf16⟩
  | .local _ .vmem, ⟨5, _⟩ => ⟨S1x1x96x512, .bf16⟩
  | .local _ .vmem, ⟨6, _⟩ => ⟨S1x512x64, .bf16⟩
  | .local _ .vmem, ⟨7, _⟩ => ⟨S1x512x64, .bf16⟩
  | .local _ .vmem, ⟨8, _⟩ => ⟨S1x32x64x512, .f32⟩
  | .local _ .vmem, ⟨9, _⟩ => ⟨S1x32x64x512, .f32⟩
  | .local _ .vmem, ⟨10, _⟩ => ⟨S1x32x1x512, .f32⟩
  | .local _ .vmem, ⟨11, _⟩ => ⟨S1x32x1x512, .f32⟩
  | .local _ .vmem, ⟨12, _⟩ => ⟨S1x32x1x512, .f32⟩
  | .local _ .vmem, ⟨13, _⟩ => ⟨S1x32x1x512, .f32⟩
  | .local _ .vmem, ⟨14, _⟩ => ⟨S1x32x96x512, .f32⟩
  | .local _ .vmem, ⟨15, _⟩ => ⟨S1x32x96x512, .f32⟩
  | .local _ .vmem, ⟨16, _⟩ => ⟨S1x1x96x512, .f32⟩
  | .local _ .vmem, ⟨17, _⟩ => ⟨S1x1x96x512, .f32⟩
  | .local _ .vmem, ⟨18, _⟩ => ⟨S1x1x64x512, .f32⟩
  | .local _ .vmem, ⟨19, _⟩ => ⟨S1x1x64x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def k0_off1 (i : grid0.Coords) : Fin 4 → Nat :=
  let c0_4 : Index := 0#32
  let c31_i32 : BitVec 32 := 31#32
  let arg1 : BitVec 32 := BitVec.ofNat 32 (i 1).val
  let v3 : BitVec 32 := Scalar.subi c31_i32 arg1
  let c0_i32_1 : BitVec 32 := 0#32
  let v4 : BitVec 1 := Scalar.cmpi .sgt v3 c0_i32_1
  let c1_i32 : BitVec 32 := 1#32
  let v5 : BitVec 32 := Scalar.addi arg1 c1_i32
  let v6 : BitVec 32 := Scalar.select v4 v5 arg1
  let v9 : Index := Scalar.indexCast v6
  let c0_5 : Index := 0#32
  let c0_6 : Index := 0#32
  ![0, v9.toNat, 0, 0]
def k0_off2 (i : grid0.Coords) : Fin 4 → Nat :=
  let c0_12 : Index := 0#32
  let c31_i32 : BitVec 32 := 31#32
  let arg1 : BitVec 32 := BitVec.ofNat 32 (i 1).val
  let v3 : BitVec 32 := Scalar.subi c31_i32 arg1
  let c0_i32_1 : BitVec 32 := 0#32
  let v4 : BitVec 1 := Scalar.cmpi .sgt v3 c0_i32_1
  let c1_i32 : BitVec 32 := 1#32
  let v5 : BitVec 32 := Scalar.addi arg1 c1_i32
  let v6 : BitVec 32 := Scalar.select v4 v5 arg1
  let v18 : Index := Scalar.indexCast v6
  let c0_13 : Index := 0#32
  let c0_14 : Index := 0#32
  ![0, v18.toNat, 0, 0]
@[reducible] def k0_t1_loop (i : grid0.Coords) : Scf.Loop 32 :=
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_28 : BitVec 32 := 1#32
  ⟨c0_i32_26, v49, c1_i32_28⟩
def k0_off3 (i : grid0.Coords) (k0_t1 : Fin (k0_t1_loop i).trips) : Fin 4 → Nat :=
  let c0_53 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let c1_i32_49 : BitVec 32 := 1#32
  let v77 : BitVec 32 := Scalar.addi v76 c1_i32_49
  let v80 : Index := Scalar.indexCast v77
  let c0_54 : Index := 0#32
  let c0_55 : Index := 0#32
  ![0, v80.toNat, 0, 0]
def k0_off4 (i : grid0.Coords) (k0_t1 : Fin (k0_t1_loop i).trips) : Fin 4 → Nat :=
  let c0_62 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let c1_i32_49 : BitVec 32 := 1#32
  let v77 : BitVec 32 := Scalar.addi v76 c1_i32_49
  let v89 : Index := Scalar.indexCast v77
  let c0_63 : Index := 0#32
  let c0_64 : Index := 0#32
  ![0, v89.toNat, 0, 0]
def k0_off5 (i : grid0.Coords) (k0_t1 : Fin (k0_t1_loop i).trips) : Fin 4 → Nat :=
  let c0_68 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let v97 : Index := Scalar.indexCast v76
  let c0_69 : Index := 0#32
  let c0_70 : Index := 0#32
  ![0, v97.toNat, 0, 0]
def k0_off6 (i : grid0.Coords) (k0_t1 : Fin (k0_t1_loop i).trips) : Fin 4 → Nat :=
  let c0_71 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let v101 : Index := Scalar.indexCast v76
  let c0_72 : Index := 0#32
  let c0_73 : Index := 0#32
  ![0, v101.toNat, 0, 0]
def k0_off7 (i : grid0.Coords) (k0_t1 : Fin (k0_t1_loop i).trips) : Fin 4 → Nat :=
  let c0_84 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let v122 : Index := Scalar.indexCast v76
  let c0_85 : Index := 0#32
  let c0_86 : Index := 0#32
  ![0, v122.toNat, 0, 0]
def k0_off8 (i : grid0.Coords) (k0_t1 : Fin (k0_t1_loop i).trips) : Fin 4 → Nat :=
  let c0_120 : Index := 0#32
  let c2_i32_114 : BitVec 32 := 2#32
  let c0_i32_26 : BitVec 32 := 0#32
  let c1_i32_28 : BitVec 32 := 1#32
  let arg16 : BitVec 32 := Scf.iv c0_i32_26 c1_i32_28 k0_t1
  let v164 : BitVec 32 := Scalar.muli c2_i32_114 arg16
  let c2_i32_115 : BitVec 32 := 2#32
  let v165 : BitVec 32 := Scalar.addi v164 c2_i32_115
  let c31_i32 : BitVec 32 := 31#32
  let arg1 : BitVec 32 := BitVec.ofNat 32 (i 1).val
  let v3 : BitVec 32 := Scalar.subi c31_i32 arg1
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v171 : Index := Scalar.indexCast v168
  let c0_121 : Index := 0#32
  let c0_122 : Index := 0#32
  ![0, v171.toNat, 0, 0]
def k0_off9 (i : grid0.Coords) (k0_t1 : Fin (k0_t1_loop i).trips) : Fin 4 → Nat :=
  let c0_129 : Index := 0#32
  let c2_i32_114 : BitVec 32 := 2#32
  let c0_i32_26 : BitVec 32 := 0#32
  let c1_i32_28 : BitVec 32 := 1#32
  let arg16 : BitVec 32 := Scf.iv c0_i32_26 c1_i32_28 k0_t1
  let v164 : BitVec 32 := Scalar.muli c2_i32_114 arg16
  let c2_i32_115 : BitVec 32 := 2#32
  let v165 : BitVec 32 := Scalar.addi v164 c2_i32_115
  let c31_i32 : BitVec 32 := 31#32
  let arg1 : BitVec 32 := BitVec.ofNat 32 (i 1).val
  let v3 : BitVec 32 := Scalar.subi c31_i32 arg1
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v180 : Index := Scalar.indexCast v168
  let c0_130 : Index := 0#32
  let c0_131 : Index := 0#32
  ![0, v180.toNat, 0, 0]
def k0_off10 (i : grid0.Coords) (k0_t1 : Fin (k0_t1_loop i).trips) : Fin 4 → Nat :=
  let c0_139 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c1_i32_28 : BitVec 32 := 1#32
  let arg16 : BitVec 32 := Scf.iv c0_i32_26 c1_i32_28 k0_t1
  let v75 : BitVec 32 := Scalar.muli c2_i32_48 arg16
  let v76 : BitVec 32 := Scalar.addi v74 v75
  let c1_i32_135 : BitVec 32 := 1#32
  let v188 : BitVec 32 := Scalar.addi v76 c1_i32_135
  let v193 : Index := Scalar.indexCast v188
  let c0_140 : Index := 0#32
  let c0_141 : Index := 0#32
  ![0, v193.toNat, 0, 0]
@[reducible] def k0_t2_loop (i : grid0.Coords) : Scf.Loop 32 :=
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let v46 : BitVec 32 := Scalar.addi c0_i32_26 v45
  let c1_i32_29 : BitVec 32 := 1#32
  ⟨v49, v46, c1_i32_29⟩
def k0_off11 (i : grid0.Coords) (k0_t2 : Fin (k0_t2_loop i).trips) : Fin 4 → Nat :=
  let c0_53 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let c1_i32_49 : BitVec 32 := 1#32
  let v77 : BitVec 32 := Scalar.addi v76 c1_i32_49
  let v80 : Index := Scalar.indexCast v77
  let c0_54 : Index := 0#32
  let c0_55 : Index := 0#32
  ![0, v80.toNat, 0, 0]
def k0_off12 (i : grid0.Coords) (k0_t2 : Fin (k0_t2_loop i).trips) : Fin 4 → Nat :=
  let c0_62 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let c1_i32_49 : BitVec 32 := 1#32
  let v77 : BitVec 32 := Scalar.addi v76 c1_i32_49
  let v89 : Index := Scalar.indexCast v77
  let c0_63 : Index := 0#32
  let c0_64 : Index := 0#32
  ![0, v89.toNat, 0, 0]
def k0_off13 (i : grid0.Coords) (k0_t2 : Fin (k0_t2_loop i).trips) : Fin 4 → Nat :=
  let c0_68 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let v97 : Index := Scalar.indexCast v76
  let c0_69 : Index := 0#32
  let c0_70 : Index := 0#32
  ![0, v97.toNat, 0, 0]
def k0_off14 (i : grid0.Coords) (k0_t2 : Fin (k0_t2_loop i).trips) : Fin 4 → Nat :=
  let c0_71 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let v101 : Index := Scalar.indexCast v76
  let c0_72 : Index := 0#32
  let c0_73 : Index := 0#32
  ![0, v101.toNat, 0, 0]
def k0_off15 (i : grid0.Coords) (k0_t2 : Fin (k0_t2_loop i).trips) : Fin 4 → Nat :=
  let c0_84 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let v122 : Index := Scalar.indexCast v76
  let c0_85 : Index := 0#32
  let c0_86 : Index := 0#32
  ![0, v122.toNat, 0, 0]
def k0_off16 (i : grid0.Coords) (k0_t2 : Fin (k0_t2_loop i).trips) : Fin 4 → Nat :=
  let c0_120 : Index := 0#32
  let c2_i32_114 : BitVec 32 := 2#32
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v164 : BitVec 32 := Scalar.muli c2_i32_114 arg16
  let c2_i32_115 : BitVec 32 := 2#32
  let v165 : BitVec 32 := Scalar.addi v164 c2_i32_115
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v171 : Index := Scalar.indexCast v168
  let c0_121 : Index := 0#32
  let c0_122 : Index := 0#32
  ![0, v171.toNat, 0, 0]
def k0_off17 (i : grid0.Coords) (k0_t2 : Fin (k0_t2_loop i).trips) : Fin 4 → Nat :=
  let c0_129 : Index := 0#32
  let c2_i32_114 : BitVec 32 := 2#32
  let c0_i32_26 : BitVec 32 := 0#32
  let c31_i32 : BitVec 32 := 31#32
  let arg1 : BitVec 32 := BitVec.ofNat 32 (i 1).val
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v164 : BitVec 32 := Scalar.muli c2_i32_114 arg16
  let c2_i32_115 : BitVec 32 := 2#32
  let v165 : BitVec 32 := Scalar.addi v164 c2_i32_115
  let v166 : BitVec 1 := Scalar.cmpi .slt v165 v3
  let c1_i32_47 : BitVec 32 := 1#32
  let v74 : BitVec 32 := Scalar.addi arg1 c1_i32_47
  let c2_i32_48 : BitVec 32 := 2#32
  let v75 : BitVec 32 := Scalar.muli c2_i32_48 arg16
  let v76 : BitVec 32 := Scalar.addi v74 v75
  let c2_i32_116 : BitVec 32 := 2#32
  let v167 : BitVec 32 := Scalar.addi v76 c2_i32_116
  let v168 : BitVec 32 := Scalar.select v166 v167 arg1
  let v180 : Index := Scalar.indexCast v168
  let c0_130 : Index := 0#32
  let c0_131 : Index := 0#32
  ![0, v180.toNat, 0, 0]
def k0_off18 (i : grid0.Coords) (k0_t2 : Fin (k0_t2_loop i).trips) : Fin 4 → Nat :=
  let c0_139 : Index := 0#32
  let arg1 : BitVec 32 := BitVec.ofNat 32 (i 1).val
  let c1_i32_47 : BitVec 32 := 1#32
  let v74 : BitVec 32 := Scalar.addi arg1 c1_i32_47
  let c2_i32_48 : BitVec 32 := 2#32
  let c0_i32_26 : BitVec 32 := 0#32
  let c31_i32 : BitVec 32 := 31#32
  let v3 : BitVec 32 := Scalar.subi c31_i32 arg1
  let c0_i32_18 : BitVec 32 := 0#32
  let v27 : BitVec 1 := Scalar.cmpi .sgt v3 c0_i32_18
  let v28 : BitVec 32 := Scalar.extui v27
  let c0_i32_19 : BitVec 32 := 0#32
  let v29 : BitVec 1 := Scalar.cmpi .slt v3 c0_i32_19
  let v30 : BitVec 32 := Scalar.extui v29
  let v31 : BitVec 32 := Scalar.subi v28 v30
  let c2_i32 : BitVec 32 := 2#32
  let c0_i32_20 : BitVec 32 := 0#32
  let v32 : BitVec 1 := Scalar.cmpi .sgt c2_i32 c0_i32_20
  let v33 : BitVec 32 := Scalar.extui v32
  let c0_i32_21 : BitVec 32 := 0#32
  let v34 : BitVec 1 := Scalar.cmpi .slt c2_i32 c0_i32_21
  let v35 : BitVec 32 := Scalar.extui v34
  let v36 : BitVec 32 := Scalar.subi v33 v35
  let v37 : BitVec 1 := Scalar.cmpi .ne v31 v36
  let v38 : BitVec 32 := Scalar.remsi v3 c2_i32
  let c0_i32_22 : BitVec 32 := 0#32
  let v39 : BitVec 1 := Scalar.cmpi .ne v38 c0_i32_22
  let v40 : BitVec 1 := Scalar.andi v37 v39
  let v26 : BitVec 32 := Scalar.divsi v3 c2_i32
  let c1_i32_23 : BitVec 32 := 1#32
  let v41 : BitVec 32 := Scalar.subi v26 c1_i32_23
  let v42 : BitVec 32 := Scalar.select v40 v41 v26
  let v45 : BitVec 32 := Scalar.subi v42 c0_i32_26
  let c1_i32_27 : BitVec 32 := 1#32
  let v47 : BitVec 32 := Scalar.divsi v45 c1_i32_27
  let v48 : BitVec 32 := Scalar.muli v47 c1_i32_27
  let v49 : BitVec 32 := Scalar.addi c0_i32_26 v48
  let c1_i32_29 : BitVec 32 := 1#32
  let arg16 : BitVec 32 := Scf.iv v49 c1_i32_29 k0_t2
  let v75 : BitVec 32 := Scalar.muli c2_i32_48 arg16
  let v76 : BitVec 32 := Scalar.addi v74 v75
  let c1_i32_135 : BitVec 32 := 1#32
  let v188 : BitVec 32 := Scalar.addi v76 c1_i32_135
  let v193 : Index := Scalar.indexCast v188
  let c0_140 : Index := 0#32
  let c0_141 : Index := 0#32
  ![0, v193.toNat, 0, 0]
def k0_cond2 (i : grid0.Coords) : BitVec 1 :=
  let c31_i32 : BitVec 32 := 31#32
  let arg1 : BitVec 32 := BitVec.ofNat 32 (i 1).val
  let v3 : BitVec 32 := Scalar.subi c31_i32 arg1
  let c2_i32_30 : BitVec 32 := 2#32
  let c0_i32_31 : BitVec 32 := 0#32
  let v52 : BitVec 1 := Scalar.cmpi .eq c2_i32_30 c0_i32_31
  let c1_i32_32 : BitVec 32 := 1#32
  let v53 : BitVec 32 := Scalar.select v52 c1_i32_32 c2_i32_30
  let v54 : BitVec 32 := Scalar.remsi v3 v53
  let c0_i32_34 : BitVec 32 := 0#32
  let v56 : BitVec 1 := Scalar.cmpi .slt v54 c0_i32_34
  let c0_i32_35 : BitVec 32 := 0#32
  let v57 : BitVec 1 := Scalar.cmpi .slt v53 c0_i32_35
  let v58 : BitVec 1 := Scalar.xori v56 v57
  let c0_i32_33 : BitVec 32 := 0#32
  let v55 : BitVec 1 := Scalar.cmpi .ne v54 c0_i32_33
  let v59 : BitVec 1 := Scalar.andi v58 v55
  let v60 : BitVec 32 := Scalar.addi v54 v53
  let v61 : BitVec 32 := Scalar.select v59 v60 v54
  let c0_i32_36 : BitVec 32 := 0#32
  let v62 : BitVec 1 := Scalar.cmpi .eq v61 c0_i32_36
  let v63 : BitVec 32 := Scalar.extui v62
  let c0_i32_37 : BitVec 32 := 0#32
  let v64 : BitVec 1 := Scalar.cmpi .ne v63 c0_i32_37
  v64

def k0_off19 (i : grid0.Coords) : Fin 4 → Nat :=
  let c0_47 : Index := 0#32
  let arg1 : BitVec 32 := BitVec.ofNat 32 (i 1).val
  let v74 : Index := Scalar.indexCast arg1
  let c0_48 : Index := 0#32
  let c0_49 : Index := 0#32
  ![0, v74.toNat, 0, 0]
def k0_off20 (i : grid0.Coords) : Fin 4 → Nat :=
  let c0_50 : Index := 0#32
  let arg1 : BitVec 32 := BitVec.ofNat 32 (i 1).val
  let v78 : Index := Scalar.indexCast arg1
  let c0_51 : Index := 0#32
  let c0_52 : Index := 0#32
  ![0, v78.toNat, 0, 0]
def k0_off21 (i : grid0.Coords) : Fin 4 → Nat :=
  let c0_64 : Index := 0#32
  let arg1 : BitVec 32 := BitVec.ofNat 32 (i 1).val
  let v105 : Index := Scalar.indexCast arg1
  let c0_65 : Index := 0#32
  let c0_66 : Index := 0#32
  ![0, v105.toNat, 0, 0]
def k0_off22 (i : grid0.Coords) : Fin 4 → Nat :=
  let c0_50 : Index := 0#32
  let arg1 : BitVec 32 := BitVec.ofNat 32 (i 1).val
  let v76 : Index := Scalar.indexCast arg1
  let c0_51 : Index := 0#32
  let c0_52 : Index := 0#32
  ![0, v76.toNat, 0, 0]
def k0_off23 (i : grid0.Coords) : Fin 4 → Nat :=
  let c0_59 : Index := 0#32
  let arg1 : BitVec 32 := BitVec.ofNat 32 (i 1).val
  let v85 : Index := Scalar.indexCast arg1
  let c0_60 : Index := 0#32
  let c0_61 : Index := 0#32
  ![0, v85.toNat, 0, 0]
def k0_off24 (i : grid0.Coords) : Fin 4 → Nat :=
  let c0_120 : Index := 0#32
  let arg1 : BitVec 32 := BitVec.ofNat 32 (i 1).val
  let v157 : Index := Scalar.indexCast arg1
  let c0_121 : Index := 0#32
  let c0_122 : Index := 0#32
  ![0, v157.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x96x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x96x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FlashIdeal.lean ====
variable {F : FTy → Type} [FloatOps F] [Named F]
def κ : String → Option EReal := fun
  | "c" => some (((3424635 / 33554432) * (Real.log 2)⁻¹ : ℝ) : EReal)
  | "log2e" => some (((Real.log 2)⁻¹ : ℝ) : EReal)
  | "mask" => some ⊥
  | _ => none
-- ==== FlashRefIdeal.lean ====
abbrev S16384x8x96 : Shape := ⟨3, ![16384, 8, 96]⟩
abbrev S16384x8x64 : Shape := ⟨3, ![16384, 8, 64]⟩
abbrev S16384 : Shape := ⟨1, ![16384]⟩
abbrev S8x16384x16384 : Shape := ⟨3, ![8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S32x512x8x96 : Shape := ⟨4, ![32, 512, 8, 96]⟩
abbrev S8x32x96x512 : Shape := ⟨4, ![8, 32, 96, 512]⟩
abbrev S32x512x8x64 : Shape := ⟨4, ![32, 512, 8, 64]⟩
abbrev S8x32x64x512 : Shape := ⟨4, ![8, 32, 64, 512]⟩

abbrev nBuf : Space → Nat
  | .hbm => 95
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S16384, .i32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S8x16384, .i1⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S8x16384, .f32⟩
  | .hbm, ⟨45, _⟩ => ⟨S8x16384, .f32⟩
  | .hbm, ⟨46, _⟩ => ⟨S8x16384x1, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x1, .f32⟩
  | .hbm, ⟨56, _⟩ => ⟨S_, .f32⟩
  | .hbm, ⟨57, _⟩ => ⟨S8x16384x1, .f32⟩
  | .hbm, ⟨58, _⟩ => ⟨S8x16384x1, .f32⟩
  | .hbm, ⟨59, _⟩ => ⟨S8x64x16384, .f32⟩
  | .hbm, ⟨60, _⟩ => ⟨S16384x8x64, .f32⟩
  | .hbm, ⟨61, _⟩ => ⟨S8x64x16384, .f32⟩
  | .hbm, ⟨62, _⟩ => ⟨S8x16384x16384, .f32⟩
  | .hbm, ⟨63, _⟩ => ⟨S8x64x16384, .f32⟩
  | .hbm, ⟨64, _⟩ => ⟨S16384x8x64, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S8x16384, .f32⟩
  | .hbm, ⟨70, _⟩ => ⟨S8x16384x1, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S_, .f32⟩
  | .hbm, ⟨75, _⟩ => ⟨S8x16384, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384x16384, .f32⟩
  | .hbm, ⟨84, _⟩ => ⟨S8x16384x16384, .f32⟩
  | .hbm, ⟨85, _⟩ => ⟨S8x16384x96, .f32⟩
  | .hbm, ⟨86, _⟩ => ⟨S16384x8x96, .f32⟩
  | .hbm, ⟨87, _⟩ => ⟨S8x16384x96, .f32⟩
  | .hbm, ⟨88, _⟩ => ⟨S16384x8x96, .f32⟩
  | .hbm, ⟨89, _⟩ => ⟨S32x512x8x96, .f32⟩
  | .hbm, ⟨90, _⟩ => ⟨S8x32x96x512, .f32⟩
  | .hbm, ⟨91, _⟩ => ⟨S32x512x8x96, .f32⟩
  | .hbm, ⟨92, _⟩ => ⟨S8x32x96x512, .f32⟩
  | .hbm, ⟨93, _⟩ => ⟨S32x512x8x64, .f32⟩
  | .hbm, ⟨94, _⟩ => ⟨S8x32x64x512, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Fwd.lean ====
abbrev S16384x8x96 : Shape := ⟨3, ![16384, 8, 96]⟩
abbrev S16384x8x64 : Shape := ⟨3, ![16384, 8, 64]⟩
abbrev S16 : Shape := ⟨1, ![16]⟩
abbrev S_ : Shape := ⟨0, ![]⟩
abbrev S32x512x8x64 : Shape := ⟨4, ![32, 512, 8, 64]⟩
abbrev S8x32x64x512 : Shape := ⟨4, ![8, 32, 64, 512]⟩
abbrev S1x1x16x1 : Shape := ⟨4, ![1, 1, 16, 1]⟩
abbrev S8x32x16x512 : Shape := ⟨4, ![8, 32, 16, 512]⟩
abbrev S32x512x8x96 : Shape := ⟨4, ![32, 512, 8, 96]⟩
abbrev S8x32x96x512 : Shape := ⟨4, ![8, 32, 96, 512]⟩
abbrev S8x16384x96 : Shape := ⟨3, ![8, 16384, 96]⟩
abbrev S8x32x80x512 : Shape := ⟨4, ![8, 32, 80, 512]⟩
abbrev S8x32x1x512 : Shape := ⟨4, ![8, 32, 1, 512]⟩
abbrev S1x1x96x512 : Shape := ⟨4, ![1, 1, 96, 512]⟩
abbrev S1x16384x96 : Shape := ⟨3, ![1, 16384, 96]⟩
abbrev S1x32x80x512 : Shape := ⟨4, ![1, 32, 80, 512]⟩
abbrev S1x1x64x512 : Shape := ⟨4, ![1, 1, 64, 512]⟩
abbrev S1x1x1x512 : Shape := ⟨4, ![1, 1, 1, 512]⟩
abbrev S512x512 : Shape := ⟨2, ![512, 512]⟩
abbrev S1x512x96 : Shape := ⟨3, ![1, 512, 96]⟩
abbrev S512x96 : Shape := ⟨2, ![512, 96]⟩
abbrev S96x512 : Shape := ⟨2, ![96, 512]⟩
abbrev S1x512 : Shape := ⟨2, ![1, 512]⟩
abbrev S80x512 : Shape := ⟨2, ![80, 512]⟩
abbrev S512 : Shape := ⟨1, ![512]⟩
abbrev S1x1x80x512 : Shape := ⟨4, ![1, 1, 80, 512]⟩
abbrev S64x512 : Shape := ⟨2, ![64, 512]⟩

abbrev nBuf : Space → Nat
  | .hbm => 26
  | .vmem => 12
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16, .bf16⟩
  | .hbm, ⟨13, _⟩ => ⟨S16384x8x64, .bf16⟩
  | .hbm, ⟨14, _⟩ => ⟨S32x512x8x64, .bf16⟩
  | .hbm, ⟨15, _⟩ => ⟨S8x32x64x512, .bf16⟩
  | .hbm, ⟨16, _⟩ => ⟨S1x1x16x1, .bf16⟩
  | .hbm, ⟨17, _⟩ => ⟨S8x32x16x512, .bf16⟩
  | .hbm, ⟨18, _⟩ => ⟨S16384x8x96, .bf16⟩
  | .hbm, ⟨19, _⟩ => ⟨S32x512x8x96, .bf16⟩
  | .hbm, ⟨20, _⟩ => ⟨S8x32x96x512, .bf16⟩
  | .hbm, ⟨21, _⟩ => ⟨S16384x8x96, .bf16⟩
  | .hbm, ⟨22, _⟩ => ⟨S8x16384x96, .bf16⟩
  | .hbm, ⟨23, _⟩ => ⟨S8x32x80x512, .bf16⟩
  | .hbm, ⟨24, _⟩ => ⟨S8x32x64x512, .f32⟩
  | .hbm, ⟨25, _⟩ => ⟨S8x32x1x512, .f32⟩
  | .local _ .vmem, ⟨0, _⟩ => ⟨S1x1x96x512, .bf16⟩
  | .local _ .vmem, ⟨1, _⟩ => ⟨S1x1x96x512, .bf16⟩
  | .local _ .vmem, ⟨2, _⟩ => ⟨S1x16384x96, .bf16⟩
  | .local _ .vmem, ⟨3, _⟩ => ⟨S1x16384x96, .bf16⟩
  | .local _ .vmem, ⟨4, _⟩ => ⟨S1x32x80x512, .bf16⟩
  | .local _ .vmem, ⟨5, _⟩ => ⟨S1x32x80x512, .bf16⟩
  | .local _ .vmem, ⟨6, _⟩ => ⟨S1x1x64x512, .f32⟩
  | .local _ .vmem, ⟨7, _⟩ => ⟨S1x1x64x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .f32⟩
  | .local _ .vmem, ⟨11, _⟩ => ⟨S512x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_mult1 : BitVec 32 :=
  let c0_i32 : BitVec 32 := 0#32
  c0_i32
@[reducible] def k0_t1_loop (i : grid0.Coords) : Scf.Loop 32 :=
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_16 : BitVec 32 := 1#32
  ⟨c0_i32_14, v33, c1_i32_16⟩
def k0_mult2 (i : grid0.Coords) (k0_t1 : Fin (k0_t1_loop i).trips) : BitVec 32 :=
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let c1_i32_36 : BitVec 32 := 1#32
  let v65 : BitVec 32 := Scalar.addi v64 c1_i32_36
  let c512_i32 : BitVec 32 := 512#32
  let v66 : BitVec 32 := Scalar.muli v65 c512_i32
  v66
def k0_off1 (i : grid0.Coords) (k0_t1 : Fin (k0_t1_loop i).trips) (c1_i32_36 : BitVec 32) : Fin 3 → Nat :=
  let c0_37 : Index := 0#32
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let v65 : BitVec 32 := Scalar.addi v64 c1_i32_36
  let c512_i32 : BitVec 32 := 512#32
  let v66 : BitVec 32 := Scalar.muli v65 c512_i32
  let v67 : BitVec 32 := v66
  let v68 : Index := Scalar.indexCast v67
  let c0_38 : Index := 0#32
  ![0, v68.toNat, 0]
def k0_off2 (i : grid0.Coords) (k0_t1 : Fin (k0_t1_loop i).trips) : Fin 4 → Nat :=
  let c0_51 : Index := 0#32
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let v93 : Index := Scalar.indexCast v64
  let c0_52 : Index := 0#32
  let c0_53 : Index := 0#32
  ![0, v93.toNat, 0, 0]
def k0_mult3 (i : grid0.Coords) (k0_t1 : Fin (k0_t1_loop i).trips) : BitVec 32 :=
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let c2_i32_55 : BitVec 32 := 2#32
  let v98 : BitVec 32 := Scalar.addi v64 c2_i32_55
  let c512_i32_56 : BitVec 32 := 512#32
  let v99 : BitVec 32 := Scalar.muli v98 c512_i32_56
  v99
def k0_off3 (i : grid0.Coords) (k0_t1 : Fin (k0_t1_loop i).trips) : Fin 4 → Nat :=
  let c0_72 : Index := 0#32
  let c2_i32_35 : BitVec 32 := 2#32
  let c0_i32_14 : BitVec 32 := 0#32
  let c1_i32_16 : BitVec 32 := 1#32
  let arg9 : BitVec 32 := Scf.iv c0_i32_14 c1_i32_16 k0_t1
  let v64 : BitVec 32 := Scalar.muli c2_i32_35 arg9
  let c1_i32_66 : BitVec 32 := 1#32
  let v110 : BitVec 32 := Scalar.addi v64 c1_i32_66
  let v127 : Index := Scalar.indexCast v110
  let c0_73 : Index := 0#32
  let c0_74 : Index := 0#32
  ![0, v127.toNat, 0, 0]
@[reducible] def k0_t2_loop (i : grid0.Coords) : Scf.Loop 32 :=
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let v30 : BitVec 32 := Scalar.addi c0_i32_14 v29
  let c1_i32_17 : BitVec 32 := 1#32
  ⟨v33, v30, c1_i32_17⟩
def k0_mult4 (i : grid0.Coords) (k0_t2 : Fin (k0_t2_loop i).trips) : BitVec 32 :=
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let c1_i32_36 : BitVec 32 := 1#32
  let v65 : BitVec 32 := Scalar.addi v64 c1_i32_36
  let c512_i32 : BitVec 32 := 512#32
  let v66 : BitVec 32 := Scalar.muli v65 c512_i32
  v66
def k0_off4 (i : grid0.Coords) (k0_t2 : Fin (k0_t2_loop i).trips) (c1_i32_36 : BitVec 32) : Fin 3 → Nat :=
  let c0_37 : Index := 0#32
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let v65 : BitVec 32 := Scalar.addi v64 c1_i32_36
  let c512_i32 : BitVec 32 := 512#32
  let v66 : BitVec 32 := Scalar.muli v65 c512_i32
  let v67 : BitVec 32 := v66
  let v68 : Index := Scalar.indexCast v67
  let c0_38 : Index := 0#32
  ![0, v68.toNat, 0]
def k0_off5 (i : grid0.Coords) (k0_t2 : Fin (k0_t2_loop i).trips) : Fin 4 → Nat :=
  let c0_51 : Index := 0#32
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let v93 : Index := Scalar.indexCast v64
  let c0_52 : Index := 0#32
  let c0_53 : Index := 0#32
  ![0, v93.toNat, 0, 0]
def k0_mult5 (i : grid0.Coords) (k0_t2 : Fin (k0_t2_loop i).trips) : BitVec 32 :=
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let c2_i32_55 : BitVec 32 := 2#32
  let v98 : BitVec 32 := Scalar.addi v64 c2_i32_55
  let c512_i32_56 : BitVec 32 := 512#32
  let v99 : BitVec 32 := Scalar.muli v98 c512_i32_56
  v99
def k0_off6 (i : grid0.Coords) (k0_t2 : Fin (k0_t2_loop i).trips) : Fin 4 → Nat :=
  let c0_72 : Index := 0#32
  let c2_i32_35 : BitVec 32 := 2#32
  let c0_i32_14 : BitVec 32 := 0#32
  let arg1 : BitVec 32 := BitVec.ofNat 32 (i 1).val
  let c0_i32_7 : BitVec 32 := 0#32
  let v11 : BitVec 1 := Scalar.cmpi .sgt arg1 c0_i32_7
  let v12 : BitVec 32 := Scalar.extui v11
  let c0_i32_8 : BitVec 32 := 0#32
  let v13 : BitVec 1 := Scalar.cmpi .slt arg1 c0_i32_8
  let v14 : BitVec 32 := Scalar.extui v13
  let v15 : BitVec 32 := Scalar.subi v12 v14
  let c2_i32 : BitVec 32 := 2#32
  let c0_i32_9 : BitVec 32 := 0#32
  let v16 : BitVec 1 := Scalar.cmpi .sgt c2_i32 c0_i32_9
  let v17 : BitVec 32 := Scalar.extui v16
  let c0_i32_10 : BitVec 32 := 0#32
  let v18 : BitVec 1 := Scalar.cmpi .slt c2_i32 c0_i32_10
  let v19 : BitVec 32 := Scalar.extui v18
  let v20 : BitVec 32 := Scalar.subi v17 v19
  let v21 : BitVec 1 := Scalar.cmpi .ne v15 v20
  let v22 : BitVec 32 := Scalar.remsi arg1 c2_i32
  let c0_i32_11 : BitVec 32 := 0#32
  let v23 : BitVec 1 := Scalar.cmpi .ne v22 c0_i32_11
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let v29 : BitVec 32 := Scalar.subi v26 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg9 : BitVec 32 := Scf.iv v33 c1_i32_17 k0_t2
  let v64 : BitVec 32 := Scalar.muli c2_i32_35 arg9
  let c1_i32_66 : BitVec 32 := 1#32
  let v110 : BitVec 32 := Scalar.addi v64 c1_i32_66
  let v127 : Index := Scalar.indexCast v110
  let c0_73 : Index := 0#32
  let c0_74 : Index := 0#32
  ![0, v127.toNat, 0, 0]
def k0_cond1 (i : grid0.Coords) : BitVec 1 :=
  let arg1 : BitVec 32 := BitVec.ofNat 32 (i 1).val
  let c2_i32_18 : BitVec 32 := 2#32
  let c0_i32_19 : BitVec 32 := 0#32
  let v36 : BitVec 1 := Scalar.cmpi .eq c2_i32_18 c0_i32_19
  let c1_i32_20 : BitVec 32 := 1#32
  let v37 : BitVec 32 := Scalar.select v36 c1_i32_20 c2_i32_18
  let v38 : BitVec 32 := Scalar.remsi arg1 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_24 : BitVec 32 := 0#32
  let v46 : BitVec 1 := Scalar.cmpi .eq v45 c0_i32_24
  let v47 : BitVec 32 := Scalar.extui v46
  let c0_i32_25 : BitVec 32 := 0#32
  let v48 : BitVec 1 := Scalar.cmpi .ne v47 c0_i32_25
  v48

def k0_off7 (i : grid0.Coords) : Fin 4 → Nat :=
  let c0_41 : Index := 0#32
  let arg1 : BitVec 32 := BitVec.ofNat 32 (i 1).val
  let v85 : Index := Scalar.indexCast arg1
  let c0_42 : Index := 0#32
  let c0_43 : Index := 0#32
  ![0, v85.toNat, 0, 0]
def k0_mult6 (i : grid0.Coords) : BitVec 32 :=
  let arg1 : BitVec 32 := BitVec.ofNat 32 (i 1).val
  let c512_i32 : BitVec 32 := 512#32
  let v64 : BitVec 32 := Scalar.muli arg1 c512_i32
  v64
def k0_off8 (i : grid0.Coords) : Fin 3 → Nat :=
  let c0_35 : Index := 0#32
  let arg1 : BitVec 32 := BitVec.ofNat 32 (i 1).val
  let c512_i32 : BitVec 32 := 512#32
  let v64 : BitVec 32 := Scalar.muli arg1 c512_i32
  let v65 : BitVec 32 := v64
  let v66 : Index := Scalar.indexCast v65
  let c0_36 : Index := 0#32
  ![0, v66.toNat, 0]
def k0_off9 (i : grid0.Coords) : Fin 4 → Nat :=
  let c0_50 : Index := 0#32
  let arg1 : BitVec 32 := BitVec.ofNat 32 (i 1).val
  let c1_i32_44 : BitVec 32 := 1#32
  let v75 : BitVec 32 := Scalar.subi arg1 c1_i32_44
  let v92 : Index := Scalar.indexCast v75
  let c0_51 : Index := 0#32
  let c0_52 : Index := 0#32
  ![0, v92.toNat, 0, 0]
def k0_off10 (i : grid0.Coords) : Fin 4 → Nat :=
  let c0_60 : Index := 0#32
  let arg1 : BitVec 32 := BitVec.ofNat 32 (i 1).val
  let v118 : Index := Scalar.indexCast arg1
  let c0_61 : Index := 0#32
  let c0_62 : Index := 0#32
  ![0, v118.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "c" => some (((3424635 / 33554432) * (Real.log 2)⁻¹ : ℝ) : EReal)
  | "mask" => some ⊥
  | _ => none
-- ==== FwdRefIdeal.lean ====
abbrev S16384x8x96 : Shape := ⟨3, ![16384, 8, 96]⟩
abbrev S16384x8x64 : Shape := ⟨3, ![16384, 8, 64]⟩
abbrev S16384 : Shape := ⟨1, ![16384]⟩
abbrev S8x16384x16384 : Shape := ⟨3, ![8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S32x512x8x64 : Shape := ⟨4, ![32, 512, 8, 64]⟩
abbrev S8x32x64x512 : Shape := ⟨4, ![8, 32, 64, 512]⟩
abbrev S8x32x1x512 : Shape := ⟨4, ![8, 32, 1, 512]⟩

abbrev nBuf : Space → Nat
  | .hbm => 47
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384, .i32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S_, .f32⟩
  | .hbm, ⟨15, _⟩ => ⟨S8x16384x16384, .i1⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S_, .f32⟩
  | .hbm, ⟨29, _⟩ => ⟨S8x16384, .f32⟩
  | .hbm, ⟨30, _⟩ => ⟨S8x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S8x16384, .f32⟩
  | .hbm, ⟨37, _⟩ => ⟨S8x16384x1, .f32⟩
  | .hbm, ⟨38, _⟩ => ⟨S8x16384x16384, .f32⟩
  | .hbm, ⟨39, _⟩ => ⟨S8x16384x16384, .f32⟩
  | .hbm, ⟨40, _⟩ => ⟨S8x64x16384, .f32⟩
  | .hbm, ⟨41, _⟩ => ⟨S16384x8x64, .f32⟩
  | .hbm, ⟨42, _⟩ => ⟨S32x512x8x64, .f32⟩
  | .hbm, ⟨43, _⟩ => ⟨S8x32x64x512, .f32⟩
  | .hbm, ⟨44, _⟩ => ⟨S8x16384, .f32⟩
  | .hbm, ⟨45, _⟩ => ⟨S8x16384, .f32⟩
  | .hbm, ⟨46, _⟩ => ⟨S8x32x1x512, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Halo.lean ====
abbrev S16384x1280 : Shape := ⟨2, ![16384, 1280]⟩
abbrev S16x128x1280 : Shape := ⟨3, ![16, 128, 1280]⟩
abbrev S16x128x10x128 : Shape := ⟨4, ![16, 128, 10, 128]⟩
abbrev S10x16x128x128 : Shape := ⟨4, ![10, 16, 128, 128]⟩
abbrev S16x8x128x1280 : Shape := ⟨4, ![16, 8, 128, 1280]⟩
abbrev S16x1x128x128 : Shape := ⟨4, ![16, 1, 128, 128]⟩
abbrev S1x16x128x128 : Shape := ⟨4, ![1, 16, 128, 128]⟩
abbrev S15x1x128x128 : Shape := ⟨4, ![15, 1, 128, 128]⟩
abbrev S15x128x128 : Shape := ⟨3, ![15, 128, 128]⟩
abbrev S1x15x128x128 : Shape := ⟨4, ![1, 15, 128, 128]⟩
abbrev S1x1x128x128 : Shape := ⟨4, ![1, 1, 128, 128]⟩
abbrev S1x128x128 : Shape := ⟨3, ![1, 128, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384x1280, .f32⟩
  | .hbm, ⟨1, _⟩ => ⟨S16x128x1280, .f32⟩
  | .hbm, ⟨2, _⟩ => ⟨S16x128x10x128, .f32⟩
  | .hbm, ⟨3, _⟩ => ⟨S10x16x128x128, .f32⟩
  | .hbm, ⟨4, _⟩ => ⟨S16x8x128x1280, .f32⟩
  | .hbm, ⟨5, _⟩ => ⟨S16x8x128x1280, .f32⟩
  | .local _ .vmem, ⟨0, _⟩ => ⟨S16x1x128x128, .f32⟩
  | .local _ .vmem, ⟨1, _⟩ => ⟨S16x1x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S16x1x128x128, .f32⟩
  | .local _ .vmem, ⟨5, _⟩ => ⟨S16x1x128x128, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, c7_i32.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, c7_i32.toNat, c0_i32_0.toNat, arg0.toNat]

abbrev stage0_0 : Fin 2 → Memref sig .tc .vmem S16x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HaloRefIdeal.lean ====
abbrev S16384x1280 : Shape := ⟨2, ![16384, 1280]⟩
abbrev S16x128x1280 : Shape := ⟨3, ![16, 128, 1280]⟩
abbrev S128x128x1280 : Shape := ⟨3, ![128, 128, 1280]⟩
abbrev S1x128x1280 : Shape := ⟨3, ![1, 128, 1280]⟩
abbrev S_ : Shape := ⟨0, ![]⟩
abbrev S127x128x1280 : Shape := ⟨3, ![127, 128, 1280]⟩
abbrev S16x8x128x1280 : Shape := ⟨4, ![16, 8, 128, 1280]⟩
abbrev S16x1x128x1280 : Shape := ⟨4, ![16, 1, 128, 1280]⟩

abbrev nBuf : Space → Nat
  | .hbm => 24
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S16x128x1280, .f32⟩
  | .hbm, ⟨2, _⟩ => ⟨S128x128x1280, .f32⟩
  | .hbm, ⟨3, _⟩ => ⟨S1x128x1280, .f32⟩
  | .hbm, ⟨4, _⟩ => ⟨S_, .f32⟩
  | .hbm, ⟨5, _⟩ => ⟨S1x128x1280, .f32⟩
  | .hbm, ⟨6, _⟩ => ⟨S127x128x1280, .f32⟩
  | .hbm, ⟨7, _⟩ => ⟨S128x128x1280, .f32⟩
  | .hbm, ⟨8, _⟩ => ⟨S_, .f32⟩
  | .hbm, ⟨9, _⟩ => ⟨S1x128x1280, .f32⟩
  | .hbm, ⟨10, _⟩ => ⟨S16x8x128x1280, .f32⟩
  | .hbm, ⟨11, _⟩ => ⟨S16x1x128x1280, .f32⟩
  | .hbm, ⟨12, _⟩ => ⟨S16x128x1280, .f32⟩
  | .hbm, ⟨13, _⟩ => ⟨S16x1x128x1280, .f32⟩
  | .hbm, ⟨14, _⟩ => ⟨S_, .f32⟩
  | .hbm, ⟨15, _⟩ => ⟨S16x8x128x1280, .f32⟩
  | .hbm, ⟨16, _⟩ => ⟨S128x128x1280, .f32⟩
  | .hbm, ⟨17, _⟩ => ⟨S1x128x1280, .f32⟩
  | .hbm, ⟨18, _⟩ => ⟨S127x128x1280, .f32⟩
  | .hbm, ⟨19, _⟩ => ⟨S_, .f32⟩
  | .hbm, ⟨20, _⟩ => ⟨S128x128x1280, .f32⟩
  | .hbm, ⟨21, _⟩ => ⟨S16384x1280, .f32⟩
  | .hbm, ⟨22, _⟩ => ⟨S16384x1280, .f32⟩
  | .hbm, ⟨23, _⟩ => ⟨S16x8x128x1280, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Band.lean ====
abbrev S16384x3072 : Shape := ⟨2, ![16384, 3072]⟩
abbrev S20x128x256 : Shape := ⟨3, ![20, 128, 256]⟩
abbrev S8 : Shape := ⟨1, ![8]⟩
abbrev S16384x512 : Shape := ⟨2, ![16384, 512]⟩
abbrev S3x16384x4x64 : Shape := ⟨4, ![3, 16384, 4, 64]⟩
abbrev S3x16384x4 : Shape := ⟨3, ![3, 16384, 4]⟩
abbrev S_ : Shape := ⟨0, ![]⟩
abbrev S12 : Shape := ⟨1, ![12]⟩
abbrev S20 : Shape := ⟨1, ![20]⟩
abbrev S20x1x1 : Shape := ⟨3, ![20, 1, 1]⟩
abbrev S20x1x128 : Shape := ⟨3, ![20, 1, 128]⟩
abbrev S16384x768 : Shape := ⟨2, ![16384, 768]⟩
abbrev S4096x4x768 : Shape := ⟨3, ![4096, 4, 768]⟩
abbrev S4x4096x768 : Shape := ⟨3, ![4, 4096, 768]⟩
abbrev S1024x16x768 : Shape := ⟨3, ![1024, 16, 768]⟩
abbrev S16x1024x768 : Shape := ⟨3, ![16, 1024, 768]⟩
abbrev S20x256x128 : Shape := ⟨3, ![20, 256, 128]⟩
abbrev S1x16384x4x64 : Shape := ⟨4, ![1, 16384, 4, 64]⟩
abbrev S16384x4x64 : Shape := ⟨3, ![16384, 4, 64]⟩
abbrev S16384x256 : Shape := ⟨2, ![16384, 256]⟩
abbrev S4096x4x256 : Shape := ⟨3, ![4096, 4, 256]⟩
abbrev S4x4096x256 : Shape := ⟨3, ![4, 4096, 256]⟩
abbrev S1024x16x256 : Shape := ⟨3, ![1024, 16, 256]⟩
abbrev S16x1024x256 : Shape := ⟨3, ![16, 1024, 256]⟩
abbrev S16384x1280 : Shape := ⟨2, ![16384, 1280]⟩
abbrev S4x16x8x2x128 : Shape := ⟨5, ![4, 16, 8, 2, 128]⟩
abbrev S1x16384x4 : Shape := ⟨3, ![1, 16384, 4]⟩
abbrev S16384x4 : Shape := ⟨2, ![16384, 4]⟩
abbrev S16x8x128x2x2 : Shape := ⟨5, ![16, 8, 128, 2, 2]⟩
abbrev S2x16x8x2x128 : Shape := ⟨5, ![2, 16, 8, 2, 128]⟩
abbrev S4096x4x4 : Shape := ⟨3, ![4096, 4, 4]⟩
abbrev S4x4096x4 : Shape := ⟨3, ![4, 4096, 4]⟩
abbrev S1024x16x4 : Shape := ⟨3, ![1024, 16, 4]⟩
abbrev S16x1024x4 : Shape := ⟨3, ![16, 1024, 4]⟩
abbrev S10x16x8x2x128 : Shape := ⟨5, ![10, 16, 8, 2, 128]⟩
abbrev S10x16x128x128 : Shape := ⟨4, ![10, 16, 128, 128]⟩
abbrev S1024x128 : Shape := ⟨2, ![1024, 128]⟩
abbrev S128x128 : Shape := ⟨2, ![128, 128]⟩
abbrev S2x256x128 : Shape := ⟨3, ![2, 256, 128]⟩
abbrev S2x1x128 : Shape := ⟨3, ![2, 1, 128]⟩
abbrev S1x1x8x2x128 : Shape := ⟨5, ![1, 1, 8, 2, 128]⟩
abbrev S1x1x128x128 : Shape := ⟨4, ![1, 1, 128, 128]⟩
abbrev S1024x64 : Shape := ⟨2, ![1024, 64]⟩
abbrev S8x128x64 : Shape := ⟨3, ![8, 128, 64]⟩
abbrev S128x64 : Shape := ⟨2, ![128, 64]⟩
abbrev S1x128x64 : Shape := ⟨3, ![1, 128, 64]⟩
abbrev S7x128x64 : Shape := ⟨3, ![7, 128, 64]⟩
abbrev S1x1x1 : Shape := ⟨3, ![1, 1, 1]⟩
abbrev S1x1 : Shape := ⟨2, ![1, 1]⟩
abbrev S8x128x128 : Shape := ⟨3, ![8, 128, 128]⟩
abbrev S1x128x128 : Shape := ⟨3, ![1, 128, 128]⟩
abbrev S7x128x128 : Shape := ⟨3, ![7, 128, 128]⟩
abbrev S8x128 : Shape := ⟨2, ![8, 128]⟩
abbrev S8x1x128 : Shape := ⟨3, ![8, 1, 128]⟩
abbrev S1x1x8x1x128 : Shape := ⟨5, ![1, 1, 8, 1, 128]⟩
abbrev S1x128 : Shape := ⟨2, ![1, 128]⟩
abbrev S1 : Shape := ⟨1, ![1]⟩
abbrev S1x1x128 : Shape := ⟨3, ![1, 1, 128]⟩
abbrev S1x1x128x64 : Shape := ⟨4, ![1, 1, 128, 64]⟩
abbrev S16x128x10x128 : Shape := ⟨4, ![16, 128, 10, 128]⟩
abbrev S16x128x1280 : Shape := ⟨3, ![16, 128, 1280]⟩
abbrev S16x1024x1280 : Shape := ⟨3, ![16, 1024, 1280]⟩
abbrev S15x128x1280 : Shape := ⟨3, ![15, 128, 1280]⟩
abbrev S1x128x1280 : Shape := ⟨3, ![1, 128, 1280]⟩
abbrev S16x896x1280 : Shape := ⟨3, ![16, 896, 1280]⟩
abbrev S16384x64 : Shape := ⟨2, ![16384, 64]⟩
abbrev S16384x128 : Shape := ⟨2, ![16384, 128]⟩
abbrev S8x1x1 : Shape := ⟨3, ![8, 1, 1]⟩

abbrev nBuf : Space → Nat
  | .hbm => 160
  | .vmem => 32
  | .smem => 0
  | _ => 0

abbrev hbmTy0_0 (i : Nat) : BufTy := match i % 128 with
  | 0 => ⟨S16384x3072, .f32⟩
  | 1 => ⟨S20x128x256, .f32⟩
  | 2 => ⟨S8, .f32⟩
  | 3 => ⟨S16384x512, .f32⟩
  | 4 => ⟨S3x16384x4x64, .f32⟩
  | 5 => ⟨S3x16384x4, .f32⟩
  | 6 => ⟨S_, .f32⟩
  | 7 => ⟨S12, .f32⟩
  | 8 => ⟨S20, .f32⟩
  | 9 => ⟨S20x1x1, .f32⟩
  | 10 => ⟨S20x1x128, .f32⟩
  | 11 => ⟨S16384x768, .f32⟩
  | 12 => ⟨S16384x768, .f32⟩
  | 13 => ⟨S16384x768, .f32⟩
  | 14 => ⟨S4096x4x768, .f32⟩
  | 15 => ⟨S4x4096x768, .f32⟩
  | 16 => ⟨S16384x768, .f32⟩
  | 17 => ⟨S16384x768, .f32⟩
  | 18 => ⟨S1024x16x768, .f32⟩
  | 19 => ⟨S16x1024x768, .f32⟩
  | 20 => ⟨S16384x768, .f32⟩
  | 21 => ⟨S16384x3072, .f32⟩
  | 22 => ⟨S16384x3072, .bf16⟩
  | 23 => ⟨S20x256x128, .f32⟩
  | 24 => ⟨S1x16384x4x64, .f32⟩
  | 25 => ⟨S16384x4x64, .f32⟩
  | 26 => ⟨S16384x256, .f32⟩
  | 27 => ⟨S1x16384x4x64, .f32⟩
  | 28 => ⟨S16384x4x64, .f32⟩
  | 29 => ⟨S16384x256, .f32⟩
  | 30 => ⟨S4096x4x256, .f32⟩
  | 31 => ⟨S4x4096x256, .f32⟩
  | 32 => ⟨S16384x256, .f32⟩
  | 33 => ⟨S1x16384x4x64, .f32⟩
  | 34 => ⟨S16384x4x64, .f32⟩
  | 35 => ⟨S16384x256, .f32⟩
  | 36 => ⟨S1024x16x256, .f32⟩
  | 37 => ⟨S16x1024x256, .f32⟩
  | 38 => ⟨S16384x256, .f32⟩
  | 39 => ⟨S16384x1280, .f32⟩
  | 40 => ⟨S_, .f32⟩
  | 41 => ⟨S4x16x8x2x128, .f32⟩
  | 42 => ⟨S1x16384x4, .f32⟩
  | 43 => ⟨S16384x4, .f32⟩
  | 44 => ⟨S16x8x128x2x2, .f32⟩
  | 45 => ⟨S2x16x8x2x128, .f32⟩
  | 46 => ⟨S1x16384x4, .f32⟩
  | 47 => ⟨S16384x4, .f32⟩
  | 48 => ⟨S4096x4x4, .f32⟩
  | 49 => ⟨S4x4096x4, .f32⟩
  | 50 => ⟨S16384x4, .f32⟩
  | 51 => ⟨S16x8x128x2x2, .f32⟩
  | 52 => ⟨S2x16x8x2x128, .f32⟩
  | 53 => ⟨S1x16384x4, .f32⟩
  | 54 => ⟨S16384x4, .f32⟩
  | 55 => ⟨S1024x16x4, .f32⟩
  | 56 => ⟨S16x1024x4, .f32⟩
  | 57 => ⟨S16384x4, .f32⟩
  | 58 => ⟨S16x8x128x2x2, .f32⟩
  | 59 => ⟨S2x16x8x2x128, .f32⟩
  | 60 => ⟨S10x16x8x2x128, .f32⟩
  | 61 => ⟨S16384x1280, .f32⟩
  | 62 => ⟨S16384x1280, .f32⟩
  | 63 => ⟨S16384x1280, .f32⟩
  | 64 => ⟨S10x16x128x128, .f32⟩
  | 65 => ⟨S10x16x128x128, .f32⟩
  | 66 => ⟨S20x256x128, .f32⟩
  | 67 => ⟨S20x1x128, .f32⟩
  | 68 => ⟨S20x128x256, .f32⟩
  | 69 => ⟨S16x128x10x128, .f32⟩
  | 70 => ⟨S16x128x1280, .f32⟩
  | 71 => ⟨S16x1024x1280, .f32⟩
  | 72 => ⟨S16x128x1280, .f32⟩
  | 73 => ⟨S15x128x1280, .f32⟩
  | 74 => ⟨S1x128x1280, .f32⟩
  | 75 => ⟨S_, .f32⟩
  | 76 => ⟨S1x128x1280, .f32⟩
  | 77 => ⟨S16x128x1280, .f32⟩
  | 78 => ⟨S16x128x1280, .f32⟩
  | 79 => ⟨S16x896x1280, .f32⟩
  | 80 => ⟨S16x1024x1280, .f32⟩
  | 81 => ⟨S16384x1280, .f32⟩
  | 82 => ⟨S16x128x10x128, .f32⟩
  | 83 => ⟨S16x128x1280, .f32⟩
  | 84 => ⟨S16x1024x1280, .f32⟩
  | 85 => ⟨S16x128x1280, .f32⟩
  | 86 => ⟨S15x128x1280, .f32⟩
  | 87 => ⟨S1x128x1280, .f32⟩
  | 88 => ⟨S_, .f32⟩
  | 89 => ⟨S1x128x1280, .f32⟩
  | 90 => ⟨S16x128x1280, .f32⟩
  | 91 => ⟨S16x128x1280, .f32⟩
  | 92 => ⟨S16x896x1280, .f32⟩
  | 93 => ⟨S16x1024x1280, .f32⟩
  | 94 => ⟨S16384x1280, .f32⟩
  | 95 => ⟨S16384x512, .f32⟩
  | 96 => ⟨S16384x64, .f32⟩
  | 97 => ⟨S16384x64, .f32⟩
  | 98 => ⟨S16384x64, .f32⟩
  | 99 => ⟨S16384x64, .f32⟩
  | 100 => ⟨S16384x64, .f32⟩
  | 101 => ⟨S16384x64, .f32⟩
  | 102 => ⟨S16384x64, .f32⟩
  | 103 => ⟨S16384x64, .f32⟩
  | 104 => ⟨S_, .f32⟩
  | 105 => ⟨S16384x64, .f32⟩
  | 106 => ⟨S16384x64, .f32⟩
  | 107 => ⟨S16384x64, .f32⟩
  | 108 => ⟨S16384x64, .f32⟩
  | 109 => ⟨S16384x64, .f32⟩
  | 110 => ⟨S_, .f32⟩
  | 111 => ⟨S16384x64, .f32⟩
  | 112 => ⟨S16384x64, .f32⟩
  | 113 => ⟨S16384x64, .f32⟩
  | 114 => ⟨S16384x64, .f32⟩
  | 115 => ⟨S16384x64, .f32⟩
  | 116 => ⟨S16384x128, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S16384x64, .f32⟩
  | 123 => ⟨S16384x64, .f32⟩
  | 124 => ⟨S16384x64, .f32⟩
  | 125 => ⟨S_, .f32⟩
  | 126 => ⟨S16384x64, .f32⟩
  | 127 => ⟨S16384x64, .f32⟩
  | _ => ⟨S16384x3072, .f32⟩

abbrev hbmTy0_1 (i : Nat) : BufTy := match i % 128 with
  | 0 => ⟨S16384x64, .f32⟩
  | 1 => ⟨S16384x64, .f32⟩
  | 2 => ⟨S16384x64, .f32⟩
  | 3 => ⟨S_, .f32⟩
  | 4 => ⟨S16384x64, .f32⟩
  | 5 => ⟨S16384x64, .f32⟩
  | 6 => ⟨S16384x64, .f32⟩
  | 7 => ⟨S16384x64, .f32⟩
  | 8 => ⟨S16384x64, .f32⟩
  | 9 => ⟨S16384x128, .f32⟩
  | 10 => ⟨S16384x768, .f32⟩
  | 11 => ⟨S16384x256, .f32⟩
  | 12 => ⟨S16384x256, .f32⟩
  | 13 => ⟨S16384x256, .f32⟩
  | 14 => ⟨S16384x768, .f32⟩
  | 15 => ⟨S16384x256, .f32⟩
  | 16 => ⟨S16384x256, .f32⟩
  | 17 => ⟨S16384x256, .f32⟩
  | 18 => ⟨S16384x768, .f32⟩
  | 19 => ⟨S4x4096x768, .f32⟩
  | 20 => ⟨S4096x4x768, .f32⟩
  | 21 => ⟨S16384x768, .f32⟩
  | 22 => ⟨S16384x256, .f32⟩
  | 23 => ⟨S16384x256, .f32⟩
  | 24 => ⟨S16384x256, .f32⟩
  | 25 => ⟨S16384x768, .f32⟩
  | 26 => ⟨S16x1024x768, .f32⟩
  | 27 => ⟨S1024x16x768, .f32⟩
  | 28 => ⟨S16384x768, .f32⟩
  | 29 => ⟨S16384x3072, .f32⟩
  | 30 => ⟨S8x1x1, .f32⟩
  | 31 => ⟨S8, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S2x256x128, .f32⟩
  | .local _ .vmem, ⟨11, _⟩ => ⟨S2x256x128, .f32⟩
  | .local _ .vmem, ⟨12, _⟩ => ⟨S2x1x128, .f32⟩
  | .local _ .vmem, ⟨13, _⟩ => ⟨S2x1x128, .f32⟩
  | .local _ .vmem, ⟨14, _⟩ => ⟨S1024x128, .f32⟩
  | .local _ .vmem, ⟨15, _⟩ => ⟨S1024x128, .f32⟩
  | .local _ .vmem, ⟨16, _⟩ => ⟨S1x1x8x2x128, .f32⟩
  | .local _ .vmem, ⟨17, _⟩ => ⟨S1x1x8x2x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1x1x128x128, .f32⟩
  | .local _ .vmem, ⟨25, _⟩ => ⟨S1x1x128x128, .f32⟩
  | .local _ .vmem, ⟨26, _⟩ => ⟨S1x1x128x128, .f32⟩
  | .local _ .vmem, ⟨27, _⟩ => ⟨S1x1x128x128, .f32⟩
  | .local _ .vmem, ⟨28, _⟩ => ⟨S2x256x128, .f32⟩
  | .local _ .vmem, ⟨29, _⟩ => ⟨S2x256x128, .f32⟩
  | .local _ .vmem, ⟨30, _⟩ => ⟨S2x1x128, .f32⟩
  | .local _ .vmem, ⟨31, _⟩ => ⟨S2x1x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53_0 : Ref sig .tc := ⟨.hbm, 61, rfl⟩
abbrev main_v53_1 : Ref sig .tc := ⟨.hbm, 62, rfl⟩
abbrev main_v53_2 : Ref sig .tc := ⟨.hbm, 63, rfl⟩
abbrev main_v53_3 : Ref sig .tc := ⟨.hbm, 64, rfl⟩
abbrev main_v53_4 : Ref sig .tc := ⟨.hbm, 65, rfl⟩
abbrev main_v53_5 : Ref sig .tc := ⟨.hbm, 66, rfl⟩
abbrev main_v53_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_1 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_2 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_3 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_4 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_5 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_6 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli c6_i32 v18
  let c6_i32_5 : BitVec 32 := 6#32
  let v20 : BitVec 32 := Scalar.addi c6_i32_5 v19
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 1 := Scalar.cmpi .slt arg0 c4_i32_12
  let v32 : BitVec 32 := Scalar.addi v20 v30
  let v33 : BitVec 32 := Scalar.select v31 arg0 v32
  let c2_i32_13 : BitVec 32 := 2#32
  let v34 : BitVec 32 := Scalar.addi v20 c2_i32_13
  let v35 : BitVec 32 := Scalar.addi v34 v30
  let c4_i32_14 : BitVec 32 := 4#32
  let v36 : BitVec 32 := Scalar.select v31 c4_i32_14 v35
  let c4_i32_15 : BitVec 32 := 4#32
  let v37 : BitVec 32 := Scalar.addi v20 c4_i32_15
  let v38 : BitVec 32 := Scalar.addi v37 v30
  let c5_i32 : BitVec 32 := 5#32
  let v39 : BitVec 32 := Scalar.select v31 c5_i32 v38
  let c0_i32_16 : BitVec 32 := 0#32
  ![arg1.toNat, v33.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli c6_i32 v18
  let c6_i32_5 : BitVec 32 := 6#32
  let v20 : BitVec 32 := Scalar.addi c6_i32_5 v19
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 1 := Scalar.cmpi .slt arg0 c4_i32_12
  let v32 : BitVec 32 := Scalar.addi v20 v30
  let v33 : BitVec 32 := Scalar.select v31 arg0 v32
  let c2_i32_13 : BitVec 32 := 2#32
  let v34 : BitVec 32 := Scalar.addi v20 c2_i32_13
  let v35 : BitVec 32 := Scalar.addi v34 v30
  let c4_i32_14 : BitVec 32 := 4#32
  let v36 : BitVec 32 := Scalar.select v31 c4_i32_14 v35
  let c4_i32_15 : BitVec 32 := 4#32
  let v37 : BitVec 32 := Scalar.addi v20 c4_i32_15
  let v38 : BitVec 32 := Scalar.addi v37 v30
  let c5_i32 : BitVec 32 := 5#32
  let v39 : BitVec 32 := Scalar.select v31 c5_i32 v38
  let c0_i32_16 : BitVec 32 := 0#32
  ![arg1.toNat, v36.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.subi arg0 c4_i32
  let c0_i32_0 : BitVec 32 := 0#32
  let v4 : BitVec 32 := Scalar.maxsi v3 c0_i32_0
  let c2_i32 : BitVec 32 := 2#32
  let v5 : BitVec 32 := Scalar.divsi v4 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v4 c2_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c6_i32 : BitVec 32 := 6#32
  let v22 : BitVec 32 := Scalar.muli c6_i32 v21
  let c6_i32_7 : BitVec 32 := 6#32
  let v23 : BitVec 32 := Scalar.addi c6_i32_7 v22
  let c2_i32_8 : BitVec 32 := 2#32
  let c0_i32_9 : BitVec 32 := 0#32
  let v24 : BitVec 1 := Scalar.cmpi .eq c2_i32_8 c0_i32_9
  let c1_i32_10 : BitVec 32 := 1#32
  let v25 : BitVec 32 := Scalar.select v24 c1_i32_10 c2_i32_8
  let v26 : BitVec 32 := Scalar.remsi v4 v25
  let c0_i32_11 : BitVec 32 := 0#32
  let v27 : BitVec 1 := Scalar.cmpi .ne v26 c0_i32_11
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let v31 : BitVec 1 := Scalar.andi v30 v27
  let v32 : BitVec 32 := Scalar.addi v26 v25
  let v33 : BitVec 32 := Scalar.select v31 v32 v26
  let c4_i32_14 : BitVec 32 := 4#32
  let v34 : BitVec 1 := Scalar.cmpi .slt arg0 c4_i32_14
  let v35 : BitVec 32 := Scalar.addi v23 v33
  let v36 : BitVec 32 := Scalar.select v34 arg0 v35
  let c2_i32_15 : BitVec 32 := 2#32
  let v37 : BitVec 32 := Scalar.addi v23 c2_i32_15
  let v38 : BitVec 32 := Scalar.addi v37 v33
  let c4_i32_16 : BitVec 32 := 4#32
  let v39 : BitVec 32 := Scalar.select v34 c4_i32_16 v38
  let c4_i32_17 : BitVec 32 := 4#32
  let v40 : BitVec 32 := Scalar.addi v23 c4_i32_17
  let v41 : BitVec 32 := Scalar.addi v40 v33
  let c5_i32 : BitVec 32 := 5#32
  let v42 : BitVec 32 := Scalar.select v34 c5_i32 v41
  let c0_i32_18 : BitVec 32 := 0#32
  ![v2.toNat, v39.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli c6_i32 v18
  let c6_i32_5 : BitVec 32 := 6#32
  let v20 : BitVec 32 := Scalar.addi c6_i32_5 v19
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 1 := Scalar.cmpi .slt arg0 c4_i32_12
  let v32 : BitVec 32 := Scalar.addi v20 v30
  let v33 : BitVec 32 := Scalar.select v31 arg0 v32
  let c2_i32_13 : BitVec 32 := 2#32
  let v34 : BitVec 32 := Scalar.addi v20 c2_i32_13
  let v35 : BitVec 32 := Scalar.addi v34 v30
  let c4_i32_14 : BitVec 32 := 4#32
  let v36 : BitVec 32 := Scalar.select v31 c4_i32_14 v35
  let c4_i32_15 : BitVec 32 := 4#32
  let v37 : BitVec 32 := Scalar.addi v20 c4_i32_15
  let v38 : BitVec 32 := Scalar.addi v37 v30
  let c5_i32 : BitVec 32 := 5#32
  let v39 : BitVec 32 := Scalar.select v31 c5_i32 v38
  let c0_i32_16 : BitVec 32 := 0#32
  ![arg1.toNat, v39.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.subi arg0 c4_i32
  let c0_i32_0 : BitVec 32 := 0#32
  let v4 : BitVec 32 := Scalar.maxsi v3 c0_i32_0
  let c2_i32 : BitVec 32 := 2#32
  let v5 : BitVec 32 := Scalar.divsi v4 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v4 c2_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c6_i32 : BitVec 32 := 6#32
  let v22 : BitVec 32 := Scalar.muli c6_i32 v21
  let c6_i32_7 : BitVec 32 := 6#32
  let v23 : BitVec 32 := Scalar.addi c6_i32_7 v22
  let c2_i32_8 : BitVec 32 := 2#32
  let c0_i32_9 : BitVec 32 := 0#32
  let v24 : BitVec 1 := Scalar.cmpi .eq c2_i32_8 c0_i32_9
  let c1_i32_10 : BitVec 32 := 1#32
  let v25 : BitVec 32 := Scalar.select v24 c1_i32_10 c2_i32_8
  let v26 : BitVec 32 := Scalar.remsi v4 v25
  let c0_i32_11 : BitVec 32 := 0#32
  let v27 : BitVec 1 := Scalar.cmpi .ne v26 c0_i32_11
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let v31 : BitVec 1 := Scalar.andi v30 v27
  let v32 : BitVec 32 := Scalar.addi v26 v25
  let v33 : BitVec 32 := Scalar.select v31 v32 v26
  let c4_i32_14 : BitVec 32 := 4#32
  let v34 : BitVec 1 := Scalar.cmpi .slt arg0 c4_i32_14
  let v35 : BitVec 32 := Scalar.addi v23 v33
  let v36 : BitVec 32 := Scalar.select v34 arg0 v35
  let c2_i32_15 : BitVec 32 := 2#32
  let v37 : BitVec 32 := Scalar.addi v23 c2_i32_15
  let v38 : BitVec 32 := Scalar.addi v37 v33
  let c4_i32_16 : BitVec 32 := 4#32
  let v39 : BitVec 32 := Scalar.select v34 c4_i32_16 v38
  let c4_i32_17 : BitVec 32 := 4#32
  let v40 : BitVec 32 := Scalar.addi v23 c4_i32_17
  let v41 : BitVec 32 := Scalar.addi v40 v33
  let c5_i32 : BitVec 32 := 5#32
  let v42 : BitVec 32 := Scalar.select v34 c5_i32 v41
  let c0_i32_18 : BitVec 32 := 0#32
  ![v2.toNat, v42.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== BandIdeal.lean ====
variable {F : FTy → Type} [FloatOps F] [Named F]
def κ : String → Option EReal := fun
  | "mask" => some ⊥
  | _ => none
-- ==== RmsFwd.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== QFwd.lean ====
abbrev S16384x384 : Shape := ⟨2, ![16384, 384]⟩
abbrev S384x768 : Shape := ⟨2, ![384, 768]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S768x384 : Shape := ⟨2, ![768, 384]⟩
abbrev S8x96x384 : Shape := ⟨3, ![8, 96, 384]⟩
abbrev S32x512x16 : Shape := ⟨3, ![32, 512, 16]⟩
abbrev S32x16x512 : Shape := ⟨3, ![32, 16, 512]⟩
abbrev S8x32x96x512 : Shape := ⟨4, ![8, 32, 96, 512]⟩
abbrev S512x384 : Shape := ⟨2, ![512, 384]⟩
abbrev S1x16x512 : Shape := ⟨3, ![1, 16, 512]⟩
abbrev S8x1x96x512 : Shape := ⟨4, ![8, 1, 96, 512]⟩
abbrev S1x96x384 : Shape := ⟨3, ![1, 96, 384]⟩
abbrev S96x384 : Shape := ⟨2, ![96, 384]⟩
abbrev S96x512 : Shape := ⟨2, ![96, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 33
  | .vmem => 9
  | .smem => 0
  | _ => 0

abbrev bufTy : (tb : Table) → Fin (tcTables nBuf tb) → BufTy
  | .hbm, ⟨0, _⟩ => ⟨S16384x384, .f32⟩
  | .hbm, ⟨1, _⟩ => ⟨S384x768, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16384, .f32⟩
  | .hbm, ⟨17, _⟩ => ⟨S16384x1, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x384, .bf16⟩
  | .hbm, ⟨25, _⟩ => ⟨S384x768, .bf16⟩
  | .hbm, ⟨26, _⟩ => ⟨S768x384, .bf16⟩
  | .hbm, ⟨27, _⟩ => ⟨S8x96x384, .bf16⟩
  | .hbm, ⟨28, _⟩ => ⟨S32x512x16, .f32⟩
  | .hbm, ⟨29, _⟩ => ⟨S32x16x512, .f32⟩
  | .hbm, ⟨30, _⟩ => ⟨S32x512x16, .f32⟩
  | .hbm, ⟨31, _⟩ => ⟨S32x16x512, .f32⟩
  | .hbm, ⟨32, _⟩ => ⟨S8x32x96x512, .bf16⟩
  | .local _ .vmem, ⟨0, _⟩ => ⟨S512x384, .bf16⟩
  | .local _ .vmem, ⟨1, _⟩ => ⟨S512x384, .bf16⟩
  | .local _ .vmem, ⟨2, _⟩ => ⟨S8x96x384, .bf16⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x16x512, .f32⟩
  | .local _ .vmem, ⟨7, _⟩ => ⟨S8x1x96x512, .bf16⟩
  | .local _ .vmem, ⟨8, _⟩ => ⟨S8x1x96x512, .bf16⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x96x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QFwdRefIdeal.lean ====
abbrev S16384x384 : Shape := ⟨2, ![16384, 384]⟩
abbrev S384x768 : Shape := ⟨2, ![384, 768]⟩
abbrev S16384x768 : Shape := ⟨2, ![16384, 768]⟩
abbrev S1x16384x8x96 : Shape := ⟨4, ![1, 16384, 8, 96]⟩
abbrev S1x16384x8x64 : Shape := ⟨4, ![1, 16384, 8, 64]⟩
abbrev S1x16384x8x32 : Shape := ⟨4, ![1, 16384, 8, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩
abbrev S16384x8x96 : Shape := ⟨3, ![16384, 8, 96]⟩
abbrev S32x512x8x96 : Shape := ⟨4, ![32, 512, 8, 96]⟩
abbrev S8x32x96x512 : Shape := ⟨4, ![8, 32, 96, 512]⟩

abbrev nBuf : Space → Nat
  | .hbm => 48
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S384x768, .f32⟩
  | .hbm, ⟨2, _⟩ => ⟨S16384x768, .f32⟩
  | .hbm, ⟨3, _⟩ => ⟨S1x16384x8x96, .f32⟩
  | .hbm, ⟨4, _⟩ => ⟨S1x16384x8x64, .f32⟩
  | .hbm, ⟨5, _⟩ => ⟨S1x16384x8x32, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16384, .f32⟩
  | .hbm, ⟨21, _⟩ => ⟨S16384x1, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S1x16384x1x16, .f32⟩
  | .hbm, ⟨28, _⟩ => ⟨S16384x16, .f32⟩
  | .hbm, ⟨29, _⟩ => ⟨S1x16384x1x16, .f32⟩
  | .hbm, ⟨30, _⟩ => ⟨S1x16384x8x16, .f32⟩
  | .hbm, ⟨31, _⟩ => ⟨S1x16384x8x16, .f32⟩
  | .hbm, ⟨32, _⟩ => ⟨S1x16384x8x16, .f32⟩
  | .hbm, ⟨33, _⟩ => ⟨S1x16384x8x16, .f32⟩
  | .hbm, ⟨34, _⟩ => ⟨S1x16384x8x16, .f32⟩
  | .hbm, ⟨35, _⟩ => ⟨S1x16384x8x16, .f32⟩
  | .hbm, ⟨36, _⟩ => ⟨S1x16384x8x16, .f32⟩
  | .hbm, ⟨37, _⟩ => ⟨S1x16384x8x16, .f32⟩
  | .hbm, ⟨38, _⟩ => ⟨S1x16384x8x16, .f32⟩
  | .hbm, ⟨39, _⟩ => ⟨S1x16384x8x16, .f32⟩
  | .hbm, ⟨40, _⟩ => ⟨S1x16384x8x16, .f32⟩
  | .hbm, ⟨41, _⟩ => ⟨S1x16384x8x16, .f32⟩
  | .hbm, ⟨42, _⟩ => ⟨S1x16384x8x32, .f32⟩
  | .hbm, ⟨43, _⟩ => ⟨S1x16384x8x96, .f32⟩
  | .hbm, ⟨44, _⟩ => ⟨S16384x8x96, .f32⟩
  | .hbm, ⟨45, _⟩ => ⟨S32x512x8x96, .f32⟩
  | .hbm, ⟨46, _⟩ => ⟨S8x32x96x512, .f32⟩
  | .hbm, ⟨47, _⟩ => ⟨S8x32x96x512, .bf16⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== KvFwd.lean ====
abbrev S16384x256 : Shape := ⟨2, ![16384, 256]⟩
abbrev S256x1024 : Shape := ⟨2, ![256, 1024]⟩
abbrev S16384x32 : Shape := ⟨2, ![16384, 32]⟩
abbrev S256x8x128 : Shape := ⟨3, ![256, 8, 128]⟩
abbrev S8x256x128 : Shape := ⟨3, ![8, 256, 128]⟩
abbrev S1x16384x32 : Shape := ⟨3, ![1, 16384, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x16 : Shape := ⟨3, ![1, 16384, 16]⟩
abbrev S32x512x32 : Shape := ⟨3, ![32, 512, 32]⟩
abbrev S32x32x512 : Shape := ⟨3, ![32, 32, 512]⟩
abbrev S8x256x64 : Shape := ⟨3, ![8, 256, 64]⟩
abbrev S8x64x256 : Shape := ⟨3, ![8, 64, 256]⟩
abbrev S8x32x96x512 : Shape := ⟨4, ![8, 32, 96, 512]⟩
abbrev S8x32x80x512 : Shape := ⟨4, ![8, 32, 80, 512]⟩
abbrev S8x16384x96 : Shape := ⟨3, ![8, 16384, 96]⟩
abbrev S8x16384x64 : Shape := ⟨3, ![8, 16384, 64]⟩
abbrev S512x256 : Shape := ⟨2, ![512, 256]⟩
abbrev S512x32 : Shape := ⟨2, ![512, 32]⟩
abbrev S1x32x512 : Shape := ⟨3, ![1, 32, 512]⟩
abbrev S8x1x96x512 : Shape := ⟨4, ![8, 1, 96, 512]⟩
abbrev S8x1x80x512 : Shape := ⟨4, ![8, 1, 80, 512]⟩
abbrev S8x512x96 : Shape := ⟨3, ![8, 512, 96]⟩
abbrev S8x512x64 : Shape := ⟨3, ![8, 512, 64]⟩
abbrev S32x512 : Shape := ⟨2, ![32, 512]⟩
abbrev S16x512 : Shape := ⟨2, ![16, 512]⟩
abbrev S1x64x256 : Shape := ⟨3, ![1, 64, 256]⟩
abbrev S64x256 : Shape := ⟨2, ![64, 256]⟩
abbrev S64x512 : Shape := ⟨2, ![64, 512]⟩
abbrev S1x1x64x512 : Shape := ⟨4, ![1, 1, 64, 512]⟩
abbrev S1x1x32x512 : Shape := ⟨4, ![1, 1, 32, 512]⟩
abbrev S1x1x16x512 : Shape := ⟨4, ![1, 1, 16, 512]⟩
abbrev S1x256x64 : Shape := ⟨3, ![1, 256, 64]⟩
abbrev S256x64 : Shape := ⟨2, ![256, 64]⟩
abbrev S512x64 : Shape := ⟨2, ![512, 64]⟩
abbrev S1x512x64 : Shape := ⟨3, ![1, 512, 64]⟩
abbrev S1x512x32 : Shape := ⟨3, ![1, 512, 32]⟩

abbrev nBuf : Space → Nat
  | .hbm => 52
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x32, .f32⟩
  | .hbm, ⟨3, _⟩ => ⟨S256x1024, .bf16⟩
  | .hbm, ⟨4, _⟩ => ⟨S256x8x128, .bf16⟩
  | .hbm, ⟨5, _⟩ => ⟨S8x256x128, .bf16⟩
  | .hbm, ⟨6, _⟩ => ⟨S1x16384x32, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16384, .f32⟩
  | .hbm, ⟨22, _⟩ => ⟨S16384x1, .f32⟩
  | .hbm, ⟨23, _⟩ => ⟨S1x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S1x16384x16, .f32⟩
  | .hbm, ⟨30, _⟩ => ⟨S1x16384x16, .f32⟩
  | .hbm, ⟨31, _⟩ => ⟨S1x16384x16, .f32⟩
  | .hbm, ⟨32, _⟩ => ⟨S1x16384x16, .f32⟩
  | .hbm, ⟨33, _⟩ => ⟨S1x16384x16, .f32⟩
  | .hbm, ⟨34, _⟩ => ⟨S1x16384x16, .f32⟩
  | .hbm, ⟨35, _⟩ => ⟨S1x16384x16, .f32⟩
  | .hbm, ⟨36, _⟩ => ⟨S1x16384x16, .f32⟩
  | .hbm, ⟨37, _⟩ => ⟨S1x16384x16, .f32⟩
  | .hbm, ⟨38, _⟩ => ⟨S1x16384x16, .f32⟩
  | .hbm, ⟨39, _⟩ => ⟨S1x16384x32, .f32⟩
  | .hbm, ⟨40, _⟩ => ⟨S16384x32, .f32⟩
  | .hbm, ⟨41, _⟩ => ⟨S32x512x32, .f32⟩
  | .hbm, ⟨42, _⟩ => ⟨S32x32x512, .f32⟩
  | .hbm, ⟨43, _⟩ => ⟨S16384x256, .bf16⟩
  | .hbm, ⟨44, _⟩ => ⟨S8x256x64, .bf16⟩
  | .hbm, ⟨45, _⟩ => ⟨S8x256x64, .bf16⟩
  | .hbm, ⟨46, _⟩ => ⟨S8x64x256, .bf16⟩
  | .hbm, ⟨47, _⟩ => ⟨S8x64x256, .bf16⟩
  | .hbm, ⟨48, _⟩ => ⟨S8x32x96x512, .bf16⟩
  | .hbm, ⟨49, _⟩ => ⟨S8x32x80x512, .bf16⟩
  | .hbm, ⟨50, _⟩ => ⟨S8x16384x96, .bf16⟩
  | .hbm, ⟨51, _⟩ => ⟨S8x16384x64, .bf16⟩
  | .local _ .vmem, ⟨0, _⟩ => ⟨S512x256, .bf16⟩
  | .local _ .vmem, ⟨1, _⟩ => ⟨S512x256, .bf16⟩
  | .local _ .vmem, ⟨2, _⟩ => ⟨S8x256x64, .bf16⟩
  | .local _ .vmem, ⟨3, _⟩ => ⟨S8x256x64, .bf16⟩
  | .local _ .vmem, ⟨4, _⟩ => ⟨S8x64x256, .bf16⟩
  | .local _ .vmem, ⟨5, _⟩ => ⟨S8x64x256, .bf16⟩
  | .local _ .vmem, ⟨6, _⟩ => ⟨S512x32, .f32⟩
  | .local _ .vmem, ⟨7, _⟩ => ⟨S512x32, .f32⟩
  | .local _ .vmem, ⟨8, _⟩ => ⟨S1x32x512, .f32⟩
  | .local _ .vmem, ⟨9, _⟩ => ⟨S1x32x512, .f32⟩
  | .local _ .vmem, ⟨10, _⟩ => ⟨S8x1x96x512, .bf16⟩
  | .local _ .vmem, ⟨11, _⟩ => ⟨S8x1x96x512, .bf16⟩
  | .local _ .vmem, ⟨12, _⟩ => ⟨S8x1x80x512, .bf16⟩
  | .local _ .vmem, ⟨13, _⟩ => ⟨S8x1x80x512, .bf16⟩
  | .local _ .vmem, ⟨14, _⟩ => ⟨S8x512x96, .bf16⟩
  | .local _ .vmem, ⟨15, _⟩ => ⟨S8x512x96, .bf16⟩
  | .local _ .vmem, ⟨16, _⟩ => ⟨S8x512x64, .bf16⟩
  | .local _ .vmem, ⟨17, _⟩ => ⟨S8x512x64, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x96x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x80x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvFwdRefIdeal.lean ====
abbrev S16384x256 : Shape := ⟨2, ![16384, 256]⟩
abbrev S256x1024 : Shape := ⟨2, ![256, 1024]⟩
abbrev S16384x32 : Shape := ⟨2, ![16384, 32]⟩
abbrev S16384x1024 : Shape := ⟨2, ![16384, 1024]⟩
abbrev S16384x8x128 : Shape := ⟨3, ![16384, 8, 128]⟩
abbrev S1x16384x32 : Shape := ⟨3, ![1, 16384, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x16 : Shape := ⟨3, ![1, 16384, 16]⟩
abbrev S16384x8x64 : Shape := ⟨3, ![16384, 8, 64]⟩
abbrev S16384x1x32 : Shape := ⟨3, ![16384, 1, 32]⟩
abbrev S16384x8x32 : Shape := ⟨3, ![16384, 8, 32]⟩
abbrev S16384x8x96 : Shape := ⟨3, ![16384, 8, 96]⟩
abbrev S1 : Shape := ⟨1, ![1]⟩
abbrev S15 : Shape := ⟨1, ![15]⟩
abbrev S1x1x16 : Shape := ⟨3, ![1, 1, 16]⟩
abbrev S16384x8x16 : Shape := ⟨3, ![16384, 8, 16]⟩
abbrev S32x512x8x96 : Shape := ⟨4, ![32, 512, 8, 96]⟩
abbrev S8x32x96x512 : Shape := ⟨4, ![8, 32, 96, 512]⟩
abbrev S16384x8x80 : Shape := ⟨3, ![16384, 8, 80]⟩
abbrev S32x512x8x80 : Shape := ⟨4, ![32, 512, 8, 80]⟩
abbrev S8x32x80x512 : Shape := ⟨4, ![8, 32, 80, 512]⟩
abbrev S8x16384x96 : Shape := ⟨3, ![8, 16384, 96]⟩
abbrev S8x16384x64 : Shape := ⟨3, ![8, 16384, 64]⟩

abbrev nBuf : Space → Nat
  | .hbm => 63
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x32, .f32⟩
  | .hbm, ⟨3, _⟩ => ⟨S16384x1024, .f32⟩
  | .hbm, ⟨4, _⟩ => ⟨S16384x8x128, .f32⟩
  | .hbm, ⟨5, _⟩ => ⟨S1x16384x32, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16384, .f32⟩
  | .hbm, ⟨21, _⟩ => ⟨S16384x1, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S1x16384x16, .f32⟩
  | .hbm, ⟨28, _⟩ => ⟨S16384x16, .f32⟩
  | .hbm, ⟨29, _⟩ => ⟨S1x16384x16, .f32⟩
  | .hbm, ⟨30, _⟩ => ⟨S1x16384x16, .f32⟩
  | .hbm, ⟨31, _⟩ => ⟨S1x16384x16, .f32⟩
  | .hbm, ⟨32, _⟩ => ⟨S1x16384x16, .f32⟩
  | .hbm, ⟨33, _⟩ => ⟨S1x16384x16, .f32⟩
  | .hbm, ⟨34, _⟩ => ⟨S1x16384x16, .f32⟩
  | .hbm, ⟨35, _⟩ => ⟨S1x16384x16, .f32⟩
  | .hbm, ⟨36, _⟩ => ⟨S1x16384x16, .f32⟩
  | .hbm, ⟨37, _⟩ => ⟨S1x16384x16, .f32⟩
  | .hbm, ⟨38, _⟩ => ⟨S1x16384x32, .f32⟩
  | .hbm, ⟨39, _⟩ => ⟨S16384x32, .f32⟩
  | .hbm, ⟨40, _⟩ => ⟨S16384x8x64, .f32⟩
  | .hbm, ⟨41, _⟩ => ⟨S16384x1x32, .f32⟩
  | .hbm, ⟨42, _⟩ => ⟨S16384x8x32, .f32⟩
  | .hbm, ⟨43, _⟩ => ⟨S16384x8x96, .f32⟩
  | .hbm, ⟨44, _⟩ => ⟨S16384x8x64, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S15, .f32⟩
  | .hbm, ⟨49, _⟩ => ⟨S16, .f32⟩
  | .hbm, ⟨50, _⟩ => ⟨S1x1x16, .f32⟩
  | .hbm, ⟨51, _⟩ => ⟨S16384x8x16, .f32⟩
  | .hbm, ⟨52, _⟩ => ⟨S32x512x8x96, .f32⟩
  | .hbm, ⟨53, _⟩ => ⟨S8x32x96x512, .f32⟩
  | .hbm, ⟨54, _⟩ => ⟨S8x32x96x512, .bf16⟩
  | .hbm, ⟨55, _⟩ => ⟨S16384x8x80, .f32⟩
  | .hbm, ⟨56, _⟩ => ⟨S32x512x8x80, .f32⟩
  | .hbm, ⟨57, _⟩ => ⟨S8x32x80x512, .f32⟩
  | .hbm, ⟨58, _⟩ => ⟨S8x32x80x512, .bf16⟩
  | .hbm, ⟨59, _⟩ => ⟨S8x16384x96, .f32⟩
  | .hbm, ⟨60, _⟩ => ⟨S8x16384x96, .bf16⟩
  | .hbm, ⟨61, _⟩ => ⟨S8x16384x64, .f32⟩
  | .hbm, ⟨62, _⟩ => ⟨S8x16384x64, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== ReluFwd.lean ====
abbrev S16384x1024 : Shape := ⟨2, ![16384, 1024]⟩
abbrev S1024x4096 : Shape := ⟨2, ![1024, 4096]⟩
abbrev S16384x4096 : Shape := ⟨2, ![16384, 4096]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReluFwdRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== OFwd.lean ====
abbrev S16384x8x64 : Shape := ⟨3, ![16384, 8, 64]⟩
abbrev S512x1024 : Shape := ⟨2, ![512, 1024]⟩
abbrev S16384x1024 : Shape := ⟨2, ![16384, 1024]⟩
abbrev S32x512x8x64 : Shape := ⟨4, ![32, 512, 8, 64]⟩
abbrev S8x32x64x512 : Shape := ⟨4, ![8, 32, 64, 512]⟩
abbrev S8x64x1024 : Shape := ⟨3, ![8, 64, 1024]⟩
abbrev S8x1x64x512 : Shape := ⟨4, ![8, 1, 64, 512]⟩
abbrev S1x1x64x512 : Shape := ⟨4, ![1, 1, 64, 512]⟩
abbrev S64x512 : Shape := ⟨2, ![64, 512]⟩
abbrev S1x64x1024 : Shape := ⟨3, ![1, 64, 1024]⟩
abbrev S64x1024 : Shape := ⟨2, ![64, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x8x64, .f32⟩
  | .hbm, ⟨1, _⟩ => ⟨S512x1024, .f32⟩
  | .hbm, ⟨2, _⟩ => ⟨S16384x1024, .f32⟩
  | .hbm, ⟨3, _⟩ => ⟨S32x512x8x64, .f32⟩
  | .hbm, ⟨4, _⟩ => ⟨S8x32x64x512, .f32⟩
  | .hbm, ⟨5, _⟩ => ⟨S512x1024, .bf16⟩
  | .hbm, ⟨6, _⟩ => ⟨S8x64x1024, .bf16⟩
  | .hbm, ⟨7, _⟩ => ⟨S16384x1024, .f32⟩
  | .local _ .vmem, ⟨0, _⟩ => ⟨S8x1x64x512, .f32⟩
  | .local _ .vmem, ⟨1, _⟩ => ⟨S8x1x64x512, .f32⟩
  | .local _ .vmem, ⟨2, _⟩ => ⟨S8x64x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OFwdRefIdeal.lean ====
abbrev S16384x8x64 : Shape := ⟨3, ![16384, 8, 64]⟩
abbrev S512x1024 : Shape := ⟨2, ![512, 1024]⟩
abbrev S16384x1024 : Shape := ⟨2, ![16384, 1024]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S512x1024, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S16384x1024, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AddFwd.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x4096, .bf16⟩
  | .hbm, ⟨4, _⟩ => ⟨S4096x1024, .bf16⟩
  | .hbm, ⟨5, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddFwdRefIdeal.lean ====
abbrev S16384x4096 : Shape := ⟨2, ![16384, 4096]⟩
abbrev S4096x1024 : Shape := ⟨2, ![4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NormKv.lean ====
abbrev S16384x256 : Shape := ⟨2, ![16384, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S1x256, .f32⟩
  | .hbm, ⟨4, _⟩ => ⟨S16384x256, .f32⟩
  | .hbm, ⟨5, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S1x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormKvRefIdeal.lean ====
abbrev S16384x256 : Shape := ⟨2, ![16384, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x256, .f32⟩
  | .hbm, ⟨19, _⟩ => ⟨S16384x256, .f32⟩
  | .hbm, ⟨20, _⟩ => ⟨S1x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S256, .f32⟩
  | .hbm, ⟨31, _⟩ => ⟨S16384x256, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x256, .f32⟩
  | .hbm, ⟨36, _⟩ => ⟨S16384x256, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MatNormDown.lean ====
abbrev S16384x1024 : Shape := ⟨2, ![16384, 1024]⟩
abbrev S1024 : Shape := ⟨1, ![1024]⟩
abbrev S1024x768 : Shape := ⟨2, ![1024, 768]⟩
abbrev S16384x768 : Shape := ⟨2, ![16384, 768]⟩
abbrev S1x1024 : Shape := ⟨2, ![1, 1024]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x768, .f32⟩
  | .hbm, ⟨3, _⟩ => ⟨S16384x768, .f32⟩
  | .hbm, ⟨4, _⟩ => ⟨S16384x1024, .f32⟩
  | .hbm, ⟨5, _⟩ => ⟨S16384x768, .bf16⟩
  | .hbm, ⟨6, _⟩ => ⟨S1024x768, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MatNormDownRefIdeal.lean ====
abbrev S16384x1024 : Shape := ⟨2, ![16384, 1024]⟩
abbrev S1024 : Shape := ⟨1, ![1024]⟩
abbrev S1024x768 : Shape := ⟨2, ![1024, 768]⟩
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x768, .f32⟩
  | .hbm, ⟨3, _⟩ => ⟨S16384x768, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x768, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MatNormIn.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .f32⟩
  | .hbm, ⟨4, _⟩ => ⟨S16384x1024, .f32⟩
  | .hbm, ⟨5, _⟩ => ⟨S16384x3072, .bf16⟩
  | .hbm, ⟨6, _⟩ => ⟨S1024x3072, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MatNormInRefIdeal.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3072, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== BandFwd.lean ====
abbrev S16384x3072 : Shape := ⟨2, ![16384, 3072]⟩
abbrev S20x128x256 : Shape := ⟨3, ![20, 128, 256]⟩
abbrev S8 : Shape := ⟨1, ![8]⟩
abbrev S_ : Shape := ⟨0, ![]⟩
abbrev S12 : Shape := ⟨1, ![12]⟩
abbrev S20 : Shape := ⟨1, ![20]⟩
abbrev S20x1x1 : Shape := ⟨3, ![20, 1, 1]⟩
abbrev S20x1x128 : Shape := ⟨3, ![20, 1, 128]⟩
abbrev S16384x1280 : Shape := ⟨2, ![16384, 1280]⟩
abbrev S10x16x8x2x128 : Shape := ⟨5, ![10, 16, 8, 2, 128]⟩
abbrev S1024x128 : Shape := ⟨2, ![1024, 128]⟩
abbrev S128x128 : Shape := ⟨2, ![128, 128]⟩
abbrev S2x128x256 : Shape := ⟨3, ![2, 128, 256]⟩
abbrev S2x1x128 : Shape := ⟨3, ![2, 1, 128]⟩
abbrev S1x1x8x2x128 : Shape := ⟨5, ![1, 1, 8, 2, 128]⟩
abbrev S1024x64 : Shape := ⟨2, ![1024, 64]⟩
abbrev S8x128x64 : Shape := ⟨3, ![8, 128, 64]⟩
abbrev S128x64 : Shape := ⟨2, ![128, 64]⟩
abbrev S1x128x64 : Shape := ⟨3, ![1, 128, 64]⟩
abbrev S7x128x64 : Shape := ⟨3, ![7, 128, 64]⟩
abbrev S1x1x1 : Shape := ⟨3, ![1, 1, 1]⟩
abbrev S1x1 : Shape := ⟨2, ![1, 1]⟩
abbrev S8x128x128 : Shape := ⟨3, ![8, 128, 128]⟩
abbrev S1x128x128 : Shape := ⟨3, ![1, 128, 128]⟩
abbrev S7x128x128 : Shape := ⟨3, ![7, 128, 128]⟩
abbrev S8x128 : Shape := ⟨2, ![8, 128]⟩
abbrev S8x128x1 : Shape := ⟨3, ![8, 128, 1]⟩
abbrev S8x1x128 : Shape := ⟨3, ![8, 1, 128]⟩
abbrev S1x1x8x1x128 : Shape := ⟨5, ![1, 1, 8, 1, 128]⟩

abbrev nBuf : Space → Nat
  | .hbm => 11
  | .vmem => 18
  | .smem => 0
  | _ => 0

abbrev bufTy : (tb : Table) → Fin (tcTables nBuf tb) → BufTy
  | .hbm, ⟨0, _⟩ => ⟨S16384x3072, .f32⟩
  | .hbm, ⟨1, _⟩ => ⟨S20x128x256, .f32⟩
  | .hbm, ⟨2, _⟩ => ⟨S8, .f32⟩
  | .hbm, ⟨3, _⟩ => ⟨S_, .f32⟩
  | .hbm, ⟨4, _⟩ => ⟨S12, .f32⟩
  | .hbm, ⟨5, _⟩ => ⟨S20, .f32⟩
  | .hbm, ⟨6, _⟩ => ⟨S20x1x1, .f32⟩
  | .hbm, ⟨7, _⟩ => ⟨S20x1x128, .f32⟩
  | .hbm, ⟨8, _⟩ => ⟨S16384x3072, .bf16⟩
  | .hbm, ⟨9, _⟩ => ⟨S16384x1280, .f32⟩
  | .hbm, ⟨10, _⟩ => ⟨S10x16x8x2x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S2x128x256, .f32⟩
  | .local _ .vmem, ⟨11, _⟩ => ⟨S2x128x256, .f32⟩
  | .local _ .vmem, ⟨12, _⟩ => ⟨S2x1x128, .f32⟩
  | .local _ .vmem, ⟨13, _⟩ => ⟨S2x1x128, .f32⟩
  | .local _ .vmem, ⟨14, _⟩ => ⟨S1024x128, .f32⟩
  | .local _ .vmem, ⟨15, _⟩ => ⟨S1024x128, .f32⟩
  | .local _ .vmem, ⟨16, _⟩ => ⟨S1x1x8x2x128, .f32⟩
  | .local _ .vmem, ⟨17, _⟩ => ⟨S1x1x8x2x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli c6_i32 v18
  let c6_i32_5 : BitVec 32 := 6#32
  let v20 : BitVec 32 := Scalar.addi c6_i32_5 v19
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 1 := Scalar.cmpi .slt arg0 c4_i32_12
  let v32 : BitVec 32 := Scalar.addi v20 v30
  let v33 : BitVec 32 := Scalar.select v31 arg0 v32
  let c2_i32_13 : BitVec 32 := 2#32
  let v34 : BitVec 32 := Scalar.addi v20 c2_i32_13
  let v35 : BitVec 32 := Scalar.addi v34 v30
  let c4_i32_14 : BitVec 32 := 4#32
  let v36 : BitVec 32 := Scalar.select v31 c4_i32_14 v35
  let c4_i32_15 : BitVec 32 := 4#32
  let v37 : BitVec 32 := Scalar.addi v20 c4_i32_15
  let v38 : BitVec 32 := Scalar.addi v37 v30
  let c5_i32 : BitVec 32 := 5#32
  let v39 : BitVec 32 := Scalar.select v31 c5_i32 v38
  let c0_i32_16 : BitVec 32 := 0#32
  ![arg1.toNat, v33.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli c6_i32 v18
  let c6_i32_5 : BitVec 32 := 6#32
  let v20 : BitVec 32 := Scalar.addi c6_i32_5 v19
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 1 := Scalar.cmpi .slt arg0 c4_i32_12
  let v32 : BitVec 32 := Scalar.addi v20 v30
  let v33 : BitVec 32 := Scalar.select v31 arg0 v32
  let c2_i32_13 : BitVec 32 := 2#32
  let v34 : BitVec 32 := Scalar.addi v20 c2_i32_13
  let v35 : BitVec 32 := Scalar.addi v34 v30
  let c4_i32_14 : BitVec 32 := 4#32
  let v36 : BitVec 32 := Scalar.select v31 c4_i32_14 v35
  let c4_i32_15 : BitVec 32 := 4#32
  let v37 : BitVec 32 := Scalar.addi v20 c4_i32_15
  let v38 : BitVec 32 := Scalar.addi v37 v30
  let c5_i32 : BitVec 32 := 5#32
  let v39 : BitVec 32 := Scalar.select v31 c5_i32 v38
  let c0_i32_16 : BitVec 32 := 0#32
  ![arg1.toNat, v36.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.subi arg0 c4_i32
  let c0_i32_0 : BitVec 32 := 0#32
  let v4 : BitVec 32 := Scalar.maxsi v3 c0_i32_0
  let c2_i32 : BitVec 32 := 2#32
  let v5 : BitVec 32 := Scalar.divsi v4 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v4 c2_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c6_i32 : BitVec 32 := 6#32
  let v22 : BitVec 32 := Scalar.muli c6_i32 v21
  let c6_i32_7 : BitVec 32 := 6#32
  let v23 : BitVec 32 := Scalar.addi c6_i32_7 v22
  let c2_i32_8 : BitVec 32 := 2#32
  let c0_i32_9 : BitVec 32 := 0#32
  let v24 : BitVec 1 := Scalar.cmpi .eq c2_i32_8 c0_i32_9
  let c1_i32_10 : BitVec 32 := 1#32
  let v25 : BitVec 32 := Scalar.select v24 c1_i32_10 c2_i32_8
  let v26 : BitVec 32 := Scalar.remsi v4 v25
  let c0_i32_11 : BitVec 32 := 0#32
  let v27 : BitVec 1 := Scalar.cmpi .ne v26 c0_i32_11
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let v31 : BitVec 1 := Scalar.andi v30 v27
  let v32 : BitVec 32 := Scalar.addi v26 v25
  let v33 : BitVec 32 := Scalar.select v31 v32 v26
  let c4_i32_14 : BitVec 32 := 4#32
  let v34 : BitVec 1 := Scalar.cmpi .slt arg0 c4_i32_14
  let v35 : BitVec 32 := Scalar.addi v23 v33
  let v36 : BitVec 32 := Scalar.select v34 arg0 v35
  let c2_i32_15 : BitVec 32 := 2#32
  let v37 : BitVec 32 := Scalar.addi v23 c2_i32_15
  let v38 : BitVec 32 := Scalar.addi v37 v33
  let c4_i32_16 : BitVec 32 := 4#32
  let v39 : BitVec 32 := Scalar.select v34 c4_i32_16 v38
  let c4_i32_17 : BitVec 32 := 4#32
  let v40 : BitVec 32 := Scalar.addi v23 c4_i32_17
  let v41 : BitVec 32 := Scalar.addi v40 v33
  let c5_i32 : BitVec 32 := 5#32
  let v42 : BitVec 32 := Scalar.select v34 c5_i32 v41
  let c0_i32_18 : BitVec 32 := 0#32
  ![v2.toNat, v39.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c6_i32 : BitVec 32 := 6#32
  let v19 : BitVec 32 := Scalar.muli c6_i32 v18
  let c6_i32_5 : BitVec 32 := 6#32
  let v20 : BitVec 32 := Scalar.addi c6_i32_5 v19
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32_12 : BitVec 32 := 4#32
  let v31 : BitVec 1 := Scalar.cmpi .slt arg0 c4_i32_12
  let v32 : BitVec 32 := Scalar.addi v20 v30
  let v33 : BitVec 32 := Scalar.select v31 arg0 v32
  let c2_i32_13 : BitVec 32 := 2#32
  let v34 : BitVec 32 := Scalar.addi v20 c2_i32_13
  let v35 : BitVec 32 := Scalar.addi v34 v30
  let c4_i32_14 : BitVec 32 := 4#32
  let v36 : BitVec 32 := Scalar.select v31 c4_i32_14 v35
  let c4_i32_15 : BitVec 32 := 4#32
  let v37 : BitVec 32 := Scalar.addi v20 c4_i32_15
  let v38 : BitVec 32 := Scalar.addi v37 v30
  let c5_i32 : BitVec 32 := 5#32
  let v39 : BitVec 32 := Scalar.select v31 c5_i32 v38
  let c0_i32_16 : BitVec 32 := 0#32
  ![arg1.toNat, v39.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.subi arg0 c4_i32
  let c0_i32_0 : BitVec 32 := 0#32
  let v4 : BitVec 32 := Scalar.maxsi v3 c0_i32_0
  let c2_i32 : BitVec 32 := 2#32
  let v5 : BitVec 32 := Scalar.divsi v4 c2_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi v4 c2_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c6_i32 : BitVec 32 := 6#32
  let v22 : BitVec 32 := Scalar.muli c6_i32 v21
  let c6_i32_7 : BitVec 32 := 6#32
  let v23 : BitVec 32 := Scalar.addi c6_i32_7 v22
  let c2_i32_8 : BitVec 32 := 2#32
  let c0_i32_9 : BitVec 32 := 0#32
  let v24 : BitVec 1 := Scalar.cmpi .eq c2_i32_8 c0_i32_9
  let c1_i32_10 : BitVec 32 := 1#32
  let v25 : BitVec 32 := Scalar.select v24 c1_i32_10 c2_i32_8
  let v26 : BitVec 32 := Scalar.remsi v4 v25
  let c0_i32_11 : BitVec 32 := 0#32
  let v27 : BitVec 1 := Scalar.cmpi .ne v26 c0_i32_11
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let v31 : BitVec 1 := Scalar.andi v30 v27
  let v32 : BitVec 32 := Scalar.addi v26 v25
  let v33 : BitVec 32 := Scalar.select v31 v32 v26
  let c4_i32_14 : BitVec 32 := 4#32
  let v34 : BitVec 1 := Scalar.cmpi .slt arg0 c4_i32_14
  let v35 : BitVec 32 := Scalar.addi v23 v33
  let v36 : BitVec 32 := Scalar.select v34 arg0 v35
  let c2_i32_15 : BitVec 32 := 2#32
  let v37 : BitVec 32 := Scalar.addi v23 c2_i32_15
  let v38 : BitVec 32 := Scalar.addi v37 v33
  let c4_i32_16 : BitVec 32 := 4#32
  let v39 : BitVec 32 := Scalar.select v34 c4_i32_16 v38
  let c4_i32_17 : BitVec 32 := 4#32
  let v40 : BitVec 32 := Scalar.addi v23 c4_i32_17
  let v41 : BitVec 32 := Scalar.addi v40 v33
  let c5_i32 : BitVec 32 := 5#32
  let v42 : BitVec 32 := Scalar.select v34 c5_i32 v41
  let c0_i32_18 : BitVec 32 := 0#32
  ![v2.toNat, v42.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BandFwdIdeal.lean ====
variable {F : FTy → Type} [FloatOps F] [Named F]
def κ : String → Option EReal := fun
  | "mask" => some ⊥
  | _ => none
-- ==== BandFwdRefIdeal.lean ====
abbrev S16384x3072 : Shape := ⟨2, ![16384, 3072]⟩
abbrev S20x128x256 : Shape := ⟨3, ![20, 128, 256]⟩
abbrev S8 : Shape := ⟨1, ![8]⟩
abbrev S16384x768 : Shape := ⟨2, ![16384, 768]⟩
abbrev S16384x2304 : Shape := ⟨2, ![16384, 2304]⟩
abbrev S16384x512 : Shape := ⟨2, ![16384, 512]⟩
abbrev S16384x8x64 : Shape := ⟨3, ![16384, 8, 64]⟩
abbrev S16384x128 : Shape := ⟨2, ![16384, 128]⟩
abbrev S16384x2x64 : Shape := ⟨3, ![16384, 2, 64]⟩
abbrev S16384x2x4x64 : Shape := ⟨4, ![16384, 2, 4, 64]⟩
abbrev S8x128x256 : Shape := ⟨3, ![8, 128, 256]⟩
abbrev S128 : Shape := ⟨1, ![128]⟩
abbrev S_ : Shape := ⟨0, ![]⟩
abbrev S128x1 : Shape := ⟨2, ![128, 1]⟩
abbrev S128x8 : Shape := ⟨2, ![128, 8]⟩
abbrev S128x128x8x64 : Shape := ⟨4, ![128, 128, 8, 64]⟩
abbrev S1x128x8x64 : Shape := ⟨4, ![1, 128, 8, 64]⟩
abbrev S127x128x8x64 : Shape := ⟨4, ![127, 128, 8, 64]⟩
abbrev S128x256x8x64 : Shape := ⟨4, ![128, 256, 8, 64]⟩
abbrev S128x8x128x256 : Shape := ⟨4, ![128, 8, 128, 256]⟩
abbrev S1x8x128x256 : Shape := ⟨4, ![1, 8, 128, 256]⟩
abbrev S128x8x1x1 : Shape := ⟨4, ![128, 8, 1, 1]⟩
abbrev S256 : Shape := ⟨1, ![256]⟩
abbrev S1x1x1x256 : Shape := ⟨4, ![1, 1, 1, 256]⟩
abbrev S128x8x1x256 : Shape := ⟨4, ![128, 8, 1, 256]⟩
abbrev S128x8x128 : Shape := ⟨3, ![128, 8, 128]⟩
abbrev S1x8x1 : Shape := ⟨3, ![1, 8, 1]⟩
abbrev S128x8x128x1 : Shape := ⟨4, ![128, 8, 128, 1]⟩
abbrev S128x8x64x128 : Shape := ⟨4, ![128, 8, 64, 128]⟩
abbrev S128x128x8 : Shape := ⟨3, ![128, 128, 8]⟩
abbrev S128x128x8x1 : Shape := ⟨4, ![128, 128, 8, 1]⟩
abbrev S16384x8 : Shape := ⟨2, ![16384, 8]⟩
abbrev S16384x3x3x4x64 : Shape := ⟨5, ![16384, 3, 3, 4, 64]⟩
abbrev S16384x3x1x4x64 : Shape := ⟨5, ![16384, 3, 1, 4, 64]⟩
abbrev S16384x3x4x64 : Shape := ⟨4, ![16384, 3, 4, 64]⟩
abbrev S16384x12x64 : Shape := ⟨3, ![16384, 12, 64]⟩
abbrev S128x4 : Shape := ⟨2, ![128, 4]⟩
abbrev S128x12 : Shape := ⟨2, ![128, 12]⟩
abbrev S12x128x256 : Shape := ⟨3, ![12, 128, 256]⟩
abbrev S128x128x12x64 : Shape := ⟨4, ![128, 128, 12, 64]⟩
abbrev S1x128x12x64 : Shape := ⟨4, ![1, 128, 12, 64]⟩
abbrev S127x128x12x64 : Shape := ⟨4, ![127, 128, 12, 64]⟩
abbrev S128x256x12x64 : Shape := ⟨4, ![128, 256, 12, 64]⟩
abbrev S128x12x128x256 : Shape := ⟨4, ![128, 12, 128, 256]⟩
abbrev S1x12x128x256 : Shape := ⟨4, ![1, 12, 128, 256]⟩
abbrev S128x12x1x1 : Shape := ⟨4, ![128, 12, 1, 1]⟩
abbrev S128x12x1x256 : Shape := ⟨4, ![128, 12, 1, 256]⟩
abbrev S128x12x128 : Shape := ⟨3, ![128, 12, 128]⟩
abbrev S128x12x128x1 : Shape := ⟨4, ![128, 12, 128, 1]⟩
abbrev S128x12x64x128 : Shape := ⟨4, ![128, 12, 64, 128]⟩
abbrev S128x128x12 : Shape := ⟨3, ![128, 128, 12]⟩
abbrev S128x128x12x1 : Shape := ⟨4, ![128, 128, 12, 1]⟩
abbrev S16384x12 : Shape := ⟨2, ![16384, 12]⟩
abbrev S16384x20 : Shape := ⟨2, ![16384, 20]⟩
abbrev S16x8x128x10x2 : Shape := ⟨5, ![16, 8, 128, 10, 2]⟩
abbrev S16384x1280 : Shape := ⟨2, ![16384, 1280]⟩
abbrev S10x16x8x2x128 : Shape := ⟨5, ![10, 16, 8, 2, 128]⟩

abbrev nBuf : Space → Nat
  | .hbm => 181
  | .vmem => 0
  | .smem => 0
  | _ => 0

abbrev hbmTy0_0 (i : Nat) : BufTy := match i % 128 with
  | 0 => ⟨S16384x3072, .f32⟩
  | 1 => ⟨S20x128x256, .f32⟩
  | 2 => ⟨S8, .f32⟩
  | 3 => ⟨S16384x768, .f32⟩
  | 4 => ⟨S16384x2304, .f32⟩
  | 5 => ⟨S16384x512, .f32⟩
  | 6 => ⟨S16384x8x64, .f32⟩
  | 7 => ⟨S16384x128, .f32⟩
  | 8 => ⟨S16384x128, .f32⟩
  | 9 => ⟨S16384x2x64, .f32⟩
  | 10 => ⟨S16384x2x4x64, .f32⟩
  | 11 => ⟨S16384x8x64, .f32⟩
  | 12 => ⟨S16384x2x64, .f32⟩
  | 13 => ⟨S16384x2x4x64, .f32⟩
  | 14 => ⟨S16384x8x64, .f32⟩
  | 15 => ⟨S8x128x256, .f32⟩
  | 16 => ⟨S128, .i32⟩
  | 17 => ⟨S_, .i32⟩
  | 18 => ⟨S128, .i32⟩
  | 19 => ⟨S128, .i32⟩
  | 20 => ⟨S_, .i32⟩
  | 21 => ⟨S128, .i32⟩
  | 22 => ⟨S128, .i1⟩
  | 23 => ⟨S128x1, .i1⟩
  | 24 => ⟨S128x8, .i1⟩
  | 25 => ⟨S128x128x8x64, .f32⟩
  | 26 => ⟨S128x128x8x64, .f32⟩
  | 27 => ⟨S_, .f32⟩
  | 28 => ⟨S1x128x8x64, .f32⟩
  | 29 => ⟨S127x128x8x64, .f32⟩
  | 30 => ⟨S128x128x8x64, .f32⟩
  | 31 => ⟨S128x256x8x64, .f32⟩
  | 32 => ⟨S128x128x8x64, .f32⟩
  | 33 => ⟨S_, .f32⟩
  | 34 => ⟨S1x128x8x64, .f32⟩
  | 35 => ⟨S127x128x8x64, .f32⟩
  | 36 => ⟨S128x128x8x64, .f32⟩
  | 37 => ⟨S128x256x8x64, .f32⟩
  | 38 => ⟨S128x8x128x256, .f32⟩
  | 39 => ⟨S_, .f32⟩
  | 40 => ⟨S128x8x128x256, .f32⟩
  | 41 => ⟨S128x8x128x256, .f32⟩
  | 42 => ⟨S1x8x128x256, .f32⟩
  | 43 => ⟨S128x8x128x256, .f32⟩
  | 44 => ⟨S128x8x128x256, .f32⟩
  | 45 => ⟨S128x8x1x1, .i1⟩
  | 46 => ⟨S256, .i32⟩
  | 47 => ⟨S_, .i32⟩
  | 48 => ⟨S256, .i32⟩
  | 49 => ⟨S256, .i1⟩
  | 50 => ⟨S1x1x1x256, .i1⟩
  | 51 => ⟨S128x8x1x256, .i1⟩
  | 52 => ⟨S128x8x1x256, .i1⟩
  | 53 => ⟨S128x8x1x256, .i1⟩
  | 54 => ⟨S_, .f32⟩
  | 55 => ⟨S_, .f32⟩
  | 56 => ⟨S128x8x128x256, .i1⟩
  | 57 => ⟨S128x8x128x256, .f32⟩
  | 58 => ⟨S128x8x128x256, .f32⟩
  | 59 => ⟨S_, .f32⟩
  | 60 => ⟨S128x8x128, .f32⟩
  | 61 => ⟨S1x8x1, .f32⟩
  | 62 => ⟨S128x8x128, .f32⟩
  | 63 => ⟨S128x8x128, .f32⟩
  | 64 => ⟨S128x8x128x1, .f32⟩
  | 65 => ⟨S128x8x128x256, .f32⟩
  | 66 => ⟨S128x8x128x256, .f32⟩
  | 67 => ⟨S128x8x128x256, .f32⟩
  | 68 => ⟨S_, .f32⟩
  | 69 => ⟨S128x8x128, .f32⟩
  | 70 => ⟨S128x8x128, .f32⟩
  | 71 => ⟨S128x8x128, .f32⟩
  | 72 => ⟨S128x8x128, .f32⟩
  | 73 => ⟨S128x8x128, .f32⟩
  | 74 => ⟨S128x8x64x128, .f32⟩
  | 75 => ⟨S128x128x8x64, .f32⟩
  | 76 => ⟨S128x128x8, .f32⟩
  | 77 => ⟨S128x128x8x1, .f32⟩
  | 78 => ⟨S128x128x8x64, .f32⟩
  | 79 => ⟨S128x128x8x64, .f32⟩
  | 80 => ⟨S16384x512, .f32⟩
  | 81 => ⟨S128x8x128, .f32⟩
  | 82 => ⟨S128x8x128, .f32⟩
  | 83 => ⟨S128x128x8, .f32⟩
  | 84 => ⟨S16384x8, .f32⟩
  | 85 => ⟨S16384x3x3x4x64, .f32⟩
  | 86 => ⟨S16384x3x1x4x64, .f32⟩
  | 87 => ⟨S16384x3x4x64, .f32⟩
  | 88 => ⟨S16384x12x64, .f32⟩
  | 89 => ⟨S16384x3x1x4x64, .f32⟩
  | 90 => ⟨S16384x3x4x64, .f32⟩
  | 91 => ⟨S16384x12x64, .f32⟩
  | 92 => ⟨S16384x3x1x4x64, .f32⟩
  | 93 => ⟨S16384x3x4x64, .f32⟩
  | 94 => ⟨S16384x12x64, .f32⟩
  | 95 => ⟨S128, .i32⟩
  | 96 => ⟨S_, .i32⟩
  | 97 => ⟨S128, .i32⟩
  | 98 => ⟨S128, .i32⟩
  | 99 => ⟨S_, .i32⟩
  | 100 => ⟨S128, .i32⟩
  | 101 => ⟨S128, .i1⟩
  | 102 => ⟨S128x1, .i1⟩
  | 103 => ⟨S128x4, .i1⟩
  | 104 => ⟨S128, .i32⟩
  | 105 => ⟨S_, .i32⟩
  | 106 => ⟨S128, .i32⟩
  | 107 => ⟨S128, .i32⟩
  | 108 => ⟨S_, .i32⟩
  | 109 => ⟨S128, .i32⟩
  | 110 => ⟨S128, .i1⟩
  | 111 => ⟨S128x1, .i1⟩
  | 112 => ⟨S128x4, .i1⟩
  | 113 => ⟨S128, .i32⟩
  | 114 => ⟨S_, .i32⟩
  | 115 => ⟨S128, .i32⟩
  | 116 => ⟨S128, .i32⟩
  | 117 => ⟨S_, .i32⟩
  | 118 => ⟨S128, .i32⟩
  | 119 => ⟨S128, .i1⟩
  | 120 => ⟨S128x1, .i1⟩
  | 121 => ⟨S128x4, .i1⟩
  | 122 => ⟨S128x12, .i1⟩
  | 123 => ⟨S12x128x256, .f32⟩
  | 124 => ⟨S128x128x12x64, .f32⟩
  | 125 => ⟨S128x128x12x64, .f32⟩
  | 126 => ⟨S_, .f32⟩
  | 127 => ⟨S1x128x12x64, .f32⟩
  | _ => ⟨S16384x3072, .f32⟩

abbrev hbmTy0_1 (i : Nat) : BufTy := match i % 128 with
  | 0 => ⟨S127x128x12x64, .f32⟩
  | 1 => ⟨S128x128x12x64, .f32⟩
  | 2 => ⟨S128x256x12x64, .f32⟩
  | 3 => ⟨S128x128x12x64, .f32⟩
  | 4 => ⟨S_, .f32⟩
  | 5 => ⟨S1x128x12x64, .f32⟩
  | 6 => ⟨S127x128x12x64, .f32⟩
  | 7 => ⟨S128x128x12x64, .f32⟩
  | 8 => ⟨S128x256x12x64, .f32⟩
  | 9 => ⟨S128x12x128x256, .f32⟩
  | 10 => ⟨S_, .f32⟩
  | 11 => ⟨S128x12x128x256, .f32⟩
  | 12 => ⟨S128x12x128x256, .f32⟩
  | 13 => ⟨S1x12x128x256, .f32⟩
  | 14 => ⟨S128x12x128x256, .f32⟩
  | 15 => ⟨S128x12x128x256, .f32⟩
  | 16 => ⟨S128x12x1x1, .i1⟩
  | 17 => ⟨S256, .i32⟩
  | 18 => ⟨S_, .i32⟩
  | 19 => ⟨S256, .i32⟩
  | 20 => ⟨S256, .i1⟩
  | 21 => ⟨S1x1x1x256, .i1⟩
  | 22 => ⟨S128x12x1x256, .i1⟩
  | 23 => ⟨S128x12x1x256, .i1⟩
  | 24 => ⟨S128x12x1x256, .i1⟩
  | 25 => ⟨S_, .f32⟩
  | 26 => ⟨S_, .f32⟩
  | 27 => ⟨S128x12x128x256, .i1⟩
  | 28 => ⟨S128x12x128x256, .f32⟩
  | 29 => ⟨S128x12x128x256, .f32⟩
  | 30 => ⟨S_, .f32⟩
  | 31 => ⟨S128x12x128, .f32⟩
  | 32 => ⟨S128x12x128x1, .f32⟩
  | 33 => ⟨S128x12x128x256, .f32⟩
  | 34 => ⟨S128x12x128x256, .f32⟩
  | 35 => ⟨S128x12x128x256, .f32⟩
  | 36 => ⟨S_, .f32⟩
  | 37 => ⟨S128x12x128, .f32⟩
  | 38 => ⟨S128x12x64x128, .f32⟩
  | 39 => ⟨S128x128x12x64, .f32⟩
  | 40 => ⟨S128x128x12, .f32⟩
  | 41 => ⟨S128x128x12x1, .f32⟩
  | 42 => ⟨S128x128x12x64, .f32⟩
  | 43 => ⟨S128x128x12x64, .f32⟩
  | 44 => ⟨S16384x768, .f32⟩
  | 45 => ⟨S128x12x128, .f32⟩
  | 46 => ⟨S128x12x128, .f32⟩
  | 47 => ⟨S128x128x12, .f32⟩
  | 48 => ⟨S16384x12, .f32⟩
  | 49 => ⟨S16384x20, .f32⟩
  | 50 => ⟨S16x8x128x10x2, .f32⟩
  | 51 => ⟨S16384x1280, .f32⟩
  | 52 => ⟨S10x16x8x2x128, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_c_7 : Ref sig .tc := ⟨.hbm, 96, rfl⟩
abbrev main_v81 : Ref sig .tc := ⟨.hbm, 97, rfl⟩
abbrev main_v82 : Ref sig .tc := ⟨.hbm, 98, rfl⟩
abbrev main_c_8 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c_9 : Ref sig .tc := ⟨.hbm, 105, rfl⟩
abbrev main_v88 : Ref sig .tc := ⟨.hbm, 106, rfl⟩
abbrev main_v89 : Ref sig .tc := ⟨.hbm, 107, rfl⟩
abbrev main_c_10 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_c_11 : Ref sig .tc := ⟨.hbm, 114, rfl⟩
abbrev main_v95 : Ref sig .tc := ⟨.hbm, 115, rfl⟩
abbrev main_v96 : Ref sig .tc := ⟨.hbm, 116, rfl⟩
abbrev main_c_12 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_13 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_14 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_15 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_c_16 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_17 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v128 : Ref sig .tc := ⟨.hbm, 157, rfl⟩
abbrev main_cst_18 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_19 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩

abbrev nD : Nat := 1
abbrev τ : Topo := Topo.v7x

variable {F : FTy → Type} [FloatOps F]
-- ==== Proof.NormGrad.lean ====
/-
  The gradient of a root-mean-square norm on one row, over the extended reals: the form the kernels compute and the form the derivative
  of the forward lines has are the same number when the row, the gain and the cotangent are finite.
-/
module

public import Idealize.ShloMosaic.PureOps.Ideal
public import Idealize.ShloMosaic.PureOps.Ideal.Laws

@[expose] public section

noncomputable section

namespace Cert.NormGrad

open Idealize.ShloMosaic

/-- An extended real is finite when it is the image of a real. -/
def Fin' (x : EReal) : Prop := ∃ r : ℝ, x = (r : EReal)

/-- What a precondition `|x| < ∞` says. -/
theorem fin_of_lt {x : EReal} (h : max x (-x) < ⊤) : Fin' x := by
  induction x with
  | bot => simp at h
  | top => simp at h
  | coe r => exact ⟨r, rfl⟩

/-- The same, as the comparison's bit. -/
theorem fin_of_bit {x : Ideal .f32} (h : BitVec.ofBool (decide (FloatOps.absf x < Ideal.ofBits FTy.f32 2139095040#32)) = 1#1) : Fin' x := by
  refine fin_of_lt (x := x) ?_
  have ht : Ideal.ofBits FTy.f32 2139095040#32 = ⊤ := by simp [Ideal.ofBits, Ideal.ieee]
  rw [ht] at h
  by_contra hn
  have hd : decide (FloatOps.absf x < ⊤) = false := decide_eq_false hn
  rw [hd] at h
  exact absurd h (by decide)

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real. -/
theorem div_coe_coe (a : ℝ) {b : ℝ} (h : b ≠ 0) : Ideal.div (a : EReal) (b : EReal) = ((a / b : ℝ) : EReal) := by
  rw [Ideal.div_coe h, ← EReal.coe_mul]
  congr 1
  ring

/-- The reciprocal root of a positive real. -/
theorem rsqrt_pos {a : ℝ} (h : 0 < a) : Ideal.rsqrt (a : EReal) = (((Real.sqrt a)⁻¹ : ℝ) : EReal) := by
  rw [Ideal.rsqrt_coe, if_neg (not_lt.mpr h.le), if_neg h.ne']

variable {n : ℕ}

/-- The mean square of a row, plus the guard. -/
def ms (N e : EReal) (x : Fin n → EReal) : EReal := Ideal.div (∑ k, x k * x k) N + e

/-- Its reciprocal root. -/
def inv (N e : EReal) (x : Fin n → EReal) : EReal := Ideal.rsqrt (ms N e x)

/-- The kernels' form: `r (d g - x̂ mean(d g x̂))`, with `x̂ = x r`. -/
def kernelDx (N e : EReal) (x g d : Fin n → EReal) (j : Fin n) : EReal :=
  inv N e x * (d j * g j - x j * inv N e x * Ideal.div (∑ k, d k * g k * (x k * inv N e x)) N)

/-- Half of the part of the derivative that goes through the mean square. -/
def half (N e h : EReal) (x g d : Fin n → EReal) : EReal :=
  Ideal.div ((∑ k, x k * (d k * g k)) * (h * Ideal.div (inv N e x) (ms N e x))) N

/-- The derivative of the forward lines: the direct part, and the square's two factors. -/
def gradDx (N e h : EReal) (x g d : Fin n → EReal) (j : Fin n) : EReal :=
  d j * g j * inv N e x + x j * half N e h x g d + half N e h x g d * x j

/-- The reciprocal root of a finite row is finite. -/
theorem inv_fin {N e : ℝ} (hN : 0 < N) (he : 0 < e) {x : Fin n → EReal} (hx : ∀ k, Fin' (x k)) : Fin' (inv N e x) := by
  choose x' hx using hx
  have hpos : 0 < (∑ k, x' k * x' k) / N + e :=
    add_pos_of_nonneg_of_pos (div_nonneg (Finset.sum_nonneg fun k _ => mul_self_nonneg _) hN.le) he
  refine ⟨(Real.sqrt ((∑ k, x' k * x' k) / N + e))⁻¹, ?_⟩
  unfold inv ms
  simp only [hx, ← EReal.coe_mul, ← coe_sum, div_coe_coe _ hN.ne', ← EReal.coe_add]
  rw [rsqrt_pos hpos]

/-- The two forms agree on finite rows. -/
theorem kernelDx_eq {N e : ℝ} (hN : 0 < N) (he : 0 < e) {x g d : Fin n → EReal} (hx : ∀ k, Fin' (x k)) (hg : ∀ k, Fin' (g k))
    (hd : ∀ k, Fin' (d k)) (j : Fin n) : kernelDx N e x g d j = gradDx N e ((-(1 / 2) : ℝ) : EReal) x g d j := by
  choose x' hx using hx
  choose g' hg using hg
  choose d' hd using hd
  have hpos : 0 < (∑ k, x' k * x' k) / N + e :=
    add_pos_of_nonneg_of_pos (div_nonneg (Finset.sum_nonneg fun k _ => mul_self_nonneg _) hN.le) he
  unfold kernelDx gradDx half inv ms
  simp only [hx, hg, hd, ← EReal.coe_mul, ← coe_sum, div_coe_coe _ hN.ne', ← EReal.coe_add, rsqrt_pos hpos, div_coe_coe _ hpos.ne', ← EReal.coe_sub]
  congr 1
  set s := (∑ k, x' k * x' k) / N + e
  have hs : Real.sqrt s ^ 2 = s := Real.sq_sqrt hpos.le
  have hr : (Real.sqrt s)⁻¹ / s = (Real.sqrt s)⁻¹ ^ 3 := by
    have h0 : Real.sqrt s ≠ 0 := (Real.sqrt_pos.mpr hpos).ne'
    nth_rewrite 2 [← hs]
    field_simp
  rw [hr]
  have h1 : ∑ k, d' k * g' k * (x' k * (Real.sqrt s)⁻¹) = (∑ k, x' k * (d' k * g' k)) * (Real.sqrt s)⁻¹ := by
    rw [Finset.sum_mul]
    exact Finset.sum_congr rfl fun k _ => by ring
  rw [h1]
  ring

/-! ## The constants the programs write -/

theorem c1024 : Ideal.ofBits FTy.f32 0x44800000#32 = ((1024 : ℝ) : EReal) := by
  simp [Ideal.ofBits, Ideal.ieee, -EReal.coe_mul]; norm_num

theorem c384 : Ideal.ofBits FTy.f32 0x43C00000#32 = ((384 : ℝ) : EReal) := by
  simp [Ideal.ofBits, Ideal.ieee, -EReal.coe_mul]; norm_num

theorem cHalf : Ideal.ofBits FTy.f32 0x3F000000#32 = ((1 / 2 : ℝ) : EReal) := by
  simp [Ideal.ofBits, Ideal.ieee, -EReal.coe_mul]; norm_num

theorem cNegHalf : Ideal.ofBits FTy.f32 0xBF000000#32 = ((-(1 / 2) : ℝ) : EReal) := by
  simp [Ideal.ofBits, Ideal.ieee, -EReal.coe_mul]; norm_num

theorem cTwo : Ideal.ofBits FTy.f32 0x40000000#32 = ((2 : ℝ) : EReal) := by
  simp [Ideal.ofBits, Ideal.ieee, -EReal.coe_mul]; norm_num

theorem cInv1024 : Ideal.ofBits FTy.f32 0x3A800000#32 = ((1 / 1024 : ℝ) : EReal) := by
  simp [Ideal.ofBits, Ideal.ieee, -EReal.coe_mul]; norm_num

/-- The guard is some positive real. -/
theorem cEps : ∃ e : ℝ, 0 < e ∧ Ideal.ofBits FTy.f32 0x358637BD#32 = (e : EReal) := by
  refine ⟨_, ?_, by simp [Ideal.ofBits, Ideal.ieee, -EReal.coe_mul]; rfl⟩
  positivity

end Cert.NormGrad

end
-- ==== Proof.LossValue.lean ====
/-
  The loss head: what the kernel's three result arrays end holding, row by row, at the exact reals.
-/
module

public import proofs.«01_k».proof.Proof.Gen.LossIdeal.Value
public import proofs.«01_k».proof.Proof.NormGrad
public import Idealize.ShloMosaic.Lib.Pipeline.ValueKit

@[expose] public section

noncomputable section

namespace Cert.LossIdeal.Value

open Cert.LossIdeal Cert.LossIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 1024 and the guard, as the programs write them. -/
abbrev cN : EReal := Ideal.ofBits FTy.f32 0x44800000#32
abbrev cE : EReal := Ideal.ofBits FTy.f32 0x358637BD#32

/-- Row `i` of the stream and of the target, and the gain. -/
abbrev X (c : Dev nD) (i : Fin 16384) : Fin 1024 → EReal := fun k => m ((c : Thread nD τ).loc main_arg0) (ix2 i k)
abbrev Y (c : Dev nD) (i : Fin 16384) : Fin 1024 → EReal := fun k => m ((c : Thread nD τ).loc main_arg1) (ix2 i k)
abbrev G (c : Dev nD) : Fin 1024 → EReal := fun k => m ((c : Thread nD τ).loc main_arg2) (ix1 k)

/-- The error of a row at a column: the normed row times the gain, less the target. -/
def err (x g y : Fin 1024 → EReal) (k : Fin 1024) : EReal := x k * inv cN cE x * g k - y k

/-- The cotangent of the normed row: the error over the width. -/
def cot (x g y : Fin 1024 → EReal) (k : Fin 1024) : EReal := err x g y k * Ideal.ofBits FTy.f32 0x3A800000#32

/-- The window's block indices: the row blocks follow the point, the rest stay. -/
theorem idx (t : Fin cfg0.N) : win0_0.index t = ![t.val, 0] ∧ win0_1.index t = ![t.val, 0] ∧ win0_2.index t = ![0, 0]
    ∧ win0_4.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blk0 (c : Dev nD) (t : Fin cfg0.N) (a : Fin 512) (b : Fin 1024) : iblk m c 0 t (ix2 a b) = X m c (row t a) b := by
  blk_ext [iblk, V, idx t]

theorem blk1 (c : Dev nD) (t : Fin cfg0.N) (a : Fin 512) (b : Fin 1024) : iblk m c 1 t (ix2 a b) = Y m c (row t a) b := by
  blk_ext [iblk, V, idx t]

theorem blk2 (c : Dev nD) (t : Fin cfg0.N) (b : Fin 1024) : iblk m c 2 t (ix2 0 b) = G m c b := by
  blk_simp [iblk, idx t]
  entry_read
  pointwise
  blk_ext [iblk, V, idx t]

/-- A point's block of the stream's gradient. -/
theorem pay_dx (c : Dev nD) (t : Fin cfg0.N) (a : Fin 512) (b : Fin 1024) :
    k0_pay2 (k0_pay5 (iblk m c 0 t)) (k0_pay6 (iblk m c 0 t)) (k0_pay9 (iblk m c 0 t) (iblk m c 2 t) (iblk m c 1 t)) (iblk m c 2 t) (ix2 a b)
      = kernelDx cN cE (X m c (row t a)) (G m c) (cot (X m c (row t a)) (G m c) (Y m c (row t a))) b := by
  pointwise [k0_pay2, k0_pay5, k0_pay6, k0_pay7, k0_pay9]
  simp only [blk0, blk1, blk2]
  rfl

/-- The stream's gradient. -/
theorem final4 (c : Dev nD) : (dats m 0 c).arrAt 4 cfg0.N
    = fun i : S16384x1024.Idx => kernelDx cN cE (X m c (i 0)) (G m c) (cot (X m c (i 0)) (G m c) (Y m c (i 0))) (i 1) := by
  refine (dats m 0 c).arrAt_eq_of_covers 4 _ (by decide +kernel) fun t hf y => ?_
  have hrow : ∀ (a : Fin 512) (b : Fin 1024), ((View.whole main_v1_1).slice (win0_4.rect t)).emb (ix2 a b) = ix2 (row t a) b := fun a b => by
    blk_ext [idx t]
  blk_simp
  rw [after0_4]
  by_cases h0 : t.val % 32 = 0
  · rw [outsAt0_A m c t h0]
    frame_out
    idx_vars y
    rw [pay_dx]
    erw [hrow]
    rfl
  · rw [outsAt0_B m c t h0]
    frame_out
    idx_vars y
    rw [pay_dx]
    erw [hrow]
    rfl

/-- The last point. -/
def tLast : Fin cfg0.N := ⟨31, by rw [show cfg0.N = 32 from N_0]; decide⟩

/-- A point's addend to the gain's gradient. -/
theorem pay_dg (c : Dev nD) (t : Fin cfg0.N) (acc : Vec Ideal S1x1024 .f32) (z : Fin 1) (b : Fin 1024) :
    k0_pay1 (k0_pay6 (iblk m c 0 t)) (k0_pay9 (iblk m c 0 t) (iblk m c 2 t) (iblk m c 1 t)) acc (ix2 z b)
      = acc (ix2 z b) + ∑ a : Fin 512, cot (X m c (row t a)) (G m c) (Y m c (row t a)) b * (X m c (row t a) b * inv cN cE (X m c (row t a))) := by
  pointwise [k0_pay1, k0_pay5, k0_pay6, k0_pay7, k0_pay9]
  simp only [blk0, blk1, blk2]
  rfl

/-- The gain's gradient: the sum over the rows. -/
theorem final5 (c : Dev nD) : (dats m 0 c).arrAt 5 cfg0.N = fun i : S1x1024.Idx =>
    ∑ r : Fin 16384, cot (X m c r) (G m c) (Y m c r) (i 1) * (X m c r (i 1) * inv cN cE (X m c r)) := by
  refine (dats m 0 c).arrAt_eq_of_after_last 5 tLast (by decide +kernel) _ fun j => ?_
  blk_simp
  rw [after0_5]
  idx_vars j
  refine (Pipeline.eq_sum_fin_of_reset_step_apply_last (fun n h => (outsAt0 m c n h).2.2) 32 (fun _ => 0)
    (fun t j => ∑ a : Fin 512, cot (X m c (row t a)) (G m c) (Y m c (row t a)) (j 1) * (X m c (row t a) (j 1) * inv cN cE (X m c (row t a))))
    (fun t h j => ?_) (fun t h j => ?_) (by decide) tLast rfl _).trans ?_
  · rw [outsAt0_A m c t h]
    frame_out
    idx_vars j
    rw [pay_dg]
    pointwise [k0_pay3]
  · rw [outsAt0_B m c t h]
    frame_out
    idx_vars j
    rw [pay_dg]
  · rw [zero_add]
    exact Fin.sum_mul_add_congr fun s k hl => rfl

/-- A point's addend to the loss. -/
theorem pay_loss (c : Dev nD) (t : Fin cfg0.N) (acc : Vec Ideal S1x128 .f32) (z : Fin 1) (b : Fin 128) :
    k0_pay8 (iblk m c 0 t) (iblk m c 2 t) (iblk m c 1 t) acc (ix2 z b)
      = acc (ix2 z b) + Ideal.ofBits FTy.f32 0x3F000000#32 * ∑ a : Fin 512, Ideal.div (∑ k, err (X m c (row t a)) (G m c) (Y m c (row t a)) k
          * err (X m c (row t a)) (G m c) (Y m c (row t a)) k) cN := by
  pointwise [k0_pay8, k0_pay5, k0_pay6, k0_pay7]
  simp only [blk0, blk1, blk2]
  rfl

/-- The loss, on every lane: half of each block's mean squares, block after block. -/
theorem final3 (c : Dev nD) : (dats m 0 c).arrAt 3 cfg0.N = fun _ : S1x128.Idx =>
    ∑ t : Fin cfg0.N, Ideal.ofBits FTy.f32 0x3F000000#32 * ∑ a : Fin 512, Ideal.div (∑ k, err (X m c (row t a)) (G m c) (Y m c (row t a)) k
          * err (X m c (row t a)) (G m c) (Y m c (row t a)) k) cN := by
  refine (dats m 0 c).arrAt_eq_of_after_last 3 tLast (by decide +kernel) _ fun j => ?_
  blk_simp
  rw [after0_3]
  idx_vars j
  refine (Pipeline.eq_sum_fin_of_reset_step_apply_last (fun n h => (outsAt0 m c n h).1) 32 (fun _ => 0)
    (fun t _ => Ideal.ofBits FTy.f32 0x3F000000#32 * ∑ a : Fin 512, Ideal.div (∑ k, err (X m c (row t a)) (G m c) (Y m c (row t a)) k
          * err (X m c (row t a)) (G m c) (Y m c (row t a)) k) cN)
    (fun t h j => ?_) (fun t h j => ?_) (by decide) tLast rfl _).trans ?_
  · rw [outsAt0_A m c t h]
    frame_out
    idx_vars j
    rw [pay_loss]
    pointwise [k0_pay4]
  · rw [outsAt0_B m c t h]
    frame_out
    idx_vars j
    rw [pay_loss]
  · rw [zero_add]

end Cert.LossIdeal.Value

end
-- ==== Proof.LossTie.lean ====
/-
  The loss head: the reference's three results are the arrays the kernel ends with, on finite arguments.
-/
module

public import proofs.«01_k».proof.Proof.LossValue
public import proofs.«01_k».proof.Proof.Gen.LossRefIdeal.Read

@[expose] public section

noncomputable section

namespace Cert.LossRefIdeal.Tie

open Cert.LossRefIdeal Cert.LossRefIdeal.Read Cert.NormGrad Idealize.ShloMosaic Idealize.ShloMosaic.TcCoe Idealize.SL.Sem
open Cert.LossIdeal.Value (cN cE err cot)

variable (x0 x1 : (⟨S16384x1024, .f32⟩ : BufTy).Contents (Elt Ideal)) (x2 : (⟨S1024, .f32⟩ : BufTy).Contents (Elt Ideal))

abbrev rx (r : Fin 16384) : Fin 1024 → EReal := fun k => x0 (ix2 r k)
abbrev ry (r : Fin 16384) : Fin 1024 → EReal := fun k => x1 (ix2 r k)
abbrev rg : Fin 1024 → EReal := fun k => x2 (ix1 k)

/-- The reference's cotangent of the normed row. -/
def cotR (x g y : Fin 1024 → EReal) (k : Fin 1024) : EReal :=
  Ideal.div (Ideal.ofBits FTy.f32 0x3F000000#32) cN * (Ideal.ofBits FTy.f32 0x40000000#32 * err x g y k)

/-- One over the width, written as the kernel's constant and as the derivative's quotient. -/
theorem cotR_eq {x g y : Fin 1024 → EReal} (k : Fin 1024) (he : Fin' (err x g y k)) : cotR x g y k = cot x g y k := by
  unfold cotR cot
  obtain ⟨e, he⟩ := he
  rw [he, show cN = ((1024 : ℝ) : EReal) from c1024, cHalf, cTwo, cInv1024, div_coe_coe _ (by norm_num), ← EReal.coe_mul, ← EReal.coe_mul, ← EReal.coe_mul]
  congr 1
  ring

/-- A finite row has a finite error. -/
theorem err_fin {x g y : Fin 1024 → EReal} (hx : ∀ k, Fin' (x k)) (hg : ∀ k, Fin' (g k)) (hy : ∀ k, Fin' (y k)) (k : Fin 1024) : Fin' (err x g y k) := by
  obtain ⟨e, he0, he⟩ := cEps
  obtain ⟨i, hi⟩ : Fin' (inv cN cE x) := by
    rw [show cN = ((1024 : ℝ) : EReal) from c1024, show cE = (e : EReal) from he]
    exact inv_fin (by norm_num) he0 hx
  obtain ⟨a, ha⟩ := hx k
  obtain ⟨b, hb⟩ := hg k
  obtain ⟨d, hd⟩ := hy k
  exact ⟨a * i * b - d, by unfold err; rw [hi, ha, hb, hd]; simp only [← EReal.coe_mul, ← EReal.coe_sub]⟩

/-- The stream's gradient at an entry. -/
theorem read_dx (a : Fin 16384) (b : Fin 1024) : val_main_v50 (F := Ideal) x0 x1 x2 (ix2 a b)
    = gradDx cN cE (Ideal.ofBits FTy.f32 0xBF000000#32) (rx x0 a) (rg x2) (cotR (rx x0 a) (rg x2) (ry x1 a)) b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  simp only [Finset.univ_unique, Finset.sum_const, Finset.card_singleton, one_smul]
  rfl

theorem read_dg (z : Fin 1) (b : Fin 1024) : val_main_v52 (F := Ideal) x0 x1 x2 (ix2 z b)
    = ∑ r : Fin 16384, rx x0 r b * inv cN cE (rx x0 r) * cotR (rx x0 r) (rg x2) (ry x1 r) b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  simp only [Finset.univ_unique, Finset.sum_const, Finset.card_singleton, one_smul]
  rfl

theorem read_loss (z : Fin 1) (b : Fin 128) : val_main_v51 (F := Ideal) x0 x1 x2 (ix2 z b)
    = Ideal.ofBits FTy.f32 0x3F000000#32 * ∑ r : Fin 16384, Ideal.div (∑ k, err (rx x0 r) (rg x2) (ry x1 r) k * err (rx x0 r) (rg x2) (ry x1 r) k) cN := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  rfl

end Cert.LossRefIdeal.Tie

end
-- ==== Proof.LossClaim.lean ====
/-
  The loss head's claim: on finite arguments the kernel's loss, stream gradient and gain gradient are the reference's.
-/
module

public import proofs.«01_k».proof.Defs
public import proofs.«01_k».proof.Proof.LossTie
public import proofs.«01_k».proof.Proof.Gen.Pre_finite

@[expose] public section

noncomputable section

namespace Cert.LossClaim

open Cert.NormGrad Idealize.ShloMosaic Idealize.ShloMosaic.TcCoe Idealize.SL.Sem
open Cert.LossIdeal.Value (X Y G cN cE err cot row)
open Cert.LossRefIdeal.Tie (cotR cotR_eq err_fin read_dx read_dg read_loss)

variable {m : (ℓ : Loc Cert.LossIdeal.nD Cert.LossIdeal.τ Cert.LossIdeal.sig) → Buf (Elt Ideal) ℓ}

/-- What the precondition says of the arguments. -/
theorem fin (h : Cert.Pre_LossIdeal_finite m) (c : Dev Cert.LossIdeal.nD) :
    (∀ r k, Fin' (X m c r k)) ∧ (∀ r k, Fin' (Y m c r k)) ∧ ∀ k, Fin' (G m c k) := by
  obtain ⟨h0, h1, h2⟩ := h c
  refine ⟨fun r k => fin_of_bit ?_, fun r k => fin_of_bit ?_, fun k => fin_of_bit ?_⟩
  · have := congrFun h0 (ix2 r k)
    pointwise [Cert.Pre_finite.fn] at this
    exact this
  · have := congrFun h1 (ix2 r k)
    pointwise [Cert.Pre_finite.fn] at this
    exact this
  · have := congrFun h2 (ix1 k)
    pointwise [Cert.Pre_finite.fn] at this
    exact this

/-- The kernel's loss sums half of each block's mean squares; the reference halves the whole sum. -/
theorem loss_eq (c : Dev Cert.LossIdeal.nD) (hx : ∀ r k, Fin' (X m c r k)) (hy : ∀ r k, Fin' (Y m c r k)) (hg : ∀ k, Fin' (G m c k)) :
    (∑ t : Fin Cert.LossIdeal.cfg0.N, Ideal.ofBits FTy.f32 0x3F000000#32 * ∑ a : Fin 512, Ideal.div (∑ k, err (X m c (row t a)) (G m c) (Y m c (row t a)) k
          * err (X m c (row t a)) (G m c) (Y m c (row t a)) k) cN)
      = Ideal.ofBits FTy.f32 0x3F000000#32 * ∑ r : Fin 16384, Ideal.div (∑ k, err (X m c r) (G m c) (Y m c r) k * err (X m c r) (G m c) (Y m c r) k) cN := by
  have hq : ∀ r : Fin 16384, Fin' (Ideal.div (∑ k, err (X m c r) (G m c) (Y m c r) k * err (X m c r) (G m c) (Y m c r) k) cN) := fun r => by
    choose e he using fun k => err_fin (hx r) hg (hy r) k
    rw [show cN = ((1024 : ℝ) : EReal) from c1024]
    simp only [he, ← EReal.coe_mul, ← coe_sum, div_coe_coe _ (show (1024 : ℝ) ≠ 0 by norm_num)]
    exact ⟨_, rfl⟩
  choose q hq using hq
  simp only [hq, cHalf, ← EReal.coe_mul, ← coe_sum]
  have hs : (∑ t : Fin Cert.LossIdeal.cfg0.N, ∑ a : Fin 512, q (row t a)) = ∑ r : Fin 16384, q r := Fin.sum_mul_add_congr fun s k hl => rfl
  rw [← Finset.mul_sum, hs]

theorem claim : Cert.algebraic_LossIdeal_LossRefIdeal_pre_finite := by
  intro m g m' g' hp ha
  refine ⟨fun c => (Cert.LossIdeal.Gen.dats m 0 c).arrAt 3 Cert.LossIdeal.cfg0.N, fun c => (Cert.LossIdeal.Gen.dats m 0 c).arrAt 4 Cert.LossIdeal.cfg0.N,
    fun c => (Cert.LossIdeal.Gen.dats m 0 c).arrAt 5 Cert.LossIdeal.cfg0.N, ?_, ?_⟩
  · run_from (Cert.LossIdeal.Value.run_blocks m g)
  · refine (θ_run Cert.LossRefIdeal.defs _ _).mono (fun r h c => ?_) (Cert.LossRefIdeal.Value.run (F := Ideal) m' g')
    obtain ⟨h0, h1, h2, hk⟩ := h c
    obtain ⟨a0, a1, a2⟩ := ha c
    obtain ⟨hx, hy, hg⟩ := fin hp c
    refine ⟨h0.trans ?_, h1.trans ?_, h2.trans ?_, hk⟩
    all_goals beta_reduce
    · rw [Cert.LossRefIdeal.Read.val_main_v51_eq, Cert.LossIdeal.Value.final3, loss_eq c hx hy hg, a0, a1, a2]
      funext j
      idx_vars j
      exact read_loss _ _ _ _ _
    · rw [Cert.LossRefIdeal.Read.val_main_v50_eq, Cert.LossIdeal.Value.final4, a0, a1, a2]
      funext j
      idx_vars j
      refine (read_dx _ _ _ _ _).trans ?_
      obtain ⟨e, he0, he⟩ := cEps
      have hd : ∀ r, cotR (X m c r) (G m c) (Y m c r) = cot (X m c r) (G m c) (Y m c r) := fun r => funext fun k => cotR_eq k (err_fin (hx r) hg (hy r) k)
      have hc : ∀ r k, Fin' (cot (X m c r) (G m c) (Y m c r) k) := fun r k => by
        obtain ⟨e, he⟩ := err_fin (hx r) hg (hy r) k
        exact ⟨_, by unfold cot; rw [he, cInv1024, ← EReal.coe_mul]⟩
      erw [hd]
      rw [show cN = ((1024 : ℝ) : EReal) from c1024, show cE = (e : EReal) from he, cNegHalf]
      exact (kernelDx_eq (by norm_num) he0 (hx _) hg (hc _) _).symm
    · rw [Cert.LossRefIdeal.Read.val_main_v52_eq, Cert.LossIdeal.Value.final5, a0, a1, a2]
      funext j
      idx_vars j
      refine (read_dg _ _ _ _ _).trans (Finset.sum_congr rfl fun r _ => ?_)
      rw [mul_comm]
      congr 1
      exact cotR_eq _ (err_fin (hx r) hg (hy r) _)

end Cert.LossClaim

end
-- ==== Proof.NormValue.lean ====
/-
  The latent norm's gradient kernel: what its two result arrays end holding, at the exact reals.
-/
module

public import proofs.«01_k».proof.Proof.Gen.NormIdeal.Value
public import proofs.«01_k».proof.Proof.NormGrad
public import Idealize.ShloMosaic.Lib.Pipeline.ValueKit

@[expose] public section

noncomputable section

namespace Cert.NormIdeal.Value

open Cert.NormIdeal Cert.NormIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 384 and the guard, as the programs write them. -/
abbrev cN : EReal := Ideal.ofBits FTy.f32 0x43C00000#32
abbrev cE : EReal := Ideal.ofBits FTy.f32 0x358637BD#32

/-- Row `i` of the latent and of the cotangent, and the gain. -/
abbrev X (c : Dev nD) (i : Fin 16384) : Fin 384 → EReal := fun k => m ((c : Thread nD τ).loc main_arg0) (ix2 i k)
abbrev D (c : Dev nD) (i : Fin 16384) : Fin 384 → EReal := fun k => m ((c : Thread nD τ).loc main_arg2) (ix2 i k)
abbrev G (c : Dev nD) : Fin 384 → EReal := fun k => m ((c : Thread nD τ).loc main_arg1) (ix1 k)

/-- The row blocks follow the point; the gain stays. -/
theorem idx (t : Fin cfg0.N) : win0_0.index t = ![t.val, 0] ∧ win0_1.index t = ![0, 0] ∧ win0_2.index t = ![t.val, 0]
    ∧ win0_3.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blkX (c : Dev nD) (t : Fin cfg0.N) (a : Fin 512) (b : Fin 384) : iblk m c 0 t (ix2 a b) = X m c (row t a) b := by
  blk_ext [iblk, V, idx t]

theorem blkD (c : Dev nD) (t : Fin cfg0.N) (a : Fin 512) (b : Fin 384) : iblk m c 2 t (ix2 a b) = D m c (row t a) b := by
  blk_ext [iblk, V, idx t]

theorem blkG (c : Dev nD) (t : Fin cfg0.N) (b : Fin 384) : iblk m c 1 t (ix2 0 b) = G m c b := by
  blk_simp [iblk, idx t]
  entry_read
  pointwise
  blk_ext [iblk, V, idx t]

/-- A point's block of the gradient. -/
theorem pay_dx (c : Dev nD) (t : Fin cfg0.N) (a : Fin 512) (b : Fin 384) :
    k0_pay5 (iblk m c 0 t) (iblk m c 2 t) (iblk m c 1 t) (ix2 a b) = kernelDx cN cE (X m c (row t a)) (G m c) (D m c (row t a)) b := by
  pointwise [k0_pay5, k0_pay3, k0_pay2]
  simp only [blkX, blkD, blkG]
  rfl

/-- The row's gradient. -/
theorem finalX (c : Dev nD) : (dats m 0 c).arrAt 3 cfg0.N
    = fun i : S16384x384.Idx => kernelDx cN cE (X m c (i 0)) (G m c) (D m c (i 0)) (i 1) := by
  refine (dats m 0 c).arrAt_eq_of_covers 3 _ (by decide +kernel) fun t hf y => ?_
  have hrow : ∀ (a : Fin 512) (b : Fin 384), ((View.whole main_v1_0).slice (win0_3.rect t)).emb (ix2 a b) = ix2 (row t a) b := fun a b => by
    blk_ext [idx t]
  blk_simp
  rw [after0_3]
  by_cases h0 : t.val % 32 = 0
  · rw [outsAt0_A m c t h0]
    frame_out
    idx_vars y
    rw [pay_dx]
    erw [hrow]
    rfl
  · rw [outsAt0_B m c t h0]
    frame_out
    idx_vars y
    rw [pay_dx]
    erw [hrow]
    rfl

/-- The last point. -/
def tLast : Fin cfg0.N := ⟨31, by rw [show cfg0.N = 32 from N_0]; decide⟩

/-- A point's addend to the gain's gradient. -/
theorem pay_dg (c : Dev nD) (t : Fin cfg0.N) (acc : Vec Ideal S1x384 .f32) (z : Fin 1) (b : Fin 384) :
    k0_pay4 (iblk m c 0 t) (iblk m c 2 t) acc (ix2 z b)
      = acc (ix2 z b) + ∑ a : Fin 512, D m c (row t a) b * (X m c (row t a) b * inv cN cE (X m c (row t a))) := by
  pointwise [k0_pay4, k0_pay3, k0_pay2]
  simp only [blkX, blkD]
  rfl

/-- The gain's gradient: the sum over the rows. -/
theorem finalG (c : Dev nD) : (dats m 0 c).arrAt 4 cfg0.N = fun i : S1x384.Idx =>
    ∑ r : Fin 16384, D m c r (i 1) * (X m c r (i 1) * inv cN cE (X m c r)) := by
  refine (dats m 0 c).arrAt_eq_of_after_last 4 tLast (by decide +kernel) _ fun j => ?_
  blk_simp
  rw [after0_4]
  idx_vars j
  refine (Pipeline.eq_sum_fin_of_reset_step_apply_last (fun n h => (outsAt0 m c n h).2) 32 (fun _ => 0)
    (fun t j => ∑ a : Fin 512, D m c (row t a) (j 1) * (X m c (row t a) (j 1) * inv cN cE (X m c (row t a))))
    (fun t h j => ?_) (fun t h j => ?_) (by decide) tLast rfl _).trans ?_
  · rw [outsAt0_A m c t h]
    frame_out
    idx_vars j
    rw [pay_dg]
    pointwise [k0_pay1]
  · rw [outsAt0_B m c t h]
    frame_out
    idx_vars j
    rw [pay_dg]
  · rw [zero_add]
    exact Fin.sum_mul_add_congr fun s k hl => rfl

end Cert.NormIdeal.Value

end
-- ==== Proof.NormTie.lean ====
/-
  The latent norm's gradient: the reference's two results, read at an entry.
-/
module

public import proofs.«01_k».proof.Proof.NormValue
public import proofs.«01_k».proof.Proof.Gen.NormRefIdeal.Read
public import Idealize.ShloMosaic.Lib.Pipeline.ValueKit

@[expose] public section

noncomputable section

namespace Cert.NormRefIdeal.Tie

open Cert.NormRefIdeal Cert.NormRefIdeal.Read Cert.NormGrad Idealize.ShloMosaic Idealize.ShloMosaic.TcCoe Idealize.SL.Sem

open Cert.NormIdeal.Value (cN cE)

variable (x0 : (⟨S16384x384, .f32⟩ : BufTy).Contents (Elt Ideal)) (x1 : (⟨S384, .f32⟩ : BufTy).Contents (Elt Ideal)) (x2 : (⟨S16384x384, .f32⟩ : BufTy).Contents (Elt Ideal))

theorem read_dx (a : Fin 16384) (b : Fin 384) : val_main_v35 (F := Ideal) x0 x1 x2 (ix2 a b)
    = gradDx cN cE (Ideal.ofBits FTy.f32 0xBF000000#32) (fun k => x0 (ix2 a k)) (fun k => x1 (ix1 k)) (fun k => x2 (ix2 a k)) b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36]
  simp only [Finset.univ_unique, Finset.sum_const, Finset.card_singleton, one_smul]
  rfl

theorem read_dg (z : Fin 1) (b : Fin 384) : val_main_v36 (F := Ideal) x0 x2 (ix2 z b)
    = ∑ r : Fin 16384, x0 (ix2 r b) * inv cN cE (fun k => x0 (ix2 r k)) * x2 (ix2 r b) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36]
  simp only [Finset.univ_unique, Finset.sum_const, Finset.card_singleton, one_smul]
  rfl

end Cert.NormRefIdeal.Tie

end
-- ==== Proof.NormClaim.lean ====
/-
  The latent norm's claim: on finite arguments the kernel's two gradients are the derivative of the forward lines.
-/
module

public import proofs.«01_k».proof.Defs
public import proofs.«01_k».proof.Proof.NormValue
public import proofs.«01_k».proof.Proof.NormTie
public import proofs.«01_k».proof.Proof.Gen.Pre_finite_norm

@[expose] public section

noncomputable section

namespace Cert.NormClaim

open Cert.NormGrad Idealize.ShloMosaic Idealize.ShloMosaic.TcCoe Idealize.SL.Sem
open Cert.NormIdeal.Value (X D G cN cE)
open Cert.NormRefIdeal.Tie (read_dx read_dg)

variable {m : (ℓ : Loc Cert.NormIdeal.nD Cert.NormIdeal.τ Cert.NormIdeal.sig) → Buf (Elt Ideal) ℓ}

/-- What the precondition says of the arguments. -/
theorem fin (h : Cert.Pre_NormIdeal_finite_norm m) (c : Dev Cert.NormIdeal.nD) :
    (∀ r k, Fin' (X m c r k)) ∧ (∀ k, Fin' (G m c k)) ∧ ∀ r k, Fin' (D m c r k) := by
  obtain ⟨h0, h1, h2⟩ := h c
  refine ⟨fun r k => fin_of_bit ?_, fun k => fin_of_bit ?_, fun r k => fin_of_bit ?_⟩
  · have := congrFun h0 (ix2 r k)
    pointwise [Cert.Pre_finite_norm.fn] at this
    exact this
  · have := congrFun h1 (ix1 k)
    pointwise [Cert.Pre_finite_norm.fn] at this
    exact this
  · have := congrFun h2 (ix2 r k)
    pointwise [Cert.Pre_finite_norm.fn] at this
    exact this

theorem claim : Cert.algebraic_NormIdeal_NormRefIdeal_pre_finite_norm := by
  intro m g m' g' hp ha
  refine ⟨fun c => (Cert.NormIdeal.Gen.dats m 0 c).arrAt 3 Cert.NormIdeal.cfg0.N, fun c => (Cert.NormIdeal.Gen.dats m 0 c).arrAt 4 Cert.NormIdeal.cfg0.N, ?_, ?_⟩
  · run_from (Cert.NormIdeal.Value.run_blocks m g)
  · refine (θ_run Cert.NormRefIdeal.defs _ _).mono (fun r h c => ?_) (Cert.NormRefIdeal.Value.run (F := Ideal) m' g')
    obtain ⟨h0, h1, hk⟩ := h c
    obtain ⟨a0, a1, a2⟩ := ha c
    obtain ⟨hx, hg, hd⟩ := fin hp c
    refine ⟨h0.trans ?_, h1.trans ?_, hk⟩
    all_goals beta_reduce
    · rw [Cert.NormRefIdeal.Read.val_main_v35_eq, Cert.NormIdeal.Value.finalX, a0, a1, a2]
      funext j
      idx_vars j
      refine (read_dx _ _ _ _ _).trans ?_
      obtain ⟨e, he0, he⟩ := cEps
      rw [show cN = ((384 : ℝ) : EReal) from c384, show cE = (e : EReal) from he, cNegHalf]
      exact (kernelDx_eq (by norm_num) he0 (hx _) hg (hd _) _).symm
    · rw [Cert.NormRefIdeal.Read.val_main_v36_eq, Cert.NormIdeal.Value.finalG, a0, a2]
      funext j
      idx_vars j
      exact (read_dg _ _ _ _).trans (Finset.sum_congr rfl fun r _ => mul_comm _ _)

end Cert.NormClaim

end
-- ==== Proof.MatNormValue.lean ====
/-
  The kernel of the MLP's upper product fused with the norm's gradient: what its two result arrays end holding, at the exact reals.
-/
module

public import proofs.«01_k».proof.Proof.Gen.MatNormIdeal.Value
public import proofs.«01_k».proof.Proof.NormGrad
public import Idealize.ShloMosaic.Lib.Pipeline.ValueKit

@[expose] public section

noncomputable section

namespace Cert.MatNormIdeal.Value

open Cert.MatNormIdeal Cert.MatNormIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 1024 and the guard, as the programs write them. -/
abbrev cN : EReal := Ideal.ofBits FTy.f32 0x44800000#32
abbrev cE : EReal := Ideal.ofBits FTy.f32 0x358637BD#32

/-- Row `i` of the stream, the gain, and the normed row's cotangent: row `i` of the upper cotangent times the transposed weight. -/
abbrev X (c : Dev nD) (i : Fin 16384) : Fin 1024 → EReal := fun k => m ((c : Thread nD τ).loc main_arg0) (ix2 i k)
abbrev G (c : Dev nD) : Fin 1024 → EReal := fun k => m ((c : Thread nD τ).loc main_arg1) (ix1 k)
abbrev U (c : Dev nD) (i : Fin 16384) : Fin 4096 → EReal := fun k => m ((c : Thread nD τ).loc main_arg3) (ix2 i k)
abbrev W (c : Dev nD) (b : Fin 1024) : Fin 4096 → EReal := fun k => m ((c : Thread nD τ).loc main_arg2) (ix2 b k)
abbrev D (c : Dev nD) (i : Fin 16384) : Fin 1024 → EReal := fun b => ∑ k : Fin 4096, U m c i k * W m c b k
/-- What the stream's own cotangent adds. -/
abbrev H (c : Dev nD) (i : Fin 16384) : Fin 1024 → EReal := fun k => m ((c : Thread nD τ).loc main_arg4) (ix2 i k)

/-- The row blocks follow the point; the gain stays. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blkU (c : Dev nD) (t : Fin cfg0.N) (a : Fin 512) (b : Fin 4096) :
    iblk m c 0 t (ix2 a b) = U m c (row t a) b := by
  blk_simp [iblk, idx t]
  entry_read
  pointwise
  blk_ext [iblk, V, idx t]

theorem blkW (c : Dev nD) (t : Fin cfg0.N) (a : Fin 1024) (b : Fin 4096) :
    iblk m c 1 t (ix2 a b) = W m c a b := by
  blk_simp [iblk, idx t]
  entry_read
  pointwise
  blk_ext [iblk, V, idx t]

theorem blkX (c : Dev nD) (t : Fin cfg0.N) (a : Fin 512) (b : Fin 1024) : iblk m c 2 t (ix2 a b) = X m c (row t a) b := by
  blk_ext [iblk, V, idx t]

theorem blkH (c : Dev nD) (t : Fin cfg0.N) (a : Fin 512) (b : Fin 1024) : iblk m c 4 t (ix2 a b) = H m c (row t a) b := by
  blk_ext [iblk, V, idx t]

theorem blkG (c : Dev nD) (t : Fin cfg0.N) (b : Fin 1024) : iblk m c 3 t (ix2 0 b) = G m c b := by
  blk_simp [iblk, idx t]
  entry_read
  pointwise
  blk_ext [iblk, V, idx t]

/-- A point's block of the gradient. -/
theorem pay_dx (c : Dev nD) (t : Fin cfg0.N) (a : Fin 512) (b : Fin 1024) :
    k0_pay1 (k0_pay4 (iblk m c 2 t)) (k0_pay5 (iblk m c 2 t)) (k0_pay7 (iblk m c 0 t) (iblk m c 1 t) (iblk m c 3 t))
        (k0_pay8 (iblk m c 0 t) (iblk m c 1 t) (iblk m c 2 t) (iblk m c 3 t)) (iblk m c 4 t) (ix2 a b)
      = kernelDx cN cE (X m c (row t a)) (G m c) (D m c (row t a)) b + H m c (row t a) b := by
  pointwise [k0_pay1, k0_pay2, k0_pay4, k0_pay5, k0_pay7, k0_pay8]
  simp only [blkX, blkU, blkW, blkG, blkH]
  rfl

/-- The row's gradient. -/
theorem finalX (c : Dev nD) : (dats m 0 c).arrAt 5 cfg0.N
    = fun i : S16384x1024.Idx => kernelDx cN cE (X m c (i 0)) (G m c) (D m c (i 0)) (i 1) + H m c (i 0) (i 1) := by
  refine (dats m 0 c).arrAt_eq_of_covers 5 _ (by decide +kernel) fun t hf y => ?_
  have hrow : ∀ (a : Fin 512) (b : Fin 1024), ((View.whole main_v3_0).slice (win0_5.rect t)).emb (ix2 a b) = ix2 (row t a) b := fun a b => by
    blk_ext [idx t]
  blk_simp
  rw [after0_5]
  by_cases h0 : t.val % 32 = 0
  · rw [outsAt0_A m c t h0]
    frame_out
    idx_vars y
    rw [pay_dx]
    erw [hrow]
    rfl
  · rw [outsAt0_B m c t h0]
    frame_out
    idx_vars y
    rw [pay_dx]
    erw [hrow]
    rfl

/-- The last point. -/
def tLast : Fin cfg0.N := ⟨31, by rw [show cfg0.N = 32 from N_0]; decide⟩

/-- A point's addend to the gain's gradient. -/
theorem pay_dg (c : Dev nD) (t : Fin cfg0.N) (acc : Vec Ideal S1x1024 .f32) (z : Fin 1) (b : Fin 1024) :
    k0_pay6 (iblk m c 0 t) (iblk m c 1 t) (iblk m c 2 t) acc (ix2 z b)
      = acc (ix2 z b) + ∑ a : Fin 512, D m c (row t a) b * (X m c (row t a) b * inv cN cE (X m c (row t a))) := by
  pointwise [k0_pay6, k0_pay5, k0_pay4, k0_pay2]
  simp only [blkX, blkU, blkW]
  rfl

/-- The gain's gradient: the sum over the rows. -/
theorem finalG (c : Dev nD) : (dats m 0 c).arrAt 6 cfg0.N = fun i : S1x1024.Idx =>
    ∑ r : Fin 16384, D m c r (i 1) * (X m c r (i 1) * inv cN cE (X m c r)) := by
  refine (dats m 0 c).arrAt_eq_of_after_last 6 tLast (by decide +kernel) _ fun j => ?_
  blk_simp
  rw [after0_6]
  idx_vars j
  refine (Pipeline.eq_sum_fin_of_reset_step_apply_last (fun n h => (outsAt0 m c n h).2) 32 (fun _ => 0)
    (fun t j => ∑ a : Fin 512, D m c (row t a) (j 1) * (X m c (row t a) (j 1) * inv cN cE (X m c (row t a))))
    (fun t h j => ?_) (fun t h j => ?_) (by decide) tLast rfl _).trans ?_
  · rw [outsAt0_A m c t h]
    frame_out
    idx_vars j
    rw [pay_dg]
    pointwise [k0_pay3]
  · rw [outsAt0_B m c t h]
    frame_out
    idx_vars j
    rw [pay_dg]
  · rw [zero_add]
    exact Fin.sum_mul_add_congr fun s k hl => rfl

end Cert.MatNormIdeal.Value

end
-- ==== Proof.MatNormTie.lean ====
/-
  The product of the MLP's upper gradient fused with the norm's gradient: the reference's two results, read at an entry.
-/
module

public import proofs.«01_k».proof.Proof.MatNormValue
public import proofs.«01_k».proof.Proof.Gen.MatNormRefIdeal.Read
public import Idealize.ShloMosaic.Lib.Pipeline.ValueKit

@[expose] public section

noncomputable section

namespace Cert.MatNormRefIdeal.Tie

open Cert.MatNormRefIdeal Cert.MatNormRefIdeal.Read Cert.NormGrad Idealize.ShloMosaic Idealize.ShloMosaic.TcCoe Idealize.SL.Sem

open Cert.MatNormIdeal.Value (cN cE)

variable (x0 : (⟨S16384x1024, .f32⟩ : BufTy).Contents (Elt Ideal)) (x1 : (⟨S1024, .f32⟩ : BufTy).Contents (Elt Ideal)) (x2 : (⟨S1024x4096, .f32⟩ : BufTy).Contents (Elt Ideal)) (x3 : (⟨S16384x4096, .f32⟩ : BufTy).Contents (Elt Ideal)) (x4 : (⟨S16384x1024, .f32⟩ : BufTy).Contents (Elt Ideal))

/-- The normed row's cotangent: the product with the transposed weight. -/
abbrev dn (a : Fin 16384) (b : Fin 1024) : EReal := ∑ k : Fin 4096, x3 (ix2 a k) * x2 (ix2 b k)

theorem read_dx (a : Fin 16384) (b : Fin 1024) : val_main_v38 (F := Ideal) x0 x1 x2 x3 x4 (ix2 a b)
    = gradDx cN cE (Ideal.ofBits FTy.f32 0xBF000000#32) (fun k => x0 (ix2 a k)) (fun k => x1 (ix1 k)) (dn x2 x3 a) b + x4 (ix2 a b) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.univ_unique, Finset.sum_const, Finset.card_singleton, one_smul]
  have sw (p q r s : EReal) : p + q + r + s = q + r + s + p := by abel
  rw [sw]
  rfl

theorem read_dg (z : Fin 1) (b : Fin 1024) : val_main_v39 (F := Ideal) x0 x2 x3 (ix2 z b)
    = ∑ r : Fin 16384, x0 (ix2 r b) * inv cN cE (fun k => x0 (ix2 r k)) * dn x2 x3 r b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.univ_unique, Finset.sum_const, Finset.card_singleton, one_smul]
  rfl

end Cert.MatNormRefIdeal.Tie

end
-- ==== Proof.MatNormClaim.lean ====
/-
  The upper product with the norm's gradient: on finite arguments the kernel's two results are the derivative of the forward lines.
-/
module

public import proofs.«01_k».proof.Defs
public import proofs.«01_k».proof.Proof.MatNormValue
public import proofs.«01_k».proof.Proof.MatNormTie
public import proofs.«01_k».proof.Proof.Gen.Pre_finite_matnorm

@[expose] public section

noncomputable section

namespace Cert.MatNormClaim

open Cert.NormGrad Idealize.ShloMosaic Idealize.ShloMosaic.TcCoe Idealize.SL.Sem
open Cert.MatNormIdeal.Value (X D G U W H cN cE)
open Cert.MatNormRefIdeal.Tie (read_dx read_dg)

variable {m : (ℓ : Loc Cert.MatNormIdeal.nD Cert.MatNormIdeal.τ Cert.MatNormIdeal.sig) → Buf (Elt Ideal) ℓ}

/-- What the precondition says of the arguments. -/
theorem fin (h : Cert.Pre_MatNormIdeal_finite_matnorm m) (c : Dev Cert.MatNormIdeal.nD) :
    (∀ r k, Fin' (X m c r k)) ∧ (∀ k, Fin' (G m c k)) ∧ (∀ b k, Fin' (W m c b k)) ∧ ∀ r k, Fin' (U m c r k) := by
  obtain ⟨h0, h1, h2, h3, -⟩ := h c
  refine ⟨fun r k => fin_of_bit ?_, fun k => fin_of_bit ?_, fun r k => fin_of_bit ?_, fun r k => fin_of_bit ?_⟩
  · have := congrFun h0 (ix2 r k)
    pointwise [Cert.Pre_finite_matnorm.fn] at this
    exact this
  · have := congrFun h1 (ix1 k)
    pointwise [Cert.Pre_finite_matnorm.fn] at this
    exact this
  · have := congrFun h2 (ix2 r k)
    pointwise [Cert.Pre_finite_matnorm.fn] at this
    exact this
  · have := congrFun h3 (ix2 r k)
    pointwise [Cert.Pre_finite_matnorm.fn] at this
    exact this

theorem claim : Cert.algebraic_MatNormIdeal_MatNormRefIdeal_pre_finite_matnorm := by
  intro m g m' g' hp ha
  refine ⟨fun c => (Cert.MatNormIdeal.Gen.dats m 0 c).arrAt 5 Cert.MatNormIdeal.cfg0.N, fun c => (Cert.MatNormIdeal.Gen.dats m 0 c).arrAt 6 Cert.MatNormIdeal.cfg0.N, ?_, ?_⟩
  · run_from (Cert.MatNormIdeal.Value.run_blocks m g)
  · refine (θ_run Cert.MatNormRefIdeal.defs _ _).mono (fun r h c => ?_) (Cert.MatNormRefIdeal.Value.run (F := Ideal) m' g')
    obtain ⟨h0, h1, hk⟩ := h c
    obtain ⟨a0, a1, a2, a3, a4⟩ := ha c
    obtain ⟨hx, hg, hw, hu⟩ := fin hp c
    refine ⟨h0.trans ?_, h1.trans ?_, hk⟩
    all_goals beta_reduce
    · rw [Cert.MatNormRefIdeal.Read.val_main_v38_eq, Cert.MatNormIdeal.Value.finalX, a0, a1, a2, a3, a4]
      funext j
      idx_vars j
      refine (read_dx _ _ _ _ _ _ _).trans ?_
      have hd : ∀ r k, Fin' (D m c r k) := fun r k => by
        choose u hu using hu r
        choose w hw using hw k
        exact ⟨∑ i, u i * w i, by simp only [D, hu, hw, ← EReal.coe_mul, ← coe_sum]⟩
      obtain ⟨e, he0, he⟩ := cEps
      rw [show cN = ((1024 : ℝ) : EReal) from c1024, show cE = (e : EReal) from he, cNegHalf]
      exact congrArg (· + H m c _ _) (kernelDx_eq (by norm_num) he0 (hx _) hg (hd _) _).symm
    · rw [Cert.MatNormRefIdeal.Read.val_main_v39_eq, Cert.MatNormIdeal.Value.finalG, a0, a2, a3]
      funext j
      idx_vars j
      exact (read_dg _ _ _ _ _).trans (Finset.sum_congr rfl fun r _ => mul_comm _ _)

end Cert.MatNormClaim

end
-- ==== Proof.ReluValue.lean ====
/-
  The lower product fused with the squared rectifier's gradient: what the kernel's result array ends holding.
-/
module

public import proofs.«01_k».proof.Proof.Gen.ReluIdeal.Value
public import Idealize.ShloMosaic.Lib.Pipeline.ValueKit

@[expose] public section

noncomputable section

namespace Cert.ReluIdeal.Value

open Cert.ReluIdeal Cert.ReluIdeal.Gen Idealize.ShloMosaic Idealize.ShloMosaic.TcCoe Idealize.SL.Sem
open Idealize.ShloMosaic.Pipeline (Dat)

variable (m : (ℓ : Loc nD τ sig) → Buf (Elt Ideal) ℓ)

/-- The normed rows, the two weights and the cotangent, by entries. -/
abbrev XN (c : Dev nD) (i : Fin 16384) : Fin 1024 → EReal := fun k => m ((c : Thread nD τ).loc main_arg0) (ix2 i k)
abbrev WU (c : Dev nD) (k : Fin 1024) : Fin 4096 → EReal := fun j => m ((c : Thread nD τ).loc main_arg1) (ix2 k j)
abbrev WD (c : Dev nD) (j : Fin 4096) : Fin 1024 → EReal := fun k => m ((c : Thread nD τ).loc main_arg2) (ix2 j k)
abbrev DH (c : Dev nD) (i : Fin 16384) : Fin 1024 → EReal := fun k => m ((c : Thread nD τ).loc main_arg3) (ix2 i k)

/-- The pre-activation and the cotangent of the squared rectifier at an entry. -/
abbrev pre (c : Dev nD) (i : Fin 16384) (j : Fin 4096) : EReal := ∑ k, XN m c i k * WU m c k j
abbrev cot (c : Dev nD) (i : Fin 16384) (j : Fin 4096) : EReal := ∑ k, DH m c i k * WD m c j k

/-- Points run over the row blocks, and within each over the column blocks. -/
theorem idx (t : Fin cfg0.N) : win0_0.index t = ![t.val / 8, 0] ∧ win0_1.index t = ![t.val % 8, 0]
    ∧ win0_2.index t = ![t.val / 8, t.val % 8] ∧ win0_3.index t = ![t.val / 8, t.val % 8] := by
  revert t
  decide +kernel

abbrev row (t : Fin cfg0.N) (a : Fin 2048) : Fin 16384 :=
  ⟨t.val / 8 * 2048 + a.val, by have := t.isLt; have := a.isLt; have : cfg0.N = 64 := N_0; omega⟩
abbrev col (t : Fin cfg0.N) (b : Fin 512) : Fin 4096 := ⟨t.val % 8 * 512 + b.val, by have := b.isLt; omega⟩

theorem blkD (c : Dev nD) (t : Fin cfg0.N) (a : Fin 2048) (b : Fin 1024) : iblk m c 0 t (ix2 a b) = DH m c (row t a) b := by
  blk_ext [iblk, V, idx t]

theorem blkW (c : Dev nD) (t : Fin cfg0.N) (a : Fin 512) (b : Fin 1024) : iblk m c 1 t (ix2 a b) = WD m c (col t a) b := by
  blk_simp [iblk, idx t]
  entry_read
  pointwise
  blk_ext [iblk, V, idx t]

theorem blkS (c : Dev nD) (t : Fin cfg0.N) (a : Fin 2048) (b : Fin 512) :
    iblk m c 2 t (ix2 a b) = Ideal.ofBits FTy.f32 0x40000000#32 * max (pre m c (row t a) (col t b)) 0 := by
  have hrow : ((View.whole main_v5).slice (win0_2.rect t)).emb (ix2 a b) = ix2 (row t a) (col t b) := by
    blk_ext [idx t]
  blk_simp [iblk, idx t]
  entry_read
  erw [hrow]
  pointwise

theorem pay (c : Dev nD) (t : Fin cfg0.N) (a : Fin 2048) (b : Fin 512) :
    k0_pay1 (iblk m c 0 t) (iblk m c 1 t) (iblk m c 2 t) (ix2 a b)
      = cot m c (row t a) (col t b) * (Ideal.ofBits FTy.f32 0x40000000#32 * max (pre m c (row t a) (col t b)) 0) := by
  pointwise [k0_pay1]
  simp only [blkD, blkW, blkS]

theorem final (c : Dev nD) : (dats m 0 c).arrAt 3 cfg0.N
    = fun i : S16384x4096.Idx => cot m c (i 0) (i 1) * (Ideal.ofBits FTy.f32 0x40000000#32 * max (pre m c (i 0) (i 1)) 0) := by
  refine (dats m 0 c).arrAt_eq_of_covers 3 _ (by decide +kernel) fun t hf y => ?_
  have hrow : ∀ (a : Fin 2048) (b : Fin 512), ((View.whole main_v7).slice (win0_3.rect t)).emb (ix2 a b) = ix2 (row t a) (col t b) := fun a b => by
    blk_ext [idx t]
  blk_simp
  rw [after0_3]
  frame_out
  idx_vars y
  rw [pay]
  erw [hrow]
  rfl

end Cert.ReluIdeal.Value

end
-- ==== Proof.ReluTie.lean ====
/-
  The squared rectifier's gradient: the reference's result at an entry, and the step from its form to the kernel's.
-/
module

public import proofs.«01_k».proof.Proof.Gen.ReluRefIdeal.Read
public import proofs.«01_k».proof.Proof.NormGrad
public import Idealize.ShloMosaic.Lib.Pipeline.ValueKit

@[expose] public section

noncomputable section

namespace Cert.ReluRefIdeal.Tie

open Cert.ReluRefIdeal Cert.ReluRefIdeal.Read Idealize.ShloMosaic Idealize.ShloMosaic.TcCoe Idealize.SL.Sem

variable (x0 : (⟨S16384x1024, .f32⟩ : BufTy).Contents (Elt Ideal)) (x1 : (⟨S1024x4096, .f32⟩ : BufTy).Contents (Elt Ideal)) (x2 : (⟨S4096x1024, .f32⟩ : BufTy).Contents (Elt Ideal)) (x3 : (⟨S16384x1024, .f32⟩ : BufTy).Contents (Elt Ideal))

/-- The pre-activation and the cotangent of the squared rectifier at an entry. -/
abbrev pre (a : Fin 16384) (b : Fin 4096) : EReal := ∑ k : Fin 1024, x0 (ix2 a k) * x1 (ix2 k b)
abbrev cot (a : Fin 16384) (b : Fin 4096) : EReal := ∑ k : Fin 1024, x3 (ix2 a k) * x2 (ix2 b k)

/-- Twice the rectified value times the cotangent is the derivative of the square, at every extended real. -/
theorem slope (u q : EReal) : (if 0 < u then max u 0 * q + q * max u 0 else 0) = q * (Ideal.ofBits FTy.f32 0x40000000#32 * max u 0) := by
  have h2 : Ideal.ofBits FTy.f32 0x40000000#32 = ((2 : ℕ) : EReal) := Cert.NormGrad.cTwo.trans rfl
  split_ifs with h
  · rw [h2, mul_left_comm, ← EReal.nsmul_eq_mul, two_nsmul, mul_comm (max u 0) q]
  · rw [max_eq_right (not_lt.mp h), mul_zero, mul_zero]

theorem read (a : Fin 16384) (b : Fin 4096) : val_main_v13 (F := Ideal) x0 x1 x2 x3 (ix2 a b)
    = if 0 < pre x0 x1 a b then max (pre x0 x1 a b) 0 * cot x2 x3 a b + cot x2 x3 a b * max (pre x0 x1 a b) 0 else 0 := by
  pointwise [val_main_v0, val_main_call0_cst, val_main_call0_v0, val_main_v1, val_main_cst, val_main_v2, val_main_v3, val_main_cst_0, val_main_v4, val_main_v5, val_main_v6, val_main_v7, val_main_v8, val_main_v9, val_main_v10, val_main_cst_1, val_main_v11, val_main_v12, val_main_v13]

end Cert.ReluRefIdeal.Tie

end
-- ==== Proof.ReluClaim.lean ====
/-
  The squared rectifier's gradient: the kernel's product and the derivative of the forward lines end at one array, on all arguments.
-/
module

public import proofs.«01_k».proof.Defs
public import proofs.«01_k».proof.Proof.ReluValue
public import proofs.«01_k».proof.Proof.ReluTie

@[expose] public section

noncomputable section

namespace Cert.ReluClaim

open Idealize.ShloMosaic Idealize.ShloMosaic.TcCoe Idealize.SL.Sem

theorem claim : Cert.algebraic_ReluIdeal_ReluRefIdeal := by
  intro m g m' g' _ ha
  refine ⟨fun c => (Cert.ReluIdeal.Gen.dats m 0 c).arrAt 3 Cert.ReluIdeal.cfg0.N, ?_, ?_⟩
  · run_from (Cert.ReluIdeal.Value.run_blocks m g)
  · refine (θ_run Cert.ReluRefIdeal.defs _ _).mono (fun r h c => ?_) (Cert.ReluRefIdeal.Value.run (F := Ideal) m' g')
    obtain ⟨h0, hk⟩ := h c
    obtain ⟨a0, a1, a2, a3⟩ := ha c
    refine ⟨h0.trans ?_, hk⟩
    beta_reduce
    rw [Cert.ReluRefIdeal.Read.val_main_v13_eq, Cert.ReluIdeal.Value.final, a0, a1, a2, a3]
    funext j
    idx_vars j
    exact (Cert.ReluRefIdeal.Tie.read _ _ _ _ _ _).trans (Cert.ReluRefIdeal.Tie.slope _ _)

end Cert.ReluClaim

end
-- ==== Proof.Pieces.lean ====
/-
  Stores over a fill: where the later stores cover an index, what they leave there does not depend on the fill.
-/
module

public import Idealize.ShloMosaic.Lib.Pipeline.ValueKit
public import Idealize.ShloMosaic.Lib.Pipeline.ReadBack

@[expose] public section

noncomputable section

namespace Cert.Pieces

open Idealize.ShloMosaic

variable {s : Shape} {e : EltTy} {Val : EltTy → Type} [∀ e, Nonempty (Val e)]

/-- Later stores that cover an index hide the earlier ones there. -/
theorem canon_over (L' : List (View.Piece Val s e)) (y : s.Idx) : ∀ L : List (View.Piece Val s e), (∃ p ∈ L, y ∈ p.1.set) →
    View.canon (L ++ L') y = View.canon L y
  | [], h => by
    obtain ⟨_, hm, _⟩ := h
    exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_over L' y L ?_
      obtain ⟨p', hm, hy'⟩ := h
      rcases List.mem_cons.mp hm with rfl | hm
      · exact absurd hy' hy
      · exact ⟨p', hm, hy'⟩

/-- Of two padded arrays added up, the one an index lies in. -/
theorem pick_left {P Q : Prop} [Decidable P] [Decidable Q] (f : P → EReal) (g : Q → EReal) (hP : P) (hQ : ¬ Q) :
    (if h : P then f h else 0) + (if h : Q then g h else 0) = f hP := by
  rw [dif_pos hP, dif_neg hQ, add_zero]

theorem pick_right {P Q : Prop} [Decidable P] [Decidable Q] (f : P → EReal) (g : Q → EReal) (hP : ¬ P) (hQ : Q) :
    (if h : P then f h else 0) + (if h : Q then g h else 0) = g hQ := by
  rw [dif_neg hP, dif_pos hQ, zero_add]

end Cert.Pieces

end
-- ==== Proof.QProjValue.lean ====
/-
  The query projection's backward: what its two result arrays end holding, at the exact reals: the latent's cotangent and the weights' gradient, of the cotangent with
  the rotation taken back.
-/
module

public import proofs.«01_k».proof.Proof.Gen.QProjIdeal.Value
public import proofs.«01_k».proof.Proof.Gen.QProjRefIdeal.Read
public import Idealize.ShloMosaic.Lib.Pipeline.ValueKit
public import proofs.«01_k».proof.Proof.Pieces

@[expose] public section

noncomputable section

namespace Cert.QProjIdeal.Value

open Cert.QProjIdeal Cert.QProjIdeal.Gen Idealize.ShloMosaic Idealize.ShloMosaic.TcCoe Idealize.SL.Sem
open Idealize.ShloMosaic.Pipeline (Dat)

variable (m : (ℓ : Loc nD τ sig) → Buf (Elt Ideal) ℓ)

/-- The queries' cotangent tiles, the latent rows, the weights and the two tables, as a point finds them. -/
abbrev bG (c : Dev nD) (t : Fin cfg0.N) : FVec Ideal S8x1x96x512 .f32 := iblk m c 0 t
abbrev bX (c : Dev nD) (t : Fin cfg0.N) : FVec Ideal S512x384 .bf16 := iblk m c 1 t
abbrev bW (c : Dev nD) (t : Fin cfg0.N) : FVec Ideal S8x96x384 .bf16 := iblk m c 2 t
abbrev bC (c : Dev nD) (t : Fin cfg0.N) : FVec Ideal S1x16x512 .f32 := iblk m c 3 t
abbrev bS (c : Dev nD) (t : Fin cfg0.N) : FVec Ideal S1x16x512 .f32 := iblk m c 4 t

/-- The window's block indices: the tiles and tables follow the point, the weights and their gradient stay. -/
theorem idx (t : Fin cfg0.N) : win0_0.index t = ![0, t.val, 0, 0] ∧ win0_1.index t = ![t.val, 0] ∧ win0_2.index t = ![0, 0, 0]
    ∧ win0_3.index t = ![t.val, 0, 0] ∧ win0_4.index t = ![t.val, 0, 0] ∧ win0_5.index t = ![t.val, 0] := by
  revert t
  decide +kernel

/-- The rotation taken back: the rotary half of a query's cotangent, turned by the tables. -/
def turn (g : Fin 96 → EReal) (co si : Fin 16 → EReal) (e : Fin 96) : EReal :=
  if h : e.val < 64 then g e
  else if h' : e.val - 64 < 16 then g ⟨64 + (e.val - 64), by omega⟩ * co ⟨e.val - 64, h'⟩ + g ⟨80 + (e.val - 64), by omega⟩ * si ⟨e.val - 64, h'⟩
  else g ⟨80 + (e.val - 64 - 16), by omega⟩ * co ⟨e.val - 64 - 16, by omega⟩ - g ⟨64 + (e.val - 64 - 16), by omega⟩ * si ⟨e.val - 64 - 16, by omega⟩

/-- A point's cotangent before the rotation. -/
def tile (c : Dev nD) (t : Fin cfg0.N) (h : Fin 8) (e : Fin 96) (a : Fin 512) : EReal :=
  turn (fun d => bG m c t (ix4 h 0 d a)) (fun d => bC m c t (ix3 0 d a)) (fun d => bS m c t (ix3 0 d a)) e

theorem out5 (c : Dev nD) (t : Fin cfg0.N) (y : S512x384.Idx) : (outsAt0 m c t.val t.isLt).1 y
    = ∑ h : Fin 8, ∑ e : Fin 96, tile m c t h e (y 0) * bW m c t (ix3 h e (y 1)) := by
  by_cases h0 : t.val % 32 = 0
  on_goal 1 => rw [outsAt0_A m c t h0]
  on_goal 2 => rw [outsAt0_B m c t h0]
  all_goals
    frame_out
    idx_vars y
    rw [Fin.sum_univ_eight]
    unfold tile turn
    open_payloads
    pointwise

/-- A point's addend to the weights' gradient. -/
def addW (c : Dev nD) (t : Fin cfg0.N) (h : Fin 8) (e : Fin 96) (k : Fin 384) : EReal := ∑ a : Fin 512, tile m c t h e a * bX m c t (ix2 a k)

set_option maxHeartbeats 2000000 in
theorem out6_step (c : Dev nD) (t : Fin cfg0.N) (h0 : ¬ t.val % 32 = 0) (y : S8x96x384.Idx) : (outsAt0 m c t.val t.isLt).2 y
   = (outsAt0 m c (t.val-1) (Nat.lt_of_le_of_lt (Nat.sub_le _ _) t.isLt)).2 y + addW m c t (y 0) (y 1) (y 2) := by
  rw [outsAt0_B m c t h0]
  frame_out
  generalize (outsAt0 m c (t.val - 1) (Nat.lt_of_le_of_lt (Nat.sub_le _ _) t.isLt)).2 = A
  idx_vars y
  canon_tiles x h
  all_goals
    open_payloads
    pointwise
    obtain rfl : y1 = x 1 := Fin.ext h1
    obtain rfl : y2 = x 2 := Fin.ext h2
    replace h0 : y0.val = _ := h0
    exact congrArg (fun z : Fin 8 => (A (ix3 z (x 1) (x 2)) + addW m c t z (x 1) (x 2) : EReal)) (Fin.ext (by rw [h0, show (x 0).val = 0 from by omega]; rfl))

set_option maxHeartbeats 2000000 in
theorem out6_first (c : Dev nD) (t : Fin cfg0.N) (h0 : t.val % 32 = 0) (y : S8x96x384.Idx) : (outsAt0 m c t.val t.isLt).2 y = addW m c t (y 0) (y 1) (y 2) := by
  rw [outsAt0_A m c t h0]
  frame_out
  simp (discharger := decide) only [↓ View.readCov_skip, ↓ View.readCov_fill]
  refine (Cert.Pieces.canon_over [_] y [_, _, _, _, _, _, _, _] (View.cover_of_tiled _ ![1, 96, 384] (by rfl) y)).trans ?_
  idx_vars y
  canon_tiles x h
  all_goals
    open_payloads
    pointwise [k0_pay2]
    obtain rfl : y1 = x 1 := Fin.ext h1
    obtain rfl : y2 = x 2 := Fin.ext h2
    replace h0 : y0.val = _ := h0
    exact congrArg (fun z : Fin 8 => addW m c t z (x 1) (x 2)) (Fin.ext (by rw [h0, show (x 0).val = 0 from by omega]; rfl))

/-- The cotangent's entry, the latent's and the weights', of the arguments; the rotary angle. -/
abbrev G (c : Dev nD) (r : Fin 16384) (h : Fin 8) (e : Fin 96) : EReal := m ((c : Thread nD τ).loc main_arg2) (ix3 r h e)
abbrev X (c : Dev nD) (r : Fin 16384) (k : Fin 384) : EReal := m ((c : Thread nD τ).loc main_arg0) (ix2 r k)
abbrev W (c : Dev nD) (h : Fin 8) (e : Fin 96) (k : Fin 384) : EReal := m ((c : Thread nD τ).loc main_arg1) (ix2 k ⟨h.val * 96 + e.val, by omega⟩)

/-- Row `a` of block `t`. -/
abbrev row (t : Fin cfg0.N) (a : Fin 512) : Fin 16384 :=
  ⟨t.val * 512 + a.val, by have := t.isLt; have := a.isLt; have : cfg0.N = 32 := N_0; omega⟩

theorem blk0 (c : Dev nD) (t : Fin cfg0.N) (h : Fin 8) (e : Fin 96) (a : Fin 512) : bG m c t (ix4 h 0 e a) = G m c (row t a) h e := by
  blk_simp [bG, iblk, idx t]
  entry_read
  pointwise
  blk_ext [iblk, V, idx t]

theorem blk1 (c : Dev nD) (t : Fin cfg0.N) (a : Fin 512) (k : Fin 384) : bX m c t (ix2 a k) = X m c (row t a) k := by
  blk_simp [bX, iblk, idx t]
  entry_read
  pointwise
  blk_ext [iblk, V, idx t]

theorem blk2 (c : Dev nD) (t : Fin cfg0.N) (h : Fin 8) (e : Fin 96) (k : Fin 384) : bW m c t (ix3 h e k) = W m c h e k := by
  blk_simp [bW, iblk, idx t]
  entry_read
  pointwise
  blk_ext [iblk, V, idx t]

/-- A position's rotary angle: the reference's. -/
abbrev angle (r : Fin 16384) (d : Fin 16) : EReal := Cert.QProjRefIdeal.Read.val_main_v19 (F := Ideal) (ix2 r d)

theorem blk3 (c : Dev nD) (t : Fin cfg0.N) (d : Fin 16) (a : Fin 512) : bC m c t (ix3 0 d a) = Ideal.cos (angle (row t a) d) := by
  have hi : ((View.whole main_v25).slice (win0_3.rect t)).emb (ix3 0 d a) = ix3 ⟨t.val, lt_of_lt_of_eq t.isLt N_0⟩ d a := by
    blk_ext [idx t]
  blk_simp [bC, iblk, idx t]
  erw [hi]
  entry_read
  unfold angle
  pointwise [Cert.QProjRefIdeal.Read.val_main_v4, Cert.QProjRefIdeal.Read.val_main_cst, Cert.QProjRefIdeal.Read.val_main_v5, Cert.QProjRefIdeal.Read.val_main_v6, Cert.QProjRefIdeal.Read.val_main_cst_0, Cert.QProjRefIdeal.Read.val_main_v7, Cert.QProjRefIdeal.Read.val_main_v8, Cert.QProjRefIdeal.Read.val_main_v9, Cert.QProjRefIdeal.Read.val_main_cst_1, Cert.QProjRefIdeal.Read.val_main_v10, Cert.QProjRefIdeal.Read.val_main_v11, Cert.QProjRefIdeal.Read.val_main_cst_2, Cert.QProjRefIdeal.Read.val_main_v12, Cert.QProjRefIdeal.Read.val_main_v13, Cert.QProjRefIdeal.Read.val_main_v14, Cert.QProjRefIdeal.Read.val_main_v15, Cert.QProjRefIdeal.Read.val_main_v16, Cert.QProjRefIdeal.Read.val_main_v17, Cert.QProjRefIdeal.Read.val_main_v18, Cert.QProjRefIdeal.Read.val_main_v19]

theorem blk4 (c : Dev nD) (t : Fin cfg0.N) (d : Fin 16) (a : Fin 512) : bS m c t (ix3 0 d a) = Ideal.sin (angle (row t a) d) := by
  have hi : ((View.whole main_v27).slice (win0_4.rect t)).emb (ix3 0 d a) = ix3 ⟨t.val, lt_of_lt_of_eq t.isLt N_0⟩ d a := by
    blk_ext [idx t]
  blk_simp [bS, iblk, idx t]
  erw [hi]
  entry_read
  unfold angle
  pointwise [Cert.QProjRefIdeal.Read.val_main_v4, Cert.QProjRefIdeal.Read.val_main_cst, Cert.QProjRefIdeal.Read.val_main_v5, Cert.QProjRefIdeal.Read.val_main_v6, Cert.QProjRefIdeal.Read.val_main_cst_0, Cert.QProjRefIdeal.Read.val_main_v7, Cert.QProjRefIdeal.Read.val_main_v8, Cert.QProjRefIdeal.Read.val_main_v9, Cert.QProjRefIdeal.Read.val_main_cst_1, Cert.QProjRefIdeal.Read.val_main_v10, Cert.QProjRefIdeal.Read.val_main_v11, Cert.QProjRefIdeal.Read.val_main_cst_2, Cert.QProjRefIdeal.Read.val_main_v12, Cert.QProjRefIdeal.Read.val_main_v13, Cert.QProjRefIdeal.Read.val_main_v14, Cert.QProjRefIdeal.Read.val_main_v15, Cert.QProjRefIdeal.Read.val_main_v16, Cert.QProjRefIdeal.Read.val_main_v17, Cert.QProjRefIdeal.Read.val_main_v18, Cert.QProjRefIdeal.Read.val_main_v19]

/-- A query's cotangent before the rotation. -/
def GQ (c : Dev nD) (r : Fin 16384) (h : Fin 8) (e : Fin 96) : EReal := turn (fun d => G m c r h d) (fun d => Ideal.cos (angle r d)) (fun d => Ideal.sin (angle r d)) e

theorem tile_eq (c : Dev nD) (t : Fin cfg0.N) (h : Fin 8) (e : Fin 96) (a : Fin 512) : tile m c t h e a = GQ m c (row t a) h e := by
  unfold tile GQ
  simp only [blk0, blk3, blk4]

/-- The latent's cotangent. -/
def dX (c : Dev nD) (r : Fin 16384) (k : Fin 384) : EReal := ∑ h : Fin 8, ∑ e : Fin 96, GQ m c r h e * W m c h e k

theorem final5 (c : Dev nD) : (dats m 0 c).arrAt 5 cfg0.N = fun i : S16384x384.Idx => dX m c (i 0) (i 1) := by
  refine (dats m 0 c).arrAt_eq_of_covers 5 _ (by decide +kernel) fun t hf y => ?_
  have hrow : ∀ (a : Fin 512) (k : Fin 384), ((View.whole main_v28_0).slice (win0_5.rect t)).emb (ix2 a k) = ix2 (row t a) k := fun a k => by
    blk_ext [idx t]
  blk_simp
  rw [after0_5, out5]
  idx_vars y
  simp only [tile_eq, blk2]
  erw [hrow]
  rfl

/-- The last point. -/
def tLast : Fin cfg0.N := ⟨31, by rw [show cfg0.N = 32 from N_0]; decide⟩

/-- The weights' gradient: the sum over the rows. -/
theorem final6 (c : Dev nD) : (dats m 0 c).arrAt 6 cfg0.N = fun i : S8x96x384.Idx => ∑ r : Fin 16384, GQ m c r (i 0) (i 1) * X m c r (i 2) := by
  refine (dats m 0 c).arrAt_eq_of_after_last 6 tLast (by decide +kernel) _ fun j => ?_
  blk_simp
  rw [after0_6]
  refine (Pipeline.eq_sum_fin_of_reset_step_apply_last (fun n h => (outsAt0 m c n h).2) 32 (fun _ => 0)
    (fun t i => ∑ a : Fin 512, GQ m c (row t a) (i 0) (i 1) * X m c (row t a) (i 2))
    (fun t h j => ?_) (fun t h j => ?_) (by decide) tLast rfl _).trans ?_
  · rw [out6_first m c t h]
    idx_vars j
    unfold addW
    simp only [tile_eq, blk1]
    exact (zero_add _).symm
  · rw [out6_step m c t h]
    idx_vars j
    unfold addW
    simp only [tile_eq, blk1]
  · rw [zero_add]
    exact Fin.sum_mul_add_congr fun s k hl => rfl

end Cert.QProjIdeal.Value

end
-- ==== Proof.QProjTie.lean ====
/-
  The query projection's backward: the reference's two results, entry by entry, are the sums the kernel leaves.
-/
module

public import proofs.«01_k».proof.Proof.Gen.QProjRefIdeal.Read
public import Idealize.ShloMosaic.Lib.Pipeline.ValueKit
public import proofs.«01_k».proof.Proof.Pieces

@[expose] public section

noncomputable section

namespace Cert.QProjRefIdeal.Tie

open Cert.QProjRefIdeal Cert.QProjRefIdeal.Read Idealize.ShloMosaic Idealize.ShloMosaic.TcCoe Idealize.SL.Sem

variable (x0 : (⟨S16384x384, .f32⟩ : BufTy).Contents (Elt Ideal)) (x1 : (⟨S384x768, .f32⟩ : BufTy).Contents (Elt Ideal))
  (x2 : (⟨S16384x8x96, .f32⟩ : BufTy).Contents (Elt Ideal))

abbrev col (h : Fin 8) (e : Fin 96) : Fin 768 := ⟨h.val * 96 + e.val, by omega⟩

/-- A position's rotary angle. -/
abbrev ang (r : Fin 16384) (d : Fin 16) : EReal := val_main_v19 (F := Ideal) (ix2 r d)

/-- The cotangent before the rotation: untouched, and the rotary half's two quarters. -/
theorem v61_nope (r : Fin 16384) (h : Fin 8) (d : Fin 64) : val_main_v61 (F := Ideal) x2 (ix2 r (col h ⟨d.val, by omega⟩)) = x2 (ix3 r h ⟨d.val, by omega⟩) := by
  pointwise [val_main_v39, val_main_v40, val_main_cst_5, val_main_v58, val_main_cst_6, val_main_v59, val_main_v60, val_main_v61]
  refine (Cert.Pieces.pick_right _ _ (by omega) (by omega)).trans ?_
  blk_ext

theorem v54_at (r : Fin 16384) (h : Fin 8) (d : Fin 16) : val_main_v54 (F := Ideal) x2 (ix4 0 r h d)
    = x2 (ix3 r h ⟨80 + d.val, by omega⟩) * Ideal.sin (ang r d) + x2 (ix3 r h ⟨64 + d.val, by omega⟩) * Ideal.cos (ang r d) := by
  pointwise [val_main_v39, val_main_v41, val_main_v42, val_main_v43, val_main_v20, val_main_v21, val_main_v22, val_main_v23, val_main_v46, val_main_v47,
    val_main_v52, val_main_v53, val_main_v54]
  simp only [show 64 + (16 + d.val) = 80 + d.val from by omega]

theorem v51_at (r : Fin 16384) (h : Fin 8) (d : Fin 16) : val_main_v51 (F := Ideal) x2 (ix4 0 r h d)
    = x2 (ix3 r h ⟨80 + d.val, by omega⟩) * Ideal.cos (ang r d) + (- x2 (ix3 r h ⟨64 + d.val, by omega⟩)) * Ideal.sin (ang r d) := by
  pointwise [val_main_v39, val_main_v41, val_main_v42, val_main_v43, val_main_v20, val_main_v21, val_main_v22, val_main_v23, val_main_v44, val_main_v45,
    val_main_v48, val_main_v49, val_main_v50, val_main_v51]
  simp only [show 64 + (16 + d.val) = 80 + d.val from by omega]

theorem v57_first (r : Fin 16384) (h : Fin 8) (d : Fin 16) : val_main_v57 (F := Ideal) x2 (ix4 0 r h ⟨d.val, by omega⟩) = val_main_v54 (F := Ideal) x2 (ix4 0 r h d) := by
  pointwise [val_main_cst_3, val_main_v55, val_main_cst_4, val_main_v56, val_main_v57]
  exact (congrArg (· + _) (dif_neg (fun h => h.1))).trans (zero_add _)

theorem v57_second (r : Fin 16384) (h : Fin 8) (d : Fin 16) : val_main_v57 (F := Ideal) x2 (ix4 0 r h ⟨16 + d.val, by omega⟩) = val_main_v51 (F := Ideal) x2 (ix4 0 r h d) := by
  pointwise [val_main_cst_3, val_main_v55, val_main_cst_4, val_main_v56, val_main_v57]

theorem v61_rope (r : Fin 16384) (h : Fin 8) (d : Fin 32) : val_main_v61 (F := Ideal) x2 (ix2 r (col h ⟨64 + d.val, by omega⟩)) = val_main_v57 (F := Ideal) x2 (ix4 0 r h d) := by
  pointwise [val_main_cst_5, val_main_v58, val_main_cst_6, val_main_v59, val_main_v60, val_main_v61]
  refine (Cert.Pieces.pick_left _ _ (by omega) (by omega)).trans ?_
  blk_ext

theorem v66_at (h : Fin 8) (e : Fin 96) (k : Fin 384) : val_main_v66 (F := Ideal) x0 x2 (ix3 h e k)
    = ∑ r : Fin 16384, val_main_v61 (F := Ideal) x2 (ix2 r (col h e)) * x0 (ix2 r k) := by
  pointwise [val_main_v62, val_main_v63, val_main_v65, val_main_v66]
  blk_ext

theorem v64_at (r : Fin 16384) (k : Fin 384) : val_main_v64 (F := Ideal) x1 x2 (ix2 r k)
    = ∑ h : Fin 8, ∑ e : Fin 96, val_main_v61 (F := Ideal) x2 (ix2 r (col h e)) * x1 (ix2 k (col h e)) := by
  refine Eq.trans ?_ (Fin.sum_mul_add_congr (S := 8) (n := 96) (f := fun j => val_main_v61 (F := Ideal) x2 (ix2 r j) * x1 (ix2 k j)) fun s k hl => rfl).symm
  pointwise [val_main_v64]

end Cert.QProjRefIdeal.Tie

end
-- ==== Proof.QProjClaim.lean ====
/-
  The query projection's claim: the kernel's two results are the reference's, whatever the arguments.
-/
module

public import proofs.«01_k».proof.Defs
public import proofs.«01_k».proof.Proof.QProjValue
public import proofs.«01_k».proof.Proof.QProjTie

@[expose] public section

noncomputable section

namespace Cert.QProjClaim

open Idealize.ShloMosaic Idealize.ShloMosaic.TcCoe Idealize.SL.Sem
open Cert.QProjIdeal.Value (final5 final6 dX GQ turn)
open Cert.QProjRefIdeal.Tie (col ang v64_at v66_at v61_nope v61_rope v57_first v57_second v51_at v54_at)

/-- The cotangent before the rotation: the kernel's is the reference's. -/
theorem turned (x2 : (⟨Cert.QProjRefIdeal.S16384x8x96, .f32⟩ : BufTy).Contents (Elt Ideal)) (r : Fin 16384) (h : Fin 8) (e : Fin 96) :
    Cert.QProjRefIdeal.Read.val_main_v61 (F := Ideal) x2 (ix2 r (col h e))
      = turn (fun d => x2 (ix3 r h d)) (fun d => Ideal.cos (ang r d)) (fun d => Ideal.sin (ang r d)) e := by
  unfold turn
  split_ifs with h1 h2
  · exact v61_nope x2 r h ⟨e.val, h1⟩
  · obtain ⟨k, hk, hb, rfl⟩ : ∃ k, k < 16 ∧ ∃ hb : 64 + k < 96, e = ⟨64 + k, hb⟩ := ⟨e.val - 64, h2, by omega, Fin.ext (by show e.val = 64 + (e.val - 64); omega)⟩
    have e0 : 64 + k - 64 = k := by omega
    simp only [e0]
    exact (v61_rope x2 r h ⟨k, by omega⟩).trans ((v57_first x2 r h ⟨k, hk⟩).trans ((v54_at x2 r h ⟨k, hk⟩).trans (add_comm _ _)))
  · obtain ⟨k, hk, hb, rfl⟩ : ∃ k, k < 16 ∧ ∃ hb : 64 + (16 + k) < 96, e = ⟨64 + (16 + k), hb⟩ :=
      ⟨e.val - 64 - 16, by omega, by omega, Fin.ext (by show e.val = 64 + (16 + (e.val - 64 - 16)); omega)⟩
    have e0 : 64 + (16 + k) - 64 - 16 = k := by omega
    simp only [e0]
    refine (v61_rope x2 r h ⟨16 + k, by omega⟩).trans ((v57_second x2 r h ⟨k, hk⟩).trans ((v51_at x2 r h ⟨k, hk⟩).trans ?_))
    rw [sub_eq_add_neg, EReal.neg_mul]

theorem claim : Cert.algebraic_QProjIdeal_QProjRefIdeal := by
  intro m g m' g' _ ha
  refine ⟨fun c => (Cert.QProjIdeal.Gen.dats m 0 c).arrAt 5 Cert.QProjIdeal.cfg0.N, fun c => (Cert.QProjIdeal.Gen.dats m 0 c).arrAt 6 Cert.QProjIdeal.cfg0.N, ?_, ?_⟩
  · run_from (Cert.QProjIdeal.Value.run_blocks m g)
  · refine (θ_run Cert.QProjRefIdeal.defs _ _).mono (fun r h c => ?_) (Cert.QProjRefIdeal.Value.run (F := Ideal) m' g')
    obtain ⟨h0, h1, hk⟩ := h c
    obtain ⟨a0, a1, a2⟩ := ha c
    refine ⟨h0.trans ?_, h1.trans ?_, hk⟩
    all_goals beta_reduce
    · rw [Cert.QProjRefIdeal.Read.val_main_v64_eq, final5, a1, a2]
      funext j
      idx_vars j
      exact (v64_at _ _ _ _).trans (Finset.sum_congr rfl fun h _ => Finset.sum_congr rfl fun e _ => congrArg (· * _) (turned _ _ _ _))
    · rw [Cert.QProjRefIdeal.Read.val_main_v66_eq, final6, a0, a2]
      funext j
      idx_vars j
      exact (v66_at _ _ _ _ _).trans (Finset.sum_congr rfl fun r _ => congrArg (· * _) (turned _ _ _ _))

end Cert.QProjClaim

end
-- ==== Proof.KvProjValue.lean ====
/-
  The keys' and values' projection backward: what its four result arrays end holding, at the exact reals: the latent's cotangent, the two weights' gradients and the
  shared rotary key's cotangent.
-/
module

public import proofs.«01_k».proof.Proof.Gen.KvProjIdeal.Value
public import Idealize.ShloMosaic.Lib.Pipeline.ValueKit
public import proofs.«01_k».proof.Proof.Pieces

@[expose] public section

noncomputable section

namespace Cert.KvProjIdeal.Value

open Cert.KvProjIdeal Cert.KvProjIdeal.Gen Idealize.ShloMosaic Idealize.ShloMosaic.TcCoe Idealize.SL.Sem
open Idealize.ShloMosaic.Pipeline (Dat)

variable (m : (ℓ : Loc nD τ sig) → Buf (Elt Ideal) ℓ)

/-- The keys' and the values' cotangent tiles, the latent rows and the two weights, as a point finds them. -/
abbrev bK (c : Dev nD) (t : Fin cfg0.N) : FVec Ideal S8x1x96x512 .f32 := iblk m c 0 t
abbrev bV (c : Dev nD) (t : Fin cfg0.N) : FVec Ideal S8x1x64x512 .f32 := iblk m c 1 t
abbrev bX (c : Dev nD) (t : Fin cfg0.N) : FVec Ideal S512x256 .bf16 := iblk m c 2 t
abbrev bWk (c : Dev nD) (t : Fin cfg0.N) : FVec Ideal S8x64x256 .bf16 := iblk m c 3 t
abbrev bWv (c : Dev nD) (t : Fin cfg0.N) : FVec Ideal S8x64x256 .bf16 := iblk m c 4 t

/-- The window's block indices: the tiles follow the point, the weights and their gradients stay. -/
theorem idx (t : Fin cfg0.N) : win0_0.index t = ![0, t.val, 0, 0] ∧ win0_1.index t = ![0, t.val, 0, 0] ∧ win0_2.index t = ![t.val, 0]
    ∧ win0_3.index t = ![0, 0, 0] ∧ win0_4.index t = ![0, 0, 0] ∧ win0_5.index t = ![t.val, 0] ∧ win0_8.index t = ![t.val, 0, 0] := by
  revert t
  decide +kernel

/-- The nope and rope entries of a key. -/
abbrev nope (d : Fin 64) : Fin 96 := ⟨d.val, by omega⟩
abbrev pe (d : Fin 32) : Fin 96 := ⟨64 + d.val, by omega⟩

/-- One head's share of the latent's cotangent. -/
def addX (c : Dev nD) (t : Fin cfg0.N) (h : Fin 8) (a : Fin 512) (k : Fin 256) : EReal :=
  ∑ d : Fin 64, bK m c t (ix4 h 0 (nope d) a) * bWk m c t (ix3 h d k) + ∑ d : Fin 64, bV m c t (ix4 h 0 d a) * bWv m c t (ix3 h d k)

theorem out5 (c : Dev nD) (t : Fin cfg0.N) (y : S512x256.Idx) : (outsAt0 m c t.val t.isLt).1 y = ∑ h : Fin 8, addX m c t h (y 0) (y 1) := by
  by_cases h0 : t.val % 32 = 0
  on_goal 1 => rw [outsAt0_A m c t h0]
  on_goal 2 => rw [outsAt0_B m c t h0]
  all_goals
    frame_out
    idx_vars y
    rw [Fin.sum_univ_eight]
    unfold addX
    open_payloads
    pointwise

theorem out8 (c : Dev nD) (t : Fin cfg0.N) (y : S1x32x512.Idx) : (outsAt0 m c t.val t.isLt).2.2.2 y = ∑ h : Fin 8, bK m c t (ix4 h 0 (pe (y 1)) (y 2)) := by
  by_cases h0 : t.val % 32 = 0
  on_goal 1 => rw [outsAt0_A m c t h0]
  on_goal 2 => rw [outsAt0_B m c t h0]
  all_goals
    frame_out
    idx_vars y
    rw [Fin.sum_univ_eight]
    open_payloads
    pointwise

/-- A point's addends to the two weights' gradients. -/
def addK (c : Dev nD) (t : Fin cfg0.N) (h : Fin 8) (d : Fin 64) (k : Fin 256) : EReal := ∑ a : Fin 512, bK m c t (ix4 h 0 (nope d) a) * bX m c t (ix2 a k)
def addV (c : Dev nD) (t : Fin cfg0.N) (h : Fin 8) (d : Fin 64) (k : Fin 256) : EReal := ∑ a : Fin 512, bV m c t (ix4 h 0 d a) * bX m c t (ix2 a k)

theorem out6_step (c : Dev nD) (t : Fin cfg0.N) (h0 : ¬ t.val % 32 = 0) (y : S8x64x256.Idx) : (outsAt0 m c t.val t.isLt).2.1 y
   = (outsAt0 m c (t.val-1) (Nat.lt_of_le_of_lt (Nat.sub_le _ _) t.isLt)).2.1 y + addK m c t (y 0) (y 1) (y 2) := by
  rw [outsAt0_B m c t h0]
  frame_out
  generalize (outsAt0 m c (t.val - 1) (Nat.lt_of_le_of_lt (Nat.sub_le _ _) t.isLt)).2.1 = A
  idx_vars y
  canon_tiles x h
  all_goals
    open_payloads
    pointwise
    obtain rfl : y1 = x 1 := Fin.ext h1
    obtain rfl : y2 = x 2 := Fin.ext h2
    replace h0 : y0.val = _ := h0
    exact congrArg (fun z : Fin 8 => (A (ix3 z (x 1) (x 2)) + addK m c t z (x 1) (x 2) : EReal)) (Fin.ext (by rw [h0, show (x 0).val = 0 from by omega]; rfl))

theorem out6_first (c : Dev nD) (t : Fin cfg0.N) (h0 : t.val % 32 = 0) (y : S8x64x256.Idx) : (outsAt0 m c t.val t.isLt).2.1 y = addK m c t (y 0) (y 1) (y 2) := by
  rw [outsAt0_A m c t h0]
  frame_out
  simp (discharger := decide) only [↓ View.readCov_skip, ↓ View.readCov_fill]
  refine (Cert.Pieces.canon_over [_] y [_, _, _, _, _, _, _, _] (View.cover_of_tiled _ ![1, 64, 256] (by rfl) y)).trans ?_
  idx_vars y
  canon_tiles x h
  all_goals
    open_payloads
    pointwise [k0_pay3]
    obtain rfl : y1 = x 1 := Fin.ext h1
    obtain rfl : y2 = x 2 := Fin.ext h2
    replace h0 : y0.val = _ := h0
    exact congrArg (fun z : Fin 8 => addK m c t z (x 1) (x 2)) (Fin.ext (by rw [h0, show (x 0).val = 0 from by omega]; rfl))

theorem out7_step (c : Dev nD) (t : Fin cfg0.N) (h0 : ¬ t.val % 32 = 0) (y : S8x64x256.Idx) : (outsAt0 m c t.val t.isLt).2.2.1 y
   = (outsAt0 m c (t.val-1) (Nat.lt_of_le_of_lt (Nat.sub_le _ _) t.isLt)).2.2.1 y + addV m c t (y 0) (y 1) (y 2) := by
  rw [outsAt0_B m c t h0]
  frame_out
  generalize (outsAt0 m c (t.val - 1) (Nat.lt_of_le_of_lt (Nat.sub_le _ _) t.isLt)).2.2.1 = A
  idx_vars y
  canon_tiles x h
  all_goals
    open_payloads
    pointwise
    obtain rfl : y1 = x 1 := Fin.ext h1
    obtain rfl : y2 = x 2 := Fin.ext h2
    replace h0 : y0.val = _ := h0
    exact congrArg (fun z : Fin 8 => (A (ix3 z (x 1) (x 2)) + addV m c t z (x 1) (x 2) : EReal)) (Fin.ext (by rw [h0, show (x 0).val = 0 from by omega]; rfl))

theorem out7_first (c : Dev nD) (t : Fin cfg0.N) (h0 : t.val % 32 = 0) (y : S8x64x256.Idx) : (outsAt0 m c t.val t.isLt).2.2.1 y = addV m c t (y 0) (y 1) (y 2) := by
  rw [outsAt0_A m c t h0]
  frame_out
  simp (discharger := decide) only [↓ View.readCov_skip, ↓ View.readCov_fill]
  refine (Cert.Pieces.canon_over [_] y [_, _, _, _, _, _, _, _] (View.cover_of_tiled _ ![1, 64, 256] (by rfl) y)).trans ?_
  idx_vars y
  canon_tiles x h
  all_goals
    open_payloads
    pointwise [k0_pay4]
    obtain rfl : y1 = x 1 := Fin.ext h1
    obtain rfl : y2 = x 2 := Fin.ext h2
    replace h0 : y0.val = _ := h0
    exact congrArg (fun z : Fin 8 => addV m c t z (x 1) (x 2)) (Fin.ext (by rw [h0, show (x 0).val = 0 from by omega]; rfl))

/-- The cotangents of a key's and of a value's entry, the latent's entry and the weights', of the arguments. -/
abbrev GK (c : Dev nD) (r : Fin 16384) (h : Fin 8) (d : Fin 96) : EReal := m ((c : Thread nD τ).loc main_arg2) (ix3 r h d)
abbrev GV (c : Dev nD) (r : Fin 16384) (h : Fin 8) (d : Fin 64) : EReal := m ((c : Thread nD τ).loc main_arg3) (ix3 r h d)
abbrev X (c : Dev nD) (r : Fin 16384) (k : Fin 256) : EReal := m ((c : Thread nD τ).loc main_arg0) (ix2 r k)
abbrev Wk (c : Dev nD) (h : Fin 8) (d : Fin 64) (k : Fin 256) : EReal := m ((c : Thread nD τ).loc main_arg1) (ix2 k ⟨h.val * 128 + d.val, by omega⟩)
abbrev Wv (c : Dev nD) (h : Fin 8) (d : Fin 64) (k : Fin 256) : EReal := m ((c : Thread nD τ).loc main_arg1) (ix2 k ⟨h.val * 128 + (64 + d.val), by omega⟩)

/-- Row `a` of block `t`. -/
abbrev row (t : Fin cfg0.N) (a : Fin 512) : Fin 16384 :=
  ⟨t.val * 512 + a.val, by have := t.isLt; have := a.isLt; have : cfg0.N = 32 := N_0; omega⟩

theorem blk0 (c : Dev nD) (t : Fin cfg0.N) (h : Fin 8) (d : Fin 96) (a : Fin 512) : bK m c t (ix4 h 0 d a) = GK m c (row t a) h d := by
  blk_simp [bK, iblk, idx t]
  entry_read
  pointwise
  blk_ext [iblk, V, idx t]

theorem blk1 (c : Dev nD) (t : Fin cfg0.N) (h : Fin 8) (d : Fin 64) (a : Fin 512) : bV m c t (ix4 h 0 d a) = GV m c (row t a) h d := by
  blk_simp [bV, iblk, idx t]
  entry_read
  pointwise
  blk_ext [iblk, V, idx t]

theorem blk2 (c : Dev nD) (t : Fin cfg0.N) (a : Fin 512) (k : Fin 256) : bX m c t (ix2 a k) = X m c (row t a) k := by
  blk_simp [bX, iblk, idx t]
  entry_read
  pointwise
  blk_ext [iblk, V, idx t]

theorem blk3 (c : Dev nD) (t : Fin cfg0.N) (h : Fin 8) (d : Fin 64) (k : Fin 256) : bWk m c t (ix3 h d k) = Wk m c h d k := by
  blk_simp [bWk, iblk, idx t]
  entry_read
  pointwise
  blk_ext [iblk, V, idx t]

theorem blk4 (c : Dev nD) (t : Fin cfg0.N) (h : Fin 8) (d : Fin 64) (k : Fin 256) : bWv m c t (ix3 h d k) = Wv m c h d k := by
  blk_simp [bWv, iblk, idx t]
  entry_read
  pointwise
  blk_ext [iblk, V, idx t]

/-- The latent's cotangent. -/
def dX (c : Dev nD) (r : Fin 16384) (k : Fin 256) : EReal :=
  ∑ h : Fin 8, (∑ d : Fin 64, GK m c r h (nope d) * Wk m c h d k + ∑ d : Fin 64, GV m c r h d * Wv m c h d k)

theorem final5 (c : Dev nD) : (dats m 0 c).arrAt 5 cfg0.N = fun i : S16384x256.Idx => dX m c (i 0) (i 1) := by
  refine (dats m 0 c).arrAt_eq_of_covers 5 _ (by decide +kernel) fun t hf y => ?_
  have hrow : ∀ (a : Fin 512) (k : Fin 256), ((View.whole main_v12_0).slice (win0_5.rect t)).emb (ix2 a k) = ix2 (row t a) k := fun a k => by
    blk_ext [idx t]
  blk_simp
  rw [after0_5, out5]
  idx_vars y
  unfold addX
  simp only [blk0, blk1, blk3, blk4]
  erw [hrow]
  rfl

/-- The shared rotary key's cotangent: the sum over the heads. -/
def dR (c : Dev nD) (r : Fin 16384) (d : Fin 32) : EReal := ∑ h : Fin 8, GK m c r h (pe d)

/-- A row of the final tiles. -/
abbrev rowAt (q : Fin 32) (a : Fin 512) : Fin 16384 := ⟨q.val * 512 + a.val, by omega⟩

theorem final8 (c : Dev nD) : (dats m 0 c).arrAt 8 cfg0.N = fun i : S32x32x512.Idx => dR m c (rowAt (i 0) (i 2)) (i 1) := by
  refine (dats m 0 c).arrAt_eq_of_covers 8 _ (by decide +kernel) fun t hf y => ?_
  have hrow : ∀ (z : Fin 1) (d : Fin 32) (a : Fin 512), ((View.whole main_v12_3).slice (win0_8.rect t)).emb (ix3 z d a) = ix3 ⟨t.val, lt_of_lt_of_eq t.isLt N_0⟩ d a :=
    fun z d a => by
      obtain rfl : z = 0 := Subsingleton.elim _ _
      blk_ext [idx t]
  blk_simp
  rw [after0_8, out8]
  idx_vars y
  simp only [blk0]
  erw [hrow]
  rfl

/-- The last point. -/
def tLast : Fin cfg0.N := ⟨31, by rw [show cfg0.N = 32 from N_0]; decide⟩

theorem final6 (c : Dev nD) : (dats m 0 c).arrAt 6 cfg0.N = fun i : S8x64x256.Idx => ∑ r : Fin 16384, GK m c r (i 0) (nope (i 1)) * X m c r (i 2) := by
  refine (dats m 0 c).arrAt_eq_of_after_last 6 tLast (by decide +kernel) _ fun j => ?_
  blk_simp
  rw [after0_6]
  refine (Pipeline.eq_sum_fin_of_reset_step_apply_last (fun n h => (outsAt0 m c n h).2.1) 32 (fun _ => 0)
    (fun t i => ∑ a : Fin 512, GK m c (row t a) (i 0) (nope (i 1)) * X m c (row t a) (i 2))
    (fun t h j => ?_) (fun t h j => ?_) (by decide) tLast rfl _).trans ?_
  · rw [out6_first m c t h]
    idx_vars j
    unfold addK
    simp only [blk0, blk2]
    exact (zero_add _).symm
  · rw [out6_step m c t h]
    idx_vars j
    unfold addK
    simp only [blk0, blk2]
  · rw [zero_add]
    exact Fin.sum_mul_add_congr fun s k hl => rfl

theorem final7 (c : Dev nD) : (dats m 0 c).arrAt 7 cfg0.N = fun i : S8x64x256.Idx => ∑ r : Fin 16384, GV m c r (i 0) (i 1) * X m c r (i 2) := by
  refine (dats m 0 c).arrAt_eq_of_after_last 7 tLast (by decide +kernel) _ fun j => ?_
  blk_simp
  rw [after0_7]
  refine (Pipeline.eq_sum_fin_of_reset_step_apply_last (fun n h => (outsAt0 m c n h).2.2.1) 32 (fun _ => 0)
    (fun t i => ∑ a : Fin 512, GV m c (row t a) (i 0) (i 1) * X m c (row t a) (i 2))
    (fun t h j => ?_) (fun t h j => ?_) (by decide) tLast rfl _).trans ?_
  · rw [out7_first m c t h]
    idx_vars j
    unfold addV
    simp only [blk1, blk2]
    exact (zero_add _).symm
  · rw [out7_step m c t h]
    idx_vars j
    unfold addV
    simp only [blk1, blk2]
  · rw [zero_add]
    exact Fin.sum_mul_add_congr fun s k hl => rfl

end Cert.KvProjIdeal.Value

end
-- ==== Proof.KvProjTie.lean ====
/-
  The keys' and values' projection backward: the reference's four results, entry by entry, are the sums the kernel leaves.
-/
module

public import proofs.«01_k».proof.Proof.Gen.KvProjRefIdeal.Read
public import Idealize.ShloMosaic.Lib.Pipeline.ValueKit
public import proofs.«01_k».proof.Proof.Pieces

@[expose] public section

noncomputable section

namespace Cert.KvProjRefIdeal.Tie

open Cert.KvProjRefIdeal Cert.KvProjRefIdeal.Read Idealize.ShloMosaic Idealize.ShloMosaic.TcCoe Idealize.SL.Sem

variable (x0 : (⟨S16384x256, .f32⟩ : BufTy).Contents (Elt Ideal)) (x1 : (⟨S256x1024, .f32⟩ : BufTy).Contents (Elt Ideal))
  (x2 : (⟨S16384x8x96, .f32⟩ : BufTy).Contents (Elt Ideal)) (x3 : (⟨S16384x8x64, .f32⟩ : BufTy).Contents (Elt Ideal))

abbrev rowAt (q : Fin 32) (a : Fin 512) : Fin 16384 := ⟨q.val * 512 + a.val, by omega⟩
abbrev colK (h : Fin 8) (d : Fin 64) : Fin 1024 := ⟨h.val * 128 + d.val, by omega⟩
abbrev colV (h : Fin 8) (d : Fin 64) : Fin 1024 := ⟨h.val * 128 + (64 + d.val), by omega⟩

/-- A head's columns: the keys' half and the values'. -/
theorem v16_key (r : Fin 16384) (h : Fin 8) (d : Fin 64) : val_main_v16 (F := Ideal) x2 x3 (ix2 r (colK h d)) = x2 (ix3 r h ⟨d.val, by omega⟩) := by
  pointwise [val_main_cst_0, val_main_v8, val_main_v9, val_main_cst_3, val_main_v14, val_main_v15, val_main_v16]
  refine (Cert.Pieces.pick_right _ _ (by omega) (by omega)).trans ?_
  blk_ext

theorem v16_value (r : Fin 16384) (h : Fin 8) (d : Fin 64) : val_main_v16 (F := Ideal) x2 x3 (ix2 r (colV h d)) = x3 (ix3 r h d) := by
  pointwise [val_main_cst_0, val_main_v8, val_main_v9, val_main_cst_3, val_main_v14, val_main_v15, val_main_v16]
  refine (Cert.Pieces.pick_left _ _ (by omega) (by omega)).trans ?_
  blk_ext

theorem v22_at (h : Fin 8) (d : Fin 64) (k : Fin 256) : val_main_v22 (F := Ideal) x0 x2 x3 (ix3 h d k)
    = ∑ r : Fin 16384, x2 (ix3 r h ⟨d.val, by omega⟩) * x0 (ix2 r k) := by
  simp only [← v16_key x2 x3]
  pointwise [val_main_v17, val_main_v18, val_main_v20, val_main_v21, val_main_v22]
  blk_ext

theorem v23_at (h : Fin 8) (d : Fin 64) (k : Fin 256) : val_main_v23 (F := Ideal) x0 x2 x3 (ix3 h d k)
    = ∑ r : Fin 16384, x3 (ix3 r h d) * x0 (ix2 r k) := by
  simp only [← v16_value x2 x3]
  pointwise [val_main_v17, val_main_v18, val_main_v20, val_main_v21, val_main_v23]
  blk_ext

theorem v25_at (q : Fin 32) (d : Fin 32) (a : Fin 512) : val_main_v25 (F := Ideal) x2 (ix3 q d a) = ∑ h : Fin 8, x2 (ix3 (rowAt q a) h ⟨64 + d.val, by omega⟩) := by
  pointwise [val_main_v10, val_main_cst_1, val_main_v11, val_main_v12, val_main_cst_2, val_main_v13, val_main_v24, val_main_v25]
  simp only [Finset.univ_unique, Finset.sum_singleton]

/-- A sum over the columns, head by head and half by half. -/
theorem sum_columns (f : Fin 1024 → EReal) : ∑ j, f j = ∑ h : Fin 8, (∑ d : Fin 64, f (colK h d) + ∑ d : Fin 64, f (colV h d)) := by
  refine (Fin.sum_mul_add_congr (S := 8) (n := 128) (F := fun h e => f ⟨h.val * 128 + e.val, by omega⟩) fun s k hl => rfl).symm.trans ?_
  exact Finset.sum_congr rfl fun h _ => Fin.sum_univ_add (a := 64) (b := 64) fun e : Fin 128 => f ⟨h.val * 128 + e.val, by omega⟩

theorem v19_at (r : Fin 16384) (k : Fin 256) : val_main_v19 (F := Ideal) x1 x2 x3 (ix2 r k)
    = ∑ h : Fin 8, (∑ d : Fin 64, x2 (ix3 r h ⟨d.val, by omega⟩) * x1 (ix2 k (colK h d)) + ∑ d : Fin 64, x3 (ix3 r h d) * x1 (ix2 k (colV h d))) := by
  simp only [← v16_key x2 x3, ← v16_value x2 x3]
  refine Eq.trans ?_ (sum_columns fun j => val_main_v16 (F := Ideal) x2 x3 (ix2 r j) * x1 (ix2 k j))
  pointwise [val_main_v19]

end Cert.KvProjRefIdeal.Tie

end
-- ==== Proof.KvProjClaim.lean ====
/-
  The keys' and values' projection's claim: the kernel's four results are the reference's, whatever the arguments.
-/
module

public import proofs.«01_k».proof.Defs
public import proofs.«01_k».proof.Proof.KvProjValue
public import proofs.«01_k».proof.Proof.KvProjTie

@[expose] public section

noncomputable section

namespace Cert.KvProjClaim

open Idealize.ShloMosaic Idealize.ShloMosaic.TcCoe Idealize.SL.Sem
open Cert.KvProjIdeal.Value (final5 final6 final7 final8)
open Cert.KvProjRefIdeal.Tie (v19_at v22_at v23_at v25_at)

theorem claim : Cert.algebraic_KvProjIdeal_KvProjRefIdeal := by
  intro m g m' g' _ ha
  refine ⟨fun c => (Cert.KvProjIdeal.Gen.dats m 0 c).arrAt 5 Cert.KvProjIdeal.cfg0.N, fun c => (Cert.KvProjIdeal.Gen.dats m 0 c).arrAt 6 Cert.KvProjIdeal.cfg0.N,
    fun c => (Cert.KvProjIdeal.Gen.dats m 0 c).arrAt 7 Cert.KvProjIdeal.cfg0.N, fun c => (Cert.KvProjIdeal.Gen.dats m 0 c).arrAt 8 Cert.KvProjIdeal.cfg0.N, ?_, ?_⟩
  · run_from (Cert.KvProjIdeal.Value.run_blocks m g)
  · refine (θ_run Cert.KvProjRefIdeal.defs _ _).mono (fun r h c => ?_) (Cert.KvProjRefIdeal.Value.run (F := Ideal) m' g')
    obtain ⟨h0, h1, h2, h3, hk⟩ := h c
    obtain ⟨a0, a1, a2, a3⟩ := ha c
    refine ⟨h0.trans ?_, h1.trans ?_, h2.trans ?_, h3.trans ?_, hk⟩
    all_goals beta_reduce
    · rw [Cert.KvProjRefIdeal.Read.val_main_v19_eq, final5, a1, a2, a3]
      funext j
      idx_vars j
      exact v19_at _ _ _ _ _
    · rw [Cert.KvProjRefIdeal.Read.val_main_v22_eq, final6, a0, a2, a3]
      funext j
      idx_vars j
      exact v22_at _ _ _ _ _ _
    · rw [Cert.KvProjRefIdeal.Read.val_main_v23_eq, final7, a0, a2, a3]
      funext j
      idx_vars j
      exact v23_at _ _ _ _ _ _
    · rw [Cert.KvProjRefIdeal.Read.val_main_v25_eq, final8, a2]
      funext j
      idx_vars j
      exact v25_at _ _ _ _

end Cert.KvProjClaim

end
-- ==== Proof.OProjValue.lean ====
/-
  The output projection's backward: what its three result arrays end holding, at the exact reals: each head's cotangent tile, its product with the attention summed
  over the head's entries, and the weights' gradient.
-/
module

public import proofs.«01_k».proof.Proof.Gen.OProjIdeal.Value
public import Idealize.ShloMosaic.Lib.Pipeline.ValueKit
public import proofs.«01_k».proof.Proof.Pieces

@[expose] public section

noncomputable section

namespace Cert.OProjIdeal.Value

open Cert.OProjIdeal Cert.OProjIdeal.Gen Idealize.ShloMosaic Idealize.ShloMosaic.TcCoe Idealize.SL.Sem
open Idealize.ShloMosaic.Pipeline (Dat)

variable (m : (ℓ : Loc nD τ sig) → Buf (Elt Ideal) ℓ)

/-- The cotangent's row block, the attention's tiles and the weights, as a point finds them. -/
abbrev bG (c : Dev nD) (t : Fin cfg0.N) : FVec Ideal S512x1024 .f32 := iblk m c 0 t
abbrev bO (c : Dev nD) (t : Fin cfg0.N) : FVec Ideal S8x1x64x512 .f32 := iblk m c 1 t
abbrev bW (c : Dev nD) (t : Fin cfg0.N) : FVec Ideal S8x64x1024 .bf16 := iblk m c 2 t

/-- The window's block indices: the tiles follow the point, the weights and their gradient stay. -/
theorem idx (t : Fin cfg0.N) : win0_0.index t = ![t.val, 0] ∧ win0_1.index t = ![0, t.val, 0, 0] ∧ win0_2.index t = ![0, 0, 0]
    ∧ win0_3.index t = ![0, t.val, 0, 0] ∧ win0_4.index t = ![0, t.val, 0, 0] := by
  revert t
  decide +kernel

/-- A point's tile of the attention's cotangent. -/
def tileDo (c : Dev nD) (t : Fin cfg0.N) (h : Fin 8) (d : Fin 64) (a : Fin 512) : EReal := ∑ k : Fin 1024, bW m c t (ix3 h d k) * bG m c t (ix2 a k)

theorem out3 (c : Dev nD) (t : Fin cfg0.N) (y : S8x1x64x512.Idx) : (outsAt0 m c t.val t.isLt).1 y = tileDo m c t (y 0) (y 2) (y 3) := by
  by_cases h0 : t.val % 32 = 0
  on_goal 1 => rw [outsAt0_A m c t h0]
  on_goal 2 => rw [outsAt0_B m c t h0]
  all_goals
    frame_out
    idx_vars y
    canon_tiles x h
    all_goals
      open_payloads
      pointwise
      obtain rfl : y2 = x 2 := Fin.ext h2
      obtain rfl : y3 = x 3 := Fin.ext h3
      replace h0 : y0.val = _ := h0
      exact congrArg (fun z => tileDo m c t z (x 2) (x 3)) (Fin.ext (by rw [h0, show (x 0).val = 0 from by omega]; rfl))

theorem out4 (c : Dev nD) (t : Fin cfg0.N) (y : S8x1x1x512.Idx) : (outsAt0 m c t.val t.isLt).2.1 y
    = ∑ d : Fin 64, tileDo m c t (y 0) d (y 3) * bO m c t (ix4 (y 0) 0 d (y 3)) := by
  by_cases h0 : t.val % 32 = 0
  on_goal 1 => rw [outsAt0_A m c t h0]
  on_goal 2 => rw [outsAt0_B m c t h0]
  all_goals
    frame_out
    idx_vars y
    canon_tiles x h
    all_goals
      open_payloads
      pointwise
      obtain rfl : y3 = x 3 := Fin.ext h3
      replace h0 : y0.val = _ := h0
      exact congrArg (fun z => ∑ d : Fin 64, tileDo m c t z d (x 3) * bO m c t (ix4 z 0 d (x 3))) (Fin.ext (by rw [h0, show (x 0).val = 0 from by omega]; rfl))

/-- A point's addend to the weights' gradient. -/
def addW (c : Dev nD) (t : Fin cfg0.N) (h : Fin 8) (d : Fin 64) (k : Fin 1024) : EReal := ∑ a : Fin 512, bO m c t (ix4 h 0 d a) * bG m c t (ix2 a k)

theorem out5_step (c : Dev nD) (t : Fin cfg0.N) (h0 : ¬ t.val % 32 = 0) (y : S8x64x1024.Idx) : (outsAt0 m c t.val t.isLt).2.2 y
   = (outsAt0 m c (t.val-1) (Nat.lt_of_le_of_lt (Nat.sub_le _ _) t.isLt)).2.2 y + addW m c t (y 0) (y 1) (y 2) := by
  rw [outsAt0_B m c t h0]
  frame_out
  generalize (outsAt0 m c (t.val - 1) (Nat.lt_of_le_of_lt (Nat.sub_le _ _) t.isLt)).2.2 = A
  idx_vars y
  canon_tiles x h
  all_goals
    open_payloads
    pointwise
    obtain rfl : y1 = x 1 := Fin.ext h1
    obtain rfl : y2 = x 2 := Fin.ext h2
    replace h0 : y0.val = _ := h0
    exact congrArg (fun z : Fin 8 => (A (ix3 z (x 1) (x 2)) + addW m c t z (x 1) (x 2) : EReal)) (Fin.ext (by rw [h0, show (x 0).val = 0 from by omega]; rfl))

theorem out5_first (c : Dev nD) (t : Fin cfg0.N) (h0 : t.val % 32 = 0) (y : S8x64x1024.Idx) : (outsAt0 m c t.val t.isLt).2.2 y = addW m c t (y 0) (y 1) (y 2) := by
  rw [outsAt0_A m c t h0]
  frame_out
  simp (discharger := decide) only [↓ View.readCov_skip, ↓ View.readCov_fill]
  refine (Cert.Pieces.canon_over [_] y [_, _, _, _, _, _, _, _] (View.cover_of_tiled _ ![1, 64, 1024] (by rfl) y)).trans ?_
  idx_vars y
  canon_tiles x h
  all_goals
    open_payloads
    pointwise [k0_pay5]
    obtain rfl : y1 = x 1 := Fin.ext h1
    obtain rfl : y2 = x 2 := Fin.ext h2
    replace h0 : y0.val = _ := h0
    exact congrArg (fun z : Fin 8 => addW m c t z (x 1) (x 2)) (Fin.ext (by rw [h0, show (x 0).val = 0 from by omega]; rfl))

/-- The cotangent's row, the attention's entry and the weights' row, of the arguments. -/
abbrev DH (c : Dev nD) (r : Fin 16384) (k : Fin 1024) : EReal := m ((c : Thread nD τ).loc main_arg2) (ix2 r k)
abbrev O (c : Dev nD) (r : Fin 16384) (h : Fin 8) (d : Fin 64) : EReal := m ((c : Thread nD τ).loc main_arg0) (ix3 r h d)
abbrev Wt (c : Dev nD) (h : Fin 8) (d : Fin 64) (k : Fin 1024) : EReal := m ((c : Thread nD τ).loc main_arg1) (ix2 ⟨h.val * 64 + d.val, by omega⟩ k)

/-- Row `a` of block `t`. -/
abbrev row (t : Fin cfg0.N) (a : Fin 512) : Fin 16384 :=
  ⟨t.val * 512 + a.val, by have := t.isLt; have := a.isLt; have : cfg0.N = 32 := N_0; omega⟩

theorem blk0 (c : Dev nD) (t : Fin cfg0.N) (a : Fin 512) (k : Fin 1024) : bG m c t (ix2 a k) = DH m c (row t a) k := by
  blk_ext [bG, iblk, V, idx t]

theorem blk1 (c : Dev nD) (t : Fin cfg0.N) (h : Fin 8) (d : Fin 64) (a : Fin 512) : bO m c t (ix4 h 0 d a) = O m c (row t a) h d := by
  blk_simp [bO, iblk, idx t]
  entry_read
  pointwise
  blk_ext [iblk, V, idx t]

theorem blk2 (c : Dev nD) (t : Fin cfg0.N) (h : Fin 8) (d : Fin 64) (k : Fin 1024) : bW m c t (ix3 h d k) = Wt m c h d k := by
  blk_simp [bW, iblk, idx t]
  entry_read
  pointwise
  blk_ext [iblk, V, idx t]

/-- The attention's cotangent at an entry. -/
def dO (c : Dev nD) (r : Fin 16384) (h : Fin 8) (d : Fin 64) : EReal := ∑ k : Fin 1024, Wt m c h d k * DH m c r k

theorem tile_eq (c : Dev nD) (t : Fin cfg0.N) (h : Fin 8) (d : Fin 64) (a : Fin 512) : tileDo m c t h d a = dO m c (row t a) h d := by
  unfold tileDo dO
  simp only [blk0, blk2]

/-- A row of the final tiles. -/
abbrev rowAt (q : Fin 32) (a : Fin 512) : Fin 16384 := ⟨q.val * 512 + a.val, by omega⟩

theorem final3 (c : Dev nD) : (dats m 0 c).arrAt 3 cfg0.N = fun i : S8x32x64x512.Idx => dO m c (rowAt (i 1) (i 3)) (i 0) (i 2) := by
  refine (dats m 0 c).arrAt_eq_of_covers 3 _ (by decide +kernel) fun t hf y => ?_
  have hrow : ∀ (h : Fin 8) (z : Fin 1) (d : Fin 64) (a : Fin 512), ((View.whole main_v4_0).slice (win0_3.rect t)).emb (ix4 h z d a) = ix4 h ⟨t.val, lt_of_lt_of_eq t.isLt N_0⟩ d a :=
    fun h z d a => by
      obtain rfl : z = 0 := Subsingleton.elim _ _
      blk_ext [idx t]
  blk_simp
  rw [after0_3, out3]
  idx_vars y
  rw [tile_eq]
  erw [hrow]
  rfl

/-- A row's sum of the cotangent times the attention. -/
def delO (c : Dev nD) (r : Fin 16384) (h : Fin 8) : EReal := ∑ d : Fin 64, dO m c r h d * O m c r h d

theorem final4 (c : Dev nD) : (dats m 0 c).arrAt 4 cfg0.N = fun i : S8x32x1x512.Idx => delO m c (rowAt (i 1) (i 3)) (i 0) := by
  refine (dats m 0 c).arrAt_eq_of_covers 4 _ (by decide +kernel) fun t hf y => ?_
  have hrow : ∀ (h : Fin 8) (z w : Fin 1) (a : Fin 512), ((View.whole main_v4_1).slice (win0_4.rect t)).emb (ix4 h z w a) = ix4 h ⟨t.val, lt_of_lt_of_eq t.isLt N_0⟩ w a :=
    fun h z w a => by
      obtain rfl : z = 0 := Subsingleton.elim _ _
      obtain rfl : w = 0 := Subsingleton.elim _ _
      blk_ext [idx t]
  blk_simp
  rw [after0_4, out4]
  idx_vars y
  erw [hrow]
  have e : (∑ d : Fin 64, tileDo m c t y0 d y3 * bO m c t (ix4 y0 0 d y3) : EReal) = delO m c (row t y3) y0 := by
    unfold delO
    simp only [tile_eq, blk1]
  exact e

/-- The last point. -/
def tLast : Fin cfg0.N := ⟨31, by rw [show cfg0.N = 32 from N_0]; decide⟩

/-- The weights' gradient: the sum over the rows. -/
theorem final5 (c : Dev nD) : (dats m 0 c).arrAt 5 cfg0.N = fun i : S8x64x1024.Idx => ∑ r : Fin 16384, O m c r (i 0) (i 1) * DH m c r (i 2) := by
  refine (dats m 0 c).arrAt_eq_of_after_last 5 tLast (by decide +kernel) _ fun j => ?_
  blk_simp
  rw [after0_5]
  refine (Pipeline.eq_sum_fin_of_reset_step_apply_last (fun n h => (outsAt0 m c n h).2.2) 32 (fun _ => 0)
    (fun t j => ∑ a : Fin 512, O m c (row t a) (j 0) (j 1) * DH m c (row t a) (j 2))
    (fun t h j => ?_) (fun t h j => ?_) (by decide) tLast rfl _).trans ?_
  · rw [out5_first m c t h]
    idx_vars j
    unfold addW
    simp only [blk0, blk1]
    exact (zero_add _).symm
  · rw [out5_step m c t h]
    idx_vars j
    unfold addW
    simp only [blk0, blk1]
  · rw [zero_add]
    exact Fin.sum_mul_add_congr fun s k hl => rfl

end Cert.OProjIdeal.Value

end
-- ==== Proof.OProjTie.lean ====
/-
  The output projection's backward: the reference's three results, entry by entry, are the sums the kernel leaves.
-/
module

public import proofs.«01_k».proof.Proof.Gen.OProjRefIdeal.Read
public import Idealize.ShloMosaic.Lib.Pipeline.ValueKit

@[expose] public section

noncomputable section

namespace Cert.OProjRefIdeal.Tie

open Cert.OProjRefIdeal Cert.OProjRefIdeal.Read Idealize.ShloMosaic Idealize.ShloMosaic.TcCoe Idealize.SL.Sem

variable (x0 : (⟨S16384x8x64, .f32⟩ : BufTy).Contents (Elt Ideal)) (x1 : (⟨S512x1024, .f32⟩ : BufTy).Contents (Elt Ideal))
  (x2 : (⟨S16384x1024, .f32⟩ : BufTy).Contents (Elt Ideal))

abbrev rowAt (q : Fin 32) (a : Fin 512) : Fin 16384 := ⟨q.val * 512 + a.val, by omega⟩
abbrev col (h : Fin 8) (d : Fin 64) : Fin 512 := ⟨h.val * 64 + d.val, by omega⟩

theorem v5_at (r : Fin 16384) (h : Fin 8) (d : Fin 64) : val_main_v5 (F := Ideal) x1 x2 (ix3 r h d) = ∑ k : Fin 1024, x2 (ix2 r k) * x1 (ix2 (col h d) k) := by
  pointwise [val_main_v4, val_main_v5]
  blk_ext

theorem v10_at (h : Fin 8) (q : Fin 32) (d : Fin 64) (a : Fin 512) : val_main_v10 (F := Ideal) x1 x2 (ix4 h q d a)
    = ∑ k : Fin 1024, x2 (ix2 (rowAt q a) k) * x1 (ix2 (col h d) k) := by
  simp only [← v5_at]
  pointwise [val_main_v9, val_main_v10]
  blk_ext

theorem v12_at (h : Fin 8) (q : Fin 32) (z : Fin 1) (a : Fin 512) : val_main_v12 (F := Ideal) x0 x1 x2 (ix4 h q z a)
    = ∑ d : Fin 64, (∑ k : Fin 1024, x2 (ix2 (rowAt q a) k) * x1 (ix2 (col h d) k)) * x0 (ix3 (rowAt q a) h d) := by
  simp only [← v5_at]
  obtain rfl : z = 0 := Subsingleton.elim _ _
  pointwise [val_main_v6, val_main_cst, val_main_v7, val_main_v8, val_main_v11, val_main_v12]
  blk_ext

theorem v13_at (h : Fin 8) (d : Fin 64) (k : Fin 1024) : val_main_v13 (F := Ideal) x0 x2 (ix3 h d k)
    = ∑ r : Fin 16384, x2 (ix2 r k) * x0 (ix3 r h d) := by
  pointwise [val_main_v0, val_main_v2, val_main_v3, val_main_v13]
  blk_ext

end Cert.OProjRefIdeal.Tie

end
-- ==== Proof.OProjClaim.lean ====
/-
  The output projection's claim: the kernel's three results are the reference's, whatever the arguments.
-/
module

public import proofs.«01_k».proof.Defs
public import proofs.«01_k».proof.Proof.OProjValue
public import proofs.«01_k».proof.Proof.OProjTie

@[expose] public section

noncomputable section

namespace Cert.OProjClaim

open Idealize.ShloMosaic Idealize.ShloMosaic.TcCoe Idealize.SL.Sem
open Cert.OProjIdeal.Value (final3 final4 final5 dO delO)
open Cert.OProjRefIdeal.Tie (v10_at v12_at v13_at)

theorem claim : Cert.algebraic_OProjIdeal_OProjRefIdeal := by
  intro m g m' g' _ ha
  refine ⟨fun c => (Cert.OProjIdeal.Gen.dats m 0 c).arrAt 3 Cert.OProjIdeal.cfg0.N, fun c => (Cert.OProjIdeal.Gen.dats m 0 c).arrAt 4 Cert.OProjIdeal.cfg0.N,
    fun c => (Cert.OProjIdeal.Gen.dats m 0 c).arrAt 5 Cert.OProjIdeal.cfg0.N, ?_, ?_⟩
  · run_from (Cert.OProjIdeal.Value.run_blocks m g)
  · refine (θ_run Cert.OProjRefIdeal.defs _ _).mono (fun r h c => ?_) (Cert.OProjRefIdeal.Value.run (F := Ideal) m' g')
    obtain ⟨h0, h1, h2, hk⟩ := h c
    obtain ⟨a0, a1, a2⟩ := ha c
    refine ⟨h0.trans ?_, h1.trans ?_, h2.trans ?_, hk⟩
    all_goals beta_reduce
    · rw [Cert.OProjRefIdeal.Read.val_main_v10_eq, final3, a1, a2]
      funext j
      idx_vars j
      exact (v10_at _ _ _ _ _ _).trans (Finset.sum_congr rfl fun k _ => mul_comm _ _)
    · rw [Cert.OProjRefIdeal.Read.val_main_v12_eq, final4, a0, a1, a2]
      funext j
      idx_vars j
      exact (v12_at _ _ _ _ _ _ _).trans (Finset.sum_congr rfl fun d _ => congrArg (· * _) (Finset.sum_congr rfl fun k _ => mul_comm _ _))
    · rw [Cert.OProjRefIdeal.Read.val_main_v13_eq, final5, a0, a2]
      funext j
      idx_vars j
      exact (v13_at _ _ _ _ _).trans (Finset.sum_congr rfl fun k _ => mul_comm _ _)

end Cert.OProjClaim

end
-- ==== Proof.FlashIdealOff.lean ====
/-
  Where the attention backward's kernel reads and writes, in closed form. At the grid's point `(h, j)` the kernel
  takes the query tiles `j+1, …, 31` two at a time and the diagonal tile `j` last: trip `k` of its loop is for the
  tiles `j+1+2k` and `j+2+2k`, and issues the scores of the tile after them (of the diagonal tile when none is left).
-/
module

public import proofs.«01_k».proof.Proof.Gen.FlashIdeal.Loops
public import proofs.«01_k».proof.Proof.Gen.FlashIdeal.Points

@[expose] public section

namespace Cert.FlashIdeal.Hand

open Cert.FlashIdeal Cert.FlashIdeal.Gen
open Idealize.ShloMosaic

/-- The loop's trips at the point: half of the tiles above the diagonal one, rounded down. -/
theorem trips1 : ∀ i : grid0.Coords, (k0_t1_loop i).trips = (31 - (i 1).val) / 2 := by decide +kernel
/-- The remainder loop makes none. -/
theorem trips2 : ∀ i : grid0.Coords, (k0_t2_loop i).trips = 0 := by decide +kernel

/-- The tile the kernel issues before its loop: the first above the diagonal one, or the diagonal one. -/
abbrev first (j : ℕ) : ℕ := if j < 31 then j + 1 else j
/-- The tile issued in trip `k` after its two. -/
abbrev next (j k : ℕ) : ℕ := if j + 3 + 2 * k ≤ 31 then j + 3 + 2 * k else j

theorem k0_off1_eq : ∀ i, k0_off1 i = ![0, first (i 1).val, 0, 0] := by decide +kernel
theorem k0_off2_eq : ∀ i, k0_off2 i = ![0, first (i 1).val, 0, 0] := by decide +kernel
theorem k0_off3_eq : ∀ i k, k0_off3 i k = ![0, (i 1).val + 2 + 2 * k.val, 0, 0] := by decide +kernel
theorem k0_off4_eq : ∀ i k, k0_off4 i k = ![0, (i 1).val + 2 + 2 * k.val, 0, 0] := by decide +kernel
theorem k0_off5_eq : ∀ i k, k0_off5 i k = ![0, (i 1).val + 1 + 2 * k.val, 0, 0] := by decide +kernel
theorem k0_off6_eq : ∀ i k, k0_off6 i k = ![0, (i 1).val + 1 + 2 * k.val, 0, 0] := by decide +kernel
theorem k0_off7_eq : ∀ i k, k0_off7 i k = ![0, (i 1).val + 1 + 2 * k.val, 0, 0] := by decide +kernel
theorem k0_off8_eq : ∀ i k, k0_off8 i k = ![0, next (i 1).val k.val, 0, 0] := by decide +kernel
theorem k0_off9_eq : ∀ i k, k0_off9 i k = ![0, next (i 1).val k.val, 0, 0] := by decide +kernel
theorem k0_off10_eq : ∀ i k, k0_off10 i k = ![0, (i 1).val + 2 + 2 * k.val, 0, 0] := by decide +kernel
theorem k0_off19_eq : ∀ i, k0_off19 i = ![0, (i 1).val, 0, 0] := by decide +kernel
theorem k0_off20_eq : ∀ i, k0_off20 i = ![0, (i 1).val, 0, 0] := by decide +kernel
theorem k0_off21_eq : ∀ i, k0_off21 i = ![0, (i 1).val, 0, 0] := by decide +kernel
theorem k0_off22_eq : ∀ i, k0_off22 i = ![0, (i 1).val, 0, 0] := by decide +kernel
theorem k0_off23_eq : ∀ i, k0_off23 i = ![0, (i 1).val, 0, 0] := by decide +kernel
theorem k0_off24_eq : ∀ i, k0_off24 i = ![0, (i 1).val, 0, 0] := by decide +kernel
/-- The tail is of the diagonal tile alone when the tiles above it are even in number. -/
theorem k0_cond2_iff : ∀ i, k0_cond2 i = 1#1 ↔ (31 - (i 1).val) % 2 = 0 := by decide +kernel

instance (i) : ClosedOff (k0_off1 i) := ⟨_, k0_off1_eq i⟩
instance (i) : ClosedOff (k0_off2 i) := ⟨_, k0_off2_eq i⟩
instance (i k) : ClosedOff (k0_off3 i k) := ⟨_, k0_off3_eq i k⟩
instance (i k) : ClosedOff (k0_off4 i k) := ⟨_, k0_off4_eq i k⟩
instance (i k) : ClosedOff (k0_off5 i k) := ⟨_, k0_off5_eq i k⟩
instance (i k) : ClosedOff (k0_off6 i k) := ⟨_, k0_off6_eq i k⟩
instance (i k) : ClosedOff (k0_off7 i k) := ⟨_, k0_off7_eq i k⟩
instance (i k) : ClosedOff (k0_off8 i k) := ⟨_, k0_off8_eq i k⟩
instance (i k) : ClosedOff (k0_off9 i k) := ⟨_, k0_off9_eq i k⟩
instance (i k) : ClosedOff (k0_off10 i k) := ⟨_, k0_off10_eq i k⟩
instance (i) : ClosedOff (k0_off19 i) := ⟨_, k0_off19_eq i⟩
instance (i) : ClosedOff (k0_off20 i) := ⟨_, k0_off20_eq i⟩
instance (i) : ClosedOff (k0_off21 i) := ⟨_, k0_off21_eq i⟩
instance (i) : ClosedOff (k0_off22 i) := ⟨_, k0_off22_eq i⟩
instance (i) : ClosedOff (k0_off23 i) := ⟨_, k0_off23_eq i⟩
instance (i) : ClosedOff (k0_off24 i) := ⟨_, k0_off24_eq i⟩

end Cert.FlashIdeal.Hand
-- ==== Proof.FlashIdealTile.lean ====
/-
  What one tile of queries adds in the attention backward's kernel, as functions of values: the tile's scores `s`
  and products `p = v·do` (512x512, keys by queries), the key block, and the tile's slabs of the queries, of the
  output's gradient and of the two row statistics. The kernel writes these functions down four times (the two tiles
  of a loop trip, the tile left over, the diagonal tile), each with its own payloads; they are named here.
-/
module

public import proofs.«01_k».proof.Proof.FlashIdealOff
public import Idealize.ShloMosaic.Lib.VecWindow

@[expose] public section

noncomputable section

namespace Cert.FlashIdeal.Hand

open Cert.FlashIdeal Cert.FlashIdeal.Gen
open Idealize.ShloMosaic Idealize.ShloMosaic.TcCoe
open Idealize.ShloMosaic.VecWindow (window put)

variable {F : FTy → Type} [FloatOps F] [Named F]

/-- Tile number `n`. -/
abbrev tix (n : ℕ) : Fin 32 := Fin.ofNat 32 n

/-- Tile `n` of a 32-tile array whose tiles are 96x512, 64x512, 1x512. -/
def slabQ {e : EltTy} (x : Vec F S1x32x96x512 e) (n : Fin 32) : Vec F S1x1x96x512 e :=
  window x ![0, n.val, 0, 0] S1x1x96x512.size (by intro a; have := n.isLt; fin_cases a <;> simp [Shape.size] <;> omega)
def slabO {e : EltTy} (x : Vec F S1x32x64x512 e) (n : Fin 32) : Vec F S1x1x64x512 e :=
  window x ![0, n.val, 0, 0] S1x1x64x512.size (by intro a; have := n.isLt; fin_cases a <;> simp [Shape.size] <;> omega)
def slabR {e : EltTy} (x : Vec F S1x32x1x512 e) (n : Fin 32) : Vec F S1x1x1x512 e :=
  window x ![0, n.val, 0, 0] S1x1x1x512.size (by intro a; have := n.isLt; fin_cases a <;> simp [Shape.size] <;> omega)
/-- The first and the last 256 rows of a tile of scores, and columns of the key block. -/
def lo (x : Vec F S512x512 .f32) : Vec F S256x512 .f32 := window x ![0, 0] S256x512.size inb_S512x512_S256x512_0_0
def hi (x : Vec F S512x512 .f32) : Vec F S256x512 .f32 := window x ![256, 0] S256x512.size inb_S512x512_S256x512_256_0
def ktLo (x : Vec F S1x1x96x512 .bf16) : Vec F S1x1x96x256 .bf16 := window x ![0, 0, 0, 0] S1x1x96x256.size inb_S1x1x96x512_S1x1x96x256_0_0_0_0
def ktHi (x : Vec F S1x1x96x512 .bf16) : Vec F S1x1x96x256 .bf16 := window x ![0, 0, 0, 256] S1x1x96x256.size inb_S1x1x96x512_S1x1x96x256_0_0_0_256
/-- `x` with tile `n` replaced by `w`. -/
def putQ (x : Vec F S1x32x96x512 .f32) (n : Fin 32) (w : Vec F S1x1x96x512 .f32) : Vec F S1x32x96x512 .f32 :=
  put x ![0, n.val, 0, 0] S1x1x96x512.size w

/-- The kernel's inputs at a grid point: the head's queries (transposed, by tiles), the key block and its transpose,
    the value block, and by tiles the output's gradient, the row statistics. -/
structure Ins (F : FTy → Type) where
  q : Vec F S1x32x96x512 .bf16
  k : Vec F S1x512x96 .bf16
  kt : Vec F S1x1x96x512 .bf16
  v : Vec F S1x512x64 .bf16
  o : Vec F S1x32x64x512 .f32
  l : Vec F S1x32x1x512 .f32
  d : Vec F S1x32x1x512 .f32

section Tiles
variable (I : Ins F) (n : Fin 32) (s p : Vec F S512x512 .f32)

/-- The scores and products a tile is issued with: before the loop, and in a trip's second and first half, and in the tail. -/
def sc0 : Vec F S512x512 .f32 := k0_pay108 I.k (slabQ I.q n)
def pr0 : Vec F S512x512 .f32 := k0_pay109 I.v (slabO I.o n)
def scA : Vec F S512x512 .f32 := k0_pay20 (k0_pay19 I.k) (slabQ I.q n)
def prA : Vec F S512x512 .f32 := k0_pay21 I.v (slabO I.o n)
def scB : Vec F S512x512 .f32 := k0_pay3 I.k (slabQ I.q n)
def prB : Vec F S512x512 .f32 := k0_pay4 I.v (slabO I.o n)
def scT : Vec F S512x512 .f32 := k0_pay81 I.k (slabQ I.q n)
def prT : Vec F S512x512 .f32 := k0_pay82 I.v (slabO I.o n)

/-- A trip's first tile: the new gradient tile of the queries, and the carried gradients of keys and values. -/
def dqA (old : Vec F S1x1x96x512 .f32) : Vec F S1x1x96x512 .f32 :=
  k0_pay16 (k0_pay13 (k0_pay6 (slabR I.l n)) (slabR I.d n) (lo s) (lo p) (ktLo I.kt))
    (k0_pay15 (k0_pay6 (slabR I.l n)) (slabR I.d n) (hi s) (hi p)) (ktHi I.kt) old
def dkA (acc : FVec F S96x512 .f32) : FVec F S96x512 .f32 :=
  k0_pay17 acc (k0_pay12 (k0_pay6 (slabR I.l n)) (slabR I.d n) (lo s) (lo p) (slabQ I.q n))
    (k0_pay15 (k0_pay6 (slabR I.l n)) (slabR I.d n) (hi s) (hi p)) (slabQ I.q n)
def dvA (acc : FVec F S64x512 .f32) : FVec F S64x512 .f32 :=
  k0_pay18 acc (k0_pay5 (slabO I.o n)) (k0_pay11 (k0_pay5 (slabO I.o n)) (k0_pay6 (slabR I.l n)) (lo s)) (k0_pay14 (k0_pay6 (slabR I.l n)) (hi s))

/-- A trip's second tile. -/
def dqB (old : Vec F S1x1x96x512 .f32) : Vec F S1x1x96x512 .f32 :=
  k0_pay112 (k0_pay31 (k0_pay24 (slabR I.d n)) (k0_pay25 (lo s)) (k0_pay26 (slabR I.l n)) (lo p) (ktLo I.kt))
    (k0_pay33 (k0_pay23 (slabR I.l n)) (k0_pay24 (slabR I.d n)) (hi s) (hi p)) (ktHi I.kt) old
def dkB (acc : FVec F S96x512 .f32) : FVec F S96x512 .f32 :=
  k0_pay113 acc (k0_pay30 (k0_pay24 (slabR I.d n)) (k0_pay25 (lo s)) (k0_pay26 (slabR I.l n)) (lo p) (slabQ I.q n))
    (k0_pay35 (k0_pay23 (slabR I.l n)) (k0_pay24 (slabR I.d n)) (hi s) (hi p) (slabQ I.q n))
def dvB (acc : FVec F S64x512 .f32) : FVec F S64x512 .f32 :=
  k0_pay114 acc (k0_pay29 (k0_pay22 (slabO I.o n)) (k0_pay25 (lo s)) (k0_pay26 (slabR I.l n)))
    (k0_pay34 (k0_pay22 (slabO I.o n)) (k0_pay23 (slabR I.l n)) (hi s))

/-- The diagonal tile, when no other is left. -/
def dqE (old : Vec F S1x1x96x512 .f32) : Vec F S1x1x96x512 .f32 :=
  k0_pay118 (k0_pay80 (k0_pay70 (slabR I.l n)) (k0_pay71 (slabR I.d n)) (k0_pay73 (slabR I.l n) (slabR I.d n) (lo s) (lo p)) (ktLo I.kt) (hi s) (hi p) (ktHi I.kt) old)
def dkE (acc : FVec F S96x512 .f32) : FVec F S96x512 .f32 :=
  k0_pay119 acc (k0_pay75 (slabR I.l n) (slabR I.d n) (lo s) (lo p) (slabQ I.q n))
    (k0_pay79 (k0_pay70 (slabR I.l n)) (k0_pay71 (slabR I.d n)) (hi s) (hi p) (slabQ I.q n))
def dvE (acc : FVec F S64x512 .f32) : FVec F S64x512 .f32 :=
  k0_pay120 acc (k0_pay74 (slabO I.o n) (slabR I.l n) (lo s)) (k0_pay78 (k0_pay69 (slabO I.o n)) (k0_pay70 (slabR I.l n)) (hi s))

/-- The last tile above the diagonal, when one is left over. -/
def dqL (old : Vec F S1x1x96x512 .f32) : Vec F S1x1x96x512 .f32 :=
  k0_pay94 (k0_pay90 (k0_pay84 (slabR I.l n)) (slabR I.d n) (lo s) (lo p) (ktLo I.kt))
    (k0_pay92 (k0_pay84 (slabR I.l n)) (slabR I.d n) (hi s) (hi p)) (ktHi I.kt) old
def dkL (acc : FVec F S96x512 .f32) : FVec F S96x512 .f32 :=
  k0_pay95 acc (k0_pay89 (k0_pay84 (slabR I.l n)) (slabR I.d n) (lo s) (lo p) (slabQ I.q n))
    (k0_pay92 (k0_pay84 (slabR I.l n)) (slabR I.d n) (hi s) (hi p)) (slabQ I.q n)
def dvL (acc : FVec F S64x512 .f32) : FVec F S64x512 .f32 :=
  k0_pay96 acc (k0_pay88 (k0_pay83 (slabO I.o n)) (k0_pay84 (slabR I.l n)) (lo s)) (k0_pay93 (k0_pay83 (slabO I.o n)) (k0_pay84 (slabR I.l n)) (hi s))

/-- The rows' numbers, as the kernel has them for the diagonal tile's mask. -/
def rows : IVec S512x512 32 := iota .tc S512x512 32 [0] iota_S512x512_d0_w32

/-- The diagonal tile after it. -/
def dqD (old : Vec F S1x1x96x512 .f32) : Vec F S1x1x96x512 .f32 :=
  k0_pay122 (k0_pay104 (k0_pay98 (slabR I.l n)) (k0_pay99 (slabR I.d n)) (lo s) rows (lo p) (ktLo I.kt))
    (k0_pay106 (k0_pay98 (slabR I.l n)) (k0_pay99 (slabR I.d n)) (hi s) (hi p)) (ktHi I.kt) old
def dkD (acc : FVec F S96x512 .f32) : FVec F S96x512 .f32 :=
  k0_pay123 acc (k0_pay103 (k0_pay98 (slabR I.l n)) (k0_pay99 (slabR I.d n)) (lo s) rows (lo p) (slabQ I.q n))
    (k0_pay106 (k0_pay98 (slabR I.l n)) (k0_pay99 (slabR I.d n)) (hi s) (hi p)) (slabQ I.q n)
def dvD (acc : FVec F S64x512 .f32) : FVec F S64x512 .f32 :=
  k0_pay124 acc (k0_pay97 (slabO I.o n)) (k0_pay102 (k0_pay97 (slabO I.o n)) (k0_pay98 (slabR I.l n)) (lo s) rows) (k0_pay105 (k0_pay98 (slabR I.l n)) (hi s))

end Tiles

/-! ## The loop -/

/-- The scores and products of the tile in hand before trip `k` (`0`: issued before the loop; later: issued by the
    trip before). -/
def scAt (I : Ins F) (j : ℕ) : ℕ → Vec F S512x512 .f32
  | 0 => sc0 I (tix (first j))
  | k + 1 => scA I (tix (next j k))
def prAt (I : Ins F) (j : ℕ) : ℕ → Vec F S512x512 .f32
  | 0 => pr0 I (tix (first j))
  | k + 1 => prA I (tix (next j k))

/-- What is carried: the queries' gradient (all tiles), the keys' and the values' of the block. -/
structure St (F : FTy → Type) where
  dq : Vec F S1x32x96x512 .f32
  dk : FVec F S96x512 .f32
  dv : FVec F S64x512 .f32

/-- One trip, at tiles `a` and `b`, the scores and products of `a` given. -/
def trip (I : Ins F) (a b : Fin 32) (s p : Vec F S512x512 .f32) (x : St F) : St F where
  dq := putQ (putQ x.dq a (dqA I a s p (slabQ x.dq a))) b (dqB I b (scB I b) (prB I b) (slabQ x.dq b))
  dk := dkB I b (scB I b) (prB I b) (dkA I a s p x.dk)
  dv := dvB I b (scB I b) (dvA I a s x.dv)

/-- Before trip `k`, from `x`. -/
def st (I : Ins F) (j : ℕ) (x : St F) : ℕ → St F
  | 0 => x
  | k + 1 => trip I (tix (j + 1 + 2 * k)) (tix (j + 2 + 2 * k)) (scAt I j k) (prAt I j k) (st I j x k)

/-- The point's end, from the state at the loop's end and the scores and products in hand. -/
def tail (I : Ins F) (j : ℕ) (x : St F) (s p : Vec F S512x512 .f32) : St F :=
  if (31 - j) % 2 = 0 then
    ⟨putQ x.dq (tix j) (dqE I (tix j) s p (slabQ x.dq (tix j))), dkE I (tix j) s p x.dk, dvE I (tix j) s x.dv⟩
  else
    ⟨putQ (putQ x.dq (tix 31) (dqL I (tix 31) s p (slabQ x.dq (tix 31)))) (tix j)
        (dqD I (tix j) (scT I (tix j)) (prT I (tix j)) (slabQ x.dq (tix j))),
      dkD I (tix j) (scT I (tix j)) (prT I (tix j)) (dkL I (tix 31) s p x.dk),
      dvD I (tix j) (scT I (tix j)) (dvL I (tix 31) s x.dv)⟩

/-- The whole point: the loop from the zeros, then the tail. -/
def point (I : Ins F) (j : ℕ) (dq : Vec F S1x32x96x512 .f32) : St F :=
  tail I j (st I j ⟨dq, k0_pay110, k0_pay111⟩ ((31 - j) / 2)) (scAt I j ((31 - j) / 2)) (prAt I j ((31 - j) / 2))

/-- Another tile is as it was. -/
theorem slab_put_ne (x : Vec F S1x32x96x512 .f32) {n n' : Fin 32} (h : n' ≠ n) (w : Vec F S1x1x96x512 .f32) : slabQ (putQ x n w) n' = slabQ x n' :=
  VecWindow.window_put_of_disjoint x _ _ _ _ _ w 1 (by
    have : n'.val ≠ n.val := fun e => h (Fin.ext e)
    show n'.val + 1 ≤ n.val ∨ n.val + 1 ≤ n'.val; omega)

/-! ## Loads and stores as values -/

section Loads
variable {κ : Kind} {sp : Space} {e : EltTy}

theorem readQ {v : View sig κ sp S1x32x96x512 e} {f : v.ty.Contents (Elt F)} {x : Vec F S1x32x96x512 e} (hx : v.read (Elt F) f = x) {off : Fin 4 → ℕ} (inb) (n : Fin 32)
    (h : off = ![0, n.val, 0, 0]) : v.readAt (Elt F) (Rect.unit (s := S1x32x96x512) off S1x1x96x512.size inb).toLoadRect f = slabQ x n := by
  rw [View.readAt_unit v f inb h, hx]; rfl
theorem readO {v : View sig κ sp S1x32x64x512 e} {f : v.ty.Contents (Elt F)} {x : Vec F S1x32x64x512 e} (hx : v.read (Elt F) f = x) {off : Fin 4 → ℕ} (inb) (n : Fin 32)
    (h : off = ![0, n.val, 0, 0]) : v.readAt (Elt F) (Rect.unit (s := S1x32x64x512) off S1x1x64x512.size inb).toLoadRect f = slabO x n := by
  rw [View.readAt_unit v f inb h, hx]; rfl
theorem readR {v : View sig κ sp S1x32x1x512 e} {f : v.ty.Contents (Elt F)} {x : Vec F S1x32x1x512 e} (hx : v.read (Elt F) f = x) {off : Fin 4 → ℕ} (inb) (n : Fin 32)
    (h : off = ![0, n.val, 0, 0]) : v.readAt (Elt F) (Rect.unit (s := S1x32x1x512) off S1x1x1x512.size inb).toLoadRect f = slabR x n := by
  rw [View.readAt_unit v f inb h, hx]; rfl
theorem readLo {v : View sig κ sp S512x512 .f32} {f : v.ty.Contents (Elt F)} {x : Vec F S512x512 .f32} (hx : v.read (Elt F) f = x) (inb) :
    v.readAt (Elt F) (Rect.unit (s := S512x512) ![0, 0] S256x512.size inb).toLoadRect f = lo x := by
  rw [View.readAt_unit v f inb rfl, hx]; rfl
theorem readHi {v : View sig κ sp S512x512 .f32} {f : v.ty.Contents (Elt F)} {x : Vec F S512x512 .f32} (hx : v.read (Elt F) f = x) (inb) :
    v.readAt (Elt F) (Rect.unit (s := S512x512) ![256, 0] S256x512.size inb).toLoadRect f = hi x := by
  rw [View.readAt_unit v f inb rfl, hx]; rfl
theorem readKtLo {v : View sig κ sp S1x1x96x512 .bf16} {f : v.ty.Contents (Elt F)} {x : Vec F S1x1x96x512 .bf16} (hx : v.read (Elt F) f = x) (inb) :
    v.readAt (Elt F) (Rect.unit (s := S1x1x96x512) ![0, 0, 0, 0] S1x1x96x256.size inb).toLoadRect f = ktLo x := by
  rw [View.readAt_unit v f inb rfl, hx]; rfl
theorem readKtHi {v : View sig κ sp S1x1x96x512 .bf16} {f : v.ty.Contents (Elt F)} {x : Vec F S1x1x96x512 .bf16} (hx : v.read (Elt F) f = x) (inb) :
    v.readAt (Elt F) (Rect.unit (s := S1x1x96x512) ![0, 0, 0, 256] S1x1x96x256.size inb).toLoadRect f = ktHi x := by
  rw [View.readAt_unit v f inb rfl, hx]; rfl
theorem readFull {s : Shape} {v : View sig κ sp s e} {f : v.ty.Contents (Elt F)} {x : Vec F s e} (hx : v.read (Elt F) f = x) {off : Fin s.rank → ℕ} (inb) :
    v.readAt (Elt F) (Rect.unit (s := s) off s.size inb).toLoadRect f = x := by
  rw [View.readAt_full v f inb, hx]
/-- A half of a tile just stored whole. -/
theorem covLo (v : View sig κ sp S512x512 .f32) (x : Vec F S512x512 .f32) (inb') (inb) :
    v.readCov [⟨Rect.unit (s := S512x512) ![0, 0] S512x512.size inb', x⟩] (Rect.unit (s := S512x512) ![0, 0] S256x512.size inb).toLoadRect = lo x :=
  readLo (View.read_writes_full v _ inb' x []) inb
theorem covHi (v : View sig κ sp S512x512 .f32) (x : Vec F S512x512 .f32) (inb') (inb) :
    v.readCov [⟨Rect.unit (s := S512x512) ![0, 0] S512x512.size inb', x⟩] (Rect.unit (s := S512x512) ![256, 0] S256x512.size inb).toLoadRect = hi x :=
  readHi (View.read_writes_full v _ inb' x []) inb
/-- A tile stored over whatever was stored before. -/
theorem storeQ (v : View sig κ sp S1x32x96x512 .f32) (f : v.ty.Contents (Elt F)) {off : Fin 4 → ℕ} (inb) (w : Vec F S1x1x96x512 .f32) (L) (n : Fin 32)
    (h : off = ![0, n.val, 0, 0]) : v.read (Elt F) (v.writes (Elt F) f (⟨Rect.unit (s := S1x32x96x512) off S1x1x96x512.size inb, w⟩ :: L))
      = putQ (v.read (Elt F) (v.writes (Elt F) f L)) n w :=
  View.read_writes_cons_put v f inb w L h

end Loads

end Cert.FlashIdeal.Hand
-- ==== Proof.FlashIdealTrip.lean ====
/-
  One trip of the attention backward's loop, run once at a symbolic trip: it takes the buffers from the state before
  it to the state after it, as `trip` names them.
-/
module

public import proofs.«01_k».proof.Proof.FlashIdealTile
public import proofs.«01_k».proof.Proof.Gen.FlashIdeal.Frame

@[expose] public section

set_option maxRecDepth 16384

noncomputable section

namespace Cert.FlashIdeal.Hand

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

variable (c : Dev nD) (i : grid0.Coords)
  (arg2 : Memref sig .tc .vmem S1x32x96x512 .bf16) (harg2 : arg2.IsWhole)
  (arg3 : Memref sig .tc .vmem S1x512x96 .bf16) (harg3 : arg3.IsWhole)
  (arg4 : Memref sig .tc .vmem S1x1x96x512 .bf16) (harg4 : arg4.IsWhole)
  (arg5 : Memref sig .tc .vmem S1x512x64 .bf16) (harg5 : arg5.IsWhole)
  (arg6 : Memref sig .tc .vmem S1x32x64x512 .f32) (harg6 : arg6.IsWhole)
  (arg7 : Memref sig .tc .vmem S1x32x1x512 .f32) (harg7 : arg7.IsWhole)
  (arg8 : Memref sig .tc .vmem S1x32x1x512 .f32) (harg8 : arg8.IsWhole)
  (arg9 : Memref sig .tc .vmem S1x32x96x512 .f32) (harg9 : arg9.IsWhole)
  (arg10 : Memref sig .tc .vmem S1x1x96x512 .f32) (harg10 : arg10.IsWhole)
  (arg11 : Memref sig .tc .vmem S1x1x64x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (arg15 : Memref sig .tc .vmem S512x512 .f32) (harg15 : arg15.IsWhole)

/-- The inputs' buffers at a grid point. -/
abbrev ins (I : Ins F) : sProp 𝕄 :=
  iprop(owns (c : Thread nD τ) arg2 fullShare I.q ∗ owns (c : Thread nD τ) arg3 fullShare I.k ∗ owns (c : Thread nD τ) arg4 fullShare I.kt ∗ owns (c : Thread nD τ) arg5 fullShare I.v ∗ owns (c : Thread nD τ) arg6 fullShare I.o ∗ owns (c : Thread nD τ) arg7 fullShare I.l ∗ owns (c : Thread nD τ) arg8 fullShare I.d)

/-- The buffers the loop touches, between trips. -/
abbrev held (I : Ins F) (dq : Vec F S1x32x96x512 .f32) (s p : Vec F S512x512 .f32) : sProp 𝕄 :=
  iprop(ins c arg2 arg3 arg4 arg5 arg6 arg7 arg8 I ∗ owns (c : Thread nD τ) arg9 fullShare dq
    ∗ owns (c : Thread nD τ) arg12 fullShare s ∗ owns (c : Thread nD τ) arg13 fullShare p
    ∗ (∃ x, owns (c : Thread nD τ) arg14 fullShare x) ∗ (∃ x, owns (c : Thread nD τ) arg15 fullShare x))

omit [FloatOps F] [Named F] in
/-- A buffer at contents that read `x` is owned at `x`. -/
theorem own_of {sp : Space} {s : Shape} {e : EltTy} {a : Memref sig .tc sp s e} {f : Buf (Elt F) (a.view.loc (c : Thread nD τ))} {x : Vec F s e}
    (h : a.view.read (Elt F) f = x) :
    iprop(a.view.loc (c : Thread nD τ) ↦[a.view.set]{fullShare} f) ⊢
      (iprop(∃ f', ⌜a.view.read (Elt F) f' = x⌝ ∗ a.view.loc (c : Thread nD τ) ↦[a.view.set]{fullShare} f') : sProp 𝕄) := by
  iintro H; iexists f; isplitr; · ipureintro; exact h
  iexact H

set_option maxHeartbeats 2000000 in
theorem trip_wp (arg1 v3 c2_i32 v26 v28 c0_i32_19 : BitVec 32) (k : Fin (k0_t1_loop i).trips) (I : Ins F) (s p : Vec F S512x512 .f32) (x : St F) :
    held c arg2 arg3 arg4 arg5 arg6 arg7 arg8 arg9 arg12 arg13 arg14 arg15 I x.dq s p
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 k (x.dk, x.dv))
        (fun r => iprop(⌜r = ((trip I (tix ((i 1).val + 1 + 2 * k.val)) (tix ((i 1).val + 2 + 2 * k.val)) s p x).dk,
            (trip I (tix ((i 1).val + 1 + 2 * k.val)) (tix ((i 1).val + 2 + 2 * k.val)) s p x).dv)⌝
          ∗ held c arg2 arg3 arg4 arg5 arg6 arg7 arg8 arg9 arg12 arg13 arg14 arg15 I
            (trip I (tix ((i 1).val + 1 + 2 * k.val)) (tix ((i 1).val + 2 + 2 * k.val)) s p x).dq
            (scA I (tix (next (i 1).val k.val))) (prA I (tix (next (i 1).val k.val))))) := by
  unfold k0_t1_body
  simp only [k0_part1_eq_skeleton, k0_part2_eq_skeleton, k0_part3_eq_skeleton, k0_part4_eq_skeleton, k0_part5_eq_skeleton]
  unfold held ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, ⟨%f9, %h9, H9⟩, ⟨%f12, %h12, H12⟩, ⟨%f13, %h13, H13⟩, ⟨%x14, %f14, -, H14⟩, ⟨%x15, %f15, -, H15⟩⟩
  sl_exec
  sl_step
  have hk : (i 1).val + 2 + 2 * k.val < 32 := by have := trips1 i; have := k.isLt; omega
  have a3 : k0_off3 i k = ![0, (tix ((i 1).val + 2 + 2 * k.val)).val, 0, 0] := by rw [k0_off3_eq]; simp [Nat.mod_eq_of_lt hk]
  have a4 : k0_off4 i k = ![0, (tix ((i 1).val + 2 + 2 * k.val)).val, 0, 0] := by rw [k0_off4_eq]; simp [Nat.mod_eq_of_lt hk]
  have a10 : k0_off10 i k = ![0, (tix ((i 1).val + 2 + 2 * k.val)).val, 0, 0] := by rw [k0_off10_eq]; simp [Nat.mod_eq_of_lt hk]
  have hk' : (i 1).val + 1 + 2 * k.val < 32 := by omega
  have a5 : k0_off5 i k = ![0, (tix ((i 1).val + 1 + 2 * k.val)).val, 0, 0] := by rw [k0_off5_eq]; simp [Nat.mod_eq_of_lt hk']
  have a6 : k0_off6 i k = ![0, (tix ((i 1).val + 1 + 2 * k.val)).val, 0, 0] := by rw [k0_off6_eq]; simp [Nat.mod_eq_of_lt hk']
  have a7 : k0_off7 i k = ![0, (tix ((i 1).val + 1 + 2 * k.val)).val, 0, 0] := by rw [k0_off7_eq]; simp [Nat.mod_eq_of_lt hk']
  have hn : next (i 1).val k.val < 32 := by unfold next; split <;> omega
  have a8 : k0_off8 i k = ![0, (tix (next (i 1).val k.val)).val, 0, 0] := by rw [k0_off8_eq]; simp [Nat.mod_eq_of_lt hn]
  have a9 : k0_off9 i k = ![0, (tix (next (i 1).val k.val)).val, 0, 0] := by rw [k0_off9_eq]; simp [Nat.mod_eq_of_lt hn]
  sl_unfold_run_names
  have e23 := readQ h2 (k0_off3_inb i k) _ a3
  have e27 := readQ h2 (k0_off7_inb i k) _ a7
  have e28 := readQ h2 (k0_off8_inb i k) _ a8
  have e64 := readO h6 (k0_off4_inb i k) _ a4
  have e65 := readO h6 (k0_off5_inb i k) _ a5
  have e69 := readO h6 (k0_off9_inb i k) _ a9
  have e76 := readR h7 (k0_off6_inb i k) _ a6
  have e86 := readR h8 (k0_off6_inb i k) _ a6
  have e710 := readR h7 (k0_off10_inb i k) _ a10
  have e810 := readR h8 (k0_off10_inb i k) _ a10
  have e97 := readQ h9 (k0_off7_inb i k) _ a7
  have e93 := readQ h9 (k0_off3_inb i k) _ a3
  simp only [e23, e27, e28, e64, e65, e69, e76, e86, e710, e810, e97, e93, readLo h12, readHi h12, readLo h13, readHi h13,
    readKtLo h4, readKtHi h4, readFull h3, readFull h5, covLo, covHi]
  rw [covLo arg14.view (k0_pay3 I.k (slabQ I.q (tix ((i 1).val + 2 + 2 * k.val)))) inb_S512x512_S512x512_0_0 inb_S512x512_S256x512_0_0,
    covHi arg14.view (k0_pay3 I.k (slabQ I.q (tix ((i 1).val + 2 + 2 * k.val)))) inb_S512x512_S512x512_0_0 inb_S512x512_S256x512_256_0,
    covLo arg15.view (k0_pay4 I.v (slabO I.o (tix ((i 1).val + 2 + 2 * k.val)))) inb_S512x512_S512x512_0_0 inb_S512x512_S256x512_0_0,
    covHi arg15.view (k0_pay4 I.v (slabO I.o (tix ((i 1).val + 2 + 2 * k.val)))) inb_S512x512_S512x512_0_0 inb_S512x512_S256x512_256_0]
  isplitr
  · ipureintro; rfl
  isplitl [H2 H3 H4 H5 H6 H7 H8]
  · isplitl [H2]; · iapply (own_of c h2); iexact H2
    isplitl [H3]; · iapply (own_of c h3); iexact H3
    isplitl [H4]; · iapply (own_of c h4); iexact H4
    isplitl [H5]; · iapply (own_of c h5); iexact H5
    isplitl [H6]; · iapply (own_of c h6); iexact H6
    isplitl [H7]; · iapply (own_of c h7); iexact H7
    iapply (own_of c h8); iexact H8
  isplitl [H9]
  · iapply (own_of c ?_)
    swap; · iexact H9
    refine (storeQ _ _ _ _ _ _ a3).trans ?_
    rw [storeQ _ _ _ _ _ _ a7, View.writes_nil, h9]; rfl
  isplitl [H12]; · iapply (own_of c (View.read_writes_full _ _ _ _ _)); iexact H12
  isplitl [H13]; · iapply (own_of c (View.read_writes_full _ _ _ _ _)); iexact H13
  isplitl [H14]
  · iexists _; iapply (own_of c rfl); iexact H14
  · iexists _; iapply (own_of c rfl); iexact H15

end Cert.FlashIdeal.Hand
-- ==== Proof.FlashIdealTail.lean ====
/-
  The attention backward's loop and what follows it at a grid point: the loop by its invariant (the state `st` before
  each trip), the tail in its two forms, the diagonal tile alone or after the tile left over.
-/
module

public import proofs.«01_k».proof.Proof.FlashIdealTrip
public import proofs.«01_k».proof.Proof.Gen.FlashIdeal.Frame

@[expose] public section

set_option maxRecDepth 16384

noncomputable section

namespace Cert.FlashIdeal.Hand

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

variable (c : Dev nD) (i : grid0.Coords)
  (arg2 : Memref sig .tc .vmem S1x32x96x512 .bf16) (harg2 : arg2.IsWhole)
  (arg3 : Memref sig .tc .vmem S1x512x96 .bf16) (harg3 : arg3.IsWhole)
  (arg4 : Memref sig .tc .vmem S1x1x96x512 .bf16) (harg4 : arg4.IsWhole)
  (arg5 : Memref sig .tc .vmem S1x512x64 .bf16) (harg5 : arg5.IsWhole)
  (arg6 : Memref sig .tc .vmem S1x32x64x512 .f32) (harg6 : arg6.IsWhole)
  (arg7 : Memref sig .tc .vmem S1x32x1x512 .f32) (harg7 : arg7.IsWhole)
  (arg8 : Memref sig .tc .vmem S1x32x1x512 .f32) (harg8 : arg8.IsWhole)
  (arg9 : Memref sig .tc .vmem S1x32x96x512 .f32) (harg9 : arg9.IsWhole)
  (arg10 : Memref sig .tc .vmem S1x1x96x512 .f32) (harg10 : arg10.IsWhole)
  (arg11 : Memref sig .tc .vmem S1x1x64x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (arg15 : Memref sig .tc .vmem S512x512 .f32) (harg15 : arg15.IsWhole)

variable (arg1 v3 c2_i32 v26 v28 c0_i32_19 : BitVec 32) (I : Ins F)

/-- The state at the loop's end. -/
abbrev stEnd (dq : Vec F S1x32x96x512 .f32) : St F := st I (i 1).val ⟨dq, k0_pay110, k0_pay111⟩ ((31 - (i 1).val) / 2)

/-- The loop, from the buffers as the first tile's issue leaves them. -/
theorem loop_wp (dq : Vec F S1x32x96x512 .f32) :
    held c arg2 arg3 arg4 arg5 arg6 arg7 arg8 arg9 arg12 arg13 arg14 arg15 I dq (scAt I (i 1).val 0) (prAt I (i 1).val 0)
      ⊢ wp frame (wpE (defs₀ (F := F)) Variants.none (c : Thread nD τ) none) Set.univ
        (Scf.Loop.for (k0_t1_loop i) (k0_t1_ok i) (k0_pay110 (F := F), k0_pay111 (F := F)) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19))
        (fun r => iprop(⌜r = ((stEnd i I dq).dk, (stEnd i I dq).dv)⌝
          ∗ held c arg2 arg3 arg4 arg5 arg6 arg7 arg8 arg9 arg12 arg13 arg14 arg15 I (stEnd i I dq).dq (scAt I (i 1).val ((31 - (i 1).val) / 2)) (prAt I (i 1).val ((31 - (i 1).val) / 2)))) := by
  dsimp only [stEnd]
  rw [← trips1 i]
  let inv (k : ℕ) (acc : FVec F S96x512 .f32 × FVec F S64x512 .f32) : sProp 𝕄 :=
    iprop(⌜acc = ((st I (i 1).val ⟨dq, k0_pay110, k0_pay111⟩ k).dk, (st I (i 1).val ⟨dq, k0_pay110, k0_pay111⟩ k).dv)⌝
      ∗ held c arg2 arg3 arg4 arg5 arg6 arg7 arg8 arg9 arg12 arg13 arg14 arg15 I (st I (i 1).val ⟨dq, k0_pay110, k0_pay111⟩ k).dq (scAt I (i 1).val k) (prAt I (i 1).val k))
  have hstep (k : Fin (k0_t1_loop i).trips) (acc : FVec F S96x512 .f32 × FVec F S64x512 .f32) :
      inv k.val acc ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 k acc) (inv (k.val + 1)) := by
    iintro ⟨%e, H⟩
    subst e
    iapply (trip_wp c i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 k I (scAt I (i 1).val k.val) (prAt I (i 1).val k.val) (st I (i 1).val ⟨dq, k0_pay110, k0_pay111⟩ k.val))
    iexact H
  iintro H
  iapply (Scf.wp_for frame (wpE (defs₀ (F := F)) Variants.none (c : Thread nD τ) none) Set.univ _ _ _ (k0_t1_ok i) _ _ inv hstep)
  isplitl [H]
  · isplitr; · ipureintro; rfl
    iexact H
  · iintro %acc H
    iexact H

set_option maxHeartbeats 2000000 in
/-- The loop and the tail. -/
theorem part18_wp (dq : Vec F S1x32x96x512 .f32) :
    held c arg2 arg3 arg4 arg5 arg6 arg7 arg8 arg9 arg12 arg13 arg14 arg15 I dq (scAt I (i 1).val 0) (prAt I (i 1).val 0)
      ⊢ wp frame (wpE (defs₀ (F := F)) Variants.none (c : Thread nD τ) none) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19)
        (fun r => iprop(⌜r = ⟨(point I (i 1).val dq).dv, k0_pay125 (point I (i 1).val dq).dk⟩⌝
          ∗ ∃ s p, held c arg2 arg3 arg4 arg5 arg6 arg7 arg8 arg9 arg12 arg13 arg14 arg15 I (point I (i 1).val dq).dq s p)) := by
  rw [k0_part18_eq_skeleton]; unfold k0_part18_skel; dsimp only
  rw [wp_bind]
  iintro H
  iapply (wp_wand_r frame (wpE (defs₀ (F := F)) Variants.none (c : Thread nD τ) none) Set.univ)
  isplitl [H]; · iapply (loop_wp c i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 I dq); iexact H
  iintro %r ⟨%e, H⟩
  subst e
  dsimp only
  rw [wp_bind]
  let inv (k : ℕ) (acc : FVec F S96x512 .f32 × FVec F S64x512 .f32) : sProp 𝕄 :=
    iprop(⌜acc = ((stEnd i I dq).dk, (stEnd i I dq).dv)⌝
      ∗ held c arg2 arg3 arg4 arg5 arg6 arg7 arg8 arg9 arg12 arg13 arg14 arg15 I (stEnd i I dq).dq (scAt I (i 1).val ((31 - (i 1).val) / 2)) (prAt I (i 1).val ((31 - (i 1).val) / 2)))
  iapply (wp_wand_r frame (wpE (defs₀ (F := F)) Variants.none (c : Thread nD τ) none) Set.univ)
  isplitl [H]
  · iapply (Scf.wp_for frame (wpE (defs₀ (F := F)) Variants.none (c : Thread nD τ) none) Set.univ _ _ _ (k0_t2_ok i) _ _ inv
      (fun k _ => (Nat.not_lt_zero _ (Nat.lt_of_lt_of_eq k.isLt (trips2 i))).elim))
    isplitl [H]
    · isplitr; · ipureintro; rfl
      iexact H
    · iintro %acc H
      iexact H
  iintro %r ⟨%e, H⟩
  subst e
  dsimp only
  unfold point
  irevert H
  dsimp only [stEnd]
  generalize st I (i 1).val ⟨dq, k0_pay110, k0_pay111⟩ ((31 - (i 1).val) / 2) = x
  generalize scAt I (i 1).val ((31 - (i 1).val) / 2) = s
  generalize prAt I (i 1).val ((31 - (i 1).val) / 2) = p
  have hj : (i 1).val < 32 := (i 1).isLt
  have a24 : k0_off24 i = ![0, (tix (i 1).val).val, 0, 0] := by rw [k0_off24_eq]; simp [Nat.mod_eq_of_lt hj]
  have a23 : k0_off23 i = ![0, (tix (i 1).val).val, 0, 0] := by rw [k0_off23_eq]; simp [Nat.mod_eq_of_lt hj]
  have a22 : k0_off22 i = ![0, (tix (i 1).val).val, 0, 0] := by rw [k0_off22_eq]; simp [Nat.mod_eq_of_lt hj]
  have a21 : k0_off21 i = ![0, (tix (i 1).val).val, 0, 0] := by rw [k0_off21_eq]; simp [Nat.mod_eq_of_lt hj]
  have a20 : k0_off20 i = ![0, (tix (i 1).val).val, 0, 0] := by rw [k0_off20_eq]; simp [Nat.mod_eq_of_lt hj]
  have a19 : k0_off19 i = ![0, (tix (i 1).val).val, 0, 0] := by rw [k0_off19_eq]; simp [Nat.mod_eq_of_lt hj]
  have a31 : (![0, 31, 0, 0] : Fin 4 → ℕ) = ![0, (tix 31).val, 0, 0] := rfl
  simp only [k0_part11_eq_skeleton, k0_part12_eq_skeleton, k0_part13_eq_skeleton, k0_part14_eq_skeleton, k0_part15_eq_skeleton, k0_part16_eq_skeleton]
  unfold held ins owns
  by_cases hc : k0_cond2 i = 1#1
  · have hp := (k0_cond2_iff i).mp hc
    have ht : tail I (i 1).val x s p = ⟨putQ x.dq (tix (i 1).val) (dqE I (tix (i 1).val) s p (slabQ x.dq (tix (i 1).val))),
        dkE I (tix (i 1).val) s p x.dk, dvE I (tix (i 1).val) s x.dv⟩ := if_pos hp
    rw [ht, dif_pos hc]
    iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, ⟨%f9, %h9, H9⟩, ⟨%f12, %h12, H12⟩, ⟨%f13, %h13, H13⟩, ⟨%x14, %f14, -, H14⟩, ⟨%x15, %f15, -, H15⟩⟩
    sl_exec
    sl_step
    sl_unfold_run_names
    simp only [readQ h2 (k0_off21_inb i hc) _ a21, readO h6 (k0_off19_inb i hc) _ a19, readR h7 (k0_off20_inb i hc) _ a20,
      readR h8 (k0_off20_inb i hc) _ a20, readQ h9 (k0_off21_inb i hc) _ a21, readLo h12, readHi h12, readLo h13, readHi h13, readKtLo h4, readKtHi h4]
    isplitr
    · ipureintro; rfl
    iexists s; iexists p
    isplitl [H2 H3 H4 H5 H6 H7 H8]
    · isplitl [H2]; · iapply (own_of c h2); iexact H2
      isplitl [H3]; · iapply (own_of c h3); iexact H3
      isplitl [H4]; · iapply (own_of c h4); iexact H4
      isplitl [H5]; · iapply (own_of c h5); iexact H5
      isplitl [H6]; · iapply (own_of c h6); iexact H6
      isplitl [H7]; · iapply (own_of c h7); iexact H7
      iapply (own_of c h8); iexact H8
    isplitl [H9]
    · iapply (own_of c ?_)
      swap; · iexact H9
      rw [storeQ _ _ _ _ _ _ a21, View.writes_nil, h9]; rfl
    isplitl [H12]; · iapply (own_of c h12); iexact H12
    isplitl [H13]; · iapply (own_of c h13); iexact H13
    isplitl [H14]
    · iexists _; iapply (own_of c rfl); iexact H14
    · iexists _; iapply (own_of c rfl); iexact H15

  · have hp : ¬ (31 - (i 1).val) % 2 = 0 := fun h => hc ((k0_cond2_iff i).mpr h)
    have ht : tail I (i 1).val x s p = ⟨putQ (putQ x.dq (tix 31) (dqL I (tix 31) s p (slabQ x.dq (tix 31)))) (tix (i 1).val)
        (dqD I (tix (i 1).val) (scT I (tix (i 1).val)) (prT I (tix (i 1).val)) (slabQ x.dq (tix (i 1).val))),
      dkD I (tix (i 1).val) (scT I (tix (i 1).val)) (prT I (tix (i 1).val)) (dkL I (tix 31) s p x.dk),
      dvD I (tix (i 1).val) (scT I (tix (i 1).val)) (dvL I (tix 31) s x.dv)⟩ := if_neg hp
    have h31 : (i 1).val < 31 := by omega
    rw [ht, dif_neg hc]
    iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, ⟨%f9, %h9, H9⟩, ⟨%f12, %h12, H12⟩, ⟨%f13, %h13, H13⟩, ⟨%x14, %f14, -, H14⟩, ⟨%x15, %f15, -, H15⟩⟩
    sl_exec
    sl_step
    sl_unfold_run_names
    simp only [readQ h2 (k0_off22_inb i hc) _ a22, readO h6 (k0_off23_inb i hc) _ a23, readR h7 (k0_off24_inb i hc) _ a24,
      readR h8 (k0_off24_inb i hc) _ a24, readQ h9 (k0_off22_inb i hc) _ a22, readLo h12, readHi h12, readLo h13, readHi h13, readKtLo h4, readKtHi h4,
      readQ h2 _ _ a31, readO h6 _ _ a31, readR h7 _ _ a31, readR h8 _ _ a31, readQ h9 _ _ a31, readFull h3, readFull h5]
    have e9 (w : Vec F S1x1x96x512 .f32) : arg9.view.readAt (Elt F) (Rect.unit (s := S1x32x96x512) (k0_off22 i) S1x1x96x512.size (k0_off22_inb i hc)).toLoadRect
        (arg9.view.writes (Elt F) f9 [⟨Rect.unit (s := S1x32x96x512) ![0, 31, 0, 0] S1x1x96x512.size inb_S1x32x96x512_S1x1x96x512_0_31_0_0, w⟩])
          = slabQ x.dq (tix (i 1).val) := by
      rw [readQ (storeQ arg9.view f9 _ w [] _ a31) _ _ a22, View.writes_nil, h9]
      refine slab_put_ne _ (fun e => ?_) _
      have := congrArg Fin.val e
      simp [Nat.mod_eq_of_lt hj] at this; omega
    rw [e9]
    rw [covLo arg14.view (k0_pay81 I.k (slabQ I.q (tix (i 1).val))) inb_S512x512_S512x512_0_0 inb_S512x512_S256x512_0_0,
      covHi arg14.view (k0_pay81 I.k (slabQ I.q (tix (i 1).val))) inb_S512x512_S512x512_0_0 inb_S512x512_S256x512_256_0,
      covLo arg15.view (k0_pay82 I.v (slabO I.o (tix (i 1).val))) inb_S512x512_S512x512_0_0 inb_S512x512_S256x512_0_0,
      covHi arg15.view (k0_pay82 I.v (slabO I.o (tix (i 1).val))) inb_S512x512_S512x512_0_0 inb_S512x512_S256x512_256_0]
    isplitr
    · ipureintro; rfl
    iexists s; iexists p
    isplitl [H2 H3 H4 H5 H6 H7 H8]
    · isplitl [H2]; · iapply (own_of c h2); iexact H2
      isplitl [H3]; · iapply (own_of c h3); iexact H3
      isplitl [H4]; · iapply (own_of c h4); iexact H4
      isplitl [H5]; · iapply (own_of c h5); iexact H5
      isplitl [H6]; · iapply (own_of c h6); iexact H6
      isplitl [H7]; · iapply (own_of c h7); iexact H7
      iapply (own_of c h8); iexact H8
    isplitl [H9]
    · iapply (own_of c ?_)
      swap; · iexact H9
      rw [storeQ _ _ _ _ _ _ a22, storeQ _ _ _ _ _ _ a31, View.writes_nil, h9]; rfl
    isplitl [H12]; · iapply (own_of c h12); iexact H12
    isplitl [H13]; · iapply (own_of c h13); iexact H13
    isplitl [H14]
    · iexists _; iapply (own_of c rfl); iexact H14
    · iexists _; iapply (own_of c rfl); iexact H15

end Cert.FlashIdeal.Hand
-- ==== Proof.FlashIdealBody.lean ====
/-
  The attention backward's kernel at one grid point: its issue of the first tile (and, at a head's first key block,
  the zeros it starts the queries' gradient from), the loop and its tail, the two stores of the block's gradients.
-/
module

public import proofs.«01_k».proof.Proof.FlashIdealTail
public import proofs.«01_k».proof.Proof.Gen.FlashIdeal.Frame

@[expose] public section

set_option maxRecDepth 16384

noncomputable section

namespace Cert.FlashIdeal.Hand

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat)

variable {F : FTy → Type} [FloatOps F] [Named F]

local notation "𝕄" => MT nD τ sig Unit (Elt F) ℕ (UR sig nD τ) ℕ

variable (c : Dev nD) (i : grid0.Coords)
  (arg2 : Memref sig .tc .vmem S1x32x96x512 .bf16) (harg2 : arg2.IsWhole)
  (arg3 : Memref sig .tc .vmem S1x512x96 .bf16) (harg3 : arg3.IsWhole)
  (arg4 : Memref sig .tc .vmem S1x1x96x512 .bf16) (harg4 : arg4.IsWhole)
  (arg5 : Memref sig .tc .vmem S1x512x64 .bf16) (harg5 : arg5.IsWhole)
  (arg6 : Memref sig .tc .vmem S1x32x64x512 .f32) (harg6 : arg6.IsWhole)
  (arg7 : Memref sig .tc .vmem S1x32x1x512 .f32) (harg7 : arg7.IsWhole)
  (arg8 : Memref sig .tc .vmem S1x32x1x512 .f32) (harg8 : arg8.IsWhole)
  (arg9 : Memref sig .tc .vmem S1x32x96x512 .f32) (harg9 : arg9.IsWhole)
  (arg10 : Memref sig .tc .vmem S1x1x96x512 .f32) (harg10 : arg10.IsWhole)
  (arg11 : Memref sig .tc .vmem S1x1x64x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (arg15 : Memref sig .tc .vmem S512x512 .f32) (harg15 : arg15.IsWhole)

/-- Whether the point is a head's first key block, as the kernel asks it. -/
abbrev isFirst : Prop := Scalar.cmpi .ne (Scalar.extui (Scalar.cmpi .eq (BitVec.ofNat 32 (i 1).val) 0#32) : BitVec 32) 0#32 = 1#1
theorem isFirst_iff : ∀ i : grid0.Coords, isFirst i ↔ (i 1).val = 0 := by decide +kernel

set_option maxHeartbeats 2000000 in
/-- The start of a head's first key block: the queries' gradient at zero. -/
theorem part17_first (hc : isFirst i) (I : Ins F) :
    iprop(ins c arg2 arg3 arg4 arg5 arg6 arg7 arg8 I ∗ (∃ x, owns (c : Thread nD τ) arg9 fullShare x)
      ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x) )
      ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => held c arg2 arg3 arg4 arg5 arg6 arg7 arg8 arg9 arg12 arg13 arg14 arg15 I (k0_pay107 (F := F)) (scAt I (i 1).val 0) (prAt I (i 1).val 0)) := by
  have hf : first (i 1).val < 32 := by have : (i 1).val < 32 := (i 1).isLt; unfold first; split <;> omega
  have a1 : k0_off1 i = ![0, (tix (first (i 1).val)).val, 0, 0] := by rw [k0_off1_eq]; simp [Nat.mod_eq_of_lt hf]
  have a2 : k0_off2 i = ![0, (tix (first (i 1).val)).val, 0, 0] := by rw [k0_off2_eq]; simp [Nat.mod_eq_of_lt hf]
  rw [k0_part17_eq_skeleton]; unfold k0_part17_skel
  unfold held ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, ⟨%x9, %f9, -, H9⟩, ⟨%x12, %f12, -, H12⟩, ⟨%x13, %f13, -, H13⟩, ⟨%x14, %f14, -, H14⟩, ⟨%x15, %f15, -, H15⟩⟩
  sl_exec (disch := sl_exact hc)
  sl_step
  sl_unfold_run_names
  simp only [readQ h2 (k0_off1_inb i) _ a1, readO h6 (k0_off2_inb i) _ a2, readFull h3, readFull h5]
  isplitl [H2 H3 H4 H5 H6 H7 H8]
  · isplitl [H2]; · iapply (own_of c h2); iexact H2
    isplitl [H3]; · iapply (own_of c h3); iexact H3
    isplitl [H4]; · iapply (own_of c h4); iexact H4
    isplitl [H5]; · iapply (own_of c h5); iexact H5
    isplitl [H6]; · iapply (own_of c h6); iexact H6
    isplitl [H7]; · iapply (own_of c h7); iexact H7
    iapply (own_of c h8); iexact H8
  isplitl [H9]
  · iapply (own_of c ?_)
    swap; · iexact H9
    exact View.read_writes_full _ _ _ _ _
  isplitl [H12]; · iapply (own_of c (View.read_writes_full _ _ _ _ _)); iexact H12
  isplitl [H13]; · iapply (own_of c (View.read_writes_full _ _ _ _ _)); iexact H13
  isplitl [H14]
  · iexists _; iapply (own_of c rfl); iexact H14
  · iexists _; iapply (own_of c rfl); iexact H15

set_option maxHeartbeats 2000000 in
/-- The start of a later key block: the queries' gradient as the block before left it. -/
theorem part17_later (hc : ¬ isFirst i) (I : Ins F) (dq : Vec F S1x32x96x512 .f32) :
    iprop(ins c arg2 arg3 arg4 arg5 arg6 arg7 arg8 I ∗ owns (c : Thread nD τ) arg9 fullShare dq
      ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x) )
      ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => held c arg2 arg3 arg4 arg5 arg6 arg7 arg8 arg9 arg12 arg13 arg14 arg15 I dq (scAt I (i 1).val 0) (prAt I (i 1).val 0)) := by
  have hf : first (i 1).val < 32 := by have : (i 1).val < 32 := (i 1).isLt; unfold first; split <;> omega
  have a1 : k0_off1 i = ![0, (tix (first (i 1).val)).val, 0, 0] := by rw [k0_off1_eq]; simp [Nat.mod_eq_of_lt hf]
  have a2 : k0_off2 i = ![0, (tix (first (i 1).val)).val, 0, 0] := by rw [k0_off2_eq]; simp [Nat.mod_eq_of_lt hf]
  rw [k0_part17_eq_skeleton]; unfold k0_part17_skel
  unfold held ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, ⟨%f9, %h9, H9⟩, ⟨%x12, %f12, -, H12⟩, ⟨%x13, %f13, -, H13⟩, ⟨%x14, %f14, -, H14⟩, ⟨%x15, %f15, -, H15⟩⟩
  sl_exec (disch := sl_exact hc)
  sl_step
  sl_unfold_run_names
  simp only [readQ h2 (k0_off1_inb i) _ a1, readO h6 (k0_off2_inb i) _ a2, readFull h3, readFull h5]
  isplitl [H2 H3 H4 H5 H6 H7 H8]
  · isplitl [H2]; · iapply (own_of c h2); iexact H2
    isplitl [H3]; · iapply (own_of c h3); iexact H3
    isplitl [H4]; · iapply (own_of c h4); iexact H4
    isplitl [H5]; · iapply (own_of c h5); iexact H5
    isplitl [H6]; · iapply (own_of c h6); iexact H6
    isplitl [H7]; · iapply (own_of c h7); iexact H7
    iapply (own_of c h8); iexact H8
  isplitl [H9]
  · iapply (own_of c ?_)
    swap; · iexact H9
    exact h9
  isplitl [H12]; · iapply (own_of c (View.read_writes_full _ _ _ _ _)); iexact H12
  isplitl [H13]; · iapply (own_of c (View.read_writes_full _ _ _ _ _)); iexact H13
  isplitl [H14]
  · iexists _; iapply (own_of c rfl); iexact H14
  · iexists _; iapply (own_of c rfl); iexact H15

/-- The buffers after the body: the queries' gradient so far, the block's own two gradients. -/
abbrev after (I : Ins F) (x : St F) : sProp 𝕄 :=
  iprop(ins c arg2 arg3 arg4 arg5 arg6 arg7 arg8 I ∗ owns (c : Thread nD τ) arg9 fullShare x.dq
    ∗ owns (c : Thread nD τ) arg10 fullShare (k0_pay1 (k0_pay125 x.dk)) ∗ owns (c : Thread nD τ) arg11 fullShare (k0_pay2 x.dv)
    ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x) )

set_option maxHeartbeats 2000000 in
/-- The body after the start. -/
theorem rest_wp (arg1 v3 c2_i32 v26 v28 c0_i32_19 : BitVec 32) (I : Ins F) (dq : Vec F S1x32x96x512 .f32) :
    iprop(held c arg2 arg3 arg4 arg5 arg6 arg7 arg8 arg9 arg12 arg13 arg14 arg15 I dq (scAt I (i 1).val 0) (prAt I (i 1).val 0)
      ∗ (∃ x, owns (c : Thread nD τ) arg10 fullShare x) ∗ (∃ x, owns (c : Thread nD τ) arg11 fullShare x))
      ⊢ wp frame (wpE (defs₀ (F := F)) Variants.none (c : Thread nD τ) none) Set.univ (do
        let r ← k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19
        let _ ← Prog.lift (.load arg10 (Rect.unit (s := S1x1x96x512) ![0, 0, 0, 0] S1x1x96x512.size inb_S1x1x96x512_S1x1x96x512_0_0_0_0).toLoadRect (View.loadsAt_vmem h_S1x1x96x512))
        Prog.lift (.store arg10 (Rect.unit (s := S1x1x96x512) ![0, 0, 0, 0] S1x1x96x512.size inb_S1x1x96x512_S1x1x96x512_0_0_0_0) (k0_pay1 r.2) Finset.univ (View.stores_vmem_bits_univ h_S1x1x96x512 rfl) (.inl rfl))
        let _ ← Prog.lift (.load arg11 (Rect.unit (s := S1x1x64x512) ![0, 0, 0, 0] S1x1x64x512.size inb_S1x1x64x512_S1x1x64x512_0_0_0_0).toLoadRect (View.loadsAt_vmem h_S1x1x64x512))
        Prog.lift (.store arg11 (Rect.unit (s := S1x1x64x512) ![0, 0, 0, 0] S1x1x64x512.size inb_S1x1x64x512_S1x1x64x512_0_0_0_0) (k0_pay2 r.1) Finset.univ (View.stores_vmem_bits_univ h_S1x1x64x512 rfl) (.inl rfl))
        pure (⟨⟩ : PUnit))
        (fun _ => after c arg2 arg3 arg4 arg5 arg6 arg7 arg8 arg9 arg10 arg11 arg12 arg13 arg14 arg15 I (point I (i 1).val dq)) := by
  iintro ⟨H, ⟨%x10, H10⟩, ⟨%x11, H11⟩⟩
  irw [wp_bind]
  iapply (wp_wand_r frame (wpE (defs₀ (F := F)) Variants.none (c : Thread nD τ) none) Set.univ)
  isplitl [H]; · iapply (part18_wp c i arg2 harg2 arg3 harg3 arg4 harg4 arg5 harg5 arg6 harg6 arg7 harg7 arg8 harg8 arg9 harg9 arg10 harg10 arg11 harg11 arg12 harg12 arg13 harg13 arg14 harg14 arg15 harg15 arg1 v3 c2_i32 v26 v28 c0_i32_19 I dq); iexact H
  iintro %r ⟨%e, ⟨%s, %p, H⟩⟩
  subst e
  irevert H10 H11 H
  unfold held after owns
  iintro ⟨%f10, -, H10⟩ ⟨%f11, -, H11⟩ ⟨Hi, H9, H12, H13, H14, H15⟩
  sl_exec
  sl_step
  isplitl [Hi]; · iexact Hi
  isplitl [H9]; · iexact H9
  isplitl [H10]; · iapply (own_of c (View.read_writes_full _ _ _ _ _)); iexact H10
  isplitl [H11]; · iapply (own_of c (View.read_writes_full _ _ _ _ _)); iexact H11
  isplitl [H12]; · iexists _; iexact H12
  isplitl [H13]; · iexists _; iexact H13
  isplitl [H14]; · iexact H14
  iexact H15

/-- The body at a head's first key block. -/
theorem body_first (hc : isFirst i) (I : Ins F) :
    iprop(ins c arg2 arg3 arg4 arg5 arg6 arg7 arg8 I ∗ (∃ x, owns (c : Thread nD τ) arg9 fullShare x)
      ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x)
      ∗ (∃ x, owns (c : Thread nD τ) arg10 fullShare x) ∗ (∃ x, owns (c : Thread nD τ) arg11 fullShare x))
      ⊢ wp frame (wpE (defs₀ (F := F)) Variants.none (c : Thread nD τ) none) Set.univ (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => after c arg2 arg3 arg4 arg5 arg6 arg7 arg8 arg9 arg10 arg11 arg12 arg13 arg14 arg15 I (point I (i 1).val (k0_pay107 (F := F)))) := by
  rw [cc0_flash_bwd_eq_skeleton]; unfold cc0_flash_bwd_skel
  iintro ⟨Hi, H9, H12, H13, H14, H15, H10, H11⟩
  irw [wp_bind]
  iapply (wp_wand_r frame (wpE (defs₀ (F := F)) Variants.none (c : Thread nD τ) none) Set.univ)
  isplitl [Hi H9 H12 H13 H14 H15]
  · iapply (part17_first c i arg2 harg2 arg3 harg3 arg4 harg4 arg5 harg5 arg6 harg6 arg7 harg7 arg8 harg8 arg9 harg9 arg10 harg10 arg11 harg11 arg12 harg12 arg13 harg13 arg14 harg14 arg15 harg15 hc I)
    isplitl [Hi]; · iexact Hi
    isplitl [H9]; · iexact H9
    isplitl [H12]; · iexact H12
    isplitl [H13]; · iexact H13
    isplitl [H14]; · iexact H14
    iexact H15
  iintro %r H
  iapply (rest_wp c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ I (k0_pay107 (F := F)))
  isplitl [H]; · iexact H
  isplitl [H10]; · iexact H10
  iexact H11

/-- The body at a later key block. -/
theorem body_later (hc : ¬ isFirst i) (I : Ins F) (dq : Vec F S1x32x96x512 .f32) :
    iprop(ins c arg2 arg3 arg4 arg5 arg6 arg7 arg8 I ∗ owns (c : Thread nD τ) arg9 fullShare dq
      ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x)
      ∗ (∃ x, owns (c : Thread nD τ) arg10 fullShare x) ∗ (∃ x, owns (c : Thread nD τ) arg11 fullShare x))
      ⊢ wp frame (wpE (defs₀ (F := F)) Variants.none (c : Thread nD τ) none) Set.univ (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => after c arg2 arg3 arg4 arg5 arg6 arg7 arg8 arg9 arg10 arg11 arg12 arg13 arg14 arg15 I (point I (i 1).val dq)) := by
  rw [cc0_flash_bwd_eq_skeleton]; unfold cc0_flash_bwd_skel
  iintro ⟨Hi, H9, H12, H13, H14, H15, H10, H11⟩
  irw [wp_bind]
  iapply (wp_wand_r frame (wpE (defs₀ (F := F)) Variants.none (c : Thread nD τ) none) Set.univ)
  isplitl [Hi H9 H12 H13 H14 H15]
  · iapply (part17_later c i arg2 harg2 arg3 harg3 arg4 harg4 arg5 harg5 arg6 harg6 arg7 harg7 arg8 harg8 arg9 harg9 arg10 harg10 arg11 harg11 arg12 harg12 arg13 harg13 arg14 harg14 arg15 harg15 hc I dq)
    isplitl [Hi]; · iexact Hi
    isplitl [H9]; · iexact H9
    isplitl [H12]; · iexact H12
    isplitl [H13]; · iexact H13
    isplitl [H14]; · iexact H14
    iexact H15
  iintro %r H
  iapply (rest_wp c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ I dq)
  isplitl [H]; · iexact H
  isplitl [H10]; · iexact H10
  iexact H11

end Cert.FlashIdeal.Hand
-- ==== Proof.FlashIdealRun.lean ====
/-
  The attention backward's run: what each buffer holds after each grid point, the body's obligation there, and from
  them that every execution ends with the arguments as they were.
-/
module

public import proofs.«01_k».proof.Proof.FlashIdealBody
public import proofs.«01_k».proof.Proof.Gen.FlashIdeal.Frame
public import Idealize.ShloMosaic.Lib.Claim

@[expose] public section

set_option maxRecDepth 16384

noncomputable section

namespace Cert.FlashIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The inner grid coordinate: the key block. -/
theorem key_coord : ∀ t : Fin cfg0.N, ((grid0.coords t) 1).val = t.val % 32 := by decide +kernel

/-- The inputs' blocks at a point. -/
def insAt (c : Dev nD) (t : Fin cfg0.N) : Ins F :=
  ⟨iblk m c 0 t, iblk m c 1 t, iblk m c 2 t, iblk m c 3 t, iblk m c 4 t, iblk m c 5 t, iblk m c 6 t⟩

/-- What the body has computed after point `n`: the queries' gradient goes on from the point before, but at a head's
    first key block. -/
def outsAt (c : Dev nD) : (n : ℕ) → n < cfg0.N → St F
  | 0, h => point (insAt m c ⟨0, h⟩) 0 k0_pay107
  | n + 1, h => point (insAt m c ⟨n + 1, h⟩) ((n + 1) % 32)
      (if (n + 1) % 32 = 0 then k0_pay107 else (outsAt c n (Nat.lt_of_succ_lt h)).dq)

theorem outsAt_first (c : Dev nD) (t : Fin cfg0.N) (h0 : t.val % 32 = 0) :
    outsAt m c t.val t.isLt = point (insAt m c t) (t.val % 32) k0_pay107 := by
  obtain ⟨n, h⟩ := t
  cases n with
  | zero => rfl
  | succ n => rw [outsAt, if_pos h0]

theorem outsAt_later (c : Dev nD) (t : Fin cfg0.N) (h0 : ¬ t.val % 32 = 0) :
    outsAt m c t.val t.isLt = point (insAt m c t) (t.val % 32) (outsAt m c (t.val - 1) (Nat.lt_of_le_of_lt (Nat.sub_le _ _) t.isLt)).dq := by
  obtain ⟨n, h⟩ := t
  cases n with
  | zero => exact absurd rfl h0
  | succ n => rw [outsAt, if_neg h0]; rfl

/-- The proof data: each input's buffer at its block; the queries' gradient so far and the key block's own two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).dq
    | ⟨8, _⟩ => k0_pay1 (k0_pay125 (outsAt m c t.val t.isLt).dk)
    | ⟨9, _⟩ => k0_pay2 (outsAt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window, and what it finds in the inputs' buffers. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t.val t.isLt).dq := by dsimp only [dats]
theorem after0_8 (c : Dev nD) (t : Fin cfg0.N) : (dats m 0 c).after 8 t = k0_pay1 (k0_pay125 (outsAt m c t.val t.isLt).dk) := by dsimp only [dats]
theorem after0_9 (c : Dev nD) (t : Fin cfg0.N) : (dats m 0 c).after 9 t = k0_pay2 (outsAt m c t.val t.isLt).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a later key block the queries' gradient is found as the block before left it. -/
theorem before0_7 (c : Dev nD) (t : Fin cfg0.N) (h0 : ¬t.val % 32 = 0) (d) :
    (dats m 0 c).before 7 t d = (outsAt m c (t.val - 1) (Nat.lt_of_le_of_lt (Nat.sub_le _ _) t.isLt)).dq := by
  have hN : t.val < 256 := lt_of_lt_of_eq t.isLt (show cfg0.N = 256 from N_0)
  rw [Dat.before_out_kept _ 7 rfl t (by omega) (Bool.eq_false_iff.mpr fun h => by have := (flush0_7 _).mp h; dsimp only at this; omega)
    (fun _ => rfl) (fun _ _ => rfl)]
  dsimp only [dats]

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The four scratch buffers, as owned memrefs, out of the region's invariant and back. -/
theorem scratch_open (c : Dev nD) : (Pipeline.ΦA (Val := Elt F) (U := UR sig nD τ) spec0 c : sProp 𝕄)
    ⊢ iprop((∃ x, owns (c : Thread nD τ) (Memref.whole cc0_scratch0) fullShare x) ∗ (∃ x, owns (c : Thread nD τ) (Memref.whole cc0_scratch1) fullShare x)
      ∗ (∃ x, owns (c : Thread nD τ) (Memref.whole cc0_scratch2) fullShare x) ∗ (∃ x, owns (c : Thread nD τ) (Memref.whole cc0_scratch3) fullShare x)
      ∗ ∃ r, prngReg c r) := by
  unfold Pipeline.ΦA; rw [scopedRest0_eq]; simp only [owns_whole]
  iintro ⟨⟨⟨%f0, H0⟩, ⟨%f1, H1⟩, ⟨%f2, H2⟩, ⟨%f3, H3⟩⟩, Hr⟩
  isplitl [H0]; · iexists f0; iexact H0
  isplitl [H1]; · iexists f1; iexact H1
  isplitl [H2]; · iexists f2; iexact H2
  isplitl [H3]; · iexists f3; iexact H3
  iexact Hr

theorem scratch_close (c : Dev nD) : iprop((∃ x, owns (c : Thread nD τ) (Memref.whole cc0_scratch0) fullShare x) ∗ (∃ x, owns (c : Thread nD τ) (Memref.whole cc0_scratch1) fullShare x)
      ∗ (∃ x, owns (c : Thread nD τ) (Memref.whole cc0_scratch2) fullShare x) ∗ (∃ x, owns (c : Thread nD τ) (Memref.whole cc0_scratch3) fullShare x)
      ∗ ∃ r, prngReg c r) ⊢ (Pipeline.ΦA (Val := Elt F) (U := UR sig nD τ) spec0 c : sProp 𝕄) := by
  unfold Pipeline.ΦA; rw [scopedRest0_eq]; simp only [owns_whole]
  iintro ⟨⟨%f0, H0⟩, ⟨%f1, H1⟩, ⟨%f2, H2⟩, ⟨%f3, H3⟩, Hr⟩
  isplitl [H0 H1 H2 H3]
  · isplitl [H0]; · iexists f0; iexact H0
    isplitl [H1]; · iexists f1; iexact H1
    isplitl [H2]; · iexists f2; iexact H2
    iexists f3; iexact H3
  iexact Hr

set_option maxHeartbeats 1000000 in
/-- What the body leaves is what the obligation asks for. -/
theorem leave (c : Dev nD) (t : Fin cfg0.N) (x : St F) (hx : outsAt m c t.val t.isLt = x) :
    iprop(after c (st0_0 t) (st0_1 t) (st0_2 t) (st0_3 t) (st0_4 t) (st0_5 t) (st0_6 t) (st0_7 t) (st0_8 t) (st0_9 t)
        (Memref.whole cc0_scratch0) (Memref.whole cc0_scratch1) (Memref.whole cc0_scratch2) (Memref.whole cc0_scratch3) (insAt m c t) x
      ∗ (∃ r, prngReg c r) ∗ (dats m 0 c).owesAt () t.castSucc) ⊢ bodyPost m c t := by
  unfold bodyPost after ins insAt
  rw [show (dats m 0 c).Φ t.succ = Pipeline.ΦA spec0 c from rfl,
    show (dats m 0 c).owesAt () t.succ = (dats m 0 c).owesAt () t.castSucc from rfl, after0_0, after0_1, after0_2, after0_3, after0_4, after0_5, after0_6, after0_7, after0_8, after0_9, hx]
  iintro ⟨⟨⟨H0, H1, H2, H3, H4, H5, H6⟩, H7, H8, H9, S0, S1, S2, S3⟩, Hr, Ho⟩
  isplitl [S0 S1 S2 S3 Hr]
  · iapply (scratch_close (F := F) c)
    isplitl [S0]; · iexact S0
    isplitl [S1]; · iexact S1
    isplitl [S2]; · iexact S2
    isplitl [S3]; · iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6]
  rw [show (dats m 0 c).Φ t.castSucc = Pipeline.ΦA spec0 c from rfl]
  by_cases h0 : t.val % 32 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave ⟨S0, S1, S2, S3, Hr⟩ := (scratch_open (F := F) c) $$ HΦ
    iapply (wp_wand_r frame (wpE (defs₀ (F := F)) Variants.none (c : Thread nD τ) none) Set.univ)
    isplitl [H0 H1 H2 H3 H4 H5 H6 H7 H8 H9 S0 S1 S2 S3]
    · iapply (body_first c (grid0.coords t) _ _ _ _ _ _ _ _ _ _ _ _ _ _ _ _ _ _ _ _ _ _ _ _ _ _ _ _ ((isFirst_iff _).mpr ((key_coord t).trans h0)) (insAt m c t))
      isplitl [H0 H1 H2 H3 H4 H5 H6]
      · unfold ins insAt
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [S0]; · iexact S0
      isplitl [S1]; · iexact S1
      isplitl [S2]; · iexact S2
      isplitl [S3]; · iexact S3
      isplitl [H8]; · iexists _; iexact H8
      iexists _; iexact H9
    iintro %r H
    iapply (leave m c t _ (outsAt_first m c t h0))
    isplitl [H]
    · rw [key_coord]; iexact H
    isplitl [Hr]; · iexact Hr
    iexact Ho
  · simp only [before0_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave ⟨S0, S1, S2, S3, Hr⟩ := (scratch_open (F := F) c) $$ HΦ
    iapply (wp_wand_r frame (wpE (defs₀ (F := F)) Variants.none (c : Thread nD τ) none) Set.univ)
    isplitl [H0 H1 H2 H3 H4 H5 H6 H7 H8 H9 S0 S1 S2 S3]
    · iapply (body_later c (grid0.coords t) _ _ _ _ _ _ _ _ _ _ _ _ _ _ _ _ _ _ _ _ _ _ _ _ _ _ _ _ (fun h => h0 ((key_coord t).symm.trans ((isFirst_iff _).mp h))) (insAt m c t) _)
      isplitl [H0 H1 H2 H3 H4 H5 H6]
      · unfold ins insAt
        isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [S0]; · iexact S0
      isplitl [S1]; · iexact S1
      isplitl [S2]; · iexact S2
      isplitl [S3]; · iexact S3
      isplitl [H8]; · iexists _; iexact H8
      iexists _; iexact H9
    iintro %r H
    iapply (leave m c t _ (outsAt_later m c t h0))
    isplitl [H]
    · rw [key_coord]; iexact H
    isplitl [Hr]; · iexact Hr
    iexact Ho

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, the arrays as the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FlashIdeal.Hand
-- ==== Proof.FlashRow.lean ====
/-
  Causal attention and its gradient on one head, over the extended reals. The kernel is handed each query's log of the sum of exponentials
  and the dot product of its output with the cotangent, and rebuilds a weight as a power of two; the derivative of the forward lines
  divides by the sum and takes the row's mean off. On finite operands the two forms are the same numbers.
-/
module

public import proofs.«01_k».proof.Proof.NormGrad
public import Idealize.ShloMosaic.Lib.Pipeline.ValueKit

@[expose] public section

noncomputable section

namespace Cert.FlashRow

open Idealize.ShloMosaic Cert.NormGrad

variable {N D E : ℕ} (s : EReal) (Q K : Fin N → Fin D → EReal) (V C : Fin N → Fin E → EReal)

/-- The scaled score of query `q` at key `k`: no weight after the query. -/
def lg (q k : Fin N) : EReal := if k ≤ q then (∑ d, Q q d * K k d) * s else ⊥
/-- A row's largest score, its exponentials off that, their sum, and the weights. -/
def mx (q : Fin N) : EReal := (Finset.univ : Finset (Fin N)).fold max ⊥ (lg s Q K q)
def ex (q k : Fin N) : EReal := Ideal.exp (lg s Q K q k - mx s Q K q)
def sm (q : Fin N) : EReal := ∑ k, ex s Q K q k
def pr (q k : Fin N) : EReal := Ideal.div (ex s Q K q k) (sm s Q K q)
/-- The cotangent of a weight, and of a score as the forward lines are differentiated. -/
def dp (q k : Fin N) : EReal := ∑ e, C q e * V k e
def grad (q k : Fin N) : EReal :=
  if k ≤ q then
    (Ideal.div (dp V C q k) (sm s Q K q) + -∑ i, dp V C q i * Ideal.div 1 (sm s Q K q * sm s Q K q) * ex s Q K q i) * ex s Q K q k
  else 0
/-- What the kernel is handed: the log of the sum of exponentials, and the output's dot product with the cotangent. -/
def lse (q : Fin N) : EReal := mx s Q K q + Ideal.log (sm s Q K q)
def del (q : Fin N) : EReal := ∑ e, Ideal.div (∑ k, ex s Q K q k * V k e) (sm s Q K q) * C q e

/-- The log of a base-two weight: the score times `c`, less the log-sum times `log₂ e`. -/
def wt (c b x l : EReal) : EReal := Ideal.exp2 (x * c - l * b)

variable {Q K V C}

/-- On finite queries and keys a row's scores are real up to the query, its largest is one of them. -/
theorem row {σ : ℝ} (hQ : ∀ q d, Fin' (Q q d)) (hK : ∀ k d, Fin' (K k d)) (q : Fin N) :
    ∃ (a x : Fin N → ℝ) (M L : ℝ), (∀ k, ∑ d, Q q d * K k d = (a k : EReal)) ∧ mx σ Q K q = (M : EReal)
      ∧ (∀ k, ex σ Q K q k = (x k : EReal)) ∧ sm σ Q K q = (L : EReal) ∧ 0 < L ∧ (∑ k, x k = L)
      ∧ (∀ k, k ≤ q → x k = Real.exp (a k * σ - M)) ∧ ∀ k, ¬k ≤ q → x k = 0 := by
  choose Q' hQ using hQ
  choose K' hK using hK
  have ha : ∀ k, ∑ d, Q q d * K k d = ((∑ d, Q' q d * K' k d : ℝ) : EReal) := fun k => by
    simp only [hQ, hK, ← EReal.coe_mul, ← coe_sum]
  have hl : ∀ k, k ≤ q → lg σ Q K q k = (((∑ d, Q' q d * K' k d) * σ : ℝ) : EReal) := fun k hk => by
    rw [lg, if_pos hk, ha, ← EReal.coe_mul]
  have hM : ∃ M : ℝ, mx σ Q K q = (M : EReal) := by
    have e : mx σ Q K q = (Finset.univ : Finset (Fin N)).sup (lg σ Q K q) := rfl
    obtain ⟨i, -, hi⟩ := Finset.exists_mem_eq_sup (Finset.univ : Finset (Fin N)) ⟨q, Finset.mem_univ q⟩ (lg σ Q K q)
    by_cases h : i ≤ q
    · exact ⟨_, e.trans (hi.trans (hl i h))⟩
    · have h1 : lg σ Q K q q ≤ (Finset.univ : Finset (Fin N)).sup (lg σ Q K q) := Finset.le_sup (f := lg σ Q K q) (Finset.mem_univ q)
      rw [hi, hl q le_rfl, lg, if_neg h] at h1
      exact absurd (le_bot_iff.1 h1) (EReal.coe_ne_bot _)
  obtain ⟨M, hM⟩ := hM
  have hx : ∀ k, ex σ Q K q k = ((if k ≤ q then Real.exp ((∑ d, Q' q d * K' k d) * σ - M) else 0 : ℝ) : EReal) := fun k => by
    unfold ex
    by_cases h : k ≤ q
    · rw [hl k h, hM, if_pos h, ← EReal.coe_sub, Ideal.exp_coe]
    · rw [lg, if_neg h, if_neg h, EReal.bot_sub, Ideal.exp_bot, EReal.coe_zero]
  refine ⟨_, _, M, _, ha, hM, hx, (by unfold sm; simp only [hx, ← coe_sum]), ?_, rfl, fun k hk => if_pos hk, fun k hk => if_neg hk⟩
  refine Finset.sum_pos' (fun k _ => ?_) ⟨q, Finset.mem_univ q, ?_⟩
  · split
    · exact (Real.exp_pos _).le
    · exact le_rfl
  · rw [if_pos le_rfl]; exact Real.exp_pos _

/-- A weight is a real, and nothing after the query. -/
theorem pr_fin {σ : ℝ} (hQ : ∀ q d, Fin' (Q q d)) (hK : ∀ k d, Fin' (K k d)) (q k : Fin N) : Fin' (pr σ Q K q k) := by
  obtain ⟨a, x, M, L, ha, hM, hx, hL, h0, hs, h1, h2⟩ := row (σ := σ) hQ hK q
  exact ⟨x k / L, by rw [pr, hx, hL, div_coe_coe _ h0.ne']⟩

theorem pr_zero {σ : ℝ} (hQ : ∀ q d, Fin' (Q q d)) (hK : ∀ k d, Fin' (K k d)) {q k : Fin N} (h : ¬k ≤ q) : pr σ Q K q k = 0 := by
  obtain ⟨a, x, M, L, ha, hM, hx, hL, h0, hs, h1, h2⟩ := row (σ := σ) hQ hK q
  rw [pr, hx, hL, div_coe_coe _ h0.ne', h2 k h, zero_div, EReal.coe_zero]

/-- The kernel's power of two is the weight. -/
theorem wt_eq {σ : ℝ} (hQ : ∀ q d, Fin' (Q q d)) (hK : ∀ k d, Fin' (K k d)) {q k : Fin N} (h : k ≤ q) :
    wt ((σ * (Real.log 2)⁻¹ : ℝ) : EReal) (((Real.log 2)⁻¹ : ℝ) : EReal) (∑ d, K k d * Q q d) (lse σ Q K q) = pr σ Q K q k := by
  obtain ⟨a, x, M, L, ha, hM, hx, hL, h0, hs, h1, h2⟩ := row (σ := σ) hQ hK q
  have h2' : Real.log 2 ≠ 0 := (Real.log_pos (by norm_num)).ne'
  have hc : ∑ d, K k d * Q q d = (a k : EReal) := (Finset.sum_congr rfl fun d _ => mul_comm _ _).trans (ha k)
  rw [wt, hc, lse, pr, hM, hL, hx, div_coe_coe _ h0.ne', Ideal.log_coe, if_neg (not_le.mpr h0), ← EReal.coe_add, ← EReal.coe_mul, ← EReal.coe_mul,
    ← EReal.coe_sub, Ideal.exp2_coe]
  congr 1
  show (2 : ℝ) ^ (_ : ℝ) = _
  rw [Real.rpow_def_of_pos (by norm_num), h1 k h]
  rw [show Real.log 2 * (a k * (σ * (Real.log 2)⁻¹) - (M + Real.log L) * (Real.log 2)⁻¹) = (a k * σ - M) - Real.log L by field_simp; ring]
  rw [Real.exp_sub, Real.exp_log h0]

/-- The masked score's power of two is zero, which is the weight. -/
theorem wt_mask {σ c : ℝ} (hc : 0 < c) (b : ℝ) (hQ : ∀ q d, Fin' (Q q d)) (hK : ∀ k d, Fin' (K k d)) {q k : Fin N} (h : ¬k ≤ q) :
    wt (c : EReal) (b : EReal) ⊥ (lse σ Q K q) = pr σ Q K q k := by
  rw [pr_zero hQ hK h, wt, EReal.bot_mul_coe_of_pos hc, EReal.bot_sub, Ideal.exp2_bot]

/-- The kernel's gradient of a score is the derivative's; it is a real, and nothing after the query. -/
theorem grad_eq {σ : ℝ} (hQ : ∀ q d, Fin' (Q q d)) (hK : ∀ k d, Fin' (K k d)) (hV : ∀ k e, Fin' (V k e)) (hC : ∀ q e, Fin' (C q e)) (q k : Fin N) :
    pr σ Q K q k * ((∑ e, V k e * C q e) - del σ Q K V C q) = grad σ Q K V C q k ∧ Fin' (grad σ Q K V C q k) := by
  obtain ⟨a, x, M, L, ha, hM, hx, hL, h0, hs, h1, h2⟩ := row (σ := σ) hQ hK q
  choose V' hV using hV
  choose C' hC using hC
  have hdp : ∀ i, dp V C q i = ((∑ e, C' q e * V' i e : ℝ) : EReal) := fun i => by
    unfold dp; simp only [hV, hC, ← EReal.coe_mul, ← coe_sum]
  have hcomm : ∑ e, V k e * C q e = dp V C q k := Finset.sum_congr rfl fun e _ => mul_comm _ _
  have hdel : del σ Q K V C q = ((∑ i, x i / L * ∑ e, C' q e * V' i e : ℝ) : EReal) := by
    unfold del
    simp only [hx, hL, hV, hC, ← EReal.coe_mul, ← coe_sum, div_coe_coe _ h0.ne']
    congr 1
    simp only [Finset.mul_sum, Finset.sum_div, Finset.sum_mul]
    rw [Finset.sum_comm]
    exact Finset.sum_congr rfl fun i _ => Finset.sum_congr rfl fun e _ => by ring
  have hp : pr σ Q K q k = ((x k / L : ℝ) : EReal) := by rw [pr, hx, hL, div_coe_coe _ h0.ne']
  have hl : pr σ Q K q k * ((∑ e, V k e * C q e) - del σ Q K V C q)
      = ((x k / L * ((∑ e, C' q e * V' k e) - ∑ i, x i / L * ∑ e, C' q e * V' i e) : ℝ) : EReal) := by
    rw [hp, hcomm, hdp, hdel, ← EReal.coe_sub, ← EReal.coe_mul]
  have hg : grad σ Q K V C q k
      = ((x k / L * ((∑ e, C' q e * V' k e) - ∑ i, x i / L * ∑ e, C' q e * V' i e) : ℝ) : EReal) := by
    unfold grad
    by_cases h : k ≤ q
    · rw [if_pos h]
      have one : (1 : EReal) = ((1 : ℝ) : EReal) := rfl
      simp only [hdp, hL, hx, one, ← EReal.coe_mul, div_coe_coe _ h0.ne', div_coe_coe _ (mul_pos h0 h0).ne', ← coe_sum, ← EReal.coe_neg, ← EReal.coe_add]
      congr 1
      have : ∑ i, (∑ e, C' q e * V' i e) * (1 / (L * L)) * x i = (∑ i, x i / L * ∑ e, C' q e * V' i e) / L := by
        rw [Finset.sum_div]
        refine Finset.sum_congr rfl fun i _ => ?_
        field_simp
      rw [this]
      field_simp
      ring
    · rw [if_neg h, h2 k h]; simp
  exact ⟨hl.trans hg.symm, _, hg⟩

/-! ## Sums by tiles -/

/-- The position of entry `r` of tile `n`. -/
abbrev rw' (n : Fin 32) (r : Fin 512) : Fin 16384 := ⟨n.val * 512 + r.val, by omega⟩

/-- The tiles that are left out hold nothing. -/
theorem blocks (f : Fin 16384 → EReal) (z : Fin 32 → Prop) [DecidablePred z] (h : ∀ n r, z n → f (rw' n r) = 0) :
    ∑ n : Fin 32, (if z n then 0 else ∑ r : Fin 512, f (rw' n r)) = ∑ k, f k := by
  have e : ∑ n : Fin 32, ∑ r : Fin 512, f (rw' n r) = ∑ k, f k := Fin.sum_mul_add_congr fun s k hl => rfl
  rw [← e]
  refine Finset.sum_congr rfl fun n _ => ?_
  split
  · rename_i hn
    exact (Finset.sum_eq_zero fun r _ => h n r hn).symm
  · rfl

/-- The scale goes inside a sum of finite products. -/
theorem scale {ι : Type*} [Fintype ι] {x g : ι → EReal} (σ : ℝ) (hx : ∀ i, Fin' (x i)) (hg : ∀ i, Fin' (g i)) :
    (∑ i, x i * g i) * (σ : EReal) = ∑ i, g i * (σ : EReal) * x i := by
  choose x' hx using hx
  choose g' hg using hg
  simp only [hx, hg, ← EReal.coe_mul, ← coe_sum]
  congr 1
  rw [Finset.sum_mul]
  exact Finset.sum_congr rfl fun i _ => by ring

/-- The scale the programs write. -/
theorem cScale : Ideal.ofBits FTy.f32 0x3DD105EC#32 = ((3424635 / 33554432 : ℝ) : EReal) := by
  simp [Ideal.ofBits, Ideal.ieee, -EReal.coe_mul]; norm_num

end Cert.FlashRow

end
-- ==== Proof.FlashTie.lean ====
/-
  What the reference's results hold, by stages: the scores, their largest, the exponentials, the weights, the scores' gradient.
-/
module

public import proofs.«01_k».proof.Proof.Gen.FlashRefIdeal.Read
public import proofs.«01_k».proof.Proof.FlashRow
public import Idealize.ShloMosaic.Lib.Pipeline.ValueKit

@[expose] public section

noncomputable section

namespace Cert.FlashRefIdeal.Tie

open Cert.FlashRefIdeal Cert.FlashRefIdeal.Gen Cert.FlashRefIdeal.Read Idealize.ShloMosaic Idealize.ShloMosaic.TcCoe Idealize.SL.Sem
open Cert.FlashRow

/-- One head of an array of positions, heads and lanes. -/
def hd {d : ℕ} (x : (⟨3, ![16384, 8, d]⟩ : Shape).Idx → EReal) (h : Fin 8) (q : Fin 16384) (e : Fin d) : EReal := x (ix3 q h e)

/-- The scale, and the fill of the masked scores. -/
abbrev σ : ℝ := 3424635 / 33554432
theorem cBot : Ideal.ofBits FTy.f32 0xFF800000#32 = (⊥ : EReal) := by simp [Ideal.ofBits, Ideal.ieee]

/-- The causal comparison, on positions. -/
theorem le_bit (q k : Fin 16384) : IntOp.cmpi CmpIPredicate.sle (BitVec.ofNat 32 k.val) (BitVec.ofNat 32 q.val) = BitVec.ofBool (decide (k ≤ q)) := by
  have hq := q.isLt
  have hk := k.isLt
  show BitVec.ofBool (BitVec.sle _ _) = _
  congr 1
  rw [BitVec.sle_eq_decide]
  congr 1
  rw [BitVec.toInt_eq_toNat_of_lt (by rw [BitVec.toNat_ofNat]; omega), BitVec.toInt_eq_toNat_of_lt (by rw [BitVec.toNat_ofNat]; omega),
    BitVec.toNat_ofNat, BitVec.toNat_ofNat, Fin.le_def]
  simp only [eq_iff_iff]
  omega

theorem select_bit (p : Prop) [Decidable p] (x y : EReal) : Scalar.select (BitVec.ofBool (decide p)) x y = if p then x else y := by
  by_cases h : p <;> simp [h, Scalar.select]

/-- A host maximum from −∞ over the keys is the largest. -/
theorem maxOf (x : (⟨3, ![8, 16384, 16384]⟩ : Shape).Idx → Ideal .f32) (i : S_.Idx → Ideal .f32) (hi : ∀ j, i j = ⊥)
    (hr : Shape.ReducesTo ⟨3, ![8, 16384, 16384]⟩ [2] ⟨2, ![8, 16384]⟩) (hu) (h : Fin 8) (q : Fin 16384) :
    Host.reduce (FloatOps.maximumf (F := Ideal) (φ := .f32)) x i hr hu (ix2 h q)
      = (Finset.univ : Finset (Fin 16384)).fold max (⊥ : EReal) (fun k => x (ix3 h q k)) := by
  rw [Host.reduce_eq_fold_single (FloatOps.maximumf (F := Ideal) (φ := .f32)) x i hr (by decide +kernel) hu (ix2 h q), hi]
  refine Finset.fold_congr fun k _ => congrArg x ?_
  funext a
  fin_cases a <;> rfl

variable (x0 x1 : FVec Ideal S16384x8x96 .f32) (x2 x3 : FVec Ideal S16384x8x64 .f32) (h : Fin 8) (q k : Fin 16384)

theorem v9_at : val_main_v9_0 (F := Ideal) x0 x1 (ix3 h q k) = lg σ (hd x0 h) (hd x1 h) q k := by
  pointwise [val_main_v0,val_main_v1,val_main_cst,val_main_v2,val_main_v3,val_main_v4,val_main_v5,val_main_v6,val_main_v7,val_main_v8,val_main_cst_0,val_main_call0_v0,val_main_v9_1,val_main_call0_v2,val_main_v9_0]
  rw [le_bit]
  refine (select_bit (k ≤ q) _ _).trans ?_
  unfold lg
  rw [← cScale]
  refine if_congr Iff.rfl rfl ?_
  exact cBot
theorem v10_at : val_main_v10 (F := Ideal) x0 x1 (ix2 h q) = mx σ (hd x0 h) (hd x1 h) q := by
  unfold val_main_v10 mx
  rw [maxOf (val_main_v9_0 (F := Ideal) x0 x1) (val_main_cst_1 (F := Ideal)) (fun _ => cBot)]
  exact Finset.fold_congr fun k _ => v9_at x0 x1 h q k
theorem v17_at : val_main_v17 (F := Ideal) x0 x1 (ix2 h q) = mx σ (hd x0 h) (hd x1 h) q := by
  rw [← v10_at, val_main_v17_apply]
  show max (val_main_v16 (F := Ideal) (ix2 h q) : EReal) _ = _
  have : (val_main_v16 (F := Ideal) (ix2 h q) : EReal) = ⊥ := by
    pointwise [val_main_v16, val_main_cst_3]
    exact cBot
  rw [this]; exact max_eq_right bot_le
theorem v30_at : val_main_v30 (F := Ideal) x0 x1 (ix3 h q k) = ex σ (hd x0 h) (hd x1 h) q k := by
  unfold ex
  rw [← v9_at, ← v17_at]
  pointwise [val_main_v30, val_main_v29, val_main_v28, val_main_v27]
theorem v31_at : val_main_v31 (F := Ideal) x0 x1 (ix2 h q) = sm σ (hd x0 h) (hd x1 h) q := by
  unfold sm
  simp only [← v30_at]
  pointwise [val_main_v31, val_main_cst_9]
theorem v34_at : val_main_v34 (F := Ideal) x0 x1 (ix3 h q k) = pr σ (hd x0 h) (hd x1 h) q k := by
  unfold pr
  simp only [← v30_at, ← v31_at]
  pointwise [val_main_v34, val_main_v33, val_main_v32]
theorem v41_at : val_main_v41 (F := Ideal) x2 x3 (ix3 h q k) = dp (hd x2 h) (hd x3 h) q k := by
  pointwise [val_main_v41, val_main_v40]
  rfl
theorem v68_at (n : Fin 32) (e : Fin 64) (r : Fin 512) :
    val_main_v68 (F := Ideal) x0 x1 x3 (ix4 h n e r) = ∑ q, hd x3 h q e * pr σ (hd x0 h) (hd x1 h) q (rw' n r) := by
  simp only [← v34_at]
  pointwise [val_main_v68, val_main_v67, val_main_v43, val_main_v42, val_main_v40]
  rfl
theorem v55_at : val_main_v55 (F := Ideal) x0 x1 x2 x3 (ix3 h q k)
    = (Ideal.div (dp (hd x2 h) (hd x3 h) q k) (sm σ (hd x0 h) (hd x1 h) q)
        + -∑ i, dp (hd x2 h) (hd x3 h) q i * Ideal.div 1 (sm σ (hd x0 h) (hd x1 h) q * sm σ (hd x0 h) (hd x1 h) q) * ex σ (hd x0 h) (hd x1 h) q i)
      * ex σ (hd x0 h) (hd x1 h) q k := by
  simp only [← v30_at, ← v31_at, ← v41_at]
  pointwise [val_main_v55, val_main_v54, val_main_v53, val_main_v52, val_main_cst_12, val_main_v51, val_main_v50, val_main_v49, val_main_v48, val_main_v47, val_main_cst_11, val_main_v46, val_main_v45, val_main_v44, val_main_v37, val_main_v36, val_main_cst_10, val_main_v35, val_main_v32]
  simp only [Finset.univ_unique, Finset.sum_const, Finset.card_singleton, one_smul]
theorem v56_at : val_main_v56 (F := Ideal) x0 x1 x2 x3 (ix3 h q k) = grad σ (hd x0 h) (hd x1 h) (hd x2 h) (hd x3 h) q k := by
  unfold grad
  rw [← v55_at]
  pointwise [val_main_v56, val_main_call1_v0, val_main_call1_cst, val_main_v9_1, val_main_call0_v0, val_main_v8, val_main_v7, val_main_v6, val_main_v5, val_main_v4, val_main_v0]
  rw [le_bit]
  exact select_bit (k ≤ q) _ _
theorem v58_at : val_main_v58 (F := Ideal) x0 x1 x2 x3 (ix3 h q k) = grad σ (hd x0 h) (hd x1 h) (hd x2 h) (hd x3 h) q k * ((σ : ℝ) : EReal) := by
  rw [← v56_at, ← cScale]
  pointwise [val_main_v58, val_main_v57, val_main_cst_13]
theorem v64_at (n : Fin 32) (d : Fin 96) (r : Fin 512) :
    val_main_v64 (F := Ideal) x0 x1 x2 x3 (ix4 h n d r)
      = ∑ k, grad σ (hd x0 h) (hd x1 h) (hd x2 h) (hd x3 h) (rw' n r) k * ((σ : ℝ) : EReal) * hd x1 h k d := by
  simp only [← v58_at]
  pointwise [val_main_v64, val_main_v63, val_main_v62, val_main_v61]
  rfl
theorem v66_at (n : Fin 32) (d : Fin 96) (r : Fin 512) :
    val_main_v66 (F := Ideal) x0 x1 x2 x3 (ix4 h n d r)
      = ∑ q, grad σ (hd x0 h) (hd x1 h) (hd x2 h) (hd x3 h) q (rw' n r) * ((σ : ℝ) : EReal) * hd x0 h q d := by
  simp only [← v58_at]
  pointwise [val_main_v66, val_main_v65, val_main_v60, val_main_v59]
  rfl
end Cert.FlashRefIdeal.Tie
-- ==== Proof.FlashIdealHost.lean ====
/-
  What the host hands the flash kernel: each query's log of the sum of exponentials, its output's dot product with the cotangent, and the
  operands cut into tiles.
-/
module

public import proofs.«01_k».proof.Proof.FlashIdealRun
public import proofs.«01_k».proof.Proof.FlashTie
public import Idealize.ShloMosaic.Lib.Pipeline.ValueKit
public import Idealize.ShloMosaic.Lib.StableHlo.RunRead

@[expose] public section

noncomputable section

namespace Cert.FlashIdeal.Hand

open Cert.FlashIdeal Cert.FlashIdeal.Gen Idealize.ShloMosaic Idealize.ShloMosaic.TcCoe Idealize.SL.Sem
open Cert.FlashRow
open Cert.FlashRefIdeal.Tie (hd σ cBot le_bit select_bit maxOf)

variable (x0 x1 : FVec Ideal S16384x8x96 .f32) (x2 x3 : FVec Ideal S16384x8x64 .f32) (h : Fin 8) (q k : Fin 16384)

/-! ## The host's stages -/

def hostScore : FVec Ideal S8x16384x16384 .f32 :=
  select
    (broadcastInDim S8x16384x16384 ![1, 2] bcast_S16384x16384_S8x16384x16384_1_2
      (cmpi CmpIPredicate.sle
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (mulf (F := Ideal) (Host.dotGeneral dot_S16384x8x96_S16384x8x96_S8x16384x16384_2_2_0_0_1_1 none x0 x1)
      (broadcastInDim S8x16384x16384 ![] bcast_S_S8x16384x16384 (constant S_ FTy.f32 1037108716#32)))
    (broadcastInDim S8x16384x16384 ![] bcast_S_S8x16384x16384 (id (constant S_ FTy.f32 4286578688#32 : FVec Ideal S_ .f32)))
def hostMax : FVec Ideal S8x16384 .f32 :=
  Host.reduce FloatOps.maximumf (hostScore x0 x1) (constant S_ FTy.f32 4286578688#32) reducesTo_S8x16384x16384_S8x16384_d2 h_S_
def hostExp : FVec Ideal S8x16384x16384 .f32 :=
  Host.exp (subf (hostScore x0 x1) (broadcastInDim S8x16384x16384 ![0, 1, 2] bcast_S8x16384x1_S8x16384x16384_0_1_2
    (broadcastInDim S8x16384x1 ![0, 1] bcast_S8x16384_S8x16384x1_0_1 (hostMax x0 x1))))
def hostSum : FVec Ideal S8x16384 .f32 :=
  Host.reduceAdd (hostExp x0 x1) (constant S_ FTy.f32 0#32) reducesTo_S8x16384x16384_S8x16384_d2 h_S_
def hostLse : FVec Ideal S8x16384 .f32 := addf (hostMax x0 x1) (Host.log (hostSum x0 x1))
def hostDel : FVec Ideal S8x16384 .f32 :=
  Host.reduceAdd
    (mulf
      (Host.divf (Host.dotGeneral dot_S8x16384x16384_S16384x8x64_S8x16384x64_2_0_1_2_0_1 none (hostExp x0 x1) x2)
        (broadcastInDim S8x16384x64 ![0, 1, 2] bcast_S8x16384x1_S8x16384x64_0_1_2
          (broadcastInDim S8x16384x1 ![0, 1] bcast_S8x16384_S8x16384x1_0_1 (hostSum x0 x1))))
      (transpose S8x16384x64 [1, 0, 2] x3 transposes_S16384x8x64_S8x16384x64_1_0_2))
    (constant S_ FTy.f32 0#32) reducesTo_S8x16384x64_S8x16384_d2 h_S_

theorem hostScore_at : hostScore x0 x1 (ix3 h q k) = lg σ (hd x0 h) (hd x1 h) q k := by
  pointwise [hostScore]
  rw [le_bit]
  refine (select_bit (k ≤ q) _ _).trans ?_
  unfold lg
  rw [← cScale]
  refine if_congr Iff.rfl rfl ?_
  exact cBot
theorem hostMax_at : hostMax x0 x1 (ix2 h q) = mx σ (hd x0 h) (hd x1 h) q := by
  unfold hostMax mx
  rw [maxOf (hostScore x0 x1) (constant S_ FTy.f32 4286578688#32) (fun _ => cBot)]
  exact Finset.fold_congr fun k _ => hostScore_at x0 x1 h q k
theorem hostExp_at : hostExp x0 x1 (ix3 h q k) = ex σ (hd x0 h) (hd x1 h) q k := by
  unfold ex
  rw [← hostScore_at, ← hostMax_at]
  unfold hostExp
  generalize hostScore x0 x1 = a
  generalize hostMax x0 x1 = b
  pointwise
theorem hostSum_at : hostSum x0 x1 (ix2 h q) = sm σ (hd x0 h) (hd x1 h) q := by
  unfold sm
  simp only [← hostExp_at]
  pointwise [hostSum]
theorem lse_sum (a b : FVec Ideal S8x16384 .f32) : addf a (Host.log b) (ix2 h q) = (a (ix2 h q) : EReal) + Ideal.log (b (ix2 h q)) := by
  pointwise
theorem hostLse_at : hostLse x0 x1 (ix2 h q) = lse σ (hd x0 h) (hd x1 h) q :=
  (lse_sum h q (hostMax x0 x1) (hostSum x0 x1)).trans (by rw [hostMax_at, hostSum_at]; rfl)
theorem hostDel_at : hostDel x0 x1 x2 x3 (ix2 h q) = del σ (hd x0 h) (hd x1 h) (hd x2 h) (hd x3 h) q := by
  unfold del
  simp only [← hostExp_at, ← hostSum_at]
  unfold hostDel
  generalize hostExp x0 x1 = a
  generalize hostSum x0 x1 = b
  pointwise
  rfl

/-! ## The operands at the call -/

section V

variable (m : (ℓ : Loc nD τ sig) → Buf (Elt Ideal) ℓ) (c : Dev nD)

abbrev aq : FVec Ideal S16384x8x96 .f32 := m (c, Proc.tc.devRef main_arg0)
abbrev ak : FVec Ideal S16384x8x96 .f32 := m (c, Proc.tc.devRef main_arg1)
abbrev av : FVec Ideal S16384x8x64 .f32 := m (c, Proc.tc.devRef main_arg2)
abbrev ac : FVec Ideal S16384x8x64 .f32 := m (c, Proc.tc.devRef main_arg3)

theorem V37 (n : Fin 32) (r : Fin 512) : (V m c main_v37 : FVec Ideal S8x32x1x512 .f32) (ix4 h n 0 r) = hostLse (aq m c) (ak m c) (ix2 h (rw' n r)) := by
  have e : (V m c main_v37 : FVec Ideal S8x32x1x512 .f32) = shapeCast _ (hostLse (aq m c) (ak m c)) shapeCasts_S8x16384_S8x32x1x512 := by
    unfold V
    simp only [List.flatten_cons, List.flatten_nil, List.append_nil, List.cons_append, List.nil_append]
    after_reads_simp
    simp -implicitDefEqProofs only [StableHlo.TRef.ofBuf_toBuf, StableHlo.TRef.toBuf, StableHlo.TRef.ofBuf, cast_eq]
    rfl
  rw [e]
  pointwise
theorem V38 (n : Fin 32) (r : Fin 512) :
    (V m c main_v38 : FVec Ideal S8x32x1x512 .f32) (ix4 h n 0 r) = hostDel (aq m c) (ak m c) (av m c) (ac m c) (ix2 h (rw' n r)) := by
  have e : (V m c main_v38 : FVec Ideal S8x32x1x512 .f32)
      = shapeCast _ (hostDel (aq m c) (ak m c) (av m c) (ac m c)) shapeCasts_S8x16384_S8x32x1x512 := by
    unfold V
    simp only [List.flatten_cons, List.flatten_nil, List.append_nil, List.cons_append, List.nil_append]
    after_reads_simp
    simp -implicitDefEqProofs only [StableHlo.TRef.ofBuf_toBuf, StableHlo.TRef.toBuf, StableHlo.TRef.ofBuf, cast_eq]
    rfl
  rw [e]
  pointwise
theorem V27 (n : Fin 32) (d : Fin 96) (r : Fin 512) : (V m c main_v27 : Vec Ideal S8x32x96x512 .bf16) (ix4 h n d r) = hd (aq m c) h (rw' n r) d := by
  unfold V
  simp only [List.flatten_cons, List.flatten_nil, List.append_nil, List.cons_append, List.nil_append]
  after_reads_simp
  pointwise
  rfl
theorem V29 (k : Fin 16384) (d : Fin 96) : (V m c main_v29 : Vec Ideal S8x16384x96 .bf16) (ix3 h k d) = hd (ak m c) h k d := by
  unfold V
  simp only [List.flatten_cons, List.flatten_nil, List.append_nil, List.cons_append, List.nil_append]
  after_reads_simp
  pointwise
  rfl
theorem V32 (n : Fin 32) (d : Fin 96) (r : Fin 512) : (V m c main_v32 : Vec Ideal S8x32x96x512 .bf16) (ix4 h n d r) = hd (ak m c) h (rw' n r) d := by
  unfold V
  simp only [List.flatten_cons, List.flatten_nil, List.append_nil, List.cons_append, List.nil_append]
  after_reads_simp
  pointwise
  rfl
theorem V34 (k : Fin 16384) (e : Fin 64) : (V m c main_v34 : Vec Ideal S8x16384x64 .bf16) (ix3 h k e) = hd (av m c) h k e := by
  unfold V
  simp only [List.flatten_cons, List.flatten_nil, List.append_nil, List.cons_append, List.nil_append]
  after_reads_simp
  pointwise
  rfl
theorem V36 (n : Fin 32) (e : Fin 64) (r : Fin 512) : (V m c main_v36 : Vec Ideal S8x32x64x512 .bf16) (ix4 h n e r) = hd (ac m c) h (rw' n r) e := by
  unfold V
  simp only [List.flatten_cons, List.flatten_nil, List.append_nil, List.cons_append, List.nil_append]
  after_reads_simp
  pointwise
  rfl

end V

end Cert.FlashIdeal.Hand

end
-- ==== Proof.FlashIdealTerm.lean ====
/-
  What a tile of queries adds in the attention backward's kernel, entry by entry: with `s` the tile's scores, `p` its
  products of values and output gradients, `l` and `δ` its rows' statistics, the weight of a score is
  `w = exp2 (s·c − l·log2e)` and the score's gradient `w·(p − δ)`. The four spellings of a tile add the same sums.
-/
module

public import proofs.«01_k».proof.Proof.FlashIdealTile
public import Idealize.ShloMosaic.Lib.Pipeline.ValueKit

@[expose] public section

noncomputable section

namespace Cert.FlashIdeal.Hand

open Cert.FlashIdeal Cert.FlashIdeal.Gen Idealize.ShloMosaic Idealize.ShloMosaic.TcCoe Idealize.SL.Sem
open Idealize.ShloMosaic.VecWindow (window put)

variable (I : Ins Ideal) (n : Fin 32) (s p : Vec Ideal S512x512 .f32)

/-! ## The parts of a buffer -/

theorem slabQ_at {e : EltTy} (x : Vec Ideal S1x32x96x512 e) (d : Fin 96) (r : Fin 512) : slabQ x n (ix4 0 0 d r) = x (ix4 0 n d r) := by
  unfold slabQ window
  blk_ext []
theorem slabO_at {e : EltTy} (x : Vec Ideal S1x32x64x512 e) (d : Fin 64) (r : Fin 512) : slabO x n (ix4 0 0 d r) = x (ix4 0 n d r) := by
  unfold slabO window
  blk_ext []
theorem slabR_at {e : EltTy} (x : Vec Ideal S1x32x1x512 e) (r : Fin 512) : slabR x n (ix4 0 0 0 r) = x (ix4 0 n 0 r) := by
  unfold slabR window
  blk_ext []
theorem lo_at (x : Vec Ideal S512x512 .f32) (a : Fin 256) (r : Fin 512) : lo x (ix2 a r) = x (ix2 ⟨a.val, by omega⟩ r) := by
  unfold lo window
  blk_ext []
theorem hi_at (x : Vec Ideal S512x512 .f32) (a : Fin 256) (r : Fin 512) : hi x (ix2 a r) = x (ix2 ⟨256 + a.val, by omega⟩ r) := by
  unfold hi window
  blk_ext []
theorem ktLo_at (x : Vec Ideal S1x1x96x512 .bf16) (d : Fin 96) (a : Fin 256) : ktLo x (ix4 0 0 d a) = x (ix4 0 0 d ⟨a.val, by omega⟩) := by
  unfold ktLo window
  blk_ext []
theorem ktHi_at (x : Vec Ideal S1x1x96x512 .bf16) (d : Fin 96) (a : Fin 256) : ktHi x (ix4 0 0 d a) = x (ix4 0 0 d ⟨256 + a.val, by omega⟩) := by
  unfold ktHi window
  blk_ext []

/-- A sum over a tile's 512 keys, by halves. -/
theorem sum_halves (f : Fin 512 → EReal) : (∑ a : Fin 256, f ⟨a.val, by omega⟩) + ∑ a : Fin 256, f ⟨256 + a.val, by omega⟩ = ∑ a, f a :=
  (Fin.sum_univ_add (a := 256) (b := 256) f).symm

/-- The last half's rows, counted from the tile's start. -/
theorem hi_row {a : Fin 512} (h : ¬ a.val < 256) (h' : 256 + (a.val - 256) < 512) : (⟨256 + (a.val - 256), h'⟩ : Fin 512) = a := Fin.ext (by show 256 + (a.val - 256) = a.val; omega)
theorem hi_val {a : Fin 512} (h : ¬ a.val < 256) : 256 + (a.val - 256) = a.val := by omega

/-! ## A tile's sums -/

/-- A score's weight, from the score and its row's statistic. -/
def wt (x l : EReal) : EReal :=
  FloatOps.exp2 (F := Ideal) (φ := .f32) (x * (Named.named κ "c" 0x3E16C740#32 : Ideal .f32) - l * (Named.named κ "log2e" 0x3FB8AA3B#32 : Ideal .f32))

/-- A score of the diagonal tile: masked where the key is after the query. -/
def msk (a r : Fin 512) (x : EReal) : EReal :=
  Scalar.select (IntOp.cmpi CmpIPredicate.sle (BitVec.ofNat 32 a.val) (BitVec.ofNat 32 r.val)) x (Named.named κ "mask" 0xF149F2CA#32 : Ideal .f32)

/-- The tile's gradient at a score, and what the tile adds to the three gradients. -/
def gr (s p : Fin 512 → Fin 512 → EReal) (a r : Fin 512) : EReal := wt (s a r) (I.l (ix4 0 n 0 r)) * (p a r - I.d (ix4 0 n 0 r))
def addQ (s p : Fin 512 → Fin 512 → EReal) (d : Fin 96) (r : Fin 512) : EReal :=
  (∑ a : Fin 512, I.kt (ix4 0 0 d a) * gr I n s p a r) * (Ideal.ofBits FTy.f32 0x3DD105EC#32 : EReal)
def addK (s p : Fin 512 → Fin 512 → EReal) (d : Fin 96) (a : Fin 512) : EReal := ∑ r : Fin 512, I.q (ix4 0 n d r) * gr I n s p a r
def addV (s : Fin 512 → Fin 512 → EReal) (e : Fin 64) (a : Fin 512) : EReal := ∑ r : Fin 512, I.o (ix4 0 n e r) * wt (s a r) (I.l (ix4 0 n 0 r))

/-- A buffer's entries, and the diagonal tile's masked scores. -/
abbrev ent (x : Vec Ideal S512x512 .f32) (a r : Fin 512) : EReal := x (ix2 a r)
abbrev ment (x : Vec Ideal S512x512 .f32) (a r : Fin 512) : EReal := msk a r (x (ix2 a r))

/-- The tile's scores and products. -/
def SC (a r : Fin 512) : EReal := ∑ d : Fin 96, I.k (ix3 0 a d) * I.q (ix4 0 n d r)
def PR (a r : Fin 512) : EReal := ∑ e : Fin 64, I.v (ix3 0 a e) * I.o (ix4 0 n e r)

theorem sc0_at : ent (sc0 I n) = SC I n := by
  funext a r
  show sc0 I n (ix2 a r) = _
  pointwise [sc0, k0_pay108]
  simp only [slabQ_at, SC]
theorem scA_at : ent (scA I n) = SC I n := by
  funext a r
  show scA I n (ix2 a r) = _
  pointwise [scA, k0_pay20, k0_pay19]
  simp only [slabQ_at, SC]
theorem scB_at : ent (scB I n) = SC I n := by
  funext a r
  show scB I n (ix2 a r) = _
  pointwise [scB, k0_pay3]
  simp only [slabQ_at, SC]
theorem scT_at : ent (scT I n) = SC I n := by
  funext a r
  show scT I n (ix2 a r) = _
  pointwise [scT, k0_pay81]
  simp only [slabQ_at, SC]
theorem pr0_at : ent (pr0 I n) = PR I n := by
  funext a r
  show pr0 I n (ix2 a r) = _
  pointwise [pr0, k0_pay109]
  simp only [slabO_at, PR]
theorem prA_at : ent (prA I n) = PR I n := by
  funext a r
  show prA I n (ix2 a r) = _
  pointwise [prA, k0_pay21]
  simp only [slabO_at, PR]
theorem prB_at : ent (prB I n) = PR I n := by
  funext a r
  show prB I n (ix2 a r) = _
  pointwise [prB, k0_pay4]
  simp only [slabO_at, PR]
theorem prT_at : ent (prT I n) = PR I n := by
  funext a r
  show prT I n (ix2 a r) = _
  pointwise [prT, k0_pay82]
  simp only [slabO_at, PR]

/-- A trip's first tile. -/
theorem dkA_at (acc : FVec Ideal S96x512 .f32) (d : Fin 96) (a : Fin 512) :
    dkA I n s p acc (ix2 d a) = acc (ix2 d a) + addK I n (ent s) (ent p) d a := by
  pointwise [dkA, k0_pay5, k0_pay6, k0_pay7, k0_pay8, k0_pay9, k0_pay10, k0_pay11, k0_pay12, k0_pay13, k0_pay14, k0_pay15, k0_pay16, k0_pay17, k0_pay18]
  split
  · simp only [slabQ_at, slabR_at, lo_at, addK, gr, wt, Fin.eta]
  · rename_i h
    simp only [slabQ_at, slabR_at, hi_at, hi_row h, hi_val h, addK, gr, wt]
theorem dvA_at (acc : FVec Ideal S64x512 .f32) (e : Fin 64) (a : Fin 512) :
    dvA I n s acc (ix2 e a) = acc (ix2 e a) + addV I n (ent s) e a := by
  pointwise [dvA, k0_pay5, k0_pay6, k0_pay7, k0_pay8, k0_pay9, k0_pay10, k0_pay11, k0_pay12, k0_pay13, k0_pay14, k0_pay15, k0_pay16, k0_pay17, k0_pay18]
  split
  · simp only [slabO_at, slabR_at, lo_at, addV, wt, Fin.eta]
  · rename_i h
    simp only [slabO_at, slabR_at, hi_at, hi_row h, hi_val h, addV, wt]
theorem dqA_at (old : Vec Ideal S1x1x96x512 .f32) (d : Fin 96) (r : Fin 512) :
    dqA I n s p old (ix4 0 0 d r) = old (ix4 0 0 d r) + addQ I n (ent s) (ent p) d r := by
  pointwise [dqA, k0_pay5, k0_pay6, k0_pay7, k0_pay8, k0_pay9, k0_pay10, k0_pay11, k0_pay12, k0_pay13, k0_pay14, k0_pay15, k0_pay16, k0_pay17, k0_pay18]
  simp only [slabR_at, lo_at, hi_at, ktLo_at, ktHi_at]
  unfold addQ
  rw [← sum_halves]
  simp only [gr, wt]

/-- A trip's second tile. -/
theorem dkB_at (acc : FVec Ideal S96x512 .f32) (d : Fin 96) (a : Fin 512) :
    dkB I n s p acc (ix2 d a) = acc (ix2 d a) + addK I n (ent s) (ent p) d a := by
  pointwise [dkB, k0_pay22, k0_pay23, k0_pay24, k0_pay25, k0_pay26, k0_pay27, k0_pay28, k0_pay29, k0_pay30, k0_pay31, k0_pay32, k0_pay33, k0_pay34, k0_pay35, k0_pay112, k0_pay113, k0_pay114]
  split
  · simp only [slabQ_at, slabR_at, lo_at, addK, gr, wt, Fin.eta]
  · rename_i h
    simp only [slabQ_at, slabR_at, hi_at, hi_row h, hi_val h, addK, gr, wt]
theorem dvB_at (acc : FVec Ideal S64x512 .f32) (e : Fin 64) (a : Fin 512) :
    dvB I n s acc (ix2 e a) = acc (ix2 e a) + addV I n (ent s) e a := by
  pointwise [dvB, k0_pay22, k0_pay23, k0_pay24, k0_pay25, k0_pay26, k0_pay27, k0_pay28, k0_pay29, k0_pay30, k0_pay31, k0_pay32, k0_pay33, k0_pay34, k0_pay35, k0_pay112, k0_pay113, k0_pay114]
  split
  · simp only [slabO_at, slabR_at, lo_at, addV, wt, Fin.eta]
  · rename_i h
    simp only [slabO_at, slabR_at, hi_at, hi_row h, hi_val h, addV, wt]
theorem dqB_at (old : Vec Ideal S1x1x96x512 .f32) (d : Fin 96) (r : Fin 512) :
    dqB I n s p old (ix4 0 0 d r) = old (ix4 0 0 d r) + addQ I n (ent s) (ent p) d r := by
  pointwise [dqB, k0_pay22, k0_pay23, k0_pay24, k0_pay25, k0_pay26, k0_pay27, k0_pay28, k0_pay29, k0_pay30, k0_pay31, k0_pay32, k0_pay33, k0_pay34, k0_pay35, k0_pay112, k0_pay113, k0_pay114]
  simp only [slabR_at, lo_at, hi_at, ktLo_at, ktHi_at]
  unfold addQ
  rw [← sum_halves]
  simp only [gr, wt]

/-- The diagonal tile, when no other is left. -/
theorem dkE_at (acc : FVec Ideal S96x512 .f32) (d : Fin 96) (a : Fin 512) :
    dkE I n s p acc (ix2 d a) = acc (ix2 d a) + addK I n (ment s) (ent p) d a := by
  pointwise [dkE, k0_pay69, k0_pay70, k0_pay71, k0_pay72, k0_pay73, k0_pay74, k0_pay75, k0_pay76, k0_pay77, k0_pay78, k0_pay79, k0_pay80, k0_pay118, k0_pay119, k0_pay120]
  split
  · simp only [slabQ_at, slabR_at, lo_at, addK, gr, wt, msk, Fin.eta]
  · rename_i h
    simp only [slabQ_at, slabR_at, hi_at, hi_row h, hi_val h, addK, gr, wt, msk]
theorem dvE_at (acc : FVec Ideal S64x512 .f32) (e : Fin 64) (a : Fin 512) :
    dvE I n s acc (ix2 e a) = acc (ix2 e a) + addV I n (ment s) e a := by
  pointwise [dvE, k0_pay69, k0_pay70, k0_pay71, k0_pay72, k0_pay73, k0_pay74, k0_pay75, k0_pay76, k0_pay77, k0_pay78, k0_pay79, k0_pay80, k0_pay118, k0_pay119, k0_pay120]
  split
  · simp only [slabO_at, slabR_at, lo_at, addV, wt, msk, Fin.eta]
  · rename_i h
    simp only [slabO_at, slabR_at, hi_at, hi_row h, hi_val h, addV, wt, msk]
theorem dqE_at (old : Vec Ideal S1x1x96x512 .f32) (d : Fin 96) (r : Fin 512) :
    dqE I n s p old (ix4 0 0 d r) = old (ix4 0 0 d r) + addQ I n (ment s) (ent p) d r := by
  pointwise [dqE, k0_pay69, k0_pay70, k0_pay71, k0_pay72, k0_pay73, k0_pay74, k0_pay75, k0_pay76, k0_pay77, k0_pay78, k0_pay79, k0_pay80, k0_pay118, k0_pay119, k0_pay120]
  simp only [slabR_at, lo_at, hi_at, ktLo_at, ktHi_at]
  unfold addQ
  rw [← sum_halves]
  simp only [gr, wt, msk]

/-- The last tile above the diagonal. -/
theorem dkL_at (acc : FVec Ideal S96x512 .f32) (d : Fin 96) (a : Fin 512) :
    dkL I n s p acc (ix2 d a) = acc (ix2 d a) + addK I n (ent s) (ent p) d a := by
  pointwise [dkL, k0_pay83, k0_pay84, k0_pay85, k0_pay86, k0_pay87, k0_pay88, k0_pay89, k0_pay90, k0_pay91, k0_pay92, k0_pay93, k0_pay94, k0_pay95, k0_pay96]
  split
  · simp only [slabQ_at, slabR_at, lo_at, addK, gr, wt, Fin.eta]
  · rename_i h
    simp only [slabQ_at, slabR_at, hi_at, hi_row h, hi_val h, addK, gr, wt]
theorem dvL_at (acc : FVec Ideal S64x512 .f32) (e : Fin 64) (a : Fin 512) :
    dvL I n s acc (ix2 e a) = acc (ix2 e a) + addV I n (ent s) e a := by
  pointwise [dvL, k0_pay83, k0_pay84, k0_pay85, k0_pay86, k0_pay87, k0_pay88, k0_pay89, k0_pay90, k0_pay91, k0_pay92, k0_pay93, k0_pay94, k0_pay95, k0_pay96]
  split
  · simp only [slabO_at, slabR_at, lo_at, addV, wt, Fin.eta]
  · rename_i h
    simp only [slabO_at, slabR_at, hi_at, hi_row h, hi_val h, addV, wt]
theorem dqL_at (old : Vec Ideal S1x1x96x512 .f32) (d : Fin 96) (r : Fin 512) :
    dqL I n s p old (ix4 0 0 d r) = old (ix4 0 0 d r) + addQ I n (ent s) (ent p) d r := by
  pointwise [dqL, k0_pay83, k0_pay84, k0_pay85, k0_pay86, k0_pay87, k0_pay88, k0_pay89, k0_pay90, k0_pay91, k0_pay92, k0_pay93, k0_pay94, k0_pay95, k0_pay96]
  simp only [slabR_at, lo_at, hi_at, ktLo_at, ktHi_at]
  unfold addQ
  rw [← sum_halves]
  simp only [gr, wt]

/-- The diagonal tile after it. -/
theorem dkD_at (acc : FVec Ideal S96x512 .f32) (d : Fin 96) (a : Fin 512) :
    dkD I n s p acc (ix2 d a) = acc (ix2 d a) + addK I n (ment s) (ent p) d a := by
  pointwise [dkD, k0_pay97, k0_pay98, k0_pay99, k0_pay100, k0_pay101, k0_pay102, k0_pay103, k0_pay104, k0_pay105, k0_pay106, k0_pay121, k0_pay122, k0_pay123, k0_pay124, rows]
  split
  · simp only [slabQ_at, slabR_at, lo_at, addK, gr, wt, msk, Fin.eta]
  · rename_i h
    simp only [slabQ_at, slabR_at, hi_at, hi_row h, hi_val h, addK, gr, wt, msk]
theorem dvD_at (acc : FVec Ideal S64x512 .f32) (e : Fin 64) (a : Fin 512) :
    dvD I n s acc (ix2 e a) = acc (ix2 e a) + addV I n (ment s) e a := by
  pointwise [dvD, k0_pay97, k0_pay98, k0_pay99, k0_pay100, k0_pay101, k0_pay102, k0_pay103, k0_pay104, k0_pay105, k0_pay106, k0_pay121, k0_pay122, k0_pay123, k0_pay124, rows]
  split
  · simp only [slabO_at, slabR_at, lo_at, addV, wt, msk, Fin.eta]
  · rename_i h
    simp only [slabO_at, slabR_at, hi_at, hi_row h, hi_val h, addV, wt, msk]
theorem dqD_at (old : Vec Ideal S1x1x96x512 .f32) (d : Fin 96) (r : Fin 512) :
    dqD I n s p old (ix4 0 0 d r) = old (ix4 0 0 d r) + addQ I n (ment s) (ent p) d r := by
  pointwise [dqD, k0_pay97, k0_pay98, k0_pay99, k0_pay100, k0_pay101, k0_pay102, k0_pay103, k0_pay104, k0_pay105, k0_pay106, k0_pay121, k0_pay122, k0_pay123, k0_pay124, rows]
  simp only [slabR_at, lo_at, hi_at, ktLo_at, ktHi_at]
  unfold addQ
  rw [← sum_halves]
  simp only [gr, wt, msk]

end Cert.FlashIdeal.Hand

end
-- ==== Proof.FlashIdealSum.lean ====
/-
  The attention backward's grid points, entry by entry: a point's key block gathers from every tile of queries at or
  after it, and adds to each such tile; over a head's points a tile gathers from every key block at or before it.
-/
module

public import proofs.«01_k».proof.Proof.FlashIdealTerm

@[expose] public section

noncomputable section

namespace Cert.FlashIdeal.Hand

open Cert.FlashIdeal Cert.FlashIdeal.Gen Idealize.ShloMosaic Idealize.ShloMosaic.TcCoe Idealize.SL.Sem
open Idealize.ShloMosaic.VecWindow (window put)

variable (I : Ins Ideal) (j : ℕ)

/-- A tile's scores: masked on the diagonal. -/
def sco (n : Fin 32) : Fin 512 → Fin 512 → EReal := if n.val = j then fun a r => msk a r (SC I n a r) else SC I n
/-- What key block `j` and the queries' tile `n` add: nothing before the diagonal. -/
def tmQ (n : Fin 32) (d : Fin 96) (r : Fin 512) : EReal := if n.val < j then 0 else addQ I n (sco I j n) (PR I n) d r
def tmK (n : Fin 32) (d : Fin 96) (a : Fin 512) : EReal := if n.val < j then 0 else addK I n (sco I j n) (PR I n) d a
def tmV (n : Fin 32) (e : Fin 64) (a : Fin 512) : EReal := if n.val < j then 0 else addV I n (sco I j n) e a

theorem sco_after {n : Fin 32} (h : j < n.val) : sco I j n = SC I n := if_neg (by omega)
theorem sco_diag {n : Fin 32} (h : n.val = j) : sco I j n = fun a r => msk a r (SC I n a r) := if_pos h

theorem tix_val {n : ℕ} (h : n < 32) : (tix n).val = n := Nat.mod_eq_of_lt h
theorem tix_of (n : Fin 32) : tix n.val = n := Fin.ext (tix_val n.isLt)

/-- The tile in hand before trip `k`, or at the loop's end. -/
def hand (k : ℕ) : ℕ := if j + 1 + 2 * k ≤ 31 then j + 1 + 2 * k else j

theorem scAt_ent (hj : j < 32) (k : ℕ) : ent (scAt I j k) = SC I (tix (hand j k)) := by
  cases k with
  | zero =>
    rw [show hand j 0 = first j by unfold hand first; split_ifs <;> omega]
    exact sc0_at I _
  | succ k =>
    rw [show hand j (k + 1) = next j k by unfold hand next; split_ifs <;> omega]
    exact scA_at I _
theorem prAt_ent (hj : j < 32) (k : ℕ) : ent (prAt I j k) = PR I (tix (hand j k)) := by
  cases k with
  | zero =>
    rw [show hand j 0 = first j by unfold hand first; split_ifs <;> omega]
    exact pr0_at I _
  | succ k =>
    rw [show hand j (k + 1) = next j k by unfold hand next; split_ifs <;> omega]
    exact prA_at I _

/-! ## A tile of the queries' gradient replaced -/

theorem putQ_at (x : Vec Ideal S1x32x96x512 .f32) (n n' : Fin 32) (w : Vec Ideal S1x1x96x512 .f32) (d : Fin 96) (r : Fin 512) :
    putQ x n w (ix4 0 n' d r) = if n' = n then w (ix4 0 0 d r) else x (ix4 0 n' d r) := by
  split
  · rename_i h
    subst h
    exact (slabQ_at n' (putQ x n' w) d r).symm.trans (congrFun (VecWindow.window_put_same _ _ _ _ _) _)
  · rename_i h
    exact (slabQ_at n' (putQ x n w) d r).symm.trans ((congrFun (slab_put_ne x h w) _).trans (slabQ_at n' x d r))

/-! ## The loop -/

variable (x : St Ideal)

/-- A trip adds its two tiles' sums. -/
theorem st_dk (hj : j < 32) (k : ℕ) (hk : j + 2 * k ≤ 31) (d : Fin 96) (a : Fin 512) :
    (st I j x k).dk (ix2 d a) = x.dk (ix2 d a) + ∑ i ∈ Finset.range (2 * k), tmK I j (tix (j + 1 + i)) d a := by
  induction k with
  | zero => simp [st]
  | succ k ih =>
    have e1 : (tix (j + 1 + 2 * k)).val = j + 1 + 2 * k := tix_val (by omega)
    have e2 : (tix (j + 2 + 2 * k)).val = j + 2 + 2 * k := tix_val (by omega)
    have eh : hand j k = j + 1 + 2 * k := by unfold hand; split_ifs <;> omega
    rw [st, trip]
    dsimp only
    rw [dkB_at, dkA_at, ih (by omega), scAt_ent I j hj, prAt_ent I j hj, eh, scB_at, prB_at,
      show 2 * (k + 1) = 2 * k + 1 + 1 by omega, Finset.sum_range_succ, Finset.sum_range_succ, show j + 1 + (2 * k + 1) = j + 2 + 2 * k by omega]
    unfold tmK
    rw [if_neg (by omega), if_neg (by omega), sco_after I j (by omega), sco_after I j (by omega)]
    simp only [add_assoc]

theorem st_dv (hj : j < 32) (k : ℕ) (hk : j + 2 * k ≤ 31) (e : Fin 64) (a : Fin 512) :
    (st I j x k).dv (ix2 e a) = x.dv (ix2 e a) + ∑ i ∈ Finset.range (2 * k), tmV I j (tix (j + 1 + i)) e a := by
  induction k with
  | zero => simp [st]
  | succ k ih =>
    have e1 : (tix (j + 1 + 2 * k)).val = j + 1 + 2 * k := tix_val (by omega)
    have e2 : (tix (j + 2 + 2 * k)).val = j + 2 + 2 * k := tix_val (by omega)
    have eh : hand j k = j + 1 + 2 * k := by unfold hand; split_ifs <;> omega
    rw [st, trip]
    dsimp only
    rw [dvB_at, dvA_at, ih (by omega), scAt_ent I j hj, eh, scB_at,
      show 2 * (k + 1) = 2 * k + 1 + 1 by omega, Finset.sum_range_succ, Finset.sum_range_succ, show j + 1 + (2 * k + 1) = j + 2 + 2 * k by omega]
    unfold tmV
    rw [if_neg (by omega), if_neg (by omega), sco_after I j (by omega), sco_after I j (by omega)]
    simp only [add_assoc]

/-- The queries' tiles the first `k` trips have added to. -/
theorem st_dq (hj : j < 32) (k : ℕ) (hk : j + 2 * k ≤ 31) (n : Fin 32) (d : Fin 96) (r : Fin 512) :
    (st I j x k).dq (ix4 0 n d r) = x.dq (ix4 0 n d r) + if j < n.val ∧ n.val ≤ j + 2 * k then tmQ I j n d r else 0 := by
  induction k with
  | zero =>
    rw [if_neg (by omega), add_zero]; rfl
  | succ k ih =>
    have e1 : (tix (j + 1 + 2 * k)).val = j + 1 + 2 * k := tix_val (by omega)
    have e2 : (tix (j + 2 + 2 * k)).val = j + 2 + 2 * k := tix_val (by omega)
    have eh : hand j k = j + 1 + 2 * k := by unfold hand; split_ifs <;> omega
    rw [st, trip]
    dsimp only
    have hne : tix (j + 2 + 2 * k) ≠ tix (j + 1 + 2 * k) := fun h => by have := congrArg Fin.val h; omega
    by_cases h2 : n = tix (j + 2 + 2 * k)
    · subst h2
      rw [putQ_at, if_pos rfl, dqB_at, slabQ_at, ih (by omega), if_neg (by omega), if_pos (by omega), add_zero, scB_at, prB_at]
      unfold tmQ
      rw [if_neg (by omega), sco_after I j (by omega)]
    by_cases h1 : n = tix (j + 1 + 2 * k)
    · subst h1
      rw [putQ_at, if_neg h2, putQ_at, if_pos rfl, dqA_at, slabQ_at, ih (by omega), if_neg (by omega), if_pos (by omega), add_zero, scAt_ent I j hj, prAt_ent I j hj, eh]
      unfold tmQ
      rw [if_neg (by omega), sco_after I j (by omega)]
    · have h1' : n.val ≠ j + 1 + 2 * k := fun h => h1 (Fin.ext (h.trans e1.symm))
      have h2' : n.val ≠ j + 2 + 2 * k := fun h => h2 (Fin.ext (h.trans e2.symm))
      rw [putQ_at, if_neg h2, putQ_at, if_neg h1, ih (by omega)]
      congr 1
      exact if_congr (by omega) rfl rfl

/-! ## The point -/

/-- The tiles from the diagonal one on are all that add. -/
theorem sum_tiles (hj : j < 32) (f : Fin 32 → EReal) (hf : ∀ n, n.val < j → f n = 0) :
    (∑ i ∈ Finset.range (31 - j), f (tix (j + 1 + i))) + f (tix j) = ∑ n, f n := by
  have h : ∑ n, f n = ∑ i ∈ Finset.range (j + (31 - j + 1)), f (tix i) := by
    rw [show j + (31 - j + 1) = 32 by omega, ← Fin.sum_univ_eq_sum_range (fun i => f (tix i)) 32]
    exact Finset.sum_congr rfl fun n _ => by rw [tix_of]
  have hz : ∑ i ∈ Finset.range j, f (tix i) = 0 := Finset.sum_eq_zero fun i hi => hf _ (by
    have := Finset.mem_range.mp hi
    rw [tix_val (by omega)]; exact this)
  rw [h, Finset.sum_range_add, hz, zero_add, Finset.sum_range_succ']
  congr 1
  exact Finset.sum_congr rfl fun i _ => by rw [show j + 1 + i = j + (i + 1) by omega]

theorem point_dk (hj : j < 32) (dq : Vec Ideal S1x32x96x512 .f32) (d : Fin 96) (a : Fin 512) :
    (point I j dq).dk (ix2 d a) = ∑ n, tmK I j n d a := by
  have ej : (tix j).val = j := tix_val hj
  have hz : k0_pay110 (F := Ideal) (ix2 d a) = 0 := by pointwise [k0_pay110]
  rw [← sum_tiles j hj (fun n => tmK I j n d a) fun n hn => if_pos hn]
  unfold point tail
  split
  · rename_i h
    dsimp only
    have eh : hand j ((31 - j) / 2) = j := by unfold hand; split_ifs <;> omega
    rw [dkE_at, st_dk I j _ hj _ (by omega)]
    dsimp only
    rw [hz, zero_add, show 2 * ((31 - j) / 2) = 31 - j by omega, show ment (scAt I j ((31 - j) / 2)) = fun a r => msk a r (ent (scAt I j ((31 - j) / 2)) a r) from rfl, scAt_ent I j hj, prAt_ent I j hj, eh]
    congr 1
    rw [tmK, if_neg (by omega), sco_diag I j ej]
  · rename_i h
    dsimp only
    have eh : hand j ((31 - j) / 2) = 31 := by unfold hand; split_ifs <;> omega
    have e31 : (tix 31).val = 31 := rfl
    rw [dkD_at, dkL_at, st_dk I j _ hj _ (by omega)]
    dsimp only
    rw [hz, zero_add, show ment (scT I (tix j)) = fun a r => msk a r (ent (scT I (tix j)) a r) from rfl, scT_at, prT_at, scAt_ent I j hj, prAt_ent I j hj, eh,
      show 31 - j = 2 * ((31 - j) / 2) + 1 by omega, Finset.sum_range_succ, show 2 * ((2 * ((31 - j) / 2) + 1) / 2) = 2 * ((31 - j) / 2) by omega]
    congr 1
    · congr 1
      rw [show j + 1 + 2 * ((31 - j) / 2) = 31 by omega, tmK, if_neg (by omega), sco_after I j (by omega)]
    · rw [tmK, if_neg (by omega), sco_diag I j ej]

theorem point_dv (hj : j < 32) (dq : Vec Ideal S1x32x96x512 .f32) (e : Fin 64) (a : Fin 512) :
    (point I j dq).dv (ix2 e a) = ∑ n, tmV I j n e a := by
  have ej : (tix j).val = j := tix_val hj
  have hz : k0_pay111 (F := Ideal) (ix2 e a) = 0 := by pointwise [k0_pay111]
  rw [← sum_tiles j hj (fun n => tmV I j n e a) fun n hn => if_pos hn]
  unfold point tail
  split
  · rename_i h
    dsimp only
    have eh : hand j ((31 - j) / 2) = j := by unfold hand; split_ifs <;> omega
    rw [dvE_at, st_dv I j _ hj _ (by omega)]
    dsimp only
    rw [hz, zero_add, show 2 * ((31 - j) / 2) = 31 - j by omega, show ment (scAt I j ((31 - j) / 2)) = fun a r => msk a r (ent (scAt I j ((31 - j) / 2)) a r) from rfl, scAt_ent I j hj, eh]
    congr 1
    rw [tmV, if_neg (by omega), sco_diag I j ej]
  · rename_i h
    dsimp only
    have eh : hand j ((31 - j) / 2) = 31 := by unfold hand; split_ifs <;> omega
    have e31 : (tix 31).val = 31 := rfl
    rw [dvD_at, dvL_at, st_dv I j _ hj _ (by omega)]
    dsimp only
    rw [hz, zero_add, show ment (scT I (tix j)) = fun a r => msk a r (ent (scT I (tix j)) a r) from rfl, scT_at, scAt_ent I j hj, eh,
      show 31 - j = 2 * ((31 - j) / 2) + 1 by omega, Finset.sum_range_succ, show 2 * ((2 * ((31 - j) / 2) + 1) / 2) = 2 * ((31 - j) / 2) by omega]
    congr 1
    · congr 1
      rw [show j + 1 + 2 * ((31 - j) / 2) = 31 by omega, tmV, if_neg (by omega), sco_after I j (by omega)]
    · rw [tmV, if_neg (by omega), sco_diag I j ej]

theorem point_dq (hj : j < 32) (dq : Vec Ideal S1x32x96x512 .f32) (n : Fin 32) (d : Fin 96) (r : Fin 512) :
    (point I j dq).dq (ix4 0 n d r) = dq (ix4 0 n d r) + tmQ I j n d r := by
  have ej : (tix j).val = j := tix_val hj
  unfold point tail
  split
  · rename_i h
    dsimp only
    have eh : hand j ((31 - j) / 2) = j := by unfold hand; split_ifs <;> omega
    by_cases hn : n = tix j
    · subst hn
      rw [putQ_at, if_pos rfl, dqE_at, slabQ_at, st_dq I j _ hj _ (by omega), if_neg (by omega), add_zero, show ment (scAt I j ((31 - j) / 2)) = fun a r => msk a r (ent (scAt I j ((31 - j) / 2)) a r) from rfl, scAt_ent I j hj, prAt_ent I j hj, eh]
      dsimp only
      rw [tmQ, if_neg (by omega), sco_diag I j ej]
    · have hn' : n.val ≠ j := fun h => hn (Fin.ext (h.trans ej.symm))
      rw [putQ_at, if_neg hn, st_dq I j _ hj _ (by omega)]
      congr 1
      have := n.isLt
      split
      · rfl
      · rw [tmQ, if_pos (by omega)]
  · rename_i h
    dsimp only
    have eh : hand j ((31 - j) / 2) = 31 := by unfold hand; split_ifs <;> omega
    have e31 : (tix 31).val = 31 := rfl
    have hne : tix j ≠ tix 31 := fun h => by have := congrArg Fin.val h; omega
    by_cases hn : n = tix j
    · subst hn
      rw [putQ_at, if_pos rfl, dqD_at, slabQ_at, st_dq I j _ hj _ (by omega), if_neg (by omega), add_zero, show ment (scT I (tix j)) = fun a r => msk a r (ent (scT I (tix j)) a r) from rfl, scT_at, prT_at]
      dsimp only
      rw [tmQ, if_neg (by omega), sco_diag I j ej]
    by_cases hn1 : n = tix 31
    · subst hn1
      rw [putQ_at, if_neg hn, putQ_at, if_pos rfl, dqL_at, slabQ_at, st_dq I j _ hj _ (by omega), if_neg (by omega), add_zero, scAt_ent I j hj, prAt_ent I j hj, eh]
      dsimp only
      rw [tmQ, if_neg (by omega), sco_after I j (by omega)]
    · have hn' : n.val ≠ j := fun h => hn (Fin.ext (h.trans ej.symm))
      have hn1' : n.val ≠ 31 := fun h => hn1 (Fin.ext h)
      rw [putQ_at, if_neg hn, putQ_at, if_neg hn1, st_dq I j _ hj _ (by omega)]
      congr 1
      have := n.isLt
      split
      · rfl
      · rw [tmQ, if_pos (by omega)]

end Cert.FlashIdeal.Hand

end
-- ==== Proof.FlashIdealValue.lean ====
/-
  What the flash kernel's three result arrays end holding: at a score the tile's gradient is the derivative's, and the tiles add up to the
  whole sums.
-/
module

public import proofs.«01_k».proof.Proof.FlashIdealHost
public import proofs.«01_k».proof.Proof.FlashIdealSum

@[expose] public section

noncomputable section

namespace Cert.FlashIdeal.Hand

open Cert.FlashIdeal Cert.FlashIdeal.Gen Cert.NormGrad Idealize.ShloMosaic Idealize.ShloMosaic.TcCoe Idealize.SL.Sem
open Cert.FlashRow (rw' pr grad lse del blocks scale)
open Cert.FlashRefIdeal.Tie (hd σ le_bit select_bit)
open Idealize.ShloMosaic.Pipeline (Dat)

variable (m : (ℓ : Loc nD τ sig) → Buf (Elt Ideal) ℓ) (c : Dev nD)

/-- A point's head and its key block. -/
abbrev hh (t : Fin cfg0.N) : Fin 8 := ⟨t.val / 32, by have := t.isLt; have : cfg0.N = 256 := N_0; omega⟩
abbrev kb (t : Fin cfg0.N) : Fin 32 := ⟨t.val % 32, by omega⟩

theorem idx : ∀ t : Fin cfg0.N, win0_0.index t = ![t.val / 32, 0, 0, 0] ∧ win0_1.index t = ![t.val / 32, t.val % 32, 0]
    ∧ win0_2.index t = ![t.val / 32, t.val % 32, 0, 0] ∧ win0_3.index t = ![t.val / 32, t.val % 32, 0] ∧ win0_4.index t = ![t.val / 32, 0, 0, 0]
    ∧ win0_5.index t = ![t.val / 32, 0, 0, 0] ∧ win0_6.index t = ![t.val / 32, 0, 0, 0] ∧ win0_7.index t = ![t.val / 32, 0, 0, 0]
    ∧ win0_8.index t = ![t.val / 32, t.val % 32, 0, 0] ∧ win0_9.index t = ![t.val / 32, t.val % 32, 0, 0] := by
  decide +kernel

/-! ## The blocks -/

variable (t : Fin cfg0.N) (n : Fin 32) (a r : Fin 512) (d : Fin 96) (e : Fin 64)

theorem in_q : (insAt m c t).q (ix4 0 n d r) = hd (aq m c) (hh t) (rw' n r) d :=
  (show iblk m c 0 t (ix4 0 n d r) = V m c main_v27 (ix4 (hh t) n d r) by blk_ext [iblk, idx t]).trans (V27 (hh t) m c n d r)
theorem in_k : (insAt m c t).k (ix3 0 a d) = hd (ak m c) (hh t) (rw' (kb t) a) d :=
  (show iblk m c 1 t (ix3 0 a d) = V m c main_v29 (ix3 (hh t) (rw' (kb t) a) d) by blk_ext [iblk, idx t]).trans (V29 (hh t) m c _ d)
theorem in_kt : (insAt m c t).kt (ix4 0 0 d a) = hd (ak m c) (hh t) (rw' (kb t) a) d :=
  (show iblk m c 2 t (ix4 0 0 d a) = V m c main_v32 (ix4 (hh t) (kb t) d a) by blk_ext [iblk, idx t]).trans (V32 (hh t) m c _ d a)
theorem in_v : (insAt m c t).v (ix3 0 a e) = hd (av m c) (hh t) (rw' (kb t) a) e :=
  (show iblk m c 3 t (ix3 0 a e) = V m c main_v34 (ix3 (hh t) (rw' (kb t) a) e) by blk_ext [iblk, idx t]).trans (V34 (hh t) m c _ e)
theorem in_o : (insAt m c t).o (ix4 0 n e r) = hd (ac m c) (hh t) (rw' n r) e :=
  (show iblk m c 4 t (ix4 0 n e r) = V m c main_v36 (ix4 (hh t) n e r) by blk_ext [iblk, idx t]).trans (V36 (hh t) m c n e r)
/-- A row of the two per-query windows, whatever the array. -/
theorem read5 (Y : Vec Ideal S8x32x1x512 .f32) : View.read (Elt Ideal) ((cfg0.win 5).blk t).view Y (ix4 0 n 0 r) = Y (ix4 (hh t) n 0 r) :=
  congrArg Y (show ((View.whole main_v37).slice (win0_5.rect t)).emb (ix4 0 n 0 r) = ix4 (hh t) n 0 r by blk_ext [idx t])
theorem read6 (Y : Vec Ideal S8x32x1x512 .f32) : View.read (Elt Ideal) ((cfg0.win 6).blk t).view Y (ix4 0 n 0 r) = Y (ix4 (hh t) n 0 r) :=
  congrArg Y (show ((View.whole main_v38).slice (win0_6.rect t)).emb (ix4 0 n 0 r) = ix4 (hh t) n 0 r by blk_ext [idx t])
theorem in_l : (insAt m c t).l (ix4 0 n 0 r) = lse σ (hd (aq m c) (hh t)) (hd (ak m c) (hh t)) (rw' n r) := by
  rw [← hostLse_at (aq m c) (ak m c) (hh t) (rw' n r), ← V37 (hh t) m c n r]
  exact read5 t n r (V m c main_v37)
theorem in_d : (insAt m c t).d (ix4 0 n 0 r)
    = del σ (hd (aq m c) (hh t)) (hd (ak m c) (hh t)) (hd (av m c) (hh t)) (hd (ac m c) (hh t)) (rw' n r) := by
  rw [← hostDel_at (aq m c) (ak m c) (av m c) (ac m c) (hh t) (rw' n r), ← V38 (hh t) m c n r]
  exact read6 t n r (V m c main_v38)

/-! ## One score of a tile -/

/-- The constants the kernel names. -/
theorem cC : (Named.named κ "c" 0x3E16C740#32 : Ideal .f32) = ((σ * (Real.log 2)⁻¹ : ℝ) : EReal) := IdealRules.named_const.ideal_named_scalar _ _ _ _ rfl
theorem cB : (Named.named κ "log2e" 0x3FB8AA3B#32 : Ideal .f32) = (((Real.log 2)⁻¹ : ℝ) : EReal) := IdealRules.named_const.ideal_named_scalar _ _ _ _ rfl
theorem cM : (Named.named κ "mask" 0xF149F2CA#32 : Ideal .f32) = (⊥ : EReal) := IdealRules.named_const.ideal_named_scalar _ _ _ _ rfl

theorem wt_at (x l : EReal) : wt x l = Cert.FlashRow.wt ((σ * (Real.log 2)⁻¹ : ℝ) : EReal) (((Real.log 2)⁻¹ : ℝ) : EReal) x l := by
  unfold wt Cert.FlashRow.wt
  rw [cC, cB]
  rfl

theorem msk_at (x : EReal) : msk a r x = if a ≤ r then x else ⊥ := by
  unfold msk
  rw [cM]
  have h := le_bit ⟨r.val, by omega⟩ ⟨a.val, by omega⟩
  dsimp only at h
  rw [h]
  exact select_bit _ _ _

theorem sc_at : SC (insAt m c t) n a r = ∑ d, hd (ak m c) (hh t) (rw' (kb t) a) d * hd (aq m c) (hh t) (rw' n r) d := by
  unfold SC
  simp only [in_k, in_q]
theorem pr_at : PR (insAt m c t) n a r = ∑ e, hd (av m c) (hh t) (rw' (kb t) a) e * hd (ac m c) (hh t) (rw' n r) e := by
  unfold PR
  simp only [in_v, in_o]

variable {m c}
variable (hq : ∀ h q d, Fin' (hd (aq m c) h q d)) (hk : ∀ h q d, Fin' (hd (ak m c) h q d))
  (hv : ∀ h q e, Fin' (hd (av m c) h q e)) (hc : ∀ h q e, Fin' (hd (ac m c) h q e))

include hq hk in
/-- A tile's weight is the row's weight. -/
theorem tile_wt (hn : ¬n.val < t.val % 32) :
    wt (sco (insAt m c t) (t.val % 32) n a r) ((insAt m c t).l (ix4 0 n 0 r))
      = pr σ (hd (aq m c) (hh t)) (hd (ak m c) (hh t)) (rw' n r) (rw' (kb t) a) := by
  rw [in_l, wt_at]
  rcases Nat.lt_or_eq_of_le (Nat.le_of_not_lt hn) with h | h
  · rw [sco_after _ _ h, sc_at]
    refine Cert.FlashRow.wt_eq (hq _) (hk _) ?_
    rw [Fin.le_def]
    show t.val % 32 * 512 + a.val ≤ n.val * 512 + r.val
    omega
  · rw [sco_diag _ _ h.symm]
    beta_reduce
    rw [msk_at, sc_at]
    by_cases har : a ≤ r
    · rw [if_pos har]
      refine Cert.FlashRow.wt_eq (hq _) (hk _) ?_
      rw [Fin.le_def] at har ⊢
      show t.val % 32 * 512 + a.val ≤ n.val * 512 + r.val
      omega
    · rw [if_neg har]
      refine Cert.FlashRow.wt_mask ?_ _ (hq _) (hk _) ?_
      · exact mul_pos (by norm_num) (inv_pos.mpr (Real.log_pos (by norm_num)))
      rw [Fin.le_def] at har ⊢
      show ¬t.val % 32 * 512 + a.val ≤ n.val * 512 + r.val
      omega

include hq hk hv hc in
/-- A tile's gradient at a score is the derivative's. -/
theorem tile_gr (hn : ¬n.val < t.val % 32) :
    gr (insAt m c t) n (sco (insAt m c t) (t.val % 32) n) (PR (insAt m c t) n) a r
      = grad σ (hd (aq m c) (hh t)) (hd (ak m c) (hh t)) (hd (av m c) (hh t)) (hd (ac m c) (hh t)) (rw' n r) (rw' (kb t) a) := by
  unfold gr
  rw [tile_wt t n a r hq hk hn, in_d, pr_at]
  exact (Cert.FlashRow.grad_eq (hq _) (hk _) (hv _) (hc _) _ _).1

/-! ## The sums -/

/-- One product of the three gradients' sums, as the reference has it. -/
abbrev gQ (m : (ℓ : Loc nD τ sig) → Buf (Elt Ideal) ℓ) (c : Dev nD) (h : Fin 8) (q : Fin 16384) (d : Fin 96) (k : Fin 16384) : EReal :=
  grad σ (hd (aq m c) h) (hd (ak m c) h) (hd (av m c) h) (hd (ac m c) h) q k * ((σ : ℝ) : EReal) * hd (ak m c) h k d
abbrev gK (m : (ℓ : Loc nD τ sig) → Buf (Elt Ideal) ℓ) (c : Dev nD) (h : Fin 8) (k : Fin 16384) (d : Fin 96) (q : Fin 16384) : EReal :=
  grad σ (hd (aq m c) h) (hd (ak m c) h) (hd (av m c) h) (hd (ac m c) h) q k * ((σ : ℝ) : EReal) * hd (aq m c) h q d
abbrev gV (m : (ℓ : Loc nD τ sig) → Buf (Elt Ideal) ℓ) (c : Dev nD) (h : Fin 8) (k : Fin 16384) (e : Fin 64) (q : Fin 16384) : EReal :=
  hd (ac m c) h q e * pr σ (hd (aq m c) h) (hd (ak m c) h) q k

/-- What key block `j` of a head adds to a query's gradient. -/
abbrev tQ (m : (ℓ : Loc nD τ sig) → Buf (Elt Ideal) ℓ) (c : Dev nD) (h : Fin 8) (n : Fin 32) (d : Fin 96) (r : Fin 512) (j : Fin 32) : EReal :=
  if n.val < j.val then 0 else ∑ a, gQ m c h (rw' n r) d (rw' j a)

include hq hk hv hc in
theorem grad_fin (h : Fin 8) (q k : Fin 16384) : Fin' (grad σ (hd (aq m c) h) (hd (ak m c) h) (hd (av m c) h) (hd (ac m c) h) q k) :=
  (Cert.FlashRow.grad_eq (hq _) (hk _) (hv _) (hc _) _ _).2

theorem grad_after {h : Fin 8} {q k : Fin 16384} (hqk : q < k) :
    grad σ (hd (aq m c) h) (hd (ak m c) h) (hd (av m c) h) (hd (ac m c) h) q k = 0 := if_neg (not_le.mpr hqk)

theorem before_key {n j : Fin 32} (hn : n.val < j.val) (r a : Fin 512) : rw' n r < rw' j a := by
  rw [Fin.lt_def]
  show n.val * 512 + r.val < j.val * 512 + a.val
  omega

include hq hk hv hc in
theorem tmQ_eq : tmQ (insAt m c t) (t.val % 32) n d r = tQ m c (hh t) n d r (kb t) := by
  unfold tmQ
  refine if_ctx_congr Iff.rfl (fun _ => rfl) fun hn => ?_
  unfold addQ
  simp only [tile_gr t n _ r hq hk hv hc hn, in_kt, Cert.FlashRow.cScale]
  exact scale _ (fun a => hk _ _ _) (fun a => grad_fin hq hk hv hc _ _ _)

include hq hk hv hc in
/-- The queries' gradient after a point: the head's key blocks so far. -/
theorem dq_at : ∀ (k : ℕ) (t : Fin cfg0.N), t.val % 32 = k →
    (outsAt m c t.val t.isLt).dq (ix4 0 n d r) = ∑ i ∈ Finset.range (k + 1), tQ m c (hh t) n d r (tix i) := by
  intro k
  induction k with
  | zero =>
    intro t ht
    rw [outsAt_first m c t ht, point_dq _ _ (by omega), tmQ_eq t n r d hq hk hv hc]
    have hz : k0_pay107 (F := Ideal) (ix4 0 n d r) = 0 := by pointwise [k0_pay107]
    rw [hz, zero_add, Finset.sum_range_one]
    exact congrArg _ (Fin.ext ht)
  | succ k ih =>
    intro t ht
    have h0 : t.val - 1 < cfg0.N := by have := t.isLt; omega
    rw [outsAt_later m c t (by omega), point_dq _ _ (by omega), tmQ_eq t n r d hq hk hv hc, Finset.sum_range_succ]
    have := ih ⟨t.val - 1, h0⟩ (by dsimp only; omega)
    dsimp only at this
    rw [this]
    have eh : hh (⟨t.val - 1, h0⟩ : Fin cfg0.N) = hh t := Fin.ext (by dsimp only; omega)
    have ek : kb t = tix (k + 1) := Fin.ext (by rw [tix_val (by omega)]; exact ht)
    rw [eh, ek]

include hq hk hv hc in
/-- After a head's last key block it is the whole sum. -/
theorem dq_last (ht : t.val % 32 = 31) : (outsAt m c t.val t.isLt).dq (ix4 0 n d r) = ∑ k, gQ m c (hh t) (rw' n r) d k := by
  rw [dq_at n r d hq hk hv hc 31 t ht, ← Fin.sum_univ_eq_sum_range (fun i => tQ m c (hh t) n d r (tix i)) 32]
  simp only [tix_of]
  refine blocks (gQ m c (hh t) (rw' n r) d) (fun j => n.val < j.val) fun j a hj => ?_
  show _ * _ * _ = _
  rw [grad_after (before_key hj r a), zero_mul, zero_mul]

include hq hk hv hc in
/-- A key block's gradient of the keys, scaled. -/
theorem dk_at : (outsAt m c t.val t.isLt).dk (ix2 d a) * Ideal.ofBits FTy.f32 0x3DD105EC#32 = ∑ q, gK m c (hh t) (rw' (kb t) a) d q := by
  have e : (outsAt m c t.val t.isLt).dk (ix2 d a)
      = ∑ n, if n.val < (kb t).val then 0 else ∑ r, hd (aq m c) (hh t) (rw' n r) d
        * grad σ (hd (aq m c) (hh t)) (hd (ak m c) (hh t)) (hd (av m c) (hh t)) (hd (ac m c) (hh t)) (rw' n r) (rw' (kb t) a) := by
    have e0 : (outsAt m c t.val t.isLt).dk (ix2 d a) = ∑ n, tmK (insAt m c t) (t.val % 32) n d a := by
      by_cases h0 : t.val % 32 = 0
      · rw [outsAt_first m c t h0, point_dk _ _ (by omega)]
      · rw [outsAt_later m c t h0, point_dk _ _ (by omega)]
    rw [e0]
    refine Finset.sum_congr rfl fun n _ => ?_
    unfold tmK
    refine if_ctx_congr Iff.rfl (fun _ => rfl) fun hn => ?_
    unfold addK
    simp only [tile_gr t n a _ hq hk hv hc hn, in_q]
  rw [e, blocks (fun q => hd (aq m c) (hh t) q d
      * grad σ (hd (aq m c) (hh t)) (hd (ak m c) (hh t)) (hd (av m c) (hh t)) (hd (ac m c) (hh t)) q (rw' (kb t) a)) (fun n => n.val < (kb t).val)
    fun n r hn => by beta_reduce; rw [grad_after (before_key hn r a), mul_zero], Cert.FlashRow.cScale]
  exact scale _ (fun q => hq _ _ _) (fun q => grad_fin hq hk hv hc _ _ _)

include hq hk hv hc in
/-- A key block's gradient of the values. -/
theorem dv_at : (outsAt m c t.val t.isLt).dv (ix2 e a) = ∑ q, gV m c (hh t) (rw' (kb t) a) e q := by
  have e0 : (outsAt m c t.val t.isLt).dv (ix2 e a) = ∑ n, tmV (insAt m c t) (t.val % 32) n e a := by
    by_cases h0 : t.val % 32 = 0
    · rw [outsAt_first m c t h0, point_dv _ _ (by omega)]
    · rw [outsAt_later m c t h0, point_dv _ _ (by omega)]
  rw [e0, ← blocks (gV m c (hh t) (rw' (kb t) a) e) (fun n => n.val < (kb t).val) fun n r hn => by
    show _ * _ = _
    rw [Cert.FlashRow.pr_zero (hq _) (hk _) (not_le.mpr (before_key hn r a)), mul_zero]]
  refine Finset.sum_congr rfl fun n _ => ?_
  unfold tmV
  refine if_ctx_congr Iff.rfl (fun _ => rfl) fun hn => ?_
  unfold addV
  simp only [tile_wt t n a _ hq hk hn, in_o]

/-! ## The arrays -/

/-- Where a block's entries lie. -/
theorem row7 (z : Fin 1) (n : Fin 32) (d : Fin 96) (r : Fin 512) :
    ((View.whole main_v39_0).slice (win0_7.rect t)).emb (ix4 z n d r) = ix4 (hh t) n d r := by
  obtain rfl : z = 0 := Subsingleton.elim _ _
  blk_ext [idx t]
theorem row8 (z z' : Fin 1) (d : Fin 96) (r : Fin 512) :
    ((View.whole main_v39_1).slice (win0_8.rect t)).emb (ix4 z z' d r) = ix4 (hh t) (kb t) d r := by
  obtain rfl : z = 0 := Subsingleton.elim _ _
  obtain rfl : z' = 0 := Subsingleton.elim _ _
  blk_ext [idx t]
theorem row9 (z z' : Fin 1) (e : Fin 64) (r : Fin 512) :
    ((View.whole main_v39_2).slice (win0_9.rect t)).emb (ix4 z z' e r) = ix4 (hh t) (kb t) e r := by
  obtain rfl : z = 0 := Subsingleton.elim _ _
  obtain rfl : z' = 0 := Subsingleton.elim _ _
  blk_ext [idx t]

include hq hk hv hc in
theorem final7 : (dats m 0 c).arrAt 7 cfg0.N = fun y => ∑ k, gQ m c (y 0) (rw' (y 1) (y 3)) (y 2) k := by
  refine (dats m 0 c).arrAt_eq_of_covers 7 _ (by decide +kernel) fun t hf y => ?_
  blk_simp
  rw [after0_7]
  frame_out
  idx_vars y
  erw [row7]
  obtain rfl : y0 = 0 := Subsingleton.elim _ _
  exact dq_last t _ _ _ hq hk hv hc ((flush0_7 t).mp hf)

include hq hk hv hc in
theorem final8 : (dats m 0 c).arrAt 8 cfg0.N = fun y => ∑ q, gK m c (y 0) (rw' (y 1) (y 3)) (y 2) q := by
  refine (dats m 0 c).arrAt_eq_of_covers 8 _ (by decide +kernel) fun t hf y => ?_
  blk_simp
  rw [after0_8]
  frame_out
  idx_vars y
  erw [row8]
  obtain rfl : y0 = 0 := Subsingleton.elim _ _
  obtain rfl : y1 = 0 := Subsingleton.elim _ _
  refine Eq.trans ?_ (dk_at t _ _ hq hk hv hc)
  generalize (outsAt m c t.val t.isLt).dk = z
  pointwise [k0_pay1, k0_pay125]

include hq hk hv hc in
theorem final9 : (dats m 0 c).arrAt 9 cfg0.N = fun y => ∑ q, gV m c (y 0) (rw' (y 1) (y 3)) (y 2) q := by
  refine (dats m 0 c).arrAt_eq_of_covers 9 _ (by decide +kernel) fun t hf y => ?_
  blk_simp
  rw [after0_9]
  frame_out
  idx_vars y
  erw [row9]
  obtain rfl : y0 = 0 := Subsingleton.elim _ _
  obtain rfl : y1 = 0 := Subsingleton.elim _ _
  refine Eq.trans ?_ (dv_at t _ _ hq hk hv hc)
  generalize (outsAt m c t.val t.isLt).dv = z
  pointwise [k0_pay2]

end Cert.FlashIdeal.Hand

end
-- ==== Proof.FlashClaim.lean ====
/-
  The attention backward's claim: on finite arguments the kernel's gradients of the queries, the keys and the values are the reference's.
-/
module

public import proofs.«01_k».proof.Defs
public import proofs.«01_k».proof.Proof.FlashIdealValue
public import proofs.«01_k».proof.Proof.Gen.Pre_finite_qkvc

@[expose] public section

noncomputable section

namespace Cert.FlashClaim

open Cert.NormGrad Idealize.ShloMosaic Idealize.ShloMosaic.TcCoe Idealize.SL.Sem
open Cert.FlashRefIdeal.Tie (hd v64_at v66_at v68_at)
open Cert.FlashIdeal.Hand (aq ak av ac final7 final8 final9)

variable {m : (ℓ : Loc Cert.FlashIdeal.nD Cert.FlashIdeal.τ Cert.FlashIdeal.sig) → Buf (Elt Ideal) ℓ}

/-- What the precondition says of the arguments. -/
theorem fin (h : Cert.Pre_FlashIdeal_finite_qkvc m) (c : Dev Cert.FlashIdeal.nD) :
    (∀ h q d, Fin' (hd (aq m c) h q d)) ∧ (∀ h q d, Fin' (hd (ak m c) h q d)) ∧ (∀ h q e, Fin' (hd (av m c) h q e)) ∧ ∀ h q e, Fin' (hd (ac m c) h q e) := by
  obtain ⟨h0, h1, h2, h3⟩ := h c
  refine ⟨fun h q d => fin_of_bit ?_, fun h q d => fin_of_bit ?_, fun h q d => fin_of_bit ?_, fun h q d => fin_of_bit ?_⟩
  · have := congrFun h0 (ix3 q h d)
    pointwise [Cert.Pre_finite_qkvc.fn] at this
    exact this
  · have := congrFun h1 (ix3 q h d)
    pointwise [Cert.Pre_finite_qkvc.fn] at this
    exact this
  · have := congrFun h2 (ix3 q h d)
    pointwise [Cert.Pre_finite_qkvc.fn] at this
    exact this
  · have := congrFun h3 (ix3 q h d)
    pointwise [Cert.Pre_finite_qkvc.fn] at this
    exact this

open Cert.FlashIdeal Cert.FlashIdeal.Gen in
/-- The kernel's run, its three results named. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v39_0) = (Hand.dats m 0 c).arrAt 7 cfg0.N
      ∧ r.2.mem ((c : Thread nD τ).loc main_v39_1) = (Hand.dats m 0 c).arrAt 8 cfg0.N
      ∧ r.2.mem ((c : Thread nD τ).loc main_v39_2) = (Hand.dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 7, (h.1 c).1 8, (h.1 c).1 9, h.2 c⟩)
    (θ_run_and (Hand.run_main m ρ) (frame_of m ρ (Hand.dats m) (Hand.A_eq m) (Hand.run_main m ρ)))

set_option maxHeartbeats 1000000 in
theorem claim : Cert.algebraic_FlashIdeal_FlashRefIdeal_pre_finite_qkvc := by
  intro m g m' g' hp ha
  refine ⟨fun c => (Cert.FlashIdeal.Hand.dats m 0 c).arrAt 7 Cert.FlashIdeal.cfg0.N, fun c => (Cert.FlashIdeal.Hand.dats m 0 c).arrAt 8 Cert.FlashIdeal.cfg0.N,
    fun c => (Cert.FlashIdeal.Hand.dats m 0 c).arrAt 9 Cert.FlashIdeal.cfg0.N, ?_, ?_⟩
  · exact run_blocks m g
  · refine (θ_run Cert.FlashRefIdeal.defs _ _).mono (fun r h c => ?_) (Cert.FlashRefIdeal.Value.run (F := Ideal) m' g')
    obtain ⟨h0, h1, h2, hk⟩ := h c
    obtain ⟨a0, a1, a2, a3⟩ := ha c
    obtain ⟨fq, fk, fv, fc⟩ := fin hp c
    refine ⟨h0.trans ?_, h1.trans ?_, h2.trans ?_, hk⟩
    all_goals beta_reduce
    · rw [Cert.FlashRefIdeal.Read.val_main_v64_eq, final7 fq fk fv fc, a0, a1, a2, a3]
      funext j
      idx_vars j
      exact v64_at _ _ _ _ _ _ _ _
    · rw [Cert.FlashRefIdeal.Read.val_main_v66_eq, final8 fq fk fv fc, a0, a1, a2, a3]
      funext j
      idx_vars j
      exact v66_at _ _ _ _ _ _ _ _
    · rw [Cert.FlashRefIdeal.Read.val_main_v68_eq, final9 fq fk fv fc, a0, a1, a3]
      funext j
      idx_vars j
      exact v68_at _ _ _ _ _ _ _

end Cert.FlashClaim

end
-- ==== Proof.FwdIdealTile.lean ====
/-
  What one tile of keys adds in the attention forward's kernel, as functions of values. At the grid's point `(h, i)`
  the kernel takes the key tiles `0, …, i` in order, two in a trip of its loop and the rest in its tail, the tile `i`
  under the causal mask; it carries the running maximum of the scores and the weighted sums of the values (with the
  row of ones below them). The payloads of the tiles differ in name only.
-/
module

public import proofs.«01_k».proof.Proof.Gen.FwdIdeal.Loops
public import proofs.«01_k».proof.Proof.Gen.FwdIdeal.Points
public import Idealize.ShloMosaic.Lib.VecWindow

@[expose] public section

noncomputable section

namespace Cert.FwdIdeal.Hand

open Cert.FwdIdeal Cert.FwdIdeal.Gen
open Idealize.ShloMosaic Idealize.ShloMosaic.TcCoe
open Idealize.ShloMosaic.VecWindow (window put)

/-- The loop's trips at the point: half of the tiles below the diagonal one, rounded down. -/
theorem trips1 : ∀ i : grid0.Coords, (k0_t1_loop i).trips = (i 1).val / 2 := by decide +kernel
/-- The remainder loop makes none. -/
theorem trips2 : ∀ i : grid0.Coords, (k0_t2_loop i).trips = 0 := by decide +kernel

theorem k0_off1_one : ∀ i k, k0_off1 i k 1#32 = ![0, 512 * (2 * k.val + 1), 0] := by decide +kernel
theorem k0_off1_two : ∀ i k, k0_off1 i k 2#32 = ![0, 512 * (2 * k.val + 2), 0] := by decide +kernel
theorem k0_off2_eq : ∀ i k, k0_off2 i k = ![0, 2 * k.val, 0, 0] := by decide +kernel
theorem k0_off3_eq : ∀ i k, k0_off3 i k = ![0, 2 * k.val + 1, 0, 0] := by decide +kernel
theorem k0_off7_eq : ∀ i, k0_off7 i = ![0, (i 1).val, 0, 0] := by decide +kernel
theorem k0_off8_eq : ∀ i, k0_off8 i = ![0, 512 * (i 1).val, 0] := by decide +kernel
theorem k0_off9_eq : ∀ i, ¬ k0_cond1 i = 1#1 → k0_off9 i = ![0, (i 1).val - 1, 0, 0] := by decide +kernel
theorem k0_off10_eq : ∀ i, k0_off10 i = ![0, (i 1).val, 0, 0] := by decide +kernel
/-- The tail is of the diagonal tile alone when the tiles below it are even in number. -/
theorem k0_cond1_iff : ∀ i, k0_cond1 i = 1#1 ↔ (i 1).val % 2 = 0 := by decide +kernel

variable {F : FTy → Type} [FloatOps F] [Named F]

/-- Tile number `n`. -/
abbrev tix (n : ℕ) : Fin 32 := Fin.ofNat 32 n

/-- Tile `n` of the head's keys, and of its values with the ones below. -/
def slabK {e : EltTy} (x : Vec F S1x16384x96 e) (n : Fin 32) : Vec F S1x512x96 e :=
  window x ![0, 512 * n.val, 0] S1x512x96.size (by intro a; have := n.isLt; fin_cases a <;> simp [Shape.size] <;> omega)
def slabV {e : EltTy} (x : Vec F S1x32x80x512 e) (n : Fin 32) : Vec F S1x1x80x512 e :=
  window x ![0, n.val, 0, 0] S1x1x80x512.size (by intro a; have := n.isLt; fin_cases a <;> simp [Shape.size] <;> omega)

/-- The kernel's inputs at a grid point: the tile of queries (transposed), the head's keys, its values by tiles. -/
structure Ins (F : FTy → Type) where
  q : Vec F S1x1x96x512 .bf16
  k : Vec F S1x16384x96 .bf16
  v : Vec F S1x32x80x512 .bf16

/-- What is carried: the running maximum, the weighted sums. -/
structure St (F : FTy → Type) where
  m : FVec F S1x512 .f32
  acc : FVec F S80x512 .f32

variable (I : Ins F)

/-- The scores of tile `n`, keys by queries. -/
def sc (n : Fin 32) : Vec F S512x512 .f32 := k0_pay23 (slabK I.k n) I.q
/-- One tile below the diagonal, and the diagonal one. -/
def upd (n : Fin 32) (s : Vec F S512x512 .f32) (x : St F) : St F := ⟨k0_pay14 x.m s, k0_pay15 x.m x.acc s (slabV I.v n)⟩
def updM (n : Fin 32) (s : Vec F S512x512 .f32) (x : St F) : St F := ⟨k0_pay5 x.m s, k0_pay6 x.m x.acc s (slabV I.v n)⟩

/-- Before tile `n`. -/
def st : ℕ → St F
  | 0 => ⟨k0_pay24, k0_pay25⟩
  | n + 1 => upd I (tix n) (sc I (tix n)) (st n)

/-- The whole point. -/
def point (j : ℕ) : St F := updM I (tix j) (sc I (tix j)) (st I j)

/-! ## Loads as values -/

section Loads
variable {κ : Kind} {sp : Space} {e : EltTy}

theorem readK {v : View sig κ sp S1x16384x96 e} {f : v.ty.Contents (Elt F)} {x : Vec F S1x16384x96 e} (hx : v.read (Elt F) f = x) {off : Fin 3 → ℕ} (inb) (n : Fin 32)
    (h : off = ![0, 512 * n.val, 0]) : v.readAt (Elt F) (Rect.unit (s := S1x16384x96) off S1x512x96.size inb).toLoadRect f = slabK x n := by
  rw [View.readAt_unit v f inb h, hx]; rfl
theorem readV {v : View sig κ sp S1x32x80x512 e} {f : v.ty.Contents (Elt F)} {x : Vec F S1x32x80x512 e} (hx : v.read (Elt F) f = x) {off : Fin 4 → ℕ} (inb) (n : Fin 32)
    (h : off = ![0, n.val, 0, 0]) : v.readAt (Elt F) (Rect.unit (s := S1x32x80x512) off S1x1x80x512.size inb).toLoadRect f = slabV x n := by
  rw [View.readAt_unit v f inb h, hx]; rfl
theorem readFull {s : Shape} {v : View sig κ sp s e} {f : v.ty.Contents (Elt F)} {x : Vec F s e} (hx : v.read (Elt F) f = x) {off : Fin s.rank → ℕ} (inb) :
    v.readAt (Elt F) (Rect.unit (s := s) off s.size inb).toLoadRect f = x := by
  rw [View.readAt_full v f inb, hx]
/-- A tile of scores just stored whole. -/
theorem covFull (v : View sig κ sp S512x512 .f32) (x : Vec F S512x512 .f32) (inb') (inb) :
    v.readCov [⟨Rect.unit (s := S512x512) ![0, 0] S512x512.size inb', x⟩] (Rect.unit (s := S512x512) ![0, 0] S512x512.size inb).toLoadRect = x :=
  readFull (View.read_writes_full v _ inb' x []) inb

end Loads

end Cert.FwdIdeal.Hand
-- ==== Proof.FwdIdealBody.lean ====
/-
  The attention forward's kernel at one grid point: one trip of its loop at a symbolic trip, the loop, its tail, and
  the two stores, each from the values `FwdIdealTile` names.
-/
module

public import proofs.«01_k».proof.Proof.FwdIdealTile
public import proofs.«01_k».proof.Proof.Gen.FwdIdeal.Frame

@[expose] public section

set_option maxRecDepth 16384

noncomputable section

namespace Cert.FwdIdeal.Hand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

variable (c : Dev nD) (i : grid0.Coords)
  (arg2 : Memref sig .tc .vmem S1x1x96x512 .bf16) (harg2 : arg2.IsWhole)
  (arg3 : Memref sig .tc .vmem S1x16384x96 .bf16) (harg3 : arg3.IsWhole)
  (arg4 : Memref sig .tc .vmem S1x32x80x512 .bf16) (harg4 : arg4.IsWhole)
  (arg5 : Memref sig .tc .vmem S1x1x64x512 .f32) (harg5 : arg5.IsWhole)
  (arg6 : Memref sig .tc .vmem S1x1x1x512 .f32) (harg6 : arg6.IsWhole)
  (arg7 : Memref sig .tc .vmem S512x512 .f32) (harg7 : arg7.IsWhole)
  (arg8 : Memref sig .tc .vmem S512x512 .f32) (harg8 : arg8.IsWhole)

/-- The inputs' buffers at a grid point. -/
abbrev ins (I : Ins F) : sProp 𝕄 :=
  iprop(owns (c : Thread nD τ) arg2 fullShare I.q ∗ owns (c : Thread nD τ) arg3 fullShare I.k ∗ owns (c : Thread nD τ) arg4 fullShare I.v)

/-- The buffers the loop touches, between trips: the scores of the tile in hand, and the other tile's place. -/
abbrev held (I : Ins F) (s : Vec F S512x512 .f32) : sProp 𝕄 :=
  iprop(ins c arg2 arg3 arg4 I ∗ owns (c : Thread nD τ) arg7 fullShare s ∗ (∃ x, owns (c : Thread nD τ) arg8 fullShare x))

omit [FloatOps F] [Named F] in
/-- A buffer at contents that read `x` is owned at `x`. -/
theorem own_of {sp : Space} {s : Shape} {e : EltTy} {a : Memref sig .tc sp s e} {f : Buf (Elt F) (a.view.loc (c : Thread nD τ))} {x : Vec F s e}
    (h : a.view.read (Elt F) f = x) :
    iprop(a.view.loc (c : Thread nD τ) ↦[a.view.set]{fullShare} f) ⊢
      (iprop(∃ f', ⌜a.view.read (Elt F) f' = x⌝ ∗ a.view.loc (c : Thread nD τ) ↦[a.view.set]{fullShare} f') : sProp 𝕄) := by
  iintro H; iexists f; isplitr; · ipureintro; exact h
  iexact H

set_option maxHeartbeats 2000000 in
/-- One trip: two tiles, the scores of the second and of the tile after it issued. -/
theorem trip_wp (k : Fin (k0_t1_loop i).trips) (I : Ins F) (x : St F) :
    held c arg2 arg3 arg4 arg7 arg8 I (sc I (tix (2 * k.val)))
      ⊢ wp frame (wpE (defs₀ (F := F)) Variants.none (c : Thread nD τ) none) Set.univ
        (k0_t1_body (F := F) i arg2 harg2 arg3 harg3 arg4 harg4 arg5 harg5 arg6 harg6 arg7 harg7 arg8 harg8 k (x.m, x.acc))
        (fun r => iprop(⌜r = ((upd I (tix (2 * k.val + 1)) (sc I (tix (2 * k.val + 1))) (upd I (tix (2 * k.val)) (sc I (tix (2 * k.val))) x)).m,
            (upd I (tix (2 * k.val + 1)) (sc I (tix (2 * k.val + 1))) (upd I (tix (2 * k.val)) (sc I (tix (2 * k.val))) x)).acc)⌝
          ∗ held c arg2 arg3 arg4 arg7 arg8 I (sc I (tix (2 * k.val + 2))))) := by
  unfold k0_t1_body
  simp only [k0_part1_eq_skeleton]
  unfold held ins owns
  iintro ⟨⟨⟨%f2, %h2, H2⟩, ⟨%f3, %h3, H3⟩, ⟨%f4, %h4, H4⟩⟩, ⟨%f7, %h7, H7⟩, ⟨%x8, %f8, -, H8⟩⟩
  sl_exec
  sl_step
  have hj : (i 1).val < 32 := (i 1).isLt
  have hk : 2 * k.val + 2 < 32 := by have := trips1 i; have := k.isLt; omega
  have a1 : k0_off1 i k 1#32 = ![0, 512 * (tix (2 * k.val + 1)).val, 0] := by rw [k0_off1_one]; simp [Nat.mod_eq_of_lt (show 2 * k.val + 1 < 32 by omega)]
  have a1' : k0_off1 i k 2#32 = ![0, 512 * (tix (2 * k.val + 2)).val, 0] := by rw [k0_off1_two]; simp [Nat.mod_eq_of_lt hk]
  have a2 : k0_off2 i k = ![0, (tix (2 * k.val)).val, 0, 0] := by rw [k0_off2_eq]; simp [Nat.mod_eq_of_lt (show 2 * k.val < 32 by omega)]
  have a3 : k0_off3 i k = ![0, (tix (2 * k.val + 1)).val, 0, 0] := by rw [k0_off3_eq]; simp [Nat.mod_eq_of_lt (show 2 * k.val + 1 < 32 by omega)]
  sl_unfold_run_names
  have e1 := readK (off := k0_off1 i k 1#32) h3 (k0_off1_inb i k 0) _ a1
  have e1' := readK (off := k0_off1 i k 2#32) h3 (k0_off1_inb i k 1) _ a1'
  have e2 := readV h4 (k0_off2_inb i k) _ a2
  have e3 := readV h4 (k0_off3_inb i k) _ a3
  simp only [e1, e1', e2, e3, readFull h2, readFull h7]
  rw [covFull arg8.view (k0_pay13 (slabK I.k (tix (2 * k.val + 1))) I.q) inb_S512x512_S512x512_0_0 inb_S512x512_S512x512_0_0]
  isplitr
  · ipureintro; rfl
  isplitl [H2 H3 H4]
  · isplitl [H2]; · iapply (own_of c h2); iexact H2
    isplitl [H3]; · iapply (own_of c h3); iexact H3
    iapply (own_of c h4); iexact H4
  isplitl [H7]; · iapply (own_of c (View.read_writes_full _ _ _ _ _)); iexact H7
  iexists _; iapply (own_of c rfl); iexact H8

variable (I : Ins F)

/-- The loop, from the first tile's issue. -/
theorem loop_wp :
    held c arg2 arg3 arg4 arg7 arg8 I (sc I (tix 0))
      ⊢ wp frame (wpE (defs₀ (F := F)) Variants.none (c : Thread nD τ) none) Set.univ
        (Scf.Loop.for (k0_t1_loop i) (k0_t1_ok i) (k0_pay24 (F := F), k0_pay25 (F := F)) (k0_t1_body (F := F) i arg2 harg2 arg3 harg3 arg4 harg4 arg5 harg5 arg6 harg6 arg7 harg7 arg8 harg8))
        (fun r => iprop(⌜r = ((st I (2 * ((i 1).val / 2))).m, (st I (2 * ((i 1).val / 2))).acc)⌝
          ∗ held c arg2 arg3 arg4 arg7 arg8 I (sc I (tix (2 * ((i 1).val / 2)))))) := by
  rw [← trips1 i]
  let inv (k : ℕ) (acc : FVec F S1x512 .f32 × FVec F S80x512 .f32) : sProp 𝕄 :=
    iprop(⌜acc = ((st I (2 * k)).m, (st I (2 * k)).acc)⌝ ∗ held c arg2 arg3 arg4 arg7 arg8 I (sc I (tix (2 * k))))
  have hstep (k : Fin (k0_t1_loop i).trips) (acc : FVec F S1x512 .f32 × FVec F S80x512 .f32) :
      inv k.val acc ⊢ wp frame (wpE (defs₀ (F := F)) Variants.none (c : Thread nD τ) none) Set.univ (k0_t1_body (F := F) i arg2 harg2 arg3 harg3 arg4 harg4 arg5 harg5 arg6 harg6 arg7 harg7 arg8 harg8 k acc) (inv (k.val + 1)) := by
    iintro ⟨%e, H⟩
    subst e
    iapply (trip_wp c i arg2 harg2 arg3 harg3 arg4 harg4 arg5 harg5 arg6 harg6 arg7 harg7 arg8 harg8 k I (st I (2 * k.val)))
    iexact H
  iintro H
  iapply (Scf.wp_for frame (wpE (defs₀ (F := F)) Variants.none (c : Thread nD τ) none) Set.univ _ _ _ (k0_t1_ok i) _ _ inv hstep)
  isplitl [H]
  · isplitr; · ipureintro; rfl
    iexact H
  · iintro %acc H
    iexact H

set_option maxHeartbeats 2000000 in
/-- The start and the loop. -/
theorem part4_wp :
    iprop(ins c arg2 arg3 arg4 I ∗ (∃ x, owns (c : Thread nD τ) arg7 fullShare x) ∗ (∃ x, owns (c : Thread nD τ) arg8 fullShare x))
      ⊢ wp frame (wpE (defs₀ (F := F)) Variants.none (c : Thread nD τ) none) Set.univ (k0_part4 (F := F) i arg2 harg2 arg3 harg3 arg4 harg4 arg5 harg5 arg6 harg6 arg7 harg7 arg8 harg8)
        (fun r => iprop(⌜r.2.2 = ⟨(st I (2 * ((i 1).val / 2))).m, (st I (2 * ((i 1).val / 2))).acc⟩⌝
          ∗ held c arg2 arg3 arg4 arg7 arg8 I (sc I (tix (2 * ((i 1).val / 2)))))) := by
  rw [k0_part4_eq_skeleton]; unfold k0_part4_skel; dsimp only
  have L := loop_wp c i arg2 harg2 arg3 harg3 arg4 harg4 arg5 harg5 arg6 harg6 arg7 harg7 arg8 harg8 I
  revert L
  generalize Scf.Loop.for (k0_t1_loop i) (k0_t1_ok i) (k0_pay24 (F := F), k0_pay25 (F := F)) (k0_t1_body (F := F) i arg2 harg2 arg3 harg3 arg4 harg4 arg5 harg5 arg6 harg6 arg7 harg7 arg8 harg8) = P
  intro L
  iintro ⟨⟨H2, H3, H4⟩, ⟨%x7, H7⟩, H8⟩
  irevert H2 H3 H7
  unfold owns
  iintro ⟨%f2, %h2, H2⟩ ⟨%f3, %h3, H3⟩ ⟨%f7, -, H7⟩
  sl_exec
  sl_unfold_run_names
  simp only [readK h3 inb_S1x16384x96_S1x512x96_0_0_0 (tix 0) rfl, readFull h2]
  irw [wp_bind]
  iapply (wp_wand_r frame (wpE (defs₀ (F := F)) Variants.none (c : Thread nD τ) none) Set.univ)
  isplitl [H2 H3 H4 H7 H8]
  · iapply L
    unfold held ins owns
    isplitl [H2 H3 H4]
    · isplitl [H2]; · iapply (own_of c h2); iexact H2
      isplitl [H3]; · iapply (own_of c h3); iexact H3
      iexact H4
    isplitl [H7]; · iapply (own_of c (View.read_writes_full arg7.view f7 inb_S512x512_S512x512_0_0 (k0_pay23 (slabK I.k (tix 0)) I.q) [])); iexact H7
    iexact H8
  iintro %r ⟨%e, H⟩
  subst e
  sl_step
  isplitr; · ipureintro; rfl
  iexact H

/-- The buffers after the body: the tile's output and its rows' statistic. -/
abbrev after (x : St F) : sProp 𝕄 :=
  iprop(ins c arg2 arg3 arg4 I ∗ owns (c : Thread nD τ) arg5 fullShare (k0_pay11 x.acc) ∗ owns (c : Thread nD τ) arg6 fullShare (k0_pay12 x.m x.acc)
    ∗ (∃ x, owns (c : Thread nD τ) arg7 fullShare x) ∗ (∃ x, owns (c : Thread nD τ) arg8 fullShare x))

set_option maxHeartbeats 2000000 in
/-- The body at a point. -/
theorem body_wp :
    iprop(ins c arg2 arg3 arg4 I ∗ (∃ x, owns (c : Thread nD τ) arg5 fullShare x) ∗ (∃ x, owns (c : Thread nD τ) arg6 fullShare x)
      ∗ (∃ x, owns (c : Thread nD τ) arg7 fullShare x) ∗ (∃ x, owns (c : Thread nD τ) arg8 fullShare x))
      ⊢ wp frame (wpE (defs₀ (F := F)) Variants.none (c : Thread nD τ) none) Set.univ (cc0_flash_fwd (F := F) i arg2 harg2 arg3 harg3 arg4 harg4 arg5 harg5 arg6 harg6 arg7 harg7 arg8 harg8)
        (fun _ => after c arg2 arg3 arg4 arg5 arg6 arg7 arg8 I (point I (i 1).val)) := by
  rw [cc0_flash_fwd_eq_skeleton]; unfold cc0_flash_fwd_skel
  iintro ⟨Hi, H5, H6, H7, H8⟩
  irw [wp_bind]
  iapply (wp_wand_r frame (wpE (defs₀ (F := F)) Variants.none (c : Thread nD τ) none) Set.univ)
  isplitl [Hi H7 H8]
  · iapply (part4_wp c i arg2 harg2 arg3 harg3 arg4 harg4 arg5 harg5 arg6 harg6 arg7 harg7 arg8 harg8 I)
    isplitl [Hi]; · iexact Hi
    isplitl [H7]; · iexact H7
    iexact H8
  iintro %r ⟨%e, H⟩
  obtain ⟨b1, b2, r1, r2⟩ := r
  obtain ⟨rfl, rfl⟩ := PSigma.mk.inj e
  dsimp only
  irw [wp_bind]
  let inv (k : ℕ) (acc : FVec F S1x512 .f32 × FVec F S80x512 .f32) : sProp 𝕄 :=
    iprop(⌜acc = ((st I (2 * ((i 1).val / 2))).m, (st I (2 * ((i 1).val / 2))).acc)⌝
      ∗ held c arg2 arg3 arg4 arg7 arg8 I (sc I (tix (2 * ((i 1).val / 2)))))
  iapply (wp_wand_r frame (wpE (defs₀ (F := F)) Variants.none (c : Thread nD τ) none) Set.univ)
  isplitl [H]
  · iapply (Scf.wp_for frame (wpE (defs₀ (F := F)) Variants.none (c : Thread nD τ) none) Set.univ _ _ _ (k0_t2_ok i) _ _ inv
      (fun k _ => (Nat.not_lt_zero _ (Nat.lt_of_lt_of_eq k.isLt (trips2 i))).elim))
    isplitl [H]
    · isplitr; · ipureintro; rfl
      iexact H
    · iintro %acc H
      iexact H
  iintro %r ⟨%e, H⟩
  subst e
  dsimp only
  have hj : (i 1).val < 32 := (i 1).isLt
  have a7 : k0_off7 i = ![0, (tix (i 1).val).val, 0, 0] := by rw [k0_off7_eq]; simp [Nat.mod_eq_of_lt hj]
  have a8 : k0_off8 i = ![0, 512 * (tix (i 1).val).val, 0] := by rw [k0_off8_eq]; simp [Nat.mod_eq_of_lt hj]
  have a10 : k0_off10 i = ![0, (tix (i 1).val).val, 0, 0] := by rw [k0_off10_eq]; simp [Nat.mod_eq_of_lt hj]
  unfold point
  irevert H5 H6 H
  simp only [k0_part3_eq_skeleton]
  unfold held after ins owns
  by_cases hc : k0_cond1 i = 1#1
  · have e2 : 2 * ((i 1).val / 2) = (i 1).val := by have := (k0_cond1_iff i).mp hc; omega
    rw [dif_pos hc, e2]
    iintro ⟨%x5, %f5, -, H5⟩ ⟨%x6, %f6, -, H6⟩ ⟨⟨⟨%f2, %h2, H2⟩, ⟨%f3, %h3, H3⟩, ⟨%f4, %h4, H4⟩⟩, ⟨%f7, %h7, H7⟩, ⟨%x8, %f8, -, H8⟩⟩
    sl_exec
    sl_step
    sl_unfold_run_names
    simp only [readV h4 (k0_off7_inb i hc) _ a7, readFull h7]
    isplitl [H2 H3 H4]
    · isplitl [H2]; · iapply (own_of c h2); iexact H2
      isplitl [H3]; · iapply (own_of c h3); iexact H3
      iapply (own_of c h4); iexact H4
    isplitl [H5]; · iapply (own_of c (View.read_writes_full _ _ _ _ _)); iexact H5
    isplitl [H6]; · iapply (own_of c (View.read_writes_full _ _ _ _ _)); iexact H6
    isplitl [H7]
    · iexists _; iapply (own_of c rfl); iexact H7
    · iexists _; iapply (own_of c rfl); iexact H8
  · have e2 : (i 1).val = 2 * ((i 1).val / 2) + 1 := by have := mt (k0_cond1_iff i).mpr hc; omega
    have a9 : k0_off9 i = ![0, (tix (2 * ((i 1).val / 2))).val, 0, 0] := by
      rw [k0_off9_eq i hc, show (i 1).val - 1 = 2 * ((i 1).val / 2) by omega]; simp [Nat.mod_eq_of_lt (show 2 * ((i 1).val / 2) < 32 by omega)]
    have es : st I (i 1).val = upd I (tix (2 * ((i 1).val / 2))) (sc I (tix (2 * ((i 1).val / 2)))) (st I (2 * ((i 1).val / 2))) :=
      (congrArg (st I) e2).trans rfl
    rw [dif_neg hc, es]
    iintro ⟨%x5, %f5, -, H5⟩ ⟨%x6, %f6, -, H6⟩ ⟨⟨⟨%f2, %h2, H2⟩, ⟨%f3, %h3, H3⟩, ⟨%f4, %h4, H4⟩⟩, ⟨%f7, %h7, H7⟩, ⟨%x8, %f8, -, H8⟩⟩
    sl_exec
    sl_step
    sl_unfold_run_names
    simp only [readV h4 (k0_off9_inb i hc) _ a9, readV h4 (k0_off10_inb i hc) _ a10, readK h3 (k0_off8_inb i hc) _ a8, readFull h7, readFull h2]
    rw [covFull arg8.view (k0_pay19 (slabK I.k (tix (i 1).val)) I.q) inb_S512x512_S512x512_0_0 inb_S512x512_S512x512_0_0]
    isplitl [H2 H3 H4]
    · isplitl [H2]; · iapply (own_of c h2); iexact H2
      isplitl [H3]; · iapply (own_of c h3); iexact H3
      iapply (own_of c h4); iexact H4
    isplitl [H5]; · iapply (own_of c (View.read_writes_full _ _ _ _ _)); iexact H5
    isplitl [H6]; · iapply (own_of c (View.read_writes_full _ _ _ _ _)); iexact H6
    isplitl [H7]
    · iexists _; iapply (own_of c rfl); iexact H7
    · iexists _; iapply (own_of c rfl); iexact H8

end Cert.FwdIdeal.Hand
-- ==== Proof.FwdIdealRun.lean ====
/-
  The attention forward's run: what each buffer holds after each grid point, the body's obligation there, and from
  them that every execution ends with the arguments as they were.
-/
module

public import proofs.«01_k».proof.Proof.FwdIdealBody
public import proofs.«01_k».proof.Proof.Gen.FwdIdeal.Frame
public import Idealize.ShloMosaic.Lib.Claim

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The inner grid coordinate: the tile of queries. -/
theorem query_coord : ∀ t : Fin cfg0.N, ((grid0.coords t) 1).val = t.val % 32 := by decide +kernel

/-- The inputs' blocks at a point, and what the body computes there. -/
def insAt (c : Dev nD) (t : Fin cfg0.N) : Ins F := ⟨iblk m c 0 t, iblk m c 1 t, iblk m c 2 t⟩
def outsAt (c : Dev nD) (t : Fin cfg0.N) : St F := point (insAt m c t) (t.val % 32)

/-- The proof data: each input's buffer at its block, the two outputs at the point's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay11 (outsAt m c t).acc
    | ⟨4, _⟩ => k0_pay12 (outsAt m c t).m (outsAt m c t).acc
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window, and what it finds in the inputs' buffers. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay11 (outsAt m c t).acc := by dsimp only [dats]
theorem after0_4 (c : Dev nD) (t : Fin cfg0.N) : (dats m 0 c).after 4 t = k0_pay12 (outsAt m c t).m (outsAt m c t).acc := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The two scratch buffers, as owned memrefs, out of the region's invariant and back. -/
theorem scratch_open (c : Dev nD) : (Pipeline.ΦA (Val := Elt F) (U := UR sig nD τ) spec0 c : sProp 𝕄)
    ⊢ iprop((∃ x, owns (c : Thread nD τ) (Memref.whole cc0_scratch0) fullShare x) ∗ (∃ x, owns (c : Thread nD τ) (Memref.whole cc0_scratch1) fullShare x)
      ∗ ∃ r, prngReg c r) := by
  unfold Pipeline.ΦA; rw [scopedRest0_eq]; simp only [owns_whole]
  iintro ⟨⟨⟨%f0, H0⟩, ⟨%f1, H1⟩⟩, Hr⟩
  isplitl [H0]; · iexists f0; iexact H0
  isplitl [H1]; · iexists f1; iexact H1
  iexact Hr

theorem scratch_close (c : Dev nD) : iprop((∃ x, owns (c : Thread nD τ) (Memref.whole cc0_scratch0) fullShare x) ∗ (∃ x, owns (c : Thread nD τ) (Memref.whole cc0_scratch1) fullShare x)
      ∗ ∃ r, prngReg c r) ⊢ (Pipeline.ΦA (Val := Elt F) (U := UR sig nD τ) spec0 c : sProp 𝕄) := by
  unfold Pipeline.ΦA; rw [scopedRest0_eq]; simp only [owns_whole]
  iintro ⟨⟨%f0, H0⟩, ⟨%f1, H1⟩, Hr⟩
  isplitl [H0 H1]
  · isplitl [H0]; · iexists f0; iexact H0
    iexists f1; iexact H1
  iexact Hr

set_option maxHeartbeats 1000000 in
/-- What the body leaves is what the obligation asks for. -/
theorem leave (c : Dev nD) (t : Fin cfg0.N) :
    iprop(after c (st0_0 t) (st0_1 t) (st0_2 t) (st0_3 t) (st0_4 t)
        (Memref.whole cc0_scratch0) (Memref.whole cc0_scratch1) (insAt m c t) (outsAt m c t)
      ∗ (∃ r, prngReg c r) ∗ (dats m 0 c).owesAt () t.castSucc) ⊢ bodyPost m c t := by
  unfold bodyPost after ins insAt
  rw [show (dats m 0 c).Φ t.succ = Pipeline.ΦA spec0 c from rfl,
    show (dats m 0 c).owesAt () t.succ = (dats m 0 c).owesAt () t.castSucc from rfl, after0_0, after0_1, after0_2, after0_3, after0_4]
  iintro ⟨⟨⟨H0, H1, H2⟩, H3, H4, S0, S1⟩, Hr, Ho⟩
  isplitl [S0 S1 Hr]
  · iapply (scratch_close (F := F) c)
    isplitl [S0]; · iexact S0
    isplitl [S1]; · iexact S1
    iexact Hr
  isplitl [Ho]; · iexact Ho
  isplitl [H0]; · iexact H0
  isplitl [H1]; · iexact H1
  isplitl [H2]; · iexact H2
  isplitl [H3]; · iexact H3
  iexact H4

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2]
  rw [show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩⟩
  ihave ⟨S0, S1, Hr⟩ := (scratch_open (F := F) c) $$ HΦ
  iapply (wp_wand_r frame (wpE (defs₀ (F := F)) Variants.none (c : Thread nD τ) none) Set.univ)
  isplitl [H0 H1 H2 H3 H4 S0 S1]
  · iapply (body_wp c (grid0.coords t) _ _ _ _ _ _ _ _ _ _ _ _ _ _ (insAt m c t))
    isplitl [H0 H1 H2]
    · unfold ins insAt
      isplitl [H0]; · iexact H0
      isplitl [H1]; · iexact H1
      iexact H2
    isplitl [H3]; · iexists _; iexact H3
    isplitl [H4]; · iexists _; iexact H4
    isplitl [S0]; · iexact S0
    iexact S1
  iintro %r H
  iapply (leave m c t)
  isplitl [H]
  · unfold outsAt; rw [← query_coord]; iexact H
  isplitl [Hr]; · iexact Hr
  iexact Ho

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, the arrays as the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.FwdIdeal.Hand
-- ==== Proof.FwdRow.lean ====
/-
  A row of causal attention gathered tile by tile with a running maximum, over the extended reals: after each tile the sums are those of
  the exponentials off the maximum so far, and after the last they are the row's, the maximum scaled the largest scaled score.
-/
module

public import proofs.«01_k».proof.Proof.FlashRow

@[expose] public section

noncomputable section

namespace Cert.FwdRow

open Idealize.ShloMosaic Cert.NormGrad Cert.FlashRow

/-- A power of two whose exponent is scaled. -/
def E (c : ℝ) (y : EReal) : EReal := Ideal.exp2 (y * (c : EReal))

section Tiles

variable (c : ℝ) (X W : ℕ → Fin 512 → EReal)

/-- The maximum before tile `n`, and a weighted sum before it. -/
def M : ℕ → EReal
  | 0 => ⊥
  | n + 1 => max (M n) ((Finset.univ : Finset (Fin 512)).fold max ⊥ (X n))
def A : ℕ → EReal
  | 0 => 0
  | n + 1 => A n * E c (M X n - M X (n + 1)) + ∑ a, W n a * E c (X n a - M X (n + 1))

theorem M_le (z : EReal) : ∀ n, M X n ≤ z ↔ ∀ j, j < n → ∀ a, X j a ≤ z
  | 0 => by simp [M]
  | n + 1 => by
    rw [M, max_le_iff, M_le z n, Finset.fold_max_le]
    constructor
    · rintro ⟨h1, -, h2⟩ j hj a
      rcases Nat.lt_succ_iff_lt_or_eq.mp hj with h | rfl
      · exact h1 j h a
      · exact h2 a (Finset.mem_univ a)
    · exact fun h => ⟨fun j hj a => h j (by omega) a, bot_le, fun a _ => h n (by omega) a⟩

theorem le_M {n j : ℕ} (h : j < n) (a : Fin 512) : X j a ≤ M X n := (M_le X _ n).mp le_rfl j h a

variable {c}

theorem E_bot (hc : 0 < c) : E c ⊥ = 0 := by rw [E, EReal.bot_mul_coe_of_pos hc, Ideal.exp2_bot]
theorem E_coe (y : ℝ) : E c (y : EReal) = (((2 : ℝ) ^ (y * c) : ℝ) : EReal) := by
  rw [E, ← EReal.coe_mul, Ideal.exp2_coe]
  rfl

/-- Exponentials off one maximum, brought to the next. -/
theorem E_step (hc : 0 < c) {y m m' : EReal} (hy : y = ⊥ ∨ Fin' y) (hm : m = ⊥ ∨ Fin' m) (hm' : Fin' m') (h : y ≤ m) :
    E c (y - m) * E c (m - m') = E c (y - m') := by
  obtain ⟨b, rfl⟩ := hm'
  rcases hy with rfl | ⟨x, rfl⟩
  · rw [EReal.bot_sub, EReal.bot_sub, E_bot hc, zero_mul]
  · rcases hm with rfl | ⟨a, rfl⟩
    · exact absurd (le_bot_iff.mp h) (EReal.coe_ne_bot _)
    · rw [← EReal.coe_sub, ← EReal.coe_sub, ← EReal.coe_sub, E_coe, E_coe, E_coe, ← EReal.coe_mul, ← Real.rpow_add (by norm_num)]
      congr 2
      ring

theorem E_fin (hc : 0 < c) {y m : EReal} (hy : y = ⊥ ∨ Fin' y) (hm : m = ⊥ ∨ Fin' m) (h : y ≤ m) : Fin' (E c (y - m)) := by
  rcases hy with rfl | ⟨x, rfl⟩
  · exact ⟨0, by rw [EReal.bot_sub, E_bot hc, EReal.coe_zero]⟩
  · rcases hm with rfl | ⟨a, rfl⟩
    · exact absurd (le_bot_iff.mp h) (EReal.coe_ne_bot _)
    · exact ⟨_, by rw [← EReal.coe_sub, E_coe]⟩

theorem fin_mul {x y : EReal} (hx : Fin' x) (hy : Fin' y) : Fin' (x * y) := by
  obtain ⟨a, rfl⟩ := hx
  obtain ⟨b, rfl⟩ := hy
  exact ⟨a * b, (EReal.coe_mul a b).symm⟩
theorem fin_sum {ι : Type*} (s : Finset ι) {f : ι → EReal} (hf : ∀ i ∈ s, Fin' (f i)) : Fin' (∑ i ∈ s, f i) := by
  classical
  induction s using Finset.induction_on with
  | empty => exact ⟨0, by simp⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩
/-- A factor goes inside a finite sum. -/
theorem sum_mul' {ι : Type*} (s : Finset ι) {f : ι → EReal} (hf : ∀ i ∈ s, Fin' (f i)) {r : EReal} (hr : Fin' r) :
    (∑ i ∈ s, f i) * r = ∑ i ∈ s, f i * r := by
  classical
  obtain ⟨b, rfl⟩ := hr
  induction s using Finset.induction_on with
  | empty => simp
  | insert a s ha ih =>
    have hs : ∀ i ∈ s, Fin' (f i) := fun i hi => hf i (Finset.mem_insert_of_mem hi)
    rw [Finset.sum_insert ha, Finset.sum_insert ha, ← ih hs]
    obtain ⟨x, hx⟩ := hf a (Finset.mem_insert_self a s)
    obtain ⟨y, hy⟩ := fin_sum s hs
    rw [hx, hy, ← EReal.coe_add, ← EReal.coe_mul, ← EReal.coe_mul, ← EReal.coe_mul, ← EReal.coe_add]
    congr 1
    ring

variable {X W}

/-- What a weighted sum holds before tile `n`. -/
theorem A_eq (hc : 0 < c) (hX : ∀ j a, X j a = ⊥ ∨ Fin' (X j a)) (hM : ∀ n, Fin' (M X (n + 1))) (hW : ∀ j a, Fin' (W j a)) :
    ∀ n, A c X W n = ∑ j ∈ Finset.range n, ∑ a, W j a * E c (X j a - M X n)
  | 0 => by simp [A]
  | n + 1 => by
    have hm : M X n = ⊥ ∨ Fin' (M X n) := by
      cases n with
      | zero => exact Or.inl rfl
      | succ n => exact Or.inr (hM n)
    have hr : Fin' (E c (M X n - M X (n + 1))) := E_fin hc hm (Or.inr (hM n)) (le_max_left _ _)
    have hf : ∀ j ∈ Finset.range n, ∀ a, Fin' (W j a * E c (X j a - M X n)) := fun j hj a =>
      fin_mul (hW j a) (E_fin hc (hX j a) hm (le_M X (Finset.mem_range.mp hj) a))
    rw [A, A_eq hc hX hM hW n, Finset.sum_range_succ, sum_mul' _ (fun j hj => fin_sum _ fun a _ => hf j hj a) hr]
    congr 1
    refine Finset.sum_congr rfl fun j hj => ?_
    rw [sum_mul' _ (fun a _ => hf j hj a) hr]
    refine Finset.sum_congr rfl fun a _ => ?_
    rw [mul_assoc, E_step hc (hX j a) hm (hM n) (le_M X (Finset.mem_range.mp hj) a)]

end Tiles

/-! ## A row of causal attention -/

variable {D : ℕ} (Q K : Fin 16384 → Fin D → EReal) (q : Fin 16384)

/-- The raw score of a key, the keys' products first, and by tiles. -/
def raw (k : Fin 16384) : EReal := if k ≤ q then ∑ d, K k d * Q q d else ⊥
def X (j : ℕ) (a : Fin 512) : EReal := raw Q K q (rw' (Fin.ofNat 32 j) a)

variable {Q K} {σ : ℝ} (hs : 0 < σ) (hQ : ∀ q d, Fin' (Q q d)) (hK : ∀ k d, Fin' (K k d))

theorem raw_lg (hs : 0 < σ) (k : Fin 16384) : raw Q K q k * (σ : EReal) = lg σ Q K q k := by
  unfold raw lg
  split
  · congr 1
    exact Finset.sum_congr rfl fun d _ => mul_comm _ _
  · exact EReal.bot_mul_coe_of_pos hs

theorem back (hs : 0 < σ) (x : EReal) : x * (σ : EReal) * ((σ⁻¹ : ℝ) : EReal) = x := by
  rw [mul_assoc, ← EReal.coe_mul, mul_inv_cancel₀ hs.ne', EReal.coe_one, mul_one]

theorem mono {r : ℝ} (hr : 0 < r) {x y : EReal} (h : x ≤ y) : x * (r : EReal) ≤ y * (r : EReal) :=
  mul_le_mul_of_nonneg_right h (by exact_mod_cast hr.le)

include hQ hK in
theorem raw_fin (k : Fin 16384) : raw Q K q k = ⊥ ∨ Fin' (raw Q K q k) := by
  unfold raw
  split
  · exact Or.inr (fin_sum _ fun d _ => fin_mul (hK k d) (hQ q d))
  · exact Or.inl rfl

theorem le_mx (k : Fin 16384) : lg σ Q K q k ≤ mx σ Q K q :=
  ((Finset.fold_max_le _).mp (le_refl (mx σ Q K q))).2 k (Finset.mem_univ k)

include hs in
theorem raw_le (k : Fin 16384) : raw Q K q k ≤ mx σ Q K q * ((σ⁻¹ : ℝ) : EReal) := by
  rw [← back hs (raw Q K q k)]
  refine mono (inv_pos.mpr hs) ?_
  rw [raw_lg q hs]
  exact le_mx q k

include hs hQ hK in
theorem M_fin (n : ℕ) : Fin' (M (X Q K q) (n + 1)) := by
  obtain ⟨a, x, m, L, ha, hM, hx, hL, h0, hs', h1, h2⟩ := row (σ := σ) hQ hK q
  have hu : M (X Q K q) (n + 1) ≤ ((m * σ⁻¹ : ℝ) : EReal) := (M_le _ _ _).mpr fun j _ b => by
    rw [EReal.coe_mul, ← hM]; exact raw_le q hs _
  have hl : raw Q K q (rw' 0 0) ≤ M (X Q K q) (n + 1) := le_M (X Q K q) (Nat.succ_pos n) 0
  have hr : Fin' (raw Q K q (rw' 0 0)) := by
    unfold raw
    rw [if_pos (Fin.le_def.mpr (Nat.zero_le _))]
    exact fin_sum _ fun d _ => fin_mul (hK _ d) (hQ q d)
  obtain ⟨b, hb⟩ := hr
  rw [hb] at hl
  exact ⟨_, (EReal.coe_toReal (fun h => by rw [h] at hu; exact absurd (top_le_iff.mp hu) (EReal.coe_ne_top _))
    (fun h => by rw [h] at hl; exact absurd (le_bot_iff.mp hl) (EReal.coe_ne_bot _))).symm⟩

variable {q} {i : ℕ} (hi : i < 32) (hq : q.val < (i + 1) * 512)

include hs hi hq in
/-- After the query's own tile the maximum, scaled, is the row's. -/
theorem M_last : M (X Q K q) (i + 1) * (σ : EReal) = mx σ Q K q := by
  apply le_antisymm
  · have h : M (X Q K q) (i + 1) ≤ mx σ Q K q * ((σ⁻¹ : ℝ) : EReal) := (M_le _ _ _).mpr fun j _ b => raw_le q hs _
    have h2 := mono hs h
    rwa [mul_assoc, ← EReal.coe_mul, inv_mul_cancel₀ hs.ne', EReal.coe_one, mul_one] at h2
  · refine (Finset.fold_max_le _).mpr ⟨bot_le, fun k _ => ?_⟩
    rw [← raw_lg q hs]
    refine mono hs ?_
    by_cases h : k ≤ q
    · have hk : k.val / 512 < i + 1 := by
        have := Fin.le_def.mp h
        omega
      have e : rw' (Fin.ofNat 32 (k.val / 512)) ⟨k.val % 512, Nat.mod_lt _ (by norm_num)⟩ = k := by
        apply Fin.ext
        show k.val / 512 % 32 * 512 + k.val % 512 = k.val
        rw [Nat.mod_eq_of_lt (by omega)]
        omega
      have := le_M (X Q K q) hk ⟨k.val % 512, Nat.mod_lt _ (by norm_num)⟩
      unfold X at this
      rwa [e] at this
    · unfold raw
      rw [if_neg h]
      exact bot_le

include hs hQ hK hi hq in
/-- The kernel's power of two off it is the row's exponential. -/
theorem E_last (k : Fin 16384) : E (σ * (Real.log 2)⁻¹) (raw Q K q k - M (X Q K q) (i + 1)) = ex σ Q K q k := by
  have h2 : Real.log 2 ≠ 0 := (Real.log_pos (by norm_num)).ne'
  have hc : 0 < σ * (Real.log 2)⁻¹ := mul_pos hs (inv_pos.mpr (Real.log_pos (by norm_num)))
  unfold ex
  rw [← M_last hs hi hq, ← raw_lg q hs]
  obtain ⟨b, hb⟩ := M_fin q hs hQ hK i
  rw [hb]
  rcases raw_fin q hQ hK k with h | ⟨x, h⟩
  · rw [h, EReal.bot_mul_coe_of_pos hs, EReal.bot_sub, EReal.bot_sub, E_bot hc, Ideal.exp_bot]
  · rw [h, ← EReal.coe_mul, ← EReal.coe_mul, ← EReal.coe_sub, ← EReal.coe_sub, E_coe, Ideal.exp_coe]
    congr 1
    rw [Real.rpow_def_of_pos (by norm_num)]
    congr 1
    field_simp

/-- A sum over the tiles up to the query's own. -/
theorem tiles (hi : i < 32) (f : ℕ → EReal) : ∑ j ∈ Finset.range (i + 1), f j = ∑ n : Fin 32, if i < n.val then 0 else f n.val := by
  rw [Fin.sum_univ_eq_sum_range (fun j => if i < j then 0 else f j) 32]
  have e : ∑ j ∈ Finset.range (i + 1), f j = ∑ j ∈ Finset.range (i + 1), if i < j then 0 else f j :=
    Finset.sum_congr rfl fun j hj => (if_neg (by rw [Finset.mem_range] at hj; omega)).symm
  rw [e]
  exact Finset.sum_subset (fun j hj => by rw [Finset.mem_range] at hj ⊢; omega)
    (fun j _ hj => by rw [Finset.mem_range] at hj; exact if_pos (by omega))

include hs hQ hK hi hq in
/-- After the query's own tile a weighted sum is the whole row's. -/
theorem A_last {W : Fin 16384 → EReal} (hW : ∀ k, Fin' (W k)) :
    A (σ * (Real.log 2)⁻¹) (X Q K q) (fun j a => W (rw' (Fin.ofNat 32 j) a)) (i + 1) = ∑ k, W k * ex σ Q K q k := by
  have hc : 0 < σ * (Real.log 2)⁻¹ := mul_pos hs (inv_pos.mpr (Real.log_pos (by norm_num)))
  rw [A_eq (X := X Q K q) (W := fun j a => W (rw' (Fin.ofNat 32 j) a)) hc (fun j a => raw_fin q hQ hK _) (M_fin q hs hQ hK) (fun j a => hW _), tiles hi]
  rw [← blocks (fun k => W k * ex σ Q K q k) (fun n => i < n.val) fun n r hn => by
    obtain ⟨a, x, m, L, ha, hM, hx, hL, h0, hs', h1, h2⟩ := row (σ := σ) hQ hK q
    beta_reduce
    rw [hx, h2 _ (by rw [Fin.le_def]; show ¬n.val * 512 + r.val ≤ q.val; nlinarith), EReal.coe_zero, mul_zero]]
  refine Finset.sum_congr rfl fun n _ => if_congr Iff.rfl rfl (Finset.sum_congr rfl fun a _ => ?_)
  have e : Fin.ofNat 32 n.val = n := Fin.ext (Nat.mod_eq_of_lt n.isLt)
  unfold X
  rw [e]
  exact congrArg _ (E_last hs hQ hK hi hq _)

include hQ hK in
/-- The sum divided at the end is the weighted sum of the weights. -/
theorem out_eq {W : Fin 16384 → EReal} (hW : ∀ k, Fin' (W k)) :
    Ideal.div (∑ k, W k * ex σ Q K q k) (sm σ Q K q) = ∑ k, pr σ Q K q k * W k := by
  obtain ⟨a, x, m, L, ha, hM, hx, hL, h0, hs', h1, h2⟩ := row (σ := σ) hQ hK q
  choose W' hW using hW
  unfold pr
  simp only [hx, hL, hW, ← EReal.coe_mul, ← coe_sum, div_coe_coe _ h0.ne']
  refine congrArg _ ?_
  rw [Finset.sum_div]
  exact Finset.sum_congr rfl fun k _ => by ring

end Cert.FwdRow

end
-- ==== Proof.FwdIdealTerm.lean ====
/-
  The attention forward's kernel entry by entry: a tile's scores, the running maximum and the weighted sums after it, the two results, and
  what the host hands the kernel: the operands cut into tiles, the values with a row of ones below.
-/
module

public import proofs.«01_k».proof.Proof.FwdIdealRun
public import proofs.«01_k».proof.Proof.FwdRow
public import proofs.«01_k».proof.Proof.FlashTie
public import Idealize.ShloMosaic.Lib.Pipeline.ValueKit
public import Idealize.ShloMosaic.Lib.StableHlo.RunRead

@[expose] public section

noncomputable section

namespace Cert.FwdIdeal.Hand

open Cert.FwdIdeal Cert.FwdIdeal.Gen Idealize.ShloMosaic Idealize.ShloMosaic.TcCoe Idealize.SL.Sem
open Idealize.ShloMosaic.VecWindow (window put)
open Cert.FlashRow (rw')
open Cert.FlashRefIdeal.Tie (hd σ cBot le_bit select_bit)

/-! ## The constants the kernel names -/

/-- The scale times `log₂ e`. -/
abbrev cc : ℝ := σ * (Real.log 2)⁻¹
theorem cC : (Named.named κ "c" 0x3E16C740#32 : Ideal .f32) = (cc : EReal) := IdealRules.named_const.ideal_named_scalar _ _ _ _ rfl
theorem cM : (Named.named κ "mask" 0xF149F2CA#32 : Ideal .f32) = (⊥ : EReal) := IdealRules.named_const.ideal_named_scalar _ _ _ _ rfl

/-! ## The payloads -/

variable (I : Ins Ideal) (n : Fin 32) (a r : Fin 512) (d : Fin 80) (x : St Ideal) (s : Vec Ideal S512x512 .f32)

theorem slabK_at {e : EltTy} (x : Vec Ideal S1x16384x96 e) (d : Fin 96) : slabK x n (ix3 0 a d) = x (ix3 0 (rw' n a) d) := by
  unfold slabK window
  blk_ext []
theorem slabV_at {e : EltTy} (x : Vec Ideal S1x32x80x512 e) (d : Fin 80) : slabV x n (ix4 0 0 d a) = x (ix4 0 n d a) := by
  unfold slabV window
  blk_ext []

theorem sc_at : sc I n (ix2 a r) = ∑ d : Fin 96, I.k (ix3 0 (rw' n a) d) * I.q (ix4 0 0 d r) := by
  pointwise [sc, k0_pay23]
  simp only [slabK_at]

theorem start_m : (st I 0).m (ix2 0 r) = (⊥ : EReal) := by
  show k0_pay24 (F := Ideal) (ix2 0 r) = _
  pointwise [k0_pay24]
  exact cM
theorem start_acc : (st I 0).acc (ix2 d r) = (0 : EReal) := by
  show k0_pay25 (F := Ideal) (ix2 d r) = _
  pointwise [k0_pay25]

/-- A tile below the diagonal. -/
theorem upd_m : (upd I n s x).m (ix2 0 r)
    = max (x.m (ix2 0 r) : EReal) ((Finset.univ : Finset (Fin 512)).fold max (⊥ : EReal) fun a => s (ix2 a r)) := by
  show k0_pay14 x.m s (ix2 0 r) = _
  rw [← cBot]
  pointwise [k0_pay14]
theorem upd_acc : (upd I n s x).acc (ix2 d r)
    = (x.acc (ix2 d r) : EReal) * Cert.FwdRow.E cc (x.m (ix2 0 r) - (upd I n s x).m (ix2 0 r))
      + ∑ a, I.v (ix4 0 n d a) * Cert.FwdRow.E cc (s (ix2 a r) - (upd I n s x).m (ix2 0 r)) := by
  simp only [← slabV_at]
  unfold Cert.FwdRow.E
  rw [← cC]
  show k0_pay15 x.m x.acc s (slabV I.v n) (ix2 d r) = _
  unfold k0_pay15
  show _ = (x.acc (ix2 d r) : EReal) * Ideal.exp2 ((x.m (ix2 0 r) - k0_pay14 x.m s (ix2 0 r)) * _)
      + ∑ a, slabV I.v n (ix4 0 0 d a) * Ideal.exp2 ((s (ix2 a r) - k0_pay14 x.m s (ix2 0 r)) * _)
  generalize k0_pay14 x.m s = b
  pointwise
  rfl

/-- The diagonal tile's scores, masked where the key is after the query. -/
def ms : Vec Ideal S512x512 .f32 := k0_pay4 s
theorem ms_at : ms s (ix2 a r) = if a ≤ r then (s (ix2 a r) : EReal) else ⊥ := by
  pointwise [ms, k0_pay4]
  rw [cM]
  have h := le_bit ⟨r.val, by omega⟩ ⟨a.val, by omega⟩
  dsimp only at h
  rw [h]
  exact select_bit _ _ _
theorem updM_eq : updM I n s x = upd I n (ms s) x := rfl

/-- The two results. -/
theorem out_at (y : FVec Ideal S80x512 .f32) (e : Fin 64) :
    k0_pay11 y (ix4 0 0 e r) = Ideal.div (y (ix2 ⟨e.val, by omega⟩ r)) (y (ix2 64 r)) := by
  pointwise [k0_pay11, k0_pay10]
theorem lse_at (z : FVec Ideal S1x512 .f32) (y : FVec Ideal S80x512 .f32) :
    k0_pay12 z y (ix4 0 0 0 r) = (z (ix2 0 r) : EReal) * ((σ : ℝ) : EReal) + Ideal.log (y (ix2 64 r)) := by
  rw [← Cert.FlashRow.cScale]
  pointwise [k0_pay12, k0_pay10]

/-! ## The operands at the call -/

variable (m : (ℓ : Loc nD τ sig) → Buf (Elt Ideal) ℓ) (c : Dev nD) (h : Fin 8)

abbrev aq : FVec Ideal S16384x8x96 .f32 := m (c, Proc.tc.devRef main_arg0)
abbrev ak : FVec Ideal S16384x8x96 .f32 := m (c, Proc.tc.devRef main_arg1)
abbrev av : FVec Ideal S16384x8x64 .f32 := m (c, Proc.tc.devRef main_arg2)

theorem V12 (d : Fin 96) : (V m c main_v12 : Vec Ideal S8x32x96x512 .bf16) (ix4 h n d r) = hd (aq m c) h (rw' n r) d := by
  unfold V
  simp only [List.flatten_cons, List.flatten_nil, List.append_nil, List.cons_append, List.nil_append]
  after_reads_simp
  pointwise
  rfl
theorem V14 (k : Fin 16384) (d : Fin 96) : (V m c main_v14 : Vec Ideal S8x16384x96 .bf16) (ix3 h k d) = hd (ak m c) h k d := by
  unfold V
  simp only [List.flatten_cons, List.flatten_nil, List.append_nil, List.cons_append, List.nil_append]
  after_reads_simp
  pointwise
  rfl
theorem V15 (e : Fin 64) : (V m c main_v15 : Vec Ideal S8x32x80x512 .bf16) (ix4 h n ⟨e.val, by omega⟩ a) = hd (av m c) h (rw' n a) e := by
  unfold V
  simp only [List.flatten_cons, List.flatten_nil, List.append_nil, List.cons_append, List.nil_append]
  after_reads_simp
  pointwise
  rfl
theorem V15_one : (V m c main_v15 : Vec Ideal S8x32x80x512 .bf16) (ix4 h n 64 a) = (1 : EReal) := by
  unfold V
  simp only [List.flatten_cons, List.flatten_nil, List.append_nil, List.cons_append, List.nil_append]
  after_reads_simp
  simp -implicitDefEqProofs only [StableHlo.TRef.ofBuf_toBuf, StableHlo.TRef.toBuf, StableHlo.TRef.ofBuf, cast_eq]
  pointwise

end Cert.FwdIdeal.Hand

end
-- ==== Proof.FwdIdealValue.lean ====
/-
  What the attention forward's two result arrays end holding: a query's tile goes through the keys' tiles up to its own, and what it has
  gathered then is the whole row's.
-/
module

public import proofs.«01_k».proof.Proof.FwdIdealTerm

@[expose] public section

noncomputable section

namespace Cert.FwdIdeal.Hand

open Cert.FwdIdeal Cert.FwdIdeal.Gen Cert.NormGrad Idealize.ShloMosaic Idealize.ShloMosaic.TcCoe Idealize.SL.Sem
open Cert.FlashRow (rw' pr lse ex sm mx)
open Cert.FlashRefIdeal.Tie (hd σ)
open Idealize.ShloMosaic.Pipeline (Dat)

variable (m : (ℓ : Loc nD τ sig) → Buf (Elt Ideal) ℓ) (c : Dev nD)

/-- A point's head and its tile of queries. -/
abbrev hh (t : Fin cfg0.N) : Fin 8 := ⟨t.val / 32, by have := t.isLt; have : cfg0.N = 256 := N_0; omega⟩
abbrev qb (t : Fin cfg0.N) : Fin 32 := ⟨t.val % 32, by omega⟩

theorem idx : ∀ t : Fin cfg0.N, win0_0.index t = ![t.val / 32, t.val % 32, 0, 0] ∧ win0_1.index t = ![t.val / 32, 0, 0]
    ∧ win0_2.index t = ![t.val / 32, 0, 0, 0] ∧ win0_3.index t = ![t.val / 32, t.val % 32, 0, 0] ∧ win0_4.index t = ![t.val / 32, t.val % 32, 0, 0] := by
  decide +kernel

/-! ## The blocks -/

variable (t : Fin cfg0.N) (n : Fin 32) (a r : Fin 512) (d : Fin 96) (e : Fin 64)

theorem in_q : (insAt m c t).q (ix4 0 0 d r) = hd (aq m c) (hh t) (rw' (qb t) r) d :=
  (show iblk m c 0 t (ix4 0 0 d r) = V m c main_v12 (ix4 (hh t) (qb t) d r) by blk_ext [iblk, idx t]).trans (V12 (qb t) r m c (hh t) d)
theorem in_k (k : Fin 16384) : (insAt m c t).k (ix3 0 k d) = hd (ak m c) (hh t) k d :=
  (show iblk m c 1 t (ix3 0 k d) = V m c main_v14 (ix3 (hh t) k d) by blk_ext [iblk, idx t]).trans (V14 m c (hh t) k d)
theorem in_v80 (d : Fin 80) : (insAt m c t).v (ix4 0 n d a) = V m c main_v15 (ix4 (hh t) n d a) := by
  show iblk m c 2 t (ix4 0 n d a) = V m c main_v15 (ix4 (hh t) n d a)
  blk_ext [iblk, idx t]

/-- The values' row `d`, the ones' among them, at every key. -/
def vrow (d : Fin 80) (k : Fin 16384) : EReal :=
  (insAt m c t).v (ix4 0 ⟨k.val / 512, by have := k.isLt; omega⟩ d ⟨k.val % 512, Nat.mod_lt _ (by norm_num)⟩)
theorem vrow_tile (d : Fin 80) : vrow m c t d (rw' n a) = (insAt m c t).v (ix4 0 n d a) := by
  unfold vrow
  have h1 : (⟨(rw' n a).val / 512, by have := (rw' n a).isLt; omega⟩ : Fin 32) = n := Fin.ext (by show (n.val * 512 + a.val) / 512 = n.val; omega)
  have h2 : (⟨(rw' n a).val % 512, Nat.mod_lt _ (by norm_num)⟩ : Fin 512) = a := Fin.ext (by show (n.val * 512 + a.val) % 512 = a.val; omega)
  rw [h1, h2]
theorem as_tile (k : Fin 16384) : ∃ n a, k = rw' n a :=
  ⟨⟨k.val / 512, by have := k.isLt; omega⟩, ⟨k.val % 512, Nat.mod_lt _ (by norm_num)⟩, Fin.ext (by show k.val = k.val / 512 * 512 + k.val % 512; omega)⟩
theorem vrow_v (k : Fin 16384) : vrow m c t ⟨e.val, by omega⟩ k = hd (av m c) (hh t) k e := by
  obtain ⟨n, a, rfl⟩ := as_tile k
  rw [vrow_tile, in_v80]
  exact V15 n a m c (hh t) e
theorem vrow_one (k : Fin 16384) : vrow m c t 64 k = 1 := by
  obtain ⟨n, a, rfl⟩ := as_tile k
  rw [vrow_tile, in_v80]
  exact V15_one n a m c (hh t)

/-! ## A point -/

abbrev Q : Fin 16384 → Fin 96 → EReal := hd (aq m c) (hh t)
abbrev K : Fin 16384 → Fin 96 → EReal := hd (ak m c) (hh t)
abbrev Xt (r : Fin 512) : ℕ → Fin 512 → EReal := Cert.FwdRow.X (Q m c t) (K m c t) (rw' (qb t) r)
abbrev Wt (d : Fin 80) (j : ℕ) (a : Fin 512) : EReal := vrow m c t d (rw' (Fin.ofNat 32 j) a)

theorem tix_val {n : ℕ} (h : n < 32) : (tix n).val = n := Nat.mod_eq_of_lt h

theorem score_below {j : ℕ} (hj : j < t.val % 32) : (fun a => sc (insAt m c t) (tix j) (ix2 a r)) = Xt m c t r j := by
  funext a
  rw [sc_at]
  simp only [in_q, in_k]
  refine (if_pos ?_).symm
  rw [Fin.le_def]
  show (tix j).val * 512 + a.val ≤ t.val % 32 * 512 + r.val
  rw [tix_val (by omega)]
  omega
theorem score_diag : (fun a => ms (sc (insAt m c t) (tix (t.val % 32))) (ix2 a r)) = Xt m c t r (t.val % 32) := by
  funext a
  rw [ms_at, sc_at]
  simp only [in_q, in_k]
  refine if_congr ?_ rfl rfl
  rw [Fin.le_def, Fin.le_def]
  show a.val ≤ r.val ↔ (tix (t.val % 32)).val * 512 + a.val ≤ t.val % 32 * 512 + r.val
  rw [tix_val (by omega)]
  omega

/-- A step of the kernel is a step of the row's recursion. -/
theorem step_m {j : ℕ} {s : Vec Ideal S512x512 .f32} {x : St Ideal} (hs : (fun a => s (ix2 a r)) = Xt m c t r j)
    (hx : x.m (ix2 0 r) = Cert.FwdRow.M (Xt m c t r) j) :
    (upd (insAt m c t) (tix j) s x).m (ix2 0 r) = Cert.FwdRow.M (Xt m c t r) (j + 1) := by
  rw [upd_m, hs, hx]; rfl
theorem step_acc {j : ℕ} {s : Vec Ideal S512x512 .f32} {x : St Ideal} (d : Fin 80) (hs : (fun a => s (ix2 a r)) = Xt m c t r j)
    (hx : x.m (ix2 0 r) = Cert.FwdRow.M (Xt m c t r) j) (ha : x.acc (ix2 d r) = Cert.FwdRow.A cc (Xt m c t r) (Wt m c t d) j) :
    (upd (insAt m c t) (tix j) s x).acc (ix2 d r) = Cert.FwdRow.A cc (Xt m c t r) (Wt m c t d) (j + 1) := by
  rw [upd_acc, step_m m c t r hs hx, hx, ha]
  simp only [← vrow_tile]
  rw [Cert.FwdRow.A, ← hs]

theorem st_at (d : Fin 80) : ∀ j, j ≤ t.val % 32 → (st (insAt m c t) j).m (ix2 0 r) = Cert.FwdRow.M (Xt m c t r) j
    ∧ (st (insAt m c t) j).acc (ix2 d r) = Cert.FwdRow.A cc (Xt m c t r) (Wt m c t d) j
  | 0, _ => ⟨start_m _ _, start_acc _ _ _⟩
  | j + 1, hj => by
    obtain ⟨h1, h2⟩ := st_at d j (by omega)
    have hs := score_below m c t r (j := j) (by omega)
    exact ⟨step_m m c t r hs h1, step_acc m c t r d hs h1 h2⟩

theorem point_at (d : Fin 80) : (outsAt m c t).m (ix2 0 r) = Cert.FwdRow.M (Xt m c t r) (t.val % 32 + 1)
    ∧ (outsAt m c t).acc (ix2 d r) = Cert.FwdRow.A cc (Xt m c t r) (Wt m c t d) (t.val % 32 + 1) := by
  obtain ⟨h1, h2⟩ := st_at m c t r d (t.val % 32) le_rfl
  have hs := score_diag m c t r
  unfold outsAt point
  rw [updM_eq]
  exact ⟨step_m m c t r hs h1, step_acc m c t r d hs h1 h2⟩

variable {m c}
variable (hq : ∀ h q d, Fin' (hd (aq m c) h q d)) (hk : ∀ h q d, Fin' (hd (ak m c) h q d)) (hv : ∀ h q e, Fin' (hd (av m c) h q e))

theorem σ_pos : 0 < σ := by norm_num
theorem row_lt : (rw' (qb t) r).val < (t.val % 32 + 1) * 512 := by
  show t.val % 32 * 512 + r.val < (t.val % 32 + 1) * 512
  omega

include hq hk in
theorem max_at : (outsAt m c t).m (ix2 0 r) * ((σ : ℝ) : EReal) = mx σ (Q m c t) (K m c t) (rw' (qb t) r) :=
  (congrArg (· * ((σ : ℝ) : EReal)) (point_at m c t r 0).1).trans (Cert.FwdRow.M_last σ_pos (by omega) (row_lt t r))

include hq hk in
theorem ones_at : (outsAt m c t).acc (ix2 64 r) = sm σ (Q m c t) (K m c t) (rw' (qb t) r) := by
  refine ((point_at m c t r 64).2.trans (Cert.FwdRow.A_last σ_pos (hq _) (hk _) (by omega) (row_lt t r) (W := vrow m c t 64) fun k => ?_)).trans ?_
  · exact ⟨1, vrow_one m c t k⟩
  · simp only [vrow_one, one_mul]; rfl

include hq hk hv in
theorem vals_at : (outsAt m c t).acc (ix2 ⟨e.val, by omega⟩ r)
    = ∑ k, hd (av m c) (hh t) k e * ex σ (Q m c t) (K m c t) (rw' (qb t) r) k := by
  refine ((point_at m c t r _).2.trans (Cert.FwdRow.A_last σ_pos (hq _) (hk _) (by omega) (row_lt t r) (W := vrow m c t ⟨e.val, by omega⟩) fun k => ?_)).trans ?_
  · rw [vrow_v]; exact hv _ _ _
  · simp only [vrow_v]

/-- What the two results hold. -/
abbrev gO (m : (ℓ : Loc nD τ sig) → Buf (Elt Ideal) ℓ) (c : Dev nD) (h : Fin 8) (q : Fin 16384) (e : Fin 64) (k : Fin 16384) : EReal :=
  hd (av m c) h k e * pr σ (hd (aq m c) h) (hd (ak m c) h) q k

include hq hk hv in
theorem res_out : k0_pay11 (outsAt m c t).acc (ix4 0 0 e r) = ∑ k, gO m c (hh t) (rw' (qb t) r) e k := by
  rw [out_at, vals_at t r e hq hk hv, ones_at t r hq hk, Cert.FwdRow.out_eq (hq _) (hk _) (fun k => hv _ k e)]
  exact Finset.sum_congr rfl fun k _ => mul_comm _ _

include hq hk in
theorem res_lse : k0_pay12 (outsAt m c t).m (outsAt m c t).acc (ix4 0 0 0 r) = lse σ (Q m c t) (K m c t) (rw' (qb t) r) := by
  rw [lse_at, max_at t r hq hk, ones_at t r hq hk]; rfl

/-! ## The arrays -/

/-- Where a block's entries lie. -/
theorem row3 (z z' : Fin 1) : ((View.whole main_v16_0).slice (win0_3.rect t)).emb (ix4 z z' e r) = ix4 (hh t) (qb t) e r := by
  obtain rfl : z = 0 := Subsingleton.elim _ _
  obtain rfl : z' = 0 := Subsingleton.elim _ _
  blk_ext [idx t]
theorem row4 (z z' z'' : Fin 1) : ((View.whole main_v16_1).slice (win0_4.rect t)).emb (ix4 z z' z'' r) = ix4 (hh t) (qb t) 0 r := by
  obtain rfl : z = 0 := Subsingleton.elim _ _
  obtain rfl : z' = 0 := Subsingleton.elim _ _
  obtain rfl : z'' = 0 := Subsingleton.elim _ _
  blk_ext [idx t]

include hq hk hv in
theorem final3 : (dats m 0 c).arrAt 3 cfg0.N = fun y => ∑ k, gO m c (y 0) (rw' (y 1) (y 3)) (y 2) k := by
  refine (dats m 0 c).arrAt_eq_of_covers 3 _ (by decide +kernel) fun t hf y => ?_
  blk_simp
  rw [after0_3]
  frame_out
  idx_vars y
  erw [row3]
  obtain rfl : y0 = 0 := Subsingleton.elim _ _
  obtain rfl : y1 = 0 := Subsingleton.elim _ _
  exact res_out t _ _ hq hk hv

include hq hk in
theorem final4 : (dats m 0 c).arrAt 4 cfg0.N = fun y => lse σ (hd (aq m c) (y 0)) (hd (ak m c) (y 0)) (rw' (y 1) (y 3)) := by
  refine (dats m 0 c).arrAt_eq_of_covers 4 _ (by decide +kernel) fun t hf y => ?_
  blk_simp
  rw [after0_4]
  frame_out
  idx_vars y
  erw [row4]
  obtain rfl : y0 = 0 := Subsingleton.elim _ _
  obtain rfl : y1 = 0 := Subsingleton.elim _ _
  obtain rfl : y2 = 0 := Subsingleton.elim _ _
  exact res_lse t _ hq hk

end Cert.FwdIdeal.Hand

end
-- ==== Proof.FwdTie.lean ====
/-
  What the attention forward reference's results hold: the weights' sums of the values, and the log of the sum of exponentials.
-/
module

public import proofs.«01_k».proof.Proof.Gen.FwdRefIdeal.Read
public import proofs.«01_k».proof.Proof.FlashTie
public import Idealize.ShloMosaic.Lib.Pipeline.ValueKit

@[expose] public section

noncomputable section

namespace Cert.FwdRefIdeal.Tie

open Cert.FwdRefIdeal Cert.FwdRefIdeal.Gen Cert.FwdRefIdeal.Read Idealize.ShloMosaic Idealize.ShloMosaic.TcCoe Idealize.SL.Sem
open Cert.FlashRow
open Cert.FlashRefIdeal.Tie (hd σ cBot le_bit select_bit maxOf)

variable (x0 x1 : FVec Ideal S16384x8x96 .f32) (x2 : FVec Ideal S16384x8x64 .f32) (h : Fin 8) (q k : Fin 16384)

theorem v9_at : val_main_v9 (F := Ideal) x0 x1 (ix3 h q k) = lg σ (hd x0 h) (hd x1 h) q k := by
  pointwise [val_main_v0,val_main_v1,val_main_cst,val_main_v2,val_main_v3,val_main_v4,val_main_v5,val_main_v6,val_main_v7,val_main_v8,val_main_cst_0,val_main_call0_v0,val_main_call0_v1,val_main_call0_v2,val_main_v9]
  rw [le_bit]
  refine (select_bit (k ≤ q) _ _).trans ?_
  unfold lg
  rw [← cScale]
  refine if_congr Iff.rfl rfl ?_
  exact cBot
theorem v10_at : val_main_v10 (F := Ideal) x0 x1 (ix2 h q) = mx σ (hd x0 h) (hd x1 h) q := by
  unfold val_main_v10 mx
  rw [maxOf (val_main_v9 (F := Ideal) x0 x1) (val_main_cst_1 (F := Ideal)) (fun _ => cBot)]
  exact Finset.fold_congr fun k _ => v9_at x0 x1 h q k
theorem v16_at : val_main_v16 (F := Ideal) x0 x1 (ix2 h q) = mx σ (hd x0 h) (hd x1 h) q := by
  unfold val_main_v16 mx
  rw [maxOf (val_main_v9 (F := Ideal) x0 x1) (val_main_cst_3 (F := Ideal)) (fun _ => cBot)]
  exact Finset.fold_congr fun k _ => v9_at x0 x1 h q k
theorem v18_at : val_main_v18 (F := Ideal) x0 x1 (ix2 h q) = mx σ (hd x0 h) (hd x1 h) q := by
  rw [← v16_at, val_main_v18_apply]
  show max (val_main_v17 (F := Ideal) (ix2 h q) : EReal) _ = _
  have : (val_main_v17 (F := Ideal) (ix2 h q) : EReal) = ⊥ := by
    pointwise [val_main_v17, val_main_cst_4]
    exact cBot
  rw [this]; exact max_eq_right bot_le
theorem v14_at : val_main_v14 (F := Ideal) x0 x1 (ix3 h q k) = ex σ (hd x0 h) (hd x1 h) q k := by
  unfold ex
  rw [← v9_at, ← v10_at]
  pointwise [val_main_v14, val_main_v13, val_main_v12, val_main_v11]
theorem v15_at : val_main_v15 (F := Ideal) x0 x1 (ix2 h q) = sm σ (hd x0 h) (hd x1 h) q := by
  unfold sm
  simp only [← v14_at]
  pointwise [val_main_v15, val_main_cst_2]
theorem v22_at : val_main_v22 (F := Ideal) x0 x1 (ix3 h q k) = ex σ (hd x0 h) (hd x1 h) q k := by
  unfold ex
  rw [← v9_at, ← v18_at]
  pointwise [val_main_v22, val_main_v21, val_main_v20, val_main_v19]
theorem v23_at : val_main_v23 (F := Ideal) x0 x1 (ix2 h q) = sm σ (hd x0 h) (hd x1 h) q := by
  unfold sm
  simp only [← v22_at]
  pointwise [val_main_v23, val_main_cst_5]
theorem v26_at : val_main_v26 (F := Ideal) x0 x1 (ix3 h q k) = pr σ (hd x0 h) (hd x1 h) q k := by
  unfold pr
  simp only [← v22_at, ← v23_at]
  pointwise [val_main_v26, val_main_v25, val_main_v24]
theorem v30_at (n : Fin 32) (e : Fin 64) (r : Fin 512) :
    val_main_v30 (F := Ideal) x0 x1 x2 (ix4 h n e r) = ∑ k, hd x2 h k e * pr σ (hd x0 h) (hd x1 h) (rw' n r) k := by
  simp only [← v26_at]
  pointwise [val_main_v30, val_main_v29, val_main_v28, val_main_v27]
  rfl
theorem v33_of (a b : FVec Ideal S8x16384 .f32) (n : Fin 32) (r : Fin 512) :
    shapeCast _ (addf a (Host.log b)) shapeCasts_S8x16384_S8x32x1x512 (ix4 h n 0 r) = (a (ix2 h (rw' n r)) : EReal) + Ideal.log (b (ix2 h (rw' n r))) := by
  pointwise
theorem v33_at (n : Fin 32) (r : Fin 512) : val_main_v33 (F := Ideal) x0 x1 (ix4 h n 0 r) = lse σ (hd x0 h) (hd x1 h) (rw' n r) := by
  unfold val_main_v33 val_main_v32 val_main_v31
  exact (v33_of h _ _ n r).trans (by rw [v10_at, v15_at]; rfl)

end Cert.FwdRefIdeal.Tie

end
-- ==== Proof.FwdClaim.lean ====
/-
  The attention forward's claim: on finite arguments the kernel's output and its log of the sum of exponentials are the reference's.
-/
module

public import proofs.«01_k».proof.Defs
public import proofs.«01_k».proof.Proof.FwdIdealValue
public import proofs.«01_k».proof.Proof.FwdTie
public import proofs.«01_k».proof.Proof.Gen.Pre_finite_qkv

@[expose] public section

noncomputable section

namespace Cert.FwdClaim

open Cert.NormGrad Idealize.ShloMosaic Idealize.ShloMosaic.TcCoe Idealize.SL.Sem
open Cert.FlashRefIdeal.Tie (hd)
open Cert.FwdRefIdeal.Tie (v30_at v33_at)
open Cert.FwdIdeal.Hand (aq ak av final3 final4)

variable {m : (ℓ : Loc Cert.FwdIdeal.nD Cert.FwdIdeal.τ Cert.FwdIdeal.sig) → Buf (Elt Ideal) ℓ}

/-- What the precondition says of the arguments. -/
theorem fin (h : Cert.Pre_FwdIdeal_finite_qkv m) (c : Dev Cert.FwdIdeal.nD) :
    (∀ h q d, Fin' (hd (aq m c) h q d)) ∧ (∀ h q d, Fin' (hd (ak m c) h q d)) ∧ ∀ h q e, Fin' (hd (av m c) h q e) := by
  obtain ⟨h0, h1, h2⟩ := h c
  refine ⟨fun h q d => fin_of_bit ?_, fun h q d => fin_of_bit ?_, fun h q d => fin_of_bit ?_⟩
  · have := congrFun h0 (ix3 q h d)
    pointwise [Cert.Pre_finite_qkv.fn] at this
    exact this
  · have := congrFun h1 (ix3 q h d)
    pointwise [Cert.Pre_finite_qkv.fn] at this
    exact this
  · have := congrFun h2 (ix3 q h d)
    pointwise [Cert.Pre_finite_qkv.fn] at this
    exact this

open Cert.FwdIdeal Cert.FwdIdeal.Gen in
/-- The kernel's run, its two results named. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v16_0) = (Hand.dats m 0 c).arrAt 3 cfg0.N
      ∧ r.2.mem ((c : Thread nD τ).loc main_v16_1) = (Hand.dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, (h.1 c).1 4, h.2 c⟩)
    (θ_run_and (Hand.run_main m ρ) (frame_of m ρ (Hand.dats m) (Hand.A_eq m) (Hand.run_main m ρ)))

set_option maxHeartbeats 1000000 in
theorem claim : Cert.algebraic_FwdIdeal_FwdRefIdeal_pre_finite_qkv := by
  intro m g m' g' hp ha
  refine ⟨fun c => (Cert.FwdIdeal.Hand.dats m 0 c).arrAt 3 Cert.FwdIdeal.cfg0.N, fun c => (Cert.FwdIdeal.Hand.dats m 0 c).arrAt 4 Cert.FwdIdeal.cfg0.N, ?_, ?_⟩
  · exact run_blocks m g
  · refine (θ_run Cert.FwdRefIdeal.defs _ _).mono (fun r h c => ?_) (Cert.FwdRefIdeal.Value.run (F := Ideal) m' g')
    obtain ⟨h0, h1, hk⟩ := h c
    obtain ⟨a0, a1, a2⟩ := ha c
    obtain ⟨fq, fk, fv⟩ := fin hp c
    refine ⟨h0.trans ?_, h1.trans ?_, hk⟩
    all_goals beta_reduce
    · rw [Cert.FwdRefIdeal.Read.val_main_v30_eq, final3 fq fk fv, a0, a1, a2]
      funext j
      idx_vars j
      exact v30_at _ _ _ _ _ _ _
    · rw [Cert.FwdRefIdeal.Read.val_main_v33_eq, final4 fq fk, a0, a1]
      funext j
      idx_vars j
      obtain rfl : j2 = 0 := Subsingleton.elim _ _
      exact v33_at _ _ _ _ _

end Cert.FwdClaim

end
-- ==== Proof.HaloValue.lean ====
/-
  The halo's fold: what its result array ends holding, at the exact reals: each chunk's last block has the next chunk's halo added, everything else is the argument.
-/
module

public import proofs.«01_k».proof.Proof.Gen.HaloIdeal.Value
public import Idealize.ShloMosaic.Lib.Pipeline.ValueKit
public import proofs.«01_k».proof.Proof.Pieces

@[expose] public section

noncomputable section

namespace Cert.HaloIdeal.Value

open Cert.HaloIdeal Cert.HaloIdeal.Gen Idealize.ShloMosaic Idealize.ShloMosaic.TcCoe Idealize.SL.Sem
open Idealize.ShloMosaic.Pipeline (Dat)

variable (m : (ℓ : Loc nD τ sig) → Buf (Elt Ideal) ℓ)

/-- Every chunk's last block and the halos, in a pair's columns, as a point finds them. -/
abbrev bT (c : Dev nD) (t : Fin cfg0.N) : FVec Ideal S16x1x128x128 .f32 := iblk m c 0 t
abbrev bH (c : Dev nD) (t : Fin cfg0.N) : FVec Ideal S1x16x128x128 .f32 := iblk m c 1 t

/-- The windows' block indices: the last block, in the point's columns. -/
theorem idx (t : Fin cfg0.N) : win0_0.index t = ![0, 7, 0, t.val] ∧ win0_1.index t = ![t.val, 0, 0, 0] ∧ win0_2.index t = ![0, 7, 0, t.val] := by
  revert t
  decide +kernel

/-- A point's block: the next chunk's halo is added to every chunk but the last. -/
def outT (c : Dev nD) (t : Fin cfg0.N) (q : Fin 16) (a b : Fin 128) : EReal :=
  bT m c t (ix4 q 0 a b) + (if h : q.val + 1 < 16 then bH m c t (ix4 0 ⟨q.val + 1, h⟩ a b) else 0)

theorem out2 (c : Dev nD) (t : Fin cfg0.N) (y : S16x1x128x128.Idx) : outsAt0 m c t y = outT m c t (y 0) (y 2) (y 3) := by
  unfold outsAt0
  frame_out
  idx_vars y
  canon_tiles x h using (by
    by_cases h15 : y0.val = 15
    · refine ⟨_, List.mem_cons_self, ?_⟩
      refine (Rect.mem_set_unit (inb := inb_S16x1x128x128_S1x1x128x128_15_0_0_0)).mpr fun a => ?_
      fin_cases a
      · exact ⟨h15.ge, by show y0.val < 15 + 1; omega⟩
      · exact ⟨Nat.zero_le _, by show y1.val < 0 + 1; omega⟩
      · exact ⟨Nat.zero_le _, by show y2.val < 0 + 128; omega⟩
      · exact ⟨Nat.zero_le _, by show y3.val < 0 + 128; omega⟩
    · refine ⟨_, List.mem_cons_of_mem _ List.mem_cons_self, ?_⟩
      refine (Rect.mem_set_unit (inb := inb_S16x1x128x128_S15x1x128x128_0_0_0_0)).mpr fun a => ?_
      fin_cases a
      · exact ⟨Nat.zero_le _, by show y0.val < 0 + 15; omega⟩
      · exact ⟨Nat.zero_le _, by show y1.val < 0 + 1; omega⟩
      · exact ⟨Nat.zero_le _, by show y2.val < 0 + 128; omega⟩
      · exact ⟨Nat.zero_le _, by show y3.val < 0 + 128; omega⟩)
  all_goals
    open_payloads
    pointwise
    obtain rfl : y2 = x 2 := Fin.ext h2
    obtain rfl : y3 = x 3 := Fin.ext h3
    replace h0 : y0.val = _ := h0
    unfold outT
  · rw [dif_neg (by omega), add_zero]
    exact congrArg (fun z : Fin 16 => bT m c t (ix4 z 0 (x 2) (x 3))) (Fin.ext (by rw [h0]; show 15 = 15 + (x 0).val; omega))
  · rw [dif_pos (by omega)]
    exact congrArg₂ (fun z w : Fin 16 => (bT m c t (ix4 z 0 (x 2) (x 3)) + bH m c t (ix4 0 w (x 2) (x 3)) : EReal)) (Fin.ext h0.symm) (Fin.ext (by show 1 + (x 0).val = y0.val + 1; omega))

/-- The gradient and the halo, of the arguments. -/
abbrev T (c : Dev nD) (q : Fin 16) (b : Fin 8) (a : Fin 128) (j : Fin 1280) : EReal :=
  m ((c : Thread nD τ).loc main_arg0) (ix2 ⟨(q.val * 8 + b.val) * 128 + a.val, by omega⟩ j)
abbrev H (c : Dev nD) (q : Fin 16) (a : Fin 128) (j : Fin 1280) : EReal := m ((c : Thread nD τ).loc main_arg1) (ix3 q a j)

/-- A pair's column. -/
abbrev col (t : Fin cfg0.N) (b : Fin 128) : Fin 1280 :=
  ⟨t.val * 128 + b.val, by have := t.isLt; have := b.isLt; have : cfg0.N = 10 := N_0; omega⟩

theorem blk0 (c : Dev nD) (t : Fin cfg0.N) (q : Fin 16) (a b : Fin 128) : bT m c t (ix4 q 0 a b) = T m c q 7 a (col t b) := by
  blk_simp [bT, iblk, idx t]
  entry_read
  pointwise
  blk_ext [iblk, V, idx t]

theorem blk1 (c : Dev nD) (t : Fin cfg0.N) (q : Fin 16) (a b : Fin 128) : bH m c t (ix4 0 q a b) = H m c q a (col t b) := by
  blk_simp [bH, iblk, idx t]
  entry_read
  pointwise
  blk_ext [iblk, V, idx t]

/-- The result, entry by entry. -/
def res (c : Dev nD) (q : Fin 16) (b : Fin 8) (a : Fin 128) (j : Fin 1280) : EReal :=
  T m c q b a j + (if h : b.val = 7 ∧ q.val + 1 < 16 then H m c ⟨q.val + 1, h.2⟩ a j else 0)

theorem out_res (c : Dev nD) (t : Fin cfg0.N) (q : Fin 16) (a b : Fin 128) : outT m c t q a b = res m c q 7 a (col t b) := by
  unfold outT res
  rw [blk0]
  by_cases h : q.val + 1 < 16
  · rw [dif_pos h, dif_pos ⟨rfl, h⟩, blk1]
  · rw [dif_neg h, dif_neg fun h' => h h'.2]

theorem entry_at (c : Dev nD) (q : Fin 16) (b : Fin 8) (a : Fin 128) (j : Fin 1280) : V m c (Pipeline.arrRef spec0 2) (ix4 q b a j) = T m c q b a j := by
  entry_read
  pointwise
  exact congrArg (fun z => m ((c : Thread nD τ).loc main_arg0) (ix2 z j)) (Fin.ext (by show q.val * 1024 + b.val * 128 + a.val = (q.val * 8 + b.val) * 128 + a.val; omega))

theorem final2 (c : Dev nD) : (dats m 0 c).arrAt 2 cfg0.N = fun i : S16x8x128x1280.Idx => res m c (i 0) (i 1) (i 2) (i 3) := by
  have hemb : ∀ (t : Fin cfg0.N) (q : Fin 16) (z : Fin 1) (a b : Fin 128), ((View.whole main_v3).slice (win0_2.rect t)).emb (ix4 q z a b) = ix4 q 7 a (col t b) :=
    fun t q z a b => by
      obtain rfl : z = 0 := Subsingleton.elim _ _
      blk_ext [idx t]
  have hblk : ∀ (t : Fin cfg0.N) (q : Fin 16) (a b : Fin 128), (dats m 0 c).arrAt 2 cfg0.N (ix4 q 7 a (col t b)) = res m c q 7 a (col t b) := fun t q a b => by
    have hb := congrFun (blocks2 m c t (by revert t; decide +kernel)) (ix4 q 0 a b)
    rw [flushed2] at hb
    refine Eq.trans ?_ (hb.trans ?_)
    · show _ = (dats m 0 c).arrAt 2 cfg0.N (((View.whole main_v3).slice (win0_2.rect t)).emb (ix4 q 0 a b))
      rw [hemb]
    · refine (out2 m c t (ix4 q 0 a b)).trans ?_
      exact out_res m c t q a b
  funext i
  idx_vars i
  by_cases h7 : i1 = 7
  · subst h7
    obtain ⟨t, b, rfl⟩ : ∃ (t : Fin cfg0.N) (b : Fin 128), i3 = col t b :=
      ⟨⟨i3.val / 128, by have : cfg0.N = 10 := N_0; omega⟩, ⟨i3.val % 128, by omega⟩, Fin.ext (by show i3.val = i3.val / 128 * 128 + i3.val % 128; omega)⟩
    exact hblk t i0 i2 b
  · refine (entry2 m c _ fun t _ hm => ?_).trans ?_
    · mem_blk [idx t] at hm
      exact h7 (Fin.ext (by have := hm.2.1; show i1.val = 7; change 7 ≤ i1.val ∧ i1.val < 7 + 1 at this; omega))
    · rw [entry_at]
      unfold res
      rw [dif_neg fun h => h7 (Fin.ext h.1), add_zero]

end Cert.HaloIdeal.Value

end
-- ==== Proof.HaloTie.lean ====
/-
  The halo's fold: the reference's result, entry by entry: the gradient, with the next chunk's halo in each chunk's last block.
-/
module

public import proofs.«01_k».proof.Proof.Gen.HaloRefIdeal.Read
public import Idealize.ShloMosaic.Lib.Pipeline.ValueKit
public import proofs.«01_k».proof.Proof.Pieces

@[expose] public section

noncomputable section

namespace Cert.HaloRefIdeal.Tie

open Cert.HaloRefIdeal Cert.HaloRefIdeal.Read Idealize.ShloMosaic Idealize.ShloMosaic.TcCoe Idealize.SL.Sem

variable (x0 : (⟨S16384x1280, .f32⟩ : BufTy).Contents (Elt Ideal)) (x1 : (⟨S16x128x1280, .f32⟩ : BufTy).Contents (Elt Ideal))

theorem v10_at (q : Fin 16) (b : Fin 8) (a : Fin 128) (j : Fin 1280) : val_main_v10 (F := Ideal) x1 (ix4 q b a j)
    = if b.val = 0 then x1 (ix3 q a j) else 0 := by
  pointwise [val_main_v9, val_main_cst_1, val_main_v10]
  by_cases h : b.val = 0
  · rw [dif_pos (by omega), if_pos h]
  · rw [dif_neg (by omega), if_neg h]

theorem v11_at (n : Fin 128) (a : Fin 128) (j : Fin 1280) : val_main_v11 (F := Ideal) x1 (ix3 n a j)
    = if n.val % 8 = 0 then x1 (ix3 ⟨n.val / 8, by omega⟩ a j) else 0 := by
  rw [val_main_v11_apply]
  have e : idx_main_v11 (ix3 n a j) = ix4 (⟨n.val / 8, by omega⟩ : Fin 16) (⟨n.val % 8, by omega⟩ : Fin 8) a j := by
    funext k
    have h1 := n.isLt
    have h2 := a.isLt
    have h3 := j.isLt
    fin_cases k
    · exact Fin.ext (by show ((n.val * 128 + a.val) * 1280 + j.val) / 1310720 = n.val / 8; omega)
    · exact Fin.ext (by show ((n.val * 128 + a.val) * 1280 + j.val) / 163840 % 8 = n.val % 8; omega)
    · exact Fin.ext (by show ((n.val * 128 + a.val) * 1280 + j.val) / 1280 % 128 = a.val; omega)
    · exact Fin.ext (by show ((n.val * 128 + a.val) * 1280 + j.val) % 1280 = j.val; omega)
  rw [e, v10_at]

theorem v14_at (n : Fin 128) (a : Fin 128) (j : Fin 1280) : val_main_v14 (F := Ideal) x1 (ix3 n a j)
    = if h : n.val + 1 < 128 then val_main_v11 (F := Ideal) x1 (ix3 ⟨n.val + 1, h⟩ a j) else 0 := by
  pointwise [val_main_v13, val_main_cst_2, val_main_v14]
  by_cases h : n.val + 1 < 128
  · rw [dif_pos (by omega), dif_pos h]
    exact congrArg (fun z : Fin 128 => val_main_v11 (F := Ideal) x1 (ix3 z a j)) (Fin.ext (by show 1 + n.val = n.val + 1; omega))
  · rw [dif_neg (by omega), dif_neg h]

theorem v17_at (q : Fin 16) (b : Fin 8) (a : Fin 128) (j : Fin 1280) : val_main_v17 (F := Ideal) x0 x1 (ix4 q b a j)
    = x0 (ix2 ⟨(q.val * 8 + b.val) * 128 + a.val, by omega⟩ j) + val_main_v14 (F := Ideal) x1 (ix3 ⟨q.val * 8 + b.val, by omega⟩ a j) := by
  pointwise [val_main_v15, val_main_v16, val_main_v17]
  exact congrArg₂ (fun (y : Fin 16384) (z : Fin 128) => (x0 (ix2 y j) + val_main_v14 (F := Ideal) x1 (ix3 z a j) : EReal)) (Fin.ext (by show q.val * 1024 + b.val * 128 + a.val = (q.val * 8 + b.val) * 128 + a.val; omega))
    (Fin.ext (by show (q.val * 1024 + b.val * 128 + a.val) / 128 = q.val * 8 + b.val; omega))

/-- The result: the gradient, and in each chunk's last block the next chunk's halo. -/
theorem res_at (q : Fin 16) (b : Fin 8) (a : Fin 128) (j : Fin 1280) : val_main_v17 (F := Ideal) x0 x1 (ix4 q b a j)
    = x0 (ix2 ⟨(q.val * 8 + b.val) * 128 + a.val, by omega⟩ j) + (if h : b.val = 7 ∧ q.val + 1 < 16 then x1 (ix3 ⟨q.val + 1, h.2⟩ a j) else 0) := by
  rw [v17_at, v14_at]
  refine congrArg (fun z : EReal => (x0 (ix2 ⟨(q.val * 8 + b.val) * 128 + a.val, by omega⟩ j) + z : EReal)) ?_
  by_cases h : b.val = 7 ∧ q.val + 1 < 16
  · rw [dif_pos (show q.val * 8 + b.val + 1 < 128 by omega), dif_pos h, v11_at, if_pos (by show (q.val * 8 + b.val + 1) % 8 = 0; omega)]
    exact congrArg (fun z : Fin 16 => x1 (ix3 z a j)) (Fin.ext (by show (q.val * 8 + b.val + 1) / 8 = q.val + 1; omega))
  · rw [dif_neg h]
    by_cases h' : q.val * 8 + b.val + 1 < 128
    · rw [dif_pos h', v11_at, if_neg (by show ¬ (q.val * 8 + b.val + 1) % 8 = 0; omega)]
    · rw [dif_neg h']

end Cert.HaloRefIdeal.Tie

end
-- ==== Proof.HaloClaim.lean ====
/-
  The halo's fold's claim: the kernel's result is the reference's, whatever the arguments.
-/
module

public import proofs.«01_k».proof.Defs
public import proofs.«01_k».proof.Proof.HaloValue
public import proofs.«01_k».proof.Proof.HaloTie

@[expose] public section

noncomputable section

namespace Cert.HaloClaim

open Idealize.ShloMosaic Idealize.ShloMosaic.TcCoe Idealize.SL.Sem
open Cert.HaloIdeal.Value (final2)
open Cert.HaloRefIdeal.Tie (res_at)

theorem claim : Cert.algebraic_HaloIdeal_HaloRefIdeal := by
  intro m g m' g' _ ha
  refine ⟨fun c => (Cert.HaloIdeal.Gen.dats m 0 c).arrAt 2 Cert.HaloIdeal.cfg0.N, ?_, ?_⟩
  · run_from (Cert.HaloIdeal.Value.run_blocks m g)
  · refine (θ_run Cert.HaloRefIdeal.defs _ _).mono (fun r h c => ?_) (Cert.HaloRefIdeal.Value.run (F := Ideal) m' g')
    obtain ⟨h0, hk⟩ := h c
    obtain ⟨a0, a1⟩ := ha c
    refine ⟨h0.trans ?_, hk⟩
    beta_reduce
    refine (Cert.HaloRefIdeal.Read.val_main_v17_eq _ _).trans ?_
    rw [final2, a0, a1]
    funext j
    idx_vars j
    exact res_at _ _ _ _ _ _

end Cert.HaloClaim

end
-- ==== Proof.RmsFwdValue.lean ====
/-
  The residual stream's norm: what the kernel's result array ends holding, at the exact reals.
-/
module

public import proofs.«01_k».proof.Proof.Gen.RmsFwdIdeal.Value
public import proofs.«01_k».proof.Proof.NormGrad
public import Idealize.ShloMosaic.Lib.Pipeline.ValueKit

@[expose] public section

noncomputable section

namespace Cert.RmsFwdIdeal.Value

open Cert.RmsFwdIdeal Cert.RmsFwdIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 1024 and the guard, as the programs write them. -/
abbrev cN : EReal := Ideal.ofBits FTy.f32 0x44800000#32
abbrev cE : EReal := Ideal.ofBits FTy.f32 0x358637BD#32

/-- Row `i` of the stream, and the gain. -/
abbrev X (c : Dev nD) (i : Fin 16384) : Fin 1024 → EReal := fun k => m ((c : Thread nD τ).loc main_arg0) (ix2 i k)
abbrev G (c : Dev nD) : Fin 1024 → EReal := fun k => m ((c : Thread nD τ).loc main_arg1) (ix1 k)

/-- The row blocks follow the point; the gain stays. -/
theorem idx (t : Fin cfg0.N) : win0_0.index t = ![t.val, 0] ∧ win0_1.index t = ![0, 0] ∧ win0_2.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blkX (c : Dev nD) (t : Fin cfg0.N) (a : Fin 512) (b : Fin 1024) : iblk m c 0 t (ix2 a b) = X m c (row t a) b := by
  blk_ext [iblk, V, idx t]

theorem blkG (c : Dev nD) (t : Fin cfg0.N) (b : Fin 1024) : iblk m c 1 t (ix2 0 b) = G m c b := by
  blk_simp [iblk, idx t]
  entry_read
  pointwise
  blk_ext [iblk, V, idx t]

/-- A point's block: the row over its root mean square, times the gain. -/
theorem pay (c : Dev nD) (t : Fin cfg0.N) (a : Fin 512) (b : Fin 1024) :
    k0_pay1 (iblk m c 0 t) (iblk m c 1 t) (ix2 a b) = X m c (row t a) b * inv cN cE (X m c (row t a)) * G m c b := by
  pointwise [k0_pay1]
  simp only [blkX, blkG]
  rfl

/-- The result: every row over its root mean square, times the gain. -/
theorem final (c : Dev nD) : (dats m 0 c).arrAt 2 cfg0.N
    = fun i : S16384x1024.Idx => X m c (i 0) (i 1) * inv cN cE (X m c (i 0)) * G m c (i 1) := by
  refine (dats m 0 c).arrAt_eq_of_covers 2 _ (by decide +kernel) fun t hf y => ?_
  have hrow : ∀ (a : Fin 512) (b : Fin 1024), ((View.whole main_v1).slice (win0_2.rect t)).emb (ix2 a b) = ix2 (row t a) b := fun a b => by
    blk_ext [idx t]
  blk_simp
  rw [after0_2]
  frame_out
  idx_vars y
  rw [pay]
  erw [hrow]
  rfl

end Cert.RmsFwdIdeal.Value

end
-- ==== Proof.RmsFwdTie.lean ====
/-
  The residual stream's norm: the reference's result at an entry.
-/
module

public import proofs.«01_k».proof.Proof.RmsFwdValue
public import proofs.«01_k».proof.Proof.Gen.RmsFwdRefIdeal.Read
public import Idealize.ShloMosaic.Lib.Pipeline.ValueKit

@[expose] public section

noncomputable section

namespace Cert.RmsFwdRefIdeal.Tie

open Cert.RmsFwdRefIdeal Cert.RmsFwdRefIdeal.Read Cert.NormGrad Idealize.ShloMosaic Idealize.ShloMosaic.TcCoe Idealize.SL.Sem

open Cert.RmsFwdIdeal.Value (cN cE)

variable (x0 : (⟨S16384x1024, .f32⟩ : BufTy).Contents (Elt Ideal)) (x1 : (⟨S1024, .f32⟩ : BufTy).Contents (Elt Ideal))

theorem read (a : Fin 16384) (b : Fin 1024) : val_main_v13 (F := Ideal) x0 x1 (ix2 a b)
    = x0 (ix2 a b) * inv cN cE (fun k => x0 (ix2 a k)) * x1 (ix1 b) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

end Cert.RmsFwdRefIdeal.Tie

end
-- ==== Proof.RmsFwdClaim.lean ====
/-
  The residual stream's norm: the kernel's rows are the reference's, whatever the arguments.
-/
module

public import proofs.«01_k».proof.Defs
public import proofs.«01_k».proof.Proof.RmsFwdValue
public import proofs.«01_k».proof.Proof.RmsFwdTie

@[expose] public section

noncomputable section

namespace Cert.RmsFwdClaim

open Idealize.ShloMosaic Idealize.ShloMosaic.TcCoe Idealize.SL.Sem

theorem claim : Cert.algebraic_RmsFwdIdeal_RmsFwdRefIdeal := by
  intro m g m' g' _ ha
  refine ⟨fun c => (Cert.RmsFwdIdeal.Gen.dats m 0 c).arrAt 2 Cert.RmsFwdIdeal.cfg0.N, ?_, ?_⟩
  · run_from (Cert.RmsFwdIdeal.Value.run_blocks m g)
  · refine (θ_run Cert.RmsFwdRefIdeal.defs _ _).mono (fun r h c => ?_) (Cert.RmsFwdRefIdeal.Value.run (F := Ideal) m' g')
    obtain ⟨h0, hk⟩ := h c
    obtain ⟨a0, a1⟩ := ha c
    refine ⟨h0.trans ?_, hk⟩
    beta_reduce
    refine (Cert.RmsFwdRefIdeal.Read.val_main_v13_eq _ _).trans ?_
    rw [Cert.RmsFwdIdeal.Value.final, a0, a1]
    funext j
    idx_vars j
    exact Cert.RmsFwdRefIdeal.Tie.read _ _ _ _

end Cert.RmsFwdClaim

end
-- ==== Proof.QFwdValue.lean ====
/-
  The queries' projection: what the kernel's result array ends holding, at the exact reals: the tiled product with its rotary half turned by the tables.
-/
module

public import proofs.«01_k».proof.Proof.Gen.QFwdIdeal.Value
public import proofs.«01_k».proof.Proof.Gen.QFwdRefIdeal.Read
public import Idealize.ShloMosaic.Lib.Pipeline.ValueKit
public import proofs.«01_k».proof.Proof.Pieces

@[expose] public section

noncomputable section

namespace Cert.QFwdIdeal.Value

open Cert.QFwdIdeal Cert.QFwdIdeal.Gen Idealize.ShloMosaic Idealize.ShloMosaic.TcCoe Idealize.SL.Sem
open Idealize.ShloMosaic.Pipeline (Dat)

variable (m : (ℓ : Loc nD τ sig) → Buf (Elt Ideal) ℓ)

/-- The latent rows, the weights and the two tables, as a point finds them. -/
abbrev bX (c : Dev nD) (t : Fin cfg0.N) : FVec Ideal S512x384 .bf16 := iblk m c 0 t
abbrev bW (c : Dev nD) (t : Fin cfg0.N) : FVec Ideal S8x96x384 .bf16 := iblk m c 1 t
abbrev bC (c : Dev nD) (t : Fin cfg0.N) : FVec Ideal S1x16x512 .f32 := iblk m c 2 t
abbrev bS (c : Dev nD) (t : Fin cfg0.N) : FVec Ideal S1x16x512 .f32 := iblk m c 3 t

/-- The windows' block indices: the rows, tables and tiles follow the point, the weights stay. -/
theorem idx (t : Fin cfg0.N) : win0_0.index t = ![t.val, 0] ∧ win0_1.index t = ![0, 0, 0]
    ∧ win0_2.index t = ![t.val, 0, 0] ∧ win0_3.index t = ![t.val, 0, 0] ∧ win0_4.index t = ![0, t.val, 0, 0] := by
  revert t
  decide +kernel

/-- The rotation: the rotary half of a query turned by the tables. -/
def rot (g : Fin 96 → EReal) (co si : Fin 16 → EReal) (e : Fin 96) : EReal :=
  if h : e.val < 64 then g e
  else if h' : e.val - 64 < 16 then g ⟨64 + (e.val - 64), by omega⟩ * co ⟨e.val - 64, h'⟩ - g ⟨80 + (e.val - 64), by omega⟩ * si ⟨e.val - 64, h'⟩
  else g ⟨64 + (e.val - 64 - 16), by omega⟩ * si ⟨e.val - 64 - 16, by omega⟩ + g ⟨80 + (e.val - 64 - 16), by omega⟩ * co ⟨e.val - 64 - 16, by omega⟩

theorem rot_lo (g : Fin 96 → EReal) (co si : Fin 16 → EReal) (e : Fin 96) (k : Fin 64) (h : e.val = k.val) :
    rot g co si e = g ⟨k.val, by omega⟩ := by
  have hb : k.val < 96 := by have := k.isLt; clear h; omega
  obtain rfl : e = ⟨k.val, hb⟩ := Fin.ext h
  exact dif_pos k.isLt

theorem rot_mid (g : Fin 96 → EReal) (co si : Fin 16 → EReal) (e : Fin 96) (k : Fin 16) (h : e.val = 64 + k.val) :
    rot g co si e = g ⟨64 + k.val, by omega⟩ * co k - g ⟨80 + k.val, by omega⟩ * si k := by
  have hb : 64 + k.val < 96 := by have := k.isLt; clear h; omega
  obtain rfl : e = ⟨64 + k.val, hb⟩ := Fin.ext h
  unfold rot
  have e0 : 64 + k.val - 64 = k.val := by omega
  simp only [e0]
  rw [dif_neg (by omega), dif_pos k.isLt]

theorem rot_hi (g : Fin 96 → EReal) (co si : Fin 16 → EReal) (e : Fin 96) (k : Fin 16) (h : e.val = 80 + k.val) :
    rot g co si e = g ⟨64 + k.val, by omega⟩ * si k + g ⟨80 + k.val, by omega⟩ * co k := by
  have hb : 80 + k.val < 96 := by have := k.isLt; clear h; omega
  obtain rfl : e = ⟨80 + k.val, hb⟩ := Fin.ext h
  unfold rot
  have e0 : 80 + k.val - 64 = 16 + k.val := by omega
  have e1 : 16 + k.val - 16 = k.val := by omega
  simp only [e0, e1]
  rw [dif_neg (by omega), dif_neg (by omega)]

/-- A point's queries before the rotation. -/
def tile (c : Dev nD) (t : Fin cfg0.N) (h : Fin 8) (a : Fin 512) (e : Fin 96) : EReal := ∑ k : Fin 384, bW m c t (ix3 h e k) * bX m c t (ix2 a k)

set_option maxHeartbeats 4000000 in
theorem out4 (c : Dev nD) (t : Fin cfg0.N) (y : S8x1x96x512.Idx) : outsAt0 m c t y
    = rot (tile m c t (y 0) (y 3)) (fun d => bC m c t (ix3 0 d (y 3))) (fun d => bS m c t (ix3 0 d (y 3))) (y 2) := by
  unfold outsAt0
  frame_out
  idx_vars y
  canon_tiles x h using (View.cover_of_tiledBy _ ![1, 1, 16, 512] (by sl_kernel_rfl) _)
  all_goals
    obtain rfl : y3 = x 3 := Fin.ext h3
    first
      | (have e0 : y0 = 0 := Fin.ext (h0.trans (by show (x 0).val = 0; omega))
         subst e0)
      | (have e0 : y0 = 1 := Fin.ext (h0.trans (by show 1 + (x 0).val = 1; omega))
         subst e0)
      | (have e0 : y0 = 2 := Fin.ext (h0.trans (by show 2 + (x 0).val = 2; omega))
         subst e0)
      | (have e0 : y0 = 3 := Fin.ext (h0.trans (by show 3 + (x 0).val = 3; omega))
         subst e0)
      | (have e0 : y0 = 4 := Fin.ext (h0.trans (by show 4 + (x 0).val = 4; omega))
         subst e0)
      | (have e0 : y0 = 5 := Fin.ext (h0.trans (by show 5 + (x 0).val = 5; omega))
         subst e0)
      | (have e0 : y0 = 6 := Fin.ext (h0.trans (by show 6 + (x 0).val = 6; omega))
         subst e0)
      | (have e0 : y0 = 7 := Fin.ext (h0.trans (by show 7 + (x 0).val = 7; omega))
         subst e0)
    first
      | refine Eq.trans ?_ (rot_mid _ _ _ _ (x 2) h2).symm
      | refine Eq.trans ?_ (rot_hi _ _ _ _ (x 2) h2).symm
      | refine Eq.trans ?_ (rot_lo _ _ _ _ (x 2) h2).symm
    unfold tile
    open_payloads
    pointwise

/-- The latent's and the weights' entries, of the arguments. -/
abbrev X (c : Dev nD) (r : Fin 16384) (k : Fin 384) : EReal := m ((c : Thread nD τ).loc main_arg0) (ix2 r k)
abbrev W (c : Dev nD) (h : Fin 8) (e : Fin 96) (k : Fin 384) : EReal := m ((c : Thread nD τ).loc main_arg1) (ix2 k ⟨h.val * 96 + e.val, by omega⟩)

/-- Row `a` of block `t`. -/
abbrev row (t : Fin cfg0.N) (a : Fin 512) : Fin 16384 :=
  ⟨t.val * 512 + a.val, by have := t.isLt; have := a.isLt; have : cfg0.N = 32 := N_0; omega⟩

theorem blkX (c : Dev nD) (t : Fin cfg0.N) (a : Fin 512) (k : Fin 384) : bX m c t (ix2 a k) = X m c (row t a) k := by
  blk_simp [bX, iblk, idx t]
  entry_read
  pointwise
  blk_ext [iblk, V, idx t]

theorem blkW (c : Dev nD) (t : Fin cfg0.N) (h : Fin 8) (e : Fin 96) (k : Fin 384) : bW m c t (ix3 h e k) = W m c h e k := by
  blk_simp [bW, iblk, idx t]
  entry_read
  pointwise
  blk_ext [iblk, V, idx t]

/-- A position's rotary angle: the reference's. -/
abbrev angle (r : Fin 16384) (d : Fin 16) : EReal := Cert.QFwdRefIdeal.Read.val_main_v19 (F := Ideal) (ix2 r d)

theorem blkC (c : Dev nD) (t : Fin cfg0.N) (d : Fin 16) (a : Fin 512) : bC m c t (ix3 0 d a) = Ideal.cos (angle (row t a) d) := by
  have hi : ((View.whole main_v23).slice (win0_2.rect t)).emb (ix3 0 d a) = ix3 ⟨t.val, lt_of_lt_of_eq t.isLt N_0⟩ d a := by
    blk_ext [idx t]
  blk_simp [bC, iblk, idx t]
  erw [hi]
  entry_read
  unfold angle
  pointwise [Cert.QFwdRefIdeal.Read.val_main_v4, Cert.QFwdRefIdeal.Read.val_main_cst, Cert.QFwdRefIdeal.Read.val_main_v5, Cert.QFwdRefIdeal.Read.val_main_v6, Cert.QFwdRefIdeal.Read.val_main_cst_0, Cert.QFwdRefIdeal.Read.val_main_v7, Cert.QFwdRefIdeal.Read.val_main_v8, Cert.QFwdRefIdeal.Read.val_main_v9, Cert.QFwdRefIdeal.Read.val_main_cst_1, Cert.QFwdRefIdeal.Read.val_main_v10, Cert.QFwdRefIdeal.Read.val_main_v11, Cert.QFwdRefIdeal.Read.val_main_cst_2, Cert.QFwdRefIdeal.Read.val_main_v12, Cert.QFwdRefIdeal.Read.val_main_v13, Cert.QFwdRefIdeal.Read.val_main_v14, Cert.QFwdRefIdeal.Read.val_main_v15, Cert.QFwdRefIdeal.Read.val_main_v16, Cert.QFwdRefIdeal.Read.val_main_v17, Cert.QFwdRefIdeal.Read.val_main_v18, Cert.QFwdRefIdeal.Read.val_main_v19]

theorem blkS (c : Dev nD) (t : Fin cfg0.N) (d : Fin 16) (a : Fin 512) : bS m c t (ix3 0 d a) = Ideal.sin (angle (row t a) d) := by
  have hi : ((View.whole main_v25).slice (win0_3.rect t)).emb (ix3 0 d a) = ix3 ⟨t.val, lt_of_lt_of_eq t.isLt N_0⟩ d a := by
    blk_ext [idx t]
  blk_simp [bS, iblk, idx t]
  erw [hi]
  entry_read
  unfold angle
  pointwise [Cert.QFwdRefIdeal.Read.val_main_v4, Cert.QFwdRefIdeal.Read.val_main_cst, Cert.QFwdRefIdeal.Read.val_main_v5, Cert.QFwdRefIdeal.Read.val_main_v6, Cert.QFwdRefIdeal.Read.val_main_cst_0, Cert.QFwdRefIdeal.Read.val_main_v7, Cert.QFwdRefIdeal.Read.val_main_v8, Cert.QFwdRefIdeal.Read.val_main_v9, Cert.QFwdRefIdeal.Read.val_main_cst_1, Cert.QFwdRefIdeal.Read.val_main_v10, Cert.QFwdRefIdeal.Read.val_main_v11, Cert.QFwdRefIdeal.Read.val_main_cst_2, Cert.QFwdRefIdeal.Read.val_main_v12, Cert.QFwdRefIdeal.Read.val_main_v13, Cert.QFwdRefIdeal.Read.val_main_v14, Cert.QFwdRefIdeal.Read.val_main_v15, Cert.QFwdRefIdeal.Read.val_main_v16, Cert.QFwdRefIdeal.Read.val_main_v17, Cert.QFwdRefIdeal.Read.val_main_v18, Cert.QFwdRefIdeal.Read.val_main_v19]

/-- A position's queries before the rotation, and after it. -/
abbrev q (c : Dev nD) (r : Fin 16384) (h : Fin 8) (e : Fin 96) : EReal := ∑ k : Fin 384, W m c h e k * X m c r k
def Q (c : Dev nD) (r : Fin 16384) (h : Fin 8) (e : Fin 96) : EReal := rot (q m c r h) (fun d => Ideal.cos (angle r d)) (fun d => Ideal.sin (angle r d)) e

/-- Row `a` of tile `i`. -/
abbrev pos (i : Fin 32) (a : Fin 512) : Fin 16384 := ⟨i.val * 512 + a.val, by omega⟩

/-- The result: the turned queries, by heads and tiles. -/
theorem final (c : Dev nD) : (dats m 0 c).arrAt 4 cfg0.N
    = fun i : S8x32x96x512.Idx => Q m c (pos (i 1) (i 3)) (i 0) (i 2) := by
  refine (dats m 0 c).arrAt_eq_of_covers 4 _ (by decide +kernel) fun t hf y => ?_
  have hrow : ∀ (h : Fin 8) (z : Fin 1) (e : Fin 96) (a : Fin 512),
      ((View.whole main_v26).slice (win0_4.rect t)).emb (ix4 h z e a) = ix4 h ⟨t.val, lt_of_lt_of_eq t.isLt N_0⟩ e a := fun h z e a => by
    blk_ext [idx t]
  blk_simp
  rw [after0_4, out4]
  idx_vars y
  erw [hrow]
  unfold Q tile
  simp only [blkX, blkW, blkC, blkS]
  rfl

end Cert.QFwdIdeal.Value

end
-- ==== Proof.QFwdTie.lean ====
/-
  The queries' projection: the reference's result, entry by entry, is the product with its rotary half turned.
-/
module

public import proofs.«01_k».proof.Proof.QFwdValue

@[expose] public section

noncomputable section

namespace Cert.QFwdRefIdeal.Tie

open Cert.QFwdRefIdeal Cert.QFwdRefIdeal.Read Idealize.ShloMosaic Idealize.ShloMosaic.TcCoe Idealize.SL.Sem
open Cert.QFwdIdeal.Value (rot rot_lo rot_mid rot_hi pos)

variable (x0 : (⟨S16384x384, .f32⟩ : BufTy).Contents (Elt Ideal)) (x1 : (⟨S384x768, .f32⟩ : BufTy).Contents (Elt Ideal))

abbrev col (h : Fin 8) (e : Fin 96) : Fin 768 := ⟨h.val * 96 + e.val, by omega⟩

/-- A position's rotary angle. -/
abbrev ang (r : Fin 16384) (d : Fin 16) : EReal := val_main_v19 (F := Ideal) (ix2 r d)

/-- A query before the rotation. -/
abbrev qr (r : Fin 16384) (h : Fin 8) (e : Fin 96) : EReal := ∑ k : Fin 384, x0 (ix2 r k) * x1 (ix2 k (col h e))

theorem v1_at (r : Fin 16384) (h : Fin 8) (e : Fin 96) : val_main_v1 (F := Ideal) x0 x1 (ix4 0 r h e) = qr x0 x1 r h e := by
  pointwise [val_main_v0, val_main_v1]
  blk_ext

theorem v30_at (r : Fin 16384) (h : Fin 8) (d : Fin 16) : val_main_v30 (F := Ideal) x0 x1 (ix4 0 r h d)
    = qr x0 x1 r h ⟨64 + d.val, by omega⟩ * Ideal.cos (ang r d) - qr x0 x1 r h ⟨80 + d.val, by omega⟩ * Ideal.sin (ang r d) := by
  simp only [← v1_at x0 x1]
  pointwise [val_main_v3, val_main_v20, val_main_v21, val_main_v22, val_main_v23, val_main_v24, val_main_v25, val_main_v26, val_main_v27, val_main_v28, val_main_v29, val_main_v30]
  simp only [show 64 + (16 + d.val) = 80 + d.val from by omega]

theorem v35_at (r : Fin 16384) (h : Fin 8) (d : Fin 16) : val_main_v35 (F := Ideal) x0 x1 (ix4 0 r h d)
    = qr x0 x1 r h ⟨64 + d.val, by omega⟩ * Ideal.sin (ang r d) + qr x0 x1 r h ⟨80 + d.val, by omega⟩ * Ideal.cos (ang r d) := by
  simp only [← v1_at x0 x1]
  pointwise [val_main_v3, val_main_v20, val_main_v21, val_main_v22, val_main_v23, val_main_v24, val_main_v25, val_main_v31, val_main_v32, val_main_v33, val_main_v34, val_main_v35]
  simp only [show 64 + (16 + d.val) = 80 + d.val from by omega]

theorem v37_lo (r : Fin 16384) (h : Fin 8) (d : Fin 64) : val_main_v37 (F := Ideal) x0 x1 (ix4 0 r h ⟨d.val, by omega⟩) = qr x0 x1 r h ⟨d.val, by omega⟩ := by
  rw [← v1_at x0 x1]
  pointwise [val_main_v2, val_main_v37]

theorem v37_mid (r : Fin 16384) (h : Fin 8) (d : Fin 16) : val_main_v37 (F := Ideal) x0 x1 (ix4 0 r h ⟨64 + d.val, by omega⟩) = val_main_v30 (F := Ideal) x0 x1 (ix4 0 r h d) := by
  pointwise [val_main_v36, val_main_v37]

theorem v37_hi (r : Fin 16384) (h : Fin 8) (d : Fin 16) : val_main_v37 (F := Ideal) x0 x1 (ix4 0 r h ⟨64 + (16 + d.val), by omega⟩) = val_main_v35 (F := Ideal) x0 x1 (ix4 0 r h d) := by
  pointwise [val_main_v36, val_main_v37]

/-- The reference's query is the product turned. -/
theorem v37_at (r : Fin 16384) (h : Fin 8) (e : Fin 96) : val_main_v37 (F := Ideal) x0 x1 (ix4 0 r h e)
    = rot (qr x0 x1 r h) (fun d => Ideal.cos (ang r d)) (fun d => Ideal.sin (ang r d)) e := by
  by_cases h1 : e.val < 64
  · exact (v37_lo x0 x1 r h ⟨e.val, h1⟩).trans (rot_lo _ _ _ e ⟨e.val, h1⟩ rfl).symm
  · by_cases h2 : e.val < 80
    · obtain ⟨k, hk, hb, rfl⟩ : ∃ k, k < 16 ∧ ∃ hb : 64 + k < 96, e = ⟨64 + k, hb⟩ := ⟨e.val - 64, by omega, by omega, Fin.ext (by show e.val = 64 + (e.val - 64); omega)⟩
      exact ((v37_mid x0 x1 r h ⟨k, hk⟩).trans (v30_at x0 x1 r h ⟨k, hk⟩)).trans (rot_mid (qr x0 x1 r h) (fun d => Ideal.cos (ang r d)) (fun d => Ideal.sin (ang r d)) _ ⟨k, hk⟩ rfl).symm
    · obtain ⟨k, hk, hb, rfl⟩ : ∃ k, k < 16 ∧ ∃ hb : 64 + (16 + k) < 96, e = ⟨64 + (16 + k), hb⟩ :=
        ⟨e.val - 80, by omega, by omega, Fin.ext (by show e.val = 64 + (16 + (e.val - 80)); omega)⟩
      exact ((v37_hi x0 x1 r h ⟨k, hk⟩).trans (v35_at x0 x1 r h ⟨k, hk⟩)).trans (rot_hi (qr x0 x1 r h) (fun d => Ideal.cos (ang r d)) (fun d => Ideal.sin (ang r d)) _ ⟨k, hk⟩ (by show 64 + (16 + k) = 80 + k; omega)).symm

theorem v41_at (h : Fin 8) (i : Fin 32) (e : Fin 96) (a : Fin 512) : val_main_v41 (F := Ideal) x0 x1 (ix4 h i e a)
    = val_main_v37 (F := Ideal) x0 x1 (ix4 0 (pos i a) h e) := by
  pointwise [val_main_v38, val_main_v39, val_main_v40, val_main_v41]
  blk_ext

end Cert.QFwdRefIdeal.Tie

end
-- ==== Proof.QFwdClaim.lean ====
/-
  The queries' projection: the kernel's tiles are the reference's, whatever the arguments.
-/
module

public import proofs.«01_k».proof.Defs
public import proofs.«01_k».proof.Proof.QFwdValue
public import proofs.«01_k».proof.Proof.QFwdTie

@[expose] public section

noncomputable section

namespace Cert.QFwdClaim

open Idealize.ShloMosaic Idealize.ShloMosaic.TcCoe Idealize.SL.Sem

theorem claim : Cert.algebraic_QFwdIdeal_QFwdRefIdeal := by
  intro m g m' g' _ ha
  refine ⟨fun c => (Cert.QFwdIdeal.Gen.dats m 0 c).arrAt 4 Cert.QFwdIdeal.cfg0.N, ?_, ?_⟩
  · run_from (Cert.QFwdIdeal.Value.run_blocks m g)
  · refine (θ_run Cert.QFwdRefIdeal.defs _ _).mono (fun r h c => ?_) (Cert.QFwdRefIdeal.Value.run (F := Ideal) m' g')
    obtain ⟨h0, hk⟩ := h c
    obtain ⟨a0, a1⟩ := ha c
    refine ⟨h0.trans ?_, hk⟩
    beta_reduce
    refine (Cert.QFwdRefIdeal.Read.val_main_v41_eq _ _).trans ?_
    rw [Cert.QFwdIdeal.Value.final, a0, a1]
    funext j
    idx_vars j
    refine ((Cert.QFwdRefIdeal.Tie.v41_at _ _ _ _ _ _).trans (Cert.QFwdRefIdeal.Tie.v37_at _ _ _ _ _)).trans ?_
    unfold Cert.QFwdIdeal.Value.Q
    congr 1
    funext e
    exact Finset.sum_congr rfl fun k _ => mul_comm _ _

end Cert.QFwdClaim

end
-- ==== Proof.KvFwdValue.lean ====
/-
  The keys' and values' projection: what the kernel's four result arrays end holding, at the exact reals: keys and values, by tiles and by heads.
-/
module

public import proofs.«01_k».proof.Proof.Gen.KvFwdIdeal.Value
public import proofs.«01_k».proof.Proof.Gen.KvFwdRefIdeal.Read
public import Idealize.ShloMosaic.Lib.Pipeline.ValueKit
public import proofs.«01_k».proof.Proof.Pieces

@[expose] public section

noncomputable section

namespace Cert.KvFwdIdeal.Value

open Cert.KvFwdIdeal Cert.KvFwdIdeal.Gen Idealize.ShloMosaic Idealize.ShloMosaic.TcCoe Idealize.SL.Sem
open Idealize.ShloMosaic.Pipeline (Dat)

variable (m : (ℓ : Loc nD τ sig) → Buf (Elt Ideal) ℓ)

/-- The latent rows, the two weights both ways and the shared rotary key both ways, as a point finds them. -/
abbrev bX (c : Dev nD) (t : Fin cfg0.N) : FVec Ideal S512x256 .bf16 := iblk m c 0 t
abbrev bK (c : Dev nD) (t : Fin cfg0.N) : FVec Ideal S8x256x64 .bf16 := iblk m c 1 t
abbrev bV (c : Dev nD) (t : Fin cfg0.N) : FVec Ideal S8x256x64 .bf16 := iblk m c 2 t
abbrev bKT (c : Dev nD) (t : Fin cfg0.N) : FVec Ideal S8x64x256 .bf16 := iblk m c 3 t
abbrev bVT (c : Dev nD) (t : Fin cfg0.N) : FVec Ideal S8x64x256 .bf16 := iblk m c 4 t
abbrev bR (c : Dev nD) (t : Fin cfg0.N) : FVec Ideal S512x32 .f32 := iblk m c 5 t
abbrev bRT (c : Dev nD) (t : Fin cfg0.N) : FVec Ideal S1x32x512 .f32 := iblk m c 6 t

/-- The windows' block indices: rows, rotary keys and results follow the point, the weights stay. -/
theorem idx (t : Fin cfg0.N) : win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] ∧ win0_6.index t = ![t.val, 0, 0]
    ∧ win0_7.index t = ![0, t.val, 0, 0] ∧ win0_8.index t = ![0, t.val, 0, 0] ∧ win0_9.index t = ![0, t.val, 0] ∧ win0_10.index t = ![0, t.val, 0] := by
  revert t
  decide +kernel

/-- Sixty-four entries and then the rest. -/
def cat {N n : ℕ} (hN : N = 64 + n) (f : Fin 64 → EReal) (g : Fin n → EReal) (e : Fin N) : EReal :=
  if h : e.val < 64 then f ⟨e.val, h⟩ else g ⟨e.val - 64, by omega⟩

theorem cat_lo {N n : ℕ} (hN : N = 64 + n) (f : Fin 64 → EReal) (g : Fin n → EReal) (e : Fin N) (k : Fin 64) (h : e.val = k.val) :
    cat hN f g e = f k := by
  have h' : e.val < 64 := h ▸ k.isLt
  exact (dif_pos h').trans (congrArg f (Fin.ext h))

theorem cat_hi {N n : ℕ} (hN : N = 64 + n) (f : Fin 64 → EReal) (g : Fin n → EReal) (e : Fin N) (k : Fin n) (h : e.val = 64 + k.val) :
    cat hN f g e = g k := by
  have h' : ¬ e.val < 64 := by omega
  exact (dif_neg h').trans (congrArg g (Fin.ext (by show e.val - 64 = k.val; omega)))

/-- The rows that follow the values: ones, then zeros. -/
def ones (d : Fin 16) : EReal := if d.val = 0 then 1 else 0

theorem ones_eq (d : Fin 16) : Scalar.select (IntOp.cmpi CmpIPredicate.eq (BitVec.ofNat 32 d.val) 0#32) (1 : EReal) 0 = ones d := by
  fin_cases d <;> simp [ones, Scalar.select, IntOp.cmpi]

set_option maxHeartbeats 4000000 in
theorem out7 (c : Dev nD) (t : Fin cfg0.N) (y : S8x1x96x512.Idx) : (outsAt0 m c t).1 y
    = cat (n := 32) rfl (fun d => ∑ k : Fin 256, bKT m c t (ix3 (y 0) d k) * bX m c t (ix2 (y 3) k)) (fun d => bRT m c t (ix3 0 d (y 3))) (y 2) := by
  unfold outsAt0
  frame_out
  idx_vars y
  canon_tiles x h using (View.cover_of_tiledBy _ ![1, 1, 16, 512] (by sl_kernel_rfl) _)
  all_goals
    obtain rfl : y3 = x 3 := Fin.ext h3
    first
      | (have e0 : y0 = 0 := Fin.ext (h0.trans (by show (x 0).val = 0; omega))
         subst e0)
      | (have e0 : y0 = 1 := Fin.ext (h0.trans (by show 1 + (x 0).val = 1; omega))
         subst e0)
      | (have e0 : y0 = 2 := Fin.ext (h0.trans (by show 2 + (x 0).val = 2; omega))
         subst e0)
      | (have e0 : y0 = 3 := Fin.ext (h0.trans (by show 3 + (x 0).val = 3; omega))
         subst e0)
      | (have e0 : y0 = 4 := Fin.ext (h0.trans (by show 4 + (x 0).val = 4; omega))
         subst e0)
      | (have e0 : y0 = 5 := Fin.ext (h0.trans (by show 5 + (x 0).val = 5; omega))
         subst e0)
      | (have e0 : y0 = 6 := Fin.ext (h0.trans (by show 6 + (x 0).val = 6; omega))
         subst e0)
      | (have e0 : y0 = 7 := Fin.ext (h0.trans (by show 7 + (x 0).val = 7; omega))
         subst e0)
    first
      | refine Eq.trans ?_ (cat_hi _ _ _ _ (x 2) h2).symm
      | refine Eq.trans ?_ (cat_lo _ _ _ _ (x 2) h2).symm
    open_payloads
    pointwise

set_option maxHeartbeats 4000000 in
theorem out8 (c : Dev nD) (t : Fin cfg0.N) (y : S8x1x80x512.Idx) : (outsAt0 m c t).2.1 y
    = cat (n := 16) rfl (fun d => ∑ k : Fin 256, bVT m c t (ix3 (y 0) d k) * bX m c t (ix2 (y 3) k)) ones (y 2) := by
  unfold outsAt0
  frame_out
  idx_vars y
  canon_tiles x h using (View.cover_of_tiledBy _ ![1, 1, 16, 512] (by sl_kernel_rfl) _)
  all_goals
    obtain rfl : y3 = x 3 := Fin.ext h3
    first
      | (have e0 : y0 = 0 := Fin.ext (h0.trans (by show (x 0).val = 0; omega))
         subst e0)
      | (have e0 : y0 = 1 := Fin.ext (h0.trans (by show 1 + (x 0).val = 1; omega))
         subst e0)
      | (have e0 : y0 = 2 := Fin.ext (h0.trans (by show 2 + (x 0).val = 2; omega))
         subst e0)
      | (have e0 : y0 = 3 := Fin.ext (h0.trans (by show 3 + (x 0).val = 3; omega))
         subst e0)
      | (have e0 : y0 = 4 := Fin.ext (h0.trans (by show 4 + (x 0).val = 4; omega))
         subst e0)
      | (have e0 : y0 = 5 := Fin.ext (h0.trans (by show 5 + (x 0).val = 5; omega))
         subst e0)
      | (have e0 : y0 = 6 := Fin.ext (h0.trans (by show 6 + (x 0).val = 6; omega))
         subst e0)
      | (have e0 : y0 = 7 := Fin.ext (h0.trans (by show 7 + (x 0).val = 7; omega))
         subst e0)
    first
      | refine Eq.trans ?_ (cat_hi _ _ _ _ (x 2) h2).symm
      | refine Eq.trans ?_ (cat_lo _ _ _ _ (x 2) h2).symm
    open_payloads
    pointwise
  all_goals
    exact ones_eq _

set_option maxHeartbeats 4000000 in
theorem out9 (c : Dev nD) (t : Fin cfg0.N) (y : S8x512x96.Idx) : (outsAt0 m c t).2.2.1 y
    = cat (n := 32) rfl (fun d => ∑ k : Fin 256, bX m c t (ix2 (y 1) k) * bK m c t (ix3 (y 0) k d)) (fun d => bR m c t (ix2 (y 1) d)) (y 2) := by
  unfold outsAt0
  frame_out
  idx_vars y
  canon_tiles x h using (View.cover_of_tiledBy _ ![1, 512, 32] (by sl_kernel_rfl) _)
  all_goals
    obtain rfl : y1 = x 1 := Fin.ext h1
    first
      | (have e0 : y0 = 0 := Fin.ext (h0.trans (by show (x 0).val = 0; omega))
         subst e0)
      | (have e0 : y0 = 1 := Fin.ext (h0.trans (by show 1 + (x 0).val = 1; omega))
         subst e0)
      | (have e0 : y0 = 2 := Fin.ext (h0.trans (by show 2 + (x 0).val = 2; omega))
         subst e0)
      | (have e0 : y0 = 3 := Fin.ext (h0.trans (by show 3 + (x 0).val = 3; omega))
         subst e0)
      | (have e0 : y0 = 4 := Fin.ext (h0.trans (by show 4 + (x 0).val = 4; omega))
         subst e0)
      | (have e0 : y0 = 5 := Fin.ext (h0.trans (by show 5 + (x 0).val = 5; omega))
         subst e0)
      | (have e0 : y0 = 6 := Fin.ext (h0.trans (by show 6 + (x 0).val = 6; omega))
         subst e0)
      | (have e0 : y0 = 7 := Fin.ext (h0.trans (by show 7 + (x 0).val = 7; omega))
         subst e0)
    first
      | refine Eq.trans ?_ (cat_hi _ _ _ _ (x 2) h2).symm
      | refine Eq.trans ?_ (cat_lo _ _ _ _ (x 2) h2).symm
    open_payloads
    pointwise

set_option maxHeartbeats 4000000 in
theorem out10 (c : Dev nD) (t : Fin cfg0.N) (y : S8x512x64.Idx) : (outsAt0 m c t).2.2.2 y
    = ∑ k : Fin 256, bX m c t (ix2 (y 1) k) * bV m c t (ix3 (y 0) k (y 2)) := by
  unfold outsAt0
  frame_out
  idx_vars y
  canon_tiles x h
  all_goals
    obtain rfl : y1 = x 1 := Fin.ext h1
    obtain rfl : y2 = x 2 := Fin.ext h2
    first
      | (have e0 : y0 = 0 := Fin.ext (h0.trans (by show (x 0).val = 0; omega))
         subst e0)
      | (have e0 : y0 = 1 := Fin.ext (h0.trans (by show 1 + (x 0).val = 1; omega))
         subst e0)
      | (have e0 : y0 = 2 := Fin.ext (h0.trans (by show 2 + (x 0).val = 2; omega))
         subst e0)
      | (have e0 : y0 = 3 := Fin.ext (h0.trans (by show 3 + (x 0).val = 3; omega))
         subst e0)
      | (have e0 : y0 = 4 := Fin.ext (h0.trans (by show 4 + (x 0).val = 4; omega))
         subst e0)
      | (have e0 : y0 = 5 := Fin.ext (h0.trans (by show 5 + (x 0).val = 5; omega))
         subst e0)
      | (have e0 : y0 = 6 := Fin.ext (h0.trans (by show 6 + (x 0).val = 6; omega))
         subst e0)
      | (have e0 : y0 = 7 := Fin.ext (h0.trans (by show 7 + (x 0).val = 7; omega))
         subst e0)
    open_payloads
    pointwise

/-- The latent's and the weights' entries, of the arguments. -/
abbrev X (c : Dev nD) (r : Fin 16384) (k : Fin 256) : EReal := m ((c : Thread nD τ).loc main_arg0) (ix2 r k)
abbrev WK (c : Dev nD) (h : Fin 8) (d : Fin 64) (k : Fin 256) : EReal := m ((c : Thread nD τ).loc main_arg1) (ix2 k ⟨h.val * 128 + d.val, by omega⟩)
abbrev WV (c : Dev nD) (h : Fin 8) (d : Fin 64) (k : Fin 256) : EReal := m ((c : Thread nD τ).loc main_arg1) (ix2 k ⟨h.val * 128 + (64 + d.val), by omega⟩)

/-- The shared key's rotary part: the reference's. -/
abbrev KR (c : Dev nD) (r : Fin 16384) (d : Fin 32) : EReal := Cert.KvFwdRefIdeal.Read.val_main_v32 (F := Ideal) (m ((c : Thread nD τ).loc main_arg2)) (ix2 r d)

/-- Row `a` of block `t`. -/
abbrev row (t : Fin cfg0.N) (a : Fin 512) : Fin 16384 :=
  ⟨t.val * 512 + a.val, by have := t.isLt; have := a.isLt; have : cfg0.N = 32 := N_0; omega⟩

theorem blkX (c : Dev nD) (t : Fin cfg0.N) (a : Fin 512) (k : Fin 256) : bX m c t (ix2 a k) = X m c (row t a) k := by
  blk_simp [bX, iblk, idx t]
  entry_read
  pointwise
  blk_ext [iblk, V, idx t]

theorem blkK (c : Dev nD) (t : Fin cfg0.N) (h : Fin 8) (k : Fin 256) (d : Fin 64) : bK m c t (ix3 h k d) = WK m c h d k := by
  blk_simp [bK, iblk, idx t]
  entry_read
  pointwise
  blk_ext [iblk, V, idx t]

theorem blkV (c : Dev nD) (t : Fin cfg0.N) (h : Fin 8) (k : Fin 256) (d : Fin 64) : bV m c t (ix3 h k d) = WV m c h d k := by
  blk_simp [bV, iblk, idx t]
  entry_read
  pointwise
  blk_ext [iblk, V, idx t]

theorem blkKT (c : Dev nD) (t : Fin cfg0.N) (h : Fin 8) (d : Fin 64) (k : Fin 256) : bKT m c t (ix3 h d k) = WK m c h d k := by
  blk_simp [bKT, iblk, idx t]
  entry_read
  pointwise
  blk_ext [iblk, V, idx t]

theorem blkVT (c : Dev nD) (t : Fin cfg0.N) (h : Fin 8) (d : Fin 64) (k : Fin 256) : bVT m c t (ix3 h d k) = WV m c h d k := by
  blk_simp [bVT, iblk, idx t]
  entry_read
  pointwise
  blk_ext [iblk, V, idx t]

theorem blkR (c : Dev nD) (t : Fin cfg0.N) (a : Fin 512) (d : Fin 32) : bR m c t (ix2 a d) = KR m c (row t a) d := by
  have hi : ((View.whole main_v33).slice (win0_5.rect t)).emb (ix2 a d) = ix2 (row t a) d := by
    blk_ext [idx t]
  blk_simp [bR, iblk, idx t]
  erw [hi]
  entry_read
  unfold KR
  pointwise [Cert.KvFwdRefIdeal.Read.val_main_v2, Cert.KvFwdRefIdeal.Read.val_main_v3, Cert.KvFwdRefIdeal.Read.val_main_cst, Cert.KvFwdRefIdeal.Read.val_main_v4, Cert.KvFwdRefIdeal.Read.val_main_v5, Cert.KvFwdRefIdeal.Read.val_main_cst_0, Cert.KvFwdRefIdeal.Read.val_main_v6, Cert.KvFwdRefIdeal.Read.val_main_v7, Cert.KvFwdRefIdeal.Read.val_main_v8, Cert.KvFwdRefIdeal.Read.val_main_cst_1, Cert.KvFwdRefIdeal.Read.val_main_v9, Cert.KvFwdRefIdeal.Read.val_main_v10, Cert.KvFwdRefIdeal.Read.val_main_cst_2, Cert.KvFwdRefIdeal.Read.val_main_v11, Cert.KvFwdRefIdeal.Read.val_main_v12, Cert.KvFwdRefIdeal.Read.val_main_v13, Cert.KvFwdRefIdeal.Read.val_main_v14, Cert.KvFwdRefIdeal.Read.val_main_v15, Cert.KvFwdRefIdeal.Read.val_main_v16, Cert.KvFwdRefIdeal.Read.val_main_v17, Cert.KvFwdRefIdeal.Read.val_main_v18, Cert.KvFwdRefIdeal.Read.val_main_v19, Cert.KvFwdRefIdeal.Read.val_main_v20, Cert.KvFwdRefIdeal.Read.val_main_v21, Cert.KvFwdRefIdeal.Read.val_main_v22, Cert.KvFwdRefIdeal.Read.val_main_v23, Cert.KvFwdRefIdeal.Read.val_main_v24, Cert.KvFwdRefIdeal.Read.val_main_v25, Cert.KvFwdRefIdeal.Read.val_main_v26, Cert.KvFwdRefIdeal.Read.val_main_v27, Cert.KvFwdRefIdeal.Read.val_main_v28, Cert.KvFwdRefIdeal.Read.val_main_v29, Cert.KvFwdRefIdeal.Read.val_main_v30, Cert.KvFwdRefIdeal.Read.val_main_v31, Cert.KvFwdRefIdeal.Read.val_main_v32]

theorem blkRT (c : Dev nD) (t : Fin cfg0.N) (a : Fin 512) (d : Fin 32) : bRT m c t (ix3 0 d a) = KR m c (row t a) d := by
  have hi : ((View.whole main_v35).slice (win0_6.rect t)).emb (ix3 0 d a) = ix3 ⟨t.val, lt_of_lt_of_eq t.isLt N_0⟩ d a := by
    blk_ext [idx t]
  blk_simp [bRT, iblk, idx t]
  erw [hi]
  entry_read
  unfold KR
  pointwise [Cert.KvFwdRefIdeal.Read.val_main_v2, Cert.KvFwdRefIdeal.Read.val_main_v3, Cert.KvFwdRefIdeal.Read.val_main_cst, Cert.KvFwdRefIdeal.Read.val_main_v4, Cert.KvFwdRefIdeal.Read.val_main_v5, Cert.KvFwdRefIdeal.Read.val_main_cst_0, Cert.KvFwdRefIdeal.Read.val_main_v6, Cert.KvFwdRefIdeal.Read.val_main_v7, Cert.KvFwdRefIdeal.Read.val_main_v8, Cert.KvFwdRefIdeal.Read.val_main_cst_1, Cert.KvFwdRefIdeal.Read.val_main_v9, Cert.KvFwdRefIdeal.Read.val_main_v10, Cert.KvFwdRefIdeal.Read.val_main_cst_2, Cert.KvFwdRefIdeal.Read.val_main_v11, Cert.KvFwdRefIdeal.Read.val_main_v12, Cert.KvFwdRefIdeal.Read.val_main_v13, Cert.KvFwdRefIdeal.Read.val_main_v14, Cert.KvFwdRefIdeal.Read.val_main_v15, Cert.KvFwdRefIdeal.Read.val_main_v16, Cert.KvFwdRefIdeal.Read.val_main_v17, Cert.KvFwdRefIdeal.Read.val_main_v18, Cert.KvFwdRefIdeal.Read.val_main_v19, Cert.KvFwdRefIdeal.Read.val_main_v20, Cert.KvFwdRefIdeal.Read.val_main_v21, Cert.KvFwdRefIdeal.Read.val_main_v22, Cert.KvFwdRefIdeal.Read.val_main_v23, Cert.KvFwdRefIdeal.Read.val_main_v24, Cert.KvFwdRefIdeal.Read.val_main_v25, Cert.KvFwdRefIdeal.Read.val_main_v26, Cert.KvFwdRefIdeal.Read.val_main_v27, Cert.KvFwdRefIdeal.Read.val_main_v28, Cert.KvFwdRefIdeal.Read.val_main_v29, Cert.KvFwdRefIdeal.Read.val_main_v30, Cert.KvFwdRefIdeal.Read.val_main_v31, Cert.KvFwdRefIdeal.Read.val_main_v32]

/-- A position's key and value in a head. -/
def K (c : Dev nD) (r : Fin 16384) (h : Fin 8) (e : Fin 96) : EReal := cat (n := 32) rfl (fun d => ∑ k : Fin 256, X m c r k * WK m c h d k) (KR m c r) e
def v (c : Dev nD) (r : Fin 16384) (h : Fin 8) (d : Fin 64) : EReal := ∑ k : Fin 256, X m c r k * WV m c h d k

/-- Row `a` of tile `i`. -/
abbrev pos (i : Fin 32) (a : Fin 512) : Fin 16384 := ⟨i.val * 512 + a.val, by omega⟩

/-- Keys and values by tiles, the values followed by a row of ones and rows of zeros; then by heads. -/
theorem final7 (c : Dev nD) : (dats m 0 c).arrAt 7 cfg0.N = fun i : S8x32x96x512.Idx => K m c (pos (i 1) (i 3)) (i 0) (i 2) := by
  refine (dats m 0 c).arrAt_eq_of_covers 7 _ (by decide +kernel) fun t hf y => ?_
  have hrow : ∀ (h : Fin 8) (z : Fin 1) (e : Fin 96) (a : Fin 512), ((View.whole main_v41_0).slice (win0_7.rect t)).emb (ix4 h z e a) = ix4 h ⟨t.val, lt_of_lt_of_eq t.isLt N_0⟩ e a := fun h z e a => by
    blk_ext [idx t]
  blk_simp
  rw [after0_7, out7]
  idx_vars y
  erw [hrow]
  simp only [blkX, blkK, blkV, blkKT, blkVT, blkR, blkRT, mul_comm (WK m c _ _ _), mul_comm (WV m c _ _ _)]
  rfl

theorem final8 (c : Dev nD) : (dats m 0 c).arrAt 8 cfg0.N = fun i : S8x32x80x512.Idx => cat (n := 16) rfl (v m c (pos (i 1) (i 3)) (i 0)) ones (i 2) := by
  refine (dats m 0 c).arrAt_eq_of_covers 8 _ (by decide +kernel) fun t hf y => ?_
  have hrow : ∀ (h : Fin 8) (z : Fin 1) (e : Fin 80) (a : Fin 512), ((View.whole main_v41_1).slice (win0_8.rect t)).emb (ix4 h z e a) = ix4 h ⟨t.val, lt_of_lt_of_eq t.isLt N_0⟩ e a := fun h z e a => by
    blk_ext [idx t]
  blk_simp
  rw [after0_8, out8]
  idx_vars y
  erw [hrow]
  simp only [blkX, blkK, blkV, blkKT, blkVT, blkR, blkRT, mul_comm (WK m c _ _ _), mul_comm (WV m c _ _ _)]
  rfl

theorem final9 (c : Dev nD) : (dats m 0 c).arrAt 9 cfg0.N = fun i : S8x16384x96.Idx => K m c (i 1) (i 0) (i 2) := by
  refine (dats m 0 c).arrAt_eq_of_covers 9 _ (by decide +kernel) fun t hf y => ?_
  have hrow : ∀ (h : Fin 8) (a : Fin 512) (e : Fin 96), ((View.whole main_v41_2).slice (win0_9.rect t)).emb (ix3 h a e) = ix3 h (row t a) e := fun h a e => by
    blk_ext [idx t]
  blk_simp
  rw [after0_9, out9]
  idx_vars y
  erw [hrow]
  simp only [blkX, blkK, blkV, blkKT, blkVT, blkR, blkRT, mul_comm (WK m c _ _ _), mul_comm (WV m c _ _ _)]
  rfl

theorem final10 (c : Dev nD) : (dats m 0 c).arrAt 10 cfg0.N = fun i : S8x16384x64.Idx => v m c (i 1) (i 0) (i 2) := by
  refine (dats m 0 c).arrAt_eq_of_covers 10 _ (by decide +kernel) fun t hf y => ?_
  have hrow : ∀ (h : Fin 8) (a : Fin 512) (e : Fin 64), ((View.whole main_v41_3).slice (win0_10.rect t)).emb (ix3 h a e) = ix3 h (row t a) e := fun h a e => by
    blk_ext [idx t]
  blk_simp
  rw [after0_10, out10]
  idx_vars y
  erw [hrow]
  simp only [blkX, blkK, blkV, blkKT, blkVT, blkR, blkRT, mul_comm (WK m c _ _ _), mul_comm (WV m c _ _ _)]
  rfl

end Cert.KvFwdIdeal.Value

end
-- ==== Proof.KvFwdTie.lean ====
/-
  The keys' and values' projection: the reference's four results, entry by entry.
-/
module

public import proofs.«01_k».proof.Proof.KvFwdValue

@[expose] public section

noncomputable section

namespace Cert.KvFwdRefIdeal.Tie

open Cert.KvFwdRefIdeal Cert.KvFwdRefIdeal.Read Idealize.ShloMosaic Idealize.ShloMosaic.TcCoe Idealize.SL.Sem
open Cert.KvFwdIdeal.Value (cat cat_lo cat_hi ones pos)

variable (x0 : (⟨S16384x256, .f32⟩ : BufTy).Contents (Elt Ideal)) (x1 : (⟨S256x1024, .f32⟩ : BufTy).Contents (Elt Ideal))
  (x2 : (⟨S16384x32, .f32⟩ : BufTy).Contents (Elt Ideal))

/-- The unturned part of a key, and a value. -/
abbrev kn (r : Fin 16384) (h : Fin 8) (d : Fin 64) : EReal := ∑ k : Fin 256, x0 (ix2 r k) * x1 (ix2 k ⟨h.val * 128 + d.val, by omega⟩)
abbrev vn (r : Fin 16384) (h : Fin 8) (d : Fin 64) : EReal := ∑ k : Fin 256, x0 (ix2 r k) * x1 (ix2 k ⟨h.val * 128 + (64 + d.val), by omega⟩)

theorem v33_at (r : Fin 16384) (h : Fin 8) (d : Fin 64) : val_main_v33 (F := Ideal) x0 x1 (ix3 r h d) = kn x0 x1 r h d := by
  pointwise [val_main_v0, val_main_v1, val_main_v33]
  blk_ext

theorem v37_at (r : Fin 16384) (h : Fin 8) (d : Fin 64) : val_main_v37 (F := Ideal) x0 x1 (ix3 r h d) = vn x0 x1 r h d := by
  pointwise [val_main_v0, val_main_v1, val_main_v37]
  blk_ext

theorem v36_lo (r : Fin 16384) (h : Fin 8) (d : Fin 64) : val_main_v36 (F := Ideal) x0 x1 x2 (ix3 r h ⟨d.val, by omega⟩) = val_main_v33 (F := Ideal) x0 x1 (ix3 r h d) := by
  pointwise [val_main_v36]

theorem v36_hi (r : Fin 16384) (h : Fin 8) (d : Fin 32) : val_main_v36 (F := Ideal) x0 x1 x2 (ix3 r h ⟨64 + d.val, by omega⟩) = val_main_v32 (F := Ideal) x2 (ix2 r d) := by
  pointwise [val_main_v34, val_main_v35, val_main_v36]

/-- A key: the product's part, then the shared turned part. -/
theorem v36_at (r : Fin 16384) (h : Fin 8) (e : Fin 96) : val_main_v36 (F := Ideal) x0 x1 x2 (ix3 r h e)
    = cat (n := 32) rfl (kn x0 x1 r h) (fun d => val_main_v32 (F := Ideal) x2 (ix2 r d)) e := by
  by_cases h1 : e.val < 64
  · exact ((v36_lo x0 x1 x2 r h ⟨e.val, h1⟩).trans (v33_at x0 x1 r h ⟨e.val, h1⟩)).trans (cat_lo _ _ _ e ⟨e.val, h1⟩ rfl).symm
  · obtain ⟨k, hk, hb, rfl⟩ : ∃ k, k < 32 ∧ ∃ hb : 64 + k < 96, e = ⟨64 + k, hb⟩ := ⟨e.val - 64, by omega, by omega, Fin.ext (by show e.val = 64 + (e.val - 64); omega)⟩
    exact (v36_hi x0 x1 x2 r h ⟨k, hk⟩).trans (cat_hi rfl (kn x0 x1 r h) (fun d : Fin 32 => val_main_v32 (F := Ideal) x2 (ix2 r d)) _ ⟨k, hk⟩ rfl).symm

theorem v40_at (d : Fin 16) : val_main_v40 (F := Ideal) (ix1 d) = ones d := by
  by_cases h0 : d.val = 0
  · obtain rfl : d = 0 := Fin.ext h0
    pointwise [val_main_cst_3, val_main_v38, val_main_cst_4, val_main_v39, val_main_v40]
    exact (if_pos rfl).symm
  · obtain ⟨k, hk, hb, rfl⟩ : ∃ k, k < 15 ∧ ∃ hb : 1 + k < 16, d = ⟨1 + k, hb⟩ := ⟨d.val - 1, by omega, by omega, Fin.ext (by show d.val = 1 + (d.val - 1); omega)⟩
    pointwise [val_main_cst_3, val_main_v38, val_main_cst_4, val_main_v39, val_main_v40]
    exact (if_neg h0).symm

theorem v46_lo (r : Fin 16384) (h : Fin 8) (d : Fin 64) : val_main_v46 (F := Ideal) x0 x1 (ix3 r h ⟨d.val, by omega⟩) = val_main_v37 (F := Ideal) x0 x1 (ix3 r h d) := by
  pointwise [val_main_v46]

theorem v46_hi (r : Fin 16384) (h : Fin 8) (d : Fin 16) : val_main_v46 (F := Ideal) x0 x1 (ix3 r h ⟨64 + d.val, by omega⟩) = val_main_v40 (F := Ideal) (ix1 d) := by
  pointwise [val_main_v41, val_main_v42, val_main_v46]

/-- A value, then a row of ones and rows of zeros. -/
theorem v46_at (r : Fin 16384) (h : Fin 8) (e : Fin 80) : val_main_v46 (F := Ideal) x0 x1 (ix3 r h e) = cat (n := 16) rfl (vn x0 x1 r h) ones e := by
  by_cases h1 : e.val < 64
  · exact ((v46_lo x0 x1 r h ⟨e.val, h1⟩).trans (v37_at x0 x1 r h ⟨e.val, h1⟩)).trans (cat_lo _ _ _ e ⟨e.val, h1⟩ rfl).symm
  · obtain ⟨k, hk, hb, rfl⟩ : ∃ k, k < 16 ∧ ∃ hb : 64 + k < 80, e = ⟨64 + k, hb⟩ := ⟨e.val - 64, by omega, by omega, Fin.ext (by show e.val = 64 + (e.val - 64); omega)⟩
    exact ((v46_hi x0 x1 r h ⟨k, hk⟩).trans (v40_at ⟨k, hk⟩)).trans (cat_hi rfl (vn x0 x1 r h) ones _ ⟨k, hk⟩ rfl).symm

theorem v45_at (h : Fin 8) (i : Fin 32) (e : Fin 96) (a : Fin 512) : val_main_v45 (F := Ideal) x0 x1 x2 (ix4 h i e a)
    = val_main_v36 (F := Ideal) x0 x1 x2 (ix3 (pos i a) h e) := by
  pointwise [val_main_v43, val_main_v44, val_main_v45]
  blk_ext

theorem v49_at (h : Fin 8) (i : Fin 32) (e : Fin 80) (a : Fin 512) : val_main_v49 (F := Ideal) x0 x1 (ix4 h i e a)
    = val_main_v46 (F := Ideal) x0 x1 (ix3 (pos i a) h e) := by
  pointwise [val_main_v47, val_main_v48, val_main_v49]
  blk_ext

theorem v51_at (h : Fin 8) (r : Fin 16384) (e : Fin 96) : val_main_v51 (F := Ideal) x0 x1 x2 (ix3 h r e) = val_main_v36 (F := Ideal) x0 x1 x2 (ix3 r h e) := by
  pointwise [val_main_v50, val_main_v51]

theorem v53_at (h : Fin 8) (r : Fin 16384) (e : Fin 64) : val_main_v53 (F := Ideal) x0 x1 (ix3 h r e) = val_main_v37 (F := Ideal) x0 x1 (ix3 r h e) := by
  pointwise [val_main_v52, val_main_v53]

end Cert.KvFwdRefIdeal.Tie

end
-- ==== Proof.KvFwdClaim.lean ====
/-
  The keys' and values' projection: the kernel's four results are the reference's, whatever the arguments.
-/
module

public import proofs.«01_k».proof.Defs
public import proofs.«01_k».proof.Proof.KvFwdValue
public import proofs.«01_k».proof.Proof.KvFwdTie

@[expose] public section

noncomputable section

namespace Cert.KvFwdClaim

open Idealize.ShloMosaic Idealize.ShloMosaic.TcCoe Idealize.SL.Sem
open Cert.KvFwdRefIdeal.Tie (v36_at v37_at v45_at v46_at v49_at v51_at v53_at)

theorem claim : Cert.algebraic_KvFwdIdeal_KvFwdRefIdeal := by
  intro m g m' g' _ ha
  refine ⟨fun c => (Cert.KvFwdIdeal.Gen.dats m 0 c).arrAt 7 Cert.KvFwdIdeal.cfg0.N, fun c => (Cert.KvFwdIdeal.Gen.dats m 0 c).arrAt 8 Cert.KvFwdIdeal.cfg0.N, fun c => (Cert.KvFwdIdeal.Gen.dats m 0 c).arrAt 9 Cert.KvFwdIdeal.cfg0.N, fun c => (Cert.KvFwdIdeal.Gen.dats m 0 c).arrAt 10 Cert.KvFwdIdeal.cfg0.N, ?_, ?_⟩
  · run_from (Cert.KvFwdIdeal.Value.run_blocks m g)
  · refine (θ_run Cert.KvFwdRefIdeal.defs _ _).mono (fun r h c => ?_) (Cert.KvFwdRefIdeal.Value.run (F := Ideal) m' g')
    obtain ⟨h0, h1, h2, h3, hk⟩ := h c
    obtain ⟨a0, a1, a2⟩ := ha c
    refine ⟨h0.trans ?_, h1.trans ?_, h2.trans ?_, h3.trans ?_, hk⟩
    all_goals beta_reduce
    · refine (Cert.KvFwdRefIdeal.Read.val_main_v45_eq _ _).trans ?_
      rw [Cert.KvFwdIdeal.Value.final7, a0, a1, a2]
      funext j
      idx_vars j
      exact (v45_at _ _ _ _ _ _ _).trans (v36_at _ _ _ _ _ _)
    · refine (Cert.KvFwdRefIdeal.Read.val_main_v49_eq _ _).trans ?_
      rw [Cert.KvFwdIdeal.Value.final8, a0, a1]
      funext j
      idx_vars j
      exact (v49_at _ _ _ _ _ _).trans (v46_at _ _ _ _ _)
    · refine (Cert.KvFwdRefIdeal.Read.val_main_v51_eq _ _).trans ?_
      rw [Cert.KvFwdIdeal.Value.final9, a0, a1, a2]
      funext j
      idx_vars j
      exact (v51_at _ _ _ _ _ _).trans (v36_at _ _ _ _ _ _)
    · refine (Cert.KvFwdRefIdeal.Read.val_main_v53_eq _ _).trans ?_
      rw [Cert.KvFwdIdeal.Value.final10, a0, a1]
      funext j
      idx_vars j
      exact (v53_at _ _ _ _ _).trans (v37_at _ _ _ _ _)

end Cert.KvFwdClaim

end
-- ==== Proof.ReluFwdValue.lean ====
/-
  The up product with the squared rectifier: what the kernel's two result arrays end holding.
-/
module

public import proofs.«01_k».proof.Proof.Gen.ReluFwdIdeal.Value
public import Idealize.ShloMosaic.Lib.Pipeline.ValueKit

@[expose] public section

noncomputable section

namespace Cert.ReluFwdIdeal.Value

open Cert.ReluFwdIdeal Cert.ReluFwdIdeal.Gen Idealize.ShloMosaic Idealize.ShloMosaic.TcCoe Idealize.SL.Sem
open Idealize.ShloMosaic.Pipeline (Dat)

variable (m : (ℓ : Loc nD τ sig) → Buf (Elt Ideal) ℓ)

/-- The normed rows and the weights, by entries. -/
abbrev XN (c : Dev nD) (i : Fin 16384) : Fin 1024 → EReal := fun k => m ((c : Thread nD τ).loc main_arg0) (ix2 i k)
abbrev WU (c : Dev nD) (k : Fin 1024) : Fin 4096 → EReal := fun j => m ((c : Thread nD τ).loc main_arg1) (ix2 k j)

/-- The rectified pre-activation at an entry. -/
abbrev rect (c : Dev nD) (i : Fin 16384) (j : Fin 4096) : EReal := max (∑ k, XN m c i k * WU m c k j) 0

/-- Points run over the row blocks, and within each over the column blocks. -/
theorem idx (t : Fin cfg0.N) : win0_0.index t = ![t.val / 8, 0] ∧ win0_1.index t = ![0, t.val % 8]
    ∧ win0_2.index t = ![t.val / 8, t.val % 8] ∧ win0_3.index t = ![t.val / 8, t.val % 8] := by
  revert t
  decide +kernel

abbrev row (t : Fin cfg0.N) (a : Fin 2048) : Fin 16384 :=
  ⟨t.val / 8 * 2048 + a.val, by have := t.isLt; have := a.isLt; have : cfg0.N = 64 := N_0; omega⟩
abbrev col (t : Fin cfg0.N) (b : Fin 512) : Fin 4096 := ⟨t.val % 8 * 512 + b.val, by have := b.isLt; omega⟩

theorem blkX (c : Dev nD) (t : Fin cfg0.N) (a : Fin 2048) (b : Fin 1024) : iblk m c 0 t (ix2 a b) = XN m c (row t a) b := by
  blk_simp [iblk, idx t]
  entry_read
  pointwise
  blk_ext [iblk, V, idx t]

theorem blkW (c : Dev nD) (t : Fin cfg0.N) (a : Fin 1024) (b : Fin 512) : iblk m c 1 t (ix2 a b) = WU m c a (col t b) := by
  blk_simp [iblk, idx t]
  entry_read
  pointwise
  blk_ext [iblk, V, idx t]

theorem payA (c : Dev nD) (t : Fin cfg0.N) (a : Fin 2048) (b : Fin 512) :
    k0_pay3 (iblk m c 0 t) (iblk m c 1 t) (ix2 a b) = rect m c (row t a) (col t b) * rect m c (row t a) (col t b) := by
  pointwise [k0_pay3, k0_pay1]
  simp only [blkX, blkW]

theorem payS (c : Dev nD) (t : Fin cfg0.N) (a : Fin 2048) (b : Fin 512) :
    k0_pay2 (iblk m c 0 t) (iblk m c 1 t) (ix2 a b) = Ideal.ofBits FTy.f32 0x40000000#32 * rect m c (row t a) (col t b) := by
  pointwise [k0_pay2, k0_pay1]
  simp only [blkX, blkW]

/-- The activation: the square of the rectified product. -/
theorem finalA (c : Dev nD) : (dats m 0 c).arrAt 2 cfg0.N
    = fun i : S16384x4096.Idx => rect m c (i 0) (i 1) * rect m c (i 0) (i 1) := by
  refine (dats m 0 c).arrAt_eq_of_covers 2 _ (by decide +kernel) fun t hf y => ?_
  have hrow : ∀ (a : Fin 2048) (b : Fin 512), ((View.whole main_v2_0).slice (win0_2.rect t)).emb (ix2 a b) = ix2 (row t a) (col t b) := fun a b => by
    blk_ext [idx t]
  blk_simp
  rw [after0_2]
  frame_out
  idx_vars y
  rw [payA]
  erw [hrow]
  rfl

/-- The slope: twice the rectified product. -/
theorem finalS (c : Dev nD) : (dats m 0 c).arrAt 3 cfg0.N
    = fun i : S16384x4096.Idx => Ideal.ofBits FTy.f32 0x40000000#32 * rect m c (i 0) (i 1) := by
  refine (dats m 0 c).arrAt_eq_of_covers 3 _ (by decide +kernel) fun t hf y => ?_
  have hrow : ∀ (a : Fin 2048) (b : Fin 512), ((View.whole main_v2_1).slice (win0_3.rect t)).emb (ix2 a b) = ix2 (row t a) (col t b) := fun a b => by
    blk_ext [idx t]
  blk_simp
  rw [after0_3]
  frame_out
  idx_vars y
  rw [payS]
  erw [hrow]
  rfl

end Cert.ReluFwdIdeal.Value

end
-- ==== Proof.ReluFwdTie.lean ====
/-
  The up product with the squared rectifier: the reference's two results at an entry.
-/
module

public import proofs.«01_k».proof.Proof.Gen.ReluFwdRefIdeal.Read
public import proofs.«01_k».proof.Proof.ReluTie
public import Idealize.ShloMosaic.Lib.Pipeline.ValueKit

@[expose] public section

noncomputable section

namespace Cert.ReluFwdRefIdeal.Tie

open Cert.ReluFwdRefIdeal Cert.ReluFwdRefIdeal.Read Idealize.ShloMosaic Idealize.ShloMosaic.TcCoe Idealize.SL.Sem

variable (x0 : (⟨S16384x1024, .f32⟩ : BufTy).Contents (Elt Ideal)) (x1 : (⟨S1024x4096, .f32⟩ : BufTy).Contents (Elt Ideal))

/-- The pre-activation at an entry. -/
abbrev pre (a : Fin 16384) (b : Fin 4096) : EReal := ∑ k : Fin 1024, x0 (ix2 a k) * x1 (ix2 k b)

/-- The constant one of the programs. -/
abbrev cOne : EReal := Ideal.ofBits FTy.f32 0x3F800000#32

theorem readA (a : Fin 16384) (b : Fin 4096) : val_main_v6 (F := Ideal) x0 x1 (ix2 a b)
    = max (pre x0 x1 a b) 0 * max (pre x0 x1 a b) 0 := by
  pointwise [val_main_v0, val_main_call0_cst, val_main_call0_v0, val_main_v1, val_main_cst, val_main_v2, val_main_v3, val_main_cst_0, val_main_v4, val_main_v5, val_main_v6]

theorem readS (a : Fin 16384) (b : Fin 4096) : val_main_v13 (F := Ideal) x0 x1 (ix2 a b)
    = if 0 < pre x0 x1 a b then max (pre x0 x1 a b) 0 * cOne + cOne * max (pre x0 x1 a b) 0 else 0 := by
  pointwise [val_main_v0, val_main_call0_cst, val_main_call0_v0, val_main_v1, val_main_cst, val_main_v2, val_main_v3, val_main_cst_0, val_main_v4, val_main_cst_1, val_main_v7, val_main_v8, val_main_v9, val_main_v10, val_main_v11, val_main_v12, val_main_v13, val_main_cst_2]

/-- The derivative of the square at one is twice the rectified value. -/
theorem slope (u : EReal) : (if 0 < u then max u 0 * cOne + cOne * max u 0 else 0) = Ideal.ofBits FTy.f32 0x40000000#32 * max u 0 := by
  have h1 : cOne = 1 := Ideal.ofBits_one_f32
  exact (Cert.ReluRefIdeal.Tie.slope u cOne).trans (by rw [h1, one_mul])

end Cert.ReluFwdRefIdeal.Tie

end
-- ==== Proof.ReluFwdClaim.lean ====
/-
  The up product with the squared rectifier: the kernel's activation and slope are the reference's, whatever the arguments.
-/
module

public import proofs.«01_k».proof.Defs
public import proofs.«01_k».proof.Proof.ReluFwdValue
public import proofs.«01_k».proof.Proof.ReluFwdTie

@[expose] public section

noncomputable section

namespace Cert.ReluFwdClaim

open Idealize.ShloMosaic Idealize.ShloMosaic.TcCoe Idealize.SL.Sem

theorem claim : Cert.algebraic_ReluFwdIdeal_ReluFwdRefIdeal := by
  intro m g m' g' _ ha
  refine ⟨fun c => (Cert.ReluFwdIdeal.Gen.dats m 0 c).arrAt 2 Cert.ReluFwdIdeal.cfg0.N, fun c => (Cert.ReluFwdIdeal.Gen.dats m 0 c).arrAt 3 Cert.ReluFwdIdeal.cfg0.N, ?_, ?_⟩
  · run_from (Cert.ReluFwdIdeal.Value.run_blocks m g)
  · refine (θ_run Cert.ReluFwdRefIdeal.defs _ _).mono (fun r h c => ?_) (Cert.ReluFwdRefIdeal.Value.run (F := Ideal) m' g')
    obtain ⟨h0, h1, hk⟩ := h c
    obtain ⟨a0, a1⟩ := ha c
    refine ⟨h0.trans ?_, h1.trans ?_, hk⟩
    all_goals beta_reduce
    · refine (Cert.ReluFwdRefIdeal.Read.val_main_v6_eq _ _).trans ?_
      rw [Cert.ReluFwdIdeal.Value.finalA, a0, a1]
      funext j
      idx_vars j
      exact Cert.ReluFwdRefIdeal.Tie.readA _ _ _ _
    · refine (Cert.ReluFwdRefIdeal.Read.val_main_v13_eq _ _).trans ?_
      rw [Cert.ReluFwdIdeal.Value.finalS, a0, a1]
      funext j
      idx_vars j
      exact (Cert.ReluFwdRefIdeal.Tie.readS _ _ _ _).trans (Cert.ReluFwdRefIdeal.Tie.slope _)

end Cert.ReluFwdClaim

end
-- ==== Proof.OFwdValue.lean ====
/-
  The output projection: what the kernel's result array ends holding, at the exact reals: the residual and the heads' products.
-/
module

public import proofs.«01_k».proof.Proof.Gen.OFwdIdeal.Value
public import Idealize.ShloMosaic.Lib.Pipeline.ValueKit

@[expose] public section

noncomputable section

namespace Cert.OFwdIdeal.Value

open Cert.OFwdIdeal Cert.OFwdIdeal.Gen Idealize.ShloMosaic Idealize.ShloMosaic.TcCoe Idealize.SL.Sem
open Idealize.ShloMosaic.Pipeline (Dat)

variable (m : (ℓ : Loc nD τ sig) → Buf (Elt Ideal) ℓ)

/-- The attention's tiles, the weights and the residual's rows, as a point finds them. -/
abbrev bO (c : Dev nD) (t : Fin cfg0.N) : FVec Ideal S8x1x64x512 .f32 := iblk m c 0 t
abbrev bW (c : Dev nD) (t : Fin cfg0.N) : FVec Ideal S8x64x1024 .bf16 := iblk m c 1 t
abbrev bH (c : Dev nD) (t : Fin cfg0.N) : FVec Ideal S512x1024 .f32 := iblk m c 2 t

/-- The windows' block indices: the tiles and rows follow the point, the weights stay. -/
theorem idx (t : Fin cfg0.N) : win0_0.index t = ![0, t.val, 0, 0] ∧ win0_1.index t = ![0, 0, 0]
    ∧ win0_2.index t = ![t.val, 0] ∧ win0_3.index t = ![t.val, 0] := by
  revert t
  decide +kernel

theorem out3 (c : Dev nD) (t : Fin cfg0.N) (y : S512x1024.Idx) : out0_3 (F := Ideal) (bO m c t) (bW m c t) (bH m c t) y
    = bH m c t (ix2 (y 0) (y 1)) + ∑ h : Fin 8, ∑ d : Fin 64, bO m c t (ix4 h 0 d (y 0)) * bW m c t (ix3 h d (y 1)) := by
  frame_out
  idx_vars y
  rw [Fin.sum_univ_eight]
  open_payloads
  pointwise
  simp only [add_assoc]

/-- The attention's entry, the weights' and the residual's, of the arguments. -/
abbrev O (c : Dev nD) (r : Fin 16384) (h : Fin 8) (d : Fin 64) : EReal := m ((c : Thread nD τ).loc main_arg0) (ix3 r h d)
abbrev W (c : Dev nD) (h : Fin 8) (d : Fin 64) (k : Fin 1024) : EReal := m ((c : Thread nD τ).loc main_arg1) (ix2 ⟨h.val * 64 + d.val, by omega⟩ k)
abbrev H (c : Dev nD) (r : Fin 16384) (k : Fin 1024) : EReal := m ((c : Thread nD τ).loc main_arg2) (ix2 r k)

/-- Row `a` of block `t`. -/
abbrev row (t : Fin cfg0.N) (a : Fin 512) : Fin 16384 :=
  ⟨t.val * 512 + a.val, by have := t.isLt; have := a.isLt; have : cfg0.N = 32 := N_0; omega⟩

theorem blkO (c : Dev nD) (t : Fin cfg0.N) (h : Fin 8) (d : Fin 64) (a : Fin 512) : bO m c t (ix4 h 0 d a) = O m c (row t a) h d := by
  blk_simp [bO, iblk, idx t]
  entry_read
  pointwise
  blk_ext [iblk, V, idx t]

theorem blkW (c : Dev nD) (t : Fin cfg0.N) (h : Fin 8) (d : Fin 64) (k : Fin 1024) : bW m c t (ix3 h d k) = W m c h d k := by
  blk_simp [bW, iblk, idx t]
  entry_read
  pointwise
  blk_ext [iblk, V, idx t]

theorem blkH (c : Dev nD) (t : Fin cfg0.N) (a : Fin 512) (k : Fin 1024) : bH m c t (ix2 a k) = H m c (row t a) k := by
  blk_ext [bH, iblk, V, idx t]

/-- The result: the residual, and each head's product. -/
theorem final (c : Dev nD) : (dats m 0 c).arrAt 3 cfg0.N
    = fun i : S16384x1024.Idx => H m c (i 0) (i 1) + ∑ h : Fin 8, ∑ d : Fin 64, O m c (i 0) h d * W m c h d (i 1) := by
  refine (dats m 0 c).arrAt_eq_of_covers 3 _ (by decide +kernel) fun t hf y => ?_
  have hrow : ∀ (a : Fin 512) (k : Fin 1024), ((View.whole main_v4).slice (win0_3.rect t)).emb (ix2 a k) = ix2 (row t a) k := fun a k => by
    blk_ext [idx t]
  blk_simp
  rw [after0_3]
  refine (out3 m c t y).trans ?_
  idx_vars y
  erw [hrow]
  simp only [blkO, blkW, blkH]
  rfl

end Cert.OFwdIdeal.Value

end
-- ==== Proof.OFwdClaim.lean ====
/-
  The output projection: the kernel's result is the reference's, whatever the arguments.
-/
module

public import proofs.«01_k».proof.Defs
public import proofs.«01_k».proof.Proof.OFwdValue
public import proofs.«01_k».proof.Proof.Gen.OFwdRefIdeal.Read

@[expose] public section

noncomputable section

namespace Cert.OFwdClaim

open Idealize.ShloMosaic Idealize.ShloMosaic.TcCoe Idealize.SL.Sem

/-- The reference's entry, the product's columns taken head by head. -/
theorem read (x0 : (⟨Cert.OFwdRefIdeal.S16384x8x64, .f32⟩ : BufTy).Contents (Elt Ideal)) (x1 : (⟨Cert.OFwdRefIdeal.S512x1024, .f32⟩ : BufTy).Contents (Elt Ideal))
    (x2 : (⟨Cert.OFwdRefIdeal.S16384x1024, .f32⟩ : BufTy).Contents (Elt Ideal)) (a : Fin 16384) (b : Fin 1024) :
    Cert.OFwdRefIdeal.Read.val_main_v2 (F := Ideal) x0 x1 x2 (ix2 a b)
      = x2 (ix2 a b) + ∑ h : Fin 8, ∑ d : Fin 64, x0 (ix3 a h d) * x1 (ix2 ⟨h.val * 64 + d.val, by omega⟩ b) := by
  have e : (∑ h : Fin 8, ∑ d : Fin 64, x0 (ix3 a h d) * x1 (ix2 ⟨h.val * 64 + d.val, by omega⟩ b) : EReal)
      = ∑ k : Fin 512, x0 (ix3 a ⟨k.val / 64, by omega⟩ ⟨k.val % 64, by omega⟩) * x1 (ix2 k b) :=
    Fin.sum_mul_add_congr (f := fun k : Fin 512 => (x0 (ix3 a ⟨k.val / 64, by omega⟩ ⟨k.val % 64, by omega⟩) * x1 (ix2 k b) : EReal)) (fun s k hl => by
      have h0 : (s.val * 64 + k.val) / 64 = s.val := by omega
      have h1 : (s.val * 64 + k.val) % 64 = k.val := by omega
      simp only [h0, h1])
  rw [e]
  pointwise [Cert.OFwdRefIdeal.Read.val_main_v0, Cert.OFwdRefIdeal.Read.val_main_v1, Cert.OFwdRefIdeal.Read.val_main_v2]
  blk_ext

theorem claim : Cert.algebraic_OFwdIdeal_OFwdRefIdeal := by
  intro m g m' g' _ ha
  refine ⟨fun c => (Cert.OFwdIdeal.Gen.dats m 0 c).arrAt 3 Cert.OFwdIdeal.cfg0.N, ?_, ?_⟩
  · run_from (Cert.OFwdIdeal.Value.run_blocks m g)
  · refine (θ_run Cert.OFwdRefIdeal.defs _ _).mono (fun r h c => ?_) (Cert.OFwdRefIdeal.Value.run (F := Ideal) m' g')
    obtain ⟨h0, hk⟩ := h c
    obtain ⟨a0, a1, a2⟩ := ha c
    refine ⟨h0.trans ?_, hk⟩
    beta_reduce
    refine (Cert.OFwdRefIdeal.Read.val_main_v2_eq _ _ _).trans ?_
    rw [Cert.OFwdIdeal.Value.final, a0, a1, a2]
    funext j
    idx_vars j
    exact read _ _ _ _ _

end Cert.OFwdClaim

end
-- ==== Proof.AddFwdValue.lean ====
/-
  The product with the residual added: what the kernel's result array ends holding.
-/
module

public import proofs.«01_k».proof.Proof.Gen.AddFwdIdeal.Value
public import Idealize.ShloMosaic.Lib.Pipeline.ValueKit

@[expose] public section

noncomputable section

namespace Cert.AddFwdIdeal.Value

open Cert.AddFwdIdeal Cert.AddFwdIdeal.Gen Idealize.ShloMosaic Idealize.ShloMosaic.TcCoe Idealize.SL.Sem
open Idealize.ShloMosaic.Pipeline (Dat)

variable (m : (ℓ : Loc nD τ sig) → Buf (Elt Ideal) ℓ)

/-- The activation's rows, the weights and the residual, by entries. -/
abbrev A (c : Dev nD) (i : Fin 16384) (k : Fin 4096) : EReal := m ((c : Thread nD τ).loc main_arg0) (ix2 i k)
abbrev W (c : Dev nD) (k : Fin 4096) (j : Fin 1024) : EReal := m ((c : Thread nD τ).loc main_arg1) (ix2 k j)
abbrev H (c : Dev nD) (i : Fin 16384) (j : Fin 1024) : EReal := m ((c : Thread nD τ).loc main_arg2) (ix2 i j)

/-- Points run over the row blocks, and within each over the column blocks. -/
theorem idx (t : Fin cfg0.N) : win0_0.index t = ![t.val / 2, 0] ∧ win0_1.index t = ![0, t.val % 2]
    ∧ win0_2.index t = ![t.val / 2, t.val % 2] ∧ win0_3.index t = ![t.val / 2, t.val % 2] := by
  revert t
  decide +kernel

abbrev row (t : Fin cfg0.N) (a : Fin 1024) : Fin 16384 :=
  ⟨t.val / 2 * 1024 + a.val, by have := t.isLt; have := a.isLt; have : cfg0.N = 32 := N_0; omega⟩
abbrev col (t : Fin cfg0.N) (b : Fin 512) : Fin 1024 := ⟨t.val % 2 * 512 + b.val, by have := b.isLt; omega⟩

theorem blkA (c : Dev nD) (t : Fin cfg0.N) (a : Fin 1024) (b : Fin 4096) : iblk m c 0 t (ix2 a b) = A m c (row t a) b := by
  blk_simp [iblk, idx t]
  entry_read
  pointwise
  blk_ext [iblk, V, idx t]

theorem blkW (c : Dev nD) (t : Fin cfg0.N) (a : Fin 4096) (b : Fin 512) : iblk m c 1 t (ix2 a b) = W m c a (col t b) := by
  blk_simp [iblk, idx t]
  entry_read
  pointwise
  blk_ext [iblk, V, idx t]

theorem blkH (c : Dev nD) (t : Fin cfg0.N) (a : Fin 1024) (b : Fin 512) : iblk m c 2 t (ix2 a b) = H m c (row t a) (col t b) := by
  blk_ext [iblk, V, idx t]

/-- A point's block of the result. -/
theorem pay (c : Dev nD) (t : Fin cfg0.N) (a : Fin 1024) (b : Fin 512) :
    k0_pay1 (iblk m c 0 t) (iblk m c 1 t) (iblk m c 2 t) (ix2 a b)
      = (∑ k : Fin 4096, A m c (row t a) k * W m c k (col t b)) + H m c (row t a) (col t b) := by
  pointwise [k0_pay1]
  simp only [blkA, blkW, blkH]

/-- The result: the product, and the residual. -/
theorem final (c : Dev nD) : (dats m 0 c).arrAt 3 cfg0.N
    = fun i : S16384x1024.Idx => (∑ k : Fin 4096, A m c (i 0) k * W m c k (i 1)) + H m c (i 0) (i 1) := by
  refine (dats m 0 c).arrAt_eq_of_covers 3 _ (by decide +kernel) fun t hf y => ?_
  have hrow : ∀ (a : Fin 1024) (b : Fin 512), ((View.whole main_v2).slice (win0_3.rect t)).emb (ix2 a b) = ix2 (row t a) (col t b) := fun a b => by
    blk_ext [idx t]
  blk_simp
  rw [after0_3]
  frame_out
  idx_vars y
  rw [pay]
  erw [hrow]
  rfl

end Cert.AddFwdIdeal.Value

end
-- ==== Proof.AddFwdClaim.lean ====
/-
  The product with the residual added: the kernel's result is the reference's, whatever the arguments.
-/
module

public import proofs.«01_k».proof.Defs
public import proofs.«01_k».proof.Proof.AddFwdValue
public import proofs.«01_k».proof.Proof.Gen.AddFwdRefIdeal.Read

@[expose] public section

noncomputable section

namespace Cert.AddFwdClaim

open Idealize.ShloMosaic Idealize.ShloMosaic.TcCoe Idealize.SL.Sem

theorem read (x0 : (⟨Cert.AddFwdRefIdeal.S16384x4096, .f32⟩ : BufTy).Contents (Elt Ideal)) (x1 : (⟨Cert.AddFwdRefIdeal.S4096x1024, .f32⟩ : BufTy).Contents (Elt Ideal))
    (x2 : (⟨Cert.AddFwdRefIdeal.S16384x1024, .f32⟩ : BufTy).Contents (Elt Ideal)) (a : Fin 16384) (b : Fin 1024) :
    Cert.AddFwdRefIdeal.Read.val_main_v1 (F := Ideal) x0 x1 x2 (ix2 a b) = x2 (ix2 a b) + ∑ k : Fin 4096, x0 (ix2 a k) * x1 (ix2 k b) := by
  pointwise [Cert.AddFwdRefIdeal.Read.val_main_v0, Cert.AddFwdRefIdeal.Read.val_main_v1]

theorem claim : Cert.algebraic_AddFwdIdeal_AddFwdRefIdeal := by
  intro m g m' g' _ ha
  refine ⟨fun c => (Cert.AddFwdIdeal.Gen.dats m 0 c).arrAt 3 Cert.AddFwdIdeal.cfg0.N, ?_, ?_⟩
  · run_from (Cert.AddFwdIdeal.Value.run_blocks m g)
  · refine (θ_run Cert.AddFwdRefIdeal.defs _ _).mono (fun r h c => ?_) (Cert.AddFwdRefIdeal.Value.run (F := Ideal) m' g')
    obtain ⟨h0, hk⟩ := h c
    obtain ⟨a0, a1, a2⟩ := ha c
    refine ⟨h0.trans ?_, hk⟩
    beta_reduce
    refine (Cert.AddFwdRefIdeal.Read.val_main_v1_eq _ _ _).trans ?_
    rw [Cert.AddFwdIdeal.Value.final, a0, a1, a2]
    funext j
    idx_vars j
    exact (read _ _ _ _ _).trans (add_comm _ _)

end Cert.AddFwdClaim

end
-- ==== Proof.NormKvValue.lean ====
/-
  The key and value norm's gradient kernel: what its two result arrays end holding, at the exact reals.
-/
module

public import proofs.«01_k».proof.Proof.Gen.NormKvIdeal.Value
public import proofs.«01_k».proof.Proof.NormGrad
public import Idealize.ShloMosaic.Lib.Pipeline.ValueKit

@[expose] public section

noncomputable section

namespace Cert.NormKvIdeal.Value

open Cert.NormKvIdeal Cert.NormKvIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 256 and the guard, as the programs write them. -/
abbrev cN : EReal := Ideal.ofBits FTy.f32 0x43800000#32
abbrev cE : EReal := Ideal.ofBits FTy.f32 0x358637BD#32

/-- Row `i` of the latent and of the cotangent, and the gain. -/
abbrev X (c : Dev nD) (i : Fin 16384) : Fin 256 → EReal := fun k => m ((c : Thread nD τ).loc main_arg0) (ix2 i k)
abbrev D (c : Dev nD) (i : Fin 16384) : Fin 256 → EReal := fun k => m ((c : Thread nD τ).loc main_arg2) (ix2 i k)
abbrev G (c : Dev nD) : Fin 256 → EReal := fun k => m ((c : Thread nD τ).loc main_arg1) (ix1 k)

/-- The row blocks follow the point; the gain stays. -/
theorem idx (t : Fin cfg0.N) : win0_0.index t = ![t.val, 0] ∧ win0_1.index t = ![0, 0] ∧ win0_2.index t = ![t.val, 0]
    ∧ win0_3.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blkX (c : Dev nD) (t : Fin cfg0.N) (a : Fin 512) (b : Fin 256) : iblk m c 0 t (ix2 a b) = X m c (row t a) b := by
  blk_ext [iblk, V, idx t]

theorem blkD (c : Dev nD) (t : Fin cfg0.N) (a : Fin 512) (b : Fin 256) : iblk m c 2 t (ix2 a b) = D m c (row t a) b := by
  blk_ext [iblk, V, idx t]

theorem blkG (c : Dev nD) (t : Fin cfg0.N) (b : Fin 256) : iblk m c 1 t (ix2 0 b) = G m c b := by
  blk_simp [iblk, idx t]
  entry_read
  pointwise
  blk_ext [iblk, V, idx t]

/-- A point's block of the gradient. -/
theorem pay_dx (c : Dev nD) (t : Fin cfg0.N) (a : Fin 512) (b : Fin 256) :
    k0_pay5 (iblk m c 0 t) (iblk m c 2 t) (iblk m c 1 t) (ix2 a b) = kernelDx cN cE (X m c (row t a)) (G m c) (D m c (row t a)) b := by
  pointwise [k0_pay5, k0_pay3, k0_pay2]
  simp only [blkX, blkD, blkG]
  rfl

/-- The row's gradient. -/
theorem finalX (c : Dev nD) : (dats m 0 c).arrAt 3 cfg0.N
    = fun i : S16384x256.Idx => kernelDx cN cE (X m c (i 0)) (G m c) (D m c (i 0)) (i 1) := by
  refine (dats m 0 c).arrAt_eq_of_covers 3 _ (by decide +kernel) fun t hf y => ?_
  have hrow : ∀ (a : Fin 512) (b : Fin 256), ((View.whole main_v1_0).slice (win0_3.rect t)).emb (ix2 a b) = ix2 (row t a) b := fun a b => by
    blk_ext [idx t]
  blk_simp
  rw [after0_3]
  by_cases h0 : t.val % 32 = 0
  · rw [outsAt0_A m c t h0]
    frame_out
    idx_vars y
    rw [pay_dx]
    erw [hrow]
    rfl
  · rw [outsAt0_B m c t h0]
    frame_out
    idx_vars y
    rw [pay_dx]
    erw [hrow]
    rfl

/-- The last point. -/
def tLast : Fin cfg0.N := ⟨31, by rw [show cfg0.N = 32 from N_0]; decide⟩

/-- A point's addend to the gain's gradient. -/
theorem pay_dg (c : Dev nD) (t : Fin cfg0.N) (acc : Vec Ideal S1x256 .f32) (z : Fin 1) (b : Fin 256) :
    k0_pay4 (iblk m c 0 t) (iblk m c 2 t) acc (ix2 z b)
      = acc (ix2 z b) + ∑ a : Fin 512, D m c (row t a) b * (X m c (row t a) b * inv cN cE (X m c (row t a))) := by
  pointwise [k0_pay4, k0_pay3, k0_pay2]
  simp only [blkX, blkD]
  rfl

/-- The gain's gradient: the sum over the rows. -/
theorem finalG (c : Dev nD) : (dats m 0 c).arrAt 4 cfg0.N = fun i : S1x256.Idx =>
    ∑ r : Fin 16384, D m c r (i 1) * (X m c r (i 1) * inv cN cE (X m c r)) := by
  refine (dats m 0 c).arrAt_eq_of_after_last 4 tLast (by decide +kernel) _ fun j => ?_
  blk_simp
  rw [after0_4]
  idx_vars j
  refine (Pipeline.eq_sum_fin_of_reset_step_apply_last (fun n h => (outsAt0 m c n h).2) 32 (fun _ => 0)
    (fun t j => ∑ a : Fin 512, D m c (row t a) (j 1) * (X m c (row t a) (j 1) * inv cN cE (X m c (row t a))))
    (fun t h j => ?_) (fun t h j => ?_) (by decide) tLast rfl _).trans ?_
  · rw [outsAt0_A m c t h]
    frame_out
    idx_vars j
    rw [pay_dg]
    pointwise [k0_pay1]
  · rw [outsAt0_B m c t h]
    frame_out
    idx_vars j
    rw [pay_dg]
  · rw [zero_add]
    exact Fin.sum_mul_add_congr fun s k hl => rfl

end Cert.NormKvIdeal.Value

end
-- ==== Proof.NormKvTie.lean ====
/-
  The key and value norm's gradient: the reference's two results, read at an entry.
-/
module

public import proofs.«01_k».proof.Proof.NormKvValue
public import proofs.«01_k».proof.Proof.Gen.NormKvRefIdeal.Read
public import Idealize.ShloMosaic.Lib.Pipeline.ValueKit

@[expose] public section

noncomputable section

namespace Cert.NormKvRefIdeal.Tie

open Cert.NormKvRefIdeal Cert.NormKvRefIdeal.Read Cert.NormGrad Idealize.ShloMosaic Idealize.ShloMosaic.TcCoe Idealize.SL.Sem

open Cert.NormKvIdeal.Value (cN cE)

variable (x0 : (⟨S16384x256, .f32⟩ : BufTy).Contents (Elt Ideal)) (x1 : (⟨S256, .f32⟩ : BufTy).Contents (Elt Ideal)) (x2 : (⟨S16384x256, .f32⟩ : BufTy).Contents (Elt Ideal))

theorem read_dx (a : Fin 16384) (b : Fin 256) : val_main_v35 (F := Ideal) x0 x1 x2 (ix2 a b)
    = gradDx cN cE (Ideal.ofBits FTy.f32 0xBF000000#32) (fun k => x0 (ix2 a k)) (fun k => x1 (ix1 k)) (fun k => x2 (ix2 a k)) b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36]
  simp only [Finset.univ_unique, Finset.sum_const, Finset.card_singleton, one_smul]
  rfl

theorem read_dg (z : Fin 1) (b : Fin 256) : val_main_v36 (F := Ideal) x0 x2 (ix2 z b)
    = ∑ r : Fin 16384, x0 (ix2 r b) * inv cN cE (fun k => x0 (ix2 r k)) * x2 (ix2 r b) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36]
  simp only [Finset.univ_unique, Finset.sum_const, Finset.card_singleton, one_smul]
  rfl

end Cert.NormKvRefIdeal.Tie

end
-- ==== Proof.NormKvClaim.lean ====
/-
  The key and value norm's claim: on finite arguments the kernel's two gradients are the derivative of the forward lines.
-/
module

public import proofs.«01_k».proof.Defs
public import proofs.«01_k».proof.Proof.NormKvValue
public import proofs.«01_k».proof.Proof.NormKvTie
public import proofs.«01_k».proof.Proof.Gen.Pre_finite_normkv

@[expose] public section

noncomputable section

namespace Cert.NormKvClaim

open Cert.NormGrad Idealize.ShloMosaic Idealize.ShloMosaic.TcCoe Idealize.SL.Sem
open Cert.NormKvIdeal.Value (X D G cN cE)
open Cert.NormKvRefIdeal.Tie (read_dx read_dg)

theorem c256 : Ideal.ofBits FTy.f32 0x43800000#32 = ((256 : ℝ) : EReal) := by
  simp [Ideal.ofBits, Ideal.ieee, -EReal.coe_mul]; norm_num

variable {m : (ℓ : Loc Cert.NormKvIdeal.nD Cert.NormKvIdeal.τ Cert.NormKvIdeal.sig) → Buf (Elt Ideal) ℓ}

/-- What the precondition says of the arguments. -/
theorem fin (h : Cert.Pre_NormKvIdeal_finite_normkv m) (c : Dev Cert.NormKvIdeal.nD) :
    (∀ r k, Fin' (X m c r k)) ∧ (∀ k, Fin' (G m c k)) ∧ ∀ r k, Fin' (D m c r k) := by
  obtain ⟨h0, h1, h2⟩ := h c
  refine ⟨fun r k => fin_of_bit ?_, fun k => fin_of_bit ?_, fun r k => fin_of_bit ?_⟩
  · have := congrFun h0 (ix2 r k)
    pointwise [Cert.Pre_finite_normkv.fn] at this
    exact this
  · have := congrFun h1 (ix1 k)
    pointwise [Cert.Pre_finite_normkv.fn] at this
    exact this
  · have := congrFun h2 (ix2 r k)
    pointwise [Cert.Pre_finite_normkv.fn] at this
    exact this

theorem claim : Cert.algebraic_NormKvIdeal_NormKvRefIdeal_pre_finite_normkv := by
  intro m g m' g' hp ha
  refine ⟨fun c => (Cert.NormKvIdeal.Gen.dats m 0 c).arrAt 3 Cert.NormKvIdeal.cfg0.N, fun c => (Cert.NormKvIdeal.Gen.dats m 0 c).arrAt 4 Cert.NormKvIdeal.cfg0.N, ?_, ?_⟩
  · run_from (Cert.NormKvIdeal.Value.run_blocks m g)
  · refine (θ_run Cert.NormKvRefIdeal.defs _ _).mono (fun r h c => ?_) (Cert.NormKvRefIdeal.Value.run (F := Ideal) m' g')
    obtain ⟨h0, h1, hk⟩ := h c
    obtain ⟨a0, a1, a2⟩ := ha c
    obtain ⟨hx, hg, hd⟩ := fin hp c
    refine ⟨h0.trans ?_, h1.trans ?_, hk⟩
    all_goals beta_reduce
    · rw [Cert.NormKvRefIdeal.Read.val_main_v35_eq, Cert.NormKvIdeal.Value.finalX, a0, a1, a2]
      funext j
      idx_vars j
      refine (read_dx _ _ _ _ _).trans ?_
      obtain ⟨e, he0, he⟩ := cEps
      rw [show cN = ((256 : ℝ) : EReal) from c256, show cE = (e : EReal) from he, cNegHalf]
      exact (kernelDx_eq (by norm_num) he0 (hx _) hg (hd _) _).symm
    · rw [Cert.NormKvRefIdeal.Read.val_main_v36_eq, Cert.NormKvIdeal.Value.finalG, a0, a2]
      funext j
      idx_vars j
      exact (read_dg _ _ _ _).trans (Finset.sum_congr rfl fun r _ => mul_comm _ _)

end Cert.NormKvClaim

end
-- ==== Proof.MatNormDownValue.lean ====
/-
  The kernel of the latent's down product fused with the norm's gradient: what its two result arrays end holding, at the exact reals.
-/
module

public import proofs.«01_k».proof.Proof.Gen.MatNormDownIdeal.Value
public import proofs.«01_k».proof.Proof.NormGrad
public import Idealize.ShloMosaic.Lib.Pipeline.ValueKit

@[expose] public section

noncomputable section

namespace Cert.MatNormDownIdeal.Value

open Cert.MatNormDownIdeal Cert.MatNormDownIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 1024 and the guard, as the programs write them. -/
abbrev cN : EReal := Ideal.ofBits FTy.f32 0x44800000#32
abbrev cE : EReal := Ideal.ofBits FTy.f32 0x358637BD#32

/-- Row `i` of the stream, the gain, and the normed row's cotangent: row `i` of the product's cotangent times the transposed weight. -/
abbrev X (c : Dev nD) (i : Fin 16384) : Fin 1024 → EReal := fun k => m ((c : Thread nD τ).loc main_arg0) (ix2 i k)
abbrev G (c : Dev nD) : Fin 1024 → EReal := fun k => m ((c : Thread nD τ).loc main_arg1) (ix1 k)
abbrev U (c : Dev nD) (i : Fin 16384) : Fin 768 → EReal := fun k => m ((c : Thread nD τ).loc main_arg3) (ix2 i k)
abbrev W (c : Dev nD) (b : Fin 1024) : Fin 768 → EReal := fun k => m ((c : Thread nD τ).loc main_arg2) (ix2 b k)
abbrev D (c : Dev nD) (i : Fin 16384) : Fin 1024 → EReal := fun b => ∑ k : Fin 768, U m c i k * W m c b k
/-- What the stream's own cotangent adds. -/
abbrev H (c : Dev nD) (i : Fin 16384) : Fin 1024 → EReal := fun k => m ((c : Thread nD τ).loc main_arg4) (ix2 i k)

/-- The row blocks follow the point; the gain stays. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blkU (c : Dev nD) (t : Fin cfg0.N) (a : Fin 512) (b : Fin 768) :
    iblk m c 0 t (ix2 a b) = U m c (row t a) b := by
  blk_simp [iblk, idx t]
  entry_read
  pointwise
  blk_ext [iblk, V, idx t]

theorem blkW (c : Dev nD) (t : Fin cfg0.N) (a : Fin 1024) (b : Fin 768) :
    iblk m c 1 t (ix2 a b) = W m c a b := by
  blk_simp [iblk, idx t]
  entry_read
  pointwise
  blk_ext [iblk, V, idx t]

theorem blkX (c : Dev nD) (t : Fin cfg0.N) (a : Fin 512) (b : Fin 1024) : iblk m c 2 t (ix2 a b) = X m c (row t a) b := by
  blk_ext [iblk, V, idx t]

theorem blkH (c : Dev nD) (t : Fin cfg0.N) (a : Fin 512) (b : Fin 1024) : iblk m c 4 t (ix2 a b) = H m c (row t a) b := by
  blk_ext [iblk, V, idx t]

theorem blkG (c : Dev nD) (t : Fin cfg0.N) (b : Fin 1024) : iblk m c 3 t (ix2 0 b) = G m c b := by
  blk_simp [iblk, idx t]
  entry_read
  pointwise
  blk_ext [iblk, V, idx t]

/-- A point's block of the gradient. -/
theorem pay_dx (c : Dev nD) (t : Fin cfg0.N) (a : Fin 512) (b : Fin 1024) :
    k0_pay1 (k0_pay4 (iblk m c 2 t)) (k0_pay5 (iblk m c 2 t)) (k0_pay7 (iblk m c 0 t) (iblk m c 1 t) (iblk m c 3 t))
        (k0_pay8 (iblk m c 0 t) (iblk m c 1 t) (iblk m c 2 t) (iblk m c 3 t)) (iblk m c 4 t) (ix2 a b)
      = kernelDx cN cE (X m c (row t a)) (G m c) (D m c (row t a)) b + H m c (row t a) b := by
  pointwise [k0_pay1, k0_pay2, k0_pay4, k0_pay5, k0_pay7, k0_pay8]
  simp only [blkX, blkU, blkW, blkG, blkH]
  rfl

/-- The row's gradient. -/
theorem finalX (c : Dev nD) : (dats m 0 c).arrAt 5 cfg0.N
    = fun i : S16384x1024.Idx => kernelDx cN cE (X m c (i 0)) (G m c) (D m c (i 0)) (i 1) + H m c (i 0) (i 1) := by
  refine (dats m 0 c).arrAt_eq_of_covers 5 _ (by decide +kernel) fun t hf y => ?_
  have hrow : ∀ (a : Fin 512) (b : Fin 1024), ((View.whole main_v3_0).slice (win0_5.rect t)).emb (ix2 a b) = ix2 (row t a) b := fun a b => by
    blk_ext [idx t]
  blk_simp
  rw [after0_5]
  by_cases h0 : t.val % 32 = 0
  · rw [outsAt0_A m c t h0]
    frame_out
    idx_vars y
    rw [pay_dx]
    erw [hrow]
    rfl
  · rw [outsAt0_B m c t h0]
    frame_out
    idx_vars y
    rw [pay_dx]
    erw [hrow]
    rfl

/-- The last point. -/
def tLast : Fin cfg0.N := ⟨31, by rw [show cfg0.N = 32 from N_0]; decide⟩

/-- A point's addend to the gain's gradient. -/
theorem pay_dg (c : Dev nD) (t : Fin cfg0.N) (acc : Vec Ideal S1x1024 .f32) (z : Fin 1) (b : Fin 1024) :
    k0_pay6 (iblk m c 0 t) (iblk m c 1 t) (iblk m c 2 t) acc (ix2 z b)
      = acc (ix2 z b) + ∑ a : Fin 512, D m c (row t a) b * (X m c (row t a) b * inv cN cE (X m c (row t a))) := by
  pointwise [k0_pay6, k0_pay5, k0_pay4, k0_pay2]
  simp only [blkX, blkU, blkW]
  rfl

/-- The gain's gradient: the sum over the rows. -/
theorem finalG (c : Dev nD) : (dats m 0 c).arrAt 6 cfg0.N = fun i : S1x1024.Idx =>
    ∑ r : Fin 16384, D m c r (i 1) * (X m c r (i 1) * inv cN cE (X m c r)) := by
  refine (dats m 0 c).arrAt_eq_of_after_last 6 tLast (by decide +kernel) _ fun j => ?_
  blk_simp
  rw [after0_6]
  idx_vars j
  refine (Pipeline.eq_sum_fin_of_reset_step_apply_last (fun n h => (outsAt0 m c n h).2) 32 (fun _ => 0)
    (fun t j => ∑ a : Fin 512, D m c (row t a) (j 1) * (X m c (row t a) (j 1) * inv cN cE (X m c (row t a))))
    (fun t h j => ?_) (fun t h j => ?_) (by decide) tLast rfl _).trans ?_
  · rw [outsAt0_A m c t h]
    frame_out
    idx_vars j
    rw [pay_dg]
    pointwise [k0_pay3]
  · rw [outsAt0_B m c t h]
    frame_out
    idx_vars j
    rw [pay_dg]
  · rw [zero_add]
    exact Fin.sum_mul_add_congr fun s k hl => rfl

end Cert.MatNormDownIdeal.Value

end
-- ==== Proof.MatNormDownTie.lean ====
/-
  The product of the latent's down product gradient fused with the norm's gradient: the reference's two results, read at an entry.
-/
module

public import proofs.«01_k».proof.Proof.MatNormDownValue
public import proofs.«01_k».proof.Proof.Gen.MatNormDownRefIdeal.Read
public import Idealize.ShloMosaic.Lib.Pipeline.ValueKit

@[expose] public section

noncomputable section

namespace Cert.MatNormDownRefIdeal.Tie

open Cert.MatNormDownRefIdeal Cert.MatNormDownRefIdeal.Read Cert.NormGrad Idealize.ShloMosaic Idealize.ShloMosaic.TcCoe Idealize.SL.Sem

open Cert.MatNormDownIdeal.Value (cN cE)

variable (x0 : (⟨S16384x1024, .f32⟩ : BufTy).Contents (Elt Ideal)) (x1 : (⟨S1024, .f32⟩ : BufTy).Contents (Elt Ideal)) (x2 : (⟨S1024x768, .f32⟩ : BufTy).Contents (Elt Ideal)) (x3 : (⟨S16384x768, .f32⟩ : BufTy).Contents (Elt Ideal)) (x4 : (⟨S16384x1024, .f32⟩ : BufTy).Contents (Elt Ideal))

/-- The normed row's cotangent: the product with the transposed weight. -/
abbrev dn (a : Fin 16384) (b : Fin 1024) : EReal := ∑ k : Fin 768, x3 (ix2 a k) * x2 (ix2 b k)

theorem read_dx (a : Fin 16384) (b : Fin 1024) : val_main_v38 (F := Ideal) x0 x1 x2 x3 x4 (ix2 a b)
    = gradDx cN cE (Ideal.ofBits FTy.f32 0xBF000000#32) (fun k => x0 (ix2 a k)) (fun k => x1 (ix1 k)) (dn x2 x3 a) b + x4 (ix2 a b) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.univ_unique, Finset.sum_const, Finset.card_singleton, one_smul]
  have sw (p q r s : EReal) : p + q + r + s = q + r + s + p := by abel
  rw [sw]
  rfl

theorem read_dg (z : Fin 1) (b : Fin 1024) : val_main_v39 (F := Ideal) x0 x2 x3 (ix2 z b)
    = ∑ r : Fin 16384, x0 (ix2 r b) * inv cN cE (fun k => x0 (ix2 r k)) * dn x2 x3 r b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.univ_unique, Finset.sum_const, Finset.card_singleton, one_smul]
  rfl

end Cert.MatNormDownRefIdeal.Tie

end
-- ==== Proof.MatNormDownClaim.lean ====
/-
  The latent's down product with the norm's gradient: on finite arguments the kernel's two results are the derivative of the forward lines.
-/
module

public import proofs.«01_k».proof.Defs
public import proofs.«01_k».proof.Proof.MatNormDownValue
public import proofs.«01_k».proof.Proof.MatNormDownTie
public import proofs.«01_k».proof.Proof.Gen.Pre_finite_matnormdown

@[expose] public section

noncomputable section

namespace Cert.MatNormDownClaim

open Cert.NormGrad Idealize.ShloMosaic Idealize.ShloMosaic.TcCoe Idealize.SL.Sem
open Cert.MatNormDownIdeal.Value (X D G U W H cN cE)
open Cert.MatNormDownRefIdeal.Tie (read_dx read_dg)

variable {m : (ℓ : Loc Cert.MatNormDownIdeal.nD Cert.MatNormDownIdeal.τ Cert.MatNormDownIdeal.sig) → Buf (Elt Ideal) ℓ}

/-- What the precondition says of the arguments. -/
theorem fin (h : Cert.Pre_MatNormDownIdeal_finite_matnormdown m) (c : Dev Cert.MatNormDownIdeal.nD) :
    (∀ r k, Fin' (X m c r k)) ∧ (∀ k, Fin' (G m c k)) ∧ (∀ b k, Fin' (W m c b k)) ∧ ∀ r k, Fin' (U m c r k) := by
  obtain ⟨h0, h1, h2, h3, -⟩ := h c
  refine ⟨fun r k => fin_of_bit ?_, fun k => fin_of_bit ?_, fun r k => fin_of_bit ?_, fun r k => fin_of_bit ?_⟩
  · have := congrFun h0 (ix2 r k)
    pointwise [Cert.Pre_finite_matnormdown.fn] at this
    exact this
  · have := congrFun h1 (ix1 k)
    pointwise [Cert.Pre_finite_matnormdown.fn] at this
    exact this
  · have := congrFun h2 (ix2 r k)
    pointwise [Cert.Pre_finite_matnormdown.fn] at this
    exact this
  · have := congrFun h3 (ix2 r k)
    pointwise [Cert.Pre_finite_matnormdown.fn] at this
    exact this

theorem claim : Cert.algebraic_MatNormDownIdeal_MatNormDownRefIdeal_pre_finite_matnormdown := by
  intro m g m' g' hp ha
  refine ⟨fun c => (Cert.MatNormDownIdeal.Gen.dats m 0 c).arrAt 5 Cert.MatNormDownIdeal.cfg0.N, fun c => (Cert.MatNormDownIdeal.Gen.dats m 0 c).arrAt 6 Cert.MatNormDownIdeal.cfg0.N, ?_, ?_⟩
  · run_from (Cert.MatNormDownIdeal.Value.run_blocks m g)
  · refine (θ_run Cert.MatNormDownRefIdeal.defs _ _).mono (fun r h c => ?_) (Cert.MatNormDownRefIdeal.Value.run (F := Ideal) m' g')
    obtain ⟨h0, h1, hk⟩ := h c
    obtain ⟨a0, a1, a2, a3, a4⟩ := ha c
    obtain ⟨hx, hg, hw, hu⟩ := fin hp c
    refine ⟨h0.trans ?_, h1.trans ?_, hk⟩
    all_goals beta_reduce
    · rw [Cert.MatNormDownRefIdeal.Read.val_main_v38_eq, Cert.MatNormDownIdeal.Value.finalX, a0, a1, a2, a3, a4]
      funext j
      idx_vars j
      refine (read_dx _ _ _ _ _ _ _).trans ?_
      have hd : ∀ r k, Fin' (D m c r k) := fun r k => by
        choose u hu using hu r
        choose w hw using hw k
        exact ⟨∑ i, u i * w i, by simp only [D, hu, hw, ← EReal.coe_mul, ← coe_sum]⟩
      obtain ⟨e, he0, he⟩ := cEps
      rw [show cN = ((1024 : ℝ) : EReal) from c1024, show cE = (e : EReal) from he, cNegHalf]
      exact congrArg (· + H m c _ _) (kernelDx_eq (by norm_num) he0 (hx _) hg (hd _) _).symm
    · rw [Cert.MatNormDownRefIdeal.Read.val_main_v39_eq, Cert.MatNormDownIdeal.Value.finalG, a0, a2, a3]
      funext j
      idx_vars j
      exact (read_dg _ _ _ _ _).trans (Finset.sum_congr rfl fun r _ => mul_comm _ _)

end Cert.MatNormDownClaim

end
-- ==== Proof.MatNormInValue.lean ====
/-
  The kernel of the even layers' input product fused with the norm's gradient: what its two result arrays end holding, at the exact reals.
-/
module

public import proofs.«01_k».proof.Proof.Gen.MatNormInIdeal.Value
public import proofs.«01_k».proof.Proof.NormGrad
public import Idealize.ShloMosaic.Lib.Pipeline.ValueKit

@[expose] public section

noncomputable section

namespace Cert.MatNormInIdeal.Value

open Cert.MatNormInIdeal Cert.MatNormInIdeal.Gen Cert.NormGrad Idealize.ShloMosaic Idealize.ShloMosaic.TcCoe Idealize.SL.Sem
open Idealize.ShloMosaic.Pipeline (Dat)

variable (m : (ℓ : Loc nD τ sig) → Buf (Elt Ideal) ℓ)

/-- The width 1024 and the guard, as the programs write them. -/
abbrev cN : EReal := Ideal.ofBits FTy.f32 0x44800000#32
abbrev cE : EReal := Ideal.ofBits FTy.f32 0x358637BD#32

/-- Row `i` of the stream, the gain, and the normed row's cotangent: row `i` of the product's cotangent times the transposed weight. -/
abbrev X (c : Dev nD) (i : Fin 16384) : Fin 1024 → EReal := fun k => m ((c : Thread nD τ).loc main_arg0) (ix2 i k)
abbrev G (c : Dev nD) : Fin 1024 → EReal := fun k => m ((c : Thread nD τ).loc main_arg1) (ix1 k)
abbrev U (c : Dev nD) (i : Fin 16384) : Fin 3072 → EReal := fun k => m ((c : Thread nD τ).loc main_arg3) (ix2 i k)
abbrev W (c : Dev nD) (b : Fin 1024) : Fin 3072 → EReal := fun k => m ((c : Thread nD τ).loc main_arg2) (ix2 b k)
abbrev D (c : Dev nD) (i : Fin 16384) : Fin 1024 → EReal := fun b => ∑ k : Fin 3072, U m c i k * W m c b k
/-- What the stream's own cotangent adds. -/
abbrev H (c : Dev nD) (i : Fin 16384) : Fin 1024 → EReal := fun k => m ((c : Thread nD τ).loc main_arg4) (ix2 i k)

/-- The row blocks follow the point; the gain stays. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] := by
  revert t
  decide +kernel

/-- Row `a` of block `t`. -/
abbrev row (t : Fin cfg0.N) (a : Fin 512) : Fin 16384 :=
  ⟨t.val * 512 + a.val, by have := t.isLt; have := a.isLt; have : cfg0.N = 32 := N_0; omega⟩

theorem blkU (c : Dev nD) (t : Fin cfg0.N) (a : Fin 512) (b : Fin 3072) :
    iblk m c 0 t (ix2 a b) = U m c (row t a) b := by
  blk_simp [iblk, idx t]
  entry_read
  pointwise
  blk_ext [iblk, V, idx t]

theorem blkW (c : Dev nD) (t : Fin cfg0.N) (a : Fin 1024) (b : Fin 3072) :
    iblk m c 1 t (ix2 a b) = W m c a b := by
  blk_simp [iblk, idx t]
  entry_read
  pointwise
  blk_ext [iblk, V, idx t]

theorem blkX (c : Dev nD) (t : Fin cfg0.N) (a : Fin 512) (b : Fin 1024) : iblk m c 2 t (ix2 a b) = X m c (row t a) b := by
  blk_ext [iblk, V, idx t]

theorem blkH (c : Dev nD) (t : Fin cfg0.N) (a : Fin 512) (b : Fin 1024) : iblk m c 4 t (ix2 a b) = H m c (row t a) b := by
  blk_ext [iblk, V, idx t]

theorem blkG (c : Dev nD) (t : Fin cfg0.N) (b : Fin 1024) : iblk m c 3 t (ix2 0 b) = G m c b := by
  blk_simp [iblk, idx t]
  entry_read
  pointwise
  blk_ext [iblk, V, idx t]

/-- A point's block of the gradient. -/
theorem pay_dx (c : Dev nD) (t : Fin cfg0.N) (a : Fin 512) (b : Fin 1024) :
    k0_pay1 (k0_pay4 (iblk m c 2 t)) (k0_pay5 (iblk m c 2 t)) (k0_pay7 (iblk m c 0 t) (iblk m c 1 t) (iblk m c 3 t))
        (k0_pay8 (iblk m c 0 t) (iblk m c 1 t) (iblk m c 2 t) (iblk m c 3 t)) (iblk m c 4 t) (ix2 a b)
      = kernelDx cN cE (X m c (row t a)) (G m c) (D m c (row t a)) b + H m c (row t a) b := by
  pointwise [k0_pay1, k0_pay2, k0_pay4, k0_pay5, k0_pay7, k0_pay8]
  simp only [blkX, blkU, blkW, blkG, blkH]
  rfl

/-- The row's gradient. -/
theorem finalX (c : Dev nD) : (dats m 0 c).arrAt 5 cfg0.N
    = fun i : S16384x1024.Idx => kernelDx cN cE (X m c (i 0)) (G m c) (D m c (i 0)) (i 1) + H m c (i 0) (i 1) := by
  refine (dats m 0 c).arrAt_eq_of_covers 5 _ (by decide +kernel) fun t hf y => ?_
  have hrow : ∀ (a : Fin 512) (b : Fin 1024), ((View.whole main_v3_0).slice (win0_5.rect t)).emb (ix2 a b) = ix2 (row t a) b := fun a b => by
    blk_ext [idx t]
  blk_simp
  rw [after0_5]
  by_cases h0 : t.val % 32 = 0
  · rw [outsAt0_A m c t h0]
    frame_out
    idx_vars y
    rw [pay_dx]
    erw [hrow]
    rfl
  · rw [outsAt0_B m c t h0]
    frame_out
    idx_vars y
    rw [pay_dx]
    erw [hrow]
    rfl

/-- The last point. -/
def tLast : Fin cfg0.N := ⟨31, by rw [show cfg0.N = 32 from N_0]; decide⟩

/-- A point's addend to the gain's gradient. -/
theorem pay_dg (c : Dev nD) (t : Fin cfg0.N) (acc : Vec Ideal S1x1024 .f32) (z : Fin 1) (b : Fin 1024) :
    k0_pay6 (iblk m c 0 t) (iblk m c 1 t) (iblk m c 2 t) acc (ix2 z b)
      = acc (ix2 z b) + ∑ a : Fin 512, D m c (row t a) b * (X m c (row t a) b * inv cN cE (X m c (row t a))) := by
  pointwise [k0_pay6, k0_pay5, k0_pay4, k0_pay2]
  simp only [blkX, blkU, blkW]
  rfl

/-- The gain's gradient: the sum over the rows. -/
theorem finalG (c : Dev nD) : (dats m 0 c).arrAt 6 cfg0.N = fun i : S1x1024.Idx =>
    ∑ r : Fin 16384, D m c r (i 1) * (X m c r (i 1) * inv cN cE (X m c r)) := by
  refine (dats m 0 c).arrAt_eq_of_after_last 6 tLast (by decide +kernel) _ fun j => ?_
  blk_simp
  rw [after0_6]
  idx_vars j
  refine (Pipeline.eq_sum_fin_of_reset_step_apply_last (fun n h => (outsAt0 m c n h).2) 32 (fun _ => 0)
    (fun t j => ∑ a : Fin 512, D m c (row t a) (j 1) * (X m c (row t a) (j 1) * inv cN cE (X m c (row t a))))
    (fun t h j => ?_) (fun t h j => ?_) (by decide) tLast rfl _).trans ?_
  · rw [outsAt0_A m c t h]
    frame_out
    idx_vars j
    rw [pay_dg]
    pointwise [k0_pay3]
  · rw [outsAt0_B m c t h]
    frame_out
    idx_vars j
    rw [pay_dg]
  · rw [zero_add]
    exact Fin.sum_mul_add_congr fun s k hl => rfl

end Cert.MatNormInIdeal.Value

end
-- ==== Proof.MatNormInTie.lean ====
/-
  The product of the even layers' input product gradient fused with the norm's gradient: the reference's two results, read at an entry.
-/
module

public import proofs.«01_k».proof.Proof.MatNormInValue
public import proofs.«01_k».proof.Proof.Gen.MatNormInRefIdeal.Read
public import Idealize.ShloMosaic.Lib.Pipeline.ValueKit

@[expose] public section

noncomputable section

namespace Cert.MatNormInRefIdeal.Tie

open Cert.MatNormInRefIdeal Cert.MatNormInRefIdeal.Read Cert.NormGrad Idealize.ShloMosaic Idealize.ShloMosaic.TcCoe Idealize.SL.Sem

open Cert.MatNormInIdeal.Value (cN cE)

variable (x0 : (⟨S16384x1024, .f32⟩ : BufTy).Contents (Elt Ideal)) (x1 : (⟨S1024, .f32⟩ : BufTy).Contents (Elt Ideal)) (x2 : (⟨S1024x3072, .f32⟩ : BufTy).Contents (Elt Ideal)) (x3 : (⟨S16384x3072, .f32⟩ : BufTy).Contents (Elt Ideal)) (x4 : (⟨S16384x1024, .f32⟩ : BufTy).Contents (Elt Ideal))

/-- The normed row's cotangent: the product with the transposed weight. -/
abbrev dn (a : Fin 16384) (b : Fin 1024) : EReal := ∑ k : Fin 3072, x3 (ix2 a k) * x2 (ix2 b k)

theorem read_dx (a : Fin 16384) (b : Fin 1024) : val_main_v38 (F := Ideal) x0 x1 x2 x3 x4 (ix2 a b)
    = gradDx cN cE (Ideal.ofBits FTy.f32 0xBF000000#32) (fun k => x0 (ix2 a k)) (fun k => x1 (ix1 k)) (dn x2 x3 a) b + x4 (ix2 a b) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.univ_unique, Finset.sum_const, Finset.card_singleton, one_smul]
  have sw (p q r s : EReal) : p + q + r + s = q + r + s + p := by abel
  rw [sw]
  rfl

theorem read_dg (z : Fin 1) (b : Fin 1024) : val_main_v39 (F := Ideal) x0 x2 x3 (ix2 z b)
    = ∑ r : Fin 16384, x0 (ix2 r b) * inv cN cE (fun k => x0 (ix2 r k)) * dn x2 x3 r b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.univ_unique, Finset.sum_const, Finset.card_singleton, one_smul]
  rfl

end Cert.MatNormInRefIdeal.Tie

end
-- ==== Proof.MatNormInClaim.lean ====
/-
  The even layers' input product with the norm's gradient: on finite arguments the kernel's two results are the derivative of the forward lines.
-/
module

public import proofs.«01_k».proof.Defs
public import proofs.«01_k».proof.Proof.MatNormInValue
public import proofs.«01_k».proof.Proof.MatNormInTie
public import proofs.«01_k».proof.Proof.Gen.Pre_finite_matnormin

@[expose] public section

noncomputable section

namespace Cert.MatNormInClaim

open Cert.NormGrad Idealize.ShloMosaic Idealize.ShloMosaic.TcCoe Idealize.SL.Sem
open Cert.MatNormInIdeal.Value (X D G U W H cN cE)
open Cert.MatNormInRefIdeal.Tie (read_dx read_dg)

variable {m : (ℓ : Loc Cert.MatNormInIdeal.nD Cert.MatNormInIdeal.τ Cert.MatNormInIdeal.sig) → Buf (Elt Ideal) ℓ}

/-- What the precondition says of the arguments. -/
theorem fin (h : Cert.Pre_MatNormInIdeal_finite_matnormin m) (c : Dev Cert.MatNormInIdeal.nD) :
    (∀ r k, Fin' (X m c r k)) ∧ (∀ k, Fin' (G m c k)) ∧ (∀ b k, Fin' (W m c b k)) ∧ ∀ r k, Fin' (U m c r k) := by
  obtain ⟨h0, h1, h2, h3, -⟩ := h c
  refine ⟨fun r k => fin_of_bit ?_, fun k => fin_of_bit ?_, fun r k => fin_of_bit ?_, fun r k => fin_of_bit ?_⟩
  · have := congrFun h0 (ix2 r k)
    pointwise [Cert.Pre_finite_matnormin.fn] at this
    exact this
  · have := congrFun h1 (ix1 k)
    pointwise [Cert.Pre_finite_matnormin.fn] at this
    exact this
  · have := congrFun h2 (ix2 r k)
    pointwise [Cert.Pre_finite_matnormin.fn] at this
    exact this
  · have := congrFun h3 (ix2 r k)
    pointwise [Cert.Pre_finite_matnormin.fn] at this
    exact this

theorem claim : Cert.algebraic_MatNormInIdeal_MatNormInRefIdeal_pre_finite_matnormin := by
  intro m g m' g' hp ha
  refine ⟨fun c => (Cert.MatNormInIdeal.Gen.dats m 0 c).arrAt 5 Cert.MatNormInIdeal.cfg0.N, fun c => (Cert.MatNormInIdeal.Gen.dats m 0 c).arrAt 6 Cert.MatNormInIdeal.cfg0.N, ?_, ?_⟩
  · run_from (Cert.MatNormInIdeal.Value.run_blocks m g)
  · refine (θ_run Cert.MatNormInRefIdeal.defs _ _).mono (fun r h c => ?_) (Cert.MatNormInRefIdeal.Value.run (F := Ideal) m' g')
    obtain ⟨h0, h1, hk⟩ := h c
    obtain ⟨a0, a1, a2, a3, a4⟩ := ha c
    obtain ⟨hx, hg, hw, hu⟩ := fin hp c
    refine ⟨h0.trans ?_, h1.trans ?_, hk⟩
    all_goals beta_reduce
    · rw [Cert.MatNormInRefIdeal.Read.val_main_v38_eq, Cert.MatNormInIdeal.Value.finalX, a0, a1, a2, a3, a4]
      funext j
      idx_vars j
      refine (read_dx _ _ _ _ _ _ _).trans ?_
      have hd : ∀ r k, Fin' (D m c r k) := fun r k => by
        choose u hu using hu r
        choose w hw using hw k
        exact ⟨∑ i, u i * w i, by simp only [D, hu, hw, ← EReal.coe_mul, ← coe_sum]⟩
      obtain ⟨e, he0, he⟩ := cEps
      rw [show cN = ((1024 : ℝ) : EReal) from c1024, show cE = (e : EReal) from he, cNegHalf]
      exact congrArg (· + H m c _ _) (kernelDx_eq (by norm_num) he0 (hx _) hg (hd _) _).symm
    · rw [Cert.MatNormInRefIdeal.Read.val_main_v39_eq, Cert.MatNormInIdeal.Value.finalG, a0, a2, a3]
      funext j
      idx_vars j
      exact (read_dg _ _ _ _ _).trans (Finset.sum_congr rfl fun r _ => mul_comm _ _)

end Cert.MatNormInClaim

end
-- ==== Proof.BandFwdRow.lean ====
/-
  One query's row of banded attention: its block's keys and the block's before, with a bias, and a sink. And the rows of all twenty heads:
  eight that share two heads of keys and values, then three branches of four heads, where a branch's rows fall into sequences.
-/
module

public import Idealize.ShloMosaic.Lib.Pipeline.ValueKit

@[expose] public section

noncomputable section

namespace Cert.BandRow

open Idealize.ShloMosaic

theorem lo_lt (j : Fin 128) : j.val < 256 := by omega
theorem hi_lt (j : Fin 128) : 128 + j.val < 256 := by omega

/-- The scale. -/
abbrev σ : EReal := Ideal.ofBits FTy.f32 0x3E000000#32
theorem cBot : Ideal.ofBits FTy.f32 0xFF800000#32 = (⊥ : EReal) := by simp [Ideal.ofBits, Ideal.ieee]

section Row
variable (c p : Fin 128 → EReal) (s : EReal)

/-- The largest of the scores in the own block, the scores in the block before, and the sink. -/
def mx : EReal := max (max ((Finset.univ : Finset (Fin 128)).fold max (⊥ : EReal) c) ((Finset.univ : Finset (Fin 128)).fold max (⊥ : EReal) p)) s
/-- The sum of the exponentials. -/
def sm : EReal := (∑ j, Ideal.exp (c j - mx c p s)) + (∑ j, Ideal.exp (p j - mx c p s)) + Ideal.exp (s - mx c p s)
/-- The values mixed. -/
def out (v w : Fin 128 → EReal) : EReal :=
  Ideal.div ((∑ j, Ideal.exp (c j - mx c p s) * v j) + ∑ j, Ideal.exp (p j - mx c p s) * w j) (sm c p s)
/-- The log of the sum. -/
def lse : EReal := mx c p s + Ideal.log (sm c p s)
end Row

theorem out_congr {c c' p p' v v' w w' : Fin 128 → EReal} {s s' : EReal} (hc : ∀ j, c j = c' j) (hp : ∀ j, p j = p' j) (hs : s = s')
    (hv : ∀ j, v j = v' j) (hw : ∀ j, w j = w' j) : out c p s v w = out c' p' s' v' w' := by
  rw [show c = c' from funext hc, show p = p' from funext hp, hs, show v = v' from funext hv, show w = w' from funext hw]
theorem lse_congr {c c' p p' : Fin 128 → EReal} {s s' : EReal} (hc : ∀ j, c j = c' j) (hp : ∀ j, p j = p' j) (hs : s = s') :
    lse c p s = lse c' p' s' := by
  rw [show c = c' from funext hc, show p = p' from funext hp, hs]

/-! ## A row whose two blocks stand in one run of 256 -/

section Run
variable (L V : Fin 256 → EReal) (c p v w : Fin 128 → EReal) (s : EReal)
  (hc : ∀ j : Fin 128, L ⟨128 + j.val, hi_lt j⟩ = c j) (hp : ∀ j : Fin 128, L ⟨j.val, lo_lt j⟩ = p j)
  (hv : ∀ j : Fin 128, V ⟨128 + j.val, hi_lt j⟩ = v j) (hw : ∀ j : Fin 128, V ⟨j.val, lo_lt j⟩ = w j ∨ p j = ⊥)

theorem sum_run (f : Fin 256 → EReal) :
    ∑ x, f x = (∑ j : Fin 128, f ⟨128 + j.val, hi_lt j⟩) + ∑ j : Fin 128, f ⟨j.val, lo_lt j⟩ := by
  rw [add_comm]
  exact Fin.sum_univ_add (a := 128) (b := 128) f

include hc hp in
theorem mx_run : max ((Finset.univ : Finset (Fin 256)).fold max (⊥ : EReal) L) s = mx c p s := by
  unfold mx
  congr 1
  refine le_antisymm (Finset.fold_max_le _ |>.mpr ⟨bot_le, fun x _ => ?_⟩) (max_le (Finset.fold_max_le _ |>.mpr ⟨bot_le, fun j _ => ?_⟩)
    (Finset.fold_max_le _ |>.mpr ⟨bot_le, fun j _ => ?_⟩))
  · by_cases hx : x.val < 128
    · refine le_max_of_le_right (Finset.le_fold_max _ |>.mpr (Or.inr ⟨⟨x.val, hx⟩, Finset.mem_univ _, ?_⟩))
      rw [← hp]
    · refine le_max_of_le_left (Finset.le_fold_max _ |>.mpr (Or.inr ⟨⟨x.val - 128, by omega⟩, Finset.mem_univ _, ?_⟩))
      rw [← hc]
      exact le_of_eq (congrArg L (Fin.ext (by simp only; omega)))
  · exact Finset.le_fold_max _ |>.mpr (Or.inr ⟨_, Finset.mem_univ _, (hc j).ge⟩)
  · exact Finset.le_fold_max _ |>.mpr (Or.inr ⟨_, Finset.mem_univ _, (hp j).ge⟩)

include hc hp in
theorem sm_run : (∑ x, Ideal.exp (L x - mx c p s)) + Ideal.exp (s - mx c p s) = sm c p s := by
  unfold sm
  rw [sum_run]
  simp only [hc, hp]

include hc hp hv hw in
theorem out_run : Ideal.div (∑ x, V x * Ideal.exp (L x - mx c p s)) (sm c p s) = out c p s v w := by
  unfold out
  rw [sum_run]
  congr 2
  · exact Finset.sum_congr rfl fun j _ => by rw [hc, hv, mul_comm]
  · refine Finset.sum_congr rfl fun j _ => ?_
    rw [hp]
    obtain h | h := hw j
    · rw [h, mul_comm]
    · rw [h, EReal.bot_sub, Ideal.exp_bot, zero_mul, mul_zero]

/-- No sink. -/
theorem no_sink (x M : EReal) : x + Ideal.exp (⊥ - M) = x := by
  rw [EReal.bot_sub, Ideal.exp_bot, add_zero]
end Run

/-! ## The rows of all heads -/

/-- Column `d` of a head's queries, keys, values. -/
def qc (h : Fin 20) (d : Fin 64) : Fin 3072 :=
  ⟨if h.val < 8 then 64 * h.val + d.val else 768 + 768 * ((h.val - 8) / 4) + 64 * ((h.val - 8) % 4) + d.val, by split <;> omega⟩
def kc (h : Fin 20) (d : Fin 64) : Fin 3072 :=
  ⟨if h.val < 8 then 512 + 64 * (h.val / 4) + d.val else 1024 + 768 * ((h.val - 8) / 4) + 64 * ((h.val - 8) % 4) + d.val, by split <;> omega⟩
def vc (h : Fin 20) (d : Fin 64) : Fin 3072 :=
  ⟨if h.val < 8 then 640 + 64 * (h.val / 4) + d.val else 1280 + 768 * ((h.val - 8) / 4) + 64 * ((h.val - 8) % 4) + d.val, by split <;> omega⟩
/-- The blocks of a sequence of a head's. -/
def per (h : Fin 20) : ℕ := if h.val < 12 then 128 else if h.val < 16 then 32 else 8
/-- Row `i` of block `n`, and of the block before. -/
def rw' (n i : Fin 128) : Fin 16384 := ⟨n.val * 128 + i.val, by omega⟩
def pw (n i : Fin 128) : Fin 16384 := ⟨(n.val - 1) * 128 + i.val, by omega⟩

variable (P : Fin 16384 → Fin 3072 → EReal) (B : Fin 20 → Fin 128 → Fin 256 → EReal) (S : Fin 8 → EReal) (h : Fin 20) (n i : Fin 128)

/-- The scores in the own block, and in the block before: none in a sequence's first. -/
def sc (j : Fin 128) : EReal := (∑ d, P (rw' n i) (qc h d) * P (rw' n j) (kc h d)) * σ + B h i ⟨128 + j.val, hi_lt j⟩
def sp (j : Fin 128) : EReal :=
  if n.val % per h = 0 then ⊥ else (∑ d, P (rw' n i) (qc h d) * P (pw n j) (kc h d)) * σ + B h i ⟨j.val, lo_lt j⟩
/-- The sink: the first eight heads'. -/
def sk : EReal := if hh : h.val < 8 then S ⟨h.val, hh⟩ else ⊥

def o (d : Fin 64) : EReal := out (sc P B h n i) (sp P B h n i) (sk S h) (fun j => P (rw' n j) (vc h d)) (fun j => P (pw n j) (vc h d))
def l : EReal := lse (sc P B h n i) (sp P B h n i) (sk S h)

end Cert.BandRow

end
-- ==== Proof.BandFwdPay.lean ====
/-
  The banded forward's payloads entry by entry: a query's scores against its own block of keys and the block before, their largest and the
  sink, the sum of the exponentials, the mixed values and the log-sum.
-/
module

public import proofs.«01_k».proof.Proof.Gen.BandFwdIdeal.Value
public import proofs.«01_k».proof.Proof.BandFwdRow
public import Idealize.ShloMosaic.Lib.Pipeline.ValueKit

@[expose] public section

noncomputable section

namespace Cert.BandFwdIdeal.Pay

open Cert.BandFwdIdeal Cert.BandFwdIdeal.Gen Idealize.ShloMosaic Idealize.ShloMosaic.TcCoe Idealize.SL.Sem
open Cert.BandRow (σ cBot)

theorem cM : (Named.named κ "mask" 0xF149F2CA#32 : Ideal .f32) = (⊥ : EReal) := IdealRules.named_const.ideal_named_scalar _ _ _ _ rfl

/-- The diagonal's comparison, on positions. -/
theorem eq_bit (i j : Fin 128) : IntOp.cmpi CmpIPredicate.eq (BitVec.ofNat 32 i.val) (BitVec.ofNat 32 j.val) = BitVec.ofBool (decide (i = j)) := by
  revert i j
  decide +kernel
theorem select_bit {α : Type} (p : Prop) [Decidable p] (x y : α) : Scalar.select (BitVec.ofBool (decide p)) x y = if p then x else y := by
  by_cases h : p <;> simp [h, Scalar.select]
theorem select_if {α : Type} (o : BitVec 1) (x y : α) : Scalar.select o x y = if o = 0 then y else x := by
  unfold Scalar.select
  by_cases h : o = 1
  · subst h; rfl
  · have h0 : o = 0 := by revert o; decide
    subst h0; rfl

variable (b : Fin 8) (i j : Fin 128) (d : Fin 64)

abbrev rw8 : Fin 1024 := ⟨b.val * 128 + i.val, by omega⟩

theorem rw8_div (h : (b.val * 128 + i.val) / 128 < 8) : (⟨(b.val * 128 + i.val) / 128, h⟩ : Fin 8) = b := Fin.ext (by show _ / _ = _; omega)
theorem rw8_mod (h : (b.val * 128 + i.val) % 128 < 128) : (⟨(b.val * 128 + i.val) % 128, h⟩ : Fin 128) = i := Fin.ext (by show _ % _ = _; omega)

/-! ## The first head of a pair -/

theorem pay3_at (x : Vec Ideal S1024x64 .bf16) : k0_pay3 x (ix3 b i d) = x (ix2 (rw8 b i) d) := by
  pointwise [k0_pay3]
/-- One half of a block of keys or values, by the bit that picks it. -/
def sel (o : BitVec 1) (x y : FVec Ideal S1024x64 .bf16) : FVec Ideal S8x128x64 .bf16 :=
  shapeCast S8x128x64 (Scalar.select o (shapeCast S1024x64 x shapeCasts_S1024x64_S1024x64) (shapeCast S1024x64 y shapeCasts_S1024x64_S1024x64)) shapeCasts_S1024x64_S8x128x64
theorem sel_at (o : BitVec 1) (x y : FVec Ideal S1024x64 .bf16) :
    sel o x y (ix3 b i d) = if o = 0 then y (ix2 (rw8 b i) d) else x (ix2 (rw8 b i) d) := by
  unfold sel
  obtain rfl | rfl : o = 0 ∨ o = 1 := by revert o; decide
  · refine Eq.trans ?_ (if_pos rfl).symm
    simp only [show ∀ x y : FVec Ideal S1024x64 .bf16, Scalar.select (0 : BitVec 1) x y = y from fun _ _ => rfl]
    pointwise
  · refine Eq.trans ?_ (if_neg (by decide)).symm
    simp only [show ∀ x y : FVec Ideal S1024x64 .bf16, Scalar.select (1 : BitVec 1) x y = x from fun _ _ => rfl]
    pointwise
theorem pay22_at (v : FVec Ideal S8x128x64 .bf16) (o : BitVec 1) (x y : Vec Ideal S128x64 .bf16) : k0_pay22 v o x y (ix3 b i d)
    = if h : b.val < 1 then (if o = 0 then y (ix2 i d) else x (ix2 i d)) else v (ix3 ⟨b.val - 1, by omega⟩ i d) := by
  unfold k0_pay22
  obtain rfl | rfl : o = 0 ∨ o = 1 := by revert o; decide
  · simp only [show ∀ x y : FVec Ideal S128x64 .bf16, Scalar.select (0 : BitVec 1) x y = y from fun _ _ => rfl, ↓reduceIte]
    pointwise
  · simp only [show ∀ x y : FVec Ideal S128x64 .bf16, Scalar.select (1 : BitVec 1) x y = x from fun _ _ => rfl, show ¬ (1 : BitVec 1) = 0 by decide, ↓reduceIte]
    pointwise
theorem pay9_at (q k : FVec Ideal S8x128x64 .bf16) (w : Vec Ideal S1x128x128 .f32) :
    k0_pay9 q k w (ix3 b i j) = (∑ d, q (ix3 b i d) * k (ix3 b j d)) * σ + w (ix3 0 i j) := by
  pointwise [k0_pay9]
theorem pay10_at (o : BitVec 1) (q k : FVec Ideal S8x128x64 .bf16) (w : Vec Ideal S1x128x128 .f32) : k0_pay10 o q k w (ix3 b i j)
    = if o = 0 ∧ b.val = 0 then ⊥ else (∑ d, q (ix3 b i d) * k (ix3 b j d)) * σ + w (ix3 0 i j) := by
  unfold k0_pay10
  obtain rfl | rfl : o = 0 ∨ o = 1 := by revert o; decide
  · simp only [show ∀ x y : FVec Ideal S128x128 .f32, Scalar.select (0 : BitVec 1) x y = y from fun _ _ => rfl]
    by_cases hb : b.val = 0
    · obtain rfl : b = 0 := Fin.ext hb
      refine Eq.trans ?_ (if_pos ⟨trivial, hb⟩).symm
      rw [← cM]
      pointwise
    · refine Eq.trans ?_ (if_neg fun h => hb h.2).symm
      pointwise
      rw [dif_neg (by omega), show (⟨1 + (b.val - 1), by omega⟩ : Fin 8) = b from Fin.ext (by show 1 + (b.val - 1) = _; omega)]
  · simp only [show ∀ x y : FVec Ideal S128x128 .f32, Scalar.select (1 : BitVec 1) x y = x from fun _ _ => rfl]
    refine Eq.trans ?_ (if_neg fun h => absurd h.1 (by decide)).symm
    by_cases hb : b.val = 0
    · obtain rfl : b = 0 := Fin.ext hb
      pointwise
    · pointwise
      rw [dif_neg (by omega), show (⟨1 + (b.val - 1), by omega⟩ : Fin 8) = b from Fin.ext (by show 1 + (b.val - 1) = _; omega)]
theorem pay11_at (q k : FVec Ideal S8x128x64 .bf16) (w : Vec Ideal S1x128x128 .f32) :
    k0_pay11 q k w (ix3 b i 0) = (Finset.univ : Finset (Fin 128)).fold max (⊥ : EReal) fun j => k0_pay9 q k w (ix3 b i j) := by
  rw [← cBot]
  unfold k0_pay11
  generalize k0_pay9 q k w = A
  pointwise
theorem pay12_at (z : FVec Ideal S1x1 .f32) (w : FVec Ideal S8x128x128 .f32) (v : FVec Ideal S8x128x1 .f32) : k0_pay12 z w v (ix3 b i 0)
    = max (max (v (ix3 b i 0)) ((Finset.univ : Finset (Fin 128)).fold max (⊥ : EReal) fun j => w (ix3 b i j))) (z (ix2 0 0)) := by
  rw [← cBot]
  pointwise [k0_pay12]
theorem pay13_at (z : FVec Ideal S1x1 .f32) (s w : FVec Ideal S8x128x128 .f32) (v : FVec Ideal S8x128x1 .f32) :
    k0_pay13 z s w v (ix3 b i j) = Ideal.exp (s (ix3 b i j) - k0_pay12 z w v (ix3 b i 0)) := by
  unfold k0_pay13
  generalize k0_pay12 z w v = A
  pointwise
theorem pay14_at (z : FVec Ideal S1x1 .f32) (w : FVec Ideal S8x128x128 .f32) (v : FVec Ideal S8x128x1 .f32) :
    k0_pay14 z w v (ix3 b i j) = Ideal.exp (w (ix3 b i j) - k0_pay12 z w v (ix3 b i 0)) := by
  unfold k0_pay14
  generalize k0_pay12 z w v = A
  pointwise
theorem pay15_at (z : FVec Ideal S1x1 .f32) (s w : FVec Ideal S8x128x128 .f32) (v : FVec Ideal S8x128x1 .f32) : k0_pay15 z s w v (ix3 b i 0)
    = (∑ j, k0_pay13 z s w v (ix3 b i j)) + (∑ j, k0_pay14 z w v (ix3 b i j)) + Ideal.exp (z (ix2 0 0) - k0_pay12 z w v (ix3 b i 0)) := by
  unfold k0_pay15
  generalize k0_pay12 z w v = A
  generalize k0_pay13 z s w v = B
  generalize k0_pay14 z w v = C
  pointwise
theorem pay16_at (V P : FVec Ideal S8x128x64 .bf16) (z : FVec Ideal S1x1 .f32) (s w : FVec Ideal S8x128x128 .f32) (v : FVec Ideal S8x128x1 .f32)
    (hv : v (ix3 b i 0) = (Finset.univ : Finset (Fin 128)).fold max (⊥ : EReal) fun j => s (ix3 b i j)) :
    k0_pay16 V P z s w v (ix2 (rw8 b i) d)
      = Cert.BandRow.out (fun j => s (ix3 b i j)) (fun j => w (ix3 b i j)) (z (ix2 0 0)) (fun j => V (ix3 b j d)) (fun j => P (ix3 b j d)) := by
  unfold Cert.BandRow.out Cert.BandRow.sm Cert.BandRow.mx
  rw [← hv, ← pay12_at b i z w v]
  have h3 : ∀ j, Ideal.exp (s (ix3 b i j) - k0_pay12 z w v (ix3 b i 0)) = k0_pay13 z s w v (ix3 b i j) := fun j => (pay13_at b i j z s w v).symm
  have h4 : ∀ j, Ideal.exp (w (ix3 b i j) - k0_pay12 z w v (ix3 b i 0)) = k0_pay14 z w v (ix3 b i j) := fun j => (pay14_at b i j z w v).symm
  simp only [h3, h4]
  rw [← pay15_at]
  unfold k0_pay16
  generalize k0_pay13 z s w v = A
  generalize k0_pay14 z w v = B
  generalize k0_pay15 z s w v = C
  pointwise
  simp only [rw8_div, rw8_mod]
theorem pay17_at (z : FVec Ideal S1x1 .f32) (s w : FVec Ideal S8x128x128 .f32) (v : FVec Ideal S8x128x1 .f32)
    (hv : v (ix3 b i 0) = (Finset.univ : Finset (Fin 128)).fold max (⊥ : EReal) fun j => s (ix3 b i j)) :
    k0_pay18 (k0_pay17 z s w v) (ix5 0 0 b 0 i) = Cert.BandRow.lse (fun j => s (ix3 b i j)) (fun j => w (ix3 b i j)) (z (ix2 0 0)) := by
  unfold Cert.BandRow.lse Cert.BandRow.sm Cert.BandRow.mx
  rw [← hv, ← pay12_at b i z w v]
  have h3 : ∀ j, Ideal.exp (s (ix3 b i j) - k0_pay12 z w v (ix3 b i 0)) = k0_pay13 z s w v (ix3 b i j) := fun j => (pay13_at b i j z s w v).symm
  have h4 : ∀ j, Ideal.exp (w (ix3 b i j) - k0_pay12 z w v (ix3 b i 0)) = k0_pay14 z w v (ix3 b i j) := fun j => (pay14_at b i j z w v).symm
  simp only [h3, h4]
  rw [← pay15_at]
  unfold k0_pay18 k0_pay17
  generalize k0_pay12 z w v = A
  generalize k0_pay15 z s w v = C
  pointwise
  simp only [eq_bit, select_bit]
  exact (Finset.sum_ite_eq' _ _ _).trans (if_pos (Finset.mem_univ _))

/-! ## A head whole, and that the second is the first's form -/

variable (o : BitVec 1) (q k kp V P : FVec Ideal S8x128x64 .bf16) (w wp : Vec Ideal S1x128x128 .f32) (z : FVec Ideal S1x1 .f32)

theorem head_out : k0_pay16 V P z (k0_pay9 q k w) (k0_pay10 o q kp wp) (k0_pay11 q k w) (ix2 (rw8 b i) d)
    = Cert.BandRow.out (fun j => (∑ d, q (ix3 b i d) * k (ix3 b j d)) * σ + w (ix3 0 i j))
        (fun j => if o = 0 ∧ b.val = 0 then ⊥ else (∑ d, q (ix3 b i d) * kp (ix3 b j d)) * σ + wp (ix3 0 i j)) (z (ix2 0 0))
        (fun j => V (ix3 b j d)) (fun j => P (ix3 b j d)) := by
  rw [pay16_at b i d V P z _ _ _ (pay11_at b i q k w)]
  simp only [pay9_at, pay10_at]
theorem head_lse : k0_pay18 (k0_pay17 z (k0_pay9 q k w) (k0_pay10 o q kp wp) (k0_pay11 q k w)) (ix5 0 0 b 0 i)
    = Cert.BandRow.lse (fun j => (∑ d, q (ix3 b i d) * k (ix3 b j d)) * σ + w (ix3 0 i j))
        (fun j => if o = 0 ∧ b.val = 0 then ⊥ else (∑ d, q (ix3 b i d) * kp (ix3 b j d)) * σ + wp (ix3 0 i j)) (z (ix2 0 0)) := by
  rw [pay17_at b i z _ _ _ (pay11_at b i q k w)]
  simp only [pay9_at, pay10_at]

abbrev cst : Ideal .f32 := Scalar.ofBits .f32 0x3E000000#32
theorem second_out : k0_pay1 V P (k0_pay30 o q kp z (k0_pay25 q k) cst w wp) (k0_pay31 o q kp z (k0_pay25 q k) cst w wp) (k0_pay32 o q kp z (k0_pay25 q k) cst w wp)
    = k0_pay16 V P z (k0_pay9 q k w) (k0_pay10 o q kp wp) (k0_pay11 q k w) := rfl
theorem second_lse : k0_pay2 (k0_pay28 o q kp z (k0_pay25 q k) cst w wp) (k0_pay31 o q kp z (k0_pay25 q k) cst w wp)
    = k0_pay18 (k0_pay17 z (k0_pay9 q k w) (k0_pay10 o q kp wp) (k0_pay11 q k w)) := rfl

end Cert.BandFwdIdeal.Pay

end
-- ==== Proof.BandFwdPoint.lean ====
/-
  The banded forward at one point: what the body leaves in its two result blocks, of the blocks it finds.
-/
module

public import proofs.«01_k».proof.Proof.BandFwdPay

@[expose] public section

noncomputable section

namespace Cert.BandFwdIdeal.Point

open Cert.BandFwdIdeal Cert.BandFwdIdeal.Gen Cert.BandFwdIdeal.Pay Idealize.ShloMosaic Idealize.ShloMosaic.TcCoe Idealize.SL.Sem
open Cert.BandRow (σ cBot)

/-- Which half of a pair of keys a head reads. -/
def hf (p : Fin 10) (e : Fin 2) : Fin 2 := if h : p.val < 4 then ⟨p.val / 2, by omega⟩ else e
/-- The chunks after which a sequence starts anew. -/
def per (p : Fin 10) : ℕ := if p.val < 6 then 16 else if p.val < 8 then 4 else 1

abbrev lane (e : Fin 2) (d : Fin 64) : Fin 128 := ⟨e.val * 64 + d.val, by omega⟩

variable (p : Fin 10) (q : Fin 16) (e : Fin 2) (b : Fin 8) (i j : Fin 128) (d : Fin 64)

/-! ## The slices -/

theorem ld0 (x : Vec Ideal S1024x128 .bf16) (r : Fin 1024) : (View.ld x r0_0 : Vec Ideal S1024x64 .bf16) (ix2 r d) = x (ix2 r (lane 0 d)) := by
  show x (r0_0.emb (ix2 r d)) = _
  blk_ext []
theorem ld1 (x : Vec Ideal S1024x128 .bf16) (r : Fin 1024) : (View.ld x r0_1 : Vec Ideal S1024x64 .bf16) (ix2 r d) = x (ix2 r (lane 1 d)) := by
  show x (r0_1.emb (ix2 r d)) = _
  blk_ext []
theorem ld2 (x : Vec Ideal S128x128 .bf16) (r : Fin 128) : (View.ld x r0_2 : Vec Ideal S128x64 .bf16) (ix2 r d) = x (ix2 r (lane 0 d)) := by
  show x (r0_2.emb (ix2 r d)) = _
  blk_ext []
theorem ld3 (x : Vec Ideal S128x128 .bf16) (r : Fin 128) : (View.ld x r0_3 : Vec Ideal S128x64 .bf16) (ix2 r d) = x (ix2 r (lane 1 d)) := by
  show x (r0_3.emb (ix2 r d)) = _
  blk_ext []
theorem ld4 (x : Vec Ideal S2x1x128 .f32) : k0_pay8 (View.ld x r0_4) (ix2 0 0) = x (ix3 0 0 0) := by
  pointwise [k0_pay8]
theorem ld8 (x : Vec Ideal S2x1x128 .f32) : k0_pay24 (View.ld x r0_8) (ix2 0 0) = x (ix3 1 0 0) := by
  pointwise [k0_pay24]
theorem ld5 (x : Vec Ideal S2x128x256 .f32) : (View.ld x r0_5 : Vec Ideal S1x128x128 .f32) (ix3 0 i j) = x (ix3 0 i ⟨128 + j.val, by omega⟩) := by
  show x (r0_5.emb (ix3 0 i j)) = _
  blk_ext []
theorem ld6 (x : Vec Ideal S2x128x256 .f32) : (View.ld x r0_6 : Vec Ideal S1x128x128 .f32) (ix3 0 i j) = x (ix3 0 i ⟨j.val, by omega⟩) := by
  show x (r0_6.emb (ix3 0 i j)) = _
  blk_ext []
theorem ld9 (x : Vec Ideal S2x128x256 .f32) : (View.ld x r0_9 : Vec Ideal S1x128x128 .f32) (ix3 0 i j) = x (ix3 1 i ⟨128 + j.val, by omega⟩) := by
  show x (r0_9.emb (ix3 0 i j)) = _
  blk_ext []
theorem ld10 (x : Vec Ideal S2x128x256 .f32) : (View.ld x r0_10 : Vec Ideal S1x128x128 .f32) (ix3 0 i j) = x (ix3 1 i ⟨j.val, by omega⟩) := by
  show x (r0_10.emb (ix3 0 i j)) = _
  blk_ext []

/-! ## A head's keys and values: the chunk's blocks, and each one's block before -/

def cur (x : Vec Ideal S1024x128 .bf16) : EReal := x (ix2 (rw8 b j) (lane (hf p e) d))
def prv (x : Vec Ideal S1024x128 .bf16) (y : Vec Ideal S128x128 .bf16) : EReal :=
  if h : b.val < 1 then y (ix2 j (lane (hf p e) d)) else cur p e ⟨b.val - 1, by omega⟩ j d x

theorem sel_ld (x : Vec Ideal S1024x128 .bf16) (o : BitVec 1) (ho : o = BitVec.ofBool (decide (hf p e = 0))) :
    sel o (View.ld x r0_0) (View.ld x r0_1) (ix3 b j d) = cur p e b j d x := by
  rw [sel_at, ho]
  unfold cur
  obtain h | h : hf p e = 0 ∨ hf p e = 1 := by generalize hf p e = a; revert a; decide
  · rw [h]
    exact (if_neg (by decide)).trans (ld0 d x _)
  · rw [h]
    exact (if_pos (by decide)).trans (ld1 d x _)
theorem prv_ld (x : Vec Ideal S1024x128 .bf16) (y : Vec Ideal S128x128 .bf16) (v : FVec Ideal S8x128x64 .bf16)
    (hv : ∀ b, v (ix3 b j d) = cur p e b j d x) (o : BitVec 1) (ho : o = BitVec.ofBool (decide (hf p e = 0))) :
    k0_pay22 v o (View.ld y r0_2) (View.ld y r0_3) (ix3 b j d) = prv p e b j d x y := by
  rw [pay22_at, ho]
  unfold prv
  refine dite_congr rfl (fun h => ?_) fun h => hv _
  obtain h | h : hf p e = 0 ∨ hf p e = 1 := by generalize hf p e = a; revert a; decide
  · rw [h]
    exact (if_neg (by decide)).trans (ld2 d y _)
  · rw [h]
    exact (if_pos (by decide)).trans (ld3 d y _)

variable (x0 x1 : Vec Ideal S1024x128 .bf16) (x2 : Vec Ideal S128x128 .bf16) (x3 : Vec Ideal S1024x128 .bf16) (x4 : Vec Ideal S128x128 .bf16)
  (x5 : Vec Ideal S2x128x256 .f32) (x6 : Vec Ideal S2x1x128 .f32)

/-- The scores of a point's head. -/
def sc (j : Fin 128) : EReal := (∑ d, x0 (ix2 (rw8 b i) (lane e d)) * cur p e b j d x1) * σ + x5 (ix3 e i ⟨128 + j.val, by omega⟩)
def sp (j : Fin 128) : EReal :=
  if q.val % per p = 0 ∧ b.val = 0 then ⊥ else (∑ d, x0 (ix2 (rw8 b i) (lane e d)) * prv p e b j d x1 x2) * σ + x5 (ix3 e i ⟨j.val, by omega⟩)

section Head
variable (k0 k kp V W : FVec Ideal S8x128x64 .bf16) (w wp : Vec Ideal S1x128x128 .f32) (z : FVec Ideal S1x1 .f32) (o : BitVec 1)
  (h0 : ∀ d, k0 (ix3 b i d) = x0 (ix2 (rw8 b i) (lane e d))) (hk : ∀ j d, k (ix3 b j d) = cur p e b j d x1)
  (hkp : ∀ j d, kp (ix3 b j d) = prv p e b j d x1 x2) (hV : ∀ j, V (ix3 b j d) = cur p e b j d x3) (hW : ∀ j, W (ix3 b j d) = prv p e b j d x3 x4)
  (hw : ∀ j, w (ix3 0 i j) = x5 (ix3 e i ⟨128 + j.val, by omega⟩)) (hwp : ∀ j, wp (ix3 0 i j) = x5 (ix3 e i ⟨j.val, by omega⟩))
  (hz : z (ix2 0 0) = x6 (ix3 e 0 0)) (ho : o = 0 ↔ q.val % per p = 0)

include h0 hk hkp hV hW hw hwp hz ho in
theorem head_out' : k0_pay16 V W z (k0_pay9 k0 k w) (k0_pay10 o k0 kp wp) (k0_pay11 k0 k w) (ix2 (rw8 b i) d)
    = Cert.BandRow.out (sc p e b i x0 x1 x5) (sp p q e b i x0 x1 x2 x5) (x6 (ix3 e 0 0)) (fun j => cur p e b j d x3) (fun j => prv p e b j d x3 x4) := by
  rw [head_out]
  refine Cert.BandRow.out_congr (fun j => ?_) (fun j => ?_) hz hV hW
  · unfold sc
    simp only [h0, hk, hw]
  · unfold sp
    simp only [h0, hkp, hwp, ho]
include h0 hk hkp hw hwp hz ho in
theorem head_lse' : k0_pay18 (k0_pay17 z (k0_pay9 k0 k w) (k0_pay10 o k0 kp wp) (k0_pay11 k0 k w)) (ix5 0 0 b 0 i)
    = Cert.BandRow.lse (sc p e b i x0 x1 x5) (sp p q e b i x0 x1 x2 x5) (x6 (ix3 e 0 0)) := by
  rw [head_lse]
  refine Cert.BandRow.lse_congr (fun j => ?_) (fun j => ?_) hz
  · unfold sc
    simp only [h0, hk, hw]
  · unfold sp
    simp only [h0, hkp, hwp, ho]
end Head

/-- What the body leaves of the values mixed. -/
def O : EReal := Cert.BandRow.out (sc p e b i x0 x1 x5) (sp p q e b i x0 x1 x2 x5) (x6 (ix3 e 0 0)) (fun j => cur p e b j d x3) (fun j => prv p e b j d x3 x4)
/-- And of the log. -/
def L : EReal := Cert.BandRow.lse (sc p e b i x0 x1 x5) (sp p q e b i x0 x1 x2 x5) (x6 (ix3 e 0 0))

variable (I : grid0.Coords) (hp : (I 0).val = p.val) (hq : (I 1).val = q.val)

include hp in
theorem k34 : k0_pay34 I x0 x1 x2 x3 x4 x5 x6 (ix3 b j d) = cur p 0 b j d x1 := by
  unfold k0_pay34
  refine sel_ld p 0 b j d x1 _ ?_
  rw [hp]
  clear hp
  revert p
  decide +kernel
include hp in
theorem k35 : k0_pay35 I x0 x1 x2 x3 x4 x5 x6 (ix3 b j d) = cur p 0 b j d x3 := by
  unfold k0_pay35
  rw [hp]
  refine sel_ld p 0 b j d x3 _ ?_
  clear hp
  revert p
  decide +kernel
include hp in
theorem k41 : k0_pay41 I x0 x1 x2 x3 x4 x5 x6 (ix3 b j d) = cur p 1 b j d x1 := by
  unfold k0_pay41
  rw [hp]
  refine sel_ld p 1 b j d x1 _ ?_
  clear hp
  revert p
  decide +kernel
include hp in
theorem k42 : k0_pay42 I x0 x1 x2 x3 x4 x5 x6 (ix3 b j d) = cur p 1 b j d x3 := by
  unfold k0_pay42
  rw [hp]
  refine sel_ld p 1 b j d x3 _ ?_
  clear hp
  revert p
  decide +kernel
include hp in
theorem k43 : k0_pay43 I x0 x1 x2 x3 x4 x5 x6 (ix3 b j d) = prv p 1 b j d x1 x2 := by
  unfold k0_pay43
  rw [hp]
  refine prv_ld p 1 b j d x1 x2 _ (fun b => k41 p b j d x0 x1 x2 x3 x4 x5 x6 I hp) _ ?_
  clear hp
  revert p
  decide +kernel

theorem k33 : k0_pay33 I x0 x1 x2 x3 x4 x5 x6 (ix3 b i d) = x0 (ix2 (rw8 b i) (lane 0 d)) :=
  (pay3_at b i d _).trans (ld0 d x0 _)
theorem k40 : k0_pay40 I x0 x1 x2 x3 x4 x5 x6 (ix3 b i d) = x0 (ix2 (rw8 b i) (lane 1 d)) :=
  (pay3_at b i d (View.ld x0 r0_1)).trans (ld1 d x0 _)

set_option maxHeartbeats 4000000 in
include hp hq in
theorem out7 (y0 : Fin 1024) (y1 : Fin 128) (hy0 : y0 = rw8 b i) (hy1 : y1 = lane e d) :
    out0_7 I x0 x1 x2 x3 x4 x5 x6 (ix2 y0 y1) = O p q e b i d x0 x1 x2 x3 x4 x5 x6 := by
  unfold out0_7
  canon_tiles x h using (View.cover_of_tiledBy _ ![1024, 64] (by sl_kernel_rfl) _)
  · have h1' : y1.val = 64 + (x 1).val := h1
    have hx := (x 1).isLt
    have h0' : x 0 = rw8 b i := (Fin.ext h0.symm).trans hy0
    have he : e = 1 := by
      have := congrArg Fin.val hy1
      simp only at this
      refine Fin.ext ?_
      show e.val = 1
      have hx' : (x 1).val < 64 := hx
      omega
    subst he
    have h1'' : x 1 = d := by
      refine Fin.ext ?_
      have := congrArg Fin.val hy1
      simp only [Fin.val_one] at this
      omega
    rw [← ix2_eta x, h0', h1'']
    unfold k0_pay46 k0_pay45
    refine (congrFun (second_out _ _ _ _ _ _ _ _ _) _).trans ?_
    refine head_out' p q 1 b i d x0 x1 x2 x3 x4 x5 x6 _ _ _ _ _ _ _ _ _ (fun d => k40 b i d x0 x1 x2 x3 x4 x5 x6 I)
      (fun j d => k41 p b j d x0 x1 x2 x3 x4 x5 x6 I hp) (fun j d => k43 p b j d x0 x1 x2 x3 x4 x5 x6 I hp) (fun j => k42 p b j d x0 x1 x2 x3 x4 x5 x6 I hp)
      (fun j => ?_) (fun j => ld9 i j x5) (fun j => ld10 i j x5) (ld8 x6) ?_
    · rw [hp]
      refine prv_ld p 1 b j d x3 x4 _ (fun b => k42 p b j d x0 x1 x2 x3 x4 x5 x6 I hp) _ ?_
      clear * -
      revert p
      decide +kernel
    · rw [hp, hq]
      clear * -
      revert p q
      decide +kernel
  · have h1' : y1.val = (x 1).val := h1
    have hx := (x 1).isLt
    have h0' : x 0 = rw8 b i := (Fin.ext h0.symm).trans hy0
    have he : e = 0 := by
      have := congrArg Fin.val hy1
      simp only at this
      refine Fin.ext ?_
      show e.val = 0
      have hx' : (x 1).val < 64 := hx
      omega
    subst he
    have h1'' : x 1 = d := by
      refine Fin.ext ?_
      have := congrArg Fin.val hy1
      simp only [Fin.val_zero] at this
      omega
    rw [← ix2_eta x, h0', h1'']
    unfold k0_pay37 k0_pay38 k0_pay39
    refine head_out' p q 0 b i d x0 x1 x2 x3 x4 x5 x6 _ _ _ _ _ _ _ _ _ (fun d => k33 b i d x0 x1 x2 x3 x4 x5 x6 I)
      (fun j d => k34 p b j d x0 x1 x2 x3 x4 x5 x6 I hp) (fun j d => ?_) (fun j => k35 p b j d x0 x1 x2 x3 x4 x5 x6 I hp)
      (fun j => ?_) (fun j => ld5 i j x5) (fun j => ld6 i j x5) (ld4 x6) ?_
    · rw [hp]
      refine prv_ld p 0 b j d x1 x2 _ (fun b => k34 p b j d x0 x1 x2 x3 x4 x5 x6 I hp) _ ?_
      clear * -
      revert p
      decide +kernel
    · rw [hp]
      refine prv_ld p 0 b j d x3 x4 _ (fun b => k35 p b j d x0 x1 x2 x3 x4 x5 x6 I hp) _ ?_
      clear * -
      revert p
      decide +kernel
    · rw [hp, hq]
      clear * -
      revert p q
      decide +kernel

set_option maxHeartbeats 4000000 in
include hp hq in
theorem out8 (y3 : Fin 2) (hy : y3 = e) :
    out0_8 I x0 x1 x2 x3 x4 x5 x6 (ix5 0 0 b y3 i) = L p q e b i x0 x1 x2 x5 x6 := by
  obtain ⟨y0, g0⟩ : ∃ y : Fin 1, y = 0 := ⟨0, rfl⟩
  obtain ⟨y1, g1⟩ : ∃ y : Fin 1, y = 0 := ⟨0, rfl⟩
  obtain ⟨y2, g2⟩ : ∃ y : Fin 8, y = b := ⟨b, rfl⟩
  obtain ⟨y4, g4⟩ : ∃ y : Fin 128, y = i := ⟨i, rfl⟩
  rw [show (ix5 0 0 b y3 i : S1x1x8x2x128.Idx) = ix5 y0 y1 y2 y3 y4 by rw [g0, g1, g2, g4]]
  unfold out0_8
  canon_tiles x h using (View.cover_of_tiledBy _ ![1, 1, 8, 1, 128] (by sl_kernel_rfl) _)
  · have he : e = 1 := by
      have h3' : y3.val = 1 + (x 3).val := h3
      refine Fin.ext ?_
      rw [← hy]
      show y3.val = 1
      omega
    subst he
    rw [← ix5_eta x, show x 0 = (0 : Fin 1) from Subsingleton.elim (α := Fin 1) _ _, show x 1 = (0 : Fin 1) from Subsingleton.elim (α := Fin 1) _ _,
      show x 2 = b from (Fin.ext h2.symm).trans g2, show x 3 = (0 : Fin 1) from Subsingleton.elim (α := Fin 1) _ _, show x 4 = i from (Fin.ext h4.symm).trans g4]
    unfold k0_pay46 k0_pay45
    refine (congrFun (second_lse _ _ _ _ _ _ _) _).trans ?_
    refine head_lse' p q 1 b i x0 x1 x2 x5 x6 _ _ _ _ _ _ _ (fun d => k40 b i d x0 x1 x2 x3 x4 x5 x6 I)
      (fun j d => k41 p b j d x0 x1 x2 x3 x4 x5 x6 I hp) (fun j d => k43 p b j d x0 x1 x2 x3 x4 x5 x6 I hp)
      (fun j => ld9 i j x5) (fun j => ld10 i j x5) (ld8 x6) ?_
    rw [hp, hq]
    clear * -
    revert p q
    decide +kernel
  · have he : e = 0 := by
      have h3' : y3.val = (x 3).val := h3
      have hx : (x 3).val < 1 := (x 3).isLt
      refine Fin.ext ?_
      rw [← hy]
      show y3.val = 0
      omega
    subst he
    rw [← ix5_eta x, show x 0 = (0 : Fin 1) from Subsingleton.elim (α := Fin 1) _ _, show x 1 = (0 : Fin 1) from Subsingleton.elim (α := Fin 1) _ _,
      show x 2 = b from (Fin.ext h2.symm).trans g2, show x 3 = (0 : Fin 1) from Subsingleton.elim (α := Fin 1) _ _, show x 4 = i from (Fin.ext h4.symm).trans g4]
    unfold k0_pay37 k0_pay38 k0_pay39
    refine head_lse' p q 0 b i x0 x1 x2 x5 x6 _ _ _ _ _ _ _ (fun d => k33 b i d x0 x1 x2 x3 x4 x5 x6 I)
      (fun j d => k34 p b j d x0 x1 x2 x3 x4 x5 x6 I hp) (fun j d => ?_)
      (fun j => ld5 i j x5) (fun j => ld6 i j x5) (ld4 x6) ?_
    · rw [hp]
      refine prv_ld p 0 b j d x1 x2 _ (fun b => k34 p b j d x0 x1 x2 x3 x4 x5 x6 I hp) _ ?_
      clear * -
      revert p
      decide +kernel
    · rw [hp, hq]
      clear * -
      revert p q
      decide +kernel

end Cert.BandFwdIdeal.Point

end
-- ==== Proof.BandFwdValue.lean ====
/-
  The banded forward: what the kernel's two result arrays end holding, at the exact reals.
-/
module

public import proofs.«01_k».proof.Proof.Gen.BandFwdIdeal.Value
public import proofs.«01_k».proof.Proof.BandFwdPoint

@[expose] public section

noncomputable section

namespace Cert.BandFwdIdeal.Value

open Cert.BandFwdIdeal Cert.BandFwdIdeal.Gen Cert.BandFwdIdeal.Pay Cert.BandFwdIdeal.Point Idealize.ShloMosaic Idealize.ShloMosaic.TcCoe Idealize.SL.Sem
open Idealize.ShloMosaic.Pipeline (Dat)

variable (m : (ℓ : Loc nD τ sig) → Buf (Elt Ideal) ℓ)

/-- The packed columns, the bias, the sinks. -/
abbrev P (c : Dev nD) (i : Fin 16384) (k : Fin 3072) : EReal := m ((c : Thread nD τ).loc main_arg0) (ix2 i k)
abbrev B (c : Dev nD) (h : Fin 20) (i : Fin 128) (j : Fin 256) : EReal := m ((c : Thread nD τ).loc main_arg1) (ix3 h i j)
abbrev S (c : Dev nD) (h : Fin 8) : EReal := m ((c : Thread nD τ).loc main_arg2) (ix1 h)

/-- A point's pair of heads and its chunk of rows. -/
def pp (t : Fin cfg0.N) : Fin 10 := ⟨t.val / 16, by have := t.isLt; have : cfg0.N = 160 := N_0; omega⟩
def qq (t : Fin cfg0.N) : Fin 16 := ⟨t.val % 16, by omega⟩

theorem coords (t : Fin cfg0.N) : ((grid0.coords t) 0).val = (pp t).val ∧ ((grid0.coords t) 1).val = (qq t).val := by
  revert t
  decide +kernel

/-- Which block of 128 columns a pair's queries, keys and values are. -/
def qb (p : Fin 10) : ℕ := if p.val < 4 then p.val else 6 + 6 * ((p.val - 4) / 2) + (p.val - 4) % 2
def kb (p : Fin 10) : ℕ := if p.val < 4 then 4 else qb p + 2
def vb (p : Fin 10) : ℕ := if p.val < 4 then 5 else qb p + 4
theorem qb_lt (p : Fin 10) : qb p < 24 ∧ kb p < 24 ∧ vb p < 24 := by
  revert p
  decide +kernel

theorem idx (t : Fin cfg0.N) : win0_0.index t = ![(qq t).val, qb (pp t)] ∧ win0_1.index t = ![(qq t).val, kb (pp t)]
    ∧ win0_2.index t = ![(qq t).val * 8 - 1, kb (pp t)] ∧ win0_3.index t = ![(qq t).val, vb (pp t)]
    ∧ win0_4.index t = ![(qq t).val * 8 - 1, vb (pp t)] ∧ win0_5.index t = ![(pp t).val, 0, 0] ∧ win0_6.index t = ![(pp t).val, 0, 0]
    ∧ win0_7.index t = ![(qq t).val, (pp t).val] ∧ win0_8.index t = ![(pp t).val, (qq t).val, 0, 0, 0] := by
  revert t
  decide +kernel

variable (c : Dev nD) (t : Fin cfg0.N)

theorem blk0 (r : Fin 1024) (k : Fin 128) : iblk m c 0 t (ix2 r k)
    = P m c ⟨(qq t).val * 1024 + r.val, by omega⟩ ⟨qb (pp t) * 128 + k.val, by have := qb_lt (pp t); omega⟩ := by
  blk_simp [iblk, idx t]
  entry_read
  pointwise
  blk_ext [iblk, V, idx t]
theorem blk1 (r : Fin 1024) (k : Fin 128) : iblk m c 1 t (ix2 r k)
    = P m c ⟨(qq t).val * 1024 + r.val, by omega⟩ ⟨kb (pp t) * 128 + k.val, by have := qb_lt (pp t); omega⟩ := by
  blk_simp [iblk, idx t]
  entry_read
  pointwise
  blk_ext [iblk, V, idx t]
theorem blk2 (r : Fin 128) (k : Fin 128) : iblk m c 2 t (ix2 r k)
    = P m c ⟨((qq t).val * 8 - 1) * 128 + r.val, by omega⟩ ⟨kb (pp t) * 128 + k.val, by have := qb_lt (pp t); omega⟩ := by
  blk_simp [iblk, idx t]
  entry_read
  pointwise
  blk_ext [iblk, V, idx t]
theorem blk3 (r : Fin 1024) (k : Fin 128) : iblk m c 3 t (ix2 r k)
    = P m c ⟨(qq t).val * 1024 + r.val, by omega⟩ ⟨vb (pp t) * 128 + k.val, by have := qb_lt (pp t); omega⟩ := by
  blk_simp [iblk, idx t]
  entry_read
  pointwise
  blk_ext [iblk, V, idx t]
theorem blk4 (r : Fin 128) (k : Fin 128) : iblk m c 4 t (ix2 r k)
    = P m c ⟨((qq t).val * 8 - 1) * 128 + r.val, by omega⟩ ⟨vb (pp t) * 128 + k.val, by have := qb_lt (pp t); omega⟩ := by
  blk_simp [iblk, idx t]
  entry_read
  pointwise
  blk_ext [iblk, V, idx t]
/-- The head: of a pair, one of two. -/
def hd (e : Fin 2) : Fin 20 := ⟨(pp t).val * 2 + e.val, by omega⟩
theorem blk5 (e : Fin 2) (i : Fin 128) (k : Fin 256) : iblk m c 5 t (ix3 e i k) = B m c (hd t e) i k := by
  unfold hd
  blk_ext [iblk, V, idx t]
theorem blk6 (e : Fin 2) : iblk m c 6 t (ix3 e 0 0) = Cert.BandRow.sk (S m c) (hd t e) := by
  blk_simp [iblk, idx t]
  entry_read
  pointwise
  have hs : ((View.whole main_v3).slice (win0_6.rect t)).emb (ix3 e 0 0) = ix3 (hd t e) 0 0 := by
    unfold hd
    blk_ext [idx t]
  erw [hs]
  unfold Cert.BandRow.sk
  exact dite_congr rfl (fun _ => rfl) fun _ => Cert.BandRow.cBot

/-- The block of 128 rows. -/
def nb (b : Fin 8) : Fin 128 := ⟨(qq t).val * 8 + b.val, by omega⟩

section Cols
variable (p : Fin 10) (e : Fin 2) (d : Fin 64)
theorem colq : qb p * 128 + (e.val * 64 + d.val) = (Cert.BandRow.qc ⟨p.val * 2 + e.val, by omega⟩ d).val := by
  unfold qb Cert.BandRow.qc
  simp only
  split_ifs <;> omega
theorem colk : kb p * 128 + ((hf p e).val * 64 + d.val) = (Cert.BandRow.kc ⟨p.val * 2 + e.val, by omega⟩ d).val := by
  unfold kb qb Cert.BandRow.kc hf
  simp only
  split_ifs <;> (try simp only) <;> omega
theorem colv : vb p * 128 + ((hf p e).val * 64 + d.val) = (Cert.BandRow.vc ⟨p.val * 2 + e.val, by omega⟩ d).val := by
  unfold vb qb Cert.BandRow.vc hf
  simp only
  split_ifs <;> (try simp only) <;> omega
end Cols

variable (e : Fin 2) (b : Fin 8) (i j : Fin 128) (d : Fin 64)

theorem first : ((qq t).val % Point.per (pp t) = 0 ∧ b.val = 0) ↔ (nb t b).val % Cert.BandRow.per (hd t e) = 0 := by
  show (_ ↔ ((qq t).val * 8 + b.val) % Cert.BandRow.per ⟨(pp t).val * 2 + e.val, by omega⟩ = 0)
  unfold Point.per Cert.BandRow.per
  simp only
  have := (qq t).isLt
  split_ifs <;> omega

theorem xq : iblk m c 0 t (ix2 (rw8 b i) (lane e d)) = P m c (Cert.BandRow.rw' (nb t b) i) (Cert.BandRow.qc (hd t e) d) := by
  rw [blk0]
  refine congrArg₂ (P m c) (Fin.ext ?_) (Fin.ext (colq (pp t) e d))
  show (qq t).val * 1024 + (b.val * 128 + i.val) = ((qq t).val * 8 + b.val) * 128 + i.val
  omega
theorem xk : cur (pp t) e b j d (iblk m c 1 t) = P m c (Cert.BandRow.rw' (nb t b) j) (Cert.BandRow.kc (hd t e) d) := by
  unfold cur
  rw [blk1]
  refine congrArg₂ (P m c) (Fin.ext ?_) (Fin.ext (colk (pp t) e d))
  show (qq t).val * 1024 + (b.val * 128 + j.val) = ((qq t).val * 8 + b.val) * 128 + j.val
  omega
theorem xv : cur (pp t) e b j d (iblk m c 3 t) = P m c (Cert.BandRow.rw' (nb t b) j) (Cert.BandRow.vc (hd t e) d) := by
  unfold cur
  rw [blk3]
  refine congrArg₂ (P m c) (Fin.ext ?_) (Fin.ext (colv (pp t) e d))
  show (qq t).val * 1024 + (b.val * 128 + j.val) = ((qq t).val * 8 + b.val) * 128 + j.val
  omega
theorem xkp : prv (pp t) e b j d (iblk m c 1 t) (iblk m c 2 t) = P m c (Cert.BandRow.pw (nb t b) j) (Cert.BandRow.kc (hd t e) d) := by
  unfold prv
  split
  · rw [blk2]
    refine congrArg₂ (P m c) (Fin.ext ?_) (Fin.ext (colk (pp t) e d))
    show ((qq t).val * 8 - 1) * 128 + j.val = ((qq t).val * 8 + b.val - 1) * 128 + j.val
    omega
  · rw [xk]
    refine congrArg₂ (P m c) (Fin.ext ?_) rfl
    show ((qq t).val * 8 + (b.val - 1)) * 128 + j.val = ((qq t).val * 8 + b.val - 1) * 128 + j.val
    omega
theorem xvp : prv (pp t) e b j d (iblk m c 3 t) (iblk m c 4 t) = P m c (Cert.BandRow.pw (nb t b) j) (Cert.BandRow.vc (hd t e) d) := by
  unfold prv
  split
  · rw [blk4]
    refine congrArg₂ (P m c) (Fin.ext ?_) (Fin.ext (colv (pp t) e d))
    show ((qq t).val * 8 - 1) * 128 + j.val = ((qq t).val * 8 + b.val - 1) * 128 + j.val
    omega
  · rw [xv]
    refine congrArg₂ (P m c) (Fin.ext ?_) rfl
    show ((qq t).val * 8 + (b.val - 1)) * 128 + j.val = ((qq t).val * 8 + b.val - 1) * 128 + j.val
    omega

theorem sc_eq : Point.sc (pp t) e b i (iblk m c 0 t) (iblk m c 1 t) (iblk m c 5 t) j = Cert.BandRow.sc (P m c) (B m c) (hd t e) (nb t b) i j := by
  unfold Point.sc Cert.BandRow.sc
  simp only [xq, xk, blk5]
theorem sp_eq : Point.sp (pp t) (qq t) e b i (iblk m c 0 t) (iblk m c 1 t) (iblk m c 2 t) (iblk m c 5 t) j
    = Cert.BandRow.sp (P m c) (B m c) (hd t e) (nb t b) i j := by
  unfold Point.sp Cert.BandRow.sp
  simp only [xq, xkp, blk5, first t e b]

theorem pt7 : O (pp t) (qq t) e b i d (iblk m c 0 t) (iblk m c 1 t) (iblk m c 2 t) (iblk m c 3 t) (iblk m c 4 t) (iblk m c 5 t) (iblk m c 6 t)
    = Cert.BandRow.o (P m c) (B m c) (S m c) (hd t e) (nb t b) i d := by
  unfold O Cert.BandRow.o
  exact Cert.BandRow.out_congr (fun j => sc_eq m c t e b i j) (fun j => sp_eq m c t e b i j) (blk6 m c t e) (fun j => xv m c t e b j d) (fun j => xvp m c t e b j d)
theorem pt8 : L (pp t) (qq t) e b i (iblk m c 0 t) (iblk m c 1 t) (iblk m c 2 t) (iblk m c 5 t) (iblk m c 6 t)
    = Cert.BandRow.l (P m c) (B m c) (S m c) (hd t e) (nb t b) i := by
  unfold L Cert.BandRow.l
  exact Cert.BandRow.lse_congr (fun j => sc_eq m c t e b i j) (fun j => sp_eq m c t e b i j) (blk6 m c t e)

/-- The values mixed: every head's rows. -/
def W7 (x : S16384x1280.Idx) : EReal :=
  Cert.BandRow.o (P m c) (B m c) (S m c) ⟨(x 1).val / 64, by have : (x 1).val < 1280 := (x 1).isLt; omega⟩
        ⟨(x 0).val / 128, by have : (x 0).val < 16384 := (x 0).isLt; omega⟩ ⟨(x 0).val % 128, by omega⟩ ⟨(x 1).val % 64, by omega⟩
/-- The logs of the sums. -/
def W8 (x : S10x16x8x2x128.Idx) : EReal :=
  Cert.BandRow.l (P m c) (B m c) (S m c)
        ⟨(x 0).val * 2 + (x 3).val, by have : (x 0).val < 10 := (x 0).isLt; have : (x 3).val < 2 := (x 3).isLt; omega⟩
        ⟨(x 1).val * 8 + (x 2).val, by have : (x 1).val < 16 := (x 1).isLt; have : (x 2).val < 8 := (x 2).isLt; omega⟩ (x 4)

/-- The values mixed: every head's rows. -/
theorem final7 : (dats m 0 c).arrAt 7 cfg0.N
    = W7 m c := by
  refine (dats m 0 c).arrAt_eq_of_covers 7 _ (by decide +kernel) fun t hf y => ?_
  have hrow : ∀ (r : Fin 1024) (k : Fin 128), ((View.whole main_v5_0).slice (win0_7.rect t)).emb (ix2 r k)
      = ix2 (⟨(qq t).val * 1024 + r.val, by omega⟩ : Fin 16384) (⟨(pp t).val * 128 + k.val, by omega⟩ : Fin 1280) := fun r k => by
    blk_ext [idx t]
  blk_simp
  rw [after0_7]
  idx_vars y
  refine (out7 (pp t) (qq t) ⟨y1.val / 64, by omega⟩ ⟨y0.val / 128, by omega⟩ ⟨y0.val % 128, by omega⟩ ⟨y1.val % 64, by omega⟩ _ _ _ _ _ _ _ (grid0.coords t)
    (coords t).1 (coords t).2 y0 y1 (Fin.ext (by simp only [rw8]; omega)) (Fin.ext (by simp only; omega))).trans ?_
  rw [pt7]
  erw [hrow]
  unfold W7
  refine congr (congr (congr (congrArg _ (Fin.ext ?_)) (Fin.ext ?_)) (Fin.ext ?_)) (Fin.ext ?_)
  · show (pp t).val * 2 + y1.val / 64 = ((pp t).val * 128 + y1.val) / 64
    omega
  · show (qq t).val * 8 + y0.val / 128 = ((qq t).val * 1024 + y0.val) / 128
    omega
  · show y0.val % 128 = ((qq t).val * 1024 + y0.val) % 128
    omega
  · show y1.val % 64 = ((pp t).val * 128 + y1.val) % 64
    omega

/-- The logs of the sums. -/
theorem final8 : (dats m 0 c).arrAt 8 cfg0.N
    = W8 m c := by
  refine (dats m 0 c).arrAt_eq_of_covers 8 _ (by decide +kernel) fun t hf y => ?_
  have hrow : ∀ (b : Fin 8) (e : Fin 2) (i : Fin 128), ((View.whole main_v5_1).slice (win0_8.rect t)).emb (ix5 0 0 b e i)
      = ix5 (pp t) (qq t) b e i := fun b e i => by
    blk_ext [idx t]
  blk_simp
  rw [after0_8]
  idx_vars y
  obtain rfl : y0 = 0 := Subsingleton.elim (α := Fin 1) _ _
  obtain rfl : y1 = 0 := Subsingleton.elim (α := Fin 1) _ _
  refine (out8 (pp t) (qq t) y3 y2 y4 _ _ _ _ _ _ _ (grid0.coords t) (coords t).1 (coords t).2 y3 rfl).trans ?_
  rw [pt8]
  erw [hrow]
  rfl

end Cert.BandFwdIdeal.Value

end
-- ==== Proof.BandFwdTieA.lean ====
/-
  The reference's banded attention, the first kind: what its operations leave.
-/
module

public import proofs.«01_k».proof.Proof.Gen.BandFwdRefIdeal.Read
public import proofs.«01_k».proof.Proof.BandFwdRow
public import proofs.«01_k».proof.Proof.Pieces

@[expose] public section

noncomputable section

namespace Cert.BandFwdTieA

open Cert.BandFwdRefIdeal Cert.BandFwdRefIdeal.Read Idealize.ShloMosaic Idealize.ShloMosaic.TcCoe Idealize.SL.Sem
open Cert.BandRow (σ cBot)

theorem and_bit (a b : Bool) : IntOp.andi (BitVec.ofBool a) (BitVec.ofBool b) = BitVec.ofBool (a && b) := by
  revert a b
  decide
theorem lt_bit (j : Fin 256) : IntOp.cmpi CmpIPredicate.slt (BitVec.ofNat 32 j.val) 128#32 = BitVec.ofBool (decide (j.val < 128)) := by
  revert j
  decide +kernel
theorem rem_bit (n : Fin 128) : IntOp.cmpi CmpIPredicate.eq (IntOp.remsi ArithUnit.host (BitVec.ofNat 32 n.val) 128#32) 0#32 = BitVec.ofBool (decide (n.val % 128 = 0))
    ∧ IntOp.cmpi CmpIPredicate.eq (IntOp.remsi ArithUnit.host (BitVec.ofNat 32 n.val) 32#32) 0#32 = BitVec.ofBool (decide (n.val % 32 = 0))
    ∧ IntOp.cmpi CmpIPredicate.eq (IntOp.remsi ArithUnit.host (BitVec.ofNat 32 n.val) 8#32) 0#32 = BitVec.ofBool (decide (n.val % 8 = 0)) := by
  revert n
  decide +kernel
theorem select_bool {α : Type} (b : Bool) (x y : α) : Scalar.select (BitVec.ofBool b) x y = if b then x else y := by
  cases b <;> rfl

/-- A host maximum from −∞ over a row is the largest. -/
theorem maxOf (x : (⟨4, ![128, 8, 128, 256]⟩ : Shape).Idx → Ideal .f32) (i : S_.Idx → Ideal .f32) (hi : ∀ j, i j = ⊥)
    (hr : Shape.ReducesTo ⟨4, ![128, 8, 128, 256]⟩ [3] ⟨3, ![128, 8, 128]⟩) (hu) (n : Fin 128) (h : Fin 8) (q : Fin 128) :
    Host.reduce (FloatOps.maximumf (F := Ideal) (φ := .f32)) x i hr hu (ix3 n h q)
      = (Finset.univ : Finset (Fin 256)).fold max (⊥ : EReal) (fun k => x (ix4 n h q k)) := by
  rw [Host.reduce_eq_fold_single (FloatOps.maximumf (F := Ideal) (φ := .f32)) x i hr (by decide +kernel) hu (ix3 n h q), hi]
  refine Finset.fold_congr fun k _ => congrArg x ?_
  funext a
  fin_cases a <;> rfl

variable (x0 : FVec Ideal S16384x3072 .f32) (x1 : FVec Ideal S20x128x256 .f32) (x2 : FVec Ideal S8 .f32)

abbrev P : Fin 16384 → Fin 3072 → EReal := fun i k => x0 (ix2 i k)
abbrev B : Fin 20 → Fin 128 → Fin 256 → EReal := fun h i j => x1 (ix3 h i j)
abbrev S : Fin 8 → EReal := fun h => x2 (ix1 h)

variable (n : Fin 128) (h : Fin 8) (i j : Fin 128) (x : Fin 256) (d : Fin 64)

abbrev hd (h : Fin 8) : Fin 20 := ⟨h.val, by omega⟩
theorem hd_per : Cert.BandRow.per (hd h) = 128 := by
  revert h
  decide +kernel

theorem q_at : val_main_v20 (F := Ideal) x0 (ix4 n i h d) = P x0 (Cert.BandRow.rw' n i) (Cert.BandRow.qc (hd h) d) := by
  pointwise [val_main_v20, val_main_v3, val_main_v2, val_main_v0]
  refine congrArg x0 (congrArg₂ ix2 (Fin.ext rfl) (Fin.ext ?_))
  unfold Cert.BandRow.qc
  simp only
  split_ifs <;> omega

theorem k_raw : val_main_v25 (F := Ideal) x0 (ix4 n x h d) = if x.val < 128 then (if n.val < 1 then 0 else P x0 ⟨(n.val - 1) * 128 + x.val % 128, by omega⟩ (Cert.BandRow.kc (hd h) d))
    else P x0 ⟨n.val * 128 + (x.val - 128), by omega⟩ (Cert.BandRow.kc (hd h) d) := by
  have hc : ∀ (c : Fin 3072) , c.val = 512 + (h.val / 4 * 64 + d.val) → c = Cert.BandRow.kc (hd h) d := fun c e => by
    refine Fin.ext (e.trans ?_)
    unfold Cert.BandRow.kc
    simp only
    split_ifs <;> omega
  pointwise [val_main_v25, val_main_v24, val_main_v22, val_main_cst, val_main_v23, val_main_v21, val_main_v8, val_main_v7, val_main_v6, val_main_v4, val_main_v0]
  split
  · rename_i hx
    split
    · rfl
    · exact congrArg x0 (congrArg₂ ix2 (Fin.ext (by show (n.val - 1) * 128 + x.val = (n.val - 1) * 128 + x.val % 128; omega)) (hc _ (by (try simp only) <;> omega)))
  · exact congrArg x0 (congrArg₂ ix2 rfl (hc _ (by (try simp only) <;> omega)))
theorem k_cur : val_main_v25 (F := Ideal) x0 (ix4 n ⟨128 + j.val, Cert.BandRow.hi_lt j⟩ h d) = P x0 (Cert.BandRow.rw' n j) (Cert.BandRow.kc (hd h) d) := by
  rw [k_raw, if_neg (by simp only; omega)]
  exact congrArg₂ (P x0) (Fin.ext (by show n.val * 128 + (128 + j.val - 128) = n.val * 128 + j.val; omega)) rfl
theorem k_prev (hn : ¬ n.val < 1) : val_main_v25 (F := Ideal) x0 (ix4 n ⟨j.val, Cert.BandRow.lo_lt j⟩ h d) = P x0 (Cert.BandRow.pw n j) (Cert.BandRow.kc (hd h) d) := by
  rw [k_raw, if_pos (by simp only; omega), if_neg hn]
  exact congrArg₂ (P x0) (Fin.ext (by show (n.val - 1) * 128 + j.val % 128 = (n.val - 1) * 128 + j.val; omega)) rfl

theorem v_raw : val_main_v30 (F := Ideal) x0 (ix4 n x h d) = if x.val < 128 then (if n.val < 1 then 0 else P x0 ⟨(n.val - 1) * 128 + x.val % 128, by omega⟩ (Cert.BandRow.vc (hd h) d))
    else P x0 ⟨n.val * 128 + (x.val - 128), by omega⟩ (Cert.BandRow.vc (hd h) d) := by
  have hc : ∀ (c : Fin 3072) , c.val = 640 + (h.val / 4 * 64 + d.val) → c = Cert.BandRow.vc (hd h) d := fun c e => by
    refine Fin.ext (e.trans ?_)
    unfold Cert.BandRow.vc
    simp only
    split_ifs <;> omega
  pointwise [val_main_v30, val_main_v29, val_main_v27, val_main_cst_1, val_main_v28, val_main_v26, val_main_v11, val_main_v10, val_main_v9, val_main_v5, val_main_v0]
  split
  · rename_i hx
    split
    · rfl
    · exact congrArg x0 (congrArg₂ ix2 (Fin.ext (by show (n.val - 1) * 128 + x.val = (n.val - 1) * 128 + x.val % 128; omega)) (hc _ (by (try simp only) <;> omega)))
  · exact congrArg x0 (congrArg₂ ix2 rfl (hc _ (by (try simp only) <;> omega)))
theorem v_cur : val_main_v30 (F := Ideal) x0 (ix4 n ⟨128 + j.val, Cert.BandRow.hi_lt j⟩ h d) = P x0 (Cert.BandRow.rw' n j) (Cert.BandRow.vc (hd h) d) := by
  rw [v_raw, if_neg (by simp only; omega)]
  exact congrArg₂ (P x0) (Fin.ext (by show n.val * 128 + (128 + j.val - 128) = n.val * 128 + j.val; omega)) rfl
theorem v_prev (hn : ¬ n.val < 1) : val_main_v30 (F := Ideal) x0 (ix4 n ⟨j.val, Cert.BandRow.lo_lt j⟩ h d) = P x0 (Cert.BandRow.pw n j) (Cert.BandRow.vc (hd h) d) := by
  rw [v_raw, if_pos (by simp only; omega), if_neg hn]
  exact congrArg₂ (P x0) (Fin.ext (by show (n.val - 1) * 128 + j.val % 128 = (n.val - 1) * 128 + j.val; omega)) rfl

theorem lg_at : val_main_v36 (F := Ideal) x0 x1 (ix4 n h i x)
    = (∑ d, val_main_v20 (F := Ideal) x0 (ix4 n i h d) * val_main_v25 (F := Ideal) x0 (ix4 n x h d)) * σ + B x1 (hd h) i x := by
  pointwise [val_main_v36, val_main_v33, val_main_v32, val_main_v31, val_main_cst_2, val_main_v35, val_main_v34, val_main_v12]
theorem bit : val_main_call0_v1 (F := Ideal) (ix4 n h i x) = BitVec.ofBool (decide (n.val % Cert.BandRow.per (hd h) = 0) && decide (x.val < 128)) := by
  rw [hd_per]
  pointwise [val_main_call0_v1, val_main_v44, val_main_v43, val_main_v42, val_main_v41, val_main_v40, val_main_v39, val_main_v38, val_main_v37, val_main_v19, val_main_v18, val_main_v17, val_main_v16, val_main_v15, val_main_v14, val_main_v13, val_main_c, val_main_c_0, val_main_c_3]
  rw [(rem_bit n).1, lt_bit, and_bit]
theorem ms_at : val_main_v45 (F := Ideal) x0 x1 (ix4 n h i x) = if (decide (n.val % Cert.BandRow.per (hd h) = 0) && decide (x.val < 128)) = true then ⊥
    else (∑ d, val_main_v20 (F := Ideal) x0 (ix4 n i h d) * val_main_v25 (F := Ideal) x0 (ix4 n x h d)) * σ + B x1 (hd h) i x := by
  rw [← lg_at, ← select_bool, ← bit n h i x, ← cBot]
  pointwise [val_main_v45, val_main_call0_v2, val_main_call0_v0, val_main_cst_4]
  rfl

theorem ms_cur : val_main_v45 (F := Ideal) x0 x1 (ix4 n h i ⟨128 + j.val, Cert.BandRow.hi_lt j⟩) = Cert.BandRow.sc (P x0) (B x1) (hd h) n i j := by
  rw [ms_at, if_neg (by simp)]
  unfold Cert.BandRow.sc
  simp only [q_at, k_cur]
theorem ms_prev : val_main_v45 (F := Ideal) x0 x1 (ix4 n h i ⟨j.val, Cert.BandRow.lo_lt j⟩) = Cert.BandRow.sp (P x0) (B x1) (hd h) n i j := by
  rw [ms_at]
  unfold Cert.BandRow.sp
  by_cases hn : n.val % Cert.BandRow.per (hd h) = 0
  · rw [if_pos (by simp [hn]), if_pos hn]
  · rw [if_neg (by simp [hn]), if_neg hn]
    have hn' : ¬ n.val < 1 := fun e => hn (by rw [show n.val = 0 by omega, Nat.zero_mod])
    simp only [q_at, k_prev _ _ _ _ _ hn']

theorem v_or : val_main_v30 (F := Ideal) x0 (ix4 n ⟨j.val, Cert.BandRow.lo_lt j⟩ h d) = P x0 (Cert.BandRow.pw n j) (Cert.BandRow.vc (hd h) d)
    ∨ Cert.BandRow.sp (P x0) (B x1) (hd h) n i j = ⊥ := by
  by_cases hn : n.val < 1
  · right
    unfold Cert.BandRow.sp
    rw [if_pos (by rw [show n.val = 0 by omega, Nat.zero_mod])]
  · exact Or.inl (v_prev _ _ _ _ _ hn)

theorem add_log (a b : FVec Ideal S128x8x128 .f32) (i : S128x8x128.Idx) : addf a (Host.log b) i = (a i : EReal) + Ideal.log (b i) := rfl
theorem max_of (a b : FVec Ideal S128x8x128 .f32) (i : S128x8x128.Idx) : maximumf a b i = max (a i : EReal) (b i) := rfl
/-- The row's largest. -/
abbrev M : EReal := Cert.BandRow.mx (Cert.BandRow.sc (P x0) (B x1) (hd h) n i) (Cert.BandRow.sp (P x0) (B x1) (hd h) n i) (S x2 h)

theorem sk_at : Cert.BandRow.sk (S x2) (hd h) = S x2 h := by
  unfold Cert.BandRow.sk
  exact dif_pos h.isLt
theorem max0 : val_main_v46 (F := Ideal) x0 x1 (ix3 n h i) = (Finset.univ : Finset (Fin 256)).fold max (⊥ : EReal) (fun x => val_main_v45 (F := Ideal) x0 x1 (ix4 n h i x)) := by
  unfold val_main_v46
  rw [maxOf (val_main_v45 (F := Ideal) x0 x1) (val_main_cst_5 (F := Ideal)) (fun _ => cBot)]
theorem max_at : val_main_v49 (F := Ideal) x0 x1 x2 (ix3 n h i) = M x0 x1 x2 n h i := by
  have e : (val_main_v48 (F := Ideal) x2 (ix3 n h i) : EReal) = S x2 h := by
    pointwise [val_main_v48, val_main_v47]
  unfold val_main_v49
  rw [max_of, max0, e]
  exact Cert.BandRow.mx_run (fun x => val_main_v45 (F := Ideal) x0 x1 (ix4 n h i x)) _ _ _ (fun j => ms_cur x0 x1 n h i j) (fun j => ms_prev x0 x1 n h i j)
theorem ex_at : val_main_v53 (F := Ideal) x0 x1 x2 (ix4 n h i x) = Ideal.exp (val_main_v45 (F := Ideal) x0 x1 (ix4 n h i x) - M x0 x1 x2 n h i) := by
  rw [← max_at]
  pointwise [val_main_v53, val_main_v52, val_main_v51, val_main_v50]
theorem sm_at : val_main_v58 (F := Ideal) x0 x1 x2 (ix3 n h i)
    = Cert.BandRow.sm (Cert.BandRow.sc (P x0) (B x1) (hd h) n i) (Cert.BandRow.sp (P x0) (B x1) (hd h) n i) (S x2 h) := by
  rw [← Cert.BandRow.sm_run (fun x => val_main_v45 (F := Ideal) x0 x1 (ix4 n h i x)) _ _ _ (fun j => ms_cur x0 x1 n h i j) (fun j => ms_prev x0 x1 n h i j)]
  pointwise [val_main_v58, val_main_v57, val_main_v56, val_main_v55, val_main_v54, val_main_cst_6, val_main_v47]
  simp only [ex_at, max_at]
theorem o_at : val_main_v64 (F := Ideal) x0 x1 x2 (ix4 n i h d) = Cert.BandRow.o (P x0) (B x1) (S x2) (hd h) n i d := by
  unfold Cert.BandRow.o
  rw [sk_at, ← Cert.BandRow.out_run (fun x => val_main_v45 (F := Ideal) x0 x1 (ix4 n h i x)) (fun x => val_main_v30 (F := Ideal) x0 (ix4 n x h d)) _ _ _ _ _ (fun j => ms_cur x0 x1 n h i j) (fun j => ms_prev x0 x1 n h i j) (fun j => v_cur x0 n h j d) (fun j => v_or x0 x1 n h i j d),
    ← sm_at]
  pointwise [val_main_v64, val_main_v63, val_main_v62, val_main_v61, val_main_v60, val_main_v59]
  simp only [ex_at]
theorem l_at : val_main_v67 (F := Ideal) x0 x1 x2 (ix3 n h i) = Cert.BandRow.l (P x0) (B x1) (S x2) (hd h) n i := by
  unfold Cert.BandRow.l Cert.BandRow.lse
  rw [sk_at, ← sm_at, show Cert.BandRow.mx _ _ _ = _ from (max_at x0 x1 x2 n h i).symm]
  unfold val_main_v67 val_main_v66
  exact add_log _ _ _

end Cert.BandFwdTieA

end
-- ==== Proof.BandFwdTieB.lean ====
/-
  The reference's banded attention, the second kind: what its operations leave.
-/
module

public import proofs.«01_k».proof.Proof.Gen.BandFwdRefIdeal.Read
public import proofs.«01_k».proof.Proof.BandFwdRow
public import proofs.«01_k».proof.Proof.Pieces

@[expose] public section

noncomputable section

namespace Cert.BandFwdTieB

open Cert.BandFwdRefIdeal Cert.BandFwdRefIdeal.Read Idealize.ShloMosaic Idealize.ShloMosaic.TcCoe Idealize.SL.Sem
open Cert.BandRow (σ cBot)

theorem and_bit (a b : Bool) : IntOp.andi (BitVec.ofBool a) (BitVec.ofBool b) = BitVec.ofBool (a && b) := by
  revert a b
  decide
theorem lt_bit (j : Fin 256) : IntOp.cmpi CmpIPredicate.slt (BitVec.ofNat 32 j.val) 128#32 = BitVec.ofBool (decide (j.val < 128)) := by
  revert j
  decide +kernel
theorem rem_bit (n : Fin 128) : IntOp.cmpi CmpIPredicate.eq (IntOp.remsi ArithUnit.host (BitVec.ofNat 32 n.val) 128#32) 0#32 = BitVec.ofBool (decide (n.val % 128 = 0))
    ∧ IntOp.cmpi CmpIPredicate.eq (IntOp.remsi ArithUnit.host (BitVec.ofNat 32 n.val) 32#32) 0#32 = BitVec.ofBool (decide (n.val % 32 = 0))
    ∧ IntOp.cmpi CmpIPredicate.eq (IntOp.remsi ArithUnit.host (BitVec.ofNat 32 n.val) 8#32) 0#32 = BitVec.ofBool (decide (n.val % 8 = 0)) := by
  revert n
  decide +kernel
theorem select_bool {α : Type} (b : Bool) (x y : α) : Scalar.select (BitVec.ofBool b) x y = if b then x else y := by
  cases b <;> rfl

/-- A host maximum from −∞ over a row is the largest. -/
theorem maxOf (x : (⟨4, ![128, 12, 128, 256]⟩ : Shape).Idx → Ideal .f32) (i : S_.Idx → Ideal .f32) (hi : ∀ j, i j = ⊥)
    (hr : Shape.ReducesTo ⟨4, ![128, 12, 128, 256]⟩ [3] ⟨3, ![128, 12, 128]⟩) (hu) (n : Fin 128) (h : Fin 12) (q : Fin 128) :
    Host.reduce (FloatOps.maximumf (F := Ideal) (φ := .f32)) x i hr hu (ix3 n h q)
      = (Finset.univ : Finset (Fin 256)).fold max (⊥ : EReal) (fun k => x (ix4 n h q k)) := by
  rw [Host.reduce_eq_fold_single (FloatOps.maximumf (F := Ideal) (φ := .f32)) x i hr (by decide +kernel) hu (ix3 n h q), hi]
  refine Finset.fold_congr fun k _ => congrArg x ?_
  funext a
  fin_cases a <;> rfl

variable (x0 : FVec Ideal S16384x3072 .f32) (x1 : FVec Ideal S20x128x256 .f32) (x2 : FVec Ideal S8 .f32)

abbrev P : Fin 16384 → Fin 3072 → EReal := fun i k => x0 (ix2 i k)
abbrev B : Fin 20 → Fin 128 → Fin 256 → EReal := fun h i j => x1 (ix3 h i j)
abbrev S : Fin 8 → EReal := fun h => x2 (ix1 h)

variable (n : Fin 128) (h : Fin 12) (i j : Fin 128) (x : Fin 256) (d : Fin 64)

abbrev hd (h : Fin 12) : Fin 20 := ⟨8 + h.val, by omega⟩
theorem hd_per : Cert.BandRow.per (hd h) = if h.val < 4 then 128 else if h.val - 4 < 4 then 32 else 8 := by
  revert h
  decide +kernel

theorem q_at : val_main_v103 (F := Ideal) x0 (ix4 n i h d) = P x0 (Cert.BandRow.rw' n i) (Cert.BandRow.qc (hd h) d) := by
  pointwise [val_main_v103, val_main_v73, val_main_v72, val_main_v71, val_main_v70, val_main_v1]
  refine congrArg x0 (congrArg₂ ix2 (Fin.ext rfl) (Fin.ext ?_))
  unfold Cert.BandRow.qc
  simp only
  split_ifs <;> omega

theorem k_raw : val_main_v108 (F := Ideal) x0 (ix4 n x h d) = if x.val < 128 then (if n.val < 1 then 0 else P x0 ⟨(n.val - 1) * 128 + x.val % 128, by omega⟩ (Cert.BandRow.kc (hd h) d))
    else P x0 ⟨n.val * 128 + (x.val - 128), by omega⟩ (Cert.BandRow.kc (hd h) d) := by
  have hc : ∀ (c : Fin 3072) , c.val = 768 + (h.val / 4 * 768 + 256 + h.val % 4 * 64 + d.val) → c = Cert.BandRow.kc (hd h) d := fun c e => by
    refine Fin.ext (e.trans ?_)
    unfold Cert.BandRow.kc
    simp only
    split_ifs <;> omega
  pointwise [val_main_v108, val_main_v107, val_main_v106, val_main_v105, val_main_v104, val_main_cst_13, val_main_v76, val_main_v75, val_main_v74, val_main_v70, val_main_v1]
  split
  · rename_i hx
    split
    · rfl
    · exact congrArg x0 (congrArg₂ ix2 (Fin.ext (by show (n.val - 1) * 128 + x.val = (n.val - 1) * 128 + x.val % 128; omega)) (hc _ (by (try simp only) <;> omega)))
  · exact congrArg x0 (congrArg₂ ix2 rfl (hc _ (by (try simp only) <;> omega)))
theorem k_cur : val_main_v108 (F := Ideal) x0 (ix4 n ⟨128 + j.val, Cert.BandRow.hi_lt j⟩ h d) = P x0 (Cert.BandRow.rw' n j) (Cert.BandRow.kc (hd h) d) := by
  rw [k_raw, if_neg (by simp only; omega)]
  exact congrArg₂ (P x0) (Fin.ext (by show n.val * 128 + (128 + j.val - 128) = n.val * 128 + j.val; omega)) rfl
theorem k_prev (hn : ¬ n.val < 1) : val_main_v108 (F := Ideal) x0 (ix4 n ⟨j.val, Cert.BandRow.lo_lt j⟩ h d) = P x0 (Cert.BandRow.pw n j) (Cert.BandRow.kc (hd h) d) := by
  rw [k_raw, if_pos (by simp only; omega), if_neg hn]
  exact congrArg₂ (P x0) (Fin.ext (by show (n.val - 1) * 128 + j.val % 128 = (n.val - 1) * 128 + j.val; omega)) rfl

theorem v_raw : val_main_v113 (F := Ideal) x0 (ix4 n x h d) = if x.val < 128 then (if n.val < 1 then 0 else P x0 ⟨(n.val - 1) * 128 + x.val % 128, by omega⟩ (Cert.BandRow.vc (hd h) d))
    else P x0 ⟨n.val * 128 + (x.val - 128), by omega⟩ (Cert.BandRow.vc (hd h) d) := by
  have hc : ∀ (c : Fin 3072) , c.val = 768 + (h.val / 4 * 768 + 512 + h.val % 4 * 64 + d.val) → c = Cert.BandRow.vc (hd h) d := fun c e => by
    refine Fin.ext (e.trans ?_)
    unfold Cert.BandRow.vc
    simp only
    split_ifs <;> omega
  pointwise [val_main_v113, val_main_v112, val_main_v111, val_main_v110, val_main_v109, val_main_cst_14, val_main_v79, val_main_v78, val_main_v77, val_main_v70, val_main_v1]
  split
  · rename_i hx
    split
    · rfl
    · exact congrArg x0 (congrArg₂ ix2 (Fin.ext (by show (n.val - 1) * 128 + x.val = (n.val - 1) * 128 + x.val % 128; omega)) (hc _ (by (try simp only) <;> omega)))
  · exact congrArg x0 (congrArg₂ ix2 rfl (hc _ (by (try simp only) <;> omega)))
theorem v_cur : val_main_v113 (F := Ideal) x0 (ix4 n ⟨128 + j.val, Cert.BandRow.hi_lt j⟩ h d) = P x0 (Cert.BandRow.rw' n j) (Cert.BandRow.vc (hd h) d) := by
  rw [v_raw, if_neg (by simp only; omega)]
  exact congrArg₂ (P x0) (Fin.ext (by show n.val * 128 + (128 + j.val - 128) = n.val * 128 + j.val; omega)) rfl
theorem v_prev (hn : ¬ n.val < 1) : val_main_v113 (F := Ideal) x0 (ix4 n ⟨j.val, Cert.BandRow.lo_lt j⟩ h d) = P x0 (Cert.BandRow.pw n j) (Cert.BandRow.vc (hd h) d) := by
  rw [v_raw, if_pos (by simp only; omega), if_neg hn]
  exact congrArg₂ (P x0) (Fin.ext (by show (n.val - 1) * 128 + j.val % 128 = (n.val - 1) * 128 + j.val; omega)) rfl

theorem lg_at : val_main_v119 (F := Ideal) x0 x1 (ix4 n h i x)
    = (∑ d, val_main_v103 (F := Ideal) x0 (ix4 n i h d) * val_main_v108 (F := Ideal) x0 (ix4 n x h d)) * σ + B x1 (hd h) i x := by
  pointwise [val_main_v119, val_main_v118, val_main_v117, val_main_v116, val_main_v115, val_main_v114, val_main_cst_15, val_main_v102]
theorem bit : val_main_call1_v1 (F := Ideal) (ix4 n h i x) = BitVec.ofBool (decide (n.val % Cert.BandRow.per (hd h) = 0) && decide (x.val < 128)) := by
  rw [hd_per]
  pointwise [val_main_call1_v1, val_main_v127, val_main_v126, val_main_v125, val_main_v124, val_main_v123, val_main_v122, val_main_v121, val_main_v120, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_c_7, val_main_c_8, val_main_c_9, val_main_c_10, val_main_c_11, val_main_c_12, val_main_c_16]
  rw [(rem_bit n).1, (rem_bit n).2.1, (rem_bit n).2.2, lt_bit]
  split_ifs <;> rw [and_bit]
theorem ms_at : val_main_v128 (F := Ideal) x0 x1 (ix4 n h i x) = if (decide (n.val % Cert.BandRow.per (hd h) = 0) && decide (x.val < 128)) = true then ⊥
    else (∑ d, val_main_v103 (F := Ideal) x0 (ix4 n i h d) * val_main_v108 (F := Ideal) x0 (ix4 n x h d)) * σ + B x1 (hd h) i x := by
  rw [← lg_at, ← select_bool, ← bit n h i x, ← cBot]
  pointwise [val_main_v128, val_main_call1_v2, val_main_call1_v0, val_main_cst_17]
  rfl

theorem ms_cur : val_main_v128 (F := Ideal) x0 x1 (ix4 n h i ⟨128 + j.val, Cert.BandRow.hi_lt j⟩) = Cert.BandRow.sc (P x0) (B x1) (hd h) n i j := by
  rw [ms_at, if_neg (by simp)]
  unfold Cert.BandRow.sc
  simp only [q_at, k_cur]
theorem ms_prev : val_main_v128 (F := Ideal) x0 x1 (ix4 n h i ⟨j.val, Cert.BandRow.lo_lt j⟩) = Cert.BandRow.sp (P x0) (B x1) (hd h) n i j := by
  rw [ms_at]
  unfold Cert.BandRow.sp
  by_cases hn : n.val % Cert.BandRow.per (hd h) = 0
  · rw [if_pos (by simp [hn]), if_pos hn]
  · rw [if_neg (by simp [hn]), if_neg hn]
    have hn' : ¬ n.val < 1 := fun e => hn (by rw [show n.val = 0 by omega, Nat.zero_mod])
    simp only [q_at, k_prev _ _ _ _ _ hn']

theorem v_or : val_main_v113 (F := Ideal) x0 (ix4 n ⟨j.val, Cert.BandRow.lo_lt j⟩ h d) = P x0 (Cert.BandRow.pw n j) (Cert.BandRow.vc (hd h) d)
    ∨ Cert.BandRow.sp (P x0) (B x1) (hd h) n i j = ⊥ := by
  by_cases hn : n.val < 1
  · right
    unfold Cert.BandRow.sp
    rw [if_pos (by rw [show n.val = 0 by omega, Nat.zero_mod])]
  · exact Or.inl (v_prev _ _ _ _ _ hn)

theorem add_log (a b : FVec Ideal S128x12x128 .f32) (i : S128x12x128.Idx) : addf a (Host.log b) i = (a i : EReal) + Ideal.log (b i) := rfl
theorem max_of (a b : FVec Ideal S128x12x128 .f32) (i : S128x12x128.Idx) : maximumf a b i = max (a i : EReal) (b i) := rfl
/-- The row's largest. -/
abbrev M : EReal := Cert.BandRow.mx (Cert.BandRow.sc (P x0) (B x1) (hd h) n i) (Cert.BandRow.sp (P x0) (B x1) (hd h) n i) ⊥

theorem sk_at : Cert.BandRow.sk (S x2) (hd h) = ⊥ := by
  unfold Cert.BandRow.sk
  exact dif_neg (by simp only; omega)
theorem max0 : val_main_v129 (F := Ideal) x0 x1 (ix3 n h i) = (Finset.univ : Finset (Fin 256)).fold max (⊥ : EReal) (fun x => val_main_v128 (F := Ideal) x0 x1 (ix4 n h i x)) := by
  unfold val_main_v129
  rw [maxOf (val_main_v128 (F := Ideal) x0 x1) (val_main_cst_18 (F := Ideal)) (fun _ => cBot)]
theorem max_at : val_main_v129 (F := Ideal) x0 x1 (ix3 n h i) = M x0 x1 n h i := by
  rw [max0, ← max_eq_left (a := Finset.fold max ⊥ _ _) bot_le]
  exact Cert.BandRow.mx_run (fun x => val_main_v128 (F := Ideal) x0 x1 (ix4 n h i x)) _ _ _ (fun j => ms_cur x0 x1 n h i j) (fun j => ms_prev x0 x1 n h i j)
theorem ex_at : val_main_v133 (F := Ideal) x0 x1 (ix4 n h i x) = Ideal.exp (val_main_v128 (F := Ideal) x0 x1 (ix4 n h i x) - M x0 x1 n h i) := by
  rw [← max_at]
  pointwise [val_main_v133, val_main_v132, val_main_v131, val_main_v130]
theorem sm_at : val_main_v134 (F := Ideal) x0 x1 (ix3 n h i)
    = Cert.BandRow.sm (Cert.BandRow.sc (P x0) (B x1) (hd h) n i) (Cert.BandRow.sp (P x0) (B x1) (hd h) n i) ⊥ := by
  rw [← Cert.BandRow.sm_run (fun x => val_main_v128 (F := Ideal) x0 x1 (ix4 n h i x)) _ _ _ (fun j => ms_cur x0 x1 n h i j) (fun j => ms_prev x0 x1 n h i j), Cert.BandRow.no_sink]
  pointwise [val_main_v134, val_main_cst_19]
  simp only [ex_at]
theorem o_at : val_main_v140 (F := Ideal) x0 x1 (ix4 n i h d) = Cert.BandRow.o (P x0) (B x1) (S x2) (hd h) n i d := by
  unfold Cert.BandRow.o
  rw [sk_at, ← Cert.BandRow.out_run (fun x => val_main_v128 (F := Ideal) x0 x1 (ix4 n h i x)) (fun x => val_main_v113 (F := Ideal) x0 (ix4 n x h d)) _ _ _ _ _ (fun j => ms_cur x0 x1 n h i j) (fun j => ms_prev x0 x1 n h i j) (fun j => v_cur x0 n h j d) (fun j => v_or x0 x1 n h i j d),
    ← sm_at]
  pointwise [val_main_v140, val_main_v139, val_main_v138, val_main_v137, val_main_v136, val_main_v135]
  simp only [ex_at]
theorem l_at : val_main_v143 (F := Ideal) x0 x1 (ix3 n h i) = Cert.BandRow.l (P x0) (B x1) (S x2) (hd h) n i := by
  unfold Cert.BandRow.l Cert.BandRow.lse
  rw [sk_at, ← sm_at, show Cert.BandRow.mx _ _ _ = _ from (max_at x0 x1 n h i).symm]
  unfold val_main_v143 val_main_v142
  exact add_log _ _ _

end Cert.BandFwdTieB

end
-- ==== Proof.BandFwdClaim.lean ====
/-
  The banded attention: the kernel's two results, the outputs and the rows' log-sums, are the reference's, whatever the
  arguments.
-/
module

public import proofs.«01_k».proof.Defs
public import proofs.«01_k».proof.Proof.BandFwdValue
public import proofs.«01_k».proof.Proof.BandFwdTieA
public import proofs.«01_k».proof.Proof.BandFwdTieB

@[expose] public section

noncomputable section

namespace Cert.BandFwdClaim

open Cert.BandFwdRefIdeal Cert.BandFwdRefIdeal.Read Idealize.ShloMosaic Idealize.ShloMosaic.TcCoe Idealize.SL.Sem
open Cert.BandFwdTieA (P B S)

variable (x0 : FVec Ideal S16384x3072 .f32) (x1 : FVec Ideal S20x128x256 .f32) (x2 : FVec Ideal S8 .f32)

/-- A row's place among the blocks. -/
theorem blk_lt (r : Fin 16384) : r.val / 128 < 128 := by omega
theorem in_lt (r : Fin 16384) : r.val % 128 < 128 := by omega
theorem headA_lt (k : Fin 512) : k.val / 64 < 8 := by omega
theorem headB_lt (k : Fin 768) : k.val / 64 < 12 := by omega
theorem lane_lt (k : Nat) : k % 64 < 64 := by omega

theorem oA (r : Fin 16384) (k : Fin 512) : val_main_v65 (F := Ideal) x0 x1 x2 (ix2 r k)
    = val_main_v64 (F := Ideal) x0 x1 x2 (ix4 ⟨r.val / 128, blk_lt r⟩ ⟨r.val % 128, in_lt r⟩ ⟨k.val / 64, headA_lt k⟩ ⟨k.val % 64, lane_lt k⟩) := by
  pointwise [val_main_v65]
theorem oB (r : Fin 16384) (k : Fin 768) : val_main_v141 (F := Ideal) x0 x1 (ix2 r k)
    = val_main_v140 (F := Ideal) x0 x1 (ix4 ⟨r.val / 128, blk_lt r⟩ ⟨r.val % 128, in_lt r⟩ ⟨k.val / 64, headB_lt k⟩ ⟨k.val % 64, lane_lt k⟩) := by
  pointwise [val_main_v141]
theorem lA (r : Fin 16384) (h : Fin 8) : val_main_v69 (F := Ideal) x0 x1 x2 (ix2 r h)
    = val_main_v67 (F := Ideal) x0 x1 x2 (ix3 ⟨r.val / 128, blk_lt r⟩ h ⟨r.val % 128, in_lt r⟩) := by
  pointwise [val_main_v69, val_main_v68]
theorem lB (r : Fin 16384) (h : Fin 12) : val_main_v145 (F := Ideal) x0 x1 (ix2 r h)
    = val_main_v143 (F := Ideal) x0 x1 (ix3 ⟨r.val / 128, blk_lt r⟩ h ⟨r.val % 128, in_lt r⟩) := by
  pointwise [val_main_v145, val_main_v144]

theorem col_lt (k : Fin 1280) : k.val / 64 < 20 := by omega
theorem row_lt (c : Fin 16) (b : Fin 8) (i : Fin 128) : c.val * 1024 + b.val * 128 + i.val < 16384 := by omega
theorem pair_lt (p : Fin 10) (e : Fin 2) : p.val * 2 + e.val < 20 := by omega
theorem sup_lt (c : Fin 16) (b : Fin 8) : c.val * 8 + b.val < 128 := by omega

/-- The outputs, at an index. -/
theorem out_at (r : Fin 16384) (k : Fin 1280) : val_main_v148 (F := Ideal) x0 x1 x2 (ix2 r k)
    = Cert.BandRow.o (P x0) (B x1) (S x2) ⟨k.val / 64, col_lt k⟩ ⟨r.val / 128, blk_lt r⟩ ⟨r.val % 128, in_lt r⟩ ⟨k.val % 64, lane_lt k⟩ := by
  pointwise [val_main_v148]
  split
  · next h =>
    refine (oA x0 x1 x2 _ _).trans ((Cert.BandFwdTieA.o_at x0 x1 x2 _ _ _ _).trans ?_)
    congr 1
  · next h =>
    refine (oB x0 x1 _ _).trans ((Cert.BandFwdTieB.o_at x0 x1 x2 _ _ _ _).trans ?_)
    congr 1 <;> refine Fin.ext ?_ <;> (try simp only [Cert.BandFwdTieB.hd]) <;> omega

/-- The rows' log-sums, at an index. -/
theorem lse_at (p : Fin 10) (c : Fin 16) (b : Fin 8) (e : Fin 2) (i : Fin 128) : val_main_v149 (F := Ideal) x0 x1 x2 (ix5 p c b e i)
    = Cert.BandRow.l (P x0) (B x1) (S x2) ⟨p.val * 2 + e.val, pair_lt p e⟩ ⟨c.val * 8 + b.val, sup_lt c b⟩ i := by
  pointwise [val_main_v149, val_main_v147, val_main_v146]
  split
  · next h =>
    refine (lA x0 x1 x2 _ _).trans ((Cert.BandFwdTieA.l_at x0 x1 x2 _ _ _).trans ?_)
    congr 1 <;> refine Fin.ext ?_ <;> (try simp only [Cert.BandFwdTieA.hd]) <;> omega
  · next h =>
    refine (lB x0 x1 _ _).trans ((Cert.BandFwdTieB.l_at x0 x1 x2 _ _ _).trans ?_)
    congr 1 <;> refine Fin.ext ?_ <;> (try simp only [Cert.BandFwdTieB.hd]) <;> omega

theorem claim : Cert.algebraic_BandFwdIdeal_BandFwdRefIdeal := by
  intro m g m' g' _ ha
  refine ⟨fun c => (Cert.BandFwdIdeal.Gen.dats m 0 c).arrAt 7 Cert.BandFwdIdeal.cfg0.N, fun c => (Cert.BandFwdIdeal.Gen.dats m 0 c).arrAt 8 Cert.BandFwdIdeal.cfg0.N, ?_, ?_⟩
  · run_from (Cert.BandFwdIdeal.Value.run_blocks m g)
  · refine (θ_run Cert.BandFwdRefIdeal.defs _ _).mono (fun r h c => ?_) (Cert.BandFwdRefIdeal.Value.run (F := Ideal) m' g')
    obtain ⟨h0, h1, hk⟩ := h c
    obtain ⟨a0, a1, a2⟩ := ha c
    refine ⟨h0.trans ?_, h1.trans ?_, hk⟩
    all_goals beta_reduce
    · refine (Cert.BandFwdRefIdeal.Read.val_main_v148_eq _ _).trans ?_
      rw [Cert.BandFwdIdeal.Value.final7, a0, a1, a2]
      funext j
      idx_vars j
      exact out_at _ _ _ _ _
    · refine (Cert.BandFwdRefIdeal.Read.val_main_v149_eq _ _).trans ?_
      rw [Cert.BandFwdIdeal.Value.final8, a0, a1, a2]
      funext j
      idx_vars j
      exact lse_at _ _ _ _ _ _ _ _

end Cert.BandFwdClaim

end
-- ==== Proof.lean ====
/-
  The proof of the claims: every program's frame, every pair's idealization, and every pair's value claim.
-/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite
public import proofs.«01_k».proof.Proof.LossClaim
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Pre_finite_norm
public import proofs.«01_k».proof.Proof.NormClaim
public import proofs.«01_k».proof.Proof.Gen.MatNorm
public import proofs.«01_k».proof.Proof.Gen.MatNorm.Skeleton
public import proofs.«01_k».proof.Proof.Gen.MatNorm.Launch
public import proofs.«01_k».proof.Proof.Gen.MatNorm.Points
public import proofs.«01_k».proof.Proof.Gen.MatNorm.Frame
public import proofs.«01_k».proof.Proof.Gen.MatNormIdeal
public import proofs.«01_k».proof.Proof.Gen.MatNormIdeal.Skeleton
public import proofs.«01_k».proof.Proof.Gen.MatNormIdeal.Launch
public import proofs.«01_k».proof.Proof.Gen.MatNormIdeal.Points
public import proofs.«01_k».proof.Proof.Gen.MatNormIdeal.Frame
public import proofs.«01_k».proof.Proof.Gen.MatNormIdeal.Value
public import proofs.«01_k».proof.Proof.Gen.MatNormRefIdeal
public import proofs.«01_k».proof.Proof.Gen.MatNormRefIdeal.Run
public import proofs.«01_k».proof.Proof.Gen.MatNormRefIdeal.Read
public import proofs.«01_k».proof.Proof.Gen.Pre_finite_matnorm
public import proofs.«01_k».proof.Proof.MatNormClaim
public import proofs.«01_k».proof.Proof.Gen.Relu
public import proofs.«01_k».proof.Proof.Gen.Relu.Skeleton
public import proofs.«01_k».proof.Proof.Gen.Relu.Launch
public import proofs.«01_k».proof.Proof.Gen.Relu.Points
public import proofs.«01_k».proof.Proof.Gen.Relu.Frame
public import proofs.«01_k».proof.Proof.Gen.ReluIdeal
public import proofs.«01_k».proof.Proof.Gen.ReluIdeal.Skeleton
public import proofs.«01_k».proof.Proof.Gen.ReluIdeal.Launch
public import proofs.«01_k».proof.Proof.Gen.ReluIdeal.Points
public import proofs.«01_k».proof.Proof.Gen.ReluIdeal.Frame
public import proofs.«01_k».proof.Proof.Gen.ReluIdeal.Value
public import proofs.«01_k».proof.Proof.Gen.ReluRefIdeal
public import proofs.«01_k».proof.Proof.Gen.ReluRefIdeal.Run
public import proofs.«01_k».proof.Proof.Gen.ReluRefIdeal.Read
public import proofs.«01_k».proof.Proof.ReluClaim
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.Gen.QProjRefIdeal.Read
public import proofs.«01_k».proof.Proof.QProjClaim
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.KvProjRefIdeal.Read
public import proofs.«01_k».proof.Proof.KvProjClaim
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjIdeal.Value
public import proofs.«01_k».proof.Proof.Gen.OProjRefIdeal
public import proofs.«01_k».proof.Proof.Gen.OProjRefIdeal.Run
public import proofs.«01_k».proof.Proof.Gen.OProjRefIdeal.Read
public import proofs.«01_k».proof.Proof.OProjClaim
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Frame
public import proofs.«01_k».proof.Proof.Gen.Flash.Loops
public import proofs.«01_k».proof.Proof.Gen.FlashIdeal.Loops
public import proofs.«01_k».proof.Proof.FlashRun
public import proofs.«01_k».proof.Proof.Gen.FlashRefIdeal
public import proofs.«01_k».proof.Proof.Gen.FlashRefIdeal.Run
public import proofs.«01_k».proof.Proof.Gen.FlashRefIdeal.Read
public import proofs.«01_k».proof.Proof.Gen.Pre_finite_qkvc
public import proofs.«01_k».proof.Proof.FlashClaim
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.Fwd.Loops
public import proofs.«01_k».proof.Proof.Gen.FwdIdeal.Loops
public import proofs.«01_k».proof.Proof.FwdRun
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Pre_finite_qkv
public import proofs.«01_k».proof.Proof.FwdClaim
public import proofs.«01_k».proof.Proof.Gen.Halo
public import proofs.«01_k».proof.Proof.Gen.Halo.Skeleton
public import proofs.«01_k».proof.Proof.Gen.Halo.Launch
public import proofs.«01_k».proof.Proof.Gen.Halo.Points
public import proofs.«01_k».proof.Proof.Gen.Halo.Frame
public import proofs.«01_k».proof.Proof.Gen.HaloIdeal
public import proofs.«01_k».proof.Proof.Gen.HaloIdeal.Skeleton
public import proofs.«01_k».proof.Proof.Gen.HaloIdeal.Launch
public import proofs.«01_k».proof.Proof.Gen.HaloIdeal.Points
public import proofs.«01_k».proof.Proof.Gen.HaloIdeal.Frame
public import proofs.«01_k».proof.Proof.Gen.HaloIdeal.Value
public import proofs.«01_k».proof.Proof.Gen.HaloRefIdeal
public import proofs.«01_k».proof.Proof.Gen.HaloRefIdeal.Run
public import proofs.«01_k».proof.Proof.Gen.HaloRefIdeal.Read
public import proofs.«01_k».proof.Proof.HaloClaim
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.RmsFwdClaim
public import proofs.«01_k».proof.Proof.Gen.QFwd
public import proofs.«01_k».proof.Proof.Gen.QFwd.Skeleton
public import proofs.«01_k».proof.Proof.Gen.QFwd.Launch
public import proofs.«01_k».proof.Proof.Gen.QFwd.Points
public import proofs.«01_k».proof.Proof.Gen.QFwd.Frame
public import proofs.«01_k».proof.Proof.Gen.QFwdIdeal
public import proofs.«01_k».proof.Proof.Gen.QFwdIdeal.Skeleton
public import proofs.«01_k».proof.Proof.Gen.QFwdIdeal.Launch
public import proofs.«01_k».proof.Proof.Gen.QFwdIdeal.Points
public import proofs.«01_k».proof.Proof.Gen.QFwdIdeal.Frame
public import proofs.«01_k».proof.Proof.Gen.QFwdIdeal.Value
public import proofs.«01_k».proof.Proof.Gen.QFwdRefIdeal
public import proofs.«01_k».proof.Proof.Gen.QFwdRefIdeal.Run
public import proofs.«01_k».proof.Proof.Gen.QFwdRefIdeal.Read
public import proofs.«01_k».proof.Proof.QFwdClaim
public import proofs.«01_k».proof.Proof.Gen.KvFwd
public import proofs.«01_k».proof.Proof.Gen.KvFwd.Skeleton
public import proofs.«01_k».proof.Proof.Gen.KvFwd.Launch
public import proofs.«01_k».proof.Proof.Gen.KvFwd.Points
public import proofs.«01_k».proof.Proof.Gen.KvFwd.Frame
public import proofs.«01_k».proof.Proof.Gen.KvFwdIdeal
public import proofs.«01_k».proof.Proof.Gen.KvFwdIdeal.Skeleton
public import proofs.«01_k».proof.Proof.Gen.KvFwdIdeal.Launch
public import proofs.«01_k».proof.Proof.Gen.KvFwdIdeal.Points
public import proofs.«01_k».proof.Proof.Gen.KvFwdIdeal.Frame
public import proofs.«01_k».proof.Proof.Gen.KvFwdIdeal.Value
public import proofs.«01_k».proof.Proof.Gen.KvFwdRefIdeal
public import proofs.«01_k».proof.Proof.Gen.KvFwdRefIdeal.Run
public import proofs.«01_k».proof.Proof.Gen.KvFwdRefIdeal.Read
public import proofs.«01_k».proof.Proof.KvFwdClaim
public import proofs.«01_k».proof.Proof.Gen.ReluFwd
public import proofs.«01_k».proof.Proof.Gen.ReluFwd.Skeleton
public import proofs.«01_k».proof.Proof.Gen.ReluFwd.Launch
public import proofs.«01_k».proof.Proof.Gen.ReluFwd.Points
public import proofs.«01_k».proof.Proof.Gen.ReluFwd.Frame
public import proofs.«01_k».proof.Proof.Gen.ReluFwdIdeal
public import proofs.«01_k».proof.Proof.Gen.ReluFwdIdeal.Skeleton
public import proofs.«01_k».proof.Proof.Gen.ReluFwdIdeal.Launch
public import proofs.«01_k».proof.Proof.Gen.ReluFwdIdeal.Points
public import proofs.«01_k».proof.Proof.Gen.ReluFwdIdeal.Frame
public import proofs.«01_k».proof.Proof.Gen.ReluFwdIdeal.Value
public import proofs.«01_k».proof.Proof.Gen.ReluFwdRefIdeal
public import proofs.«01_k».proof.Proof.Gen.ReluFwdRefIdeal.Run
public import proofs.«01_k».proof.Proof.Gen.ReluFwdRefIdeal.Read
public import proofs.«01_k».proof.Proof.ReluFwdClaim
public import proofs.«01_k».proof.Proof.Gen.OFwd
public import proofs.«01_k».proof.Proof.Gen.OFwd.Skeleton
public import proofs.«01_k».proof.Proof.Gen.OFwd.Launch
public import proofs.«01_k».proof.Proof.Gen.OFwd.Points
public import proofs.«01_k».proof.Proof.Gen.OFwd.Frame
public import proofs.«01_k».proof.Proof.Gen.OFwdIdeal
public import proofs.«01_k».proof.Proof.Gen.OFwdIdeal.Skeleton
public import proofs.«01_k».proof.Proof.Gen.OFwdIdeal.Launch
public import proofs.«01_k».proof.Proof.Gen.OFwdIdeal.Points
public import proofs.«01_k».proof.Proof.Gen.OFwdIdeal.Frame
public import proofs.«01_k».proof.Proof.Gen.OFwdIdeal.Value
public import proofs.«01_k».proof.Proof.Gen.OFwdRefIdeal
public import proofs.«01_k».proof.Proof.Gen.OFwdRefIdeal.Run
public import proofs.«01_k».proof.Proof.Gen.OFwdRefIdeal.Read
public import proofs.«01_k».proof.Proof.OFwdClaim
public import proofs.«01_k».proof.Proof.Gen.AddFwd
public import proofs.«01_k».proof.Proof.Gen.AddFwd.Skeleton
public import proofs.«01_k».proof.Proof.Gen.AddFwd.Launch
public import proofs.«01_k».proof.Proof.Gen.AddFwd.Points
public import proofs.«01_k».proof.Proof.Gen.AddFwd.Frame
public import proofs.«01_k».proof.Proof.Gen.AddFwdIdeal
public import proofs.«01_k».proof.Proof.Gen.AddFwdIdeal.Skeleton
public import proofs.«01_k».proof.Proof.Gen.AddFwdIdeal.Launch
public import proofs.«01_k».proof.Proof.Gen.AddFwdIdeal.Points
public import proofs.«01_k».proof.Proof.Gen.AddFwdIdeal.Frame
public import proofs.«01_k».proof.Proof.Gen.AddFwdIdeal.Value
public import proofs.«01_k».proof.Proof.Gen.AddFwdRefIdeal
public import proofs.«01_k».proof.Proof.Gen.AddFwdRefIdeal.Run
public import proofs.«01_k».proof.Proof.Gen.AddFwdRefIdeal.Read
public import proofs.«01_k».proof.Proof.AddFwdClaim
public import proofs.«01_k».proof.Proof.Gen.NormKv
public import proofs.«01_k».proof.Proof.Gen.NormKv.Skeleton
public import proofs.«01_k».proof.Proof.Gen.NormKv.Launch
public import proofs.«01_k».proof.Proof.Gen.NormKv.Points
public import proofs.«01_k».proof.Proof.Gen.NormKv.Frame
public import proofs.«01_k».proof.Proof.Gen.NormKvIdeal
public import proofs.«01_k».proof.Proof.Gen.NormKvIdeal.Skeleton
public import proofs.«01_k».proof.Proof.Gen.NormKvIdeal.Launch
public import proofs.«01_k».proof.Proof.Gen.NormKvIdeal.Points
public import proofs.«01_k».proof.Proof.Gen.NormKvIdeal.Frame
public import proofs.«01_k».proof.Proof.Gen.NormKvIdeal.Value
public import proofs.«01_k».proof.Proof.Gen.NormKvRefIdeal
public import proofs.«01_k».proof.Proof.Gen.NormKvRefIdeal.Run
public import proofs.«01_k».proof.Proof.Gen.NormKvRefIdeal.Read
public import proofs.«01_k».proof.Proof.Gen.Pre_finite_normkv
public import proofs.«01_k».proof.Proof.NormKvClaim
public import proofs.«01_k».proof.Proof.Gen.MatNormDown
public import proofs.«01_k».proof.Proof.Gen.MatNormDown.Skeleton
public import proofs.«01_k».proof.Proof.Gen.MatNormDown.Launch
public import proofs.«01_k».proof.Proof.Gen.MatNormDown.Points
public import proofs.«01_k».proof.Proof.Gen.MatNormDown.Frame
public import proofs.«01_k».proof.Proof.Gen.MatNormDownIdeal
public import proofs.«01_k».proof.Proof.Gen.MatNormDownIdeal.Skeleton
public import proofs.«01_k».proof.Proof.Gen.MatNormDownIdeal.Launch
public import proofs.«01_k».proof.Proof.Gen.MatNormDownIdeal.Points
public import proofs.«01_k».proof.Proof.Gen.MatNormDownIdeal.Frame
public import proofs.«01_k».proof.Proof.Gen.MatNormDownIdeal.Value
public import proofs.«01_k».proof.Proof.Gen.MatNormDownRefIdeal
public import proofs.«01_k».proof.Proof.Gen.MatNormDownRefIdeal.Run
public import proofs.«01_k».proof.Proof.Gen.MatNormDownRefIdeal.Read
public import proofs.«01_k».proof.Proof.Gen.Pre_finite_matnormdown
public import proofs.«01_k».proof.Proof.MatNormDownClaim
public import proofs.«01_k».proof.Proof.Gen.MatNormIn
public import proofs.«01_k».proof.Proof.Gen.MatNormIn.Skeleton
public import proofs.«01_k».proof.Proof.Gen.MatNormIn.Launch
public import proofs.«01_k».proof.Proof.Gen.MatNormIn.Points
public import proofs.«01_k».proof.Proof.Gen.MatNormIn.Frame
public import proofs.«01_k».proof.Proof.Gen.MatNormInIdeal
public import proofs.«01_k».proof.Proof.Gen.MatNormInIdeal.Skeleton
public import proofs.«01_k».proof.Proof.Gen.MatNormInIdeal.Launch
public import proofs.«01_k».proof.Proof.Gen.MatNormInIdeal.Points
public import proofs.«01_k».proof.Proof.Gen.MatNormInIdeal.Frame
public import proofs.«01_k».proof.Proof.Gen.MatNormInIdeal.Value
public import proofs.«01_k».proof.Proof.Gen.MatNormInRefIdeal
public import proofs.«01_k».proof.Proof.Gen.MatNormInRefIdeal.Run
public import proofs.«01_k».proof.Proof.Gen.MatNormInRefIdeal.Read
public import proofs.«01_k».proof.Proof.Gen.Pre_finite_matnormin
public import proofs.«01_k».proof.Proof.MatNormInClaim
public import proofs.«01_k».proof.Proof.Gen.BandFwd
public import proofs.«01_k».proof.Proof.Gen.BandFwd.Skeleton
public import proofs.«01_k».proof.Proof.Gen.BandFwd.Launch
public import proofs.«01_k».proof.Proof.Gen.BandFwd.Points
public import proofs.«01_k».proof.Proof.Gen.BandFwd.Frame
public import proofs.«01_k».proof.Proof.Gen.BandFwdIdeal
public import proofs.«01_k».proof.Proof.Gen.BandFwdIdeal.Skeleton
public import proofs.«01_k».proof.Proof.Gen.BandFwdIdeal.Launch
public import proofs.«01_k».proof.Proof.Gen.BandFwdIdeal.Points
public import proofs.«01_k».proof.Proof.Gen.BandFwdIdeal.Frame
public import proofs.«01_k».proof.Proof.Gen.BandFwdIdeal.Value
public import proofs.«01_k».proof.Proof.Gen.BandFwdRefIdeal
public import proofs.«01_k».proof.Proof.Gen.BandFwdRefIdeal.Run
public import proofs.«01_k».proof.Proof.Gen.BandFwdRefIdeal.Read
public import proofs.«01_k».proof.Proof.BandFwdClaim

@[expose] public section

noncomputable section

namespace Cert.Proof

open Idealize.ShloMosaic Idealize.ShloMosaic.TcCoe Idealize.SL.Sem

/-- The reference of `Loss` runs, keeps its arguments, and leaves every counter at zero: it has none. -/
theorem refLoss : Cert.quiescent_LossRefIdeal := fun m ρ _ =>
  (θ_run Cert.LossRefIdeal.defs _ _).mono (fun r h => ⟨fun c => (h c).2.2.2, Idealize.ShloMosaic.sem_eq_zero_of_no_sems (by decide) r.2⟩)
    (Cert.LossRefIdeal.Value.run (F := Ideal) m ρ)

/-- The reference of `Norm` runs, keeps its arguments, and leaves every counter at zero: it has none. -/
theorem refNorm : Cert.quiescent_NormRefIdeal := fun m ρ _ =>
  (θ_run Cert.NormRefIdeal.defs _ _).mono (fun r h => ⟨fun c => (h c).2.2, Idealize.ShloMosaic.sem_eq_zero_of_no_sems (by decide) r.2⟩)
    (Cert.NormRefIdeal.Value.run (F := Ideal) m ρ)

/-- The reference of `MatNorm` runs, keeps its arguments, and leaves every counter at zero: it has none. -/
theorem refMatNorm : Cert.quiescent_MatNormRefIdeal := fun m ρ _ =>
  (θ_run Cert.MatNormRefIdeal.defs _ _).mono (fun r h => ⟨fun c => (h c).2.2, Idealize.ShloMosaic.sem_eq_zero_of_no_sems (by decide) r.2⟩)
    (Cert.MatNormRefIdeal.Value.run (F := Ideal) m ρ)

/-- The reference of `Relu` runs, keeps its arguments, and leaves every counter at zero: it has none. -/
theorem refRelu : Cert.quiescent_ReluRefIdeal := fun m ρ _ =>
  (θ_run Cert.ReluRefIdeal.defs _ _).mono (fun r h => ⟨fun c => (h c).2, Idealize.ShloMosaic.sem_eq_zero_of_no_sems (by decide) r.2⟩)
    (Cert.ReluRefIdeal.Value.run (F := Ideal) m ρ)

/-- The reference of `QProj` runs, keeps its arguments, and leaves every counter at zero: it has none. -/
theorem refQProj : Cert.quiescent_QProjRefIdeal := fun m ρ _ =>
  (θ_run Cert.QProjRefIdeal.defs _ _).mono (fun r h => ⟨fun c => (h c).2.2, Idealize.ShloMosaic.sem_eq_zero_of_no_sems (by decide) r.2⟩)
    (Cert.QProjRefIdeal.Value.run (F := Ideal) m ρ)

/-- The reference of `KvProj` runs, keeps its arguments, and leaves every counter at zero: it has none. -/
theorem refKvProj : Cert.quiescent_KvProjRefIdeal := fun m ρ _ =>
  (θ_run Cert.KvProjRefIdeal.defs _ _).mono (fun r h => ⟨fun c => (h c).2.2.2.2, Idealize.ShloMosaic.sem_eq_zero_of_no_sems (by decide) r.2⟩)
    (Cert.KvProjRefIdeal.Value.run (F := Ideal) m ρ)

/-- The reference of `OProj` runs, keeps its arguments, and leaves every counter at zero: it has none. -/
theorem refOProj : Cert.quiescent_OProjRefIdeal := fun m ρ _ =>
  (θ_run Cert.OProjRefIdeal.defs _ _).mono (fun r h => ⟨fun c => (h c).2.2.2, Idealize.ShloMosaic.sem_eq_zero_of_no_sems (by decide) r.2⟩)
    (Cert.OProjRefIdeal.Value.run (F := Ideal) m ρ)

/-- The reference of `Flash` runs, keeps its arguments, and leaves every counter at zero: it has none. -/
theorem refFlash : Cert.quiescent_FlashRefIdeal := fun m ρ _ =>
  (θ_run Cert.FlashRefIdeal.defs _ _).mono (fun r h => ⟨fun c => (h c).2.2.2, Idealize.ShloMosaic.sem_eq_zero_of_no_sems (by decide) r.2⟩)
    (Cert.FlashRefIdeal.Value.run (F := Ideal) m ρ)

/-- The reference of `Fwd` runs, keeps its arguments, and leaves every counter at zero: it has none. -/
theorem refFwd : Cert.quiescent_FwdRefIdeal := fun m ρ _ =>
  (θ_run Cert.FwdRefIdeal.defs _ _).mono (fun r h => ⟨fun c => (h c).2.2, Idealize.ShloMosaic.sem_eq_zero_of_no_sems (by decide) r.2⟩)
    (Cert.FwdRefIdeal.Value.run (F := Ideal) m ρ)

/-- The reference of `Halo` runs, keeps its arguments, and leaves every counter at zero: it has none. -/
theorem refHalo : Cert.quiescent_HaloRefIdeal := fun m ρ _ =>
  (θ_run Cert.HaloRefIdeal.defs _ _).mono (fun r h => ⟨fun c => (h c).2, Idealize.ShloMosaic.sem_eq_zero_of_no_sems (by decide) r.2⟩)
    (Cert.HaloRefIdeal.Value.run (F := Ideal) m ρ)

/-- The reference of `RmsFwd` runs, keeps its arguments, and leaves every counter at zero: it has none. -/
theorem refRmsFwd : Cert.quiescent_RmsFwdRefIdeal := fun m ρ _ =>
  (θ_run Cert.RmsFwdRefIdeal.defs _ _).mono (fun r h => ⟨fun c => (h c).2, Idealize.ShloMosaic.sem_eq_zero_of_no_sems (by decide) r.2⟩)
    (Cert.RmsFwdRefIdeal.Value.run (F := Ideal) m ρ)

/-- The reference of `QFwd` runs, keeps its arguments, and leaves every counter at zero: it has none. -/
theorem refQFwd : Cert.quiescent_QFwdRefIdeal := fun m ρ _ =>
  (θ_run Cert.QFwdRefIdeal.defs _ _).mono (fun r h => ⟨fun c => (h c).2, Idealize.ShloMosaic.sem_eq_zero_of_no_sems (by decide) r.2⟩)
    (Cert.QFwdRefIdeal.Value.run (F := Ideal) m ρ)

/-- The reference of `KvFwd` runs, keeps its arguments, and leaves every counter at zero: it has none. -/
theorem refKvFwd : Cert.quiescent_KvFwdRefIdeal := fun m ρ _ =>
  (θ_run Cert.KvFwdRefIdeal.defs _ _).mono (fun r h => ⟨fun c => (h c).2.2.2.2, Idealize.ShloMosaic.sem_eq_zero_of_no_sems (by decide) r.2⟩)
    (Cert.KvFwdRefIdeal.Value.run (F := Ideal) m ρ)

/-- The reference of `ReluFwd` runs, keeps its arguments, and leaves every counter at zero: it has none. -/
theorem refReluFwd : Cert.quiescent_ReluFwdRefIdeal := fun m ρ _ =>
  (θ_run Cert.ReluFwdRefIdeal.defs _ _).mono (fun r h => ⟨fun c => (h c).2.2, Idealize.ShloMosaic.sem_eq_zero_of_no_sems (by decide) r.2⟩)
    (Cert.ReluFwdRefIdeal.Value.run (F := Ideal) m ρ)

/-- The reference of `OFwd` runs, keeps its arguments, and leaves every counter at zero: it has none. -/
theorem refOFwd : Cert.quiescent_OFwdRefIdeal := fun m ρ _ =>
  (θ_run Cert.OFwdRefIdeal.defs _ _).mono (fun r h => ⟨fun c => (h c).2, Idealize.ShloMosaic.sem_eq_zero_of_no_sems (by decide) r.2⟩)
    (Cert.OFwdRefIdeal.Value.run (F := Ideal) m ρ)

/-- The reference of `AddFwd` runs, keeps its arguments, and leaves every counter at zero: it has none. -/
theorem refAddFwd : Cert.quiescent_AddFwdRefIdeal := fun m ρ _ =>
  (θ_run Cert.AddFwdRefIdeal.defs _ _).mono (fun r h => ⟨fun c => (h c).2, Idealize.ShloMosaic.sem_eq_zero_of_no_sems (by decide) r.2⟩)
    (Cert.AddFwdRefIdeal.Value.run (F := Ideal) m ρ)

/-- The reference of `NormKv` runs, keeps its arguments, and leaves every counter at zero: it has none. -/
theorem refNormKv : Cert.quiescent_NormKvRefIdeal := fun m ρ _ =>
  (θ_run Cert.NormKvRefIdeal.defs _ _).mono (fun r h => ⟨fun c => (h c).2.2, Idealize.ShloMosaic.sem_eq_zero_of_no_sems (by decide) r.2⟩)
    (Cert.NormKvRefIdeal.Value.run (F := Ideal) m ρ)

/-- The reference of `MatNormDown` runs, keeps its arguments, and leaves every counter at zero: it has none. -/
theorem refMatNormDown : Cert.quiescent_MatNormDownRefIdeal := fun m ρ _ =>
  (θ_run Cert.MatNormDownRefIdeal.defs _ _).mono (fun r h => ⟨fun c => (h c).2.2, Idealize.ShloMosaic.sem_eq_zero_of_no_sems (by decide) r.2⟩)
    (Cert.MatNormDownRefIdeal.Value.run (F := Ideal) m ρ)

/-- The reference of `MatNormIn` runs, keeps its arguments, and leaves every counter at zero: it has none. -/
theorem refMatNormIn : Cert.quiescent_MatNormInRefIdeal := fun m ρ _ =>
  (θ_run Cert.MatNormInRefIdeal.defs _ _).mono (fun r h => ⟨fun c => (h c).2.2, Idealize.ShloMosaic.sem_eq_zero_of_no_sems (by decide) r.2⟩)
    (Cert.MatNormInRefIdeal.Value.run (F := Ideal) m ρ)

/-- The reference of `BandFwd` runs, keeps its arguments, and leaves every counter at zero: it has none. -/
theorem refBandFwd : Cert.quiescent_BandFwdRefIdeal := fun m ρ _ =>
  (θ_run Cert.BandFwdRefIdeal.defs _ _).mono (fun r h => ⟨fun c => (h c).2.2, Idealize.ShloMosaic.sem_eq_zero_of_no_sems (by decide) r.2⟩)
    (Cert.BandFwdRefIdeal.Value.run (F := Ideal) m ρ)

theorem claim : Cert.Claim := ⟨Cert.Loss.Gen.facts, Cert.LossIdeal.Gen.facts, Cert.LossRefIdeal.Gen.facts, Cert.Norm.Gen.facts, Cert.NormIdeal.Gen.facts, Cert.NormRefIdeal.Gen.facts, Cert.MatNorm.Gen.facts, Cert.MatNormIdeal.Gen.facts, Cert.MatNormRefIdeal.Gen.facts, Cert.Relu.Gen.facts, Cert.ReluIdeal.Gen.facts, Cert.ReluRefIdeal.Gen.facts, Cert.QProj.Gen.facts, Cert.QProjIdeal.Gen.facts, Cert.QProjRefIdeal.Gen.facts, Cert.KvProj.Gen.facts, Cert.KvProjIdeal.Gen.facts, Cert.KvProjRefIdeal.Gen.facts, Cert.OProj.Gen.facts, Cert.OProjIdeal.Gen.facts, Cert.OProjRefIdeal.Gen.facts, Cert.Flash.Gen.facts, Cert.FlashIdeal.Gen.facts, Cert.FlashRefIdeal.Gen.facts, Cert.Fwd.Gen.facts, Cert.FwdIdeal.Gen.facts, Cert.FwdRefIdeal.Gen.facts, Cert.Halo.Gen.facts, Cert.HaloIdeal.Gen.facts, Cert.HaloRefIdeal.Gen.facts, Cert.Band.Gen.facts, Cert.BandIdeal.Gen.facts, Cert.RmsFwd.Gen.facts, Cert.RmsFwdIdeal.Gen.facts, Cert.RmsFwdRefIdeal.Gen.facts, Cert.QFwd.Gen.facts, Cert.QFwdIdeal.Gen.facts, Cert.QFwdRefIdeal.Gen.facts, Cert.KvFwd.Gen.facts, Cert.KvFwdIdeal.Gen.facts, Cert.KvFwdRefIdeal.Gen.facts, Cert.ReluFwd.Gen.facts, Cert.ReluFwdIdeal.Gen.facts, Cert.ReluFwdRefIdeal.Gen.facts, Cert.OFwd.Gen.facts, Cert.OFwdIdeal.Gen.facts, Cert.OFwdRefIdeal.Gen.facts, Cert.AddFwd.Gen.facts, Cert.AddFwdIdeal.Gen.facts, Cert.AddFwdRefIdeal.Gen.facts, Cert.NormKv.Gen.facts, Cert.NormKvIdeal.Gen.facts, Cert.NormKvRefIdeal.Gen.facts, Cert.MatNormDown.Gen.facts, Cert.MatNormDownIdeal.Gen.facts, Cert.MatNormDownRefIdeal.Gen.facts, Cert.MatNormIn.Gen.facts, Cert.MatNormInIdeal.Gen.facts, Cert.MatNormInRefIdeal.Gen.facts, Cert.BandFwd.Gen.facts, Cert.BandFwdIdeal.Gen.facts, Cert.BandFwdRefIdeal.Gen.facts, Cert.Pre_finite.Gen.facts, Cert.Pre_finite_norm.Gen.facts, Cert.Pre_finite_matnorm.Gen.facts, Cert.Pre_finite_qkvc.Gen.facts, Cert.Pre_finite_qkv.Gen.facts, Cert.Pre_finite_normkv.Gen.facts, Cert.Pre_finite_matnormdown.Gen.facts, Cert.Pre_finite_matnormin.Gen.facts,
  fun m ρ _ => Cert.Loss.Gen.frame m ρ,
  fun m ρ _ => Cert.LossIdeal.Gen.frame m ρ,
  fun m ρ _ => Cert.LossIdeal.Gen.frame m ρ,
  refLoss,
  fun m ρ _ => refLoss m ρ trivial,
  fun m ρ _ => Cert.Norm.Gen.frame m ρ,
  fun m ρ _ => Cert.NormIdeal.Gen.frame m ρ,
  fun m ρ _ => Cert.NormIdeal.Gen.frame m ρ,
  refNorm,
  fun m ρ _ => refNorm m ρ trivial,
  fun m ρ _ => Cert.MatNorm.Gen.frame m ρ,
  fun m ρ _ => Cert.MatNormIdeal.Gen.frame m ρ,
  fun m ρ _ => Cert.MatNormIdeal.Gen.frame m ρ,
  refMatNorm,
  fun m ρ _ => refMatNorm m ρ trivial,
  fun m ρ _ => Cert.Relu.Gen.frame m ρ,
  fun m ρ _ => Cert.ReluIdeal.Gen.frame m ρ,
  refRelu,
  fun m ρ _ => Cert.QProj.Gen.frame m ρ,
  fun m ρ _ => Cert.QProjIdeal.Gen.frame m ρ,
  refQProj,
  fun m ρ _ => Cert.KvProj.Gen.frame m ρ,
  fun m ρ _ => Cert.KvProjIdeal.Gen.frame m ρ,
  refKvProj,
  fun m ρ _ => Cert.OProj.Gen.frame m ρ,
  fun m ρ _ => Cert.OProjIdeal.Gen.frame m ρ,
  refOProj,
  fun m ρ _ => Cert.Flash.Hand.frame m ρ,
  fun m ρ _ => Cert.FlashIdeal.Hand.frame m ρ,
  fun m ρ _ => Cert.FlashIdeal.Hand.frame m ρ,
  refFlash,
  fun m ρ _ => refFlash m ρ trivial,
  fun m ρ _ => Cert.Fwd.Hand.frame m ρ,
  fun m ρ _ => Cert.FwdIdeal.Hand.frame m ρ,
  fun m ρ _ => Cert.FwdIdeal.Hand.frame m ρ,
  refFwd,
  fun m ρ _ => refFwd m ρ trivial,
  fun m ρ _ => Cert.Halo.Gen.frame m ρ,
  fun m ρ _ => Cert.HaloIdeal.Gen.frame m ρ,
  refHalo,
  fun m ρ _ => Cert.Band.Gen.frame m ρ,
  fun m ρ _ => Cert.BandIdeal.Gen.frame m ρ,
  fun m ρ _ => Cert.RmsFwd.Gen.frame m ρ,
  fun m ρ _ => Cert.RmsFwdIdeal.Gen.frame m ρ,
  refRmsFwd,
  fun m ρ _ => Cert.QFwd.Gen.frame m ρ,
  fun m ρ _ => Cert.QFwdIdeal.Gen.frame m ρ,
  refQFwd,
  fun m ρ _ => Cert.KvFwd.Gen.frame m ρ,
  fun m ρ _ => Cert.KvFwdIdeal.Gen.frame m ρ,
  refKvFwd,
  fun m ρ _ => Cert.ReluFwd.Gen.frame m ρ,
  fun m ρ _ => Cert.ReluFwdIdeal.Gen.frame m ρ,
  refReluFwd,
  fun m ρ _ => Cert.OFwd.Gen.frame m ρ,
  fun m ρ _ => Cert.OFwdIdeal.Gen.frame m ρ,
  refOFwd,
  fun m ρ _ => Cert.AddFwd.Gen.frame m ρ,
  fun m ρ _ => Cert.AddFwdIdeal.Gen.frame m ρ,
  refAddFwd,
  fun m ρ _ => Cert.NormKv.Gen.frame m ρ,
  fun m ρ _ => Cert.NormKvIdeal.Gen.frame m ρ,
  fun m ρ _ => Cert.NormKvIdeal.Gen.frame m ρ,
  refNormKv,
  fun m ρ _ => refNormKv m ρ trivial,
  fun m ρ _ => Cert.MatNormDown.Gen.frame m ρ,
  fun m ρ _ => Cert.MatNormDownIdeal.Gen.frame m ρ,
  fun m ρ _ => Cert.MatNormDownIdeal.Gen.frame m ρ,
  refMatNormDown,
  fun m ρ _ => refMatNormDown m ρ trivial,
  fun m ρ _ => Cert.MatNormIn.Gen.frame m ρ,
  fun m ρ _ => Cert.MatNormInIdeal.Gen.frame m ρ,
  fun m ρ _ => Cert.MatNormInIdeal.Gen.frame m ρ,
  refMatNormIn,
  fun m ρ _ => refMatNormIn m ρ trivial,
  fun m ρ _ => Cert.BandFwd.Gen.frame m ρ,
  fun m ρ _ => Cert.BandFwdIdeal.Gen.frame m ρ,
  refBandFwd,
  trivial,
  Cert.LossClaim.claim,
  trivial,
  Cert.NormClaim.claim,
  trivial,
  Cert.MatNormClaim.claim,
  trivial,
  Cert.ReluClaim.claim,
  trivial,
  Cert.QProjClaim.claim,
  trivial,
  Cert.KvProjClaim.claim,
  trivial,
  Cert.OProjClaim.claim,
  ⟨IdealRules.named_const.statement Cert.FlashIdeal.κ "log2e" .f32 0x3FB8AA3B#32 (((Real.log 2)⁻¹ : ℝ) : EReal) rfl,
    IdealRules.named_const.statement Cert.FlashIdeal.κ "c" .f32 0x3E16C740#32 (((3424635 / 33554432) * (Real.log 2)⁻¹ : ℝ) : EReal) rfl,
    IdealRules.named_const.statement Cert.FlashIdeal.κ "mask" .f32 0xF149F2CA#32 ⊥ rfl⟩,
  Cert.FlashClaim.claim,
  ⟨IdealRules.named_const.statement Cert.FwdIdeal.κ "mask" .f32 0xF149F2CA#32 ⊥ rfl,
    IdealRules.named_const.statement Cert.FwdIdeal.κ "c" .f32 0x3E16C740#32 (((3424635 / 33554432) * (Real.log 2)⁻¹ : ℝ) : EReal) rfl⟩,
  Cert.FwdClaim.claim,
  trivial,
  Cert.HaloClaim.claim,
  IdealRules.named_const.statement Cert.BandIdeal.κ "mask" .f32 0xF149F2CA#32 ⊥ rfl,
  trivial,
  Cert.RmsFwdClaim.claim,
  trivial,
  Cert.QFwdClaim.claim,
  trivial,
  Cert.KvFwdClaim.claim,
  trivial,
  Cert.ReluFwdClaim.claim,
  trivial,
  Cert.OFwdClaim.claim,
  trivial,
  Cert.AddFwdClaim.claim,
  trivial,
  Cert.NormKvClaim.claim,
  trivial,
  Cert.MatNormDownClaim.claim,
  trivial,
  Cert.MatNormInClaim.claim,
  IdealRules.named_const.statement Cert.BandFwdIdeal.κ "mask" .f32 0xF149F2CA#32 ⊥ rfl,
  Cert.BandFwdClaim.claim⟩

end Cert.Proof

end
